-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def Pre_Diff (m : (ℓ : Loc Cert.Diff.nD Cert.Diff.τ Cert.Diff.sig) → Buf (Elt Bits) ℓ) : Prop :=
  True

def Pre_DiffIdeal (m : (ℓ : Loc Cert.DiffIdeal.nD Cert.DiffIdeal.τ Cert.DiffIdeal.sig) → Buf (Elt Ideal) ℓ) : Prop :=
  True

def Pre_DiffIdeal_finite_diff [hPre_finite_diff : Cert.Pre_finite_diff.Facts] (m : (ℓ : Loc Cert.DiffIdeal.nD Cert.DiffIdeal.τ Cert.DiffIdeal.sig) → Buf (Elt Ideal) ℓ) : Prop :=
  ∀ c : Dev Cert.DiffIdeal.nD,
    (Cert.Pre_finite_diff.fn (F := Ideal) (m ((c.tc : Thread Cert.DiffIdeal.nD Cert.DiffIdeal.τ).loc Cert.DiffIdeal.main_arg0)) (m ((c.tc : Thread Cert.DiffIdeal.nD Cert.DiffIdeal.τ).loc Cert.DiffIdeal.main_arg1)) (m ((c.tc : Thread Cert.DiffIdeal.nD Cert.DiffIdeal.τ).loc Cert.DiffIdeal.main_arg2)) (m ((c.tc : Thread Cert.DiffIdeal.nD Cert.DiffIdeal.τ).loc Cert.DiffIdeal.main_arg3))) = (fun _ => 1#1)

def Pre_DiffReferenceIdeal (m : (ℓ : Loc Cert.DiffReferenceIdeal.nD Cert.DiffReferenceIdeal.τ Cert.DiffReferenceIdeal.sig) → Buf (Elt Ideal) ℓ) : Prop :=
  True

def Pre_DiffReferenceIdeal_finite_diff [hPre_finite_diff : Cert.Pre_finite_diff.Facts] (m : (ℓ : Loc Cert.DiffReferenceIdeal.nD Cert.DiffReferenceIdeal.τ Cert.DiffReferenceIdeal.sig) → Buf (Elt Ideal) ℓ) : Prop :=
  ∀ c : Dev Cert.DiffReferenceIdeal.nD,
    (Cert.Pre_finite_diff.fn (F := Ideal) (m ((c.tc : Thread Cert.DiffReferenceIdeal.nD Cert.DiffReferenceIdeal.τ).loc Cert.DiffReferenceIdeal.main_arg0)) (m ((c.tc : Thread Cert.DiffReferenceIdeal.nD Cert.DiffReferenceIdeal.τ).loc Cert.DiffReferenceIdeal.main_arg1)) (m ((c.tc : Thread Cert.DiffReferenceIdeal.nD Cert.DiffReferenceIdeal.τ).loc Cert.DiffReferenceIdeal.main_arg2)) (m ((c.tc : Thread Cert.DiffReferenceIdeal.nD Cert.DiffReferenceIdeal.τ).loc Cert.DiffReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7))
      ∧ r.2.sem = fun _ => 0)

def quiescent_Diff [hDiff : Cert.Diff.Facts] : Prop :=
  ∀ (m : (ℓ : Loc Cert.Diff.nD Cert.Diff.τ Cert.Diff.sig) → Buf (Elt Bits) ℓ) (g : Dev Cert.Diff.nD → PrngReg), Pre_Diff m →
    θ_run (Cert.Diff.defs (F := Bits)) (onTc (τ := Cert.Diff.τ) (Cert.Diff.main (F := Bits))) ⟨m, fun _ => 0, g⟩ (fun r => (∀ c : Dev Cert.Diff.nD,
      r.2.mem ((c.tc : Thread Cert.Diff.nD Cert.Diff.τ).loc Cert.Diff.main_arg0) = m ((c.tc : Thread Cert.Diff.nD Cert.Diff.τ).loc Cert.Diff.main_arg0)
      ∧ r.2.mem ((c.tc : Thread Cert.Diff.nD Cert.Diff.τ).loc Cert.Diff.main_arg1) = m ((c.tc : Thread Cert.Diff.nD Cert.Diff.τ).loc Cert.Diff.main_arg1)
      ∧ r.2.mem ((c.tc : Thread Cert.Diff.nD Cert.Diff.τ).loc Cert.Diff.main_arg2) = m ((c.tc : Thread Cert.Diff.nD Cert.Diff.τ).loc Cert.Diff.main_arg2)
      ∧ r.2.mem ((c.tc : Thread Cert.Diff.nD Cert.Diff.τ).loc Cert.Diff.main_arg3) = m ((c.tc : Thread Cert.Diff.nD Cert.Diff.τ).loc Cert.Diff.main_arg3))
      ∧ r.2.sem = fun _ => 0)

def quiescent_DiffIdeal [hDiffIdeal : Cert.DiffIdeal.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3))
      ∧ r.2.sem = fun _ => 0)

def quiescent_DiffIdeal_pre_finite_diff [hDiffIdeal : Cert.DiffIdeal.Facts] [hPre_finite_diff : Cert.Pre_finite_diff.Facts] : Prop :=
  ∀ (m : (ℓ : Loc Cert.DiffIdeal.nD Cert.DiffIdeal.τ Cert.DiffIdeal.sig) → Buf (Elt Ideal) ℓ) (g : Dev Cert.DiffIdeal.nD → PrngReg), Pre_DiffIdeal_finite_diff m →
    θ_run (Cert.DiffIdeal.defs (F := Ideal)) (onTc (τ := Cert.DiffIdeal.τ) (Cert.DiffIdeal.main (F := Ideal))) ⟨m, fun _ => 0, g⟩ (fun r => (∀ c : Dev Cert.DiffIdeal.nD,
      r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
      ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
      ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
      ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3))
      ∧ r.2.sem = fun _ => 0)

def quiescent_DiffReferenceIdeal [hDiffReferenceIdeal : Cert.DiffReferenceIdeal.Facts] : Prop :=
  ∀ (m : (ℓ : Loc Cert.DiffReferenceIdeal.nD Cert.DiffReferenceIdeal.τ Cert.DiffReferenceIdeal.sig) → Buf (Elt Ideal) ℓ) (g : Dev Cert.DiffReferenceIdeal.nD → PrngReg), Pre_DiffReferenceIdeal m →
    θ_run (Cert.DiffReferenceIdeal.defs (F := Ideal)) (onTc (τ := Cert.DiffReferenceIdeal.τ) (Cert.DiffReferenceIdeal.main (F := Ideal))) ⟨m, fun _ => 0, g⟩ (fun r => (∀ c : Dev Cert.DiffReferenceIdeal.nD,
      r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2)
      ∧ r.2.mem ((c.tc : Thread Cert.DiffReferenceIdeal.nD Cert.DiffReferenceIdeal.τ).loc Cert.DiffReferenceIdeal.main_arg3) = m ((c.tc : Thread Cert.DiffReferenceIdeal.nD Cert.DiffReferenceIdeal.τ).loc Cert.DiffReferenceIdeal.main_arg3))
      ∧ r.2.sem = fun _ => 0)

def quiescent_DiffReferenceIdeal_pre_finite_diff [hDiffReferenceIdeal : Cert.DiffReferenceIdeal.Facts] [hPre_finite_diff : Cert.Pre_finite_diff.Facts] : Prop :=
  ∀ (m : (ℓ : Loc Cert.DiffReferenceIdeal.nD Cert.DiffReferenceIdeal.τ Cert.DiffReferenceIdeal.sig) → Buf (Elt Ideal) ℓ) (g : Dev Cert.DiffReferenceIdeal.nD → PrngReg), Pre_DiffReferenceIdeal_finite_diff m →
    θ_run (Cert.DiffReferenceIdeal.defs (F := Ideal)) (onTc (τ := Cert.DiffReferenceIdeal.τ) (Cert.DiffReferenceIdeal.main (F := Ideal))) ⟨m, fun _ => 0, g⟩ (fun r => (∀ c : Dev Cert.DiffReferenceIdeal.nD,
      r.2.mem ((c.tc : Thread Cert.DiffReferenceIdeal.nD Cert.DiffReferenceIdeal.τ).loc Cert.DiffReferenceIdeal.main_arg0) = m ((c.tc : Thread Cert.DiffReferenceIdeal.nD Cert.DiffReferenceIdeal.τ).loc Cert.DiffReferenceIdeal.main_arg0)
      ∧ r.2.mem ((c.tc : Thread Cert.DiffReferenceIdeal.nD Cert.DiffReferenceIdeal.τ).loc Cert.DiffReferenceIdeal.main_arg1) = m ((c.tc : Thread Cert.DiffReferenceIdeal.nD Cert.DiffReferenceIdeal.τ).loc Cert.DiffReferenceIdeal.main_arg1)
      ∧ r.2.mem ((c.tc : Thread Cert.DiffReferenceIdeal.nD Cert.DiffReferenceIdeal.τ).loc Cert.DiffReferenceIdeal.main_arg2) = m ((c.tc : Thread Cert.DiffReferenceIdeal.nD Cert.DiffReferenceIdeal.τ).loc Cert.DiffReferenceIdeal.main_arg2)
      ∧ r.2.mem ((c.tc : Thread Cert.DiffReferenceIdeal.nD Cert.DiffReferenceIdeal.τ).loc Cert.DiffReferenceIdeal.main_arg3) = m ((c.tc : Thread Cert.DiffReferenceIdeal.nD Cert.DiffReferenceIdeal.τ).loc Cert.DiffReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Post_PostIdeal : Prop :=
  True

def algebraic_PostIdeal_PostReferenceIdeal [hPostIdeal : Cert.PostIdeal.Facts] [hPostReferenceIdeal : Cert.PostReferenceIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostIdeal m →
    (∀ c : Dev Cert.PostIdeal.nD,
      m' ((c.tc : Thread Cert.PostReferenceIdeal.nD Cert.PostReferenceIdeal.τ).loc Cert.PostReferenceIdeal.main_arg0) = m ((c.tc : Thread Cert.PostIdeal.nD Cert.PostIdeal.τ).loc Cert.PostIdeal.main_arg0)
      ∧ m' ((c.tc : Thread Cert.PostReferenceIdeal.nD Cert.PostReferenceIdeal.τ).loc Cert.PostReferenceIdeal.main_arg1) = m ((c.tc : Thread Cert.PostIdeal.nD Cert.PostIdeal.τ).loc Cert.PostIdeal.main_arg1)
      ∧ m' ((c.tc : Thread Cert.PostReferenceIdeal.nD Cert.PostReferenceIdeal.τ).loc Cert.PostReferenceIdeal.main_arg2) = m ((c.tc : Thread Cert.PostIdeal.nD Cert.PostIdeal.τ).loc Cert.PostIdeal.main_arg2)
      ∧ m' ((c.tc : Thread Cert.PostReferenceIdeal.nD Cert.PostReferenceIdeal.τ).loc Cert.PostReferenceIdeal.main_arg3) = m ((c.tc : Thread Cert.PostIdeal.nD Cert.PostIdeal.τ).loc Cert.PostIdeal.main_arg3)
      ∧ m' ((c.tc : Thread Cert.PostReferenceIdeal.nD Cert.PostReferenceIdeal.τ).loc Cert.PostReferenceIdeal.main_arg4) = m ((c.tc : Thread Cert.PostIdeal.nD Cert.PostIdeal.τ).loc Cert.PostIdeal.main_arg4)
      ∧ m' ((c.tc : Thread Cert.PostReferenceIdeal.nD Cert.PostReferenceIdeal.τ).loc Cert.PostReferenceIdeal.main_arg5) = m ((c.tc : Thread Cert.PostIdeal.nD Cert.PostIdeal.τ).loc Cert.PostIdeal.main_arg5)
      ∧ m' ((c.tc : Thread Cert.PostReferenceIdeal.nD Cert.PostReferenceIdeal.τ).loc Cert.PostReferenceIdeal.main_arg6) = m ((c.tc : Thread Cert.PostIdeal.nD Cert.PostIdeal.τ).loc Cert.PostIdeal.main_arg6)
      ∧ m' ((c.tc : Thread Cert.PostReferenceIdeal.nD Cert.PostReferenceIdeal.τ).loc Cert.PostReferenceIdeal.main_arg7) = m ((c.tc : Thread Cert.PostIdeal.nD Cert.PostIdeal.τ).loc Cert.PostIdeal.main_arg7)) →
    ∃ (v0 : (c : Dev Cert.PostIdeal.nD) → Buf (Elt Ideal) ((c.tc : Thread Cert.PostIdeal.nD Cert.PostIdeal.τ).loc Cert.PostIdeal.main_v7)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v7) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v47) = v0 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7))

def preserves_Diff_DiffIdeal : Prop :=
  True

def algebraic_DiffIdeal_DiffReferenceIdeal_pre_finite_diff [hDiffIdeal : Cert.DiffIdeal.Facts] [hDiffReferenceIdeal : Cert.DiffReferenceIdeal.Facts] [hPre_finite_diff : Cert.Pre_finite_diff.Facts] : Prop :=
  ∀ (m : (ℓ : Loc Cert.DiffIdeal.nD Cert.DiffIdeal.τ Cert.DiffIdeal.sig) → Buf (Elt Ideal) ℓ) (g : Dev Cert.DiffIdeal.nD → PrngReg)
    (m' : (ℓ : Loc Cert.DiffReferenceIdeal.nD Cert.DiffReferenceIdeal.τ Cert.DiffReferenceIdeal.sig) → Buf (Elt Ideal) ℓ) (g' : Dev Cert.DiffReferenceIdeal.nD → PrngReg), Pre_DiffIdeal_finite_diff m →
    (∀ c : Dev Cert.DiffIdeal.nD,
      m' ((c.tc : Thread Cert.DiffReferenceIdeal.nD Cert.DiffReferenceIdeal.τ).loc Cert.DiffReferenceIdeal.main_arg0) = m ((c.tc : Thread Cert.DiffIdeal.nD Cert.DiffIdeal.τ).loc Cert.DiffIdeal.main_arg0)
      ∧ m' ((c.tc : Thread Cert.DiffReferenceIdeal.nD Cert.DiffReferenceIdeal.τ).loc Cert.DiffReferenceIdeal.main_arg1) = m ((c.tc : Thread Cert.DiffIdeal.nD Cert.DiffIdeal.τ).loc Cert.DiffIdeal.main_arg1)
      ∧ m' ((c.tc : Thread Cert.DiffReferenceIdeal.nD Cert.DiffReferenceIdeal.τ).loc Cert.DiffReferenceIdeal.main_arg2) = m ((c.tc : Thread Cert.DiffIdeal.nD Cert.DiffIdeal.τ).loc Cert.DiffIdeal.main_arg2)
      ∧ m' ((c.tc : Thread Cert.DiffReferenceIdeal.nD Cert.DiffReferenceIdeal.τ).loc Cert.DiffReferenceIdeal.main_arg3) = m ((c.tc : Thread Cert.DiffIdeal.nD Cert.DiffIdeal.τ).loc Cert.DiffIdeal.main_arg3)) →
    ∃ (v0 : (c : Dev Cert.DiffIdeal.nD) → Buf (Elt Ideal) ((c.tc : Thread Cert.DiffIdeal.nD Cert.DiffIdeal.τ).loc Cert.DiffIdeal.main_v22)),
      θ_run (Cert.DiffIdeal.defs (F := Ideal)) (onTc (τ := Cert.DiffIdeal.τ) (Cert.DiffIdeal.main (F := Ideal))) ⟨m, fun _ => 0, g⟩ (fun r => ∀ c : Dev Cert.DiffIdeal.nD,
          r.2.mem ((c.tc : Thread Cert.DiffIdeal.nD Cert.DiffIdeal.τ).loc Cert.DiffIdeal.main_v22) = v0 c
          ∧ r.2.mem ((c.tc : Thread Cert.DiffIdeal.nD Cert.DiffIdeal.τ).loc Cert.DiffIdeal.main_arg0) = m ((c.tc : Thread Cert.DiffIdeal.nD Cert.DiffIdeal.τ).loc Cert.DiffIdeal.main_arg0)
          ∧ r.2.mem ((c.tc : Thread Cert.DiffIdeal.nD Cert.DiffIdeal.τ).loc Cert.DiffIdeal.main_arg1) = m ((c.tc : Thread Cert.DiffIdeal.nD Cert.DiffIdeal.τ).loc Cert.DiffIdeal.main_arg1)
          ∧ r.2.mem ((c.tc : Thread Cert.DiffIdeal.nD Cert.DiffIdeal.τ).loc Cert.DiffIdeal.main_arg2) = m ((c.tc : Thread Cert.DiffIdeal.nD Cert.DiffIdeal.τ).loc Cert.DiffIdeal.main_arg2)
          ∧ r.2.mem ((c.tc : Thread Cert.DiffIdeal.nD Cert.DiffIdeal.τ).loc Cert.DiffIdeal.main_arg3) = m ((c.tc : Thread Cert.DiffIdeal.nD Cert.DiffIdeal.τ).loc Cert.DiffIdeal.main_arg3))
      ∧ θ_run (Cert.DiffReferenceIdeal.defs (F := Ideal)) (onTc (τ := Cert.DiffReferenceIdeal.τ) (Cert.DiffReferenceIdeal.main (F := Ideal))) ⟨m', fun _ => 0, g'⟩ (fun r => ∀ c : Dev Cert.DiffReferenceIdeal.nD,
          r.2.mem ((c.tc : Thread Cert.DiffReferenceIdeal.nD Cert.DiffReferenceIdeal.τ).loc Cert.DiffReferenceIdeal.main_v52) = v0 c
          ∧ r.2.mem ((c.tc : Thread Cert.DiffReferenceIdeal.nD Cert.DiffReferenceIdeal.τ).loc Cert.DiffReferenceIdeal.main_arg0) = m' ((c.tc : Thread Cert.DiffReferenceIdeal.nD Cert.DiffReferenceIdeal.τ).loc Cert.DiffReferenceIdeal.main_arg0)
          ∧ r.2.mem ((c.tc : Thread Cert.DiffReferenceIdeal.nD Cert.DiffReferenceIdeal.τ).loc Cert.DiffReferenceIdeal.main_arg1) = m' ((c.tc : Thread Cert.DiffReferenceIdeal.nD Cert.DiffReferenceIdeal.τ).loc Cert.DiffReferenceIdeal.main_arg1)
          ∧ r.2.mem ((c.tc : Thread Cert.DiffReferenceIdeal.nD Cert.DiffReferenceIdeal.τ).loc Cert.DiffReferenceIdeal.main_arg2) = m' ((c.tc : Thread Cert.DiffReferenceIdeal.nD Cert.DiffReferenceIdeal.τ).loc Cert.DiffReferenceIdeal.main_arg2)
          ∧ r.2.mem ((c.tc : Thread Cert.DiffReferenceIdeal.nD Cert.DiffReferenceIdeal.τ).loc Cert.DiffReferenceIdeal.main_arg3) = m' ((c.tc : Thread Cert.DiffReferenceIdeal.nD Cert.DiffReferenceIdeal.τ).loc Cert.DiffReferenceIdeal.main_arg3))

def Claim : Prop :=
  ∃ (hKernel : Cert.Kernel.Facts) (hKernelIdeal : Cert.KernelIdeal.Facts) (hReferenceIdeal : Cert.ReferenceIdeal.Facts) (hPost : Cert.Post.Facts) (hPostIdeal : Cert.PostIdeal.Facts) (hPostReferenceIdeal : Cert.PostReferenceIdeal.Facts) (hDiff : Cert.Diff.Facts) (hDiffIdeal : Cert.DiffIdeal.Facts) (hDiffReferenceIdeal : Cert.DiffReferenceIdeal.Facts) (hPre_finite : Cert.Pre_finite.Facts) (hPre_finite_diff : Cert.Pre_finite_diff.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Post (hPost := hPost)
    ∧ quiescent_PostIdeal (hPostIdeal := hPostIdeal)
    ∧ quiescent_PostReferenceIdeal (hPostReferenceIdeal := hPostReferenceIdeal)
    ∧ quiescent_Diff (hDiff := hDiff)
    ∧ quiescent_DiffIdeal (hDiffIdeal := hDiffIdeal)
    ∧ quiescent_DiffIdeal_pre_finite_diff (hDiffIdeal := hDiffIdeal) (hPre_finite_diff := hPre_finite_diff)
    ∧ quiescent_DiffReferenceIdeal (hDiffReferenceIdeal := hDiffReferenceIdeal)
    ∧ quiescent_DiffReferenceIdeal_pre_finite_diff (hDiffReferenceIdeal := hDiffReferenceIdeal) (hPre_finite_diff := hPre_finite_diff)
    ∧ preserves_Kernel_KernelIdeal
    ∧ algebraic_KernelIdeal_ReferenceIdeal_pre_finite (hKernelIdeal := hKernelIdeal) (hReferenceIdeal := hReferenceIdeal) (hPre_finite := hPre_finite)
    ∧ preserves_Post_PostIdeal
    ∧ algebraic_PostIdeal_PostReferenceIdeal (hPostIdeal := hPostIdeal) (hPostReferenceIdeal := hPostReferenceIdeal)
    ∧ preserves_Diff_DiffIdeal
    ∧ algebraic_DiffIdeal_DiffReferenceIdeal_pre_finite_diff (hDiffIdeal := hDiffIdeal) (hDiffReferenceIdeal := hDiffReferenceIdeal) (hPre_finite_diff := hPre_finite_diff)
-- ==== Pre_finite.lean ====
abbrev S8x8192x8x64 : Shape := ⟨4, ![8, 8192, 8, 64]⟩
abbrev S8x8192x2x64 : Shape := ⟨4, ![8, 8192, 2, 64]⟩
abbrev S_ : Shape := ⟨0, ![]⟩

class Facts : Prop where
  bcast_S_S8x8192x8x64 : S_.BroadcastsInDim S8x8192x8x64 (![] : Fin 0 → Fin S8x8192x8x64.rank)
  reducesTo_S8x8192x8x64_S_d0_1_2_3 : S8x8192x8x64.ReducesTo [0, 1, 2, 3] S_
  h_S_ : 0 < S_.numel
  bcast_S_S8x8192x2x64 : S_.BroadcastsInDim S8x8192x2x64 (![] : Fin 0 → Fin S8x8192x2x64.rank)
  reducesTo_S8x8192x2x64_S_d0_1_2_3 : S8x8192x2x64.ReducesTo [0, 1, 2, 3] S_

variable [Facts]

def fn {F : FTy → Type} [FloatOps F] (main_arg0 : FVec F S8x8192x8x64 .f32) (main_arg1 : FVec F S8x8192x2x64 .f32) (main_arg2 : FVec F S8x8192x2x64 .f32) : IVec S_ 1 :=
  let main_v0 : FVec F S8x8192x8x64 .f32 := Host.absf main_arg0
  let main_cst : FVec F S_ .f32 := constant S_ .f32 0x7F800000#32
  let main_v1 : FVec F S8x8192x8x64 .f32 := broadcastInDim S8x8192x8x64 ![] bcast_S_S8x8192x8x64 main_cst
  let main_v2 : IVec S8x8192x8x64 1 := cmpf .olt main_v0 main_v1
  let main_c : IVec S_ 1 := constantI S_ 1 1#1
  let main_v3 : IVec S_ 1 := (fun x v => Host.reduce IntOp.andi x v reducesTo_S8x8192x8x64_S_d0_1_2_3 h_S_) main_v2 main_c
  let main_v4 : FVec F S8x8192x2x64 .f32 := Host.absf main_arg1
  let main_cst_0 : FVec F S_ .f32 := constant S_ .f32 0x7F800000#32
  let main_v5 : FVec F S8x8192x2x64 .f32 := broadcastInDim S8x8192x2x64 ![] bcast_S_S8x8192x2x64 main_cst_0
  let main_v6 : IVec S8x8192x2x64 1 := cmpf .olt main_v4 main_v5
  let main_c_1 : IVec S_ 1 := constantI S_ 1 1#1
  let main_v7 : IVec S_ 1 := (fun x v => Host.reduce IntOp.andi x v reducesTo_S8x8192x2x64_S_d0_1_2_3 h_S_) main_v6 main_c_1
  let main_v8 : IVec S_ 1 := andi main_v3 main_v7
  main_v8
-- ==== Pre_finite_diff.lean ====
abbrev S8x8192x8x64 : Shape := ⟨4, ![8, 8192, 8, 64]⟩
abbrev S8x8192x4x128 : Shape := ⟨4, ![8, 8192, 4, 128]⟩
abbrev S4x64 : Shape := ⟨2, ![4, 64]⟩
abbrev S_ : Shape := ⟨0, ![]⟩

class Facts : Prop where
  bcast_S_S8x8192x8x64 : S_.BroadcastsInDim S8x8192x8x64 (![] : Fin 0 → Fin S8x8192x8x64.rank)
  reducesTo_S8x8192x8x64_S_d0_1_2_3 : S8x8192x8x64.ReducesTo [0, 1, 2, 3] S_
  h_S_ : 0 < S_.numel
  bcast_S_S8x8192x4x128 : S_.BroadcastsInDim S8x8192x4x128 (![] : Fin 0 → Fin S8x8192x4x128.rank)
  reducesTo_S8x8192x4x128_S_d0_1_2_3 : S8x8192x4x128.ReducesTo [0, 1, 2, 3] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_v13 : IVec S_ 1) (main_v16 : IVec S4x64 1) : IVec S_ 1 :=
  let main_c_5 : IVec S_ 1 := constantI S_ 1 1#1
  let main_v17 : IVec S_ 1 := (fun x v => Host.reduce IntOp.andi x v reducesTo_S4x64_S_d0_1 h_S_) main_v16 main_c_5
  let main_v18 : IVec S_ 1 := andi main_v13 main_v17
  main_v18

def fn {F : FTy → Type} [FloatOps F] (main_arg0 : FVec F S8x8192x8x64 .f32) (main_arg1 : FVec F S8x8192x8x64 .f32) (main_arg2 : FVec F S8x8192x4x128 .f32) (main_arg3 : FVec F S4x64 .f32) : IVec S_ 1 :=
  let main_v0 : FVec F S8x8192x8x64 .f32 := Host.absf main_arg0
  let main_cst : FVec F S_ .f32 := constant S_ .f32 0x7F800000#32
  let main_v1 : FVec F S8x8192x8x64 .f32 := broadcastInDim S8x8192x8x64 ![] bcast_S_S8x8192x8x64 main_cst
  let main_v2 : IVec S8x8192x8x64 1 := cmpf .olt main_v0 main_v1
  let main_c : IVec S_ 1 := constantI S_ 1 1#1
  let main_v3 : IVec S_ 1 := (fun x v => Host.reduce IntOp.andi x v reducesTo_S8x8192x8x64_S_d0_1_2_3 h_S_) main_v2 main_c
  let main_v4 : FVec F S8x8192x8x64 .f32 := Host.absf main_arg1
  let main_cst_0 : FVec F S_ .f32 := constant S_ .f32 0x7F800000#32
  let main_v5 : FVec F S8x8192x8x64 .f32 := broadcastInDim S8x8192x8x64 ![] bcast_S_S8x8192x8x64 main_cst_0
  let main_v6 : IVec S8x8192x8x64 1 := cmpf .olt main_v4 main_v5
  let main_c_1 : IVec S_ 1 := constantI S_ 1 1#1
  let main_v7 : IVec S_ 1 := (fun x v => Host.reduce IntOp.andi x v reducesTo_S8x8192x8x64_S_d0_1_2_3 h_S_) main_v6 main_c_1
  let main_v8 : IVec S_ 1 := andi main_v3 main_v7
  let main_v9 : FVec F S8x8192x4x128 .f32 := Host.absf main_arg2
  let main_cst_2 : FVec F S_ .f32 := constant S_ .f32 0x7F800000#32
  let main_v10 : FVec F S8x8192x4x128 .f32 := broadcastInDim S8x8192x4x128 ![] bcast_S_S8x8192x4x128 main_cst_2
  let main_v11 : IVec S8x8192x4x128 1 := cmpf .olt main_v9 main_v10
  let main_c_3 : IVec S_ 1 := constantI S_ 1 1#1
  let main_v12 : IVec S_ 1 := (fun x v => Host.reduce IntOp.andi x v reducesTo_S8x8192x4x128_S_d0_1_2_3 h_S_) main_v11 main_c_3
  let main_v13 : IVec S_ 1 := andi main_v8 main_v12
  let main_v14 : FVec F S4x64 .f32 := Host.absf main_arg3
  let main_cst_4 : FVec F S_ .f32 := constant S_ .f32 0x7F800000#32
  let main_v15 : FVec F S4x64 .f32 := broadcastInDim S4x64 ![] bcast_S_S4x64 main_cst_4
  let main_v16 : IVec S4x64 1 := cmpf .olt main_v14 main_v15
  fn_part1 (F := F) main_v13 main_v16
-- ==== Kernel.lean ====
abbrev S8x8192x8x64 : Shape := ⟨4, ![8, 8192, 8, 64]⟩
abbrev S8x8192x2x64 : Shape := ⟨4, ![8, 8192, 2, 64]⟩
abbrev S_ : Shape := ⟨0, ![]⟩
abbrev S65536x512 : Shape := ⟨2, ![65536, 512]⟩
abbrev S512x65536 : Shape := ⟨2, ![512, 65536]⟩
abbrev S65536x2x64 : Shape := ⟨3, ![65536, 2, 64]⟩
abbrev S65536x2x1 : Shape := ⟨3, ![65536, 2, 1]⟩
abbrev S65536x2x63 : Shape := ⟨3, ![65536, 2, 63]⟩
abbrev S65536x2x128 : Shape := ⟨3, ![65536, 2, 128]⟩
abbrev S65536x256 : Shape := ⟨2, ![65536, 256]⟩
abbrev S2x64x65536 : Shape := ⟨3, ![2, 64, 65536]⟩
abbrev S2x1x65536 : Shape := ⟨3, ![2, 1, 65536]⟩
abbrev S2x15x65536 : Shape := ⟨3, ![2, 15, 65536]⟩
abbrev S2x80x65536 : Shape := ⟨3, ![2, 80, 65536]⟩
abbrev S160x65536 : Shape := ⟨2, ![160, 65536]⟩
abbrev S256x512 : Shape := ⟨2, ![256, 512]⟩
abbrev S8192x128 : Shape := ⟨2, ![8192, 128]⟩
abbrev S80x8192 : Shape := ⟨2, ![80, 8192]⟩
abbrev S512x256 : Shape := ⟨2, ![512, 256]⟩
abbrev S128x2048 : Shape := ⟨2, ![128, 2048]⟩
abbrev S256x2048 : Shape := ⟨2, ![256, 2048]⟩
abbrev S80x2048 : Shape := ⟨2, ![80, 2048]⟩
abbrev S64x512 : Shape := ⟨2, ![64, 512]⟩
abbrev S48x2048 : Shape := ⟨2, ![48, 2048]⟩
abbrev S16x2048 : Shape := ⟨2, ![16, 2048]⟩
abbrev S1x2048 : Shape := ⟨2, ![1, 2048]⟩
abbrev S128x128 : Shape := ⟨2, ![128, 128]⟩
abbrev S128x256 : Shape := ⟨2, ![128, 256]⟩
abbrev S256 : Shape := ⟨1, ![256]⟩
abbrev S1x256 : Shape := ⟨2, ![1, 256]⟩
abbrev S256x128 : Shape := ⟨2, ![256, 128]⟩
abbrev S256x256 : Shape := ⟨2, ![256, 256]⟩
abbrev S80x256 : Shape := ⟨2, ![80, 256]⟩
abbrev S1x1x2048 : Shape := ⟨3, ![1, 1, 2048]⟩
abbrev S1 : Shape := ⟨1, ![1]⟩
abbrev S1x1x1 : Shape := ⟨3, ![1, 1, 1]⟩
abbrev S64x2048 : Shape := ⟨2, ![64, 2048]⟩

abbrev nBuf : Space → Nat
  | .hbm => 32
  | .vmem => 12
  | .smem => 0
  | _ => 0

abbrev bufTy : (tb : Table) → Fin (tcTables nBuf tb) → BufTy
  | .hbm, ⟨0, _⟩ => ⟨S8x8192x8x64, .f32⟩
  | .hbm, ⟨1, _⟩ => ⟨S8x8192x2x64, .f32⟩
  | .hbm, ⟨2, _⟩ => ⟨S8x8192x2x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S65536x512, .f32⟩
  | .hbm, ⟨8, _⟩ => ⟨S65536x512, .f32⟩
  | .hbm, ⟨9, _⟩ => ⟨S65536x512, .f32⟩
  | .hbm, ⟨10, _⟩ => ⟨S65536x512, .bf16⟩
  | .hbm, ⟨11, _⟩ => ⟨S512x65536, .bf16⟩
  | .hbm, ⟨12, _⟩ => ⟨S8x8192x2x64, .bf16⟩
  | .hbm, ⟨13, _⟩ => ⟨S65536x2x64, .bf16⟩
  | .hbm, ⟨14, _⟩ => ⟨S_, .bf16⟩
  | .hbm, ⟨15, _⟩ => ⟨S65536x2x1, .bf16⟩
  | .hbm, ⟨16, _⟩ => ⟨S_, .bf16⟩
  | .hbm, ⟨17, _⟩ => ⟨S65536x2x63, .bf16⟩
  | .hbm, ⟨18, _⟩ => ⟨S65536x2x128, .bf16⟩
  | .hbm, ⟨19, _⟩ => ⟨S65536x256, .bf16⟩
  | .hbm, ⟨20, _⟩ => ⟨S8x8192x2x64, .bf16⟩
  | .hbm, ⟨21, _⟩ => ⟨S65536x2x64, .bf16⟩
  | .hbm, ⟨22, _⟩ => ⟨S2x64x65536, .bf16⟩
  | .hbm, ⟨23, _⟩ => ⟨S_, .bf16⟩
  | .hbm, ⟨24, _⟩ => ⟨S2x1x65536, .bf16⟩
  | .hbm, ⟨25, _⟩ => ⟨S_, .bf16⟩
  | .hbm, ⟨26, _⟩ => ⟨S2x15x65536, .bf16⟩
  | .hbm, ⟨27, _⟩ => ⟨S2x80x65536, .bf16⟩
  | .hbm, ⟨28, _⟩ => ⟨S160x65536, .bf16⟩
  | .hbm, ⟨29, _⟩ => ⟨S65536x512, .bf16⟩
  | .hbm, ⟨30, _⟩ => ⟨S8x8192x8x64, .bf16⟩
  | .hbm, ⟨31, _⟩ => ⟨S8x8192x8x64, .f32⟩
  | .local _ .vmem, ⟨0, _⟩ => ⟨S256x512, .bf16⟩
  | .local _ .vmem, ⟨1, _⟩ => ⟨S256x512, .bf16⟩
  | .local _ .vmem, ⟨2, _⟩ => ⟨S8192x128, .bf16⟩
  | .local _ .vmem, ⟨3, _⟩ => ⟨S8192x128, .bf16⟩
  | .local _ .vmem, ⟨4, _⟩ => ⟨S80x8192, .bf16⟩
  | .local _ .vmem, ⟨5, _⟩ => ⟨S80x8192, .bf16⟩
  | .local _ .vmem, ⟨6, _⟩ => ⟨S512x256, .bf16⟩
  | .local _ .vmem, ⟨7, _⟩ => ⟨S512x256, .bf16⟩
  | .local _ .vmem, ⟨8, _⟩ => ⟨S128x2048, .bf16⟩
  | .local _ .vmem, ⟨9, _⟩ => ⟨S256x2048, .bf16⟩
  | .local _ .vmem, ⟨10, _⟩ => ⟨S256x2048, .bf16⟩
  | .local _ .vmem, ⟨11, _⟩ => ⟨S80x2048, .f32⟩
  | _, _ => ⟨S8x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 16], ![false, false, false]⟩

def k0_mult1 : BitVec 32 :=
  let c0_i32_66 : BitVec 32 := 0#32
  c0_i32_66
def k0_mult2 : BitVec 32 :=
  let c0_i32_74 : BitVec 32 := 0#32
  c0_i32_74
def k0_mult3 : BitVec 32 :=
  let c0_i32_82 : BitVec 32 := 0#32
  c0_i32_82
def k0_mult4 : BitVec 32 :=
  let c0_i32_90 : BitVec 32 := 0#32
  c0_i32_90
def k0_mult5 : BitVec 32 :=
  let c0_i32_98 : BitVec 32 := 0#32
  c0_i32_98
def k0_mult6 : BitVec 32 :=
  let c0_i32_106 : BitVec 32 := 0#32
  c0_i32_106
def k0_mult7 : BitVec 32 :=
  let c0_i32_114 : BitVec 32 := 0#32
  c0_i32_114
def k0_mult8 : BitVec 32 :=
  let c0_i32_122 : BitVec 32 := 0#32
  c0_i32_122
@[reducible] def k0_t1_loop : Scf.Loop 32 :=
  let c0_i32_131 : BitVec 32 := 0#32
  let c3_i32 : BitVec 32 := 3#32
  let v225 : BitVec 32 := Scalar.addi c0_i32_131 c3_i32
  let c1_i32 : BitVec 32 := 1#32
  ⟨c0_i32_131, v225, c1_i32⟩
def k0_mult9 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c0_i32_1165 : BitVec 32 := 0#32
  let v1826 : BitVec 32 := Scalar.addi v1813 c0_i32_1165
  let c256_i32 : BitVec 32 := 256#32
  let v1829 : BitVec 32 := Scalar.muli v1826 c256_i32
  v1829
def k0_off1 (k0_t1 : Fin k0_t1_loop.trips) (c0_i32_1165 : BitVec 32) : Fin 2 → Nat :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let v1826 : BitVec 32 := Scalar.addi v1813 c0_i32_1165
  let c256_i32 : BitVec 32 := 256#32
  let v1829 : BitVec 32 := Scalar.muli v1826 c256_i32
  let v1830 : BitVec 32 := v1829
  let v1831 : Index := Scalar.indexCast v1830
  let c0_1168 : Index := 0#32
  ![v1831.toNat, 0]
def k0_mult10 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c0_i32_1166 : BitVec 32 := 0#32
  let v1827 : BitVec 32 := Scalar.addi v1813 c0_i32_1166
  let c1_i32_1167 : BitVec 32 := 1#32
  let v1828 : BitVec 32 := Scalar.subi v1827 c1_i32_1167
  let c256_i32_1175 : BitVec 32 := 256#32
  let v1843 : BitVec 32 := Scalar.muli v1828 c256_i32_1175
  v1843
def k0_off2 (k0_t1 : Fin k0_t1_loop.trips) (c0_i32_1166 : BitVec 32) : Fin 2 → Nat :=
  let c0_1178 : Index := 0#32
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let v1827 : BitVec 32 := Scalar.addi v1813 c0_i32_1166
  let c1_i32_1167 : BitVec 32 := 1#32
  let v1828 : BitVec 32 := Scalar.subi v1827 c1_i32_1167
  let c256_i32_1175 : BitVec 32 := 256#32
  let v1843 : BitVec 32 := Scalar.muli v1828 c256_i32_1175
  let v1844 : BitVec 32 := v1843
  let v1847 : Index := Scalar.indexCast v1844
  ![0, v1847.toNat]
def k0_mult11 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c0_i32_1165 : BitVec 32 := 0#32
  let v1826 : BitVec 32 := Scalar.addi v1813 c0_i32_1165
  let c256_i32_1184 : BitVec 32 := 256#32
  let v1856 : BitVec 32 := Scalar.muli v1826 c256_i32_1184
  v1856
def k0_mult12 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c0_i32_1166 : BitVec 32 := 0#32
  let v1827 : BitVec 32 := Scalar.addi v1813 c0_i32_1166
  let c1_i32_1167 : BitVec 32 := 1#32
  let v1828 : BitVec 32 := Scalar.subi v1827 c1_i32_1167
  let c256_i32_1192 : BitVec 32 := 256#32
  let v1870 : BitVec 32 := Scalar.muli v1828 c256_i32_1192
  v1870
def k0_mult13 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c0_i32_1165 : BitVec 32 := 0#32
  let v1826 : BitVec 32 := Scalar.addi v1813 c0_i32_1165
  let c256_i32_1201 : BitVec 32 := 256#32
  let v1883 : BitVec 32 := Scalar.muli v1826 c256_i32_1201
  v1883
def k0_mult14 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c0_i32_1166 : BitVec 32 := 0#32
  let v1827 : BitVec 32 := Scalar.addi v1813 c0_i32_1166
  let c1_i32_1167 : BitVec 32 := 1#32
  let v1828 : BitVec 32 := Scalar.subi v1827 c1_i32_1167
  let c256_i32_1209 : BitVec 32 := 256#32
  let v1897 : BitVec 32 := Scalar.muli v1828 c256_i32_1209
  v1897
def k0_mult15 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c0_i32_1165 : BitVec 32 := 0#32
  let v1826 : BitVec 32 := Scalar.addi v1813 c0_i32_1165
  let c256_i32_1218 : BitVec 32 := 256#32
  let v1910 : BitVec 32 := Scalar.muli v1826 c256_i32_1218
  v1910
def k0_mult16 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c0_i32_1166 : BitVec 32 := 0#32
  let v1827 : BitVec 32 := Scalar.addi v1813 c0_i32_1166
  let c1_i32_1167 : BitVec 32 := 1#32
  let v1828 : BitVec 32 := Scalar.subi v1827 c1_i32_1167
  let c256_i32_1226 : BitVec 32 := 256#32
  let v1924 : BitVec 32 := Scalar.muli v1828 c256_i32_1226
  v1924
def k0_mult17 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c0_i32_1165 : BitVec 32 := 0#32
  let v1826 : BitVec 32 := Scalar.addi v1813 c0_i32_1165
  let c256_i32_1235 : BitVec 32 := 256#32
  let v1937 : BitVec 32 := Scalar.muli v1826 c256_i32_1235
  v1937
def k0_mult18 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c0_i32_1166 : BitVec 32 := 0#32
  let v1827 : BitVec 32 := Scalar.addi v1813 c0_i32_1166
  let c1_i32_1167 : BitVec 32 := 1#32
  let v1828 : BitVec 32 := Scalar.subi v1827 c1_i32_1167
  let c256_i32_1243 : BitVec 32 := 256#32
  let v1951 : BitVec 32 := Scalar.muli v1828 c256_i32_1243
  v1951
def k0_mult19 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c0_i32_1165 : BitVec 32 := 0#32
  let v1826 : BitVec 32 := Scalar.addi v1813 c0_i32_1165
  let c256_i32_1252 : BitVec 32 := 256#32
  let v1964 : BitVec 32 := Scalar.muli v1826 c256_i32_1252
  v1964
def k0_mult20 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c0_i32_1166 : BitVec 32 := 0#32
  let v1827 : BitVec 32 := Scalar.addi v1813 c0_i32_1166
  let c1_i32_1167 : BitVec 32 := 1#32
  let v1828 : BitVec 32 := Scalar.subi v1827 c1_i32_1167
  let c256_i32_1260 : BitVec 32 := 256#32
  let v1978 : BitVec 32 := Scalar.muli v1828 c256_i32_1260
  v1978
def k0_mult21 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c0_i32_1165 : BitVec 32 := 0#32
  let v1826 : BitVec 32 := Scalar.addi v1813 c0_i32_1165
  let c256_i32_1269 : BitVec 32 := 256#32
  let v1991 : BitVec 32 := Scalar.muli v1826 c256_i32_1269
  v1991
def k0_mult22 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c0_i32_1166 : BitVec 32 := 0#32
  let v1827 : BitVec 32 := Scalar.addi v1813 c0_i32_1166
  let c1_i32_1167 : BitVec 32 := 1#32
  let v1828 : BitVec 32 := Scalar.subi v1827 c1_i32_1167
  let c256_i32_1277 : BitVec 32 := 256#32
  let v2005 : BitVec 32 := Scalar.muli v1828 c256_i32_1277
  v2005
def k0_mult23 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c0_i32_1165 : BitVec 32 := 0#32
  let v1826 : BitVec 32 := Scalar.addi v1813 c0_i32_1165
  let c256_i32_1286 : BitVec 32 := 256#32
  let v2018 : BitVec 32 := Scalar.muli v1826 c256_i32_1286
  v2018
def k0_mult24 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c0_i32_1166 : BitVec 32 := 0#32
  let v1827 : BitVec 32 := Scalar.addi v1813 c0_i32_1166
  let c1_i32_1167 : BitVec 32 := 1#32
  let v1828 : BitVec 32 := Scalar.subi v1827 c1_i32_1167
  let c256_i32_1294 : BitVec 32 := 256#32
  let v2032 : BitVec 32 := Scalar.muli v1828 c256_i32_1294
  v2032
def k0_mult25 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c1_i32_1303 : BitVec 32 := 1#32
  let v2051 : BitVec 32 := Scalar.addi v1813 c1_i32_1303
  let c256_i32_1306 : BitVec 32 := 256#32
  let v2054 : BitVec 32 := Scalar.muli v2051 c256_i32_1306
  v2054
def k0_mult26 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c1_i32_1304 : BitVec 32 := 1#32
  let v2052 : BitVec 32 := Scalar.addi v1813 c1_i32_1304
  let c1_i32_1305 : BitVec 32 := 1#32
  let v2053 : BitVec 32 := Scalar.subi v2052 c1_i32_1305
  let c256_i32_1314 : BitVec 32 := 256#32
  let v2068 : BitVec 32 := Scalar.muli v2053 c256_i32_1314
  v2068
def k0_mult27 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c1_i32_1303 : BitVec 32 := 1#32
  let v2051 : BitVec 32 := Scalar.addi v1813 c1_i32_1303
  let c256_i32_1323 : BitVec 32 := 256#32
  let v2084 : BitVec 32 := Scalar.muli v2051 c256_i32_1323
  v2084
def k0_mult28 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c1_i32_1304 : BitVec 32 := 1#32
  let v2052 : BitVec 32 := Scalar.addi v1813 c1_i32_1304
  let c1_i32_1305 : BitVec 32 := 1#32
  let v2053 : BitVec 32 := Scalar.subi v2052 c1_i32_1305
  let c256_i32_1331 : BitVec 32 := 256#32
  let v2098 : BitVec 32 := Scalar.muli v2053 c256_i32_1331
  v2098
def k0_mult29 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c1_i32_1303 : BitVec 32 := 1#32
  let v2051 : BitVec 32 := Scalar.addi v1813 c1_i32_1303
  let c256_i32_1340 : BitVec 32 := 256#32
  let v2114 : BitVec 32 := Scalar.muli v2051 c256_i32_1340
  v2114
def k0_mult30 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c1_i32_1304 : BitVec 32 := 1#32
  let v2052 : BitVec 32 := Scalar.addi v1813 c1_i32_1304
  let c1_i32_1305 : BitVec 32 := 1#32
  let v2053 : BitVec 32 := Scalar.subi v2052 c1_i32_1305
  let c256_i32_1348 : BitVec 32 := 256#32
  let v2128 : BitVec 32 := Scalar.muli v2053 c256_i32_1348
  v2128
def k0_mult31 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c1_i32_1303 : BitVec 32 := 1#32
  let v2051 : BitVec 32 := Scalar.addi v1813 c1_i32_1303
  let c256_i32_1357 : BitVec 32 := 256#32
  let v2144 : BitVec 32 := Scalar.muli v2051 c256_i32_1357
  v2144
def k0_mult32 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c1_i32_1304 : BitVec 32 := 1#32
  let v2052 : BitVec 32 := Scalar.addi v1813 c1_i32_1304
  let c1_i32_1305 : BitVec 32 := 1#32
  let v2053 : BitVec 32 := Scalar.subi v2052 c1_i32_1305
  let c256_i32_1365 : BitVec 32 := 256#32
  let v2158 : BitVec 32 := Scalar.muli v2053 c256_i32_1365
  v2158
def k0_mult33 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c1_i32_1303 : BitVec 32 := 1#32
  let v2051 : BitVec 32 := Scalar.addi v1813 c1_i32_1303
  let c256_i32_1374 : BitVec 32 := 256#32
  let v2174 : BitVec 32 := Scalar.muli v2051 c256_i32_1374
  v2174
def k0_mult34 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c1_i32_1304 : BitVec 32 := 1#32
  let v2052 : BitVec 32 := Scalar.addi v1813 c1_i32_1304
  let c1_i32_1305 : BitVec 32 := 1#32
  let v2053 : BitVec 32 := Scalar.subi v2052 c1_i32_1305
  let c256_i32_1382 : BitVec 32 := 256#32
  let v2188 : BitVec 32 := Scalar.muli v2053 c256_i32_1382
  v2188
def k0_mult35 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c1_i32_1303 : BitVec 32 := 1#32
  let v2051 : BitVec 32 := Scalar.addi v1813 c1_i32_1303
  let c256_i32_1391 : BitVec 32 := 256#32
  let v2204 : BitVec 32 := Scalar.muli v2051 c256_i32_1391
  v2204
def k0_mult36 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c1_i32_1304 : BitVec 32 := 1#32
  let v2052 : BitVec 32 := Scalar.addi v1813 c1_i32_1304
  let c1_i32_1305 : BitVec 32 := 1#32
  let v2053 : BitVec 32 := Scalar.subi v2052 c1_i32_1305
  let c256_i32_1399 : BitVec 32 := 256#32
  let v2218 : BitVec 32 := Scalar.muli v2053 c256_i32_1399
  v2218
def k0_mult37 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c1_i32_1303 : BitVec 32 := 1#32
  let v2051 : BitVec 32 := Scalar.addi v1813 c1_i32_1303
  let c256_i32_1408 : BitVec 32 := 256#32
  let v2234 : BitVec 32 := Scalar.muli v2051 c256_i32_1408
  v2234
def k0_mult38 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c1_i32_1304 : BitVec 32 := 1#32
  let v2052 : BitVec 32 := Scalar.addi v1813 c1_i32_1304
  let c1_i32_1305 : BitVec 32 := 1#32
  let v2053 : BitVec 32 := Scalar.subi v2052 c1_i32_1305
  let c256_i32_1416 : BitVec 32 := 256#32
  let v2248 : BitVec 32 := Scalar.muli v2053 c256_i32_1416
  v2248
def k0_mult39 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c1_i32_1303 : BitVec 32 := 1#32
  let v2051 : BitVec 32 := Scalar.addi v1813 c1_i32_1303
  let c256_i32_1425 : BitVec 32 := 256#32
  let v2264 : BitVec 32 := Scalar.muli v2051 c256_i32_1425
  v2264
def k0_mult40 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c1_i32_1304 : BitVec 32 := 1#32
  let v2052 : BitVec 32 := Scalar.addi v1813 c1_i32_1304
  let c1_i32_1305 : BitVec 32 := 1#32
  let v2053 : BitVec 32 := Scalar.subi v2052 c1_i32_1305
  let c256_i32_1433 : BitVec 32 := 256#32
  let v2278 : BitVec 32 := Scalar.muli v2053 c256_i32_1433
  v2278
def k0_mult41 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c2_i32 : BitVec 32 := 2#32
  let v2298 : BitVec 32 := Scalar.addi v1813 c2_i32
  let c256_i32_1444 : BitVec 32 := 256#32
  let v2301 : BitVec 32 := Scalar.muli v2298 c256_i32_1444
  v2301
def k0_mult42 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c2_i32_1442 : BitVec 32 := 2#32
  let v2299 : BitVec 32 := Scalar.addi v1813 c2_i32_1442
  let c1_i32_1443 : BitVec 32 := 1#32
  let v2300 : BitVec 32 := Scalar.subi v2299 c1_i32_1443
  let c256_i32_1452 : BitVec 32 := 256#32
  let v2315 : BitVec 32 := Scalar.muli v2300 c256_i32_1452
  v2315
def k0_mult43 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c2_i32 : BitVec 32 := 2#32
  let v2298 : BitVec 32 := Scalar.addi v1813 c2_i32
  let c256_i32_1461 : BitVec 32 := 256#32
  let v2328 : BitVec 32 := Scalar.muli v2298 c256_i32_1461
  v2328
def k0_mult44 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c2_i32_1442 : BitVec 32 := 2#32
  let v2299 : BitVec 32 := Scalar.addi v1813 c2_i32_1442
  let c1_i32_1443 : BitVec 32 := 1#32
  let v2300 : BitVec 32 := Scalar.subi v2299 c1_i32_1443
  let c256_i32_1469 : BitVec 32 := 256#32
  let v2342 : BitVec 32 := Scalar.muli v2300 c256_i32_1469
  v2342
def k0_mult45 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c2_i32 : BitVec 32 := 2#32
  let v2298 : BitVec 32 := Scalar.addi v1813 c2_i32
  let c256_i32_1478 : BitVec 32 := 256#32
  let v2355 : BitVec 32 := Scalar.muli v2298 c256_i32_1478
  v2355
def k0_mult46 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c2_i32_1442 : BitVec 32 := 2#32
  let v2299 : BitVec 32 := Scalar.addi v1813 c2_i32_1442
  let c1_i32_1443 : BitVec 32 := 1#32
  let v2300 : BitVec 32 := Scalar.subi v2299 c1_i32_1443
  let c256_i32_1486 : BitVec 32 := 256#32
  let v2369 : BitVec 32 := Scalar.muli v2300 c256_i32_1486
  v2369
def k0_mult47 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c2_i32 : BitVec 32 := 2#32
  let v2298 : BitVec 32 := Scalar.addi v1813 c2_i32
  let c256_i32_1495 : BitVec 32 := 256#32
  let v2382 : BitVec 32 := Scalar.muli v2298 c256_i32_1495
  v2382
def k0_mult48 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c2_i32_1442 : BitVec 32 := 2#32
  let v2299 : BitVec 32 := Scalar.addi v1813 c2_i32_1442
  let c1_i32_1443 : BitVec 32 := 1#32
  let v2300 : BitVec 32 := Scalar.subi v2299 c1_i32_1443
  let c256_i32_1503 : BitVec 32 := 256#32
  let v2396 : BitVec 32 := Scalar.muli v2300 c256_i32_1503
  v2396
def k0_mult49 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c2_i32 : BitVec 32 := 2#32
  let v2298 : BitVec 32 := Scalar.addi v1813 c2_i32
  let c256_i32_1512 : BitVec 32 := 256#32
  let v2409 : BitVec 32 := Scalar.muli v2298 c256_i32_1512
  v2409
def k0_mult50 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c2_i32_1442 : BitVec 32 := 2#32
  let v2299 : BitVec 32 := Scalar.addi v1813 c2_i32_1442
  let c1_i32_1443 : BitVec 32 := 1#32
  let v2300 : BitVec 32 := Scalar.subi v2299 c1_i32_1443
  let c256_i32_1520 : BitVec 32 := 256#32
  let v2423 : BitVec 32 := Scalar.muli v2300 c256_i32_1520
  v2423
def k0_mult51 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c2_i32 : BitVec 32 := 2#32
  let v2298 : BitVec 32 := Scalar.addi v1813 c2_i32
  let c256_i32_1529 : BitVec 32 := 256#32
  let v2436 : BitVec 32 := Scalar.muli v2298 c256_i32_1529
  v2436
def k0_mult52 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c2_i32_1442 : BitVec 32 := 2#32
  let v2299 : BitVec 32 := Scalar.addi v1813 c2_i32_1442
  let c1_i32_1443 : BitVec 32 := 1#32
  let v2300 : BitVec 32 := Scalar.subi v2299 c1_i32_1443
  let c256_i32_1537 : BitVec 32 := 256#32
  let v2450 : BitVec 32 := Scalar.muli v2300 c256_i32_1537
  v2450
def k0_mult53 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c2_i32 : BitVec 32 := 2#32
  let v2298 : BitVec 32 := Scalar.addi v1813 c2_i32
  let c256_i32_1546 : BitVec 32 := 256#32
  let v2463 : BitVec 32 := Scalar.muli v2298 c256_i32_1546
  v2463
def k0_mult54 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c2_i32_1442 : BitVec 32 := 2#32
  let v2299 : BitVec 32 := Scalar.addi v1813 c2_i32_1442
  let c1_i32_1443 : BitVec 32 := 1#32
  let v2300 : BitVec 32 := Scalar.subi v2299 c1_i32_1443
  let c256_i32_1554 : BitVec 32 := 256#32
  let v2477 : BitVec 32 := Scalar.muli v2300 c256_i32_1554
  v2477
def k0_mult55 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c2_i32 : BitVec 32 := 2#32
  let v2298 : BitVec 32 := Scalar.addi v1813 c2_i32
  let c256_i32_1563 : BitVec 32 := 256#32
  let v2490 : BitVec 32 := Scalar.muli v2298 c256_i32_1563
  v2490
def k0_mult56 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c2_i32_1442 : BitVec 32 := 2#32
  let v2299 : BitVec 32 := Scalar.addi v1813 c2_i32_1442
  let c1_i32_1443 : BitVec 32 := 1#32
  let v2300 : BitVec 32 := Scalar.subi v2299 c1_i32_1443
  let c256_i32_1571 : BitVec 32 := 256#32
  let v2504 : BitVec 32 := Scalar.muli v2300 c256_i32_1571
  v2504
def k0_mult57 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c3_i32_1580 : BitVec 32 := 3#32
  let v2521 : BitVec 32 := Scalar.addi v1813 c3_i32_1580
  let c256_i32_1583 : BitVec 32 := 256#32
  let v2524 : BitVec 32 := Scalar.muli v2521 c256_i32_1583
  v2524
def k0_mult58 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c3_i32_1581 : BitVec 32 := 3#32
  let v2522 : BitVec 32 := Scalar.addi v1813 c3_i32_1581
  let c1_i32_1582 : BitVec 32 := 1#32
  let v2523 : BitVec 32 := Scalar.subi v2522 c1_i32_1582
  let c256_i32_1591 : BitVec 32 := 256#32
  let v2538 : BitVec 32 := Scalar.muli v2523 c256_i32_1591
  v2538
def k0_mult59 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c3_i32_1580 : BitVec 32 := 3#32
  let v2521 : BitVec 32 := Scalar.addi v1813 c3_i32_1580
  let c256_i32_1600 : BitVec 32 := 256#32
  let v2551 : BitVec 32 := Scalar.muli v2521 c256_i32_1600
  v2551
def k0_mult60 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c3_i32_1581 : BitVec 32 := 3#32
  let v2522 : BitVec 32 := Scalar.addi v1813 c3_i32_1581
  let c1_i32_1582 : BitVec 32 := 1#32
  let v2523 : BitVec 32 := Scalar.subi v2522 c1_i32_1582
  let c256_i32_1608 : BitVec 32 := 256#32
  let v2565 : BitVec 32 := Scalar.muli v2523 c256_i32_1608
  v2565
def k0_mult61 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c3_i32_1580 : BitVec 32 := 3#32
  let v2521 : BitVec 32 := Scalar.addi v1813 c3_i32_1580
  let c256_i32_1617 : BitVec 32 := 256#32
  let v2578 : BitVec 32 := Scalar.muli v2521 c256_i32_1617
  v2578
def k0_mult62 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c3_i32_1581 : BitVec 32 := 3#32
  let v2522 : BitVec 32 := Scalar.addi v1813 c3_i32_1581
  let c1_i32_1582 : BitVec 32 := 1#32
  let v2523 : BitVec 32 := Scalar.subi v2522 c1_i32_1582
  let c256_i32_1625 : BitVec 32 := 256#32
  let v2592 : BitVec 32 := Scalar.muli v2523 c256_i32_1625
  v2592
def k0_mult63 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c3_i32_1580 : BitVec 32 := 3#32
  let v2521 : BitVec 32 := Scalar.addi v1813 c3_i32_1580
  let c256_i32_1634 : BitVec 32 := 256#32
  let v2605 : BitVec 32 := Scalar.muli v2521 c256_i32_1634
  v2605
def k0_mult64 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c3_i32_1581 : BitVec 32 := 3#32
  let v2522 : BitVec 32 := Scalar.addi v1813 c3_i32_1581
  let c1_i32_1582 : BitVec 32 := 1#32
  let v2523 : BitVec 32 := Scalar.subi v2522 c1_i32_1582
  let c256_i32_1642 : BitVec 32 := 256#32
  let v2619 : BitVec 32 := Scalar.muli v2523 c256_i32_1642
  v2619
def k0_mult65 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c3_i32_1580 : BitVec 32 := 3#32
  let v2521 : BitVec 32 := Scalar.addi v1813 c3_i32_1580
  let c256_i32_1651 : BitVec 32 := 256#32
  let v2632 : BitVec 32 := Scalar.muli v2521 c256_i32_1651
  v2632
def k0_mult66 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c3_i32_1581 : BitVec 32 := 3#32
  let v2522 : BitVec 32 := Scalar.addi v1813 c3_i32_1581
  let c1_i32_1582 : BitVec 32 := 1#32
  let v2523 : BitVec 32 := Scalar.subi v2522 c1_i32_1582
  let c256_i32_1659 : BitVec 32 := 256#32
  let v2646 : BitVec 32 := Scalar.muli v2523 c256_i32_1659
  v2646
def k0_mult67 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c3_i32_1580 : BitVec 32 := 3#32
  let v2521 : BitVec 32 := Scalar.addi v1813 c3_i32_1580
  let c256_i32_1668 : BitVec 32 := 256#32
  let v2659 : BitVec 32 := Scalar.muli v2521 c256_i32_1668
  v2659
def k0_mult68 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c3_i32_1581 : BitVec 32 := 3#32
  let v2522 : BitVec 32 := Scalar.addi v1813 c3_i32_1581
  let c1_i32_1582 : BitVec 32 := 1#32
  let v2523 : BitVec 32 := Scalar.subi v2522 c1_i32_1582
  let c256_i32_1676 : BitVec 32 := 256#32
  let v2673 : BitVec 32 := Scalar.muli v2523 c256_i32_1676
  v2673
def k0_mult69 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c3_i32_1580 : BitVec 32 := 3#32
  let v2521 : BitVec 32 := Scalar.addi v1813 c3_i32_1580
  let c256_i32_1685 : BitVec 32 := 256#32
  let v2686 : BitVec 32 := Scalar.muli v2521 c256_i32_1685
  v2686
def k0_mult70 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c3_i32_1581 : BitVec 32 := 3#32
  let v2522 : BitVec 32 := Scalar.addi v1813 c3_i32_1581
  let c1_i32_1582 : BitVec 32 := 1#32
  let v2523 : BitVec 32 := Scalar.subi v2522 c1_i32_1582
  let c256_i32_1693 : BitVec 32 := 256#32
  let v2700 : BitVec 32 := Scalar.muli v2523 c256_i32_1693
  v2700
def k0_mult71 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c3_i32_1580 : BitVec 32 := 3#32
  let v2521 : BitVec 32 := Scalar.addi v1813 c3_i32_1580
  let c256_i32_1702 : BitVec 32 := 256#32
  let v2713 : BitVec 32 := Scalar.muli v2521 c256_i32_1702
  v2713
def k0_mult72 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c3_i32_1581 : BitVec 32 := 3#32
  let v2522 : BitVec 32 := Scalar.addi v1813 c3_i32_1581
  let c1_i32_1582 : BitVec 32 := 1#32
  let v2523 : BitVec 32 := Scalar.subi v2522 c1_i32_1582
  let c256_i32_1710 : BitVec 32 := 256#32
  let v2727 : BitVec 32 := Scalar.muli v2523 c256_i32_1710
  v2727
def k0_mult73 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c4_i32 : BitVec 32 := 4#32
  let v2744 : BitVec 32 := Scalar.addi v1813 c4_i32
  let c256_i32_1721 : BitVec 32 := 256#32
  let v2747 : BitVec 32 := Scalar.muli v2744 c256_i32_1721
  v2747
def k0_mult74 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c4_i32_1719 : BitVec 32 := 4#32
  let v2745 : BitVec 32 := Scalar.addi v1813 c4_i32_1719
  let c1_i32_1720 : BitVec 32 := 1#32
  let v2746 : BitVec 32 := Scalar.subi v2745 c1_i32_1720
  let c256_i32_1729 : BitVec 32 := 256#32
  let v2761 : BitVec 32 := Scalar.muli v2746 c256_i32_1729
  v2761
def k0_mult75 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c4_i32 : BitVec 32 := 4#32
  let v2744 : BitVec 32 := Scalar.addi v1813 c4_i32
  let c256_i32_1738 : BitVec 32 := 256#32
  let v2774 : BitVec 32 := Scalar.muli v2744 c256_i32_1738
  v2774
def k0_mult76 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c4_i32_1719 : BitVec 32 := 4#32
  let v2745 : BitVec 32 := Scalar.addi v1813 c4_i32_1719
  let c1_i32_1720 : BitVec 32 := 1#32
  let v2746 : BitVec 32 := Scalar.subi v2745 c1_i32_1720
  let c256_i32_1746 : BitVec 32 := 256#32
  let v2788 : BitVec 32 := Scalar.muli v2746 c256_i32_1746
  v2788
def k0_mult77 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c4_i32 : BitVec 32 := 4#32
  let v2744 : BitVec 32 := Scalar.addi v1813 c4_i32
  let c256_i32_1755 : BitVec 32 := 256#32
  let v2801 : BitVec 32 := Scalar.muli v2744 c256_i32_1755
  v2801
def k0_mult78 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c4_i32_1719 : BitVec 32 := 4#32
  let v2745 : BitVec 32 := Scalar.addi v1813 c4_i32_1719
  let c1_i32_1720 : BitVec 32 := 1#32
  let v2746 : BitVec 32 := Scalar.subi v2745 c1_i32_1720
  let c256_i32_1763 : BitVec 32 := 256#32
  let v2815 : BitVec 32 := Scalar.muli v2746 c256_i32_1763
  v2815
def k0_mult79 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c4_i32 : BitVec 32 := 4#32
  let v2744 : BitVec 32 := Scalar.addi v1813 c4_i32
  let c256_i32_1772 : BitVec 32 := 256#32
  let v2828 : BitVec 32 := Scalar.muli v2744 c256_i32_1772
  v2828
def k0_mult80 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c4_i32_1719 : BitVec 32 := 4#32
  let v2745 : BitVec 32 := Scalar.addi v1813 c4_i32_1719
  let c1_i32_1720 : BitVec 32 := 1#32
  let v2746 : BitVec 32 := Scalar.subi v2745 c1_i32_1720
  let c256_i32_1780 : BitVec 32 := 256#32
  let v2842 : BitVec 32 := Scalar.muli v2746 c256_i32_1780
  v2842
def k0_mult81 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c4_i32 : BitVec 32 := 4#32
  let v2744 : BitVec 32 := Scalar.addi v1813 c4_i32
  let c256_i32_1789 : BitVec 32 := 256#32
  let v2855 : BitVec 32 := Scalar.muli v2744 c256_i32_1789
  v2855
def k0_mult82 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c4_i32_1719 : BitVec 32 := 4#32
  let v2745 : BitVec 32 := Scalar.addi v1813 c4_i32_1719
  let c1_i32_1720 : BitVec 32 := 1#32
  let v2746 : BitVec 32 := Scalar.subi v2745 c1_i32_1720
  let c256_i32_1797 : BitVec 32 := 256#32
  let v2869 : BitVec 32 := Scalar.muli v2746 c256_i32_1797
  v2869
def k0_mult83 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c4_i32 : BitVec 32 := 4#32
  let v2744 : BitVec 32 := Scalar.addi v1813 c4_i32
  let c256_i32_1806 : BitVec 32 := 256#32
  let v2882 : BitVec 32 := Scalar.muli v2744 c256_i32_1806
  v2882
def k0_mult84 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c4_i32_1719 : BitVec 32 := 4#32
  let v2745 : BitVec 32 := Scalar.addi v1813 c4_i32_1719
  let c1_i32_1720 : BitVec 32 := 1#32
  let v2746 : BitVec 32 := Scalar.subi v2745 c1_i32_1720
  let c256_i32_1814 : BitVec 32 := 256#32
  let v2896 : BitVec 32 := Scalar.muli v2746 c256_i32_1814
  v2896
def k0_mult85 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c4_i32 : BitVec 32 := 4#32
  let v2744 : BitVec 32 := Scalar.addi v1813 c4_i32
  let c256_i32_1823 : BitVec 32 := 256#32
  let v2909 : BitVec 32 := Scalar.muli v2744 c256_i32_1823
  v2909
def k0_mult86 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c4_i32_1719 : BitVec 32 := 4#32
  let v2745 : BitVec 32 := Scalar.addi v1813 c4_i32_1719
  let c1_i32_1720 : BitVec 32 := 1#32
  let v2746 : BitVec 32 := Scalar.subi v2745 c1_i32_1720
  let c256_i32_1831 : BitVec 32 := 256#32
  let v2923 : BitVec 32 := Scalar.muli v2746 c256_i32_1831
  v2923
def k0_mult87 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c4_i32 : BitVec 32 := 4#32
  let v2744 : BitVec 32 := Scalar.addi v1813 c4_i32
  let c256_i32_1840 : BitVec 32 := 256#32
  let v2936 : BitVec 32 := Scalar.muli v2744 c256_i32_1840
  v2936
def k0_mult88 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c4_i32_1719 : BitVec 32 := 4#32
  let v2745 : BitVec 32 := Scalar.addi v1813 c4_i32_1719
  let c1_i32_1720 : BitVec 32 := 1#32
  let v2746 : BitVec 32 := Scalar.subi v2745 c1_i32_1720
  let c256_i32_1848 : BitVec 32 := 256#32
  let v2950 : BitVec 32 := Scalar.muli v2746 c256_i32_1848
  v2950
def k0_mult89 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c5_i32 : BitVec 32 := 5#32
  let v2967 : BitVec 32 := Scalar.addi v1813 c5_i32
  let c256_i32_1859 : BitVec 32 := 256#32
  let v2970 : BitVec 32 := Scalar.muli v2967 c256_i32_1859
  v2970
def k0_mult90 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c5_i32_1857 : BitVec 32 := 5#32
  let v2968 : BitVec 32 := Scalar.addi v1813 c5_i32_1857
  let c1_i32_1858 : BitVec 32 := 1#32
  let v2969 : BitVec 32 := Scalar.subi v2968 c1_i32_1858
  let c256_i32_1867 : BitVec 32 := 256#32
  let v2984 : BitVec 32 := Scalar.muli v2969 c256_i32_1867
  v2984
def k0_mult91 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c5_i32 : BitVec 32 := 5#32
  let v2967 : BitVec 32 := Scalar.addi v1813 c5_i32
  let c256_i32_1876 : BitVec 32 := 256#32
  let v2997 : BitVec 32 := Scalar.muli v2967 c256_i32_1876
  v2997
def k0_mult92 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c5_i32_1857 : BitVec 32 := 5#32
  let v2968 : BitVec 32 := Scalar.addi v1813 c5_i32_1857
  let c1_i32_1858 : BitVec 32 := 1#32
  let v2969 : BitVec 32 := Scalar.subi v2968 c1_i32_1858
  let c256_i32_1884 : BitVec 32 := 256#32
  let v3011 : BitVec 32 := Scalar.muli v2969 c256_i32_1884
  v3011
def k0_mult93 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c5_i32 : BitVec 32 := 5#32
  let v2967 : BitVec 32 := Scalar.addi v1813 c5_i32
  let c256_i32_1893 : BitVec 32 := 256#32
  let v3024 : BitVec 32 := Scalar.muli v2967 c256_i32_1893
  v3024
def k0_mult94 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c5_i32_1857 : BitVec 32 := 5#32
  let v2968 : BitVec 32 := Scalar.addi v1813 c5_i32_1857
  let c1_i32_1858 : BitVec 32 := 1#32
  let v2969 : BitVec 32 := Scalar.subi v2968 c1_i32_1858
  let c256_i32_1901 : BitVec 32 := 256#32
  let v3038 : BitVec 32 := Scalar.muli v2969 c256_i32_1901
  v3038
def k0_mult95 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c5_i32 : BitVec 32 := 5#32
  let v2967 : BitVec 32 := Scalar.addi v1813 c5_i32
  let c256_i32_1910 : BitVec 32 := 256#32
  let v3051 : BitVec 32 := Scalar.muli v2967 c256_i32_1910
  v3051
def k0_mult96 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c5_i32_1857 : BitVec 32 := 5#32
  let v2968 : BitVec 32 := Scalar.addi v1813 c5_i32_1857
  let c1_i32_1858 : BitVec 32 := 1#32
  let v2969 : BitVec 32 := Scalar.subi v2968 c1_i32_1858
  let c256_i32_1918 : BitVec 32 := 256#32
  let v3065 : BitVec 32 := Scalar.muli v2969 c256_i32_1918
  v3065
def k0_mult97 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c5_i32 : BitVec 32 := 5#32
  let v2967 : BitVec 32 := Scalar.addi v1813 c5_i32
  let c256_i32_1927 : BitVec 32 := 256#32
  let v3078 : BitVec 32 := Scalar.muli v2967 c256_i32_1927
  v3078
def k0_mult98 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c5_i32_1857 : BitVec 32 := 5#32
  let v2968 : BitVec 32 := Scalar.addi v1813 c5_i32_1857
  let c1_i32_1858 : BitVec 32 := 1#32
  let v2969 : BitVec 32 := Scalar.subi v2968 c1_i32_1858
  let c256_i32_1935 : BitVec 32 := 256#32
  let v3092 : BitVec 32 := Scalar.muli v2969 c256_i32_1935
  v3092
def k0_mult99 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c5_i32 : BitVec 32 := 5#32
  let v2967 : BitVec 32 := Scalar.addi v1813 c5_i32
  let c256_i32_1944 : BitVec 32 := 256#32
  let v3105 : BitVec 32 := Scalar.muli v2967 c256_i32_1944
  v3105
def k0_mult100 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c5_i32_1857 : BitVec 32 := 5#32
  let v2968 : BitVec 32 := Scalar.addi v1813 c5_i32_1857
  let c1_i32_1858 : BitVec 32 := 1#32
  let v2969 : BitVec 32 := Scalar.subi v2968 c1_i32_1858
  let c256_i32_1952 : BitVec 32 := 256#32
  let v3119 : BitVec 32 := Scalar.muli v2969 c256_i32_1952
  v3119
def k0_mult101 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c5_i32 : BitVec 32 := 5#32
  let v2967 : BitVec 32 := Scalar.addi v1813 c5_i32
  let c256_i32_1961 : BitVec 32 := 256#32
  let v3132 : BitVec 32 := Scalar.muli v2967 c256_i32_1961
  v3132
def k0_mult102 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c5_i32_1857 : BitVec 32 := 5#32
  let v2968 : BitVec 32 := Scalar.addi v1813 c5_i32_1857
  let c1_i32_1858 : BitVec 32 := 1#32
  let v2969 : BitVec 32 := Scalar.subi v2968 c1_i32_1858
  let c256_i32_1969 : BitVec 32 := 256#32
  let v3146 : BitVec 32 := Scalar.muli v2969 c256_i32_1969
  v3146
def k0_mult103 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c5_i32 : BitVec 32 := 5#32
  let v2967 : BitVec 32 := Scalar.addi v1813 c5_i32
  let c256_i32_1978 : BitVec 32 := 256#32
  let v3159 : BitVec 32 := Scalar.muli v2967 c256_i32_1978
  v3159
def k0_mult104 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c5_i32_1857 : BitVec 32 := 5#32
  let v2968 : BitVec 32 := Scalar.addi v1813 c5_i32_1857
  let c1_i32_1858 : BitVec 32 := 1#32
  let v2969 : BitVec 32 := Scalar.subi v2968 c1_i32_1858
  let c256_i32_1986 : BitVec 32 := 256#32
  let v3173 : BitVec 32 := Scalar.muli v2969 c256_i32_1986
  v3173
def k0_mult105 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c6_i32 : BitVec 32 := 6#32
  let v3190 : BitVec 32 := Scalar.addi v1813 c6_i32
  let c256_i32_1997 : BitVec 32 := 256#32
  let v3193 : BitVec 32 := Scalar.muli v3190 c256_i32_1997
  v3193
def k0_mult106 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c6_i32_1995 : BitVec 32 := 6#32
  let v3191 : BitVec 32 := Scalar.addi v1813 c6_i32_1995
  let c1_i32_1996 : BitVec 32 := 1#32
  let v3192 : BitVec 32 := Scalar.subi v3191 c1_i32_1996
  let c256_i32_2005 : BitVec 32 := 256#32
  let v3207 : BitVec 32 := Scalar.muli v3192 c256_i32_2005
  v3207
def k0_mult107 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c6_i32 : BitVec 32 := 6#32
  let v3190 : BitVec 32 := Scalar.addi v1813 c6_i32
  let c256_i32_2014 : BitVec 32 := 256#32
  let v3220 : BitVec 32 := Scalar.muli v3190 c256_i32_2014
  v3220
def k0_mult108 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c6_i32_1995 : BitVec 32 := 6#32
  let v3191 : BitVec 32 := Scalar.addi v1813 c6_i32_1995
  let c1_i32_1996 : BitVec 32 := 1#32
  let v3192 : BitVec 32 := Scalar.subi v3191 c1_i32_1996
  let c256_i32_2022 : BitVec 32 := 256#32
  let v3234 : BitVec 32 := Scalar.muli v3192 c256_i32_2022
  v3234
def k0_mult109 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c6_i32 : BitVec 32 := 6#32
  let v3190 : BitVec 32 := Scalar.addi v1813 c6_i32
  let c256_i32_2031 : BitVec 32 := 256#32
  let v3247 : BitVec 32 := Scalar.muli v3190 c256_i32_2031
  v3247
def k0_mult110 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c6_i32_1995 : BitVec 32 := 6#32
  let v3191 : BitVec 32 := Scalar.addi v1813 c6_i32_1995
  let c1_i32_1996 : BitVec 32 := 1#32
  let v3192 : BitVec 32 := Scalar.subi v3191 c1_i32_1996
  let c256_i32_2039 : BitVec 32 := 256#32
  let v3261 : BitVec 32 := Scalar.muli v3192 c256_i32_2039
  v3261
def k0_mult111 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c6_i32 : BitVec 32 := 6#32
  let v3190 : BitVec 32 := Scalar.addi v1813 c6_i32
  let c256_i32_2048 : BitVec 32 := 256#32
  let v3274 : BitVec 32 := Scalar.muli v3190 c256_i32_2048
  v3274
def k0_mult112 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c6_i32_1995 : BitVec 32 := 6#32
  let v3191 : BitVec 32 := Scalar.addi v1813 c6_i32_1995
  let c1_i32_1996 : BitVec 32 := 1#32
  let v3192 : BitVec 32 := Scalar.subi v3191 c1_i32_1996
  let c256_i32_2056 : BitVec 32 := 256#32
  let v3288 : BitVec 32 := Scalar.muli v3192 c256_i32_2056
  v3288
def k0_mult113 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c6_i32 : BitVec 32 := 6#32
  let v3190 : BitVec 32 := Scalar.addi v1813 c6_i32
  let c256_i32_2065 : BitVec 32 := 256#32
  let v3301 : BitVec 32 := Scalar.muli v3190 c256_i32_2065
  v3301
def k0_mult114 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c6_i32_1995 : BitVec 32 := 6#32
  let v3191 : BitVec 32 := Scalar.addi v1813 c6_i32_1995
  let c1_i32_1996 : BitVec 32 := 1#32
  let v3192 : BitVec 32 := Scalar.subi v3191 c1_i32_1996
  let c256_i32_2073 : BitVec 32 := 256#32
  let v3315 : BitVec 32 := Scalar.muli v3192 c256_i32_2073
  v3315
def k0_mult115 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c6_i32 : BitVec 32 := 6#32
  let v3190 : BitVec 32 := Scalar.addi v1813 c6_i32
  let c256_i32_2082 : BitVec 32 := 256#32
  let v3328 : BitVec 32 := Scalar.muli v3190 c256_i32_2082
  v3328
def k0_mult116 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c6_i32_1995 : BitVec 32 := 6#32
  let v3191 : BitVec 32 := Scalar.addi v1813 c6_i32_1995
  let c1_i32_1996 : BitVec 32 := 1#32
  let v3192 : BitVec 32 := Scalar.subi v3191 c1_i32_1996
  let c256_i32_2090 : BitVec 32 := 256#32
  let v3342 : BitVec 32 := Scalar.muli v3192 c256_i32_2090
  v3342
def k0_mult117 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c6_i32 : BitVec 32 := 6#32
  let v3190 : BitVec 32 := Scalar.addi v1813 c6_i32
  let c256_i32_2099 : BitVec 32 := 256#32
  let v3355 : BitVec 32 := Scalar.muli v3190 c256_i32_2099
  v3355
def k0_mult118 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c6_i32_1995 : BitVec 32 := 6#32
  let v3191 : BitVec 32 := Scalar.addi v1813 c6_i32_1995
  let c1_i32_1996 : BitVec 32 := 1#32
  let v3192 : BitVec 32 := Scalar.subi v3191 c1_i32_1996
  let c256_i32_2107 : BitVec 32 := 256#32
  let v3369 : BitVec 32 := Scalar.muli v3192 c256_i32_2107
  v3369
def k0_mult119 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c6_i32 : BitVec 32 := 6#32
  let v3190 : BitVec 32 := Scalar.addi v1813 c6_i32
  let c256_i32_2116 : BitVec 32 := 256#32
  let v3382 : BitVec 32 := Scalar.muli v3190 c256_i32_2116
  v3382
def k0_mult120 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c6_i32_1995 : BitVec 32 := 6#32
  let v3191 : BitVec 32 := Scalar.addi v1813 c6_i32_1995
  let c1_i32_1996 : BitVec 32 := 1#32
  let v3192 : BitVec 32 := Scalar.subi v3191 c1_i32_1996
  let c256_i32_2124 : BitVec 32 := 256#32
  let v3396 : BitVec 32 := Scalar.muli v3192 c256_i32_2124
  v3396
def k0_mult121 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c7_i32 : BitVec 32 := 7#32
  let v3413 : BitVec 32 := Scalar.addi v1813 c7_i32
  let c256_i32_2135 : BitVec 32 := 256#32
  let v3416 : BitVec 32 := Scalar.muli v3413 c256_i32_2135
  v3416
def k0_mult122 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c7_i32_2133 : BitVec 32 := 7#32
  let v3414 : BitVec 32 := Scalar.addi v1813 c7_i32_2133
  let c1_i32_2134 : BitVec 32 := 1#32
  let v3415 : BitVec 32 := Scalar.subi v3414 c1_i32_2134
  let c256_i32_2143 : BitVec 32 := 256#32
  let v3430 : BitVec 32 := Scalar.muli v3415 c256_i32_2143
  v3430
def k0_mult123 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c7_i32 : BitVec 32 := 7#32
  let v3413 : BitVec 32 := Scalar.addi v1813 c7_i32
  let c256_i32_2152 : BitVec 32 := 256#32
  let v3443 : BitVec 32 := Scalar.muli v3413 c256_i32_2152
  v3443
def k0_mult124 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c7_i32_2133 : BitVec 32 := 7#32
  let v3414 : BitVec 32 := Scalar.addi v1813 c7_i32_2133
  let c1_i32_2134 : BitVec 32 := 1#32
  let v3415 : BitVec 32 := Scalar.subi v3414 c1_i32_2134
  let c256_i32_2160 : BitVec 32 := 256#32
  let v3457 : BitVec 32 := Scalar.muli v3415 c256_i32_2160
  v3457
def k0_mult125 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c7_i32 : BitVec 32 := 7#32
  let v3413 : BitVec 32 := Scalar.addi v1813 c7_i32
  let c256_i32_2169 : BitVec 32 := 256#32
  let v3470 : BitVec 32 := Scalar.muli v3413 c256_i32_2169
  v3470
def k0_mult126 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c7_i32_2133 : BitVec 32 := 7#32
  let v3414 : BitVec 32 := Scalar.addi v1813 c7_i32_2133
  let c1_i32_2134 : BitVec 32 := 1#32
  let v3415 : BitVec 32 := Scalar.subi v3414 c1_i32_2134
  let c256_i32_2177 : BitVec 32 := 256#32
  let v3484 : BitVec 32 := Scalar.muli v3415 c256_i32_2177
  v3484
def k0_mult127 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c7_i32 : BitVec 32 := 7#32
  let v3413 : BitVec 32 := Scalar.addi v1813 c7_i32
  let c256_i32_2186 : BitVec 32 := 256#32
  let v3497 : BitVec 32 := Scalar.muli v3413 c256_i32_2186
  v3497
def k0_mult128 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c7_i32_2133 : BitVec 32 := 7#32
  let v3414 : BitVec 32 := Scalar.addi v1813 c7_i32_2133
  let c1_i32_2134 : BitVec 32 := 1#32
  let v3415 : BitVec 32 := Scalar.subi v3414 c1_i32_2134
  let c256_i32_2194 : BitVec 32 := 256#32
  let v3511 : BitVec 32 := Scalar.muli v3415 c256_i32_2194
  v3511
def k0_mult129 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c7_i32 : BitVec 32 := 7#32
  let v3413 : BitVec 32 := Scalar.addi v1813 c7_i32
  let c256_i32_2203 : BitVec 32 := 256#32
  let v3524 : BitVec 32 := Scalar.muli v3413 c256_i32_2203
  v3524
def k0_mult130 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c7_i32_2133 : BitVec 32 := 7#32
  let v3414 : BitVec 32 := Scalar.addi v1813 c7_i32_2133
  let c1_i32_2134 : BitVec 32 := 1#32
  let v3415 : BitVec 32 := Scalar.subi v3414 c1_i32_2134
  let c256_i32_2211 : BitVec 32 := 256#32
  let v3538 : BitVec 32 := Scalar.muli v3415 c256_i32_2211
  v3538
def k0_mult131 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c7_i32 : BitVec 32 := 7#32
  let v3413 : BitVec 32 := Scalar.addi v1813 c7_i32
  let c256_i32_2220 : BitVec 32 := 256#32
  let v3551 : BitVec 32 := Scalar.muli v3413 c256_i32_2220
  v3551
def k0_mult132 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c7_i32_2133 : BitVec 32 := 7#32
  let v3414 : BitVec 32 := Scalar.addi v1813 c7_i32_2133
  let c1_i32_2134 : BitVec 32 := 1#32
  let v3415 : BitVec 32 := Scalar.subi v3414 c1_i32_2134
  let c256_i32_2228 : BitVec 32 := 256#32
  let v3565 : BitVec 32 := Scalar.muli v3415 c256_i32_2228
  v3565
def k0_mult133 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c7_i32 : BitVec 32 := 7#32
  let v3413 : BitVec 32 := Scalar.addi v1813 c7_i32
  let c256_i32_2237 : BitVec 32 := 256#32
  let v3578 : BitVec 32 := Scalar.muli v3413 c256_i32_2237
  v3578
def k0_mult134 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c7_i32_2133 : BitVec 32 := 7#32
  let v3414 : BitVec 32 := Scalar.addi v1813 c7_i32_2133
  let c1_i32_2134 : BitVec 32 := 1#32
  let v3415 : BitVec 32 := Scalar.subi v3414 c1_i32_2134
  let c256_i32_2245 : BitVec 32 := 256#32
  let v3592 : BitVec 32 := Scalar.muli v3415 c256_i32_2245
  v3592
def k0_mult135 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c7_i32 : BitVec 32 := 7#32
  let v3413 : BitVec 32 := Scalar.addi v1813 c7_i32
  let c256_i32_2254 : BitVec 32 := 256#32
  let v3605 : BitVec 32 := Scalar.muli v3413 c256_i32_2254
  v3605
def k0_mult136 (k0_t1 : Fin k0_t1_loop.trips) : BitVec 32 :=
  let c8_i32 : BitVec 32 := 8#32
  let c0_i32_131 : BitVec 32 := 0#32
  let c1_i32 : BitVec 32 := 1#32
  let arg11 : BitVec 32 := Scf.iv c0_i32_131 c1_i32 k0_t1
  let v1812 : BitVec 32 := Scalar.muli c8_i32 arg11
  let c1_i32_1160 : BitVec 32 := 1#32
  let v1813 : BitVec 32 := Scalar.addi v1812 c1_i32_1160
  let c7_i32_2133 : BitVec 32 := 7#32
  let v3414 : BitVec 32 := Scalar.addi v1813 c7_i32_2133
  let c1_i32_2134 : BitVec 32 := 1#32
  let v3415 : BitVec 32 := Scalar.subi v3414 c1_i32_2134
  let c256_i32_2262 : BitVec 32 := 256#32
  let v3619 : BitVec 32 := Scalar.muli v3415 c256_i32_2262
  v3619
def k0_mult137 : BitVec 32 :=
  let c6400_i32 : BitVec 32 := 6400#32
  c6400_i32
def k0_mult138 : BitVec 32 :=
  let c6144_i32 : BitVec 32 := 6144#32
  c6144_i32
def k0_mult139 : BitVec 32 :=
  let c6400_i32_152 : BitVec 32 := 6400#32
  c6400_i32_152
def k0_mult140 : BitVec 32 :=
  let c6144_i32_160 : BitVec 32 := 6144#32
  c6144_i32_160
def k0_mult141 : BitVec 32 :=
  let c6400_i32_169 : BitVec 32 := 6400#32
  c6400_i32_169
def k0_mult142 : BitVec 32 :=
  let c6144_i32_177 : BitVec 32 := 6144#32
  c6144_i32_177
def k0_mult143 : BitVec 32 :=
  let c6400_i32_186 : BitVec 32 := 6400#32
  c6400_i32_186
def k0_mult144 : BitVec 32 :=
  let c6144_i32_194 : BitVec 32 := 6144#32
  c6144_i32_194
def k0_mult145 : BitVec 32 :=
  let c6400_i32_203 : BitVec 32 := 6400#32
  c6400_i32_203
def k0_mult146 : BitVec 32 :=
  let c6144_i32_211 : BitVec 32 := 6144#32
  c6144_i32_211
def k0_mult147 : BitVec 32 :=
  let c6400_i32_220 : BitVec 32 := 6400#32
  c6400_i32_220
def k0_mult148 : BitVec 32 :=
  let c6144_i32_228 : BitVec 32 := 6144#32
  c6144_i32_228
def k0_mult149 : BitVec 32 :=
  let c6400_i32_237 : BitVec 32 := 6400#32
  c6400_i32_237
def k0_mult150 : BitVec 32 :=
  let c6144_i32_245 : BitVec 32 := 6144#32
  c6144_i32_245
def k0_mult151 : BitVec 32 :=
  let c6400_i32_254 : BitVec 32 := 6400#32
  c6400_i32_254
def k0_mult152 : BitVec 32 :=
  let c6144_i32_262 : BitVec 32 := 6144#32
  c6144_i32_262
def k0_mult153 : BitVec 32 :=
  let c6656_i32 : BitVec 32 := 6656#32
  c6656_i32
def k0_mult154 : BitVec 32 :=
  let c6400_i32_278 : BitVec 32 := 6400#32
  c6400_i32_278
def k0_mult155 : BitVec 32 :=
  let c6656_i32_287 : BitVec 32 := 6656#32
  c6656_i32_287
def k0_mult156 : BitVec 32 :=
  let c6400_i32_295 : BitVec 32 := 6400#32
  c6400_i32_295
def k0_mult157 : BitVec 32 :=
  let c6656_i32_304 : BitVec 32 := 6656#32
  c6656_i32_304
def k0_mult158 : BitVec 32 :=
  let c6400_i32_312 : BitVec 32 := 6400#32
  c6400_i32_312
def k0_mult159 : BitVec 32 :=
  let c6656_i32_321 : BitVec 32 := 6656#32
  c6656_i32_321
def k0_mult160 : BitVec 32 :=
  let c6400_i32_329 : BitVec 32 := 6400#32
  c6400_i32_329
def k0_mult161 : BitVec 32 :=
  let c6656_i32_338 : BitVec 32 := 6656#32
  c6656_i32_338
def k0_mult162 : BitVec 32 :=
  let c6400_i32_346 : BitVec 32 := 6400#32
  c6400_i32_346
def k0_mult163 : BitVec 32 :=
  let c6656_i32_355 : BitVec 32 := 6656#32
  c6656_i32_355
def k0_mult164 : BitVec 32 :=
  let c6400_i32_363 : BitVec 32 := 6400#32
  c6400_i32_363
def k0_mult165 : BitVec 32 :=
  let c6656_i32_372 : BitVec 32 := 6656#32
  c6656_i32_372
def k0_mult166 : BitVec 32 :=
  let c6400_i32_380 : BitVec 32 := 6400#32
  c6400_i32_380
def k0_mult167 : BitVec 32 :=
  let c6656_i32_389 : BitVec 32 := 6656#32
  c6656_i32_389
def k0_mult168 : BitVec 32 :=
  let c6400_i32_397 : BitVec 32 := 6400#32
  c6400_i32_397
def k0_mult169 : BitVec 32 :=
  let c6912_i32 : BitVec 32 := 6912#32
  c6912_i32
def k0_mult170 : BitVec 32 :=
  let c6656_i32_413 : BitVec 32 := 6656#32
  c6656_i32_413
def k0_mult171 : BitVec 32 :=
  let c6912_i32_422 : BitVec 32 := 6912#32
  c6912_i32_422
def k0_mult172 : BitVec 32 :=
  let c6656_i32_430 : BitVec 32 := 6656#32
  c6656_i32_430
def k0_mult173 : BitVec 32 :=
  let c6912_i32_439 : BitVec 32 := 6912#32
  c6912_i32_439
def k0_mult174 : BitVec 32 :=
  let c6656_i32_447 : BitVec 32 := 6656#32
  c6656_i32_447
def k0_mult175 : BitVec 32 :=
  let c6912_i32_456 : BitVec 32 := 6912#32
  c6912_i32_456
def k0_mult176 : BitVec 32 :=
  let c6656_i32_464 : BitVec 32 := 6656#32
  c6656_i32_464
def k0_mult177 : BitVec 32 :=
  let c6912_i32_473 : BitVec 32 := 6912#32
  c6912_i32_473
def k0_mult178 : BitVec 32 :=
  let c6656_i32_481 : BitVec 32 := 6656#32
  c6656_i32_481
def k0_mult179 : BitVec 32 :=
  let c6912_i32_490 : BitVec 32 := 6912#32
  c6912_i32_490
def k0_mult180 : BitVec 32 :=
  let c6656_i32_498 : BitVec 32 := 6656#32
  c6656_i32_498
def k0_mult181 : BitVec 32 :=
  let c6912_i32_507 : BitVec 32 := 6912#32
  c6912_i32_507
def k0_mult182 : BitVec 32 :=
  let c6656_i32_515 : BitVec 32 := 6656#32
  c6656_i32_515
def k0_mult183 : BitVec 32 :=
  let c6912_i32_524 : BitVec 32 := 6912#32
  c6912_i32_524
def k0_mult184 : BitVec 32 :=
  let c6656_i32_532 : BitVec 32 := 6656#32
  c6656_i32_532
def k0_mult185 : BitVec 32 :=
  let c7168_i32 : BitVec 32 := 7168#32
  c7168_i32
def k0_mult186 : BitVec 32 :=
  let c6912_i32_548 : BitVec 32 := 6912#32
  c6912_i32_548
def k0_mult187 : BitVec 32 :=
  let c7168_i32_557 : BitVec 32 := 7168#32
  c7168_i32_557
def k0_mult188 : BitVec 32 :=
  let c6912_i32_565 : BitVec 32 := 6912#32
  c6912_i32_565
def k0_mult189 : BitVec 32 :=
  let c7168_i32_574 : BitVec 32 := 7168#32
  c7168_i32_574
def k0_mult190 : BitVec 32 :=
  let c6912_i32_582 : BitVec 32 := 6912#32
  c6912_i32_582
def k0_mult191 : BitVec 32 :=
  let c7168_i32_591 : BitVec 32 := 7168#32
  c7168_i32_591
def k0_mult192 : BitVec 32 :=
  let c6912_i32_599 : BitVec 32 := 6912#32
  c6912_i32_599
def k0_mult193 : BitVec 32 :=
  let c7168_i32_608 : BitVec 32 := 7168#32
  c7168_i32_608
def k0_mult194 : BitVec 32 :=
  let c6912_i32_616 : BitVec 32 := 6912#32
  c6912_i32_616
def k0_mult195 : BitVec 32 :=
  let c7168_i32_625 : BitVec 32 := 7168#32
  c7168_i32_625
def k0_mult196 : BitVec 32 :=
  let c6912_i32_633 : BitVec 32 := 6912#32
  c6912_i32_633
def k0_mult197 : BitVec 32 :=
  let c7168_i32_642 : BitVec 32 := 7168#32
  c7168_i32_642
def k0_mult198 : BitVec 32 :=
  let c6912_i32_650 : BitVec 32 := 6912#32
  c6912_i32_650
def k0_mult199 : BitVec 32 :=
  let c7168_i32_659 : BitVec 32 := 7168#32
  c7168_i32_659
def k0_mult200 : BitVec 32 :=
  let c6912_i32_667 : BitVec 32 := 6912#32
  c6912_i32_667
def k0_mult201 : BitVec 32 :=
  let c7424_i32 : BitVec 32 := 7424#32
  c7424_i32
def k0_mult202 : BitVec 32 :=
  let c7168_i32_683 : BitVec 32 := 7168#32
  c7168_i32_683
def k0_mult203 : BitVec 32 :=
  let c7424_i32_692 : BitVec 32 := 7424#32
  c7424_i32_692
def k0_mult204 : BitVec 32 :=
  let c7168_i32_700 : BitVec 32 := 7168#32
  c7168_i32_700
def k0_mult205 : BitVec 32 :=
  let c7424_i32_709 : BitVec 32 := 7424#32
  c7424_i32_709
def k0_mult206 : BitVec 32 :=
  let c7168_i32_717 : BitVec 32 := 7168#32
  c7168_i32_717
def k0_mult207 : BitVec 32 :=
  let c7424_i32_726 : BitVec 32 := 7424#32
  c7424_i32_726
def k0_mult208 : BitVec 32 :=
  let c7168_i32_734 : BitVec 32 := 7168#32
  c7168_i32_734
def k0_mult209 : BitVec 32 :=
  let c7424_i32_743 : BitVec 32 := 7424#32
  c7424_i32_743
def k0_mult210 : BitVec 32 :=
  let c7168_i32_751 : BitVec 32 := 7168#32
  c7168_i32_751
def k0_mult211 : BitVec 32 :=
  let c7424_i32_760 : BitVec 32 := 7424#32
  c7424_i32_760
def k0_mult212 : BitVec 32 :=
  let c7168_i32_768 : BitVec 32 := 7168#32
  c7168_i32_768
def k0_mult213 : BitVec 32 :=
  let c7424_i32_777 : BitVec 32 := 7424#32
  c7424_i32_777
def k0_mult214 : BitVec 32 :=
  let c7168_i32_785 : BitVec 32 := 7168#32
  c7168_i32_785
def k0_mult215 : BitVec 32 :=
  let c7424_i32_794 : BitVec 32 := 7424#32
  c7424_i32_794
def k0_mult216 : BitVec 32 :=
  let c7168_i32_802 : BitVec 32 := 7168#32
  c7168_i32_802
def k0_mult217 : BitVec 32 :=
  let c7680_i32 : BitVec 32 := 7680#32
  c7680_i32
def k0_mult218 : BitVec 32 :=
  let c7424_i32_818 : BitVec 32 := 7424#32
  c7424_i32_818
def k0_mult219 : BitVec 32 :=
  let c7680_i32_827 : BitVec 32 := 7680#32
  c7680_i32_827
def k0_mult220 : BitVec 32 :=
  let c7424_i32_835 : BitVec 32 := 7424#32
  c7424_i32_835
def k0_mult221 : BitVec 32 :=
  let c7680_i32_844 : BitVec 32 := 7680#32
  c7680_i32_844
def k0_mult222 : BitVec 32 :=
  let c7424_i32_852 : BitVec 32 := 7424#32
  c7424_i32_852
def k0_mult223 : BitVec 32 :=
  let c7680_i32_861 : BitVec 32 := 7680#32
  c7680_i32_861
def k0_mult224 : BitVec 32 :=
  let c7424_i32_869 : BitVec 32 := 7424#32
  c7424_i32_869
def k0_mult225 : BitVec 32 :=
  let c7680_i32_878 : BitVec 32 := 7680#32
  c7680_i32_878
def k0_mult226 : BitVec 32 :=
  let c7424_i32_886 : BitVec 32 := 7424#32
  c7424_i32_886
def k0_mult227 : BitVec 32 :=
  let c7680_i32_895 : BitVec 32 := 7680#32
  c7680_i32_895
def k0_mult228 : BitVec 32 :=
  let c7424_i32_903 : BitVec 32 := 7424#32
  c7424_i32_903
def k0_mult229 : BitVec 32 :=
  let c7680_i32_912 : BitVec 32 := 7680#32
  c7680_i32_912
def k0_mult230 : BitVec 32 :=
  let c7424_i32_920 : BitVec 32 := 7424#32
  c7424_i32_920
def k0_mult231 : BitVec 32 :=
  let c7680_i32_929 : BitVec 32 := 7680#32
  c7680_i32_929
def k0_mult232 : BitVec 32 :=
  let c7424_i32_937 : BitVec 32 := 7424#32
  c7424_i32_937
def k0_mult233 : BitVec 32 :=
  let c7936_i32 : BitVec 32 := 7936#32
  c7936_i32
def k0_mult234 : BitVec 32 :=
  let c7680_i32_953 : BitVec 32 := 7680#32
  c7680_i32_953
def k0_mult235 : BitVec 32 :=
  let c7936_i32_962 : BitVec 32 := 7936#32
  c7936_i32_962
def k0_mult236 : BitVec 32 :=
  let c7680_i32_970 : BitVec 32 := 7680#32
  c7680_i32_970
def k0_mult237 : BitVec 32 :=
  let c7936_i32_979 : BitVec 32 := 7936#32
  c7936_i32_979
def k0_mult238 : BitVec 32 :=
  let c7680_i32_987 : BitVec 32 := 7680#32
  c7680_i32_987
def k0_mult239 : BitVec 32 :=
  let c7936_i32_996 : BitVec 32 := 7936#32
  c7936_i32_996
def k0_mult240 : BitVec 32 :=
  let c7680_i32_1004 : BitVec 32 := 7680#32
  c7680_i32_1004
def k0_mult241 : BitVec 32 :=
  let c7936_i32_1013 : BitVec 32 := 7936#32
  c7936_i32_1013
def k0_mult242 : BitVec 32 :=
  let c7680_i32_1021 : BitVec 32 := 7680#32
  c7680_i32_1021
def k0_mult243 : BitVec 32 :=
  let c7936_i32_1030 : BitVec 32 := 7936#32
  c7936_i32_1030
def k0_mult244 : BitVec 32 :=
  let c7680_i32_1038 : BitVec 32 := 7680#32
  c7680_i32_1038
def k0_mult245 : BitVec 32 :=
  let c7936_i32_1047 : BitVec 32 := 7936#32
  c7936_i32_1047
def k0_mult246 : BitVec 32 :=
  let c7680_i32_1055 : BitVec 32 := 7680#32
  c7680_i32_1055
def k0_mult247 : BitVec 32 :=
  let c7936_i32_1064 : BitVec 32 := 7936#32
  c7936_i32_1064
def k0_mult248 : BitVec 32 :=
  let c7680_i32_1072 : BitVec 32 := 7680#32
  c7680_i32_1072
def k0_mult249 : BitVec 32 :=
  let c7936_i32_1081 : BitVec 32 := 7936#32
  c7936_i32_1081
def k0_mult250 : BitVec 32 :=
  let c7936_i32_1090 : BitVec 32 := 7936#32
  c7936_i32_1090
def k0_mult251 : BitVec 32 :=
  let c7936_i32_1099 : BitVec 32 := 7936#32
  c7936_i32_1099
def k0_mult252 : BitVec 32 :=
  let c7936_i32_1108 : BitVec 32 := 7936#32
  c7936_i32_1108
def k0_mult253 : BitVec 32 :=
  let c7936_i32_1117 : BitVec 32 := 7936#32
  c7936_i32_1117
def k0_mult254 : BitVec 32 :=
  let c7936_i32_1126 : BitVec 32 := 7936#32
  c7936_i32_1126
def k0_mult255 : BitVec 32 :=
  let c7936_i32_1135 : BitVec 32 := 7936#32
  c7936_i32_1135
def k0_mult256 : BitVec 32 :=
  let c7936_i32_1144 : BitVec 32 := 7936#32
  c7936_i32_1144
def k0_mult257 : BitVec 32 :=
  let c0_i32_1167 : BitVec 32 := 0#32
  c0_i32_1167
def k0_mult258 : BitVec 32 :=
  let c0_i32_1175 : BitVec 32 := 0#32
  c0_i32_1175
def k0_mult259 : BitVec 32 :=
  let c0_i32_1183 : BitVec 32 := 0#32
  c0_i32_1183
def k0_mult260 : BitVec 32 :=
  let c0_i32_1191 : BitVec 32 := 0#32
  c0_i32_1191
def k0_mult261 : BitVec 32 :=
  let c0_i32_1199 : BitVec 32 := 0#32
  c0_i32_1199
def k0_mult262 : BitVec 32 :=
  let c0_i32_1207 : BitVec 32 := 0#32
  c0_i32_1207
def k0_mult263 : BitVec 32 :=
  let c0_i32_1215 : BitVec 32 := 0#32
  c0_i32_1215
def k0_mult264 : BitVec 32 :=
  let c0_i32_1223 : BitVec 32 := 0#32
  c0_i32_1223
@[reducible] def k0_t2_loop : Scf.Loop 32 :=
  let c0_i32_1231 : BitVec 32 := 0#32
  let c3_i32_1232 : BitVec 32 := 3#32
  let v1933 : BitVec 32 := Scalar.addi c0_i32_1231 c3_i32_1232
  let c1_i32_1233 : BitVec 32 := 1#32
  ⟨c0_i32_1231, v1933, c1_i32_1233⟩
def k0_mult265 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c0_i32_2212 : BitVec 32 := 0#32
  let v3315 : BitVec 32 := Scalar.addi v3302 c0_i32_2212
  let c256_i32 : BitVec 32 := 256#32
  let v3318 : BitVec 32 := Scalar.muli v3315 c256_i32
  v3318
def k0_off3 (k0_t2 : Fin k0_t2_loop.trips) (c0_i32_2212 : BitVec 32) : Fin 2 → Nat :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let v3315 : BitVec 32 := Scalar.addi v3302 c0_i32_2212
  let c256_i32 : BitVec 32 := 256#32
  let v3318 : BitVec 32 := Scalar.muli v3315 c256_i32
  let v3319 : BitVec 32 := v3318
  let v3320 : Index := Scalar.indexCast v3319
  let c0_2215 : Index := 0#32
  ![v3320.toNat, 0]
def k0_mult266 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c0_i32_2213 : BitVec 32 := 0#32
  let v3316 : BitVec 32 := Scalar.addi v3302 c0_i32_2213
  let c1_i32_2214 : BitVec 32 := 1#32
  let v3317 : BitVec 32 := Scalar.subi v3316 c1_i32_2214
  let c256_i32_2222 : BitVec 32 := 256#32
  let v3332 : BitVec 32 := Scalar.muli v3317 c256_i32_2222
  v3332
def k0_off4 (k0_t2 : Fin k0_t2_loop.trips) (c0_i32_2213 : BitVec 32) : Fin 2 → Nat :=
  let c0_2225 : Index := 0#32
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let v3316 : BitVec 32 := Scalar.addi v3302 c0_i32_2213
  let c1_i32_2214 : BitVec 32 := 1#32
  let v3317 : BitVec 32 := Scalar.subi v3316 c1_i32_2214
  let c256_i32_2222 : BitVec 32 := 256#32
  let v3332 : BitVec 32 := Scalar.muli v3317 c256_i32_2222
  let v3333 : BitVec 32 := v3332
  let v3336 : Index := Scalar.indexCast v3333
  ![0, v3336.toNat]
def k0_mult267 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c0_i32_2212 : BitVec 32 := 0#32
  let v3315 : BitVec 32 := Scalar.addi v3302 c0_i32_2212
  let c256_i32_2231 : BitVec 32 := 256#32
  let v3345 : BitVec 32 := Scalar.muli v3315 c256_i32_2231
  v3345
def k0_mult268 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c0_i32_2213 : BitVec 32 := 0#32
  let v3316 : BitVec 32 := Scalar.addi v3302 c0_i32_2213
  let c1_i32_2214 : BitVec 32 := 1#32
  let v3317 : BitVec 32 := Scalar.subi v3316 c1_i32_2214
  let c256_i32_2239 : BitVec 32 := 256#32
  let v3359 : BitVec 32 := Scalar.muli v3317 c256_i32_2239
  v3359
def k0_mult269 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c0_i32_2212 : BitVec 32 := 0#32
  let v3315 : BitVec 32 := Scalar.addi v3302 c0_i32_2212
  let c256_i32_2248 : BitVec 32 := 256#32
  let v3372 : BitVec 32 := Scalar.muli v3315 c256_i32_2248
  v3372
def k0_mult270 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c0_i32_2213 : BitVec 32 := 0#32
  let v3316 : BitVec 32 := Scalar.addi v3302 c0_i32_2213
  let c1_i32_2214 : BitVec 32 := 1#32
  let v3317 : BitVec 32 := Scalar.subi v3316 c1_i32_2214
  let c256_i32_2256 : BitVec 32 := 256#32
  let v3386 : BitVec 32 := Scalar.muli v3317 c256_i32_2256
  v3386
def k0_mult271 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c0_i32_2212 : BitVec 32 := 0#32
  let v3315 : BitVec 32 := Scalar.addi v3302 c0_i32_2212
  let c256_i32_2265 : BitVec 32 := 256#32
  let v3399 : BitVec 32 := Scalar.muli v3315 c256_i32_2265
  v3399
def k0_mult272 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c0_i32_2213 : BitVec 32 := 0#32
  let v3316 : BitVec 32 := Scalar.addi v3302 c0_i32_2213
  let c1_i32_2214 : BitVec 32 := 1#32
  let v3317 : BitVec 32 := Scalar.subi v3316 c1_i32_2214
  let c256_i32_2273 : BitVec 32 := 256#32
  let v3413 : BitVec 32 := Scalar.muli v3317 c256_i32_2273
  v3413
def k0_mult273 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c0_i32_2212 : BitVec 32 := 0#32
  let v3315 : BitVec 32 := Scalar.addi v3302 c0_i32_2212
  let c256_i32_2282 : BitVec 32 := 256#32
  let v3426 : BitVec 32 := Scalar.muli v3315 c256_i32_2282
  v3426
def k0_mult274 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c0_i32_2213 : BitVec 32 := 0#32
  let v3316 : BitVec 32 := Scalar.addi v3302 c0_i32_2213
  let c1_i32_2214 : BitVec 32 := 1#32
  let v3317 : BitVec 32 := Scalar.subi v3316 c1_i32_2214
  let c256_i32_2290 : BitVec 32 := 256#32
  let v3440 : BitVec 32 := Scalar.muli v3317 c256_i32_2290
  v3440
def k0_mult275 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c0_i32_2212 : BitVec 32 := 0#32
  let v3315 : BitVec 32 := Scalar.addi v3302 c0_i32_2212
  let c256_i32_2299 : BitVec 32 := 256#32
  let v3453 : BitVec 32 := Scalar.muli v3315 c256_i32_2299
  v3453
def k0_mult276 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c0_i32_2213 : BitVec 32 := 0#32
  let v3316 : BitVec 32 := Scalar.addi v3302 c0_i32_2213
  let c1_i32_2214 : BitVec 32 := 1#32
  let v3317 : BitVec 32 := Scalar.subi v3316 c1_i32_2214
  let c256_i32_2307 : BitVec 32 := 256#32
  let v3467 : BitVec 32 := Scalar.muli v3317 c256_i32_2307
  v3467
def k0_mult277 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c0_i32_2212 : BitVec 32 := 0#32
  let v3315 : BitVec 32 := Scalar.addi v3302 c0_i32_2212
  let c256_i32_2316 : BitVec 32 := 256#32
  let v3480 : BitVec 32 := Scalar.muli v3315 c256_i32_2316
  v3480
def k0_mult278 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c0_i32_2213 : BitVec 32 := 0#32
  let v3316 : BitVec 32 := Scalar.addi v3302 c0_i32_2213
  let c1_i32_2214 : BitVec 32 := 1#32
  let v3317 : BitVec 32 := Scalar.subi v3316 c1_i32_2214
  let c256_i32_2324 : BitVec 32 := 256#32
  let v3494 : BitVec 32 := Scalar.muli v3317 c256_i32_2324
  v3494
def k0_mult279 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c0_i32_2212 : BitVec 32 := 0#32
  let v3315 : BitVec 32 := Scalar.addi v3302 c0_i32_2212
  let c256_i32_2333 : BitVec 32 := 256#32
  let v3507 : BitVec 32 := Scalar.muli v3315 c256_i32_2333
  v3507
def k0_mult280 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c0_i32_2213 : BitVec 32 := 0#32
  let v3316 : BitVec 32 := Scalar.addi v3302 c0_i32_2213
  let c1_i32_2214 : BitVec 32 := 1#32
  let v3317 : BitVec 32 := Scalar.subi v3316 c1_i32_2214
  let c256_i32_2341 : BitVec 32 := 256#32
  let v3521 : BitVec 32 := Scalar.muli v3317 c256_i32_2341
  v3521
def k0_mult281 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c1_i32_2350 : BitVec 32 := 1#32
  let v3539 : BitVec 32 := Scalar.addi v3302 c1_i32_2350
  let c256_i32_2353 : BitVec 32 := 256#32
  let v3542 : BitVec 32 := Scalar.muli v3539 c256_i32_2353
  v3542
def k0_mult282 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c1_i32_2351 : BitVec 32 := 1#32
  let v3540 : BitVec 32 := Scalar.addi v3302 c1_i32_2351
  let c1_i32_2352 : BitVec 32 := 1#32
  let v3541 : BitVec 32 := Scalar.subi v3540 c1_i32_2352
  let c256_i32_2361 : BitVec 32 := 256#32
  let v3556 : BitVec 32 := Scalar.muli v3541 c256_i32_2361
  v3556
def k0_mult283 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c1_i32_2350 : BitVec 32 := 1#32
  let v3539 : BitVec 32 := Scalar.addi v3302 c1_i32_2350
  let c256_i32_2370 : BitVec 32 := 256#32
  let v3572 : BitVec 32 := Scalar.muli v3539 c256_i32_2370
  v3572
def k0_mult284 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c1_i32_2351 : BitVec 32 := 1#32
  let v3540 : BitVec 32 := Scalar.addi v3302 c1_i32_2351
  let c1_i32_2352 : BitVec 32 := 1#32
  let v3541 : BitVec 32 := Scalar.subi v3540 c1_i32_2352
  let c256_i32_2378 : BitVec 32 := 256#32
  let v3586 : BitVec 32 := Scalar.muli v3541 c256_i32_2378
  v3586
def k0_mult285 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c1_i32_2350 : BitVec 32 := 1#32
  let v3539 : BitVec 32 := Scalar.addi v3302 c1_i32_2350
  let c256_i32_2387 : BitVec 32 := 256#32
  let v3602 : BitVec 32 := Scalar.muli v3539 c256_i32_2387
  v3602
def k0_mult286 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c1_i32_2351 : BitVec 32 := 1#32
  let v3540 : BitVec 32 := Scalar.addi v3302 c1_i32_2351
  let c1_i32_2352 : BitVec 32 := 1#32
  let v3541 : BitVec 32 := Scalar.subi v3540 c1_i32_2352
  let c256_i32_2395 : BitVec 32 := 256#32
  let v3616 : BitVec 32 := Scalar.muli v3541 c256_i32_2395
  v3616
def k0_mult287 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c1_i32_2350 : BitVec 32 := 1#32
  let v3539 : BitVec 32 := Scalar.addi v3302 c1_i32_2350
  let c256_i32_2404 : BitVec 32 := 256#32
  let v3632 : BitVec 32 := Scalar.muli v3539 c256_i32_2404
  v3632
def k0_mult288 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c1_i32_2351 : BitVec 32 := 1#32
  let v3540 : BitVec 32 := Scalar.addi v3302 c1_i32_2351
  let c1_i32_2352 : BitVec 32 := 1#32
  let v3541 : BitVec 32 := Scalar.subi v3540 c1_i32_2352
  let c256_i32_2412 : BitVec 32 := 256#32
  let v3646 : BitVec 32 := Scalar.muli v3541 c256_i32_2412
  v3646
def k0_mult289 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c1_i32_2350 : BitVec 32 := 1#32
  let v3539 : BitVec 32 := Scalar.addi v3302 c1_i32_2350
  let c256_i32_2421 : BitVec 32 := 256#32
  let v3662 : BitVec 32 := Scalar.muli v3539 c256_i32_2421
  v3662
def k0_mult290 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c1_i32_2351 : BitVec 32 := 1#32
  let v3540 : BitVec 32 := Scalar.addi v3302 c1_i32_2351
  let c1_i32_2352 : BitVec 32 := 1#32
  let v3541 : BitVec 32 := Scalar.subi v3540 c1_i32_2352
  let c256_i32_2429 : BitVec 32 := 256#32
  let v3676 : BitVec 32 := Scalar.muli v3541 c256_i32_2429
  v3676
def k0_mult291 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c1_i32_2350 : BitVec 32 := 1#32
  let v3539 : BitVec 32 := Scalar.addi v3302 c1_i32_2350
  let c256_i32_2438 : BitVec 32 := 256#32
  let v3692 : BitVec 32 := Scalar.muli v3539 c256_i32_2438
  v3692
def k0_mult292 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c1_i32_2351 : BitVec 32 := 1#32
  let v3540 : BitVec 32 := Scalar.addi v3302 c1_i32_2351
  let c1_i32_2352 : BitVec 32 := 1#32
  let v3541 : BitVec 32 := Scalar.subi v3540 c1_i32_2352
  let c256_i32_2446 : BitVec 32 := 256#32
  let v3706 : BitVec 32 := Scalar.muli v3541 c256_i32_2446
  v3706
def k0_mult293 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c1_i32_2350 : BitVec 32 := 1#32
  let v3539 : BitVec 32 := Scalar.addi v3302 c1_i32_2350
  let c256_i32_2455 : BitVec 32 := 256#32
  let v3722 : BitVec 32 := Scalar.muli v3539 c256_i32_2455
  v3722
def k0_mult294 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c1_i32_2351 : BitVec 32 := 1#32
  let v3540 : BitVec 32 := Scalar.addi v3302 c1_i32_2351
  let c1_i32_2352 : BitVec 32 := 1#32
  let v3541 : BitVec 32 := Scalar.subi v3540 c1_i32_2352
  let c256_i32_2463 : BitVec 32 := 256#32
  let v3736 : BitVec 32 := Scalar.muli v3541 c256_i32_2463
  v3736
def k0_mult295 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c1_i32_2350 : BitVec 32 := 1#32
  let v3539 : BitVec 32 := Scalar.addi v3302 c1_i32_2350
  let c256_i32_2472 : BitVec 32 := 256#32
  let v3752 : BitVec 32 := Scalar.muli v3539 c256_i32_2472
  v3752
def k0_mult296 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c1_i32_2351 : BitVec 32 := 1#32
  let v3540 : BitVec 32 := Scalar.addi v3302 c1_i32_2351
  let c1_i32_2352 : BitVec 32 := 1#32
  let v3541 : BitVec 32 := Scalar.subi v3540 c1_i32_2352
  let c256_i32_2480 : BitVec 32 := 256#32
  let v3766 : BitVec 32 := Scalar.muli v3541 c256_i32_2480
  v3766
def k0_mult297 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c2_i32 : BitVec 32 := 2#32
  let v3785 : BitVec 32 := Scalar.addi v3302 c2_i32
  let c256_i32_2491 : BitVec 32 := 256#32
  let v3788 : BitVec 32 := Scalar.muli v3785 c256_i32_2491
  v3788
def k0_mult298 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c2_i32_2489 : BitVec 32 := 2#32
  let v3786 : BitVec 32 := Scalar.addi v3302 c2_i32_2489
  let c1_i32_2490 : BitVec 32 := 1#32
  let v3787 : BitVec 32 := Scalar.subi v3786 c1_i32_2490
  let c256_i32_2499 : BitVec 32 := 256#32
  let v3802 : BitVec 32 := Scalar.muli v3787 c256_i32_2499
  v3802
def k0_mult299 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c2_i32 : BitVec 32 := 2#32
  let v3785 : BitVec 32 := Scalar.addi v3302 c2_i32
  let c256_i32_2508 : BitVec 32 := 256#32
  let v3815 : BitVec 32 := Scalar.muli v3785 c256_i32_2508
  v3815
def k0_mult300 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c2_i32_2489 : BitVec 32 := 2#32
  let v3786 : BitVec 32 := Scalar.addi v3302 c2_i32_2489
  let c1_i32_2490 : BitVec 32 := 1#32
  let v3787 : BitVec 32 := Scalar.subi v3786 c1_i32_2490
  let c256_i32_2516 : BitVec 32 := 256#32
  let v3829 : BitVec 32 := Scalar.muli v3787 c256_i32_2516
  v3829
def k0_mult301 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c2_i32 : BitVec 32 := 2#32
  let v3785 : BitVec 32 := Scalar.addi v3302 c2_i32
  let c256_i32_2525 : BitVec 32 := 256#32
  let v3842 : BitVec 32 := Scalar.muli v3785 c256_i32_2525
  v3842
def k0_mult302 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c2_i32_2489 : BitVec 32 := 2#32
  let v3786 : BitVec 32 := Scalar.addi v3302 c2_i32_2489
  let c1_i32_2490 : BitVec 32 := 1#32
  let v3787 : BitVec 32 := Scalar.subi v3786 c1_i32_2490
  let c256_i32_2533 : BitVec 32 := 256#32
  let v3856 : BitVec 32 := Scalar.muli v3787 c256_i32_2533
  v3856
def k0_mult303 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c2_i32 : BitVec 32 := 2#32
  let v3785 : BitVec 32 := Scalar.addi v3302 c2_i32
  let c256_i32_2542 : BitVec 32 := 256#32
  let v3869 : BitVec 32 := Scalar.muli v3785 c256_i32_2542
  v3869
def k0_mult304 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c2_i32_2489 : BitVec 32 := 2#32
  let v3786 : BitVec 32 := Scalar.addi v3302 c2_i32_2489
  let c1_i32_2490 : BitVec 32 := 1#32
  let v3787 : BitVec 32 := Scalar.subi v3786 c1_i32_2490
  let c256_i32_2550 : BitVec 32 := 256#32
  let v3883 : BitVec 32 := Scalar.muli v3787 c256_i32_2550
  v3883
def k0_mult305 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c2_i32 : BitVec 32 := 2#32
  let v3785 : BitVec 32 := Scalar.addi v3302 c2_i32
  let c256_i32_2559 : BitVec 32 := 256#32
  let v3896 : BitVec 32 := Scalar.muli v3785 c256_i32_2559
  v3896
def k0_mult306 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c2_i32_2489 : BitVec 32 := 2#32
  let v3786 : BitVec 32 := Scalar.addi v3302 c2_i32_2489
  let c1_i32_2490 : BitVec 32 := 1#32
  let v3787 : BitVec 32 := Scalar.subi v3786 c1_i32_2490
  let c256_i32_2567 : BitVec 32 := 256#32
  let v3910 : BitVec 32 := Scalar.muli v3787 c256_i32_2567
  v3910
def k0_mult307 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c2_i32 : BitVec 32 := 2#32
  let v3785 : BitVec 32 := Scalar.addi v3302 c2_i32
  let c256_i32_2576 : BitVec 32 := 256#32
  let v3923 : BitVec 32 := Scalar.muli v3785 c256_i32_2576
  v3923
def k0_mult308 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c2_i32_2489 : BitVec 32 := 2#32
  let v3786 : BitVec 32 := Scalar.addi v3302 c2_i32_2489
  let c1_i32_2490 : BitVec 32 := 1#32
  let v3787 : BitVec 32 := Scalar.subi v3786 c1_i32_2490
  let c256_i32_2584 : BitVec 32 := 256#32
  let v3937 : BitVec 32 := Scalar.muli v3787 c256_i32_2584
  v3937
def k0_mult309 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c2_i32 : BitVec 32 := 2#32
  let v3785 : BitVec 32 := Scalar.addi v3302 c2_i32
  let c256_i32_2593 : BitVec 32 := 256#32
  let v3950 : BitVec 32 := Scalar.muli v3785 c256_i32_2593
  v3950
def k0_mult310 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c2_i32_2489 : BitVec 32 := 2#32
  let v3786 : BitVec 32 := Scalar.addi v3302 c2_i32_2489
  let c1_i32_2490 : BitVec 32 := 1#32
  let v3787 : BitVec 32 := Scalar.subi v3786 c1_i32_2490
  let c256_i32_2601 : BitVec 32 := 256#32
  let v3964 : BitVec 32 := Scalar.muli v3787 c256_i32_2601
  v3964
def k0_mult311 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c2_i32 : BitVec 32 := 2#32
  let v3785 : BitVec 32 := Scalar.addi v3302 c2_i32
  let c256_i32_2610 : BitVec 32 := 256#32
  let v3977 : BitVec 32 := Scalar.muli v3785 c256_i32_2610
  v3977
def k0_mult312 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c2_i32_2489 : BitVec 32 := 2#32
  let v3786 : BitVec 32 := Scalar.addi v3302 c2_i32_2489
  let c1_i32_2490 : BitVec 32 := 1#32
  let v3787 : BitVec 32 := Scalar.subi v3786 c1_i32_2490
  let c256_i32_2618 : BitVec 32 := 256#32
  let v3991 : BitVec 32 := Scalar.muli v3787 c256_i32_2618
  v3991
def k0_mult313 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c3_i32_2627 : BitVec 32 := 3#32
  let v4007 : BitVec 32 := Scalar.addi v3302 c3_i32_2627
  let c256_i32_2630 : BitVec 32 := 256#32
  let v4010 : BitVec 32 := Scalar.muli v4007 c256_i32_2630
  v4010
def k0_mult314 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c3_i32_2628 : BitVec 32 := 3#32
  let v4008 : BitVec 32 := Scalar.addi v3302 c3_i32_2628
  let c1_i32_2629 : BitVec 32 := 1#32
  let v4009 : BitVec 32 := Scalar.subi v4008 c1_i32_2629
  let c256_i32_2638 : BitVec 32 := 256#32
  let v4024 : BitVec 32 := Scalar.muli v4009 c256_i32_2638
  v4024
def k0_mult315 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c3_i32_2627 : BitVec 32 := 3#32
  let v4007 : BitVec 32 := Scalar.addi v3302 c3_i32_2627
  let c256_i32_2647 : BitVec 32 := 256#32
  let v4037 : BitVec 32 := Scalar.muli v4007 c256_i32_2647
  v4037
def k0_mult316 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c3_i32_2628 : BitVec 32 := 3#32
  let v4008 : BitVec 32 := Scalar.addi v3302 c3_i32_2628
  let c1_i32_2629 : BitVec 32 := 1#32
  let v4009 : BitVec 32 := Scalar.subi v4008 c1_i32_2629
  let c256_i32_2655 : BitVec 32 := 256#32
  let v4051 : BitVec 32 := Scalar.muli v4009 c256_i32_2655
  v4051
def k0_mult317 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c3_i32_2627 : BitVec 32 := 3#32
  let v4007 : BitVec 32 := Scalar.addi v3302 c3_i32_2627
  let c256_i32_2664 : BitVec 32 := 256#32
  let v4064 : BitVec 32 := Scalar.muli v4007 c256_i32_2664
  v4064
def k0_mult318 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c3_i32_2628 : BitVec 32 := 3#32
  let v4008 : BitVec 32 := Scalar.addi v3302 c3_i32_2628
  let c1_i32_2629 : BitVec 32 := 1#32
  let v4009 : BitVec 32 := Scalar.subi v4008 c1_i32_2629
  let c256_i32_2672 : BitVec 32 := 256#32
  let v4078 : BitVec 32 := Scalar.muli v4009 c256_i32_2672
  v4078
def k0_mult319 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c3_i32_2627 : BitVec 32 := 3#32
  let v4007 : BitVec 32 := Scalar.addi v3302 c3_i32_2627
  let c256_i32_2681 : BitVec 32 := 256#32
  let v4091 : BitVec 32 := Scalar.muli v4007 c256_i32_2681
  v4091
def k0_mult320 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c3_i32_2628 : BitVec 32 := 3#32
  let v4008 : BitVec 32 := Scalar.addi v3302 c3_i32_2628
  let c1_i32_2629 : BitVec 32 := 1#32
  let v4009 : BitVec 32 := Scalar.subi v4008 c1_i32_2629
  let c256_i32_2689 : BitVec 32 := 256#32
  let v4105 : BitVec 32 := Scalar.muli v4009 c256_i32_2689
  v4105
def k0_mult321 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c3_i32_2627 : BitVec 32 := 3#32
  let v4007 : BitVec 32 := Scalar.addi v3302 c3_i32_2627
  let c256_i32_2698 : BitVec 32 := 256#32
  let v4118 : BitVec 32 := Scalar.muli v4007 c256_i32_2698
  v4118
def k0_mult322 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c3_i32_2628 : BitVec 32 := 3#32
  let v4008 : BitVec 32 := Scalar.addi v3302 c3_i32_2628
  let c1_i32_2629 : BitVec 32 := 1#32
  let v4009 : BitVec 32 := Scalar.subi v4008 c1_i32_2629
  let c256_i32_2706 : BitVec 32 := 256#32
  let v4132 : BitVec 32 := Scalar.muli v4009 c256_i32_2706
  v4132
def k0_mult323 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c3_i32_2627 : BitVec 32 := 3#32
  let v4007 : BitVec 32 := Scalar.addi v3302 c3_i32_2627
  let c256_i32_2715 : BitVec 32 := 256#32
  let v4145 : BitVec 32 := Scalar.muli v4007 c256_i32_2715
  v4145
def k0_mult324 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c3_i32_2628 : BitVec 32 := 3#32
  let v4008 : BitVec 32 := Scalar.addi v3302 c3_i32_2628
  let c1_i32_2629 : BitVec 32 := 1#32
  let v4009 : BitVec 32 := Scalar.subi v4008 c1_i32_2629
  let c256_i32_2723 : BitVec 32 := 256#32
  let v4159 : BitVec 32 := Scalar.muli v4009 c256_i32_2723
  v4159
def k0_mult325 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c3_i32_2627 : BitVec 32 := 3#32
  let v4007 : BitVec 32 := Scalar.addi v3302 c3_i32_2627
  let c256_i32_2732 : BitVec 32 := 256#32
  let v4172 : BitVec 32 := Scalar.muli v4007 c256_i32_2732
  v4172
def k0_mult326 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c3_i32_2628 : BitVec 32 := 3#32
  let v4008 : BitVec 32 := Scalar.addi v3302 c3_i32_2628
  let c1_i32_2629 : BitVec 32 := 1#32
  let v4009 : BitVec 32 := Scalar.subi v4008 c1_i32_2629
  let c256_i32_2740 : BitVec 32 := 256#32
  let v4186 : BitVec 32 := Scalar.muli v4009 c256_i32_2740
  v4186
def k0_mult327 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c3_i32_2627 : BitVec 32 := 3#32
  let v4007 : BitVec 32 := Scalar.addi v3302 c3_i32_2627
  let c256_i32_2749 : BitVec 32 := 256#32
  let v4199 : BitVec 32 := Scalar.muli v4007 c256_i32_2749
  v4199
def k0_mult328 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c3_i32_2628 : BitVec 32 := 3#32
  let v4008 : BitVec 32 := Scalar.addi v3302 c3_i32_2628
  let c1_i32_2629 : BitVec 32 := 1#32
  let v4009 : BitVec 32 := Scalar.subi v4008 c1_i32_2629
  let c256_i32_2757 : BitVec 32 := 256#32
  let v4213 : BitVec 32 := Scalar.muli v4009 c256_i32_2757
  v4213
def k0_mult329 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c4_i32 : BitVec 32 := 4#32
  let v4229 : BitVec 32 := Scalar.addi v3302 c4_i32
  let c256_i32_2768 : BitVec 32 := 256#32
  let v4232 : BitVec 32 := Scalar.muli v4229 c256_i32_2768
  v4232
def k0_mult330 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c4_i32_2766 : BitVec 32 := 4#32
  let v4230 : BitVec 32 := Scalar.addi v3302 c4_i32_2766
  let c1_i32_2767 : BitVec 32 := 1#32
  let v4231 : BitVec 32 := Scalar.subi v4230 c1_i32_2767
  let c256_i32_2776 : BitVec 32 := 256#32
  let v4246 : BitVec 32 := Scalar.muli v4231 c256_i32_2776
  v4246
def k0_mult331 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c4_i32 : BitVec 32 := 4#32
  let v4229 : BitVec 32 := Scalar.addi v3302 c4_i32
  let c256_i32_2785 : BitVec 32 := 256#32
  let v4259 : BitVec 32 := Scalar.muli v4229 c256_i32_2785
  v4259
def k0_mult332 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c4_i32_2766 : BitVec 32 := 4#32
  let v4230 : BitVec 32 := Scalar.addi v3302 c4_i32_2766
  let c1_i32_2767 : BitVec 32 := 1#32
  let v4231 : BitVec 32 := Scalar.subi v4230 c1_i32_2767
  let c256_i32_2793 : BitVec 32 := 256#32
  let v4273 : BitVec 32 := Scalar.muli v4231 c256_i32_2793
  v4273
def k0_mult333 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c4_i32 : BitVec 32 := 4#32
  let v4229 : BitVec 32 := Scalar.addi v3302 c4_i32
  let c256_i32_2802 : BitVec 32 := 256#32
  let v4286 : BitVec 32 := Scalar.muli v4229 c256_i32_2802
  v4286
def k0_mult334 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c4_i32_2766 : BitVec 32 := 4#32
  let v4230 : BitVec 32 := Scalar.addi v3302 c4_i32_2766
  let c1_i32_2767 : BitVec 32 := 1#32
  let v4231 : BitVec 32 := Scalar.subi v4230 c1_i32_2767
  let c256_i32_2810 : BitVec 32 := 256#32
  let v4300 : BitVec 32 := Scalar.muli v4231 c256_i32_2810
  v4300
def k0_mult335 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c4_i32 : BitVec 32 := 4#32
  let v4229 : BitVec 32 := Scalar.addi v3302 c4_i32
  let c256_i32_2819 : BitVec 32 := 256#32
  let v4313 : BitVec 32 := Scalar.muli v4229 c256_i32_2819
  v4313
def k0_mult336 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c4_i32_2766 : BitVec 32 := 4#32
  let v4230 : BitVec 32 := Scalar.addi v3302 c4_i32_2766
  let c1_i32_2767 : BitVec 32 := 1#32
  let v4231 : BitVec 32 := Scalar.subi v4230 c1_i32_2767
  let c256_i32_2827 : BitVec 32 := 256#32
  let v4327 : BitVec 32 := Scalar.muli v4231 c256_i32_2827
  v4327
def k0_mult337 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c4_i32 : BitVec 32 := 4#32
  let v4229 : BitVec 32 := Scalar.addi v3302 c4_i32
  let c256_i32_2836 : BitVec 32 := 256#32
  let v4340 : BitVec 32 := Scalar.muli v4229 c256_i32_2836
  v4340
def k0_mult338 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c4_i32_2766 : BitVec 32 := 4#32
  let v4230 : BitVec 32 := Scalar.addi v3302 c4_i32_2766
  let c1_i32_2767 : BitVec 32 := 1#32
  let v4231 : BitVec 32 := Scalar.subi v4230 c1_i32_2767
  let c256_i32_2844 : BitVec 32 := 256#32
  let v4354 : BitVec 32 := Scalar.muli v4231 c256_i32_2844
  v4354
def k0_mult339 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c4_i32 : BitVec 32 := 4#32
  let v4229 : BitVec 32 := Scalar.addi v3302 c4_i32
  let c256_i32_2853 : BitVec 32 := 256#32
  let v4367 : BitVec 32 := Scalar.muli v4229 c256_i32_2853
  v4367
def k0_mult340 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c4_i32_2766 : BitVec 32 := 4#32
  let v4230 : BitVec 32 := Scalar.addi v3302 c4_i32_2766
  let c1_i32_2767 : BitVec 32 := 1#32
  let v4231 : BitVec 32 := Scalar.subi v4230 c1_i32_2767
  let c256_i32_2861 : BitVec 32 := 256#32
  let v4381 : BitVec 32 := Scalar.muli v4231 c256_i32_2861
  v4381
def k0_mult341 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c4_i32 : BitVec 32 := 4#32
  let v4229 : BitVec 32 := Scalar.addi v3302 c4_i32
  let c256_i32_2870 : BitVec 32 := 256#32
  let v4394 : BitVec 32 := Scalar.muli v4229 c256_i32_2870
  v4394
def k0_mult342 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c4_i32_2766 : BitVec 32 := 4#32
  let v4230 : BitVec 32 := Scalar.addi v3302 c4_i32_2766
  let c1_i32_2767 : BitVec 32 := 1#32
  let v4231 : BitVec 32 := Scalar.subi v4230 c1_i32_2767
  let c256_i32_2878 : BitVec 32 := 256#32
  let v4408 : BitVec 32 := Scalar.muli v4231 c256_i32_2878
  v4408
def k0_mult343 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c4_i32 : BitVec 32 := 4#32
  let v4229 : BitVec 32 := Scalar.addi v3302 c4_i32
  let c256_i32_2887 : BitVec 32 := 256#32
  let v4421 : BitVec 32 := Scalar.muli v4229 c256_i32_2887
  v4421
def k0_mult344 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c4_i32_2766 : BitVec 32 := 4#32
  let v4230 : BitVec 32 := Scalar.addi v3302 c4_i32_2766
  let c1_i32_2767 : BitVec 32 := 1#32
  let v4231 : BitVec 32 := Scalar.subi v4230 c1_i32_2767
  let c256_i32_2895 : BitVec 32 := 256#32
  let v4435 : BitVec 32 := Scalar.muli v4231 c256_i32_2895
  v4435
def k0_mult345 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c5_i32 : BitVec 32 := 5#32
  let v4451 : BitVec 32 := Scalar.addi v3302 c5_i32
  let c256_i32_2906 : BitVec 32 := 256#32
  let v4454 : BitVec 32 := Scalar.muli v4451 c256_i32_2906
  v4454
def k0_mult346 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c5_i32_2904 : BitVec 32 := 5#32
  let v4452 : BitVec 32 := Scalar.addi v3302 c5_i32_2904
  let c1_i32_2905 : BitVec 32 := 1#32
  let v4453 : BitVec 32 := Scalar.subi v4452 c1_i32_2905
  let c256_i32_2914 : BitVec 32 := 256#32
  let v4468 : BitVec 32 := Scalar.muli v4453 c256_i32_2914
  v4468
def k0_mult347 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c5_i32 : BitVec 32 := 5#32
  let v4451 : BitVec 32 := Scalar.addi v3302 c5_i32
  let c256_i32_2923 : BitVec 32 := 256#32
  let v4481 : BitVec 32 := Scalar.muli v4451 c256_i32_2923
  v4481
def k0_mult348 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c5_i32_2904 : BitVec 32 := 5#32
  let v4452 : BitVec 32 := Scalar.addi v3302 c5_i32_2904
  let c1_i32_2905 : BitVec 32 := 1#32
  let v4453 : BitVec 32 := Scalar.subi v4452 c1_i32_2905
  let c256_i32_2931 : BitVec 32 := 256#32
  let v4495 : BitVec 32 := Scalar.muli v4453 c256_i32_2931
  v4495
def k0_mult349 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c5_i32 : BitVec 32 := 5#32
  let v4451 : BitVec 32 := Scalar.addi v3302 c5_i32
  let c256_i32_2940 : BitVec 32 := 256#32
  let v4508 : BitVec 32 := Scalar.muli v4451 c256_i32_2940
  v4508
def k0_mult350 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c5_i32_2904 : BitVec 32 := 5#32
  let v4452 : BitVec 32 := Scalar.addi v3302 c5_i32_2904
  let c1_i32_2905 : BitVec 32 := 1#32
  let v4453 : BitVec 32 := Scalar.subi v4452 c1_i32_2905
  let c256_i32_2948 : BitVec 32 := 256#32
  let v4522 : BitVec 32 := Scalar.muli v4453 c256_i32_2948
  v4522
def k0_mult351 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c5_i32 : BitVec 32 := 5#32
  let v4451 : BitVec 32 := Scalar.addi v3302 c5_i32
  let c256_i32_2957 : BitVec 32 := 256#32
  let v4535 : BitVec 32 := Scalar.muli v4451 c256_i32_2957
  v4535
def k0_mult352 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c5_i32_2904 : BitVec 32 := 5#32
  let v4452 : BitVec 32 := Scalar.addi v3302 c5_i32_2904
  let c1_i32_2905 : BitVec 32 := 1#32
  let v4453 : BitVec 32 := Scalar.subi v4452 c1_i32_2905
  let c256_i32_2965 : BitVec 32 := 256#32
  let v4549 : BitVec 32 := Scalar.muli v4453 c256_i32_2965
  v4549
def k0_mult353 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c5_i32 : BitVec 32 := 5#32
  let v4451 : BitVec 32 := Scalar.addi v3302 c5_i32
  let c256_i32_2974 : BitVec 32 := 256#32
  let v4562 : BitVec 32 := Scalar.muli v4451 c256_i32_2974
  v4562
def k0_mult354 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c5_i32_2904 : BitVec 32 := 5#32
  let v4452 : BitVec 32 := Scalar.addi v3302 c5_i32_2904
  let c1_i32_2905 : BitVec 32 := 1#32
  let v4453 : BitVec 32 := Scalar.subi v4452 c1_i32_2905
  let c256_i32_2982 : BitVec 32 := 256#32
  let v4576 : BitVec 32 := Scalar.muli v4453 c256_i32_2982
  v4576
def k0_mult355 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c5_i32 : BitVec 32 := 5#32
  let v4451 : BitVec 32 := Scalar.addi v3302 c5_i32
  let c256_i32_2991 : BitVec 32 := 256#32
  let v4589 : BitVec 32 := Scalar.muli v4451 c256_i32_2991
  v4589
def k0_mult356 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c5_i32_2904 : BitVec 32 := 5#32
  let v4452 : BitVec 32 := Scalar.addi v3302 c5_i32_2904
  let c1_i32_2905 : BitVec 32 := 1#32
  let v4453 : BitVec 32 := Scalar.subi v4452 c1_i32_2905
  let c256_i32_2999 : BitVec 32 := 256#32
  let v4603 : BitVec 32 := Scalar.muli v4453 c256_i32_2999
  v4603
def k0_mult357 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c5_i32 : BitVec 32 := 5#32
  let v4451 : BitVec 32 := Scalar.addi v3302 c5_i32
  let c256_i32_3008 : BitVec 32 := 256#32
  let v4616 : BitVec 32 := Scalar.muli v4451 c256_i32_3008
  v4616
def k0_mult358 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c5_i32_2904 : BitVec 32 := 5#32
  let v4452 : BitVec 32 := Scalar.addi v3302 c5_i32_2904
  let c1_i32_2905 : BitVec 32 := 1#32
  let v4453 : BitVec 32 := Scalar.subi v4452 c1_i32_2905
  let c256_i32_3016 : BitVec 32 := 256#32
  let v4630 : BitVec 32 := Scalar.muli v4453 c256_i32_3016
  v4630
def k0_mult359 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c5_i32 : BitVec 32 := 5#32
  let v4451 : BitVec 32 := Scalar.addi v3302 c5_i32
  let c256_i32_3025 : BitVec 32 := 256#32
  let v4643 : BitVec 32 := Scalar.muli v4451 c256_i32_3025
  v4643
def k0_mult360 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c5_i32_2904 : BitVec 32 := 5#32
  let v4452 : BitVec 32 := Scalar.addi v3302 c5_i32_2904
  let c1_i32_2905 : BitVec 32 := 1#32
  let v4453 : BitVec 32 := Scalar.subi v4452 c1_i32_2905
  let c256_i32_3033 : BitVec 32 := 256#32
  let v4657 : BitVec 32 := Scalar.muli v4453 c256_i32_3033
  v4657
def k0_mult361 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c6_i32 : BitVec 32 := 6#32
  let v4673 : BitVec 32 := Scalar.addi v3302 c6_i32
  let c256_i32_3044 : BitVec 32 := 256#32
  let v4676 : BitVec 32 := Scalar.muli v4673 c256_i32_3044
  v4676
def k0_mult362 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c6_i32_3042 : BitVec 32 := 6#32
  let v4674 : BitVec 32 := Scalar.addi v3302 c6_i32_3042
  let c1_i32_3043 : BitVec 32 := 1#32
  let v4675 : BitVec 32 := Scalar.subi v4674 c1_i32_3043
  let c256_i32_3052 : BitVec 32 := 256#32
  let v4690 : BitVec 32 := Scalar.muli v4675 c256_i32_3052
  v4690
def k0_mult363 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c6_i32 : BitVec 32 := 6#32
  let v4673 : BitVec 32 := Scalar.addi v3302 c6_i32
  let c256_i32_3061 : BitVec 32 := 256#32
  let v4703 : BitVec 32 := Scalar.muli v4673 c256_i32_3061
  v4703
def k0_mult364 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c6_i32_3042 : BitVec 32 := 6#32
  let v4674 : BitVec 32 := Scalar.addi v3302 c6_i32_3042
  let c1_i32_3043 : BitVec 32 := 1#32
  let v4675 : BitVec 32 := Scalar.subi v4674 c1_i32_3043
  let c256_i32_3069 : BitVec 32 := 256#32
  let v4717 : BitVec 32 := Scalar.muli v4675 c256_i32_3069
  v4717
def k0_mult365 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c6_i32 : BitVec 32 := 6#32
  let v4673 : BitVec 32 := Scalar.addi v3302 c6_i32
  let c256_i32_3078 : BitVec 32 := 256#32
  let v4730 : BitVec 32 := Scalar.muli v4673 c256_i32_3078
  v4730
def k0_mult366 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c6_i32_3042 : BitVec 32 := 6#32
  let v4674 : BitVec 32 := Scalar.addi v3302 c6_i32_3042
  let c1_i32_3043 : BitVec 32 := 1#32
  let v4675 : BitVec 32 := Scalar.subi v4674 c1_i32_3043
  let c256_i32_3086 : BitVec 32 := 256#32
  let v4744 : BitVec 32 := Scalar.muli v4675 c256_i32_3086
  v4744
def k0_mult367 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c6_i32 : BitVec 32 := 6#32
  let v4673 : BitVec 32 := Scalar.addi v3302 c6_i32
  let c256_i32_3095 : BitVec 32 := 256#32
  let v4757 : BitVec 32 := Scalar.muli v4673 c256_i32_3095
  v4757
def k0_mult368 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c6_i32_3042 : BitVec 32 := 6#32
  let v4674 : BitVec 32 := Scalar.addi v3302 c6_i32_3042
  let c1_i32_3043 : BitVec 32 := 1#32
  let v4675 : BitVec 32 := Scalar.subi v4674 c1_i32_3043
  let c256_i32_3103 : BitVec 32 := 256#32
  let v4771 : BitVec 32 := Scalar.muli v4675 c256_i32_3103
  v4771
def k0_mult369 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c6_i32 : BitVec 32 := 6#32
  let v4673 : BitVec 32 := Scalar.addi v3302 c6_i32
  let c256_i32_3112 : BitVec 32 := 256#32
  let v4784 : BitVec 32 := Scalar.muli v4673 c256_i32_3112
  v4784
def k0_mult370 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c6_i32_3042 : BitVec 32 := 6#32
  let v4674 : BitVec 32 := Scalar.addi v3302 c6_i32_3042
  let c1_i32_3043 : BitVec 32 := 1#32
  let v4675 : BitVec 32 := Scalar.subi v4674 c1_i32_3043
  let c256_i32_3120 : BitVec 32 := 256#32
  let v4798 : BitVec 32 := Scalar.muli v4675 c256_i32_3120
  v4798
def k0_mult371 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c6_i32 : BitVec 32 := 6#32
  let v4673 : BitVec 32 := Scalar.addi v3302 c6_i32
  let c256_i32_3129 : BitVec 32 := 256#32
  let v4811 : BitVec 32 := Scalar.muli v4673 c256_i32_3129
  v4811
def k0_mult372 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c6_i32_3042 : BitVec 32 := 6#32
  let v4674 : BitVec 32 := Scalar.addi v3302 c6_i32_3042
  let c1_i32_3043 : BitVec 32 := 1#32
  let v4675 : BitVec 32 := Scalar.subi v4674 c1_i32_3043
  let c256_i32_3137 : BitVec 32 := 256#32
  let v4825 : BitVec 32 := Scalar.muli v4675 c256_i32_3137
  v4825
def k0_mult373 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c6_i32 : BitVec 32 := 6#32
  let v4673 : BitVec 32 := Scalar.addi v3302 c6_i32
  let c256_i32_3146 : BitVec 32 := 256#32
  let v4838 : BitVec 32 := Scalar.muli v4673 c256_i32_3146
  v4838
def k0_mult374 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c6_i32_3042 : BitVec 32 := 6#32
  let v4674 : BitVec 32 := Scalar.addi v3302 c6_i32_3042
  let c1_i32_3043 : BitVec 32 := 1#32
  let v4675 : BitVec 32 := Scalar.subi v4674 c1_i32_3043
  let c256_i32_3154 : BitVec 32 := 256#32
  let v4852 : BitVec 32 := Scalar.muli v4675 c256_i32_3154
  v4852
def k0_mult375 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c6_i32 : BitVec 32 := 6#32
  let v4673 : BitVec 32 := Scalar.addi v3302 c6_i32
  let c256_i32_3163 : BitVec 32 := 256#32
  let v4865 : BitVec 32 := Scalar.muli v4673 c256_i32_3163
  v4865
def k0_mult376 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c6_i32_3042 : BitVec 32 := 6#32
  let v4674 : BitVec 32 := Scalar.addi v3302 c6_i32_3042
  let c1_i32_3043 : BitVec 32 := 1#32
  let v4675 : BitVec 32 := Scalar.subi v4674 c1_i32_3043
  let c256_i32_3171 : BitVec 32 := 256#32
  let v4879 : BitVec 32 := Scalar.muli v4675 c256_i32_3171
  v4879
def k0_mult377 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c7_i32 : BitVec 32 := 7#32
  let v4895 : BitVec 32 := Scalar.addi v3302 c7_i32
  let c256_i32_3182 : BitVec 32 := 256#32
  let v4898 : BitVec 32 := Scalar.muli v4895 c256_i32_3182
  v4898
def k0_mult378 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c7_i32_3180 : BitVec 32 := 7#32
  let v4896 : BitVec 32 := Scalar.addi v3302 c7_i32_3180
  let c1_i32_3181 : BitVec 32 := 1#32
  let v4897 : BitVec 32 := Scalar.subi v4896 c1_i32_3181
  let c256_i32_3190 : BitVec 32 := 256#32
  let v4912 : BitVec 32 := Scalar.muli v4897 c256_i32_3190
  v4912
def k0_mult379 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c7_i32 : BitVec 32 := 7#32
  let v4895 : BitVec 32 := Scalar.addi v3302 c7_i32
  let c256_i32_3199 : BitVec 32 := 256#32
  let v4925 : BitVec 32 := Scalar.muli v4895 c256_i32_3199
  v4925
def k0_mult380 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c7_i32_3180 : BitVec 32 := 7#32
  let v4896 : BitVec 32 := Scalar.addi v3302 c7_i32_3180
  let c1_i32_3181 : BitVec 32 := 1#32
  let v4897 : BitVec 32 := Scalar.subi v4896 c1_i32_3181
  let c256_i32_3207 : BitVec 32 := 256#32
  let v4939 : BitVec 32 := Scalar.muli v4897 c256_i32_3207
  v4939
def k0_mult381 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c7_i32 : BitVec 32 := 7#32
  let v4895 : BitVec 32 := Scalar.addi v3302 c7_i32
  let c256_i32_3216 : BitVec 32 := 256#32
  let v4952 : BitVec 32 := Scalar.muli v4895 c256_i32_3216
  v4952
def k0_mult382 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c7_i32_3180 : BitVec 32 := 7#32
  let v4896 : BitVec 32 := Scalar.addi v3302 c7_i32_3180
  let c1_i32_3181 : BitVec 32 := 1#32
  let v4897 : BitVec 32 := Scalar.subi v4896 c1_i32_3181
  let c256_i32_3224 : BitVec 32 := 256#32
  let v4966 : BitVec 32 := Scalar.muli v4897 c256_i32_3224
  v4966
def k0_mult383 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c7_i32 : BitVec 32 := 7#32
  let v4895 : BitVec 32 := Scalar.addi v3302 c7_i32
  let c256_i32_3233 : BitVec 32 := 256#32
  let v4979 : BitVec 32 := Scalar.muli v4895 c256_i32_3233
  v4979
def k0_mult384 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c7_i32_3180 : BitVec 32 := 7#32
  let v4896 : BitVec 32 := Scalar.addi v3302 c7_i32_3180
  let c1_i32_3181 : BitVec 32 := 1#32
  let v4897 : BitVec 32 := Scalar.subi v4896 c1_i32_3181
  let c256_i32_3241 : BitVec 32 := 256#32
  let v4993 : BitVec 32 := Scalar.muli v4897 c256_i32_3241
  v4993
def k0_mult385 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c7_i32 : BitVec 32 := 7#32
  let v4895 : BitVec 32 := Scalar.addi v3302 c7_i32
  let c256_i32_3250 : BitVec 32 := 256#32
  let v5006 : BitVec 32 := Scalar.muli v4895 c256_i32_3250
  v5006
def k0_mult386 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c7_i32_3180 : BitVec 32 := 7#32
  let v4896 : BitVec 32 := Scalar.addi v3302 c7_i32_3180
  let c1_i32_3181 : BitVec 32 := 1#32
  let v4897 : BitVec 32 := Scalar.subi v4896 c1_i32_3181
  let c256_i32_3258 : BitVec 32 := 256#32
  let v5020 : BitVec 32 := Scalar.muli v4897 c256_i32_3258
  v5020
def k0_mult387 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c7_i32 : BitVec 32 := 7#32
  let v4895 : BitVec 32 := Scalar.addi v3302 c7_i32
  let c256_i32_3267 : BitVec 32 := 256#32
  let v5033 : BitVec 32 := Scalar.muli v4895 c256_i32_3267
  v5033
def k0_mult388 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c7_i32_3180 : BitVec 32 := 7#32
  let v4896 : BitVec 32 := Scalar.addi v3302 c7_i32_3180
  let c1_i32_3181 : BitVec 32 := 1#32
  let v4897 : BitVec 32 := Scalar.subi v4896 c1_i32_3181
  let c256_i32_3275 : BitVec 32 := 256#32
  let v5047 : BitVec 32 := Scalar.muli v4897 c256_i32_3275
  v5047
def k0_mult389 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c7_i32 : BitVec 32 := 7#32
  let v4895 : BitVec 32 := Scalar.addi v3302 c7_i32
  let c256_i32_3284 : BitVec 32 := 256#32
  let v5060 : BitVec 32 := Scalar.muli v4895 c256_i32_3284
  v5060
def k0_mult390 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c7_i32_3180 : BitVec 32 := 7#32
  let v4896 : BitVec 32 := Scalar.addi v3302 c7_i32_3180
  let c1_i32_3181 : BitVec 32 := 1#32
  let v4897 : BitVec 32 := Scalar.subi v4896 c1_i32_3181
  let c256_i32_3292 : BitVec 32 := 256#32
  let v5074 : BitVec 32 := Scalar.muli v4897 c256_i32_3292
  v5074
def k0_mult391 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c7_i32 : BitVec 32 := 7#32
  let v4895 : BitVec 32 := Scalar.addi v3302 c7_i32
  let c256_i32_3301 : BitVec 32 := 256#32
  let v5087 : BitVec 32 := Scalar.muli v4895 c256_i32_3301
  v5087
def k0_mult392 (k0_t2 : Fin k0_t2_loop.trips) : BitVec 32 :=
  let c8_i32 : BitVec 32 := 8#32
  let c0_i32_1231 : BitVec 32 := 0#32
  let c1_i32_1233 : BitVec 32 := 1#32
  let arg11 : BitVec 32 := Scf.iv c0_i32_1231 c1_i32_1233 k0_t2
  let v3301 : BitVec 32 := Scalar.muli c8_i32 arg11
  let c1_i32_2207 : BitVec 32 := 1#32
  let v3302 : BitVec 32 := Scalar.addi v3301 c1_i32_2207
  let c7_i32_3180 : BitVec 32 := 7#32
  let v4896 : BitVec 32 := Scalar.addi v3302 c7_i32_3180
  let c1_i32_3181 : BitVec 32 := 1#32
  let v4897 : BitVec 32 := Scalar.subi v4896 c1_i32_3181
  let c256_i32_3309 : BitVec 32 := 256#32
  let v5101 : BitVec 32 := Scalar.muli v4897 c256_i32_3309
  v5101
def k0_mult393 : BitVec 32 :=
  let c6400_i32_1239 : BitVec 32 := 6400#32
  c6400_i32_1239
def k0_mult394 : BitVec 32 :=
  let c6144_i32_1246 : BitVec 32 := 6144#32
  c6144_i32_1246
def k0_mult395 : BitVec 32 :=
  let c6400_i32_1255 : BitVec 32 := 6400#32
  c6400_i32_1255
def k0_mult396 : BitVec 32 :=
  let c6144_i32_1262 : BitVec 32 := 6144#32
  c6144_i32_1262
def k0_mult397 : BitVec 32 :=
  let c6400_i32_1271 : BitVec 32 := 6400#32
  c6400_i32_1271
def k0_mult398 : BitVec 32 :=
  let c6144_i32_1278 : BitVec 32 := 6144#32
  c6144_i32_1278
def k0_mult399 : BitVec 32 :=
  let c6400_i32_1287 : BitVec 32 := 6400#32
  c6400_i32_1287
def k0_mult400 : BitVec 32 :=
  let c6144_i32_1294 : BitVec 32 := 6144#32
  c6144_i32_1294
def k0_mult401 : BitVec 32 :=
  let c6400_i32_1303 : BitVec 32 := 6400#32
  c6400_i32_1303
def k0_mult402 : BitVec 32 :=
  let c6144_i32_1310 : BitVec 32 := 6144#32
  c6144_i32_1310
def k0_mult403 : BitVec 32 :=
  let c6400_i32_1319 : BitVec 32 := 6400#32
  c6400_i32_1319
def k0_mult404 : BitVec 32 :=
  let c6144_i32_1326 : BitVec 32 := 6144#32
  c6144_i32_1326
def k0_mult405 : BitVec 32 :=
  let c6400_i32_1335 : BitVec 32 := 6400#32
  c6400_i32_1335
def k0_mult406 : BitVec 32 :=
  let c6144_i32_1342 : BitVec 32 := 6144#32
  c6144_i32_1342
def k0_mult407 : BitVec 32 :=
  let c6400_i32_1351 : BitVec 32 := 6400#32
  c6400_i32_1351
def k0_mult408 : BitVec 32 :=
  let c6144_i32_1358 : BitVec 32 := 6144#32
  c6144_i32_1358
def k0_mult409 : BitVec 32 :=
  let c6656_i32_1367 : BitVec 32 := 6656#32
  c6656_i32_1367
def k0_mult410 : BitVec 32 :=
  let c6400_i32_1374 : BitVec 32 := 6400#32
  c6400_i32_1374
def k0_mult411 : BitVec 32 :=
  let c6656_i32_1383 : BitVec 32 := 6656#32
  c6656_i32_1383
def k0_mult412 : BitVec 32 :=
  let c6400_i32_1390 : BitVec 32 := 6400#32
  c6400_i32_1390
def k0_mult413 : BitVec 32 :=
  let c6656_i32_1399 : BitVec 32 := 6656#32
  c6656_i32_1399
def k0_mult414 : BitVec 32 :=
  let c6400_i32_1406 : BitVec 32 := 6400#32
  c6400_i32_1406
def k0_mult415 : BitVec 32 :=
  let c6656_i32_1415 : BitVec 32 := 6656#32
  c6656_i32_1415
def k0_mult416 : BitVec 32 :=
  let c6400_i32_1422 : BitVec 32 := 6400#32
  c6400_i32_1422
def k0_mult417 : BitVec 32 :=
  let c6656_i32_1431 : BitVec 32 := 6656#32
  c6656_i32_1431
def k0_mult418 : BitVec 32 :=
  let c6400_i32_1438 : BitVec 32 := 6400#32
  c6400_i32_1438
def k0_mult419 : BitVec 32 :=
  let c6656_i32_1447 : BitVec 32 := 6656#32
  c6656_i32_1447
def k0_mult420 : BitVec 32 :=
  let c6400_i32_1454 : BitVec 32 := 6400#32
  c6400_i32_1454
def k0_mult421 : BitVec 32 :=
  let c6656_i32_1463 : BitVec 32 := 6656#32
  c6656_i32_1463
def k0_mult422 : BitVec 32 :=
  let c6400_i32_1470 : BitVec 32 := 6400#32
  c6400_i32_1470
def k0_mult423 : BitVec 32 :=
  let c6656_i32_1479 : BitVec 32 := 6656#32
  c6656_i32_1479
def k0_mult424 : BitVec 32 :=
  let c6400_i32_1486 : BitVec 32 := 6400#32
  c6400_i32_1486
def k0_mult425 : BitVec 32 :=
  let c6912_i32_1495 : BitVec 32 := 6912#32
  c6912_i32_1495
def k0_mult426 : BitVec 32 :=
  let c6656_i32_1502 : BitVec 32 := 6656#32
  c6656_i32_1502
def k0_mult427 : BitVec 32 :=
  let c6912_i32_1511 : BitVec 32 := 6912#32
  c6912_i32_1511
def k0_mult428 : BitVec 32 :=
  let c6656_i32_1518 : BitVec 32 := 6656#32
  c6656_i32_1518
def k0_mult429 : BitVec 32 :=
  let c6912_i32_1527 : BitVec 32 := 6912#32
  c6912_i32_1527
def k0_mult430 : BitVec 32 :=
  let c6656_i32_1534 : BitVec 32 := 6656#32
  c6656_i32_1534
def k0_mult431 : BitVec 32 :=
  let c6912_i32_1543 : BitVec 32 := 6912#32
  c6912_i32_1543
def k0_mult432 : BitVec 32 :=
  let c6656_i32_1550 : BitVec 32 := 6656#32
  c6656_i32_1550
def k0_mult433 : BitVec 32 :=
  let c6912_i32_1559 : BitVec 32 := 6912#32
  c6912_i32_1559
def k0_mult434 : BitVec 32 :=
  let c6656_i32_1566 : BitVec 32 := 6656#32
  c6656_i32_1566
def k0_mult435 : BitVec 32 :=
  let c6912_i32_1575 : BitVec 32 := 6912#32
  c6912_i32_1575
def k0_mult436 : BitVec 32 :=
  let c6656_i32_1582 : BitVec 32 := 6656#32
  c6656_i32_1582
def k0_mult437 : BitVec 32 :=
  let c6912_i32_1591 : BitVec 32 := 6912#32
  c6912_i32_1591
def k0_mult438 : BitVec 32 :=
  let c6656_i32_1598 : BitVec 32 := 6656#32
  c6656_i32_1598
def k0_mult439 : BitVec 32 :=
  let c6912_i32_1607 : BitVec 32 := 6912#32
  c6912_i32_1607
def k0_mult440 : BitVec 32 :=
  let c6656_i32_1614 : BitVec 32 := 6656#32
  c6656_i32_1614
def k0_mult441 : BitVec 32 :=
  let c7168_i32_1623 : BitVec 32 := 7168#32
  c7168_i32_1623
def k0_mult442 : BitVec 32 :=
  let c6912_i32_1630 : BitVec 32 := 6912#32
  c6912_i32_1630
def k0_mult443 : BitVec 32 :=
  let c7168_i32_1639 : BitVec 32 := 7168#32
  c7168_i32_1639
def k0_mult444 : BitVec 32 :=
  let c6912_i32_1646 : BitVec 32 := 6912#32
  c6912_i32_1646
def k0_mult445 : BitVec 32 :=
  let c7168_i32_1655 : BitVec 32 := 7168#32
  c7168_i32_1655
def k0_mult446 : BitVec 32 :=
  let c6912_i32_1662 : BitVec 32 := 6912#32
  c6912_i32_1662
def k0_mult447 : BitVec 32 :=
  let c7168_i32_1671 : BitVec 32 := 7168#32
  c7168_i32_1671
def k0_mult448 : BitVec 32 :=
  let c6912_i32_1678 : BitVec 32 := 6912#32
  c6912_i32_1678
def k0_mult449 : BitVec 32 :=
  let c7168_i32_1687 : BitVec 32 := 7168#32
  c7168_i32_1687
def k0_mult450 : BitVec 32 :=
  let c6912_i32_1694 : BitVec 32 := 6912#32
  c6912_i32_1694
def k0_mult451 : BitVec 32 :=
  let c7168_i32_1703 : BitVec 32 := 7168#32
  c7168_i32_1703
def k0_mult452 : BitVec 32 :=
  let c6912_i32_1710 : BitVec 32 := 6912#32
  c6912_i32_1710
def k0_mult453 : BitVec 32 :=
  let c7168_i32_1719 : BitVec 32 := 7168#32
  c7168_i32_1719
def k0_mult454 : BitVec 32 :=
  let c6912_i32_1726 : BitVec 32 := 6912#32
  c6912_i32_1726
def k0_mult455 : BitVec 32 :=
  let c7168_i32_1735 : BitVec 32 := 7168#32
  c7168_i32_1735
def k0_mult456 : BitVec 32 :=
  let c6912_i32_1742 : BitVec 32 := 6912#32
  c6912_i32_1742
def k0_mult457 : BitVec 32 :=
  let c7424_i32_1751 : BitVec 32 := 7424#32
  c7424_i32_1751
def k0_mult458 : BitVec 32 :=
  let c7168_i32_1758 : BitVec 32 := 7168#32
  c7168_i32_1758
def k0_mult459 : BitVec 32 :=
  let c7424_i32_1767 : BitVec 32 := 7424#32
  c7424_i32_1767
def k0_mult460 : BitVec 32 :=
  let c7168_i32_1774 : BitVec 32 := 7168#32
  c7168_i32_1774
def k0_mult461 : BitVec 32 :=
  let c7424_i32_1783 : BitVec 32 := 7424#32
  c7424_i32_1783
def k0_mult462 : BitVec 32 :=
  let c7168_i32_1790 : BitVec 32 := 7168#32
  c7168_i32_1790
def k0_mult463 : BitVec 32 :=
  let c7424_i32_1799 : BitVec 32 := 7424#32
  c7424_i32_1799
def k0_mult464 : BitVec 32 :=
  let c7168_i32_1806 : BitVec 32 := 7168#32
  c7168_i32_1806
def k0_mult465 : BitVec 32 :=
  let c7424_i32_1815 : BitVec 32 := 7424#32
  c7424_i32_1815
def k0_mult466 : BitVec 32 :=
  let c7168_i32_1822 : BitVec 32 := 7168#32
  c7168_i32_1822
def k0_mult467 : BitVec 32 :=
  let c7424_i32_1831 : BitVec 32 := 7424#32
  c7424_i32_1831
def k0_mult468 : BitVec 32 :=
  let c7168_i32_1838 : BitVec 32 := 7168#32
  c7168_i32_1838
def k0_mult469 : BitVec 32 :=
  let c7424_i32_1847 : BitVec 32 := 7424#32
  c7424_i32_1847
def k0_mult470 : BitVec 32 :=
  let c7168_i32_1854 : BitVec 32 := 7168#32
  c7168_i32_1854
def k0_mult471 : BitVec 32 :=
  let c7424_i32_1863 : BitVec 32 := 7424#32
  c7424_i32_1863
def k0_mult472 : BitVec 32 :=
  let c7168_i32_1870 : BitVec 32 := 7168#32
  c7168_i32_1870
def k0_mult473 : BitVec 32 :=
  let c7680_i32_1879 : BitVec 32 := 7680#32
  c7680_i32_1879
def k0_mult474 : BitVec 32 :=
  let c7424_i32_1886 : BitVec 32 := 7424#32
  c7424_i32_1886
def k0_mult475 : BitVec 32 :=
  let c7680_i32_1895 : BitVec 32 := 7680#32
  c7680_i32_1895
def k0_mult476 : BitVec 32 :=
  let c7424_i32_1902 : BitVec 32 := 7424#32
  c7424_i32_1902
def k0_mult477 : BitVec 32 :=
  let c7680_i32_1911 : BitVec 32 := 7680#32
  c7680_i32_1911
def k0_mult478 : BitVec 32 :=
  let c7424_i32_1918 : BitVec 32 := 7424#32
  c7424_i32_1918
def k0_mult479 : BitVec 32 :=
  let c7680_i32_1927 : BitVec 32 := 7680#32
  c7680_i32_1927
def k0_mult480 : BitVec 32 :=
  let c7424_i32_1934 : BitVec 32 := 7424#32
  c7424_i32_1934
def k0_mult481 : BitVec 32 :=
  let c7680_i32_1943 : BitVec 32 := 7680#32
  c7680_i32_1943
def k0_mult482 : BitVec 32 :=
  let c7424_i32_1950 : BitVec 32 := 7424#32
  c7424_i32_1950
def k0_mult483 : BitVec 32 :=
  let c7680_i32_1959 : BitVec 32 := 7680#32
  c7680_i32_1959
def k0_mult484 : BitVec 32 :=
  let c7424_i32_1966 : BitVec 32 := 7424#32
  c7424_i32_1966
def k0_mult485 : BitVec 32 :=
  let c7680_i32_1975 : BitVec 32 := 7680#32
  c7680_i32_1975
def k0_mult486 : BitVec 32 :=
  let c7424_i32_1982 : BitVec 32 := 7424#32
  c7424_i32_1982
def k0_mult487 : BitVec 32 :=
  let c7680_i32_1991 : BitVec 32 := 7680#32
  c7680_i32_1991
def k0_mult488 : BitVec 32 :=
  let c7424_i32_1998 : BitVec 32 := 7424#32
  c7424_i32_1998
def k0_mult489 : BitVec 32 :=
  let c7936_i32_2007 : BitVec 32 := 7936#32
  c7936_i32_2007
def k0_mult490 : BitVec 32 :=
  let c7680_i32_2014 : BitVec 32 := 7680#32
  c7680_i32_2014
def k0_mult491 : BitVec 32 :=
  let c7936_i32_2023 : BitVec 32 := 7936#32
  c7936_i32_2023
def k0_mult492 : BitVec 32 :=
  let c7680_i32_2030 : BitVec 32 := 7680#32
  c7680_i32_2030
def k0_mult493 : BitVec 32 :=
  let c7936_i32_2039 : BitVec 32 := 7936#32
  c7936_i32_2039
def k0_mult494 : BitVec 32 :=
  let c7680_i32_2046 : BitVec 32 := 7680#32
  c7680_i32_2046
def k0_mult495 : BitVec 32 :=
  let c7936_i32_2055 : BitVec 32 := 7936#32
  c7936_i32_2055
def k0_mult496 : BitVec 32 :=
  let c7680_i32_2062 : BitVec 32 := 7680#32
  c7680_i32_2062
def k0_mult497 : BitVec 32 :=
  let c7936_i32_2071 : BitVec 32 := 7936#32
  c7936_i32_2071
def k0_mult498 : BitVec 32 :=
  let c7680_i32_2078 : BitVec 32 := 7680#32
  c7680_i32_2078
def k0_mult499 : BitVec 32 :=
  let c7936_i32_2087 : BitVec 32 := 7936#32
  c7936_i32_2087
def k0_mult500 : BitVec 32 :=
  let c7680_i32_2094 : BitVec 32 := 7680#32
  c7680_i32_2094
def k0_mult501 : BitVec 32 :=
  let c7936_i32_2103 : BitVec 32 := 7936#32
  c7936_i32_2103
def k0_mult502 : BitVec 32 :=
  let c7680_i32_2110 : BitVec 32 := 7680#32
  c7680_i32_2110
def k0_mult503 : BitVec 32 :=
  let c7936_i32_2119 : BitVec 32 := 7936#32
  c7936_i32_2119
def k0_mult504 : BitVec 32 :=
  let c7680_i32_2126 : BitVec 32 := 7680#32
  c7680_i32_2126
def k0_mult505 : BitVec 32 :=
  let c7936_i32_2135 : BitVec 32 := 7936#32
  c7936_i32_2135
def k0_mult506 : BitVec 32 :=
  let c7936_i32_2144 : BitVec 32 := 7936#32
  c7936_i32_2144
def k0_mult507 : BitVec 32 :=
  let c7936_i32_2153 : BitVec 32 := 7936#32
  c7936_i32_2153
def k0_mult508 : BitVec 32 :=
  let c7936_i32_2162 : BitVec 32 := 7936#32
  c7936_i32_2162
def k0_mult509 : BitVec 32 :=
  let c7936_i32_2171 : BitVec 32 := 7936#32
  c7936_i32_2171
def k0_mult510 : BitVec 32 :=
  let c7936_i32_2180 : BitVec 32 := 7936#32
  c7936_i32_2180
def k0_mult511 : BitVec 32 :=
  let c7936_i32_2189 : BitVec 32 := 7936#32
  c7936_i32_2189
def k0_mult512 : BitVec 32 :=
  let c7936_i32_2198 : BitVec 32 := 7936#32
  c7936_i32_2198
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S80x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x8192x8x64 : Shape := ⟨4, ![8, 8192, 8, 64]⟩
abbrev S8x8192x2x64 : Shape := ⟨4, ![8, 8192, 2, 64]⟩
abbrev S8x8192x2x4x64 : Shape := ⟨5, ![8, 8192, 2, 4, 64]⟩
abbrev S8x2x8192x8192x4 : Shape := ⟨5, ![8, 2, 8192, 8192, 4]⟩
abbrev S8x2x4x8192x8192 : Shape := ⟨5, ![8, 2, 4, 8192, 8192]⟩
abbrev S_ : Shape := ⟨0, ![]⟩
abbrev S8x2x4x8192 : Shape := ⟨4, ![8, 2, 4, 8192]⟩
abbrev S8x2x4x8192x1 : Shape := ⟨5, ![8, 2, 4, 8192, 1]⟩
abbrev S8x2x64x4x8192 : Shape := ⟨5, ![8, 2, 64, 4, 8192]⟩

abbrev nBuf : Space → Nat
  | .hbm => 26
  | .vmem => 0
  | .smem => 0
  | _ => 0

abbrev bufTy : (tb : Table) → Fin (tcTables nBuf tb) → BufTy
  | .hbm, ⟨0, _⟩ => ⟨S8x8192x8x64, .f32⟩
  | .hbm, ⟨1, _⟩ => ⟨S8x8192x2x64, .f32⟩
  | .hbm, ⟨2, _⟩ => ⟨S8x8192x2x64, .f32⟩
  | .hbm, ⟨3, _⟩ => ⟨S8x8192x2x4x64, .f32⟩
  | .hbm, ⟨4, _⟩ => ⟨S8x2x8192x8192x4, .f32⟩
  | .hbm, ⟨5, _⟩ => ⟨S8x2x4x8192x8192, .f32⟩
  | .hbm, ⟨6, _⟩ => ⟨S_, .f32⟩
  | .hbm, ⟨7, _⟩ => ⟨S8x2x4x8192x8192, .f32⟩
  | .hbm, ⟨8, _⟩ => ⟨S8x2x4x8192x8192, .f32⟩
  | .hbm, ⟨9, _⟩ => ⟨S_, .f32⟩
  | .hbm, ⟨10, _⟩ => ⟨S8x2x4x8192, .f32⟩
  | .hbm, ⟨11, _⟩ => ⟨S_, .f32⟩
  | .hbm, ⟨12, _⟩ => ⟨S8x2x4x8192, .f32⟩
  | .hbm, ⟨13, _⟩ => ⟨S8x2x4x8192, .f32⟩
  | .hbm, ⟨14, _⟩ => ⟨S8x2x4x8192x1, .f32⟩
  | .hbm, ⟨15, _⟩ => ⟨S8x2x4x8192x8192, .f32⟩
  | .hbm, ⟨16, _⟩ => ⟨S8x2x4x8192x8192, .f32⟩
  | .hbm, ⟨17, _⟩ => ⟨S8x2x4x8192x8192, .f32⟩
  | .hbm, ⟨18, _⟩ => ⟨S_, .f32⟩
  | .hbm, ⟨19, _⟩ => ⟨S8x2x4x8192, .f32⟩
  | .hbm, ⟨20, _⟩ => ⟨S8x2x4x8192x1, .f32⟩
  | .hbm, ⟨21, _⟩ => ⟨S8x2x4x8192x8192, .f32⟩
  | .hbm, ⟨22, _⟩ => ⟨S8x2x4x8192x8192, .f32⟩
  | .hbm, ⟨23, _⟩ => ⟨S8x2x64x4x8192, .f32⟩
  | .hbm, ⟨24, _⟩ => ⟨S8x8192x2x4x64, .f32⟩
  | .hbm, ⟨25, _⟩ => ⟨S8x8192x8x64, .f32⟩
  | _, _ => ⟨S8x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Post.lean ====
abbrev S65536x1024 : Shape := ⟨2, ![65536, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 16
  | .vmem => 14
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S65536x1024, .bf16⟩
  | .hbm, ⟨9, _⟩ => ⟨S1024x1024, .bf16⟩
  | .hbm, ⟨10, _⟩ => ⟨S1024x5632, .bf16⟩
  | .hbm, ⟨11, _⟩ => ⟨S2816x1024, .bf16⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S65536x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x5632, .bf16⟩
  | .local _ .vmem, ⟨10, _⟩ => ⟨S2816x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PostReferenceIdeal.lean ====
abbrev S65536x1024 : Shape := ⟨2, ![65536, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x5632 : Shape := ⟨2, ![65536, 5632]⟩
abbrev S65536x2816 : Shape := ⟨2, ![65536, 2816]⟩

abbrev nBuf : Space → Nat
  | .hbm => 73
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S65536x1024, .f32⟩
  | .hbm, ⟨9, _⟩ => ⟨S65536x1024, .f32⟩
  | .hbm, ⟨10, _⟩ => ⟨S_, .f32⟩
  | .hbm, ⟨11, _⟩ => ⟨S65536, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S_, .f32⟩
  | .hbm, ⟨17, _⟩ => ⟨S65536x1, .f32⟩
  | .hbm, ⟨18, _⟩ => ⟨S65536x1, .f32⟩
  | .hbm, ⟨19, _⟩ => ⟨S65536x1, .f32⟩
  | .hbm, ⟨20, _⟩ => ⟨S65536x1024, .f32⟩
  | .hbm, ⟨21, _⟩ => ⟨S65536x1024, .f32⟩
  | .hbm, ⟨22, _⟩ => ⟨S1x1024, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S_, .f32⟩
  | .hbm, ⟨28, _⟩ => ⟨S65536, .f32⟩
  | .hbm, ⟨29, _⟩ => ⟨S65536x1, .f32⟩
  | .hbm, ⟨30, _⟩ => ⟨S_, .f32⟩
  | .hbm, ⟨31, _⟩ => ⟨S65536x1, .f32⟩
  | .hbm, ⟨32, _⟩ => ⟨S65536x1, .f32⟩
  | .hbm, ⟨33, _⟩ => ⟨S_, .f32⟩
  | .hbm, ⟨34, _⟩ => ⟨S65536x1, .f32⟩
  | .hbm, ⟨35, _⟩ => ⟨S65536x1, .f32⟩
  | .hbm, ⟨36, _⟩ => ⟨S65536x1, .f32⟩
  | .hbm, ⟨37, _⟩ => ⟨S65536x1024, .f32⟩
  | .hbm, ⟨38, _⟩ => ⟨S65536x1024, .f32⟩
  | .hbm, ⟨39, _⟩ => ⟨S1x1024, .f32⟩
  | .hbm, ⟨40, _⟩ => ⟨S65536x1024, .f32⟩
  | .hbm, ⟨41, _⟩ => ⟨S65536x1024, .f32⟩
  | .hbm, ⟨42, _⟩ => ⟨S65536x5632, .f32⟩
  | .hbm, ⟨43, _⟩ => ⟨S65536x2816, .f32⟩
  | .hbm, ⟨44, _⟩ => ⟨S65536x2816, .f32⟩
  | .hbm, ⟨45, _⟩ => ⟨S65536x2816, .f32⟩
  | .hbm, ⟨46, _⟩ => ⟨S65536x2816, .f32⟩
  | .hbm, ⟨47, _⟩ => ⟨S_, .f32⟩
  | .hbm, ⟨48, _⟩ => ⟨S65536x2816, .f32⟩
  | .hbm, ⟨49, _⟩ => ⟨S65536x2816, .f32⟩
  | .hbm, ⟨50, _⟩ => ⟨S_, .f32⟩
  | .hbm, ⟨51, _⟩ => ⟨S65536x2816, .f32⟩
  | .hbm, ⟨52, _⟩ => ⟨S65536x2816, .f32⟩
  | .hbm, ⟨53, _⟩ => ⟨S65536x2816, .f32⟩
  | .hbm, ⟨54, _⟩ => ⟨S65536x2816, .f32⟩
  | .hbm, ⟨55, _⟩ => ⟨S65536x1024, .f32⟩
  | .hbm, ⟨56, _⟩ => ⟨S65536x1024, .f32⟩
  | .hbm, ⟨57, _⟩ => ⟨S_, .f32⟩
  | .hbm, ⟨58, _⟩ => ⟨S65536, .f32⟩
  | .hbm, ⟨59, _⟩ => ⟨S65536x1, .f32⟩
  | .hbm, ⟨60, _⟩ => ⟨S_, .f32⟩
  | .hbm, ⟨61, _⟩ => ⟨S65536x1, .f32⟩
  | .hbm, ⟨62, _⟩ => ⟨S65536x1, .f32⟩
  | .hbm, ⟨63, _⟩ => ⟨S_, .f32⟩
  | .hbm, ⟨64, _⟩ => ⟨S65536x1, .f32⟩
  | .hbm, ⟨65, _⟩ => ⟨S65536x1, .f32⟩
  | .hbm, ⟨66, _⟩ => ⟨S65536x1, .f32⟩
  | .hbm, ⟨67, _⟩ => ⟨S65536x1024, .f32⟩
  | .hbm, ⟨68, _⟩ => ⟨S65536x1024, .f32⟩
  | .hbm, ⟨69, _⟩ => ⟨S1x1024, .f32⟩
  | .hbm, ⟨70, _⟩ => ⟨S65536x1024, .f32⟩
  | .hbm, ⟨71, _⟩ => ⟨S65536x1024, .f32⟩
  | .hbm, ⟨72, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_5 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩

abbrev nD : Nat := 1
abbrev τ : Topo := Topo.v7x

variable {F : FTy → Type} [FloatOps F]
-- ==== Diff.lean ====
abbrev S8x8192x8x64 : Shape := ⟨4, ![8, 8192, 8, 64]⟩
abbrev S8x8192x4x128 : Shape := ⟨4, ![8, 8192, 4, 128]⟩
abbrev S4x64 : Shape := ⟨2, ![4, 64]⟩
abbrev S_ : Shape := ⟨0, ![]⟩
abbrev S65536x512 : Shape := ⟨2, ![65536, 512]⟩
abbrev S512x65536 : Shape := ⟨2, ![512, 65536]⟩
abbrev S65536x8x64 : Shape := ⟨3, ![65536, 8, 64]⟩
abbrev S65536x8x1 : Shape := ⟨3, ![65536, 8, 1]⟩
abbrev S65536x8x63 : Shape := ⟨3, ![65536, 8, 63]⟩
abbrev S65536x8x128 : Shape := ⟨3, ![65536, 8, 128]⟩
abbrev S65536x1024 : Shape := ⟨2, ![65536, 1024]⟩
abbrev S65536x4x128 : Shape := ⟨3, ![65536, 4, 128]⟩
abbrev S4x128x65536 : Shape := ⟨3, ![4, 128, 65536]⟩
abbrev S4x1x65536 : Shape := ⟨3, ![4, 1, 65536]⟩
abbrev S4x15x65536 : Shape := ⟨3, ![4, 15, 65536]⟩
abbrev S4x144x65536 : Shape := ⟨3, ![4, 144, 65536]⟩
abbrev S576x65536 : Shape := ⟨2, ![576, 65536]⟩
abbrev S128x1024 : Shape := ⟨2, ![128, 1024]⟩
abbrev S8192x128 : Shape := ⟨2, ![8192, 128]⟩
abbrev S144x8192 : Shape := ⟨2, ![144, 8192]⟩
abbrev S1024x128 : Shape := ⟨2, ![1024, 128]⟩
abbrev S128x2048 : Shape := ⟨2, ![128, 2048]⟩
abbrev S256x2048 : Shape := ⟨2, ![256, 2048]⟩
abbrev S144x2048 : Shape := ⟨2, ![144, 2048]⟩
abbrev S64x1024 : Shape := ⟨2, ![64, 1024]⟩
abbrev S48x2048 : Shape := ⟨2, ![48, 2048]⟩
abbrev S16x2048 : Shape := ⟨2, ![16, 2048]⟩
abbrev S1x2048 : Shape := ⟨2, ![1, 2048]⟩
abbrev S128x128 : Shape := ⟨2, ![128, 128]⟩
abbrev S128x256 : Shape := ⟨2, ![128, 256]⟩
abbrev S256 : Shape := ⟨1, ![256]⟩
abbrev S1x256 : Shape := ⟨2, ![1, 256]⟩
abbrev S256x128 : Shape := ⟨2, ![256, 128]⟩
abbrev S256x256 : Shape := ⟨2, ![256, 256]⟩
abbrev S144x256 : Shape := ⟨2, ![144, 256]⟩
abbrev S1x1x2048 : Shape := ⟨3, ![1, 1, 2048]⟩
abbrev S1 : Shape := ⟨1, ![1]⟩
abbrev S1x1x1 : Shape := ⟨3, ![1, 1, 1]⟩
abbrev S1x64 : Shape := ⟨2, ![1, 64]⟩
abbrev S1x1 : Shape := ⟨2, ![1, 1]⟩
abbrev S1024 : Shape := ⟨1, ![1024]⟩
abbrev S1x1024 : Shape := ⟨2, ![1, 1024]⟩

abbrev nBuf : Space → Nat
  | .hbm => 33
  | .vmem => 15
  | .smem => 0
  | _ => 0

abbrev bufTy : (tb : Table) → Fin (tcTables nBuf tb) → BufTy
  | .hbm, ⟨0, _⟩ => ⟨S8x8192x8x64, .f32⟩
  | .hbm, ⟨1, _⟩ => ⟨S8x8192x8x64, .f32⟩
  | .hbm, ⟨2, _⟩ => ⟨S8x8192x4x128, .f32⟩
  | .hbm, ⟨3, _⟩ => ⟨S4x64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S65536x512, .f32⟩
  | .hbm, ⟨9, _⟩ => ⟨S65536x512, .f32⟩
  | .hbm, ⟨10, _⟩ => ⟨S65536x512, .f32⟩
  | .hbm, ⟨11, _⟩ => ⟨S65536x512, .bf16⟩
  | .hbm, ⟨12, _⟩ => ⟨S512x65536, .bf16⟩
  | .hbm, ⟨13, _⟩ => ⟨S8x8192x8x64, .bf16⟩
  | .hbm, ⟨14, _⟩ => ⟨S65536x8x64, .bf16⟩
  | .hbm, ⟨15, _⟩ => ⟨S_, .bf16⟩
  | .hbm, ⟨16, _⟩ => ⟨S65536x8x1, .bf16⟩
  | .hbm, ⟨17, _⟩ => ⟨S_, .bf16⟩
  | .hbm, ⟨18, _⟩ => ⟨S65536x8x63, .bf16⟩
  | .hbm, ⟨19, _⟩ => ⟨S65536x8x128, .bf16⟩
  | .hbm, ⟨20, _⟩ => ⟨S65536x1024, .bf16⟩
  | .hbm, ⟨21, _⟩ => ⟨S8x8192x4x128, .bf16⟩
  | .hbm, ⟨22, _⟩ => ⟨S65536x4x128, .bf16⟩
  | .hbm, ⟨23, _⟩ => ⟨S4x128x65536, .bf16⟩
  | .hbm, ⟨24, _⟩ => ⟨S_, .bf16⟩
  | .hbm, ⟨25, _⟩ => ⟨S4x1x65536, .bf16⟩
  | .hbm, ⟨26, _⟩ => ⟨S_, .bf16⟩
  | .hbm, ⟨27, _⟩ => ⟨S4x15x65536, .bf16⟩
  | .hbm, ⟨28, _⟩ => ⟨S4x144x65536, .bf16⟩
  | .hbm, ⟨29, _⟩ => ⟨S576x65536, .bf16⟩
  | .hbm, ⟨30, _⟩ => ⟨S65536x512, .bf16⟩
  | .hbm, ⟨31, _⟩ => ⟨S8x8192x4x128, .bf16⟩
  | .hbm, ⟨32, _⟩ => ⟨S8x8192x4x128, .f32⟩
  | .local _ .vmem, ⟨0, _⟩ => ⟨S128x1024, .bf16⟩
  | .local _ .vmem, ⟨1, _⟩ => ⟨S128x1024, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S144x8192, .bf16⟩
  | .local _ .vmem, ⟨7, _⟩ => ⟨S144x8192, .bf16⟩
  | .local _ .vmem, ⟨8, _⟩ => ⟨S4x64, .f32⟩
  | .local _ .vmem, ⟨9, _⟩ => ⟨S1024x128, .bf16⟩
  | .local _ .vmem, ⟨10, _⟩ => ⟨S1024x128, .bf16⟩
  | .local _ .vmem, ⟨11, _⟩ => ⟨S128x2048, .bf16⟩
  | .local _ .vmem, ⟨12, _⟩ => ⟨S256x2048, .bf16⟩
  | .local _ .vmem, ⟨13, _⟩ => ⟨S256x2048, .bf16⟩
  | .local _ .vmem, ⟨14, _⟩ => ⟨S144x2048, .f32⟩
  | _, _ => ⟨S8x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 4, 8], ![false, false, false]⟩

def k0_mult1 : BitVec 32 :=
  let c0_i32_60 : BitVec 32 := 0#32
  c0_i32_60
def k0_mult2 : BitVec 32 :=
  let c0_i32_68 : BitVec 32 := 0#32
  c0_i32_68
def k0_mult3 : BitVec 32 :=
  let c0_i32_76 : BitVec 32 := 0#32
  c0_i32_76
def k0_mult4 : BitVec 32 :=
  let c0_i32_84 : BitVec 32 := 0#32
  c0_i32_84
def k0_mult5 : BitVec 32 :=
  let c0_i32_92 : BitVec 32 := 0#32
  c0_i32_92
def k0_mult6 : BitVec 32 :=
  let c0_i32_100 : BitVec 32 := 0#32
  c0_i32_100
def k0_mult7 : BitVec 32 :=
  let c0_i32_108 : BitVec 32 := 0#32
  c0_i32_108
def k0_mult8 : BitVec 32 :=
  let c0_i32_116 : BitVec 32 := 0#32
  c0_i32_116
@[reducible] def k0_t1_loop : Scf.Loop 32 :=
  let c0_i32_125 : BitVec 32 := 0#32
  let c3_i32 : BitVec 32 := 3#32
  let v215 : BitVec 32 := Scalar.addi c0_i32_125 c3_i32
  let c1_i32 : BitVec 32 := 1#32
  ⟨c0_i32_125, v215, c1_i32⟩
def k0_mult9 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c0_i32_1168 : BitVec 32 := 0#32
  let v1844 : BitVec 32 := Scalar.addi v1831 c0_i32_1168
  let c256_i32 : BitVec 32 := 256#32
  let v1847 : BitVec 32 := Scalar.muli v1844 c256_i32
  v1847
def k0_off1 (k0_t1 : Fin k0_t1_loop.trips) (c0_i32_1168 : BitVec 32) : Fin 2 → Nat :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let v1844 : BitVec 32 := Scalar.addi v1831 c0_i32_1168
  let c256_i32 : BitVec 32 := 256#32
  let v1847 : BitVec 32 := Scalar.muli v1844 c256_i32
  let v1848 : BitVec 32 := v1847
  let v1849 : Index := Scalar.indexCast v1848
  let c0_1171 : Index := 0#32
  ![v1849.toNat, 0]
def k0_mult10 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c0_i32_1169 : BitVec 32 := 0#32
  let v1845 : BitVec 32 := Scalar.addi v1831 c0_i32_1169
  let c1_i32_1170 : BitVec 32 := 1#32
  let v1846 : BitVec 32 := Scalar.subi v1845 c1_i32_1170
  let c256_i32_1178 : BitVec 32 := 256#32
  let v1861 : BitVec 32 := Scalar.muli v1846 c256_i32_1178
  v1861
def k0_off2 (k0_t1 : Fin k0_t1_loop.trips) (c0_i32_1169 : BitVec 32) : Fin 2 → Nat :=
  let c0_1181 : Index := 0#32
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let v1845 : BitVec 32 := Scalar.addi v1831 c0_i32_1169
  let c1_i32_1170 : BitVec 32 := 1#32
  let v1846 : BitVec 32 := Scalar.subi v1845 c1_i32_1170
  let c256_i32_1178 : BitVec 32 := 256#32
  let v1861 : BitVec 32 := Scalar.muli v1846 c256_i32_1178
  let v1862 : BitVec 32 := v1861
  let v1865 : Index := Scalar.indexCast v1862
  ![0, v1865.toNat]
def k0_mult11 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c0_i32_1168 : BitVec 32 := 0#32
  let v1844 : BitVec 32 := Scalar.addi v1831 c0_i32_1168
  let c256_i32_1187 : BitVec 32 := 256#32
  let v1874 : BitVec 32 := Scalar.muli v1844 c256_i32_1187
  v1874
def k0_mult12 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c0_i32_1169 : BitVec 32 := 0#32
  let v1845 : BitVec 32 := Scalar.addi v1831 c0_i32_1169
  let c1_i32_1170 : BitVec 32 := 1#32
  let v1846 : BitVec 32 := Scalar.subi v1845 c1_i32_1170
  let c256_i32_1195 : BitVec 32 := 256#32
  let v1888 : BitVec 32 := Scalar.muli v1846 c256_i32_1195
  v1888
def k0_mult13 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c0_i32_1168 : BitVec 32 := 0#32
  let v1844 : BitVec 32 := Scalar.addi v1831 c0_i32_1168
  let c256_i32_1204 : BitVec 32 := 256#32
  let v1901 : BitVec 32 := Scalar.muli v1844 c256_i32_1204
  v1901
def k0_mult14 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c0_i32_1169 : BitVec 32 := 0#32
  let v1845 : BitVec 32 := Scalar.addi v1831 c0_i32_1169
  let c1_i32_1170 : BitVec 32 := 1#32
  let v1846 : BitVec 32 := Scalar.subi v1845 c1_i32_1170
  let c256_i32_1212 : BitVec 32 := 256#32
  let v1915 : BitVec 32 := Scalar.muli v1846 c256_i32_1212
  v1915
def k0_mult15 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c0_i32_1168 : BitVec 32 := 0#32
  let v1844 : BitVec 32 := Scalar.addi v1831 c0_i32_1168
  let c256_i32_1221 : BitVec 32 := 256#32
  let v1928 : BitVec 32 := Scalar.muli v1844 c256_i32_1221
  v1928
def k0_mult16 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c0_i32_1169 : BitVec 32 := 0#32
  let v1845 : BitVec 32 := Scalar.addi v1831 c0_i32_1169
  let c1_i32_1170 : BitVec 32 := 1#32
  let v1846 : BitVec 32 := Scalar.subi v1845 c1_i32_1170
  let c256_i32_1229 : BitVec 32 := 256#32
  let v1942 : BitVec 32 := Scalar.muli v1846 c256_i32_1229
  v1942
def k0_mult17 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c0_i32_1168 : BitVec 32 := 0#32
  let v1844 : BitVec 32 := Scalar.addi v1831 c0_i32_1168
  let c256_i32_1238 : BitVec 32 := 256#32
  let v1955 : BitVec 32 := Scalar.muli v1844 c256_i32_1238
  v1955
def k0_mult18 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c0_i32_1169 : BitVec 32 := 0#32
  let v1845 : BitVec 32 := Scalar.addi v1831 c0_i32_1169
  let c1_i32_1170 : BitVec 32 := 1#32
  let v1846 : BitVec 32 := Scalar.subi v1845 c1_i32_1170
  let c256_i32_1246 : BitVec 32 := 256#32
  let v1969 : BitVec 32 := Scalar.muli v1846 c256_i32_1246
  v1969
def k0_mult19 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c0_i32_1168 : BitVec 32 := 0#32
  let v1844 : BitVec 32 := Scalar.addi v1831 c0_i32_1168
  let c256_i32_1255 : BitVec 32 := 256#32
  let v1982 : BitVec 32 := Scalar.muli v1844 c256_i32_1255
  v1982
def k0_mult20 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c0_i32_1169 : BitVec 32 := 0#32
  let v1845 : BitVec 32 := Scalar.addi v1831 c0_i32_1169
  let c1_i32_1170 : BitVec 32 := 1#32
  let v1846 : BitVec 32 := Scalar.subi v1845 c1_i32_1170
  let c256_i32_1263 : BitVec 32 := 256#32
  let v1996 : BitVec 32 := Scalar.muli v1846 c256_i32_1263
  v1996
def k0_mult21 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c0_i32_1168 : BitVec 32 := 0#32
  let v1844 : BitVec 32 := Scalar.addi v1831 c0_i32_1168
  let c256_i32_1272 : BitVec 32 := 256#32
  let v2009 : BitVec 32 := Scalar.muli v1844 c256_i32_1272
  v2009
def k0_mult22 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c0_i32_1169 : BitVec 32 := 0#32
  let v1845 : BitVec 32 := Scalar.addi v1831 c0_i32_1169
  let c1_i32_1170 : BitVec 32 := 1#32
  let v1846 : BitVec 32 := Scalar.subi v1845 c1_i32_1170
  let c256_i32_1280 : BitVec 32 := 256#32
  let v2023 : BitVec 32 := Scalar.muli v1846 c256_i32_1280
  v2023
def k0_mult23 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c0_i32_1168 : BitVec 32 := 0#32
  let v1844 : BitVec 32 := Scalar.addi v1831 c0_i32_1168
  let c256_i32_1289 : BitVec 32 := 256#32
  let v2036 : BitVec 32 := Scalar.muli v1844 c256_i32_1289
  v2036
def k0_mult24 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c0_i32_1169 : BitVec 32 := 0#32
  let v1845 : BitVec 32 := Scalar.addi v1831 c0_i32_1169
  let c1_i32_1170 : BitVec 32 := 1#32
  let v1846 : BitVec 32 := Scalar.subi v1845 c1_i32_1170
  let c256_i32_1297 : BitVec 32 := 256#32
  let v2050 : BitVec 32 := Scalar.muli v1846 c256_i32_1297
  v2050
def k0_mult25 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c1_i32_1306 : BitVec 32 := 1#32
  let v2069 : BitVec 32 := Scalar.addi v1831 c1_i32_1306
  let c256_i32_1309 : BitVec 32 := 256#32
  let v2072 : BitVec 32 := Scalar.muli v2069 c256_i32_1309
  v2072
def k0_mult26 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c1_i32_1307 : BitVec 32 := 1#32
  let v2070 : BitVec 32 := Scalar.addi v1831 c1_i32_1307
  let c1_i32_1308 : BitVec 32 := 1#32
  let v2071 : BitVec 32 := Scalar.subi v2070 c1_i32_1308
  let c256_i32_1317 : BitVec 32 := 256#32
  let v2086 : BitVec 32 := Scalar.muli v2071 c256_i32_1317
  v2086
def k0_mult27 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c1_i32_1306 : BitVec 32 := 1#32
  let v2069 : BitVec 32 := Scalar.addi v1831 c1_i32_1306
  let c256_i32_1326 : BitVec 32 := 256#32
  let v2102 : BitVec 32 := Scalar.muli v2069 c256_i32_1326
  v2102
def k0_mult28 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c1_i32_1307 : BitVec 32 := 1#32
  let v2070 : BitVec 32 := Scalar.addi v1831 c1_i32_1307
  let c1_i32_1308 : BitVec 32 := 1#32
  let v2071 : BitVec 32 := Scalar.subi v2070 c1_i32_1308
  let c256_i32_1334 : BitVec 32 := 256#32
  let v2116 : BitVec 32 := Scalar.muli v2071 c256_i32_1334
  v2116
def k0_mult29 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c1_i32_1306 : BitVec 32 := 1#32
  let v2069 : BitVec 32 := Scalar.addi v1831 c1_i32_1306
  let c256_i32_1343 : BitVec 32 := 256#32
  let v2132 : BitVec 32 := Scalar.muli v2069 c256_i32_1343
  v2132
def k0_mult30 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c1_i32_1307 : BitVec 32 := 1#32
  let v2070 : BitVec 32 := Scalar.addi v1831 c1_i32_1307
  let c1_i32_1308 : BitVec 32 := 1#32
  let v2071 : BitVec 32 := Scalar.subi v2070 c1_i32_1308
  let c256_i32_1351 : BitVec 32 := 256#32
  let v2146 : BitVec 32 := Scalar.muli v2071 c256_i32_1351
  v2146
def k0_mult31 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c1_i32_1306 : BitVec 32 := 1#32
  let v2069 : BitVec 32 := Scalar.addi v1831 c1_i32_1306
  let c256_i32_1360 : BitVec 32 := 256#32
  let v2162 : BitVec 32 := Scalar.muli v2069 c256_i32_1360
  v2162
def k0_mult32 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c1_i32_1307 : BitVec 32 := 1#32
  let v2070 : BitVec 32 := Scalar.addi v1831 c1_i32_1307
  let c1_i32_1308 : BitVec 32 := 1#32
  let v2071 : BitVec 32 := Scalar.subi v2070 c1_i32_1308
  let c256_i32_1368 : BitVec 32 := 256#32
  let v2176 : BitVec 32 := Scalar.muli v2071 c256_i32_1368
  v2176
def k0_mult33 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c1_i32_1306 : BitVec 32 := 1#32
  let v2069 : BitVec 32 := Scalar.addi v1831 c1_i32_1306
  let c256_i32_1377 : BitVec 32 := 256#32
  let v2192 : BitVec 32 := Scalar.muli v2069 c256_i32_1377
  v2192
def k0_mult34 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c1_i32_1307 : BitVec 32 := 1#32
  let v2070 : BitVec 32 := Scalar.addi v1831 c1_i32_1307
  let c1_i32_1308 : BitVec 32 := 1#32
  let v2071 : BitVec 32 := Scalar.subi v2070 c1_i32_1308
  let c256_i32_1385 : BitVec 32 := 256#32
  let v2206 : BitVec 32 := Scalar.muli v2071 c256_i32_1385
  v2206
def k0_mult35 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c1_i32_1306 : BitVec 32 := 1#32
  let v2069 : BitVec 32 := Scalar.addi v1831 c1_i32_1306
  let c256_i32_1394 : BitVec 32 := 256#32
  let v2222 : BitVec 32 := Scalar.muli v2069 c256_i32_1394
  v2222
def k0_mult36 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c1_i32_1307 : BitVec 32 := 1#32
  let v2070 : BitVec 32 := Scalar.addi v1831 c1_i32_1307
  let c1_i32_1308 : BitVec 32 := 1#32
  let v2071 : BitVec 32 := Scalar.subi v2070 c1_i32_1308
  let c256_i32_1402 : BitVec 32 := 256#32
  let v2236 : BitVec 32 := Scalar.muli v2071 c256_i32_1402
  v2236
def k0_mult37 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c1_i32_1306 : BitVec 32 := 1#32
  let v2069 : BitVec 32 := Scalar.addi v1831 c1_i32_1306
  let c256_i32_1411 : BitVec 32 := 256#32
  let v2252 : BitVec 32 := Scalar.muli v2069 c256_i32_1411
  v2252
def k0_mult38 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c1_i32_1307 : BitVec 32 := 1#32
  let v2070 : BitVec 32 := Scalar.addi v1831 c1_i32_1307
  let c1_i32_1308 : BitVec 32 := 1#32
  let v2071 : BitVec 32 := Scalar.subi v2070 c1_i32_1308
  let c256_i32_1419 : BitVec 32 := 256#32
  let v2266 : BitVec 32 := Scalar.muli v2071 c256_i32_1419
  v2266
def k0_mult39 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c1_i32_1306 : BitVec 32 := 1#32
  let v2069 : BitVec 32 := Scalar.addi v1831 c1_i32_1306
  let c256_i32_1428 : BitVec 32 := 256#32
  let v2282 : BitVec 32 := Scalar.muli v2069 c256_i32_1428
  v2282
def k0_mult40 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c1_i32_1307 : BitVec 32 := 1#32
  let v2070 : BitVec 32 := Scalar.addi v1831 c1_i32_1307
  let c1_i32_1308 : BitVec 32 := 1#32
  let v2071 : BitVec 32 := Scalar.subi v2070 c1_i32_1308
  let c256_i32_1436 : BitVec 32 := 256#32
  let v2296 : BitVec 32 := Scalar.muli v2071 c256_i32_1436
  v2296
def k0_mult41 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c2_i32 : BitVec 32 := 2#32
  let v2316 : BitVec 32 := Scalar.addi v1831 c2_i32
  let c256_i32_1447 : BitVec 32 := 256#32
  let v2319 : BitVec 32 := Scalar.muli v2316 c256_i32_1447
  v2319
def k0_mult42 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c2_i32_1445 : BitVec 32 := 2#32
  let v2317 : BitVec 32 := Scalar.addi v1831 c2_i32_1445
  let c1_i32_1446 : BitVec 32 := 1#32
  let v2318 : BitVec 32 := Scalar.subi v2317 c1_i32_1446
  let c256_i32_1455 : BitVec 32 := 256#32
  let v2333 : BitVec 32 := Scalar.muli v2318 c256_i32_1455
  v2333
def k0_mult43 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c2_i32 : BitVec 32 := 2#32
  let v2316 : BitVec 32 := Scalar.addi v1831 c2_i32
  let c256_i32_1464 : BitVec 32 := 256#32
  let v2346 : BitVec 32 := Scalar.muli v2316 c256_i32_1464
  v2346
def k0_mult44 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c2_i32_1445 : BitVec 32 := 2#32
  let v2317 : BitVec 32 := Scalar.addi v1831 c2_i32_1445
  let c1_i32_1446 : BitVec 32 := 1#32
  let v2318 : BitVec 32 := Scalar.subi v2317 c1_i32_1446
  let c256_i32_1472 : BitVec 32 := 256#32
  let v2360 : BitVec 32 := Scalar.muli v2318 c256_i32_1472
  v2360
def k0_mult45 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c2_i32 : BitVec 32 := 2#32
  let v2316 : BitVec 32 := Scalar.addi v1831 c2_i32
  let c256_i32_1481 : BitVec 32 := 256#32
  let v2373 : BitVec 32 := Scalar.muli v2316 c256_i32_1481
  v2373
def k0_mult46 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c2_i32_1445 : BitVec 32 := 2#32
  let v2317 : BitVec 32 := Scalar.addi v1831 c2_i32_1445
  let c1_i32_1446 : BitVec 32 := 1#32
  let v2318 : BitVec 32 := Scalar.subi v2317 c1_i32_1446
  let c256_i32_1489 : BitVec 32 := 256#32
  let v2387 : BitVec 32 := Scalar.muli v2318 c256_i32_1489
  v2387
def k0_mult47 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c2_i32 : BitVec 32 := 2#32
  let v2316 : BitVec 32 := Scalar.addi v1831 c2_i32
  let c256_i32_1498 : BitVec 32 := 256#32
  let v2400 : BitVec 32 := Scalar.muli v2316 c256_i32_1498
  v2400
def k0_mult48 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c2_i32_1445 : BitVec 32 := 2#32
  let v2317 : BitVec 32 := Scalar.addi v1831 c2_i32_1445
  let c1_i32_1446 : BitVec 32 := 1#32
  let v2318 : BitVec 32 := Scalar.subi v2317 c1_i32_1446
  let c256_i32_1506 : BitVec 32 := 256#32
  let v2414 : BitVec 32 := Scalar.muli v2318 c256_i32_1506
  v2414
def k0_mult49 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c2_i32 : BitVec 32 := 2#32
  let v2316 : BitVec 32 := Scalar.addi v1831 c2_i32
  let c256_i32_1515 : BitVec 32 := 256#32
  let v2427 : BitVec 32 := Scalar.muli v2316 c256_i32_1515
  v2427
def k0_mult50 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c2_i32_1445 : BitVec 32 := 2#32
  let v2317 : BitVec 32 := Scalar.addi v1831 c2_i32_1445
  let c1_i32_1446 : BitVec 32 := 1#32
  let v2318 : BitVec 32 := Scalar.subi v2317 c1_i32_1446
  let c256_i32_1523 : BitVec 32 := 256#32
  let v2441 : BitVec 32 := Scalar.muli v2318 c256_i32_1523
  v2441
def k0_mult51 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c2_i32 : BitVec 32 := 2#32
  let v2316 : BitVec 32 := Scalar.addi v1831 c2_i32
  let c256_i32_1532 : BitVec 32 := 256#32
  let v2454 : BitVec 32 := Scalar.muli v2316 c256_i32_1532
  v2454
def k0_mult52 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c2_i32_1445 : BitVec 32 := 2#32
  let v2317 : BitVec 32 := Scalar.addi v1831 c2_i32_1445
  let c1_i32_1446 : BitVec 32 := 1#32
  let v2318 : BitVec 32 := Scalar.subi v2317 c1_i32_1446
  let c256_i32_1540 : BitVec 32 := 256#32
  let v2468 : BitVec 32 := Scalar.muli v2318 c256_i32_1540
  v2468
def k0_mult53 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c2_i32 : BitVec 32 := 2#32
  let v2316 : BitVec 32 := Scalar.addi v1831 c2_i32
  let c256_i32_1549 : BitVec 32 := 256#32
  let v2481 : BitVec 32 := Scalar.muli v2316 c256_i32_1549
  v2481
def k0_mult54 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c2_i32_1445 : BitVec 32 := 2#32
  let v2317 : BitVec 32 := Scalar.addi v1831 c2_i32_1445
  let c1_i32_1446 : BitVec 32 := 1#32
  let v2318 : BitVec 32 := Scalar.subi v2317 c1_i32_1446
  let c256_i32_1557 : BitVec 32 := 256#32
  let v2495 : BitVec 32 := Scalar.muli v2318 c256_i32_1557
  v2495
def k0_mult55 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c2_i32 : BitVec 32 := 2#32
  let v2316 : BitVec 32 := Scalar.addi v1831 c2_i32
  let c256_i32_1566 : BitVec 32 := 256#32
  let v2508 : BitVec 32 := Scalar.muli v2316 c256_i32_1566
  v2508
def k0_mult56 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c2_i32_1445 : BitVec 32 := 2#32
  let v2317 : BitVec 32 := Scalar.addi v1831 c2_i32_1445
  let c1_i32_1446 : BitVec 32 := 1#32
  let v2318 : BitVec 32 := Scalar.subi v2317 c1_i32_1446
  let c256_i32_1574 : BitVec 32 := 256#32
  let v2522 : BitVec 32 := Scalar.muli v2318 c256_i32_1574
  v2522
def k0_mult57 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c3_i32_1583 : BitVec 32 := 3#32
  let v2539 : BitVec 32 := Scalar.addi v1831 c3_i32_1583
  let c256_i32_1586 : BitVec 32 := 256#32
  let v2542 : BitVec 32 := Scalar.muli v2539 c256_i32_1586
  v2542
def k0_mult58 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c3_i32_1584 : BitVec 32 := 3#32
  let v2540 : BitVec 32 := Scalar.addi v1831 c3_i32_1584
  let c1_i32_1585 : BitVec 32 := 1#32
  let v2541 : BitVec 32 := Scalar.subi v2540 c1_i32_1585
  let c256_i32_1594 : BitVec 32 := 256#32
  let v2556 : BitVec 32 := Scalar.muli v2541 c256_i32_1594
  v2556
def k0_mult59 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c3_i32_1583 : BitVec 32 := 3#32
  let v2539 : BitVec 32 := Scalar.addi v1831 c3_i32_1583
  let c256_i32_1603 : BitVec 32 := 256#32
  let v2569 : BitVec 32 := Scalar.muli v2539 c256_i32_1603
  v2569
def k0_mult60 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c3_i32_1584 : BitVec 32 := 3#32
  let v2540 : BitVec 32 := Scalar.addi v1831 c3_i32_1584
  let c1_i32_1585 : BitVec 32 := 1#32
  let v2541 : BitVec 32 := Scalar.subi v2540 c1_i32_1585
  let c256_i32_1611 : BitVec 32 := 256#32
  let v2583 : BitVec 32 := Scalar.muli v2541 c256_i32_1611
  v2583
def k0_mult61 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c3_i32_1583 : BitVec 32 := 3#32
  let v2539 : BitVec 32 := Scalar.addi v1831 c3_i32_1583
  let c256_i32_1620 : BitVec 32 := 256#32
  let v2596 : BitVec 32 := Scalar.muli v2539 c256_i32_1620
  v2596
def k0_mult62 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c3_i32_1584 : BitVec 32 := 3#32
  let v2540 : BitVec 32 := Scalar.addi v1831 c3_i32_1584
  let c1_i32_1585 : BitVec 32 := 1#32
  let v2541 : BitVec 32 := Scalar.subi v2540 c1_i32_1585
  let c256_i32_1628 : BitVec 32 := 256#32
  let v2610 : BitVec 32 := Scalar.muli v2541 c256_i32_1628
  v2610
def k0_mult63 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c3_i32_1583 : BitVec 32 := 3#32
  let v2539 : BitVec 32 := Scalar.addi v1831 c3_i32_1583
  let c256_i32_1637 : BitVec 32 := 256#32
  let v2623 : BitVec 32 := Scalar.muli v2539 c256_i32_1637
  v2623
def k0_mult64 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c3_i32_1584 : BitVec 32 := 3#32
  let v2540 : BitVec 32 := Scalar.addi v1831 c3_i32_1584
  let c1_i32_1585 : BitVec 32 := 1#32
  let v2541 : BitVec 32 := Scalar.subi v2540 c1_i32_1585
  let c256_i32_1645 : BitVec 32 := 256#32
  let v2637 : BitVec 32 := Scalar.muli v2541 c256_i32_1645
  v2637
def k0_mult65 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c3_i32_1583 : BitVec 32 := 3#32
  let v2539 : BitVec 32 := Scalar.addi v1831 c3_i32_1583
  let c256_i32_1654 : BitVec 32 := 256#32
  let v2650 : BitVec 32 := Scalar.muli v2539 c256_i32_1654
  v2650
def k0_mult66 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c3_i32_1584 : BitVec 32 := 3#32
  let v2540 : BitVec 32 := Scalar.addi v1831 c3_i32_1584
  let c1_i32_1585 : BitVec 32 := 1#32
  let v2541 : BitVec 32 := Scalar.subi v2540 c1_i32_1585
  let c256_i32_1662 : BitVec 32 := 256#32
  let v2664 : BitVec 32 := Scalar.muli v2541 c256_i32_1662
  v2664
def k0_mult67 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c3_i32_1583 : BitVec 32 := 3#32
  let v2539 : BitVec 32 := Scalar.addi v1831 c3_i32_1583
  let c256_i32_1671 : BitVec 32 := 256#32
  let v2677 : BitVec 32 := Scalar.muli v2539 c256_i32_1671
  v2677
def k0_mult68 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c3_i32_1584 : BitVec 32 := 3#32
  let v2540 : BitVec 32 := Scalar.addi v1831 c3_i32_1584
  let c1_i32_1585 : BitVec 32 := 1#32
  let v2541 : BitVec 32 := Scalar.subi v2540 c1_i32_1585
  let c256_i32_1679 : BitVec 32 := 256#32
  let v2691 : BitVec 32 := Scalar.muli v2541 c256_i32_1679
  v2691
def k0_mult69 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c3_i32_1583 : BitVec 32 := 3#32
  let v2539 : BitVec 32 := Scalar.addi v1831 c3_i32_1583
  let c256_i32_1688 : BitVec 32 := 256#32
  let v2704 : BitVec 32 := Scalar.muli v2539 c256_i32_1688
  v2704
def k0_mult70 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c3_i32_1584 : BitVec 32 := 3#32
  let v2540 : BitVec 32 := Scalar.addi v1831 c3_i32_1584
  let c1_i32_1585 : BitVec 32 := 1#32
  let v2541 : BitVec 32 := Scalar.subi v2540 c1_i32_1585
  let c256_i32_1696 : BitVec 32 := 256#32
  let v2718 : BitVec 32 := Scalar.muli v2541 c256_i32_1696
  v2718
def k0_mult71 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c3_i32_1583 : BitVec 32 := 3#32
  let v2539 : BitVec 32 := Scalar.addi v1831 c3_i32_1583
  let c256_i32_1705 : BitVec 32 := 256#32
  let v2731 : BitVec 32 := Scalar.muli v2539 c256_i32_1705
  v2731
def k0_mult72 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c3_i32_1584 : BitVec 32 := 3#32
  let v2540 : BitVec 32 := Scalar.addi v1831 c3_i32_1584
  let c1_i32_1585 : BitVec 32 := 1#32
  let v2541 : BitVec 32 := Scalar.subi v2540 c1_i32_1585
  let c256_i32_1713 : BitVec 32 := 256#32
  let v2745 : BitVec 32 := Scalar.muli v2541 c256_i32_1713
  v2745
def k0_mult73 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c4_i32 : BitVec 32 := 4#32
  let v2762 : BitVec 32 := Scalar.addi v1831 c4_i32
  let c256_i32_1724 : BitVec 32 := 256#32
  let v2765 : BitVec 32 := Scalar.muli v2762 c256_i32_1724
  v2765
def k0_mult74 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c4_i32_1722 : BitVec 32 := 4#32
  let v2763 : BitVec 32 := Scalar.addi v1831 c4_i32_1722
  let c1_i32_1723 : BitVec 32 := 1#32
  let v2764 : BitVec 32 := Scalar.subi v2763 c1_i32_1723
  let c256_i32_1732 : BitVec 32 := 256#32
  let v2779 : BitVec 32 := Scalar.muli v2764 c256_i32_1732
  v2779
def k0_mult75 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c4_i32 : BitVec 32 := 4#32
  let v2762 : BitVec 32 := Scalar.addi v1831 c4_i32
  let c256_i32_1741 : BitVec 32 := 256#32
  let v2792 : BitVec 32 := Scalar.muli v2762 c256_i32_1741
  v2792
def k0_mult76 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c4_i32_1722 : BitVec 32 := 4#32
  let v2763 : BitVec 32 := Scalar.addi v1831 c4_i32_1722
  let c1_i32_1723 : BitVec 32 := 1#32
  let v2764 : BitVec 32 := Scalar.subi v2763 c1_i32_1723
  let c256_i32_1749 : BitVec 32 := 256#32
  let v2806 : BitVec 32 := Scalar.muli v2764 c256_i32_1749
  v2806
def k0_mult77 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c4_i32 : BitVec 32 := 4#32
  let v2762 : BitVec 32 := Scalar.addi v1831 c4_i32
  let c256_i32_1758 : BitVec 32 := 256#32
  let v2819 : BitVec 32 := Scalar.muli v2762 c256_i32_1758
  v2819
def k0_mult78 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c4_i32_1722 : BitVec 32 := 4#32
  let v2763 : BitVec 32 := Scalar.addi v1831 c4_i32_1722
  let c1_i32_1723 : BitVec 32 := 1#32
  let v2764 : BitVec 32 := Scalar.subi v2763 c1_i32_1723
  let c256_i32_1766 : BitVec 32 := 256#32
  let v2833 : BitVec 32 := Scalar.muli v2764 c256_i32_1766
  v2833
def k0_mult79 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c4_i32 : BitVec 32 := 4#32
  let v2762 : BitVec 32 := Scalar.addi v1831 c4_i32
  let c256_i32_1775 : BitVec 32 := 256#32
  let v2846 : BitVec 32 := Scalar.muli v2762 c256_i32_1775
  v2846
def k0_mult80 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c4_i32_1722 : BitVec 32 := 4#32
  let v2763 : BitVec 32 := Scalar.addi v1831 c4_i32_1722
  let c1_i32_1723 : BitVec 32 := 1#32
  let v2764 : BitVec 32 := Scalar.subi v2763 c1_i32_1723
  let c256_i32_1783 : BitVec 32 := 256#32
  let v2860 : BitVec 32 := Scalar.muli v2764 c256_i32_1783
  v2860
def k0_mult81 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c4_i32 : BitVec 32 := 4#32
  let v2762 : BitVec 32 := Scalar.addi v1831 c4_i32
  let c256_i32_1792 : BitVec 32 := 256#32
  let v2873 : BitVec 32 := Scalar.muli v2762 c256_i32_1792
  v2873
def k0_mult82 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c4_i32_1722 : BitVec 32 := 4#32
  let v2763 : BitVec 32 := Scalar.addi v1831 c4_i32_1722
  let c1_i32_1723 : BitVec 32 := 1#32
  let v2764 : BitVec 32 := Scalar.subi v2763 c1_i32_1723
  let c256_i32_1800 : BitVec 32 := 256#32
  let v2887 : BitVec 32 := Scalar.muli v2764 c256_i32_1800
  v2887
def k0_mult83 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c4_i32 : BitVec 32 := 4#32
  let v2762 : BitVec 32 := Scalar.addi v1831 c4_i32
  let c256_i32_1809 : BitVec 32 := 256#32
  let v2900 : BitVec 32 := Scalar.muli v2762 c256_i32_1809
  v2900
def k0_mult84 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c4_i32_1722 : BitVec 32 := 4#32
  let v2763 : BitVec 32 := Scalar.addi v1831 c4_i32_1722
  let c1_i32_1723 : BitVec 32 := 1#32
  let v2764 : BitVec 32 := Scalar.subi v2763 c1_i32_1723
  let c256_i32_1817 : BitVec 32 := 256#32
  let v2914 : BitVec 32 := Scalar.muli v2764 c256_i32_1817
  v2914
def k0_mult85 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c4_i32 : BitVec 32 := 4#32
  let v2762 : BitVec 32 := Scalar.addi v1831 c4_i32
  let c256_i32_1826 : BitVec 32 := 256#32
  let v2927 : BitVec 32 := Scalar.muli v2762 c256_i32_1826
  v2927
def k0_mult86 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c4_i32_1722 : BitVec 32 := 4#32
  let v2763 : BitVec 32 := Scalar.addi v1831 c4_i32_1722
  let c1_i32_1723 : BitVec 32 := 1#32
  let v2764 : BitVec 32 := Scalar.subi v2763 c1_i32_1723
  let c256_i32_1834 : BitVec 32 := 256#32
  let v2941 : BitVec 32 := Scalar.muli v2764 c256_i32_1834
  v2941
def k0_mult87 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c4_i32 : BitVec 32 := 4#32
  let v2762 : BitVec 32 := Scalar.addi v1831 c4_i32
  let c256_i32_1843 : BitVec 32 := 256#32
  let v2954 : BitVec 32 := Scalar.muli v2762 c256_i32_1843
  v2954
def k0_mult88 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c4_i32_1722 : BitVec 32 := 4#32
  let v2763 : BitVec 32 := Scalar.addi v1831 c4_i32_1722
  let c1_i32_1723 : BitVec 32 := 1#32
  let v2764 : BitVec 32 := Scalar.subi v2763 c1_i32_1723
  let c256_i32_1851 : BitVec 32 := 256#32
  let v2968 : BitVec 32 := Scalar.muli v2764 c256_i32_1851
  v2968
def k0_mult89 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c5_i32 : BitVec 32 := 5#32
  let v2985 : BitVec 32 := Scalar.addi v1831 c5_i32
  let c256_i32_1862 : BitVec 32 := 256#32
  let v2988 : BitVec 32 := Scalar.muli v2985 c256_i32_1862
  v2988
def k0_mult90 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c5_i32_1860 : BitVec 32 := 5#32
  let v2986 : BitVec 32 := Scalar.addi v1831 c5_i32_1860
  let c1_i32_1861 : BitVec 32 := 1#32
  let v2987 : BitVec 32 := Scalar.subi v2986 c1_i32_1861
  let c256_i32_1870 : BitVec 32 := 256#32
  let v3002 : BitVec 32 := Scalar.muli v2987 c256_i32_1870
  v3002
def k0_mult91 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c5_i32 : BitVec 32 := 5#32
  let v2985 : BitVec 32 := Scalar.addi v1831 c5_i32
  let c256_i32_1879 : BitVec 32 := 256#32
  let v3015 : BitVec 32 := Scalar.muli v2985 c256_i32_1879
  v3015
def k0_mult92 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c5_i32_1860 : BitVec 32 := 5#32
  let v2986 : BitVec 32 := Scalar.addi v1831 c5_i32_1860
  let c1_i32_1861 : BitVec 32 := 1#32
  let v2987 : BitVec 32 := Scalar.subi v2986 c1_i32_1861
  let c256_i32_1887 : BitVec 32 := 256#32
  let v3029 : BitVec 32 := Scalar.muli v2987 c256_i32_1887
  v3029
def k0_mult93 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c5_i32 : BitVec 32 := 5#32
  let v2985 : BitVec 32 := Scalar.addi v1831 c5_i32
  let c256_i32_1896 : BitVec 32 := 256#32
  let v3042 : BitVec 32 := Scalar.muli v2985 c256_i32_1896
  v3042
def k0_mult94 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c5_i32_1860 : BitVec 32 := 5#32
  let v2986 : BitVec 32 := Scalar.addi v1831 c5_i32_1860
  let c1_i32_1861 : BitVec 32 := 1#32
  let v2987 : BitVec 32 := Scalar.subi v2986 c1_i32_1861
  let c256_i32_1904 : BitVec 32 := 256#32
  let v3056 : BitVec 32 := Scalar.muli v2987 c256_i32_1904
  v3056
def k0_mult95 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c5_i32 : BitVec 32 := 5#32
  let v2985 : BitVec 32 := Scalar.addi v1831 c5_i32
  let c256_i32_1913 : BitVec 32 := 256#32
  let v3069 : BitVec 32 := Scalar.muli v2985 c256_i32_1913
  v3069
def k0_mult96 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c5_i32_1860 : BitVec 32 := 5#32
  let v2986 : BitVec 32 := Scalar.addi v1831 c5_i32_1860
  let c1_i32_1861 : BitVec 32 := 1#32
  let v2987 : BitVec 32 := Scalar.subi v2986 c1_i32_1861
  let c256_i32_1921 : BitVec 32 := 256#32
  let v3083 : BitVec 32 := Scalar.muli v2987 c256_i32_1921
  v3083
def k0_mult97 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c5_i32 : BitVec 32 := 5#32
  let v2985 : BitVec 32 := Scalar.addi v1831 c5_i32
  let c256_i32_1930 : BitVec 32 := 256#32
  let v3096 : BitVec 32 := Scalar.muli v2985 c256_i32_1930
  v3096
def k0_mult98 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c5_i32_1860 : BitVec 32 := 5#32
  let v2986 : BitVec 32 := Scalar.addi v1831 c5_i32_1860
  let c1_i32_1861 : BitVec 32 := 1#32
  let v2987 : BitVec 32 := Scalar.subi v2986 c1_i32_1861
  let c256_i32_1938 : BitVec 32 := 256#32
  let v3110 : BitVec 32 := Scalar.muli v2987 c256_i32_1938
  v3110
def k0_mult99 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c5_i32 : BitVec 32 := 5#32
  let v2985 : BitVec 32 := Scalar.addi v1831 c5_i32
  let c256_i32_1947 : BitVec 32 := 256#32
  let v3123 : BitVec 32 := Scalar.muli v2985 c256_i32_1947
  v3123
def k0_mult100 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c5_i32_1860 : BitVec 32 := 5#32
  let v2986 : BitVec 32 := Scalar.addi v1831 c5_i32_1860
  let c1_i32_1861 : BitVec 32 := 1#32
  let v2987 : BitVec 32 := Scalar.subi v2986 c1_i32_1861
  let c256_i32_1955 : BitVec 32 := 256#32
  let v3137 : BitVec 32 := Scalar.muli v2987 c256_i32_1955
  v3137
def k0_mult101 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c5_i32 : BitVec 32 := 5#32
  let v2985 : BitVec 32 := Scalar.addi v1831 c5_i32
  let c256_i32_1964 : BitVec 32 := 256#32
  let v3150 : BitVec 32 := Scalar.muli v2985 c256_i32_1964
  v3150
def k0_mult102 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c5_i32_1860 : BitVec 32 := 5#32
  let v2986 : BitVec 32 := Scalar.addi v1831 c5_i32_1860
  let c1_i32_1861 : BitVec 32 := 1#32
  let v2987 : BitVec 32 := Scalar.subi v2986 c1_i32_1861
  let c256_i32_1972 : BitVec 32 := 256#32
  let v3164 : BitVec 32 := Scalar.muli v2987 c256_i32_1972
  v3164
def k0_mult103 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c5_i32 : BitVec 32 := 5#32
  let v2985 : BitVec 32 := Scalar.addi v1831 c5_i32
  let c256_i32_1981 : BitVec 32 := 256#32
  let v3177 : BitVec 32 := Scalar.muli v2985 c256_i32_1981
  v3177
def k0_mult104 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c5_i32_1860 : BitVec 32 := 5#32
  let v2986 : BitVec 32 := Scalar.addi v1831 c5_i32_1860
  let c1_i32_1861 : BitVec 32 := 1#32
  let v2987 : BitVec 32 := Scalar.subi v2986 c1_i32_1861
  let c256_i32_1989 : BitVec 32 := 256#32
  let v3191 : BitVec 32 := Scalar.muli v2987 c256_i32_1989
  v3191
def k0_mult105 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c6_i32 : BitVec 32 := 6#32
  let v3208 : BitVec 32 := Scalar.addi v1831 c6_i32
  let c256_i32_2000 : BitVec 32 := 256#32
  let v3211 : BitVec 32 := Scalar.muli v3208 c256_i32_2000
  v3211
def k0_mult106 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c6_i32_1998 : BitVec 32 := 6#32
  let v3209 : BitVec 32 := Scalar.addi v1831 c6_i32_1998
  let c1_i32_1999 : BitVec 32 := 1#32
  let v3210 : BitVec 32 := Scalar.subi v3209 c1_i32_1999
  let c256_i32_2008 : BitVec 32 := 256#32
  let v3225 : BitVec 32 := Scalar.muli v3210 c256_i32_2008
  v3225
def k0_mult107 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c6_i32 : BitVec 32 := 6#32
  let v3208 : BitVec 32 := Scalar.addi v1831 c6_i32
  let c256_i32_2017 : BitVec 32 := 256#32
  let v3238 : BitVec 32 := Scalar.muli v3208 c256_i32_2017
  v3238
def k0_mult108 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c6_i32_1998 : BitVec 32 := 6#32
  let v3209 : BitVec 32 := Scalar.addi v1831 c6_i32_1998
  let c1_i32_1999 : BitVec 32 := 1#32
  let v3210 : BitVec 32 := Scalar.subi v3209 c1_i32_1999
  let c256_i32_2025 : BitVec 32 := 256#32
  let v3252 : BitVec 32 := Scalar.muli v3210 c256_i32_2025
  v3252
def k0_mult109 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c6_i32 : BitVec 32 := 6#32
  let v3208 : BitVec 32 := Scalar.addi v1831 c6_i32
  let c256_i32_2034 : BitVec 32 := 256#32
  let v3265 : BitVec 32 := Scalar.muli v3208 c256_i32_2034
  v3265
def k0_mult110 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c6_i32_1998 : BitVec 32 := 6#32
  let v3209 : BitVec 32 := Scalar.addi v1831 c6_i32_1998
  let c1_i32_1999 : BitVec 32 := 1#32
  let v3210 : BitVec 32 := Scalar.subi v3209 c1_i32_1999
  let c256_i32_2042 : BitVec 32 := 256#32
  let v3279 : BitVec 32 := Scalar.muli v3210 c256_i32_2042
  v3279
def k0_mult111 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c6_i32 : BitVec 32 := 6#32
  let v3208 : BitVec 32 := Scalar.addi v1831 c6_i32
  let c256_i32_2051 : BitVec 32 := 256#32
  let v3292 : BitVec 32 := Scalar.muli v3208 c256_i32_2051
  v3292
def k0_mult112 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c6_i32_1998 : BitVec 32 := 6#32
  let v3209 : BitVec 32 := Scalar.addi v1831 c6_i32_1998
  let c1_i32_1999 : BitVec 32 := 1#32
  let v3210 : BitVec 32 := Scalar.subi v3209 c1_i32_1999
  let c256_i32_2059 : BitVec 32 := 256#32
  let v3306 : BitVec 32 := Scalar.muli v3210 c256_i32_2059
  v3306
def k0_mult113 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c6_i32 : BitVec 32 := 6#32
  let v3208 : BitVec 32 := Scalar.addi v1831 c6_i32
  let c256_i32_2068 : BitVec 32 := 256#32
  let v3319 : BitVec 32 := Scalar.muli v3208 c256_i32_2068
  v3319
def k0_mult114 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c6_i32_1998 : BitVec 32 := 6#32
  let v3209 : BitVec 32 := Scalar.addi v1831 c6_i32_1998
  let c1_i32_1999 : BitVec 32 := 1#32
  let v3210 : BitVec 32 := Scalar.subi v3209 c1_i32_1999
  let c256_i32_2076 : BitVec 32 := 256#32
  let v3333 : BitVec 32 := Scalar.muli v3210 c256_i32_2076
  v3333
def k0_mult115 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c6_i32 : BitVec 32 := 6#32
  let v3208 : BitVec 32 := Scalar.addi v1831 c6_i32
  let c256_i32_2085 : BitVec 32 := 256#32
  let v3346 : BitVec 32 := Scalar.muli v3208 c256_i32_2085
  v3346
def k0_mult116 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c6_i32_1998 : BitVec 32 := 6#32
  let v3209 : BitVec 32 := Scalar.addi v1831 c6_i32_1998
  let c1_i32_1999 : BitVec 32 := 1#32
  let v3210 : BitVec 32 := Scalar.subi v3209 c1_i32_1999
  let c256_i32_2093 : BitVec 32 := 256#32
  let v3360 : BitVec 32 := Scalar.muli v3210 c256_i32_2093
  v3360
def k0_mult117 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c6_i32 : BitVec 32 := 6#32
  let v3208 : BitVec 32 := Scalar.addi v1831 c6_i32
  let c256_i32_2102 : BitVec 32 := 256#32
  let v3373 : BitVec 32 := Scalar.muli v3208 c256_i32_2102
  v3373
def k0_mult118 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c6_i32_1998 : BitVec 32 := 6#32
  let v3209 : BitVec 32 := Scalar.addi v1831 c6_i32_1998
  let c1_i32_1999 : BitVec 32 := 1#32
  let v3210 : BitVec 32 := Scalar.subi v3209 c1_i32_1999
  let c256_i32_2110 : BitVec 32 := 256#32
  let v3387 : BitVec 32 := Scalar.muli v3210 c256_i32_2110
  v3387
def k0_mult119 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c6_i32 : BitVec 32 := 6#32
  let v3208 : BitVec 32 := Scalar.addi v1831 c6_i32
  let c256_i32_2119 : BitVec 32 := 256#32
  let v3400 : BitVec 32 := Scalar.muli v3208 c256_i32_2119
  v3400
def k0_mult120 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c6_i32_1998 : BitVec 32 := 6#32
  let v3209 : BitVec 32 := Scalar.addi v1831 c6_i32_1998
  let c1_i32_1999 : BitVec 32 := 1#32
  let v3210 : BitVec 32 := Scalar.subi v3209 c1_i32_1999
  let c256_i32_2127 : BitVec 32 := 256#32
  let v3414 : BitVec 32 := Scalar.muli v3210 c256_i32_2127
  v3414
def k0_mult121 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c7_i32 : BitVec 32 := 7#32
  let v3431 : BitVec 32 := Scalar.addi v1831 c7_i32
  let c256_i32_2138 : BitVec 32 := 256#32
  let v3434 : BitVec 32 := Scalar.muli v3431 c256_i32_2138
  v3434
def k0_mult122 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c7_i32_2136 : BitVec 32 := 7#32
  let v3432 : BitVec 32 := Scalar.addi v1831 c7_i32_2136
  let c1_i32_2137 : BitVec 32 := 1#32
  let v3433 : BitVec 32 := Scalar.subi v3432 c1_i32_2137
  let c256_i32_2146 : BitVec 32 := 256#32
  let v3448 : BitVec 32 := Scalar.muli v3433 c256_i32_2146
  v3448
def k0_mult123 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c7_i32 : BitVec 32 := 7#32
  let v3431 : BitVec 32 := Scalar.addi v1831 c7_i32
  let c256_i32_2155 : BitVec 32 := 256#32
  let v3461 : BitVec 32 := Scalar.muli v3431 c256_i32_2155
  v3461
def k0_mult124 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c7_i32_2136 : BitVec 32 := 7#32
  let v3432 : BitVec 32 := Scalar.addi v1831 c7_i32_2136
  let c1_i32_2137 : BitVec 32 := 1#32
  let v3433 : BitVec 32 := Scalar.subi v3432 c1_i32_2137
  let c256_i32_2163 : BitVec 32 := 256#32
  let v3475 : BitVec 32 := Scalar.muli v3433 c256_i32_2163
  v3475
def k0_mult125 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c7_i32 : BitVec 32 := 7#32
  let v3431 : BitVec 32 := Scalar.addi v1831 c7_i32
  let c256_i32_2172 : BitVec 32 := 256#32
  let v3488 : BitVec 32 := Scalar.muli v3431 c256_i32_2172
  v3488
def k0_mult126 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c7_i32_2136 : BitVec 32 := 7#32
  let v3432 : BitVec 32 := Scalar.addi v1831 c7_i32_2136
  let c1_i32_2137 : BitVec 32 := 1#32
  let v3433 : BitVec 32 := Scalar.subi v3432 c1_i32_2137
  let c256_i32_2180 : BitVec 32 := 256#32
  let v3502 : BitVec 32 := Scalar.muli v3433 c256_i32_2180
  v3502
def k0_mult127 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c7_i32 : BitVec 32 := 7#32
  let v3431 : BitVec 32 := Scalar.addi v1831 c7_i32
  let c256_i32_2189 : BitVec 32 := 256#32
  let v3515 : BitVec 32 := Scalar.muli v3431 c256_i32_2189
  v3515
def k0_mult128 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c7_i32_2136 : BitVec 32 := 7#32
  let v3432 : BitVec 32 := Scalar.addi v1831 c7_i32_2136
  let c1_i32_2137 : BitVec 32 := 1#32
  let v3433 : BitVec 32 := Scalar.subi v3432 c1_i32_2137
  let c256_i32_2197 : BitVec 32 := 256#32
  let v3529 : BitVec 32 := Scalar.muli v3433 c256_i32_2197
  v3529
def k0_mult129 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c7_i32 : BitVec 32 := 7#32
  let v3431 : BitVec 32 := Scalar.addi v1831 c7_i32
  let c256_i32_2206 : BitVec 32 := 256#32
  let v3542 : BitVec 32 := Scalar.muli v3431 c256_i32_2206
  v3542
def k0_mult130 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c7_i32_2136 : BitVec 32 := 7#32
  let v3432 : BitVec 32 := Scalar.addi v1831 c7_i32_2136
  let c1_i32_2137 : BitVec 32 := 1#32
  let v3433 : BitVec 32 := Scalar.subi v3432 c1_i32_2137
  let c256_i32_2214 : BitVec 32 := 256#32
  let v3556 : BitVec 32 := Scalar.muli v3433 c256_i32_2214
  v3556
def k0_mult131 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c7_i32 : BitVec 32 := 7#32
  let v3431 : BitVec 32 := Scalar.addi v1831 c7_i32
  let c256_i32_2223 : BitVec 32 := 256#32
  let v3569 : BitVec 32 := Scalar.muli v3431 c256_i32_2223
  v3569
def k0_mult132 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c7_i32_2136 : BitVec 32 := 7#32
  let v3432 : BitVec 32 := Scalar.addi v1831 c7_i32_2136
  let c1_i32_2137 : BitVec 32 := 1#32
  let v3433 : BitVec 32 := Scalar.subi v3432 c1_i32_2137
  let c256_i32_2231 : BitVec 32 := 256#32
  let v3583 : BitVec 32 := Scalar.muli v3433 c256_i32_2231
  v3583
def k0_mult133 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c7_i32 : BitVec 32 := 7#32
  let v3431 : BitVec 32 := Scalar.addi v1831 c7_i32
  let c256_i32_2240 : BitVec 32 := 256#32
  let v3596 : BitVec 32 := Scalar.muli v3431 c256_i32_2240
  v3596
def k0_mult134 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c7_i32_2136 : BitVec 32 := 7#32
  let v3432 : BitVec 32 := Scalar.addi v1831 c7_i32_2136
  let c1_i32_2137 : BitVec 32 := 1#32
  let v3433 : BitVec 32 := Scalar.subi v3432 c1_i32_2137
  let c256_i32_2248 : BitVec 32 := 256#32
  let v3610 : BitVec 32 := Scalar.muli v3433 c256_i32_2248
  v3610
def k0_mult135 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c7_i32 : BitVec 32 := 7#32
  let v3431 : BitVec 32 := Scalar.addi v1831 c7_i32
  let c256_i32_2257 : BitVec 32 := 256#32
  let v3623 : BitVec 32 := Scalar.muli v3431 c256_i32_2257
  v3623
def k0_mult136 (k0_t1 : Fin k0_t1_loop.trips) : BitVec 32 :=
  let c8_i32 : BitVec 32 := 8#32
  let c0_i32_125 : BitVec 32 := 0#32
  let c1_i32 : BitVec 32 := 1#32
  let arg13 : BitVec 32 := Scf.iv c0_i32_125 c1_i32 k0_t1
  let v1830 : BitVec 32 := Scalar.muli c8_i32 arg13
  let c1_i32_1163 : BitVec 32 := 1#32
  let v1831 : BitVec 32 := Scalar.addi v1830 c1_i32_1163
  let c7_i32_2136 : BitVec 32 := 7#32
  let v3432 : BitVec 32 := Scalar.addi v1831 c7_i32_2136
  let c1_i32_2137 : BitVec 32 := 1#32
  let v3433 : BitVec 32 := Scalar.subi v3432 c1_i32_2137
  let c256_i32_2265 : BitVec 32 := 256#32
  let v3637 : BitVec 32 := Scalar.muli v3433 c256_i32_2265
  v3637
def k0_mult137 : BitVec 32 :=
  let c6400_i32 : BitVec 32 := 6400#32
  c6400_i32
def k0_mult138 : BitVec 32 :=
  let c6144_i32 : BitVec 32 := 6144#32
  c6144_i32
def k0_mult139 : BitVec 32 :=
  let c6400_i32_146 : BitVec 32 := 6400#32
  c6400_i32_146
def k0_mult140 : BitVec 32 :=
  let c6144_i32_154 : BitVec 32 := 6144#32
  c6144_i32_154
def k0_mult141 : BitVec 32 :=
  let c6400_i32_163 : BitVec 32 := 6400#32
  c6400_i32_163
def k0_mult142 : BitVec 32 :=
  let c6144_i32_171 : BitVec 32 := 6144#32
  c6144_i32_171
def k0_mult143 : BitVec 32 :=
  let c6400_i32_180 : BitVec 32 := 6400#32
  c6400_i32_180
def k0_mult144 : BitVec 32 :=
  let c6144_i32_188 : BitVec 32 := 6144#32
  c6144_i32_188
def k0_mult145 : BitVec 32 :=
  let c6400_i32_197 : BitVec 32 := 6400#32
  c6400_i32_197
def k0_mult146 : BitVec 32 :=
  let c6144_i32_205 : BitVec 32 := 6144#32
  c6144_i32_205
def k0_mult147 : BitVec 32 :=
  let c6400_i32_214 : BitVec 32 := 6400#32
  c6400_i32_214
def k0_mult148 : BitVec 32 :=
  let c6144_i32_222 : BitVec 32 := 6144#32
  c6144_i32_222
def k0_mult149 : BitVec 32 :=
  let c6400_i32_231 : BitVec 32 := 6400#32
  c6400_i32_231
def k0_mult150 : BitVec 32 :=
  let c6144_i32_239 : BitVec 32 := 6144#32
  c6144_i32_239
def k0_mult151 : BitVec 32 :=
  let c6400_i32_248 : BitVec 32 := 6400#32
  c6400_i32_248
def k0_mult152 : BitVec 32 :=
  let c6144_i32_256 : BitVec 32 := 6144#32
  c6144_i32_256
def k0_mult153 : BitVec 32 :=
  let c6656_i32 : BitVec 32 := 6656#32
  c6656_i32
def k0_mult154 : BitVec 32 :=
  let c6400_i32_272 : BitVec 32 := 6400#32
  c6400_i32_272
def k0_mult155 : BitVec 32 :=
  let c6656_i32_281 : BitVec 32 := 6656#32
  c6656_i32_281
def k0_mult156 : BitVec 32 :=
  let c6400_i32_289 : BitVec 32 := 6400#32
  c6400_i32_289
def k0_mult157 : BitVec 32 :=
  let c6656_i32_298 : BitVec 32 := 6656#32
  c6656_i32_298
def k0_mult158 : BitVec 32 :=
  let c6400_i32_306 : BitVec 32 := 6400#32
  c6400_i32_306
def k0_mult159 : BitVec 32 :=
  let c6656_i32_315 : BitVec 32 := 6656#32
  c6656_i32_315
def k0_mult160 : BitVec 32 :=
  let c6400_i32_323 : BitVec 32 := 6400#32
  c6400_i32_323
def k0_mult161 : BitVec 32 :=
  let c6656_i32_332 : BitVec 32 := 6656#32
  c6656_i32_332
def k0_mult162 : BitVec 32 :=
  let c6400_i32_340 : BitVec 32 := 6400#32
  c6400_i32_340
def k0_mult163 : BitVec 32 :=
  let c6656_i32_349 : BitVec 32 := 6656#32
  c6656_i32_349
def k0_mult164 : BitVec 32 :=
  let c6400_i32_357 : BitVec 32 := 6400#32
  c6400_i32_357
def k0_mult165 : BitVec 32 :=
  let c6656_i32_366 : BitVec 32 := 6656#32
  c6656_i32_366
def k0_mult166 : BitVec 32 :=
  let c6400_i32_374 : BitVec 32 := 6400#32
  c6400_i32_374
def k0_mult167 : BitVec 32 :=
  let c6656_i32_383 : BitVec 32 := 6656#32
  c6656_i32_383
def k0_mult168 : BitVec 32 :=
  let c6400_i32_391 : BitVec 32 := 6400#32
  c6400_i32_391
def k0_mult169 : BitVec 32 :=
  let c6912_i32 : BitVec 32 := 6912#32
  c6912_i32
def k0_mult170 : BitVec 32 :=
  let c6656_i32_407 : BitVec 32 := 6656#32
  c6656_i32_407
def k0_mult171 : BitVec 32 :=
  let c6912_i32_416 : BitVec 32 := 6912#32
  c6912_i32_416
def k0_mult172 : BitVec 32 :=
  let c6656_i32_424 : BitVec 32 := 6656#32
  c6656_i32_424
def k0_mult173 : BitVec 32 :=
  let c6912_i32_433 : BitVec 32 := 6912#32
  c6912_i32_433
def k0_mult174 : BitVec 32 :=
  let c6656_i32_441 : BitVec 32 := 6656#32
  c6656_i32_441
def k0_mult175 : BitVec 32 :=
  let c6912_i32_450 : BitVec 32 := 6912#32
  c6912_i32_450
def k0_mult176 : BitVec 32 :=
  let c6656_i32_458 : BitVec 32 := 6656#32
  c6656_i32_458
def k0_mult177 : BitVec 32 :=
  let c6912_i32_467 : BitVec 32 := 6912#32
  c6912_i32_467
def k0_mult178 : BitVec 32 :=
  let c6656_i32_475 : BitVec 32 := 6656#32
  c6656_i32_475
def k0_mult179 : BitVec 32 :=
  let c6912_i32_484 : BitVec 32 := 6912#32
  c6912_i32_484
def k0_mult180 : BitVec 32 :=
  let c6656_i32_492 : BitVec 32 := 6656#32
  c6656_i32_492
def k0_mult181 : BitVec 32 :=
  let c6912_i32_501 : BitVec 32 := 6912#32
  c6912_i32_501
def k0_mult182 : BitVec 32 :=
  let c6656_i32_509 : BitVec 32 := 6656#32
  c6656_i32_509
def k0_mult183 : BitVec 32 :=
  let c6912_i32_518 : BitVec 32 := 6912#32
  c6912_i32_518
def k0_mult184 : BitVec 32 :=
  let c6656_i32_526 : BitVec 32 := 6656#32
  c6656_i32_526
def k0_mult185 : BitVec 32 :=
  let c7168_i32 : BitVec 32 := 7168#32
  c7168_i32
def k0_mult186 : BitVec 32 :=
  let c6912_i32_542 : BitVec 32 := 6912#32
  c6912_i32_542
def k0_mult187 : BitVec 32 :=
  let c7168_i32_551 : BitVec 32 := 7168#32
  c7168_i32_551
def k0_mult188 : BitVec 32 :=
  let c6912_i32_559 : BitVec 32 := 6912#32
  c6912_i32_559
def k0_mult189 : BitVec 32 :=
  let c7168_i32_568 : BitVec 32 := 7168#32
  c7168_i32_568
def k0_mult190 : BitVec 32 :=
  let c6912_i32_576 : BitVec 32 := 6912#32
  c6912_i32_576
def k0_mult191 : BitVec 32 :=
  let c7168_i32_585 : BitVec 32 := 7168#32
  c7168_i32_585
def k0_mult192 : BitVec 32 :=
  let c6912_i32_593 : BitVec 32 := 6912#32
  c6912_i32_593
def k0_mult193 : BitVec 32 :=
  let c7168_i32_602 : BitVec 32 := 7168#32
  c7168_i32_602
def k0_mult194 : BitVec 32 :=
  let c6912_i32_610 : BitVec 32 := 6912#32
  c6912_i32_610
def k0_mult195 : BitVec 32 :=
  let c7168_i32_619 : BitVec 32 := 7168#32
  c7168_i32_619
def k0_mult196 : BitVec 32 :=
  let c6912_i32_627 : BitVec 32 := 6912#32
  c6912_i32_627
def k0_mult197 : BitVec 32 :=
  let c7168_i32_636 : BitVec 32 := 7168#32
  c7168_i32_636
def k0_mult198 : BitVec 32 :=
  let c6912_i32_644 : BitVec 32 := 6912#32
  c6912_i32_644
def k0_mult199 : BitVec 32 :=
  let c7168_i32_653 : BitVec 32 := 7168#32
  c7168_i32_653
def k0_mult200 : BitVec 32 :=
  let c6912_i32_661 : BitVec 32 := 6912#32
  c6912_i32_661
def k0_mult201 : BitVec 32 :=
  let c7424_i32 : BitVec 32 := 7424#32
  c7424_i32
def k0_mult202 : BitVec 32 :=
  let c7168_i32_677 : BitVec 32 := 7168#32
  c7168_i32_677
def k0_mult203 : BitVec 32 :=
  let c7424_i32_686 : BitVec 32 := 7424#32
  c7424_i32_686
def k0_mult204 : BitVec 32 :=
  let c7168_i32_694 : BitVec 32 := 7168#32
  c7168_i32_694
def k0_mult205 : BitVec 32 :=
  let c7424_i32_703 : BitVec 32 := 7424#32
  c7424_i32_703
def k0_mult206 : BitVec 32 :=
  let c7168_i32_711 : BitVec 32 := 7168#32
  c7168_i32_711
def k0_mult207 : BitVec 32 :=
  let c7424_i32_720 : BitVec 32 := 7424#32
  c7424_i32_720
def k0_mult208 : BitVec 32 :=
  let c7168_i32_728 : BitVec 32 := 7168#32
  c7168_i32_728
def k0_mult209 : BitVec 32 :=
  let c7424_i32_737 : BitVec 32 := 7424#32
  c7424_i32_737
def k0_mult210 : BitVec 32 :=
  let c7168_i32_745 : BitVec 32 := 7168#32
  c7168_i32_745
def k0_mult211 : BitVec 32 :=
  let c7424_i32_754 : BitVec 32 := 7424#32
  c7424_i32_754
def k0_mult212 : BitVec 32 :=
  let c7168_i32_762 : BitVec 32 := 7168#32
  c7168_i32_762
def k0_mult213 : BitVec 32 :=
  let c7424_i32_771 : BitVec 32 := 7424#32
  c7424_i32_771
def k0_mult214 : BitVec 32 :=
  let c7168_i32_779 : BitVec 32 := 7168#32
  c7168_i32_779
def k0_mult215 : BitVec 32 :=
  let c7424_i32_788 : BitVec 32 := 7424#32
  c7424_i32_788
def k0_mult216 : BitVec 32 :=
  let c7168_i32_796 : BitVec 32 := 7168#32
  c7168_i32_796
def k0_mult217 : BitVec 32 :=
  let c7680_i32 : BitVec 32 := 7680#32
  c7680_i32
def k0_mult218 : BitVec 32 :=
  let c7424_i32_812 : BitVec 32 := 7424#32
  c7424_i32_812
def k0_mult219 : BitVec 32 :=
  let c7680_i32_821 : BitVec 32 := 7680#32
  c7680_i32_821
def k0_mult220 : BitVec 32 :=
  let c7424_i32_829 : BitVec 32 := 7424#32
  c7424_i32_829
def k0_mult221 : BitVec 32 :=
  let c7680_i32_838 : BitVec 32 := 7680#32
  c7680_i32_838
def k0_mult222 : BitVec 32 :=
  let c7424_i32_846 : BitVec 32 := 7424#32
  c7424_i32_846
def k0_mult223 : BitVec 32 :=
  let c7680_i32_855 : BitVec 32 := 7680#32
  c7680_i32_855
def k0_mult224 : BitVec 32 :=
  let c7424_i32_863 : BitVec 32 := 7424#32
  c7424_i32_863
def k0_mult225 : BitVec 32 :=
  let c7680_i32_872 : BitVec 32 := 7680#32
  c7680_i32_872
def k0_mult226 : BitVec 32 :=
  let c7424_i32_880 : BitVec 32 := 7424#32
  c7424_i32_880
def k0_mult227 : BitVec 32 :=
  let c7680_i32_889 : BitVec 32 := 7680#32
  c7680_i32_889
def k0_mult228 : BitVec 32 :=
  let c7424_i32_897 : BitVec 32 := 7424#32
  c7424_i32_897
def k0_mult229 : BitVec 32 :=
  let c7680_i32_906 : BitVec 32 := 7680#32
  c7680_i32_906
def k0_mult230 : BitVec 32 :=
  let c7424_i32_914 : BitVec 32 := 7424#32
  c7424_i32_914
def k0_mult231 : BitVec 32 :=
  let c7680_i32_923 : BitVec 32 := 7680#32
  c7680_i32_923
def k0_mult232 : BitVec 32 :=
  let c7424_i32_931 : BitVec 32 := 7424#32
  c7424_i32_931
def k0_mult233 : BitVec 32 :=
  let c7936_i32 : BitVec 32 := 7936#32
  c7936_i32
def k0_mult234 : BitVec 32 :=
  let c7680_i32_947 : BitVec 32 := 7680#32
  c7680_i32_947
def k0_mult235 : BitVec 32 :=
  let c7936_i32_956 : BitVec 32 := 7936#32
  c7936_i32_956
def k0_mult236 : BitVec 32 :=
  let c7680_i32_964 : BitVec 32 := 7680#32
  c7680_i32_964
def k0_mult237 : BitVec 32 :=
  let c7936_i32_973 : BitVec 32 := 7936#32
  c7936_i32_973
def k0_mult238 : BitVec 32 :=
  let c7680_i32_981 : BitVec 32 := 7680#32
  c7680_i32_981
def k0_mult239 : BitVec 32 :=
  let c7936_i32_990 : BitVec 32 := 7936#32
  c7936_i32_990
def k0_mult240 : BitVec 32 :=
  let c7680_i32_998 : BitVec 32 := 7680#32
  c7680_i32_998
def k0_mult241 : BitVec 32 :=
  let c7936_i32_1007 : BitVec 32 := 7936#32
  c7936_i32_1007
def k0_mult242 : BitVec 32 :=
  let c7680_i32_1015 : BitVec 32 := 7680#32
  c7680_i32_1015
def k0_mult243 : BitVec 32 :=
  let c7936_i32_1024 : BitVec 32 := 7936#32
  c7936_i32_1024
def k0_mult244 : BitVec 32 :=
  let c7680_i32_1032 : BitVec 32 := 7680#32
  c7680_i32_1032
def k0_mult245 : BitVec 32 :=
  let c7936_i32_1041 : BitVec 32 := 7936#32
  c7936_i32_1041
def k0_mult246 : BitVec 32 :=
  let c7680_i32_1049 : BitVec 32 := 7680#32
  c7680_i32_1049
def k0_mult247 : BitVec 32 :=
  let c7936_i32_1058 : BitVec 32 := 7936#32
  c7936_i32_1058
def k0_mult248 : BitVec 32 :=
  let c7680_i32_1066 : BitVec 32 := 7680#32
  c7680_i32_1066
def k0_mult249 : BitVec 32 :=
  let c7936_i32_1075 : BitVec 32 := 7936#32
  c7936_i32_1075
def k0_mult250 : BitVec 32 :=
  let c7936_i32_1084 : BitVec 32 := 7936#32
  c7936_i32_1084
def k0_mult251 : BitVec 32 :=
  let c7936_i32_1093 : BitVec 32 := 7936#32
  c7936_i32_1093
def k0_mult252 : BitVec 32 :=
  let c7936_i32_1102 : BitVec 32 := 7936#32
  c7936_i32_1102
def k0_mult253 : BitVec 32 :=
  let c7936_i32_1111 : BitVec 32 := 7936#32
  c7936_i32_1111
def k0_mult254 : BitVec 32 :=
  let c7936_i32_1120 : BitVec 32 := 7936#32
  c7936_i32_1120
def k0_mult255 : BitVec 32 :=
  let c7936_i32_1129 : BitVec 32 := 7936#32
  c7936_i32_1129
def k0_mult256 : BitVec 32 :=
  let c7936_i32_1138 : BitVec 32 := 7936#32
  c7936_i32_1138
def k0_mult257 : BitVec 32 :=
  let c0_i32_1170 : BitVec 32 := 0#32
  c0_i32_1170
def k0_mult258 : BitVec 32 :=
  let c0_i32_1178 : BitVec 32 := 0#32
  c0_i32_1178
def k0_mult259 : BitVec 32 :=
  let c0_i32_1186 : BitVec 32 := 0#32
  c0_i32_1186
def k0_mult260 : BitVec 32 :=
  let c0_i32_1194 : BitVec 32 := 0#32
  c0_i32_1194
def k0_mult261 : BitVec 32 :=
  let c0_i32_1202 : BitVec 32 := 0#32
  c0_i32_1202
def k0_mult262 : BitVec 32 :=
  let c0_i32_1210 : BitVec 32 := 0#32
  c0_i32_1210
def k0_mult263 : BitVec 32 :=
  let c0_i32_1218 : BitVec 32 := 0#32
  c0_i32_1218
def k0_mult264 : BitVec 32 :=
  let c0_i32_1226 : BitVec 32 := 0#32
  c0_i32_1226
@[reducible] def k0_t2_loop : Scf.Loop 32 :=
  let c0_i32_1234 : BitVec 32 := 0#32
  let c3_i32_1235 : BitVec 32 := 3#32
  let v1951 : BitVec 32 := Scalar.addi c0_i32_1234 c3_i32_1235
  let c1_i32_1236 : BitVec 32 := 1#32
  ⟨c0_i32_1234, v1951, c1_i32_1236⟩
def k0_mult265 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c0_i32_2215 : BitVec 32 := 0#32
  let v3333 : BitVec 32 := Scalar.addi v3320 c0_i32_2215
  let c256_i32 : BitVec 32 := 256#32
  let v3336 : BitVec 32 := Scalar.muli v3333 c256_i32
  v3336
def k0_off3 (k0_t2 : Fin k0_t2_loop.trips) (c0_i32_2215 : BitVec 32) : Fin 2 → Nat :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let v3333 : BitVec 32 := Scalar.addi v3320 c0_i32_2215
  let c256_i32 : BitVec 32 := 256#32
  let v3336 : BitVec 32 := Scalar.muli v3333 c256_i32
  let v3337 : BitVec 32 := v3336
  let v3338 : Index := Scalar.indexCast v3337
  let c0_2218 : Index := 0#32
  ![v3338.toNat, 0]
def k0_mult266 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c0_i32_2216 : BitVec 32 := 0#32
  let v3334 : BitVec 32 := Scalar.addi v3320 c0_i32_2216
  let c1_i32_2217 : BitVec 32 := 1#32
  let v3335 : BitVec 32 := Scalar.subi v3334 c1_i32_2217
  let c256_i32_2225 : BitVec 32 := 256#32
  let v3350 : BitVec 32 := Scalar.muli v3335 c256_i32_2225
  v3350
def k0_off4 (k0_t2 : Fin k0_t2_loop.trips) (c0_i32_2216 : BitVec 32) : Fin 2 → Nat :=
  let c0_2228 : Index := 0#32
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let v3334 : BitVec 32 := Scalar.addi v3320 c0_i32_2216
  let c1_i32_2217 : BitVec 32 := 1#32
  let v3335 : BitVec 32 := Scalar.subi v3334 c1_i32_2217
  let c256_i32_2225 : BitVec 32 := 256#32
  let v3350 : BitVec 32 := Scalar.muli v3335 c256_i32_2225
  let v3351 : BitVec 32 := v3350
  let v3354 : Index := Scalar.indexCast v3351
  ![0, v3354.toNat]
def k0_mult267 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c0_i32_2215 : BitVec 32 := 0#32
  let v3333 : BitVec 32 := Scalar.addi v3320 c0_i32_2215
  let c256_i32_2234 : BitVec 32 := 256#32
  let v3363 : BitVec 32 := Scalar.muli v3333 c256_i32_2234
  v3363
def k0_mult268 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c0_i32_2216 : BitVec 32 := 0#32
  let v3334 : BitVec 32 := Scalar.addi v3320 c0_i32_2216
  let c1_i32_2217 : BitVec 32 := 1#32
  let v3335 : BitVec 32 := Scalar.subi v3334 c1_i32_2217
  let c256_i32_2242 : BitVec 32 := 256#32
  let v3377 : BitVec 32 := Scalar.muli v3335 c256_i32_2242
  v3377
def k0_mult269 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c0_i32_2215 : BitVec 32 := 0#32
  let v3333 : BitVec 32 := Scalar.addi v3320 c0_i32_2215
  let c256_i32_2251 : BitVec 32 := 256#32
  let v3390 : BitVec 32 := Scalar.muli v3333 c256_i32_2251
  v3390
def k0_mult270 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c0_i32_2216 : BitVec 32 := 0#32
  let v3334 : BitVec 32 := Scalar.addi v3320 c0_i32_2216
  let c1_i32_2217 : BitVec 32 := 1#32
  let v3335 : BitVec 32 := Scalar.subi v3334 c1_i32_2217
  let c256_i32_2259 : BitVec 32 := 256#32
  let v3404 : BitVec 32 := Scalar.muli v3335 c256_i32_2259
  v3404
def k0_mult271 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c0_i32_2215 : BitVec 32 := 0#32
  let v3333 : BitVec 32 := Scalar.addi v3320 c0_i32_2215
  let c256_i32_2268 : BitVec 32 := 256#32
  let v3417 : BitVec 32 := Scalar.muli v3333 c256_i32_2268
  v3417
def k0_mult272 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c0_i32_2216 : BitVec 32 := 0#32
  let v3334 : BitVec 32 := Scalar.addi v3320 c0_i32_2216
  let c1_i32_2217 : BitVec 32 := 1#32
  let v3335 : BitVec 32 := Scalar.subi v3334 c1_i32_2217
  let c256_i32_2276 : BitVec 32 := 256#32
  let v3431 : BitVec 32 := Scalar.muli v3335 c256_i32_2276
  v3431
def k0_mult273 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c0_i32_2215 : BitVec 32 := 0#32
  let v3333 : BitVec 32 := Scalar.addi v3320 c0_i32_2215
  let c256_i32_2285 : BitVec 32 := 256#32
  let v3444 : BitVec 32 := Scalar.muli v3333 c256_i32_2285
  v3444
def k0_mult274 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c0_i32_2216 : BitVec 32 := 0#32
  let v3334 : BitVec 32 := Scalar.addi v3320 c0_i32_2216
  let c1_i32_2217 : BitVec 32 := 1#32
  let v3335 : BitVec 32 := Scalar.subi v3334 c1_i32_2217
  let c256_i32_2293 : BitVec 32 := 256#32
  let v3458 : BitVec 32 := Scalar.muli v3335 c256_i32_2293
  v3458
def k0_mult275 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c0_i32_2215 : BitVec 32 := 0#32
  let v3333 : BitVec 32 := Scalar.addi v3320 c0_i32_2215
  let c256_i32_2302 : BitVec 32 := 256#32
  let v3471 : BitVec 32 := Scalar.muli v3333 c256_i32_2302
  v3471
def k0_mult276 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c0_i32_2216 : BitVec 32 := 0#32
  let v3334 : BitVec 32 := Scalar.addi v3320 c0_i32_2216
  let c1_i32_2217 : BitVec 32 := 1#32
  let v3335 : BitVec 32 := Scalar.subi v3334 c1_i32_2217
  let c256_i32_2310 : BitVec 32 := 256#32
  let v3485 : BitVec 32 := Scalar.muli v3335 c256_i32_2310
  v3485
def k0_mult277 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c0_i32_2215 : BitVec 32 := 0#32
  let v3333 : BitVec 32 := Scalar.addi v3320 c0_i32_2215
  let c256_i32_2319 : BitVec 32 := 256#32
  let v3498 : BitVec 32 := Scalar.muli v3333 c256_i32_2319
  v3498
def k0_mult278 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c0_i32_2216 : BitVec 32 := 0#32
  let v3334 : BitVec 32 := Scalar.addi v3320 c0_i32_2216
  let c1_i32_2217 : BitVec 32 := 1#32
  let v3335 : BitVec 32 := Scalar.subi v3334 c1_i32_2217
  let c256_i32_2327 : BitVec 32 := 256#32
  let v3512 : BitVec 32 := Scalar.muli v3335 c256_i32_2327
  v3512
def k0_mult279 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c0_i32_2215 : BitVec 32 := 0#32
  let v3333 : BitVec 32 := Scalar.addi v3320 c0_i32_2215
  let c256_i32_2336 : BitVec 32 := 256#32
  let v3525 : BitVec 32 := Scalar.muli v3333 c256_i32_2336
  v3525
def k0_mult280 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c0_i32_2216 : BitVec 32 := 0#32
  let v3334 : BitVec 32 := Scalar.addi v3320 c0_i32_2216
  let c1_i32_2217 : BitVec 32 := 1#32
  let v3335 : BitVec 32 := Scalar.subi v3334 c1_i32_2217
  let c256_i32_2344 : BitVec 32 := 256#32
  let v3539 : BitVec 32 := Scalar.muli v3335 c256_i32_2344
  v3539
def k0_mult281 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c1_i32_2353 : BitVec 32 := 1#32
  let v3557 : BitVec 32 := Scalar.addi v3320 c1_i32_2353
  let c256_i32_2356 : BitVec 32 := 256#32
  let v3560 : BitVec 32 := Scalar.muli v3557 c256_i32_2356
  v3560
def k0_mult282 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c1_i32_2354 : BitVec 32 := 1#32
  let v3558 : BitVec 32 := Scalar.addi v3320 c1_i32_2354
  let c1_i32_2355 : BitVec 32 := 1#32
  let v3559 : BitVec 32 := Scalar.subi v3558 c1_i32_2355
  let c256_i32_2364 : BitVec 32 := 256#32
  let v3574 : BitVec 32 := Scalar.muli v3559 c256_i32_2364
  v3574
def k0_mult283 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c1_i32_2353 : BitVec 32 := 1#32
  let v3557 : BitVec 32 := Scalar.addi v3320 c1_i32_2353
  let c256_i32_2373 : BitVec 32 := 256#32
  let v3590 : BitVec 32 := Scalar.muli v3557 c256_i32_2373
  v3590
def k0_mult284 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c1_i32_2354 : BitVec 32 := 1#32
  let v3558 : BitVec 32 := Scalar.addi v3320 c1_i32_2354
  let c1_i32_2355 : BitVec 32 := 1#32
  let v3559 : BitVec 32 := Scalar.subi v3558 c1_i32_2355
  let c256_i32_2381 : BitVec 32 := 256#32
  let v3604 : BitVec 32 := Scalar.muli v3559 c256_i32_2381
  v3604
def k0_mult285 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c1_i32_2353 : BitVec 32 := 1#32
  let v3557 : BitVec 32 := Scalar.addi v3320 c1_i32_2353
  let c256_i32_2390 : BitVec 32 := 256#32
  let v3620 : BitVec 32 := Scalar.muli v3557 c256_i32_2390
  v3620
def k0_mult286 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c1_i32_2354 : BitVec 32 := 1#32
  let v3558 : BitVec 32 := Scalar.addi v3320 c1_i32_2354
  let c1_i32_2355 : BitVec 32 := 1#32
  let v3559 : BitVec 32 := Scalar.subi v3558 c1_i32_2355
  let c256_i32_2398 : BitVec 32 := 256#32
  let v3634 : BitVec 32 := Scalar.muli v3559 c256_i32_2398
  v3634
def k0_mult287 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c1_i32_2353 : BitVec 32 := 1#32
  let v3557 : BitVec 32 := Scalar.addi v3320 c1_i32_2353
  let c256_i32_2407 : BitVec 32 := 256#32
  let v3650 : BitVec 32 := Scalar.muli v3557 c256_i32_2407
  v3650
def k0_mult288 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c1_i32_2354 : BitVec 32 := 1#32
  let v3558 : BitVec 32 := Scalar.addi v3320 c1_i32_2354
  let c1_i32_2355 : BitVec 32 := 1#32
  let v3559 : BitVec 32 := Scalar.subi v3558 c1_i32_2355
  let c256_i32_2415 : BitVec 32 := 256#32
  let v3664 : BitVec 32 := Scalar.muli v3559 c256_i32_2415
  v3664
def k0_mult289 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c1_i32_2353 : BitVec 32 := 1#32
  let v3557 : BitVec 32 := Scalar.addi v3320 c1_i32_2353
  let c256_i32_2424 : BitVec 32 := 256#32
  let v3680 : BitVec 32 := Scalar.muli v3557 c256_i32_2424
  v3680
def k0_mult290 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c1_i32_2354 : BitVec 32 := 1#32
  let v3558 : BitVec 32 := Scalar.addi v3320 c1_i32_2354
  let c1_i32_2355 : BitVec 32 := 1#32
  let v3559 : BitVec 32 := Scalar.subi v3558 c1_i32_2355
  let c256_i32_2432 : BitVec 32 := 256#32
  let v3694 : BitVec 32 := Scalar.muli v3559 c256_i32_2432
  v3694
def k0_mult291 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c1_i32_2353 : BitVec 32 := 1#32
  let v3557 : BitVec 32 := Scalar.addi v3320 c1_i32_2353
  let c256_i32_2441 : BitVec 32 := 256#32
  let v3710 : BitVec 32 := Scalar.muli v3557 c256_i32_2441
  v3710
def k0_mult292 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c1_i32_2354 : BitVec 32 := 1#32
  let v3558 : BitVec 32 := Scalar.addi v3320 c1_i32_2354
  let c1_i32_2355 : BitVec 32 := 1#32
  let v3559 : BitVec 32 := Scalar.subi v3558 c1_i32_2355
  let c256_i32_2449 : BitVec 32 := 256#32
  let v3724 : BitVec 32 := Scalar.muli v3559 c256_i32_2449
  v3724
def k0_mult293 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c1_i32_2353 : BitVec 32 := 1#32
  let v3557 : BitVec 32 := Scalar.addi v3320 c1_i32_2353
  let c256_i32_2458 : BitVec 32 := 256#32
  let v3740 : BitVec 32 := Scalar.muli v3557 c256_i32_2458
  v3740
def k0_mult294 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c1_i32_2354 : BitVec 32 := 1#32
  let v3558 : BitVec 32 := Scalar.addi v3320 c1_i32_2354
  let c1_i32_2355 : BitVec 32 := 1#32
  let v3559 : BitVec 32 := Scalar.subi v3558 c1_i32_2355
  let c256_i32_2466 : BitVec 32 := 256#32
  let v3754 : BitVec 32 := Scalar.muli v3559 c256_i32_2466
  v3754
def k0_mult295 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c1_i32_2353 : BitVec 32 := 1#32
  let v3557 : BitVec 32 := Scalar.addi v3320 c1_i32_2353
  let c256_i32_2475 : BitVec 32 := 256#32
  let v3770 : BitVec 32 := Scalar.muli v3557 c256_i32_2475
  v3770
def k0_mult296 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c1_i32_2354 : BitVec 32 := 1#32
  let v3558 : BitVec 32 := Scalar.addi v3320 c1_i32_2354
  let c1_i32_2355 : BitVec 32 := 1#32
  let v3559 : BitVec 32 := Scalar.subi v3558 c1_i32_2355
  let c256_i32_2483 : BitVec 32 := 256#32
  let v3784 : BitVec 32 := Scalar.muli v3559 c256_i32_2483
  v3784
def k0_mult297 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c2_i32 : BitVec 32 := 2#32
  let v3803 : BitVec 32 := Scalar.addi v3320 c2_i32
  let c256_i32_2494 : BitVec 32 := 256#32
  let v3806 : BitVec 32 := Scalar.muli v3803 c256_i32_2494
  v3806
def k0_mult298 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c2_i32_2492 : BitVec 32 := 2#32
  let v3804 : BitVec 32 := Scalar.addi v3320 c2_i32_2492
  let c1_i32_2493 : BitVec 32 := 1#32
  let v3805 : BitVec 32 := Scalar.subi v3804 c1_i32_2493
  let c256_i32_2502 : BitVec 32 := 256#32
  let v3820 : BitVec 32 := Scalar.muli v3805 c256_i32_2502
  v3820
def k0_mult299 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c2_i32 : BitVec 32 := 2#32
  let v3803 : BitVec 32 := Scalar.addi v3320 c2_i32
  let c256_i32_2511 : BitVec 32 := 256#32
  let v3833 : BitVec 32 := Scalar.muli v3803 c256_i32_2511
  v3833
def k0_mult300 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c2_i32_2492 : BitVec 32 := 2#32
  let v3804 : BitVec 32 := Scalar.addi v3320 c2_i32_2492
  let c1_i32_2493 : BitVec 32 := 1#32
  let v3805 : BitVec 32 := Scalar.subi v3804 c1_i32_2493
  let c256_i32_2519 : BitVec 32 := 256#32
  let v3847 : BitVec 32 := Scalar.muli v3805 c256_i32_2519
  v3847
def k0_mult301 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c2_i32 : BitVec 32 := 2#32
  let v3803 : BitVec 32 := Scalar.addi v3320 c2_i32
  let c256_i32_2528 : BitVec 32 := 256#32
  let v3860 : BitVec 32 := Scalar.muli v3803 c256_i32_2528
  v3860
def k0_mult302 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c2_i32_2492 : BitVec 32 := 2#32
  let v3804 : BitVec 32 := Scalar.addi v3320 c2_i32_2492
  let c1_i32_2493 : BitVec 32 := 1#32
  let v3805 : BitVec 32 := Scalar.subi v3804 c1_i32_2493
  let c256_i32_2536 : BitVec 32 := 256#32
  let v3874 : BitVec 32 := Scalar.muli v3805 c256_i32_2536
  v3874
def k0_mult303 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c2_i32 : BitVec 32 := 2#32
  let v3803 : BitVec 32 := Scalar.addi v3320 c2_i32
  let c256_i32_2545 : BitVec 32 := 256#32
  let v3887 : BitVec 32 := Scalar.muli v3803 c256_i32_2545
  v3887
def k0_mult304 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c2_i32_2492 : BitVec 32 := 2#32
  let v3804 : BitVec 32 := Scalar.addi v3320 c2_i32_2492
  let c1_i32_2493 : BitVec 32 := 1#32
  let v3805 : BitVec 32 := Scalar.subi v3804 c1_i32_2493
  let c256_i32_2553 : BitVec 32 := 256#32
  let v3901 : BitVec 32 := Scalar.muli v3805 c256_i32_2553
  v3901
def k0_mult305 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c2_i32 : BitVec 32 := 2#32
  let v3803 : BitVec 32 := Scalar.addi v3320 c2_i32
  let c256_i32_2562 : BitVec 32 := 256#32
  let v3914 : BitVec 32 := Scalar.muli v3803 c256_i32_2562
  v3914
def k0_mult306 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c2_i32_2492 : BitVec 32 := 2#32
  let v3804 : BitVec 32 := Scalar.addi v3320 c2_i32_2492
  let c1_i32_2493 : BitVec 32 := 1#32
  let v3805 : BitVec 32 := Scalar.subi v3804 c1_i32_2493
  let c256_i32_2570 : BitVec 32 := 256#32
  let v3928 : BitVec 32 := Scalar.muli v3805 c256_i32_2570
  v3928
def k0_mult307 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c2_i32 : BitVec 32 := 2#32
  let v3803 : BitVec 32 := Scalar.addi v3320 c2_i32
  let c256_i32_2579 : BitVec 32 := 256#32
  let v3941 : BitVec 32 := Scalar.muli v3803 c256_i32_2579
  v3941
def k0_mult308 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c2_i32_2492 : BitVec 32 := 2#32
  let v3804 : BitVec 32 := Scalar.addi v3320 c2_i32_2492
  let c1_i32_2493 : BitVec 32 := 1#32
  let v3805 : BitVec 32 := Scalar.subi v3804 c1_i32_2493
  let c256_i32_2587 : BitVec 32 := 256#32
  let v3955 : BitVec 32 := Scalar.muli v3805 c256_i32_2587
  v3955
def k0_mult309 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c2_i32 : BitVec 32 := 2#32
  let v3803 : BitVec 32 := Scalar.addi v3320 c2_i32
  let c256_i32_2596 : BitVec 32 := 256#32
  let v3968 : BitVec 32 := Scalar.muli v3803 c256_i32_2596
  v3968
def k0_mult310 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c2_i32_2492 : BitVec 32 := 2#32
  let v3804 : BitVec 32 := Scalar.addi v3320 c2_i32_2492
  let c1_i32_2493 : BitVec 32 := 1#32
  let v3805 : BitVec 32 := Scalar.subi v3804 c1_i32_2493
  let c256_i32_2604 : BitVec 32 := 256#32
  let v3982 : BitVec 32 := Scalar.muli v3805 c256_i32_2604
  v3982
def k0_mult311 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c2_i32 : BitVec 32 := 2#32
  let v3803 : BitVec 32 := Scalar.addi v3320 c2_i32
  let c256_i32_2613 : BitVec 32 := 256#32
  let v3995 : BitVec 32 := Scalar.muli v3803 c256_i32_2613
  v3995
def k0_mult312 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c2_i32_2492 : BitVec 32 := 2#32
  let v3804 : BitVec 32 := Scalar.addi v3320 c2_i32_2492
  let c1_i32_2493 : BitVec 32 := 1#32
  let v3805 : BitVec 32 := Scalar.subi v3804 c1_i32_2493
  let c256_i32_2621 : BitVec 32 := 256#32
  let v4009 : BitVec 32 := Scalar.muli v3805 c256_i32_2621
  v4009
def k0_mult313 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c3_i32_2630 : BitVec 32 := 3#32
  let v4025 : BitVec 32 := Scalar.addi v3320 c3_i32_2630
  let c256_i32_2633 : BitVec 32 := 256#32
  let v4028 : BitVec 32 := Scalar.muli v4025 c256_i32_2633
  v4028
def k0_mult314 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c3_i32_2631 : BitVec 32 := 3#32
  let v4026 : BitVec 32 := Scalar.addi v3320 c3_i32_2631
  let c1_i32_2632 : BitVec 32 := 1#32
  let v4027 : BitVec 32 := Scalar.subi v4026 c1_i32_2632
  let c256_i32_2641 : BitVec 32 := 256#32
  let v4042 : BitVec 32 := Scalar.muli v4027 c256_i32_2641
  v4042
def k0_mult315 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c3_i32_2630 : BitVec 32 := 3#32
  let v4025 : BitVec 32 := Scalar.addi v3320 c3_i32_2630
  let c256_i32_2650 : BitVec 32 := 256#32
  let v4055 : BitVec 32 := Scalar.muli v4025 c256_i32_2650
  v4055
def k0_mult316 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c3_i32_2631 : BitVec 32 := 3#32
  let v4026 : BitVec 32 := Scalar.addi v3320 c3_i32_2631
  let c1_i32_2632 : BitVec 32 := 1#32
  let v4027 : BitVec 32 := Scalar.subi v4026 c1_i32_2632
  let c256_i32_2658 : BitVec 32 := 256#32
  let v4069 : BitVec 32 := Scalar.muli v4027 c256_i32_2658
  v4069
def k0_mult317 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c3_i32_2630 : BitVec 32 := 3#32
  let v4025 : BitVec 32 := Scalar.addi v3320 c3_i32_2630
  let c256_i32_2667 : BitVec 32 := 256#32
  let v4082 : BitVec 32 := Scalar.muli v4025 c256_i32_2667
  v4082
def k0_mult318 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c3_i32_2631 : BitVec 32 := 3#32
  let v4026 : BitVec 32 := Scalar.addi v3320 c3_i32_2631
  let c1_i32_2632 : BitVec 32 := 1#32
  let v4027 : BitVec 32 := Scalar.subi v4026 c1_i32_2632
  let c256_i32_2675 : BitVec 32 := 256#32
  let v4096 : BitVec 32 := Scalar.muli v4027 c256_i32_2675
  v4096
def k0_mult319 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c3_i32_2630 : BitVec 32 := 3#32
  let v4025 : BitVec 32 := Scalar.addi v3320 c3_i32_2630
  let c256_i32_2684 : BitVec 32 := 256#32
  let v4109 : BitVec 32 := Scalar.muli v4025 c256_i32_2684
  v4109
def k0_mult320 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c3_i32_2631 : BitVec 32 := 3#32
  let v4026 : BitVec 32 := Scalar.addi v3320 c3_i32_2631
  let c1_i32_2632 : BitVec 32 := 1#32
  let v4027 : BitVec 32 := Scalar.subi v4026 c1_i32_2632
  let c256_i32_2692 : BitVec 32 := 256#32
  let v4123 : BitVec 32 := Scalar.muli v4027 c256_i32_2692
  v4123
def k0_mult321 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c3_i32_2630 : BitVec 32 := 3#32
  let v4025 : BitVec 32 := Scalar.addi v3320 c3_i32_2630
  let c256_i32_2701 : BitVec 32 := 256#32
  let v4136 : BitVec 32 := Scalar.muli v4025 c256_i32_2701
  v4136
def k0_mult322 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c3_i32_2631 : BitVec 32 := 3#32
  let v4026 : BitVec 32 := Scalar.addi v3320 c3_i32_2631
  let c1_i32_2632 : BitVec 32 := 1#32
  let v4027 : BitVec 32 := Scalar.subi v4026 c1_i32_2632
  let c256_i32_2709 : BitVec 32 := 256#32
  let v4150 : BitVec 32 := Scalar.muli v4027 c256_i32_2709
  v4150
def k0_mult323 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c3_i32_2630 : BitVec 32 := 3#32
  let v4025 : BitVec 32 := Scalar.addi v3320 c3_i32_2630
  let c256_i32_2718 : BitVec 32 := 256#32
  let v4163 : BitVec 32 := Scalar.muli v4025 c256_i32_2718
  v4163
def k0_mult324 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c3_i32_2631 : BitVec 32 := 3#32
  let v4026 : BitVec 32 := Scalar.addi v3320 c3_i32_2631
  let c1_i32_2632 : BitVec 32 := 1#32
  let v4027 : BitVec 32 := Scalar.subi v4026 c1_i32_2632
  let c256_i32_2726 : BitVec 32 := 256#32
  let v4177 : BitVec 32 := Scalar.muli v4027 c256_i32_2726
  v4177
def k0_mult325 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c3_i32_2630 : BitVec 32 := 3#32
  let v4025 : BitVec 32 := Scalar.addi v3320 c3_i32_2630
  let c256_i32_2735 : BitVec 32 := 256#32
  let v4190 : BitVec 32 := Scalar.muli v4025 c256_i32_2735
  v4190
def k0_mult326 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c3_i32_2631 : BitVec 32 := 3#32
  let v4026 : BitVec 32 := Scalar.addi v3320 c3_i32_2631
  let c1_i32_2632 : BitVec 32 := 1#32
  let v4027 : BitVec 32 := Scalar.subi v4026 c1_i32_2632
  let c256_i32_2743 : BitVec 32 := 256#32
  let v4204 : BitVec 32 := Scalar.muli v4027 c256_i32_2743
  v4204
def k0_mult327 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c3_i32_2630 : BitVec 32 := 3#32
  let v4025 : BitVec 32 := Scalar.addi v3320 c3_i32_2630
  let c256_i32_2752 : BitVec 32 := 256#32
  let v4217 : BitVec 32 := Scalar.muli v4025 c256_i32_2752
  v4217
def k0_mult328 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c3_i32_2631 : BitVec 32 := 3#32
  let v4026 : BitVec 32 := Scalar.addi v3320 c3_i32_2631
  let c1_i32_2632 : BitVec 32 := 1#32
  let v4027 : BitVec 32 := Scalar.subi v4026 c1_i32_2632
  let c256_i32_2760 : BitVec 32 := 256#32
  let v4231 : BitVec 32 := Scalar.muli v4027 c256_i32_2760
  v4231
def k0_mult329 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c4_i32 : BitVec 32 := 4#32
  let v4247 : BitVec 32 := Scalar.addi v3320 c4_i32
  let c256_i32_2771 : BitVec 32 := 256#32
  let v4250 : BitVec 32 := Scalar.muli v4247 c256_i32_2771
  v4250
def k0_mult330 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c4_i32_2769 : BitVec 32 := 4#32
  let v4248 : BitVec 32 := Scalar.addi v3320 c4_i32_2769
  let c1_i32_2770 : BitVec 32 := 1#32
  let v4249 : BitVec 32 := Scalar.subi v4248 c1_i32_2770
  let c256_i32_2779 : BitVec 32 := 256#32
  let v4264 : BitVec 32 := Scalar.muli v4249 c256_i32_2779
  v4264
def k0_mult331 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c4_i32 : BitVec 32 := 4#32
  let v4247 : BitVec 32 := Scalar.addi v3320 c4_i32
  let c256_i32_2788 : BitVec 32 := 256#32
  let v4277 : BitVec 32 := Scalar.muli v4247 c256_i32_2788
  v4277
def k0_mult332 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c4_i32_2769 : BitVec 32 := 4#32
  let v4248 : BitVec 32 := Scalar.addi v3320 c4_i32_2769
  let c1_i32_2770 : BitVec 32 := 1#32
  let v4249 : BitVec 32 := Scalar.subi v4248 c1_i32_2770
  let c256_i32_2796 : BitVec 32 := 256#32
  let v4291 : BitVec 32 := Scalar.muli v4249 c256_i32_2796
  v4291
def k0_mult333 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c4_i32 : BitVec 32 := 4#32
  let v4247 : BitVec 32 := Scalar.addi v3320 c4_i32
  let c256_i32_2805 : BitVec 32 := 256#32
  let v4304 : BitVec 32 := Scalar.muli v4247 c256_i32_2805
  v4304
def k0_mult334 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c4_i32_2769 : BitVec 32 := 4#32
  let v4248 : BitVec 32 := Scalar.addi v3320 c4_i32_2769
  let c1_i32_2770 : BitVec 32 := 1#32
  let v4249 : BitVec 32 := Scalar.subi v4248 c1_i32_2770
  let c256_i32_2813 : BitVec 32 := 256#32
  let v4318 : BitVec 32 := Scalar.muli v4249 c256_i32_2813
  v4318
def k0_mult335 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c4_i32 : BitVec 32 := 4#32
  let v4247 : BitVec 32 := Scalar.addi v3320 c4_i32
  let c256_i32_2822 : BitVec 32 := 256#32
  let v4331 : BitVec 32 := Scalar.muli v4247 c256_i32_2822
  v4331
def k0_mult336 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c4_i32_2769 : BitVec 32 := 4#32
  let v4248 : BitVec 32 := Scalar.addi v3320 c4_i32_2769
  let c1_i32_2770 : BitVec 32 := 1#32
  let v4249 : BitVec 32 := Scalar.subi v4248 c1_i32_2770
  let c256_i32_2830 : BitVec 32 := 256#32
  let v4345 : BitVec 32 := Scalar.muli v4249 c256_i32_2830
  v4345
def k0_mult337 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c4_i32 : BitVec 32 := 4#32
  let v4247 : BitVec 32 := Scalar.addi v3320 c4_i32
  let c256_i32_2839 : BitVec 32 := 256#32
  let v4358 : BitVec 32 := Scalar.muli v4247 c256_i32_2839
  v4358
def k0_mult338 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c4_i32_2769 : BitVec 32 := 4#32
  let v4248 : BitVec 32 := Scalar.addi v3320 c4_i32_2769
  let c1_i32_2770 : BitVec 32 := 1#32
  let v4249 : BitVec 32 := Scalar.subi v4248 c1_i32_2770
  let c256_i32_2847 : BitVec 32 := 256#32
  let v4372 : BitVec 32 := Scalar.muli v4249 c256_i32_2847
  v4372
def k0_mult339 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c4_i32 : BitVec 32 := 4#32
  let v4247 : BitVec 32 := Scalar.addi v3320 c4_i32
  let c256_i32_2856 : BitVec 32 := 256#32
  let v4385 : BitVec 32 := Scalar.muli v4247 c256_i32_2856
  v4385
def k0_mult340 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c4_i32_2769 : BitVec 32 := 4#32
  let v4248 : BitVec 32 := Scalar.addi v3320 c4_i32_2769
  let c1_i32_2770 : BitVec 32 := 1#32
  let v4249 : BitVec 32 := Scalar.subi v4248 c1_i32_2770
  let c256_i32_2864 : BitVec 32 := 256#32
  let v4399 : BitVec 32 := Scalar.muli v4249 c256_i32_2864
  v4399
def k0_mult341 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c4_i32 : BitVec 32 := 4#32
  let v4247 : BitVec 32 := Scalar.addi v3320 c4_i32
  let c256_i32_2873 : BitVec 32 := 256#32
  let v4412 : BitVec 32 := Scalar.muli v4247 c256_i32_2873
  v4412
def k0_mult342 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c4_i32_2769 : BitVec 32 := 4#32
  let v4248 : BitVec 32 := Scalar.addi v3320 c4_i32_2769
  let c1_i32_2770 : BitVec 32 := 1#32
  let v4249 : BitVec 32 := Scalar.subi v4248 c1_i32_2770
  let c256_i32_2881 : BitVec 32 := 256#32
  let v4426 : BitVec 32 := Scalar.muli v4249 c256_i32_2881
  v4426
def k0_mult343 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c4_i32 : BitVec 32 := 4#32
  let v4247 : BitVec 32 := Scalar.addi v3320 c4_i32
  let c256_i32_2890 : BitVec 32 := 256#32
  let v4439 : BitVec 32 := Scalar.muli v4247 c256_i32_2890
  v4439
def k0_mult344 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c4_i32_2769 : BitVec 32 := 4#32
  let v4248 : BitVec 32 := Scalar.addi v3320 c4_i32_2769
  let c1_i32_2770 : BitVec 32 := 1#32
  let v4249 : BitVec 32 := Scalar.subi v4248 c1_i32_2770
  let c256_i32_2898 : BitVec 32 := 256#32
  let v4453 : BitVec 32 := Scalar.muli v4249 c256_i32_2898
  v4453
def k0_mult345 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c5_i32 : BitVec 32 := 5#32
  let v4469 : BitVec 32 := Scalar.addi v3320 c5_i32
  let c256_i32_2909 : BitVec 32 := 256#32
  let v4472 : BitVec 32 := Scalar.muli v4469 c256_i32_2909
  v4472
def k0_mult346 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c5_i32_2907 : BitVec 32 := 5#32
  let v4470 : BitVec 32 := Scalar.addi v3320 c5_i32_2907
  let c1_i32_2908 : BitVec 32 := 1#32
  let v4471 : BitVec 32 := Scalar.subi v4470 c1_i32_2908
  let c256_i32_2917 : BitVec 32 := 256#32
  let v4486 : BitVec 32 := Scalar.muli v4471 c256_i32_2917
  v4486
def k0_mult347 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c5_i32 : BitVec 32 := 5#32
  let v4469 : BitVec 32 := Scalar.addi v3320 c5_i32
  let c256_i32_2926 : BitVec 32 := 256#32
  let v4499 : BitVec 32 := Scalar.muli v4469 c256_i32_2926
  v4499
def k0_mult348 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c5_i32_2907 : BitVec 32 := 5#32
  let v4470 : BitVec 32 := Scalar.addi v3320 c5_i32_2907
  let c1_i32_2908 : BitVec 32 := 1#32
  let v4471 : BitVec 32 := Scalar.subi v4470 c1_i32_2908
  let c256_i32_2934 : BitVec 32 := 256#32
  let v4513 : BitVec 32 := Scalar.muli v4471 c256_i32_2934
  v4513
def k0_mult349 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c5_i32 : BitVec 32 := 5#32
  let v4469 : BitVec 32 := Scalar.addi v3320 c5_i32
  let c256_i32_2943 : BitVec 32 := 256#32
  let v4526 : BitVec 32 := Scalar.muli v4469 c256_i32_2943
  v4526
def k0_mult350 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c5_i32_2907 : BitVec 32 := 5#32
  let v4470 : BitVec 32 := Scalar.addi v3320 c5_i32_2907
  let c1_i32_2908 : BitVec 32 := 1#32
  let v4471 : BitVec 32 := Scalar.subi v4470 c1_i32_2908
  let c256_i32_2951 : BitVec 32 := 256#32
  let v4540 : BitVec 32 := Scalar.muli v4471 c256_i32_2951
  v4540
def k0_mult351 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c5_i32 : BitVec 32 := 5#32
  let v4469 : BitVec 32 := Scalar.addi v3320 c5_i32
  let c256_i32_2960 : BitVec 32 := 256#32
  let v4553 : BitVec 32 := Scalar.muli v4469 c256_i32_2960
  v4553
def k0_mult352 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c5_i32_2907 : BitVec 32 := 5#32
  let v4470 : BitVec 32 := Scalar.addi v3320 c5_i32_2907
  let c1_i32_2908 : BitVec 32 := 1#32
  let v4471 : BitVec 32 := Scalar.subi v4470 c1_i32_2908
  let c256_i32_2968 : BitVec 32 := 256#32
  let v4567 : BitVec 32 := Scalar.muli v4471 c256_i32_2968
  v4567
def k0_mult353 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c5_i32 : BitVec 32 := 5#32
  let v4469 : BitVec 32 := Scalar.addi v3320 c5_i32
  let c256_i32_2977 : BitVec 32 := 256#32
  let v4580 : BitVec 32 := Scalar.muli v4469 c256_i32_2977
  v4580
def k0_mult354 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c5_i32_2907 : BitVec 32 := 5#32
  let v4470 : BitVec 32 := Scalar.addi v3320 c5_i32_2907
  let c1_i32_2908 : BitVec 32 := 1#32
  let v4471 : BitVec 32 := Scalar.subi v4470 c1_i32_2908
  let c256_i32_2985 : BitVec 32 := 256#32
  let v4594 : BitVec 32 := Scalar.muli v4471 c256_i32_2985
  v4594
def k0_mult355 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c5_i32 : BitVec 32 := 5#32
  let v4469 : BitVec 32 := Scalar.addi v3320 c5_i32
  let c256_i32_2994 : BitVec 32 := 256#32
  let v4607 : BitVec 32 := Scalar.muli v4469 c256_i32_2994
  v4607
def k0_mult356 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c5_i32_2907 : BitVec 32 := 5#32
  let v4470 : BitVec 32 := Scalar.addi v3320 c5_i32_2907
  let c1_i32_2908 : BitVec 32 := 1#32
  let v4471 : BitVec 32 := Scalar.subi v4470 c1_i32_2908
  let c256_i32_3002 : BitVec 32 := 256#32
  let v4621 : BitVec 32 := Scalar.muli v4471 c256_i32_3002
  v4621
def k0_mult357 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c5_i32 : BitVec 32 := 5#32
  let v4469 : BitVec 32 := Scalar.addi v3320 c5_i32
  let c256_i32_3011 : BitVec 32 := 256#32
  let v4634 : BitVec 32 := Scalar.muli v4469 c256_i32_3011
  v4634
def k0_mult358 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c5_i32_2907 : BitVec 32 := 5#32
  let v4470 : BitVec 32 := Scalar.addi v3320 c5_i32_2907
  let c1_i32_2908 : BitVec 32 := 1#32
  let v4471 : BitVec 32 := Scalar.subi v4470 c1_i32_2908
  let c256_i32_3019 : BitVec 32 := 256#32
  let v4648 : BitVec 32 := Scalar.muli v4471 c256_i32_3019
  v4648
def k0_mult359 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c5_i32 : BitVec 32 := 5#32
  let v4469 : BitVec 32 := Scalar.addi v3320 c5_i32
  let c256_i32_3028 : BitVec 32 := 256#32
  let v4661 : BitVec 32 := Scalar.muli v4469 c256_i32_3028
  v4661
def k0_mult360 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c5_i32_2907 : BitVec 32 := 5#32
  let v4470 : BitVec 32 := Scalar.addi v3320 c5_i32_2907
  let c1_i32_2908 : BitVec 32 := 1#32
  let v4471 : BitVec 32 := Scalar.subi v4470 c1_i32_2908
  let c256_i32_3036 : BitVec 32 := 256#32
  let v4675 : BitVec 32 := Scalar.muli v4471 c256_i32_3036
  v4675
def k0_mult361 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c6_i32 : BitVec 32 := 6#32
  let v4691 : BitVec 32 := Scalar.addi v3320 c6_i32
  let c256_i32_3047 : BitVec 32 := 256#32
  let v4694 : BitVec 32 := Scalar.muli v4691 c256_i32_3047
  v4694
def k0_mult362 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c6_i32_3045 : BitVec 32 := 6#32
  let v4692 : BitVec 32 := Scalar.addi v3320 c6_i32_3045
  let c1_i32_3046 : BitVec 32 := 1#32
  let v4693 : BitVec 32 := Scalar.subi v4692 c1_i32_3046
  let c256_i32_3055 : BitVec 32 := 256#32
  let v4708 : BitVec 32 := Scalar.muli v4693 c256_i32_3055
  v4708
def k0_mult363 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c6_i32 : BitVec 32 := 6#32
  let v4691 : BitVec 32 := Scalar.addi v3320 c6_i32
  let c256_i32_3064 : BitVec 32 := 256#32
  let v4721 : BitVec 32 := Scalar.muli v4691 c256_i32_3064
  v4721
def k0_mult364 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c6_i32_3045 : BitVec 32 := 6#32
  let v4692 : BitVec 32 := Scalar.addi v3320 c6_i32_3045
  let c1_i32_3046 : BitVec 32 := 1#32
  let v4693 : BitVec 32 := Scalar.subi v4692 c1_i32_3046
  let c256_i32_3072 : BitVec 32 := 256#32
  let v4735 : BitVec 32 := Scalar.muli v4693 c256_i32_3072
  v4735
def k0_mult365 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c6_i32 : BitVec 32 := 6#32
  let v4691 : BitVec 32 := Scalar.addi v3320 c6_i32
  let c256_i32_3081 : BitVec 32 := 256#32
  let v4748 : BitVec 32 := Scalar.muli v4691 c256_i32_3081
  v4748
def k0_mult366 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c6_i32_3045 : BitVec 32 := 6#32
  let v4692 : BitVec 32 := Scalar.addi v3320 c6_i32_3045
  let c1_i32_3046 : BitVec 32 := 1#32
  let v4693 : BitVec 32 := Scalar.subi v4692 c1_i32_3046
  let c256_i32_3089 : BitVec 32 := 256#32
  let v4762 : BitVec 32 := Scalar.muli v4693 c256_i32_3089
  v4762
def k0_mult367 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c6_i32 : BitVec 32 := 6#32
  let v4691 : BitVec 32 := Scalar.addi v3320 c6_i32
  let c256_i32_3098 : BitVec 32 := 256#32
  let v4775 : BitVec 32 := Scalar.muli v4691 c256_i32_3098
  v4775
def k0_mult368 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c6_i32_3045 : BitVec 32 := 6#32
  let v4692 : BitVec 32 := Scalar.addi v3320 c6_i32_3045
  let c1_i32_3046 : BitVec 32 := 1#32
  let v4693 : BitVec 32 := Scalar.subi v4692 c1_i32_3046
  let c256_i32_3106 : BitVec 32 := 256#32
  let v4789 : BitVec 32 := Scalar.muli v4693 c256_i32_3106
  v4789
def k0_mult369 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c6_i32 : BitVec 32 := 6#32
  let v4691 : BitVec 32 := Scalar.addi v3320 c6_i32
  let c256_i32_3115 : BitVec 32 := 256#32
  let v4802 : BitVec 32 := Scalar.muli v4691 c256_i32_3115
  v4802
def k0_mult370 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c6_i32_3045 : BitVec 32 := 6#32
  let v4692 : BitVec 32 := Scalar.addi v3320 c6_i32_3045
  let c1_i32_3046 : BitVec 32 := 1#32
  let v4693 : BitVec 32 := Scalar.subi v4692 c1_i32_3046
  let c256_i32_3123 : BitVec 32 := 256#32
  let v4816 : BitVec 32 := Scalar.muli v4693 c256_i32_3123
  v4816
def k0_mult371 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c6_i32 : BitVec 32 := 6#32
  let v4691 : BitVec 32 := Scalar.addi v3320 c6_i32
  let c256_i32_3132 : BitVec 32 := 256#32
  let v4829 : BitVec 32 := Scalar.muli v4691 c256_i32_3132
  v4829
def k0_mult372 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c6_i32_3045 : BitVec 32 := 6#32
  let v4692 : BitVec 32 := Scalar.addi v3320 c6_i32_3045
  let c1_i32_3046 : BitVec 32 := 1#32
  let v4693 : BitVec 32 := Scalar.subi v4692 c1_i32_3046
  let c256_i32_3140 : BitVec 32 := 256#32
  let v4843 : BitVec 32 := Scalar.muli v4693 c256_i32_3140
  v4843
def k0_mult373 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c6_i32 : BitVec 32 := 6#32
  let v4691 : BitVec 32 := Scalar.addi v3320 c6_i32
  let c256_i32_3149 : BitVec 32 := 256#32
  let v4856 : BitVec 32 := Scalar.muli v4691 c256_i32_3149
  v4856
def k0_mult374 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c6_i32_3045 : BitVec 32 := 6#32
  let v4692 : BitVec 32 := Scalar.addi v3320 c6_i32_3045
  let c1_i32_3046 : BitVec 32 := 1#32
  let v4693 : BitVec 32 := Scalar.subi v4692 c1_i32_3046
  let c256_i32_3157 : BitVec 32 := 256#32
  let v4870 : BitVec 32 := Scalar.muli v4693 c256_i32_3157
  v4870
def k0_mult375 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c6_i32 : BitVec 32 := 6#32
  let v4691 : BitVec 32 := Scalar.addi v3320 c6_i32
  let c256_i32_3166 : BitVec 32 := 256#32
  let v4883 : BitVec 32 := Scalar.muli v4691 c256_i32_3166
  v4883
def k0_mult376 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c6_i32_3045 : BitVec 32 := 6#32
  let v4692 : BitVec 32 := Scalar.addi v3320 c6_i32_3045
  let c1_i32_3046 : BitVec 32 := 1#32
  let v4693 : BitVec 32 := Scalar.subi v4692 c1_i32_3046
  let c256_i32_3174 : BitVec 32 := 256#32
  let v4897 : BitVec 32 := Scalar.muli v4693 c256_i32_3174
  v4897
def k0_mult377 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c7_i32 : BitVec 32 := 7#32
  let v4913 : BitVec 32 := Scalar.addi v3320 c7_i32
  let c256_i32_3185 : BitVec 32 := 256#32
  let v4916 : BitVec 32 := Scalar.muli v4913 c256_i32_3185
  v4916
def k0_mult378 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c7_i32_3183 : BitVec 32 := 7#32
  let v4914 : BitVec 32 := Scalar.addi v3320 c7_i32_3183
  let c1_i32_3184 : BitVec 32 := 1#32
  let v4915 : BitVec 32 := Scalar.subi v4914 c1_i32_3184
  let c256_i32_3193 : BitVec 32 := 256#32
  let v4930 : BitVec 32 := Scalar.muli v4915 c256_i32_3193
  v4930
def k0_mult379 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c7_i32 : BitVec 32 := 7#32
  let v4913 : BitVec 32 := Scalar.addi v3320 c7_i32
  let c256_i32_3202 : BitVec 32 := 256#32
  let v4943 : BitVec 32 := Scalar.muli v4913 c256_i32_3202
  v4943
def k0_mult380 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c7_i32_3183 : BitVec 32 := 7#32
  let v4914 : BitVec 32 := Scalar.addi v3320 c7_i32_3183
  let c1_i32_3184 : BitVec 32 := 1#32
  let v4915 : BitVec 32 := Scalar.subi v4914 c1_i32_3184
  let c256_i32_3210 : BitVec 32 := 256#32
  let v4957 : BitVec 32 := Scalar.muli v4915 c256_i32_3210
  v4957
def k0_mult381 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c7_i32 : BitVec 32 := 7#32
  let v4913 : BitVec 32 := Scalar.addi v3320 c7_i32
  let c256_i32_3219 : BitVec 32 := 256#32
  let v4970 : BitVec 32 := Scalar.muli v4913 c256_i32_3219
  v4970
def k0_mult382 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c7_i32_3183 : BitVec 32 := 7#32
  let v4914 : BitVec 32 := Scalar.addi v3320 c7_i32_3183
  let c1_i32_3184 : BitVec 32 := 1#32
  let v4915 : BitVec 32 := Scalar.subi v4914 c1_i32_3184
  let c256_i32_3227 : BitVec 32 := 256#32
  let v4984 : BitVec 32 := Scalar.muli v4915 c256_i32_3227
  v4984
def k0_mult383 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c7_i32 : BitVec 32 := 7#32
  let v4913 : BitVec 32 := Scalar.addi v3320 c7_i32
  let c256_i32_3236 : BitVec 32 := 256#32
  let v4997 : BitVec 32 := Scalar.muli v4913 c256_i32_3236
  v4997
def k0_mult384 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c7_i32_3183 : BitVec 32 := 7#32
  let v4914 : BitVec 32 := Scalar.addi v3320 c7_i32_3183
  let c1_i32_3184 : BitVec 32 := 1#32
  let v4915 : BitVec 32 := Scalar.subi v4914 c1_i32_3184
  let c256_i32_3244 : BitVec 32 := 256#32
  let v5011 : BitVec 32 := Scalar.muli v4915 c256_i32_3244
  v5011
def k0_mult385 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c7_i32 : BitVec 32 := 7#32
  let v4913 : BitVec 32 := Scalar.addi v3320 c7_i32
  let c256_i32_3253 : BitVec 32 := 256#32
  let v5024 : BitVec 32 := Scalar.muli v4913 c256_i32_3253
  v5024
def k0_mult386 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c7_i32_3183 : BitVec 32 := 7#32
  let v4914 : BitVec 32 := Scalar.addi v3320 c7_i32_3183
  let c1_i32_3184 : BitVec 32 := 1#32
  let v4915 : BitVec 32 := Scalar.subi v4914 c1_i32_3184
  let c256_i32_3261 : BitVec 32 := 256#32
  let v5038 : BitVec 32 := Scalar.muli v4915 c256_i32_3261
  v5038
def k0_mult387 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c7_i32 : BitVec 32 := 7#32
  let v4913 : BitVec 32 := Scalar.addi v3320 c7_i32
  let c256_i32_3270 : BitVec 32 := 256#32
  let v5051 : BitVec 32 := Scalar.muli v4913 c256_i32_3270
  v5051
def k0_mult388 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c7_i32_3183 : BitVec 32 := 7#32
  let v4914 : BitVec 32 := Scalar.addi v3320 c7_i32_3183
  let c1_i32_3184 : BitVec 32 := 1#32
  let v4915 : BitVec 32 := Scalar.subi v4914 c1_i32_3184
  let c256_i32_3278 : BitVec 32 := 256#32
  let v5065 : BitVec 32 := Scalar.muli v4915 c256_i32_3278
  v5065
def k0_mult389 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c7_i32 : BitVec 32 := 7#32
  let v4913 : BitVec 32 := Scalar.addi v3320 c7_i32
  let c256_i32_3287 : BitVec 32 := 256#32
  let v5078 : BitVec 32 := Scalar.muli v4913 c256_i32_3287
  v5078
def k0_mult390 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c7_i32_3183 : BitVec 32 := 7#32
  let v4914 : BitVec 32 := Scalar.addi v3320 c7_i32_3183
  let c1_i32_3184 : BitVec 32 := 1#32
  let v4915 : BitVec 32 := Scalar.subi v4914 c1_i32_3184
  let c256_i32_3295 : BitVec 32 := 256#32
  let v5092 : BitVec 32 := Scalar.muli v4915 c256_i32_3295
  v5092
def k0_mult391 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c7_i32 : BitVec 32 := 7#32
  let v4913 : BitVec 32 := Scalar.addi v3320 c7_i32
  let c256_i32_3304 : BitVec 32 := 256#32
  let v5105 : BitVec 32 := Scalar.muli v4913 c256_i32_3304
  v5105
def k0_mult392 (k0_t2 : Fin k0_t2_loop.trips) : BitVec 32 :=
  let c8_i32 : BitVec 32 := 8#32
  let c0_i32_1234 : BitVec 32 := 0#32
  let c1_i32_1236 : BitVec 32 := 1#32
  let arg13 : BitVec 32 := Scf.iv c0_i32_1234 c1_i32_1236 k0_t2
  let v3319 : BitVec 32 := Scalar.muli c8_i32 arg13
  let c1_i32_2210 : BitVec 32 := 1#32
  let v3320 : BitVec 32 := Scalar.addi v3319 c1_i32_2210
  let c7_i32_3183 : BitVec 32 := 7#32
  let v4914 : BitVec 32 := Scalar.addi v3320 c7_i32_3183
  let c1_i32_3184 : BitVec 32 := 1#32
  let v4915 : BitVec 32 := Scalar.subi v4914 c1_i32_3184
  let c256_i32_3312 : BitVec 32 := 256#32
  let v5119 : BitVec 32 := Scalar.muli v4915 c256_i32_3312
  v5119
def k0_mult393 : BitVec 32 :=
  let c6400_i32_1242 : BitVec 32 := 6400#32
  c6400_i32_1242
def k0_mult394 : BitVec 32 :=
  let c6144_i32_1249 : BitVec 32 := 6144#32
  c6144_i32_1249
def k0_mult395 : BitVec 32 :=
  let c6400_i32_1258 : BitVec 32 := 6400#32
  c6400_i32_1258
def k0_mult396 : BitVec 32 :=
  let c6144_i32_1265 : BitVec 32 := 6144#32
  c6144_i32_1265
def k0_mult397 : BitVec 32 :=
  let c6400_i32_1274 : BitVec 32 := 6400#32
  c6400_i32_1274
def k0_mult398 : BitVec 32 :=
  let c6144_i32_1281 : BitVec 32 := 6144#32
  c6144_i32_1281
def k0_mult399 : BitVec 32 :=
  let c6400_i32_1290 : BitVec 32 := 6400#32
  c6400_i32_1290
def k0_mult400 : BitVec 32 :=
  let c6144_i32_1297 : BitVec 32 := 6144#32
  c6144_i32_1297
def k0_mult401 : BitVec 32 :=
  let c6400_i32_1306 : BitVec 32 := 6400#32
  c6400_i32_1306
def k0_mult402 : BitVec 32 :=
  let c6144_i32_1313 : BitVec 32 := 6144#32
  c6144_i32_1313
def k0_mult403 : BitVec 32 :=
  let c6400_i32_1322 : BitVec 32 := 6400#32
  c6400_i32_1322
def k0_mult404 : BitVec 32 :=
  let c6144_i32_1329 : BitVec 32 := 6144#32
  c6144_i32_1329
def k0_mult405 : BitVec 32 :=
  let c6400_i32_1338 : BitVec 32 := 6400#32
  c6400_i32_1338
def k0_mult406 : BitVec 32 :=
  let c6144_i32_1345 : BitVec 32 := 6144#32
  c6144_i32_1345
def k0_mult407 : BitVec 32 :=
  let c6400_i32_1354 : BitVec 32 := 6400#32
  c6400_i32_1354
def k0_mult408 : BitVec 32 :=
  let c6144_i32_1361 : BitVec 32 := 6144#32
  c6144_i32_1361
def k0_mult409 : BitVec 32 :=
  let c6656_i32_1370 : BitVec 32 := 6656#32
  c6656_i32_1370
def k0_mult410 : BitVec 32 :=
  let c6400_i32_1377 : BitVec 32 := 6400#32
  c6400_i32_1377
def k0_mult411 : BitVec 32 :=
  let c6656_i32_1386 : BitVec 32 := 6656#32
  c6656_i32_1386
def k0_mult412 : BitVec 32 :=
  let c6400_i32_1393 : BitVec 32 := 6400#32
  c6400_i32_1393
def k0_mult413 : BitVec 32 :=
  let c6656_i32_1402 : BitVec 32 := 6656#32
  c6656_i32_1402
def k0_mult414 : BitVec 32 :=
  let c6400_i32_1409 : BitVec 32 := 6400#32
  c6400_i32_1409
def k0_mult415 : BitVec 32 :=
  let c6656_i32_1418 : BitVec 32 := 6656#32
  c6656_i32_1418
def k0_mult416 : BitVec 32 :=
  let c6400_i32_1425 : BitVec 32 := 6400#32
  c6400_i32_1425
def k0_mult417 : BitVec 32 :=
  let c6656_i32_1434 : BitVec 32 := 6656#32
  c6656_i32_1434
def k0_mult418 : BitVec 32 :=
  let c6400_i32_1441 : BitVec 32 := 6400#32
  c6400_i32_1441
def k0_mult419 : BitVec 32 :=
  let c6656_i32_1450 : BitVec 32 := 6656#32
  c6656_i32_1450
def k0_mult420 : BitVec 32 :=
  let c6400_i32_1457 : BitVec 32 := 6400#32
  c6400_i32_1457
def k0_mult421 : BitVec 32 :=
  let c6656_i32_1466 : BitVec 32 := 6656#32
  c6656_i32_1466
def k0_mult422 : BitVec 32 :=
  let c6400_i32_1473 : BitVec 32 := 6400#32
  c6400_i32_1473
def k0_mult423 : BitVec 32 :=
  let c6656_i32_1482 : BitVec 32 := 6656#32
  c6656_i32_1482
def k0_mult424 : BitVec 32 :=
  let c6400_i32_1489 : BitVec 32 := 6400#32
  c6400_i32_1489
def k0_mult425 : BitVec 32 :=
  let c6912_i32_1498 : BitVec 32 := 6912#32
  c6912_i32_1498
def k0_mult426 : BitVec 32 :=
  let c6656_i32_1505 : BitVec 32 := 6656#32
  c6656_i32_1505
def k0_mult427 : BitVec 32 :=
  let c6912_i32_1514 : BitVec 32 := 6912#32
  c6912_i32_1514
def k0_mult428 : BitVec 32 :=
  let c6656_i32_1521 : BitVec 32 := 6656#32
  c6656_i32_1521
def k0_mult429 : BitVec 32 :=
  let c6912_i32_1530 : BitVec 32 := 6912#32
  c6912_i32_1530
def k0_mult430 : BitVec 32 :=
  let c6656_i32_1537 : BitVec 32 := 6656#32
  c6656_i32_1537
def k0_mult431 : BitVec 32 :=
  let c6912_i32_1546 : BitVec 32 := 6912#32
  c6912_i32_1546
def k0_mult432 : BitVec 32 :=
  let c6656_i32_1553 : BitVec 32 := 6656#32
  c6656_i32_1553
def k0_mult433 : BitVec 32 :=
  let c6912_i32_1562 : BitVec 32 := 6912#32
  c6912_i32_1562
def k0_mult434 : BitVec 32 :=
  let c6656_i32_1569 : BitVec 32 := 6656#32
  c6656_i32_1569
def k0_mult435 : BitVec 32 :=
  let c6912_i32_1578 : BitVec 32 := 6912#32
  c6912_i32_1578
def k0_mult436 : BitVec 32 :=
  let c6656_i32_1585 : BitVec 32 := 6656#32
  c6656_i32_1585
def k0_mult437 : BitVec 32 :=
  let c6912_i32_1594 : BitVec 32 := 6912#32
  c6912_i32_1594
def k0_mult438 : BitVec 32 :=
  let c6656_i32_1601 : BitVec 32 := 6656#32
  c6656_i32_1601
def k0_mult439 : BitVec 32 :=
  let c6912_i32_1610 : BitVec 32 := 6912#32
  c6912_i32_1610
def k0_mult440 : BitVec 32 :=
  let c6656_i32_1617 : BitVec 32 := 6656#32
  c6656_i32_1617
def k0_mult441 : BitVec 32 :=
  let c7168_i32_1626 : BitVec 32 := 7168#32
  c7168_i32_1626
def k0_mult442 : BitVec 32 :=
  let c6912_i32_1633 : BitVec 32 := 6912#32
  c6912_i32_1633
def k0_mult443 : BitVec 32 :=
  let c7168_i32_1642 : BitVec 32 := 7168#32
  c7168_i32_1642
def k0_mult444 : BitVec 32 :=
  let c6912_i32_1649 : BitVec 32 := 6912#32
  c6912_i32_1649
def k0_mult445 : BitVec 32 :=
  let c7168_i32_1658 : BitVec 32 := 7168#32
  c7168_i32_1658
def k0_mult446 : BitVec 32 :=
  let c6912_i32_1665 : BitVec 32 := 6912#32
  c6912_i32_1665
def k0_mult447 : BitVec 32 :=
  let c7168_i32_1674 : BitVec 32 := 7168#32
  c7168_i32_1674
def k0_mult448 : BitVec 32 :=
  let c6912_i32_1681 : BitVec 32 := 6912#32
  c6912_i32_1681
def k0_mult449 : BitVec 32 :=
  let c7168_i32_1690 : BitVec 32 := 7168#32
  c7168_i32_1690
def k0_mult450 : BitVec 32 :=
  let c6912_i32_1697 : BitVec 32 := 6912#32
  c6912_i32_1697
def k0_mult451 : BitVec 32 :=
  let c7168_i32_1706 : BitVec 32 := 7168#32
  c7168_i32_1706
def k0_mult452 : BitVec 32 :=
  let c6912_i32_1713 : BitVec 32 := 6912#32
  c6912_i32_1713
def k0_mult453 : BitVec 32 :=
  let c7168_i32_1722 : BitVec 32 := 7168#32
  c7168_i32_1722
def k0_mult454 : BitVec 32 :=
  let c6912_i32_1729 : BitVec 32 := 6912#32
  c6912_i32_1729
def k0_mult455 : BitVec 32 :=
  let c7168_i32_1738 : BitVec 32 := 7168#32
  c7168_i32_1738
def k0_mult456 : BitVec 32 :=
  let c6912_i32_1745 : BitVec 32 := 6912#32
  c6912_i32_1745
def k0_mult457 : BitVec 32 :=
  let c7424_i32_1754 : BitVec 32 := 7424#32
  c7424_i32_1754
def k0_mult458 : BitVec 32 :=
  let c7168_i32_1761 : BitVec 32 := 7168#32
  c7168_i32_1761
def k0_mult459 : BitVec 32 :=
  let c7424_i32_1770 : BitVec 32 := 7424#32
  c7424_i32_1770
def k0_mult460 : BitVec 32 :=
  let c7168_i32_1777 : BitVec 32 := 7168#32
  c7168_i32_1777
def k0_mult461 : BitVec 32 :=
  let c7424_i32_1786 : BitVec 32 := 7424#32
  c7424_i32_1786
def k0_mult462 : BitVec 32 :=
  let c7168_i32_1793 : BitVec 32 := 7168#32
  c7168_i32_1793
def k0_mult463 : BitVec 32 :=
  let c7424_i32_1802 : BitVec 32 := 7424#32
  c7424_i32_1802
def k0_mult464 : BitVec 32 :=
  let c7168_i32_1809 : BitVec 32 := 7168#32
  c7168_i32_1809
def k0_mult465 : BitVec 32 :=
  let c7424_i32_1818 : BitVec 32 := 7424#32
  c7424_i32_1818
def k0_mult466 : BitVec 32 :=
  let c7168_i32_1825 : BitVec 32 := 7168#32
  c7168_i32_1825
def k0_mult467 : BitVec 32 :=
  let c7424_i32_1834 : BitVec 32 := 7424#32
  c7424_i32_1834
def k0_mult468 : BitVec 32 :=
  let c7168_i32_1841 : BitVec 32 := 7168#32
  c7168_i32_1841
def k0_mult469 : BitVec 32 :=
  let c7424_i32_1850 : BitVec 32 := 7424#32
  c7424_i32_1850
def k0_mult470 : BitVec 32 :=
  let c7168_i32_1857 : BitVec 32 := 7168#32
  c7168_i32_1857
def k0_mult471 : BitVec 32 :=
  let c7424_i32_1866 : BitVec 32 := 7424#32
  c7424_i32_1866
def k0_mult472 : BitVec 32 :=
  let c7168_i32_1873 : BitVec 32 := 7168#32
  c7168_i32_1873
def k0_mult473 : BitVec 32 :=
  let c7680_i32_1882 : BitVec 32 := 7680#32
  c7680_i32_1882
def k0_mult474 : BitVec 32 :=
  let c7424_i32_1889 : BitVec 32 := 7424#32
  c7424_i32_1889
def k0_mult475 : BitVec 32 :=
  let c7680_i32_1898 : BitVec 32 := 7680#32
  c7680_i32_1898
def k0_mult476 : BitVec 32 :=
  let c7424_i32_1905 : BitVec 32 := 7424#32
  c7424_i32_1905
def k0_mult477 : BitVec 32 :=
  let c7680_i32_1914 : BitVec 32 := 7680#32
  c7680_i32_1914
def k0_mult478 : BitVec 32 :=
  let c7424_i32_1921 : BitVec 32 := 7424#32
  c7424_i32_1921
def k0_mult479 : BitVec 32 :=
  let c7680_i32_1930 : BitVec 32 := 7680#32
  c7680_i32_1930
def k0_mult480 : BitVec 32 :=
  let c7424_i32_1937 : BitVec 32 := 7424#32
  c7424_i32_1937
def k0_mult481 : BitVec 32 :=
  let c7680_i32_1946 : BitVec 32 := 7680#32
  c7680_i32_1946
def k0_mult482 : BitVec 32 :=
  let c7424_i32_1953 : BitVec 32 := 7424#32
  c7424_i32_1953
def k0_mult483 : BitVec 32 :=
  let c7680_i32_1962 : BitVec 32 := 7680#32
  c7680_i32_1962
def k0_mult484 : BitVec 32 :=
  let c7424_i32_1969 : BitVec 32 := 7424#32
  c7424_i32_1969
def k0_mult485 : BitVec 32 :=
  let c7680_i32_1978 : BitVec 32 := 7680#32
  c7680_i32_1978
def k0_mult486 : BitVec 32 :=
  let c7424_i32_1985 : BitVec 32 := 7424#32
  c7424_i32_1985
def k0_mult487 : BitVec 32 :=
  let c7680_i32_1994 : BitVec 32 := 7680#32
  c7680_i32_1994
def k0_mult488 : BitVec 32 :=
  let c7424_i32_2001 : BitVec 32 := 7424#32
  c7424_i32_2001
def k0_mult489 : BitVec 32 :=
  let c7936_i32_2010 : BitVec 32 := 7936#32
  c7936_i32_2010
def k0_mult490 : BitVec 32 :=
  let c7680_i32_2017 : BitVec 32 := 7680#32
  c7680_i32_2017
def k0_mult491 : BitVec 32 :=
  let c7936_i32_2026 : BitVec 32 := 7936#32
  c7936_i32_2026
def k0_mult492 : BitVec 32 :=
  let c7680_i32_2033 : BitVec 32 := 7680#32
  c7680_i32_2033
def k0_mult493 : BitVec 32 :=
  let c7936_i32_2042 : BitVec 32 := 7936#32
  c7936_i32_2042
def k0_mult494 : BitVec 32 :=
  let c7680_i32_2049 : BitVec 32 := 7680#32
  c7680_i32_2049
def k0_mult495 : BitVec 32 :=
  let c7936_i32_2058 : BitVec 32 := 7936#32
  c7936_i32_2058
def k0_mult496 : BitVec 32 :=
  let c7680_i32_2065 : BitVec 32 := 7680#32
  c7680_i32_2065
def k0_mult497 : BitVec 32 :=
  let c7936_i32_2074 : BitVec 32 := 7936#32
  c7936_i32_2074
def k0_mult498 : BitVec 32 :=
  let c7680_i32_2081 : BitVec 32 := 7680#32
  c7680_i32_2081
def k0_mult499 : BitVec 32 :=
  let c7936_i32_2090 : BitVec 32 := 7936#32
  c7936_i32_2090
def k0_mult500 : BitVec 32 :=
  let c7680_i32_2097 : BitVec 32 := 7680#32
  c7680_i32_2097
def k0_mult501 : BitVec 32 :=
  let c7936_i32_2106 : BitVec 32 := 7936#32
  c7936_i32_2106
def k0_mult502 : BitVec 32 :=
  let c7680_i32_2113 : BitVec 32 := 7680#32
  c7680_i32_2113
def k0_mult503 : BitVec 32 :=
  let c7936_i32_2122 : BitVec 32 := 7936#32
  c7936_i32_2122
def k0_mult504 : BitVec 32 :=
  let c7680_i32_2129 : BitVec 32 := 7680#32
  c7680_i32_2129
def k0_mult505 : BitVec 32 :=
  let c7936_i32_2138 : BitVec 32 := 7936#32
  c7936_i32_2138
def k0_mult506 : BitVec 32 :=
  let c7936_i32_2147 : BitVec 32 := 7936#32
  c7936_i32_2147
def k0_mult507 : BitVec 32 :=
  let c7936_i32_2156 : BitVec 32 := 7936#32
  c7936_i32_2156
def k0_mult508 : BitVec 32 :=
  let c7936_i32_2165 : BitVec 32 := 7936#32
  c7936_i32_2165
def k0_mult509 : BitVec 32 :=
  let c7936_i32_2174 : BitVec 32 := 7936#32
  c7936_i32_2174
def k0_mult510 : BitVec 32 :=
  let c7936_i32_2183 : BitVec 32 := 7936#32
  c7936_i32_2183
def k0_mult511 : BitVec 32 :=
  let c7936_i32_2192 : BitVec 32 := 7936#32
  c7936_i32_2192
def k0_mult512 : BitVec 32 :=
  let c7936_i32_2201 : BitVec 32 := 7936#32
  c7936_i32_2201
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S144x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== DiffReferenceIdeal.lean ====
abbrev S8x8192x8x64 : Shape := ⟨4, ![8, 8192, 8, 64]⟩
abbrev S8x8192x4x128 : Shape := ⟨4, ![8, 8192, 4, 128]⟩
abbrev S4x64 : Shape := ⟨2, ![4, 64]⟩
abbrev S8x8192x4x2x64 : Shape := ⟨5, ![8, 8192, 4, 2, 64]⟩
abbrev S8x4x2x8192x8192 : Shape := ⟨5, ![8, 4, 2, 8192, 8192]⟩
abbrev S_ : Shape := ⟨0, ![]⟩
abbrev S8x4x2x8192 : Shape := ⟨4, ![8, 4, 2, 8192]⟩
abbrev S8x4x2x8192x1 : Shape := ⟨5, ![8, 4, 2, 8192, 1]⟩
abbrev S1x64 : Shape := ⟨2, ![1, 64]⟩
abbrev S64 : Shape := ⟨1, ![64]⟩
abbrev S8x4x1x8192x8192 : Shape := ⟨5, ![8, 4, 1, 8192, 8192]⟩
abbrev S8x4x8192x8192 : Shape := ⟨4, ![8, 4, 8192, 8192]⟩
abbrev S8x4x128x8192 : Shape := ⟨4, ![8, 4, 128, 8192]⟩
abbrev S8x8192x4 : Shape := ⟨3, ![8, 8192, 4]⟩
abbrev S8x8192x4x1 : Shape := ⟨4, ![8, 8192, 4, 1]⟩

abbrev nBuf : Space → Nat
  | .hbm => 68
  | .vmem => 0
  | .smem => 0
  | _ => 0

abbrev bufTy : (tb : Table) → Fin (tcTables nBuf tb) → BufTy
  | .hbm, ⟨0, _⟩ => ⟨S8x8192x8x64, .f32⟩
  | .hbm, ⟨1, _⟩ => ⟨S8x8192x8x64, .f32⟩
  | .hbm, ⟨2, _⟩ => ⟨S8x8192x4x128, .f32⟩
  | .hbm, ⟨3, _⟩ => ⟨S4x64, .f32⟩
  | .hbm, ⟨4, _⟩ => ⟨S8x8192x4x2x64, .f32⟩
  | .hbm, ⟨5, _⟩ => ⟨S8x8192x4x2x64, .f32⟩
  | .hbm, ⟨6, _⟩ => ⟨S8x4x2x8192x8192, .f32⟩
  | .hbm, ⟨7, _⟩ => ⟨S_, .f32⟩
  | .hbm, ⟨8, _⟩ => ⟨S8x4x2x8192x8192, .f32⟩
  | .hbm, ⟨9, _⟩ => ⟨S8x4x2x8192x8192, .f32⟩
  | .hbm, ⟨10, _⟩ => ⟨S_, .f32⟩
  | .hbm, ⟨11, _⟩ => ⟨S8x4x2x8192, .f32⟩
  | .hbm, ⟨12, _⟩ => ⟨S_, .f32⟩
  | .hbm, ⟨13, _⟩ => ⟨S8x4x2x8192, .f32⟩
  | .hbm, ⟨14, _⟩ => ⟨S8x4x2x8192, .f32⟩
  | .hbm, ⟨15, _⟩ => ⟨S8x4x2x8192x1, .f32⟩
  | .hbm, ⟨16, _⟩ => ⟨S8x4x2x8192x8192, .f32⟩
  | .hbm, ⟨17, _⟩ => ⟨S8x4x2x8192x8192, .f32⟩
  | .hbm, ⟨18, _⟩ => ⟨S8x4x2x8192x8192, .f32⟩
  | .hbm, ⟨19, _⟩ => ⟨S_, .f32⟩
  | .hbm, ⟨20, _⟩ => ⟨S8x4x2x8192, .f32⟩
  | .hbm, ⟨21, _⟩ => ⟨S8x4x2x8192x1, .f32⟩
  | .hbm, ⟨22, _⟩ => ⟨S8x4x2x8192x8192, .f32⟩
  | .hbm, ⟨23, _⟩ => ⟨S8x4x2x8192x8192, .f32⟩
  | .hbm, ⟨24, _⟩ => ⟨S1x64, .f32⟩
  | .hbm, ⟨25, _⟩ => ⟨S64, .f32⟩
  | .hbm, ⟨26, _⟩ => ⟨S1x64, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1x64, .f32⟩
  | .hbm, ⟨33, _⟩ => ⟨S64, .f32⟩
  | .hbm, ⟨34, _⟩ => ⟨S1x64, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S8x4x1x8192x8192, .f32⟩
  | .hbm, ⟨44, _⟩ => ⟨S8x4x8192x8192, .f32⟩
  | .hbm, ⟨45, _⟩ => ⟨S8x4x1x8192x8192, .f32⟩
  | .hbm, ⟨46, _⟩ => ⟨S8x4x8192x8192, .f32⟩
  | .hbm, ⟨47, _⟩ => ⟨S8x4x8192x8192, .f32⟩
  | .hbm, ⟨48, _⟩ => ⟨S8x4x8192x8192, .f32⟩
  | .hbm, ⟨49, _⟩ => ⟨S8x4x8192x8192, .f32⟩
  | .hbm, ⟨50, _⟩ => ⟨S8x4x128x8192, .f32⟩
  | .hbm, ⟨51, _⟩ => ⟨S8x8192x4x128, .f32⟩
  | .hbm, ⟨52, _⟩ => ⟨S8x8192x4x128, .f32⟩
  | .hbm, ⟨53, _⟩ => ⟨S_, .f32⟩
  | .hbm, ⟨54, _⟩ => ⟨S8x8192x4, .f32⟩
  | .hbm, ⟨55, _⟩ => ⟨S8x8192x4x1, .f32⟩
  | .hbm, ⟨56, _⟩ => ⟨S_, .f32⟩
  | .hbm, ⟨57, _⟩ => ⟨S8x8192x4x1, .f32⟩
  | .hbm, ⟨58, _⟩ => ⟨S8x8192x4x1, .f32⟩
  | .hbm, ⟨59, _⟩ => ⟨S_, .f32⟩
  | .hbm, ⟨60, _⟩ => ⟨S8x8192x4x1, .f32⟩
  | .hbm, ⟨61, _⟩ => ⟨S8x8192x4x1, .f32⟩
  | .hbm, ⟨62, _⟩ => ⟨S8x8192x4x1, .f32⟩
  | .hbm, ⟨63, _⟩ => ⟨S8x8192x4x128, .f32⟩
  | .hbm, ⟨64, _⟩ => ⟨S8x8192x4x128, .f32⟩
  | .hbm, ⟨65, _⟩ => ⟨S_, .f32⟩
  | .hbm, ⟨66, _⟩ => ⟨S8x8192x4x128, .f32⟩
  | .hbm, ⟨67, _⟩ => ⟨S8x8192x4x128, .f32⟩
  | _, _ => ⟨S8x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_cst_7 : Ref sig .tc := ⟨.hbm, 56, rfl⟩
abbrev main_v44 : Ref sig .tc := ⟨.hbm, 57, rfl⟩
abbrev main_v45 : Ref sig .tc := ⟨.hbm, 58, rfl⟩
abbrev main_cst_8 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_9 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== Proof.Struct.lean ====
/-
  The attention kernel's body, written as what it is: queries filled in, a first look at the scores, a sweep over the
  keys in chunks of 256, a second sweep when the first one's running references fell too far behind, and the division.
-/
module

public import proofs.«01_k».proof.Proof.Gen.KernelIdeal

@[expose] public section

set_option maxRecDepth 16384

noncomputable section

namespace Cert.KernelIdeal.Axial

open Idealize.ShloMosaic Idealize.SL.Sem
open Cert.KernelIdeal Facts₀ Facts

variable {F : FTy → Type} [FloatOps F]
variable [Facts]

/-- The programs of the body. -/
abbrev Body (F : FTy → Type) [FloatOps F] (α : Type) := Prog (TpuEff nD τ sig (Elt F) Λ₀ .tc) α

/-- The eight buffers the body works on: the query, key, value and output blocks and the four scratch buffers. -/
structure Bufs where
  q : Memref sig .tc .vmem S256x512 .bf16
  hq : q.IsWhole
  k : Memref sig .tc .vmem S8192x128 .bf16
  hk : k.IsWhole
  v : Memref sig .tc .vmem S80x8192 .bf16
  hv : v.IsWhole
  o : Memref sig .tc .vmem S512x256 .bf16
  ho : o.IsWhole
  aug : Memref sig .tc .vmem S128x2048 .bf16
  haug : aug.IsWhole
  s0 : Memref sig .tc .vmem S256x2048 .bf16
  hs0 : s0.IsWhole
  s1 : Memref sig .tc .vmem S256x2048 .bf16
  hs1 : s1.IsWhole
  acc : Memref sig .tc .vmem S80x2048 .f32
  hacc : acc.IsWhole

/-- Which of the two score buffers. -/
def Bufs.s (B : Bufs) : Bool → Memref sig .tc .vmem S256x2048 .bf16
  | false => B.s0
  | true => B.s1

theorem Bufs.hs (B : Bufs) : ∀ b, (B.s b).IsWhole
  | false => B.hs0
  | true => B.hs1

/-! ## The rectangles -/

theorem inb_lane_aug (t : Fin 8) : ∀ a, (![0, 256 * t.val] : Fin 2 → Nat) a + S128x256.size a ≤ S128x2048.size a := by
  revert t; decide +kernel
theorem inb_lane_s (t : Fin 8) : ∀ a, (![0, 256 * t.val] : Fin 2 → Nat) a + S256x256.size a ≤ S256x2048.size a := by
  revert t; decide +kernel
theorem inb_lane_acc (t : Fin 8) : ∀ a, (![0, 256 * t.val] : Fin 2 → Nat) a + S80x256.size a ≤ S80x2048.size a := by
  revert t; decide +kernel
theorem inb_q (g : Fin 4) : ∀ a, (![64 * g.val, 0] : Fin 2 → Nat) a + S64x512.size a ≤ S256x512.size a := by
  revert g; decide +kernel
theorem inb_head_aug (g : Fin 4) : ∀ a, (![0, 512 * g.val] : Fin 2 → Nat) a + S64x512.size a ≤ S128x2048.size a := by
  revert g; decide +kernel

/-- Lane tile `t` of the extended queries, -/
abbrev laneAug (t : Fin 8) : Rect S128x2048 := .unit (s := S128x2048) ![0, 256 * t.val] S128x256.size (inb_lane_aug t)
/-- of a score buffer, -/
abbrev laneS (t : Fin 8) : Rect S256x2048 := .unit (s := S256x2048) ![0, 256 * t.val] S256x256.size (inb_lane_s t)
/-- and of the accumulator. -/
abbrev laneAcc (t : Fin 8) : Rect S80x2048 := .unit (s := S80x2048) ![0, 256 * t.val] S80x256.size (inb_lane_acc t)
/-- Head `g`'s rows of the query block, -/
abbrev headQ (g : Fin 4) : Rect S256x512 := .unit (s := S256x512) ![64 * g.val, 0] S64x512.size (inb_q g)
/-- and the columns they go to. -/
abbrev headAug (g : Fin 4) : Rect S128x2048 := .unit (s := S128x2048) ![0, 512 * g.val] S64x512.size (inb_head_aug g)

theorem packed_laneS : ∀ t : Fin 8, (laneS t).PackedRows (EltTy.packing .bf16)
  | 0 => packedbf16_S256x2048_S256x256_0_0
  | 1 => packedbf16_S256x2048_S256x256_0_256
  | 2 => packedbf16_S256x2048_S256x256_0_512
  | 3 => packedbf16_S256x2048_S256x256_0_768
  | 4 => packedbf16_S256x2048_S256x256_0_1024
  | 5 => packedbf16_S256x2048_S256x256_0_1280
  | 6 => packedbf16_S256x2048_S256x256_0_1536
  | 7 => packedbf16_S256x2048_S256x256_0_1792

theorem packed_headAug : ∀ g : Fin 4, (headAug g).PackedRows (EltTy.packing .bf16)
  | 0 => packedbf16_S128x2048_S64x512_0_0
  | 1 => packedbf16_S128x2048_S64x512_0_512
  | 2 => packedbf16_S128x2048_S64x512_0_1024
  | 3 => packedbf16_S128x2048_S64x512_0_1536

theorem slices_lane : ∀ t : Fin 8, S1x2048.Slices ![0, 256 * t.val] S1x256
  | 0 => slices_S1x2048_o0_0_S1x256
  | 1 => slices_S1x2048_o0_256_S1x256
  | 2 => slices_S1x2048_o0_512_S1x256
  | 3 => slices_S1x2048_o0_768_S1x256
  | 4 => slices_S1x2048_o0_1024_S1x256
  | 5 => slices_S1x2048_o0_1280_S1x256
  | 6 => slices_S1x2048_o0_1536_S1x256
  | 7 => slices_S1x2048_o0_1792_S1x256

/-- The place of a chunk of 256 keys in the key block, -/
structure KOff where
  off : Fin 2 → Nat
  inb : ∀ a, off a + S256x128.size a ≤ S8192x128.size a
/-- and in the value block. -/
structure VOff where
  off : Fin 2 → Nat
  inb : ∀ a, off a + S80x256.size a ≤ S80x8192.size a

abbrev KOff.rect (o : KOff) : Rect S8192x128 := .unit (s := S8192x128) o.off S256x128.size o.inb
abbrev VOff.rect (o : VOff) : Rect S80x8192 := .unit (s := S80x8192) o.off S80x256.size o.inb

/-- The places of chunk `c`. -/
def kAt (c : Fin 32) : KOff := ⟨![256 * c.val, 0], by revert c; decide +kernel⟩
def vAt (c : Fin 32) : VOff := ⟨![0, 256 * c.val], by revert c; decide +kernel⟩

/-! ## The vector arithmetic -/

/-- The scores of one chunk against one lane tile, rounded. -/
def scoreTile (k : FVec F S256x128 .bf16) (q : FVec F S128x256 .bf16) : FVec F S256x256 .bf16 :=
  truncf .bf16 (matmul dot_S256x128_S128x256_S256x256_1_0_0_1_n_n none (shapeCast S256x128 k shapeCasts_S256x128_S256x128) q
    (constant S256x256 .f32 0x00000000#32)) bitsLt_bf16_f32

/-- Each column's largest score. -/
def maxTile (s : FVec F S256x256 .bf16) : FVec F S1x256 .f32 :=
  extf .f32 (shapeCast S1x256 (multiReduction .maximumf [0] S256 s 0xFF80#16 reduces_S256x256_S256 (.inr rfl) rfl)
    shapeCasts_S256_S1x256) bitsLt_bf16_f32

/-- The largest of the first 128 scores of one lane tile. -/
def firstTile (k : FVec F S128x128 .bf16) (q : FVec F S128x256 .bf16) : FVec F S1x256 .f32 :=
  extf .f32 (shapeCast S1x256 (multiReduction .maximumf [0] S256
    (truncf .bf16 (matmul dot_S128x128_S128x256_S128x256_1_0_0_1_n_n none (shapeCast S128x128 k shapeCasts_S128x128_S128x128) q
      (constant S128x256 .f32 0x00000000#32)) bitsLt_bf16_f32) 0xFF80#16 reduces_S128x256_S256 (.inr rfl) rfl)
    shapeCasts_S256_S1x256) bitsLt_bf16_f32

/-- The old accumulator of a lane tile, rescaled when the references moved. -/
def rescale (t : Fin 8) (al : Option (FVec F S1x2048 .f32)) (a : FVec F S80x256 .f32) : FVec F S80x256 .f32 :=
  match al with
  | none => a
  | some w => mulf (broadcastTo S80x256 (extractStridedSlice S1x256 ![0, 256 * t.val] w (slices_lane t)) broadcasts_S1x256_S80x256) a

/-- One chunk's values, weighted by the exponentials of its scores, added to the accumulator. -/
def accTile (t : Fin 8) (al : Option (FVec F S1x2048 .f32)) (s : FVec F S256x256 .bf16) (v : FVec F S80x256 .bf16)
    (a : FVec F S80x256 .f32) : FVec F S80x256 .f32 :=
  addf (rescale t al a) (matmul dot_S80x256_S256x256_S80x256_1_0_0_1_n_n none (shapeCast S80x256 v shapeCasts_S80x256_S80x256)
    (exp2 s) (constant S80x256 .f32 0x00000000#32))

/-- Eight lane tiles side by side. -/
def cat8 (m : Fin 8 → FVec F S1x256 .f32) : FVec F S1x2048 .f32 :=
  concatenate S1x2048 1 [⟨S1x256, m 0⟩, ⟨S1x256, m 1⟩, ⟨S1x256, m 2⟩, ⟨S1x256, m 3⟩, ⟨S1x256, m 4⟩, ⟨S1x256, m 5⟩, ⟨S1x256, m 6⟩,
    ⟨S1x256, m 7⟩] concatenates_S1x256_S1x256_S1x256_S1x256_S1x256_S1x256_S1x256_S1x256_S1x2048_d1

/-- A row of eight tiles, given one by one. -/
def cat8' (m0 m1 m2 m3 m4 m5 m6 m7 : FVec F S1x256 .f32) : FVec F S1x2048 .f32 :=
  concatenate S1x2048 1 [⟨S1x256, m0⟩, ⟨S1x256, m1⟩, ⟨S1x256, m2⟩, ⟨S1x256, m3⟩, ⟨S1x256, m4⟩, ⟨S1x256, m5⟩, ⟨S1x256, m6⟩,
    ⟨S1x256, m7⟩] concatenates_S1x256_S1x256_S1x256_S1x256_S1x256_S1x256_S1x256_S1x256_S1x2048_d1

/-- The reference row, negated, over 15 rows of zeros, rounded. -/
def refRows (r : FVec F S1x2048 .f32) : FVec F S16x2048 .bf16 :=
  truncf .bf16 (select (cmpi .eq (iota .tc S16x2048 32 [0] iota_S16x2048_d0_w32) (broadcast S16x2048 0#32))
    (broadcastTo S16x2048 (shapeCast S1x2048 (subf (broadcast S1x2048 (Scalar.ofBits .f32 0x00000000#32)) r) shapeCasts_S1x2048_S1x2048)
      broadcasts_S1x2048_S16x2048)
    (broadcast S16x2048 (Scalar.ofBits .f32 0x00000000#32))) bitsLt_bf16_f32

/-- A row rounded to sixteen bits. -/
def rnd (r : FVec F S1x2048 .f32) : FVec F S1x2048 .f32 := extf .f32 (truncf .bf16 r bitsLt_bf16_f32) bitsLt_bf16_f32

/-- The accumulated values over the accumulated weights, heads side by side, one row per token. -/
def finish (a : FVec F S80x2048 .f32) : FVec F S512x256 .bf16 :=
  let d : FVec F S64x2048 .f32 := divf (extractStridedSlice S64x2048 ![0, 0] a slices_S80x2048_o0_0_S64x2048)
    (broadcastTo S64x2048 (extractStridedSlice S1x2048 ![64, 0] a slices_S80x2048_o64_0_S1x2048) broadcasts_S1x2048_S64x2048)
  truncf .bf16 (transpose S512x256 [1, 0] (concatenate S256x512 0
    [⟨S64x512, extractStridedSlice S64x512 ![0, 0] d slices_S64x2048_o0_0_S64x512⟩,
     ⟨S64x512, extractStridedSlice S64x512 ![0, 512] d slices_S64x2048_o0_512_S64x512⟩,
     ⟨S64x512, extractStridedSlice S64x512 ![0, 1024] d slices_S64x2048_o0_1024_S64x512⟩,
     ⟨S64x512, extractStridedSlice S64x512 ![0, 1536] d slices_S64x2048_o0_1536_S64x512⟩]
    concatenates_S64x512_S64x512_S64x512_S64x512_S256x512_d0) transposes_S256x512_p1_0_S512x256) bitsLt_bf16_f32

/-- Whether some column's score rose too far above the reference it was taken against. -/
def tooHigh (over : FVec F S1x2048 .f32) : BitVec 1 :=
  Scalar.cmpi .ne (Scalar.extui (Scalar.cmpf .ogt (extractAt ![0, 0, 0] (shapeCast S1x1x1 (multiReduction .maximumf [1, 2] S1
    (shapeCast S1x1x2048 over shapeCasts_S1x2048_S1x1x2048) 0xFF800000#32 reduces_S1x1x2048_S1 (.inl rfl) rfl) shapeCasts_S1_S1x1x1)
    inpos_S1x1x1_p0_0_0) (Scalar.ofBits .f32 0x42C80000#32)) : BitVec 32) 0#32

/-! ## The programs -/

variable (B : Bufs)

/-- Head `g`'s queries into the extended query block. -/
def fillHead (g : Fin 4) : Body F PUnit := do
  let x : Vec F S64x512 .bf16 ← Prog.lift (.load B.q (headQ g).toLoadRect (View.loadsAt_vmem h_S64x512))
  let _ : Vec F S64x512 .bf16 ← Prog.lift (.load B.aug (headAug g).toLoadRect (View.loadsAt_vmem h_S64x512))
  Prog.lift (.store B.aug (headAug g) (shapeCast S64x512 (shapeCast S64x512 x shapeCasts_S64x512_S64x512) shapeCasts_S64x512_S64x512 : FVec F S64x512 .bf16)
    Finset.univ (View.stores_vmem h_S64x512 (B.haug.storeExact_slice rfl _ (packed_headAug g)) (fun _ => rfl)) (.inl rfl))

/-- The last 48 rows of the extended query block are zero. -/
def fillPad : Body F PUnit := do
  let _ : Vec F S48x2048 .bf16 ← Prog.lift (.load B.aug (Rect.unit (s := S128x2048) ![80, 0] S48x2048.size inb_S128x2048_S48x2048_80_0).toLoadRect (View.loadsAt_vmem h_S48x2048))
  Prog.lift (.store B.aug (Rect.unit (s := S128x2048) ![80, 0] S48x2048.size inb_S128x2048_S48x2048_80_0)
    (shapeCast S48x2048 (broadcast S48x2048 (Scalar.ofBits .bf16 0x0000#16)) shapeCasts_S48x2048_S48x2048 : FVec F S48x2048 .bf16)
    Finset.univ (View.stores_vmem h_S48x2048 (B.haug.storeExact_slice rfl _ packedbf16_S128x2048_S48x2048_80_0) (fun _ => rfl)) (.inl rfl))

/-- The reference subtracted from the scores: a row of the extended query block. -/
def setRef (r : FVec F S1x2048 .f32) : Body F PUnit := do
  let _ : Vec F S16x2048 .bf16 ← Prog.lift (.load B.aug (Rect.unit (s := S128x2048) ![64, 0] S16x2048.size inb_S128x2048_S16x2048_64_0).toLoadRect (View.loadsAt_vmem h_S16x2048))
  Prog.lift (.store B.aug (Rect.unit (s := S128x2048) ![64, 0] S16x2048.size inb_S128x2048_S16x2048_64_0)
    (shapeCast S16x2048 (refRows r) shapeCasts_S16x2048_S16x2048 : FVec F S16x2048 .bf16)
    Finset.univ (View.stores_vmem h_S16x2048 (B.haug.storeExact_slice rfl _ packedbf16_S128x2048_S16x2048_64_0) (fun _ => rfl)) (.inl rfl))

/-- Lane tile `t`'s largest of the first 128 scores. -/
def first (t : Fin 8) : Body F (FVec F S1x256 .f32) := do
  let k : Vec F S128x128 .bf16 ← Prog.lift (.load B.k (Rect.unit (s := S8192x128) ![0, 0] S128x128.size inb_S8192x128_S128x128_0_0).toLoadRect (View.loadsAt_vmem h_S128x128))
  let q : Vec F S128x256 .bf16 ← Prog.lift (.load B.aug (laneAug t).toLoadRect (View.loadsAt_vmem h_S128x256))
  pure (firstTile k q)

/-- Lane tile `t`'s scores of one chunk into a score buffer; their column maxima. -/
def scores (b : Bool) (o : KOff) (t : Fin 8) : Body F (FVec F S1x256 .f32) := do
  let k : Vec F S256x128 .bf16 ← Prog.lift (.load B.k o.rect.toLoadRect (View.loadsAt_vmem h_S256x128))
  let q : Vec F S128x256 .bf16 ← Prog.lift (.load B.aug (laneAug t).toLoadRect (View.loadsAt_vmem h_S128x256))
  let _ : Vec F S256x256 .bf16 ← Prog.lift (.load (B.s b) (laneS t).toLoadRect (View.loadsAt_vmem h_S256x256))
  Prog.lift (.store (B.s b) (laneS t) (shapeCast S256x256 (scoreTile k q) shapeCasts_S256x256_S256x256 : FVec F S256x256 .bf16)
    Finset.univ (View.stores_vmem h_S256x256 ((B.hs b).storeExact_slice rfl _ (packed_laneS t)) (fun _ => rfl)) (.inl rfl))
  pure (maxTile (scoreTile k q))

/-- Lane tile `t` of a score buffer weighted into the accumulator. -/
def accum (b : Bool) (o : VOff) (al : Option (FVec F S1x2048 .f32)) (t : Fin 8) : Body F PUnit := do
  let s : Vec F S256x256 .bf16 ← Prog.lift (.load (B.s b) (laneS t).toLoadRect (View.loadsAt_vmem h_S256x256))
  let v : Vec F S80x256 .bf16 ← Prog.lift (.load B.v o.rect.toLoadRect (View.loadsAt_vmem h_S80x256))
  let a : Vec F S80x256 .f32 ← Prog.lift (.load B.acc (laneAcc t).toLoadRect (View.loadsAt_vmem h_S80x256))
  let _ : Vec F S80x256 .f32 ← Prog.lift (.load B.acc (laneAcc t).toLoadRect (View.loadsAt_vmem h_S80x256))
  Prog.lift (.store B.acc (laneAcc t) (shapeCast S80x256 (accTile t al s v a) shapeCasts_S80x256_S80x256 : FVec F S80x256 .f32)
    Finset.univ (View.stores_vmem_bits_univ h_S80x256 rfl) (.inl rfl))

/-- The accumulator emptied. -/
def clear : Body F PUnit := do
  let _ : Vec F S80x2048 .f32 ← Prog.lift (.load B.acc (Rect.unit (s := S80x2048) ![0, 0] S80x2048.size inb_S80x2048_S80x2048_0_0).toLoadRect (View.loadsAt_vmem h_S80x2048))
  Prog.lift (.store B.acc (Rect.unit (s := S80x2048) ![0, 0] S80x2048.size inb_S80x2048_S80x2048_0_0)
    (shapeCast S80x2048 (broadcast S80x2048 (Scalar.ofBits .f32 0x00000000#32)) shapeCasts_S80x2048_S80x2048 : FVec F S80x2048 .f32)
    Finset.univ (View.stores_vmem_bits_univ h_S80x2048 rfl) (.inl rfl))

/-- The eight lane tiles in turn, their results side by side. -/
def tiles (p : Fin 8 → Body F (FVec F S1x256 .f32)) : Body F (FVec F S1x2048 .f32) := do
  let m0 ← p 0
  let m1 ← p 1
  let m2 ← p 2
  let m3 ← p 3
  let m4 ← p 4
  let m5 ← p 5
  let m6 ← p 6
  let m7 ← p 7
  pure (cat8' m0 m1 m2 m3 m4 m5 m6 m7)

/-- One step: the next chunk's scores and the current chunk's accumulation, tile by tile. -/
def step (b : Bool) (ko : KOff) (vo : VOff) (al : Option (FVec F S1x2048 .f32)) : Body F (FVec F S1x2048 .f32) :=
  tiles fun t => do
    let m ← scores B b ko t
    accum B (!b) vo al t
    pure m

/-- What a sweep carries: the reference, the current chunk's maxima, the running top, and how far scores rose. -/
abbrev Carry (F : FTy → Type) [FloatOps F] := FVec F S1x2048 .f32 × FVec F S1x2048 .f32 × FVec F S1x2048 .f32 × FVec F S1x2048 .f32

/-- The carry after a step that found the next chunk's maxima `m`. -/
def Carry.next (g : FVec F S1x2048 .f32) (c : Carry F) (m : FVec F S1x2048 .f32) : Carry F :=
  (g, m, maximumf c.2.2.1 (addf c.1 c.2.1), maximumf c.2.2.2 c.2.1)

/-- Steps that keep the reference: the step's number in its group says which buffer it fills. -/
def plain (ko : Fin 8 → KOff) (vo : Fin 8 → VOff) : List (Fin 8) → Carry F → Body F (Carry F)
  | [], c => pure c
  | u :: us, c => do
    let m ← step B (u.val % 2 == 0) (ko u) (vo u) none
    plain ko vo us (Carry.next c.1 c m)

/-- A group of steps: the reference moves to the running top, and the accumulator follows one step later. -/
def group (ko : Fin 8 → KOff) (vo : Fin 8 → VOff) (us : List (Fin 8)) (c : Carry F) : Body F (Carry F) := do
  setRef B (rnd c.2.2.1)
  let m0 ← step B true (ko 0) (vo 0) none
  let c0 := Carry.next (rnd c.2.2.1) c m0
  let m1 ← step B false (ko 1) (vo 1) (some (exp2 (subf c.1 (rnd c.2.2.1))))
  plain B ko vo us (Carry.next (rnd c.2.2.1) c0 m1)

/-- A sweep up to its loop: the accumulator emptied, the reference set, the first chunk's scores. -/
def head (top : FVec F S1x2048 .f32) : Body F (FVec F S1x2048 .f32) := do
  clear B
  setRef B (rnd top)
  tiles fun t => scores B false (kAt 0) t

/-- The chunks left after a sweep's loop, and the last chunk's accumulation. -/
def tail (c : Carry F) : Body F (FVec F S1x2048 .f32 × FVec F S1x2048 .f32) := do
  let c ← group B (fun u => kAt ⟨(25 + u.val) % 32, Nat.mod_lt _ (by decide)⟩) (fun u => vAt ⟨(24 + u.val) % 32, Nat.mod_lt _ (by decide)⟩) [2, 3, 4, 5, 6] c
  accum B true (vAt 31) none 0
  accum B true (vAt 31) none 1
  accum B true (vAt 31) none 2
  accum B true (vAt 31) none 3
  accum B true (vAt 31) none 4
  accum B true (vAt 31) none 5
  accum B true (vAt 31) none 6
  accum B true (vAt 31) none 7
  pure (maximumf c.2.2.1 (addf c.1 c.2.1), maximumf c.2.2.2 c.2.1)

/-- The first sweep's loop. -/
def loop1 (c : Carry F) : Body F (Carry F) :=
  Scf.Loop.for k0_t1_loop k0_t1_ok c fun i c =>
    group B (fun u => ⟨k0_off1 i (BitVec.ofNat 32 u.val), k0_off1_inb i u⟩) (fun u => ⟨k0_off2 i (BitVec.ofNat 32 u.val), k0_off2_inb i u⟩) [2, 3, 4, 5, 6, 7] c

/-- The second sweep's loop, which no longer watches how far scores rise. -/
def loop2 (c : FVec F S1x2048 .f32 × FVec F S1x2048 .f32 × FVec F S1x2048 .f32) :
    Body F (FVec F S1x2048 .f32 × FVec F S1x2048 .f32 × FVec F S1x2048 .f32) :=
  Scf.Loop.for k0_t2_loop k0_t2_ok c fun i c => do
    let c ← group B (fun u => ⟨k0_off3 i (BitVec.ofNat 32 u.val), k0_off3_inb i u⟩) (fun u => ⟨k0_off4 i (BitVec.ofNat 32 u.val), k0_off4_inb i u⟩) [2, 3, 4, 5, 6, 7]
      (c.1, c.2.1, c.2.2, c.2.2)
    pure (c.1, c.2.1, c.2.2.1)

/-- Before the sweeps: the queries, a zero reference, the first look. -/
def before : Body F (FVec F S1x2048 .f32) := do
  fillHead B 0
  fillHead B 1
  fillHead B 2
  fillHead B 3
  fillPad B
  setRef B (broadcast S1x2048 (Scalar.ofBits .f32 0x00000000#32))
  tiles fun t => first B t

/-- After the sweeps: the quotient into the output block. -/
def after : Body F PUnit := do
  let a : Vec F S80x2048 .f32 ← Prog.lift (.load B.acc (Rect.unit (s := S80x2048) ![0, 0] S80x2048.size inb_S80x2048_S80x2048_0_0).toLoadRect (View.loadsAt_vmem h_S80x2048))
  let _ : Vec F S512x256 .bf16 ← Prog.lift (.load B.o (Rect.unit (s := S512x256) ![0, 0] S512x256.size inb_S512x256_S512x256_0_0).toLoadRect (View.loadsAt_vmem h_S512x256))
  Prog.lift (.store B.o (Rect.unit (s := S512x256) ![0, 0] S512x256.size inb_S512x256_S512x256_0_0) (finish a)
    Finset.univ (View.stores_vmem h_S512x256 (B.ho.storeExact_slice rfl _ packedbf16_S512x256_S512x256_0_0) (fun _ => rfl)) (.inl rfl))

/-- The second sweep. -/
def again (top : FVec F S1x2048 .f32) : Body F PUnit := do
  let m ← head B top
  let c ← loop2 B (rnd top, m, top)
  let _ ← tail B (c.1, c.2.1, c.2.2, c.2.2)
  pure ⟨⟩

/-- The whole body. -/
def body : Body F PUnit := do
  let t0 ← before B
  let m ← head B t0
  let c ← loop1 B (rnd t0, m, t0, broadcast S1x2048 (Scalar.ofBits .f32 0x00000000#32))
  let r ← tail B c
  (if tooHigh r.2 = 1#1 then again B r.1 else pure ⟨⟩) >>= fun _ => after B

end Cert.KernelIdeal.Axial
-- ==== Proof.Pure.lean ====
/-
  What the attention body computes, as functions of its query, key and value blocks alone: the extended queries, a
  chunk's scores and maxima, a chunk's accumulation, a group of steps, a sweep, and the output block.
-/
module

public import proofs.«01_k».proof.Proof.Struct
public import Idealize.ShloMosaic.Lib.WritesUnit

@[expose] public section

set_option maxRecDepth 16384

noncomputable section

namespace Cert.KernelIdeal.Axial

open Idealize.ShloMosaic Idealize.SL.Sem
open Cert.KernelIdeal Facts₀ Facts

/-! ## Reading and writing a rectangle of an array -/

section Rects
variable {S : Shape} {α : Type}

/-- The part of an array under a rectangle. -/
def part (X : S.Idx → α) (r : Rect S) : r.shape.Idx → α := fun x => X (r.emb x)

open Classical in
/-- An array with the part under a rectangle replaced. -/
def upd (X : S.Idx → α) (r : Rect S) (w : r.shape.Idx → α) : S.Idx → α :=
  fun y => if h : ∃ x, r.emb x = y then w h.choose else X y

theorem upd_emb (X : S.Idx → α) (r : Rect S) (w : r.shape.Idx → α) (x : r.shape.Idx) : upd X r w (r.emb x) = w x := by
  have h : ∃ x', r.emb x' = r.emb x := ⟨x, rfl⟩
  unfold upd
  rw [dif_pos h]
  exact congrArg w (r.emb.injective h.choose_spec)

theorem upd_of_not (X : S.Idx → α) (r : Rect S) (w : r.shape.Idx → α) (y : S.Idx) (h : ∀ x, r.emb x ≠ y) :
    upd X r w y = X y := by
  unfold upd
  rw [dif_neg (fun ⟨x, hx⟩ => h x hx)]

/-- The replaced part reads as what replaced it; -/
theorem part_upd (X : S.Idx → α) (r : Rect S) (w : r.shape.Idx → α) : part (upd X r w) r = w :=
  funext fun x => upd_emb X r w x

/-- a part under a rectangle apart from the replaced one reads as before. -/
theorem part_upd_of_apart (X : S.Idx → α) (r r' : Rect S) (w : r.shape.Idx → α) (h : ∀ x x', r.emb x ≠ r'.emb x') :
    part (upd X r w) r' = part X r' :=
  funext fun x' => upd_of_not X r w _ fun x => h x x'

/-- Coordinates of an index placed by a unit-stride rectangle. -/
theorem emb_val {off size : Fin S.rank → Nat} {inb : ∀ a, off a + size a ≤ S.size a} (x : (Rect.unit (s := S) off size inb).shape.Idx)
    (a : Fin S.rank) : ((Rect.unit (s := S) off size inb).emb x a).val = off a + (x a).val := by
  show off a + 1 * (x a).val = _
  rw [Nat.one_mul]

theorem emb_unitLocal {off size : Fin S.rank → Nat} {inb : ∀ a, off a + size a ≤ S.size a} (y : S.Idx)
    (h : ∀ a, off a ≤ (y a).val ∧ (y a).val < off a + size a) :
    (Rect.unit (s := S) off size inb).emb (Rect.unitLocal (s := S) y h) = y := by
  funext a
  apply Fin.ext
  have h1 := (h a).1
  show off a + 1 * ((y a).val - off a) = (y a).val
  omega

theorem unitLocal_emb {off size : Fin S.rank → Nat} {inb : ∀ a, off a + size a ≤ S.size a} (x : (Rect.unit (s := S) off size inb).shape.Idx)
    (h : ∀ a, off a ≤ ((Rect.unit (s := S) off size inb).emb x a).val ∧ ((Rect.unit (s := S) off size inb).emb x a).val < off a + size a) :
    Rect.unitLocal (s := S) ((Rect.unit (s := S) off size inb).emb x) h = x := by
  funext a
  apply Fin.ext
  show off a + 1 * (x a).val - off a = (x a).val
  omega

end Rects

variable {α : Type}

/-! ## Lane tiles -/

theorem lane_lt {n : Nat} (h : n < 2048) : n / 256 < 8 := by omega

theorem in_laneS (y : S256x2048.Idx) (a : Fin 2) :
    (![0, 256 * ((y 1).val / 256)] : Fin 2 → Nat) a ≤ (y a).val ∧ (y a).val < (![0, 256 * ((y 1).val / 256)] : Fin 2 → Nat) a + S256x256.size a := by
  have h0 : (y 0).val < 256 := (y 0).isLt
  fin_cases a
  · exact ⟨Nat.zero_le _, by show (y 0).val < 0 + 256; omega⟩
  · exact ⟨by show 256 * ((y 1).val / 256) ≤ (y 1).val; omega, by show (y 1).val < 256 * ((y 1).val / 256) + 256; omega⟩

theorem in_laneAcc (y : S80x2048.Idx) (a : Fin 2) :
    (![0, 256 * ((y 1).val / 256)] : Fin 2 → Nat) a ≤ (y a).val ∧ (y a).val < (![0, 256 * ((y 1).val / 256)] : Fin 2 → Nat) a + S80x256.size a := by
  have h0 : (y 0).val < 80 := (y 0).isLt
  fin_cases a
  · exact ⟨Nat.zero_le _, by show (y 0).val < 0 + 80; omega⟩
  · exact ⟨by show 256 * ((y 1).val / 256) ≤ (y 1).val; omega, by show (y 1).val < 256 * ((y 1).val / 256) + 256; omega⟩

/-- Eight lane tiles of scores side by side. -/
def glueS (X : (t : Fin 8) → (laneS t).shape.Idx → α) : S256x2048.Idx → α := fun y =>
  X ⟨(y 1).val / 256, lane_lt (y 1).isLt⟩ (Rect.unitLocal (s := S256x2048) y (in_laneS y))

/-- Eight lane tiles of accumulators side by side. -/
def glueAcc (X : (t : Fin 8) → (laneAcc t).shape.Idx → α) : S80x2048.Idx → α := fun y =>
  X ⟨(y 1).val / 256, lane_lt (y 1).isLt⟩ (Rect.unitLocal (s := S80x2048) y (in_laneAcc y))

/-- An array of scores is determined by its lane tiles. -/
theorem eq_glueS {X : S256x2048.Idx → α} {T : (t : Fin 8) → (laneS t).shape.Idx → α} (h : ∀ t, part X (laneS t) = T t) : X = glueS T := by
  funext y
  unfold glueS
  rw [← h]
  unfold part
  exact congrArg X (emb_unitLocal (S := S256x2048) (inb := inb_lane_s ⟨(y 1).val / 256, lane_lt (y 1).isLt⟩) y (in_laneS y)).symm

/-- An accumulator is determined by its lane tiles. -/
theorem eq_glueAcc {X : S80x2048.Idx → α} {T : (t : Fin 8) → (laneAcc t).shape.Idx → α} (h : ∀ t, part X (laneAcc t) = T t) : X = glueAcc T := by
  funext y
  unfold glueAcc
  rw [← h]
  unfold part
  exact congrArg X (emb_unitLocal (S := S80x2048) (inb := inb_lane_acc ⟨(y 1).val / 256, lane_lt (y 1).isLt⟩) y (in_laneAcc y)).symm

theorem apart_laneS {t t' : Fin 8} (h : t ≠ t') (x : (laneS t).shape.Idx) (x' : (laneS t').shape.Idx) : (laneS t).emb x ≠ (laneS t').emb x' := by
  intro e
  have e1 := congrArg Fin.val (congrFun e 1)
  rw [emb_val, emb_val] at e1
  have hx : (x 1).val < 256 := (x 1).isLt
  have hx' : (x' 1).val < 256 := (x' 1).isLt
  replace e1 : 256 * t.val + (x 1).val = 256 * t'.val + (x' 1).val := e1
  exact h (Fin.ext (by omega))

theorem apart_laneAcc {t t' : Fin 8} (h : t ≠ t') (x : (laneAcc t).shape.Idx) (x' : (laneAcc t').shape.Idx) : (laneAcc t).emb x ≠ (laneAcc t').emb x' := by
  intro e
  have e1 := congrArg Fin.val (congrFun e 1)
  rw [emb_val, emb_val] at e1
  have hx : (x 1).val < 256 := (x 1).isLt
  have hx' : (x' 1).val < 256 := (x' 1).isLt
  replace e1 : 256 * t.val + (x 1).val = 256 * t'.val + (x' 1).val := e1
  exact h (Fin.ext (by omega))

/-! ## The extended queries -/

/-- The rows that hold the reference, -/
abbrev refRect : Rect S128x2048 := .unit (s := S128x2048) ![64, 0] S16x2048.size inb_S128x2048_S16x2048_64_0
/-- and the rows of padding. -/
abbrev padRect : Rect S128x2048 := .unit (s := S128x2048) ![80, 0] S48x2048.size inb_S128x2048_S48x2048_80_0

theorem head_lt {n : Nat} (h : n < 2048) : n / 512 < 4 := by omega

theorem in_headAug (y : S128x2048.Idx) (h : (y 0).val < 64) (a : Fin 2) :
    (![0, 512 * ((y 1).val / 512)] : Fin 2 → Nat) a ≤ (y a).val ∧ (y a).val < (![0, 512 * ((y 1).val / 512)] : Fin 2 → Nat) a + S64x512.size a := by
  fin_cases a
  · exact ⟨Nat.zero_le _, by show (y 0).val < 0 + 64; omega⟩
  · exact ⟨by show 512 * ((y 1).val / 512) ≤ (y 1).val; omega, by show (y 1).val < 512 * ((y 1).val / 512) + 512; omega⟩

theorem in_ref (y : S128x2048.Idx) (h : ¬ (y 0).val < 64) (h' : (y 0).val < 80) (a : Fin 2) :
    (![64, 0] : Fin 2 → Nat) a ≤ (y a).val ∧ (y a).val < (![64, 0] : Fin 2 → Nat) a + S16x2048.size a := by
  have h1 : (y 1).val < 2048 := (y 1).isLt
  fin_cases a
  · exact ⟨by show 64 ≤ (y 0).val; omega, by show (y 0).val < 64 + 16; omega⟩
  · exact ⟨Nat.zero_le _, by show (y 1).val < 0 + 2048; omega⟩

theorem in_pad (y : S128x2048.Idx) (h : ¬ (y 0).val < 80) (a : Fin 2) :
    (![80, 0] : Fin 2 → Nat) a ≤ (y a).val ∧ (y a).val < (![80, 0] : Fin 2 → Nat) a + S48x2048.size a := by
  have h0 : (y 0).val < 128 := (y 0).isLt
  have h1 : (y 1).val < 2048 := (y 1).isLt
  fin_cases a
  · exact ⟨by show 80 ≤ (y 0).val; omega, by show (y 0).val < 80 + 48; omega⟩
  · exact ⟨Nat.zero_le _, by show (y 1).val < 0 + 2048; omega⟩

/-- Four heads' queries over the reference's rows over padding. -/
def glueAug (H : (g : Fin 4) → (headAug g).shape.Idx → α) (R : refRect.shape.Idx → α) (P : padRect.shape.Idx → α) : S128x2048.Idx → α := fun y =>
  if h : (y 0).val < 64 then H ⟨(y 1).val / 512, head_lt (y 1).isLt⟩ (Rect.unitLocal (s := S128x2048) y (in_headAug y h))
  else if h' : (y 0).val < 80 then R (Rect.unitLocal (s := S128x2048) y (in_ref y h h'))
  else P (Rect.unitLocal (s := S128x2048) y (in_pad y h'))

theorem eq_glueAug {X : S128x2048.Idx → α} {H : (g : Fin 4) → (headAug g).shape.Idx → α} {R : refRect.shape.Idx → α} {P : padRect.shape.Idx → α}
    (hH : ∀ g, part X (headAug g) = H g) (hR : part X refRect = R) (hP : part X padRect = P) : X = glueAug H R P := by
  funext y
  unfold glueAug
  split_ifs with h h'
  · rw [← hH]
    exact congrArg X (emb_unitLocal (S := S128x2048) (inb := inb_head_aug ⟨(y 1).val / 512, head_lt (y 1).isLt⟩) y (in_headAug y h)).symm
  · rw [← hR]
    exact congrArg X (emb_unitLocal (S := S128x2048) (inb := inb_S128x2048_S16x2048_64_0) y (in_ref y h h')).symm
  · rw [← hP]
    exact congrArg X (emb_unitLocal (S := S128x2048) (inb := inb_S128x2048_S48x2048_80_0) y (in_pad y h')).symm

theorem apart_headAug {t t' : Fin 4} (h : t ≠ t') (x : (headAug t).shape.Idx) (x' : (headAug t').shape.Idx) : (headAug t).emb x ≠ (headAug t').emb x' := by
  intro e
  have e1 := congrArg Fin.val (congrFun e 1)
  rw [emb_val, emb_val] at e1
  have hx : (x 1).val < 512 := (x 1).isLt
  have hx' : (x' 1).val < 512 := (x' 1).isLt
  replace e1 : 512 * t.val + (x 1).val = 512 * t'.val + (x' 1).val := e1
  exact h (Fin.ext (by omega))

theorem apart_ref_head (t : Fin 4) (x : refRect.shape.Idx) (x' : (headAug t).shape.Idx) : refRect.emb x ≠ (headAug t).emb x' := by
  intro e
  have e1 := congrArg Fin.val (congrFun e 0)
  rw [emb_val, emb_val] at e1
  have hx' : (x' 0).val < 64 := (x' 0).isLt
  replace e1 : 64 + (x 0).val = 0 + (x' 0).val := e1
  omega

theorem apart_pad_head (t : Fin 4) (x : padRect.shape.Idx) (x' : (headAug t).shape.Idx) : padRect.emb x ≠ (headAug t).emb x' := by
  intro e
  have e1 := congrArg Fin.val (congrFun e 0)
  rw [emb_val, emb_val] at e1
  have hx' : (x' 0).val < 64 := (x' 0).isLt
  replace e1 : 80 + (x 0).val = 0 + (x' 0).val := e1
  omega

theorem apart_ref_pad (x : refRect.shape.Idx) (x' : padRect.shape.Idx) : refRect.emb x ≠ padRect.emb x' := by
  intro e
  have e1 := congrArg Fin.val (congrFun e 0)
  rw [emb_val, emb_val] at e1
  have hx : (x 0).val < 16 := (x 0).isLt
  replace e1 : 64 + (x 0).val = 80 + (x' 0).val := e1
  omega

/-! ## The sweep -/

variable {F : FTy → Type} [FloatOps F]
variable [Facts]

/-- Head `g`'s queries as stored. -/
def headQs (q : Vec F S256x512 .bf16) (g : Fin 4) : (headAug g).shape.Idx → Elt F .bf16 :=
  (shapeCast S64x512 (shapeCast S64x512 (part q (headQ g) : FVec F S64x512 .bf16) shapeCasts_S64x512_S64x512) shapeCasts_S64x512_S64x512 : FVec F S64x512 .bf16)

/-- The reference's rows as stored. -/
def refs (r : FVec F S1x2048 .f32) : refRect.shape.Idx → Elt F .bf16 :=
  (shapeCast S16x2048 (refRows r) shapeCasts_S16x2048_S16x2048 : FVec F S16x2048 .bf16)

/-- The padding as stored. -/
def pads : padRect.shape.Idx → Elt F .bf16 :=
  (shapeCast S48x2048 (broadcast S48x2048 (Scalar.ofBits .bf16 0x0000#16)) shapeCasts_S48x2048_S48x2048 : FVec F S48x2048 .bf16)

/-- The extended queries at a reference. -/
def augOf (q : Vec F S256x512 .bf16) (r : FVec F S1x2048 .f32) : Vec F S128x2048 .bf16 := glueAug (headQs q) (refs r) pads

/-- One chunk's scores, rounded, on one lane tile. -/
def scoreOf (k : Vec F S8192x128 .bf16) (aug : Vec F S128x2048 .bf16) (o : KOff) (t : Fin 8) : FVec F S256x256 .bf16 :=
  scoreTile (part k o.rect) (part aug (laneAug t))

/-- One chunk's scores. -/
def scoresOf (k : Vec F S8192x128 .bf16) (aug : Vec F S128x2048 .bf16) (o : KOff) : Vec F S256x2048 .bf16 :=
  glueS fun t => (shapeCast S256x256 (scoreOf k aug o t) shapeCasts_S256x256_S256x256 : FVec F S256x256 .bf16)

/-- One chunk's column maxima. -/
def maxOf (k : Vec F S8192x128 .bf16) (aug : Vec F S128x2048 .bf16) (o : KOff) : FVec F S1x2048 .f32 :=
  cat8' (maxTile (scoreOf k aug o 0)) (maxTile (scoreOf k aug o 1)) (maxTile (scoreOf k aug o 2)) (maxTile (scoreOf k aug o 3))
    (maxTile (scoreOf k aug o 4)) (maxTile (scoreOf k aug o 5)) (maxTile (scoreOf k aug o 6)) (maxTile (scoreOf k aug o 7))

/-- One chunk accumulated, on one lane tile. -/
def accT (v : Vec F S80x8192 .bf16) (o : VOff) (al : Option (FVec F S1x2048 .f32)) (cur : Vec F S256x2048 .bf16) (acc : Vec F S80x2048 .f32)
    (t : Fin 8) : (laneAcc t).shape.Idx → Elt F .f32 :=
  (shapeCast S80x256 (accTile t al (part cur (laneS t)) (part v o.rect) (part acc (laneAcc t))) shapeCasts_S80x256_S80x256 : FVec F S80x256 .f32)

/-- One chunk accumulated. -/
def accOf (v : Vec F S80x8192 .bf16) (o : VOff) (al : Option (FVec F S1x2048 .f32)) (cur : Vec F S256x2048 .bf16) (acc : Vec F S80x2048 .f32) :
    Vec F S80x2048 .f32 :=
  glueAcc (accT v o al cur acc)

/-- The first 128 keys' largest scores. -/
def firstOf (k : Vec F S8192x128 .bf16) (aug : Vec F S128x2048 .bf16) (t : Fin 8) : FVec F S1x256 .f32 :=
  firstTile (part k (Rect.unit (s := S8192x128) ![0, 0] S128x128.size inb_S8192x128_S128x128_0_0)) (part aug (laneAug t))

/-- The first top. -/
def topOf (k : Vec F S8192x128 .bf16) (aug : Vec F S128x2048 .bf16) : FVec F S1x2048 .f32 :=
  cat8' (firstOf k aug 0) (firstOf k aug 1) (firstOf k aug 2) (firstOf k aug 3) (firstOf k aug 4) (firstOf k aug 5) (firstOf k aug 6) (firstOf k aug 7)

/-- Where a sweep stands: what it carries, the scores waiting to be accumulated, and the accumulator. -/
structure Sw (F : FTy → Type) [FloatOps F] where
  c : Carry F
  cur : Vec F S256x2048 .bf16
  acc : Vec F S80x2048 .f32

/-- One step of a sweep, at a new reference `g`. -/
def Sw.step (q : Vec F S256x512 .bf16) (k : Vec F S8192x128 .bf16) (v : Vec F S80x8192 .bf16) (g : FVec F S1x2048 .f32) (ko : KOff) (vo : VOff)
    (al : Option (FVec F S1x2048 .f32)) (w : Sw F) : Sw F :=
  ⟨Carry.next g w.c (maxOf k (augOf q g) ko), scoresOf k (augOf q g) ko, accOf v vo al w.cur w.acc⟩

/-- Steps that keep the reference. -/
def Sw.plain (q : Vec F S256x512 .bf16) (k : Vec F S8192x128 .bf16) (v : Vec F S80x8192 .bf16) (ko : Fin 8 → KOff) (vo : Fin 8 → VOff) :
    List (Fin 8) → Sw F → Sw F
  | [], w => w
  | u :: us, w => Sw.plain q k v ko vo us (Sw.step q k v w.c.1 (ko u) (vo u) none w)

/-- A group of steps. -/
def Sw.group (q : Vec F S256x512 .bf16) (k : Vec F S8192x128 .bf16) (v : Vec F S80x8192 .bf16) (ko : Fin 8 → KOff) (vo : Fin 8 → VOff)
    (us : List (Fin 8)) (w : Sw F) : Sw F :=
  Sw.plain q k v ko vo us
    (Sw.step q k v (rnd w.c.2.2.1) (ko 1) (vo 1) (some (exp2 (subf w.c.1 (rnd w.c.2.2.1))))
      (Sw.step q k v (rnd w.c.2.2.1) (ko 0) (vo 0) none w))

/-- The emptied accumulator. -/
def acc0 : Vec F S80x2048 .f32 :=
  (shapeCast S80x2048 (broadcast S80x2048 (Scalar.ofBits .f32 0x00000000#32)) shapeCasts_S80x2048_S80x2048 : FVec F S80x2048 .f32)

/-- A sweep's start from a top: the first chunk's scores are in, nothing is accumulated. -/
def Sw.start (q : Vec F S256x512 .bf16) (k : Vec F S8192x128 .bf16) (top over : FVec F S1x2048 .f32) : Sw F :=
  ⟨(rnd top, maxOf k (augOf q (rnd top)) (kAt 0), top, over), scoresOf k (augOf q (rnd top)) (kAt 0), acc0⟩

/-- The first sweep's loop. -/
def Sw.loop1 (q : Vec F S256x512 .bf16) (k : Vec F S8192x128 .bf16) (v : Vec F S80x8192 .bf16) (w : Sw F) : Sw F :=
  (List.finRange k0_t1_loop.trips).foldl (fun w i => Sw.group q k v (fun u => ⟨k0_off1 i (BitVec.ofNat 32 u.val), k0_off1_inb i u⟩)
    (fun u => ⟨k0_off2 i (BitVec.ofNat 32 u.val), k0_off2_inb i u⟩) [2, 3, 4, 5, 6, 7] w) w

/-- The second sweep does not watch how far scores rise: the top stands in that place. -/
def Sw.reset (w : Sw F) : Sw F := ⟨(w.c.1, w.c.2.1, w.c.2.2.1, w.c.2.2.1), w.cur, w.acc⟩

/-- The second sweep's loop. -/
def Sw.loop2 (q : Vec F S256x512 .bf16) (k : Vec F S8192x128 .bf16) (v : Vec F S80x8192 .bf16) (w : Sw F) : Sw F :=
  (List.finRange k0_t2_loop.trips).foldl (fun w i => Sw.group q k v (fun u => ⟨k0_off3 i (BitVec.ofNat 32 u.val), k0_off3_inb i u⟩)
    (fun u => ⟨k0_off4 i (BitVec.ofNat 32 u.val), k0_off4_inb i u⟩) [2, 3, 4, 5, 6, 7] (Sw.reset w)) w

/-- The last group, and the last chunk accumulated. -/
def Sw.tail (q : Vec F S256x512 .bf16) (k : Vec F S8192x128 .bf16) (v : Vec F S80x8192 .bf16) (w : Sw F) : Sw F :=
  let w' := Sw.group q k v (fun u => kAt ⟨(25 + u.val) % 32, Nat.mod_lt _ (by decide)⟩) (fun u => vAt ⟨(24 + u.val) % 32, Nat.mod_lt _ (by decide)⟩)
    [2, 3, 4, 5, 6] w
  ⟨w'.c, w'.cur, accOf v (vAt 31) none w'.cur w'.acc⟩

/-- The output block. -/
def outOf (q : Vec F S256x512 .bf16) (k : Vec F S8192x128 .bf16) (v : Vec F S80x8192 .bf16) : Vec F S512x256 .bf16 :=
  let t0 := topOf k (augOf q (broadcast S1x2048 (Scalar.ofBits .f32 0x00000000#32)))
  let w := Sw.tail q k v (Sw.loop1 q k v (Sw.start q k t0 (broadcast S1x2048 (Scalar.ofBits .f32 0x00000000#32))))
  if tooHigh (maximumf w.c.2.2.2 w.c.2.1) = 1#1 then
    let t1 := maximumf w.c.2.2.1 (addf w.c.1 w.c.2.1)
    finish (Sw.tail q k v (Sw.reset (Sw.loop2 q k v (Sw.start q k t1 t1)))).acc
  else finish w.acc

end Cert.KernelIdeal.Axial
-- ==== Proof.Runs.lean ====
/-
  The attention body's run: from its eight buffers held at any contents, with the query, key and value blocks at
  `q`, `k`, `v`, it leaves the output block at `outOf q k v`.
-/
module

public import proofs.«01_k».proof.Proof.Pure
public import Idealize.ShloMosaic.Lib.Pipeline.Frame
public import Idealize.ShloMosaic.Lib.Tactic

@[expose] public section

set_option maxRecDepth 16384

noncomputable section

namespace Cert.KernelIdeal.Axial

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Facts₀ Facts

variable {F : FTy → Type} [FloatOps F]
variable [Facts]

local notation "𝕄" => MT nD τ sig Unit (Elt F) ℕ (UR sig nD τ) ℕ

/-- The contents of the eight buffers. -/
structure St (F : FTy → Type) [FloatOps F] where
  q : Vec F S256x512 .bf16
  k : Vec F S8192x128 .bf16
  v : Vec F S80x8192 .bf16
  o : Vec F S512x256 .bf16
  aug : Vec F S128x2048 .bf16
  s0 : Vec F S256x2048 .bf16
  s1 : Vec F S256x2048 .bf16
  acc : Vec F S80x2048 .f32

/-- A score buffer's contents, -/
def St.s (σ : St F) : Bool → Vec F S256x2048 .bf16
  | false => σ.s0
  | true => σ.s1

/-- and the contents with one score buffer's replaced. -/
def St.setS (σ : St F) (b : Bool) (X : Vec F S256x2048 .bf16) : St F :=
  match b with
  | false => { σ with s0 := X }
  | true => { σ with s1 := X }

variable (B : Bufs) (c : Dev nD)

/-- The eight buffers held at `σ`. -/
def Own (σ : St F) : sProp 𝕄 :=
  iprop(owns (c : Thread nD τ) B.q fullShare σ.q ∗ owns (c : Thread nD τ) B.k fullShare σ.k ∗ owns (c : Thread nD τ) B.v fullShare σ.v
    ∗ owns (c : Thread nD τ) B.o fullShare σ.o ∗ owns (c : Thread nD τ) B.aug fullShare σ.aug ∗ owns (c : Thread nD τ) B.s0 fullShare σ.s0
    ∗ owns (c : Thread nD τ) B.s1 fullShare σ.s1 ∗ owns (c : Thread nD τ) B.acc fullShare σ.acc)

/-- From contents with `P`, the program runs to a result and contents with `Q`. -/
def Hoare {α : Type} (P : St F → Prop) (p : Body F α) (Q : α → St F → Prop) : Prop :=
  ∀ σ, P σ → (Own B c σ : sProp 𝕄) ⊢ wp frame (wpE (defs₀ (F := F)) Variants.none c none) Set.univ p (fun a => iprop(∃ σ', ⌜Q a σ'⌝ ∗ Own B c σ'))

variable {B c}

theorem Hoare.bind {α β : Type} {P : St F → Prop} {p : Body F α} {R : α → St F → Prop} {k : α → Body F β} {Q : β → St F → Prop}
    (hp : Hoare B c P p R) (hk : ∀ a, Hoare B c (R a) (k a) Q) : Hoare B c P (p >>= k) Q := by
  intro σ hσ
  rw [wp_bind]
  refine (hp σ hσ).trans (wp_mono _ _ _ fun a => ?_)
  iintro ⟨%σ', %h, H⟩
  iapply (hk a σ' h)
  iexact H

theorem Hoare.ret {α : Type} {P : St F → Prop} {Q : α → St F → Prop} {a : α} (h : ∀ σ, P σ → Q a σ) : Hoare B c P (pure a) Q := by
  intro σ hσ
  rw [wp_pure]
  refine BIBase.Entails.trans ?_ fupd_intro
  iintro H
  iexists σ
  isplitr
  · ipureintro; exact h σ hσ
  iexact H

theorem Hoare.conseq {α : Type} {P P' : St F → Prop} {p : Body F α} {Q Q' : α → St F → Prop} (h : Hoare B c P p Q)
    (hP : ∀ σ, P' σ → P σ) (hQ : ∀ a σ, Q a σ → Q' a σ) : Hoare B c P' p Q' := by
  intro σ hσ
  refine (h σ (hP σ hσ)).trans (wp_mono _ _ _ fun a => ?_)
  iintro ⟨%σ', %h, H⟩
  iexists σ'
  isplitr
  · ipureintro; exact hQ _ _ h
  iexact H

/-! ## One buffer out of the eight -/

/-- The buffer `m` can be taken out of the eight at `get σ`, and put back at anything. -/
def Takes (B : Bufs) (c : Dev nD) {S : Shape} {e : EltTy} (m : Memref sig .tc .vmem S e) (get : St F → Vec F S e) (put : St F → Vec F S e → St F) : Prop :=
  ∀ σ, (Own B c σ : sProp 𝕄) ⊢ iprop(owns (c : Thread nD τ) m fullShare (get σ) ∗ (∀ Y, owns (c : Thread nD τ) m fullShare Y -∗ Own B c (put σ Y)))

theorem takes_q : Takes (F := F) B c B.q St.q (fun σ Y => { σ with q := Y }) := by
  intro σ; unfold Own
  iintro ⟨H0, H1, H2, H3, H4, H5, H6, H7⟩
  isplitl [H0]; · iexact H0
  iintro %Y H
  isplitl [H]; · iexact H
  isplitl [H1]; · iexact H1
  isplitl [H2]; · iexact H2
  isplitl [H3]; · iexact H3
  isplitl [H4]; · iexact H4
  isplitl [H5]; · iexact H5
  isplitl [H6]; · iexact H6
  iexact H7

theorem takes_k : Takes (F := F) B c B.k St.k (fun σ Y => { σ with k := Y }) := by
  intro σ; unfold Own
  iintro ⟨H0, H1, H2, H3, H4, H5, H6, H7⟩
  isplitl [H1]; · iexact H1
  iintro %Y H
  isplitl [H0]; · iexact H0
  isplitl [H]; · iexact H
  isplitl [H2]; · iexact H2
  isplitl [H3]; · iexact H3
  isplitl [H4]; · iexact H4
  isplitl [H5]; · iexact H5
  isplitl [H6]; · iexact H6
  iexact H7

theorem takes_v : Takes (F := F) B c B.v St.v (fun σ Y => { σ with v := Y }) := by
  intro σ; unfold Own
  iintro ⟨H0, H1, H2, H3, H4, H5, H6, H7⟩
  isplitl [H2]; · iexact H2
  iintro %Y H
  isplitl [H0]; · iexact H0
  isplitl [H1]; · iexact H1
  isplitl [H]; · iexact H
  isplitl [H3]; · iexact H3
  isplitl [H4]; · iexact H4
  isplitl [H5]; · iexact H5
  isplitl [H6]; · iexact H6
  iexact H7

theorem takes_o : Takes (F := F) B c B.o St.o (fun σ Y => { σ with o := Y }) := by
  intro σ; unfold Own
  iintro ⟨H0, H1, H2, H3, H4, H5, H6, H7⟩
  isplitl [H3]; · iexact H3
  iintro %Y H
  isplitl [H0]; · iexact H0
  isplitl [H1]; · iexact H1
  isplitl [H2]; · iexact H2
  isplitl [H]; · iexact H
  isplitl [H4]; · iexact H4
  isplitl [H5]; · iexact H5
  isplitl [H6]; · iexact H6
  iexact H7

theorem takes_aug : Takes (F := F) B c B.aug St.aug (fun σ Y => { σ with aug := Y }) := by
  intro σ; unfold Own
  iintro ⟨H0, H1, H2, H3, H4, H5, H6, H7⟩
  isplitl [H4]; · iexact H4
  iintro %Y H
  isplitl [H0]; · iexact H0
  isplitl [H1]; · iexact H1
  isplitl [H2]; · iexact H2
  isplitl [H3]; · iexact H3
  isplitl [H]; · iexact H
  isplitl [H5]; · iexact H5
  isplitl [H6]; · iexact H6
  iexact H7

theorem takes_s0 : Takes (F := F) B c B.s0 St.s0 (fun σ Y => { σ with s0 := Y }) := by
  intro σ; unfold Own
  iintro ⟨H0, H1, H2, H3, H4, H5, H6, H7⟩
  isplitl [H5]; · iexact H5
  iintro %Y H
  isplitl [H0]; · iexact H0
  isplitl [H1]; · iexact H1
  isplitl [H2]; · iexact H2
  isplitl [H3]; · iexact H3
  isplitl [H4]; · iexact H4
  isplitl [H]; · iexact H
  isplitl [H6]; · iexact H6
  iexact H7

theorem takes_s1 : Takes (F := F) B c B.s1 St.s1 (fun σ Y => { σ with s1 := Y }) := by
  intro σ; unfold Own
  iintro ⟨H0, H1, H2, H3, H4, H5, H6, H7⟩
  isplitl [H6]; · iexact H6
  iintro %Y H
  isplitl [H0]; · iexact H0
  isplitl [H1]; · iexact H1
  isplitl [H2]; · iexact H2
  isplitl [H3]; · iexact H3
  isplitl [H4]; · iexact H4
  isplitl [H5]; · iexact H5
  isplitl [H]; · iexact H
  iexact H7

theorem takes_acc : Takes (F := F) B c B.acc St.acc (fun σ Y => { σ with acc := Y }) := by
  intro σ; unfold Own
  iintro ⟨H0, H1, H2, H3, H4, H5, H6, H7⟩
  isplitl [H7]; · iexact H7
  iintro %Y H
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H

theorem takes_s : ∀ b, Takes (F := F) B c (B.s b) (fun σ => σ.s b) (fun σ Y => σ.setS b Y)
  | false => takes_s0
  | true => takes_s1

/-- A load reads the part under its rectangle. -/
theorem Hoare.load {S : Shape} {e : EltTy} {m : Memref sig .tc .vmem S e} {get : St F → Vec F S e} {put : St F → Vec F S e → St F}
    (ht : Takes B c m get put) (hput : ∀ σ, put σ (get σ) = σ) {r : Rect S} {hl : m.view.LoadsAt r.toLoadRect} {P : St F → Prop} :
    Hoare B c P (Prog.lift (.load m r.toLoadRect hl)) (fun x σ => P σ ∧ x = part (get σ) r) := by
  intro σ hσ
  refine (ht σ).trans ?_
  unfold owns
  iintro ⟨⟨%f, %hf, Hm⟩, Hk⟩
  iapply (wp_load (defs := defs₀ (F := F)) Variants.none (c : Thread nD τ) none Set.univ (m := m) (r := r.toLoadRect) (hl := hl) (S := m.view.set) (f := f)
    (m.view.setOn_subset_set _)) $$ Hm
  iintro Hm
  rw [wp_ret]
  iapply fupd_intro
  iexists σ
  isplitr
  · ipureintro
    refine ⟨hσ, ?_⟩
    rw [← hf]
    rfl
  ispecialize Hk $$ %(get σ)
  rw [hput σ]
  iapply Hk
  iexists f
  isplitr
  · ipureintro; exact hf
  iexact Hm

/-- A store replaces the part under its rectangle. -/
theorem Hoare.store {S : Shape} {e : EltTy} {m : Memref sig .tc .vmem S e} {get : St F → Vec F S e} {put : St F → Vec F S e → St F}
    (ht : Takes B c m get put) {r : Rect S} {w : r.shape.Idx → Elt F e} {hx : (m.access r).Stores Finset.univ} {hm} {P : St F → Prop} :
    Hoare B c P (Prog.lift (.store m r w Finset.univ hx hm)) (fun _ σ' => ∃ σ, P σ ∧ σ' = put σ (upd (get σ) r w)) := by
  intro σ hσ
  refine (ht σ).trans ?_
  unfold owns
  iintro ⟨⟨%f, %hf, Hm⟩, Hk⟩
  iapply (wp_store_writes₀ Variants.none (c : Thread nD τ) none Set.univ (m := m) (r := r) (w := w) (hx := hx) (hm := hm) (S := m.view.set) (f := f)
    (m.view.set_slice_subset r)) $$ Hm
  iintro Hm
  rw [wp_ret]
  iapply fupd_intro
  iexists (put σ (upd (get σ) r w))
  isplitr
  · ipureintro
    exact ⟨σ, hσ, rfl⟩
  iapply Hk
  iexists _
  isplitr; swap
  · iexact Hm
  ipureintro
  funext y
  by_cases hy : ∃ x, r.emb x = y
  · obtain ⟨x, rfl⟩ := hy
    rw [upd_emb]
    exact View.read_writes_cons_emb m.view f r w [] x
  · rw [upd_of_not _ _ _ _ (fun x hx => hy ⟨x, hx⟩), ← hf]
    refine View.read_slice_write_of_not_mem r f w Finset.univ ?_
    intro h
    obtain ⟨x, -, hx⟩ := Finset.mem_map.mp h
    exact hy ⟨x, hx⟩

end Cert.KernelIdeal.Axial
-- ==== Proof.Shape.lean ====
/-
  The printed body of the attention kernel is the structured one (`body_eq`): the printed text is cut into parts of sixty
  statements, so the parts that hold a loop or a condition are restated around it, then the pieces between the loops compared.
-/
module

public import proofs.«01_k».proof.Proof.Struct
public import Idealize.ShloMosaic.Lib.Pipeline.Regions

@[expose] public section

set_option maxRecDepth 16384

noncomputable section

namespace Cert.KernelIdeal.Axial

open Idealize.ShloMosaic Idealize.SL.Sem
open Cert.KernelIdeal Facts₀ Facts

variable {F : FTy → Type} [FloatOps F]
variable [Facts]

/-- The part of the body that fills in the queries. -/
theorem shape149 (i : grid0.Coords) (B : Bufs)  :
    k0_part149 i B.q B.hq B.k B.hk B.v B.hv B.o B.ho B.aug B.haug B.s0 B.hs0 B.s1 B.hs1 B.acc B.hacc  = (do
      let v0 : Vec F S64x512 .bf16 ← Prog.lift (.load B.q (Rect.unit (s := S256x512) ![0, 0] S64x512.size inb_S256x512_S64x512_0_0).toLoadRect (View.loadsAt_vmem h_S64x512))
      have v1 : FVec F S64x512 .bf16 := shapeCast S64x512 v0 shapeCasts_S64x512_S64x512
      let v2 : Vec F S64x512 .bf16 ← Prog.lift (.load B.aug (Rect.unit (s := S128x2048) ![0, 0] S64x512.size inb_S128x2048_S64x512_0_0).toLoadRect (View.loadsAt_vmem h_S64x512))
      have v4 : FVec F S64x512 .bf16 := shapeCast S64x512 v1 shapeCasts_S64x512_S64x512
      Prog.lift (.store B.aug (Rect.unit (s := S128x2048) ![0, 0] S64x512.size inb_S128x2048_S64x512_0_0) v4 Finset.univ (View.stores_vmem h_S64x512 (B.haug.storeExact_slice rfl _ packedbf16_S128x2048_S64x512_0_0) (fun _ => rfl)) (.inl rfl))
      let v5 : Vec F S64x512 .bf16 ← Prog.lift (.load B.q (Rect.unit (s := S256x512) ![64, 0] S64x512.size inb_S256x512_S64x512_64_0).toLoadRect (View.loadsAt_vmem h_S64x512))
      have v6 : FVec F S64x512 .bf16 := shapeCast S64x512 v5 shapeCasts_S64x512_S64x512
      let v7 : Vec F S64x512 .bf16 ← Prog.lift (.load B.aug (Rect.unit (s := S128x2048) ![0, 512] S64x512.size inb_S128x2048_S64x512_0_512).toLoadRect (View.loadsAt_vmem h_S64x512))
      have v9 : FVec F S64x512 .bf16 := shapeCast S64x512 v6 shapeCasts_S64x512_S64x512
      Prog.lift (.store B.aug (Rect.unit (s := S128x2048) ![0, 512] S64x512.size inb_S128x2048_S64x512_0_512) v9 Finset.univ (View.stores_vmem h_S64x512 (B.haug.storeExact_slice rfl _ packedbf16_S128x2048_S64x512_0_512) (fun _ => rfl)) (.inl rfl))
      let v10 : Vec F S64x512 .bf16 ← Prog.lift (.load B.q (Rect.unit (s := S256x512) ![128, 0] S64x512.size inb_S256x512_S64x512_128_0).toLoadRect (View.loadsAt_vmem h_S64x512))
      have v11 : FVec F S64x512 .bf16 := shapeCast S64x512 v10 shapeCasts_S64x512_S64x512
      let v12 : Vec F S64x512 .bf16 ← Prog.lift (.load B.aug (Rect.unit (s := S128x2048) ![0, 1024] S64x512.size inb_S128x2048_S64x512_0_1024).toLoadRect (View.loadsAt_vmem h_S64x512))
      have v14 : FVec F S64x512 .bf16 := shapeCast S64x512 v11 shapeCasts_S64x512_S64x512
      Prog.lift (.store B.aug (Rect.unit (s := S128x2048) ![0, 1024] S64x512.size inb_S128x2048_S64x512_0_1024) v14 Finset.univ (View.stores_vmem h_S64x512 (B.haug.storeExact_slice rfl _ packedbf16_S128x2048_S64x512_0_1024) (fun _ => rfl)) (.inl rfl))
      let v15 : Vec F S64x512 .bf16 ← Prog.lift (.load B.q (Rect.unit (s := S256x512) ![192, 0] S64x512.size inb_S256x512_S64x512_192_0).toLoadRect (View.loadsAt_vmem h_S64x512))
      have v16 : FVec F S64x512 .bf16 := shapeCast S64x512 v15 shapeCasts_S64x512_S64x512
      let v17 : Vec F S64x512 .bf16 ← Prog.lift (.load B.aug (Rect.unit (s := S128x2048) ![0, 1536] S64x512.size inb_S128x2048_S64x512_0_1536).toLoadRect (View.loadsAt_vmem h_S64x512))
      have v19 : FVec F S64x512 .bf16 := shapeCast S64x512 v16 shapeCasts_S64x512_S64x512
      Prog.lift (.store B.aug (Rect.unit (s := S128x2048) ![0, 1536] S64x512.size inb_S128x2048_S64x512_0_1536) v19 Finset.univ (View.stores_vmem h_S64x512 (B.haug.storeExact_slice rfl _ packedbf16_S128x2048_S64x512_0_1536) (fun _ => rfl)) (.inl rfl))
      have cst : F .bf16 := Scalar.ofBits .bf16 0x0000#16
      have v20 : FVec F S48x2048 .bf16 := broadcast S48x2048 cst
      let v21 : Vec F S48x2048 .bf16 ← Prog.lift (.load B.aug (Rect.unit (s := S128x2048) ![80, 0] S48x2048.size inb_S128x2048_S48x2048_80_0).toLoadRect (View.loadsAt_vmem h_S48x2048))
      have v23 : FVec F S48x2048 .bf16 := shapeCast S48x2048 v20 shapeCasts_S48x2048_S48x2048
      Prog.lift (.store B.aug (Rect.unit (s := S128x2048) ![80, 0] S48x2048.size inb_S128x2048_S48x2048_80_0) v23 Finset.univ (View.stores_vmem h_S48x2048 (B.haug.storeExact_slice rfl _ packedbf16_S128x2048_S48x2048_80_0) (fun _ => rfl)) (.inl rfl))
      have v24 : IVec S16x2048 32 := iota .tc S16x2048 32 [0] iota_S16x2048_d0_w32
      let c0_i32 : BitVec 32 := 0#32
      have v25 : IVec S16x2048 32 := broadcast S16x2048 c0_i32
      have v26 : IVec S16x2048 1 := cmpi .eq v24 v25
      have cst_10 : F .f32 := Scalar.ofBits .f32 0x00000000#32
      have v27 : FVec F S1x2048 .f32 := broadcast S1x2048 cst_10
      have cst_11 : F .f32 := Scalar.ofBits .f32 0x00000000#32
      have v28 : FVec F S1x2048 .f32 := broadcast S1x2048 cst_11
      have v29 : FVec F S1x2048 .f32 := subf v28 v27
      pure ⟨v26, v29⟩ : Prog (TpuEff nD τ sig (Elt F) Λ₀ .tc) (Σ' (v26 : IVec S16x2048 1), FVec F S1x2048 .f32)) := by
  chain_rfl

/-- The part of the body with the first loop. -/
theorem shape155 (i : grid0.Coords) (B : Bufs) (v26 : IVec S16x2048 1) (hm : v26 = (cmpi .eq (iota .tc S16x2048 32 [0] iota_S16x2048_d0_w32) (broadcast S16x2048 0#32))) (v102 : FVec F S1x2048 .f32) (v108 : FVec F S1x2048 .f32) (v131 : FVec F S1x256 .f32) (v144 : FVec F S1x256 .f32) (v157 : FVec F S1x256 .f32) (v170 : FVec F S1x256 .f32) (v183 : FVec F S1x256 .f32) (v196 : FVec F S1x256 .f32) (v203 : FVec F S256x256 .bf16) :
    k0_part155 i B.q B.hq B.k B.hk B.v B.hv B.o B.ho B.aug B.haug B.s0 B.hs0 B.s1 B.hs1 B.acc B.hacc v26 v102 v108 v131 v144 v157 v170 v183 v196 v203 = (do
      have v207 : FVec F S256 .bf16 := multiReduction .maximumf [0] S256 v203 0xFF80#16 reduces_S256x256_S256 (.inr rfl) rfl
      have v208 : FVec F S1x256 .bf16 := shapeCast S1x256 v207 shapeCasts_S256_S1x256
      have v209 : FVec F S1x256 .f32 := extf .f32 v208 bitsLt_bf16_f32
      let v212 : Vec F S256x128 .bf16 ← Prog.lift (.load B.k (Rect.unit (s := S8192x128) ![0, 0] S256x128.size inb_S8192x128_S256x128_0_0).toLoadRect (View.loadsAt_vmem h_S256x128))
      have v213 : FVec F S256x128 .bf16 := shapeCast S256x128 v212 shapeCasts_S256x128_S256x128
      let v214 : Vec F S128x256 .bf16 ← Prog.lift (.load B.aug (Rect.unit (s := S128x2048) ![0, 1792] S128x256.size inb_S128x2048_S128x256_0_1792).toLoadRect (View.loadsAt_vmem h_S128x256))
      have cst_126 : FVec F S256x256 .f32 := constant S256x256 .f32 0x00000000#32
      have v215 : FVec F S256x256 .f32 := matmul dot_S256x128_S128x256_S256x256_1_0_0_1_n_n none v213 v214 cst_126
      have v216 : FVec F S256x256 .bf16 := truncf .bf16 v215 bitsLt_bf16_f32
      let v217 : Vec F S256x256 .bf16 ← Prog.lift (.load B.s0 (Rect.unit (s := S256x2048) ![0, 1792] S256x256.size inb_S256x2048_S256x256_0_1792).toLoadRect (View.loadsAt_vmem h_S256x256))
      have v219 : FVec F S256x256 .bf16 := shapeCast S256x256 v216 shapeCasts_S256x256_S256x256
      Prog.lift (.store B.s0 (Rect.unit (s := S256x2048) ![0, 1792] S256x256.size inb_S256x2048_S256x256_0_1792) v219 Finset.univ (View.stores_vmem h_S256x256 (B.hs0.storeExact_slice rfl _ packedbf16_S256x2048_S256x256_0_1792) (fun _ => rfl)) (.inl rfl))
      have v220 : FVec F S256 .bf16 := multiReduction .maximumf [0] S256 v216 0xFF80#16 reduces_S256x256_S256 (.inr rfl) rfl
      have v221 : FVec F S1x256 .bf16 := shapeCast S1x256 v220 shapeCasts_S256_S1x256
      have v222 : FVec F S1x256 .f32 := extf .f32 v221 bitsLt_bf16_f32
      have v223 : FVec F S1x2048 .f32 := concatenate S1x2048 1 [⟨S1x256, v131⟩, ⟨S1x256, v144⟩, ⟨S1x256, v157⟩, ⟨S1x256, v170⟩, ⟨S1x256, v183⟩, ⟨S1x256, v196⟩, ⟨S1x256, v209⟩, ⟨S1x256, v222⟩] concatenates_S1x256_S1x256_S1x256_S1x256_S1x256_S1x256_S1x256_S1x256_S1x2048_d1
      have cst_130 : F .f32 := Scalar.ofBits .f32 0x00000000#32
      have v224 : FVec F S1x2048 .f32 := broadcast S1x2048 cst_130
      let r ← loop1 B (v108, v223, v102, v224)
      have v227 : FVec F S1x2048 .bf16 := truncf .bf16 r.2.2.1 bitsLt_bf16_f32
      have v228 : FVec F S1x2048 .f32 := extf .f32 v227 bitsLt_bf16_f32
      have cst_133 : F .f32 := Scalar.ofBits .f32 0x00000000#32
      have v229 : FVec F S1x2048 .f32 := broadcast S1x2048 cst_133
      have v230 : FVec F S1x2048 .f32 := subf v229 v228
      have cst_134 : F .f32 := Scalar.ofBits .f32 0x00000000#32
      have v231 : FVec F S1x2048 .f32 := shapeCast S1x2048 v230 shapeCasts_S1x2048_S1x2048
      have v232 : FVec F S16x2048 .f32 := broadcastTo S16x2048 v231 broadcasts_S1x2048_S16x2048
      have v233 : FVec F S16x2048 .f32 := broadcast S16x2048 cst_134
      have v234 : FVec F S16x2048 .f32 := select (cmpi .eq (iota .tc S16x2048 32 [0] iota_S16x2048_d0_w32) (broadcast S16x2048 0#32)) v232 v233
      have v235 : FVec F S16x2048 .bf16 := truncf .bf16 v234 bitsLt_bf16_f32
      let v236 : Vec F S16x2048 .bf16 ← Prog.lift (.load B.aug (Rect.unit (s := S128x2048) ![64, 0] S16x2048.size inb_S128x2048_S16x2048_64_0).toLoadRect (View.loadsAt_vmem h_S16x2048))
      have v238 : FVec F S16x2048 .bf16 := shapeCast S16x2048 v235 shapeCasts_S16x2048_S16x2048
      Prog.lift (.store B.aug (Rect.unit (s := S128x2048) ![64, 0] S16x2048.size inb_S128x2048_S16x2048_64_0) v238 Finset.univ (View.stores_vmem h_S16x2048 (B.haug.storeExact_slice rfl _ packedbf16_S128x2048_S16x2048_64_0) (fun _ => rfl)) (.inl rfl))
      let v241 : Vec F S256x128 .bf16 ← Prog.lift (.load B.k (Rect.unit (s := S8192x128) ![6400, 0] S256x128.size inb_S8192x128_S256x128_6400_0).toLoadRect (View.loadsAt_vmem h_S256x128))
      have v242 : FVec F S256x128 .bf16 := shapeCast S256x128 v241 shapeCasts_S256x128_S256x128
      pure ⟨r.1, r.2.1, r.2.2.1, r.2.2.2, v228, v242⟩ : Prog (TpuEff nD τ sig (Elt F) Λ₀ .tc) (Σ' (v226_0 : FVec F S1x2048 .f32) (v226_1 : FVec F S1x2048 .f32) (v226_2 : FVec F S1x2048 .f32) (v226_3 : FVec F S1x2048 .f32) (v228 : FVec F S1x2048 .f32), FVec F S256x128 .bf16)) := by
  subst hm; chain_rfl

/-- The part of the second sweep with its loop. -/
theorem shape107 (i : grid0.Coords) (B : Bufs) (v26 : IVec S16x2048 1) (hm : v26 = (cmpi .eq (iota .tc S16x2048 32 [0] iota_S16x2048_d0_w32) (broadcast S16x2048 0#32))) (v1790 : FVec F S1x2048 .f32) (v1817 : FVec F S1x2048 .f32) (v1840 : FVec F S1x256 .f32) (v1853 : FVec F S1x256 .f32) (v1866 : FVec F S1x256 .f32) (v1879 : FVec F S1x256 .f32) (v1892 : FVec F S1x256 .f32) (v1905 : FVec F S1x256 .f32) (v1918 : FVec F S1x256 .f32) (c0_i32_1223 : BitVec 32) :
    k0_part107 i B.q B.hq B.k B.hk B.v B.hv B.o B.ho B.aug B.haug B.s0 B.hs0 B.s1 B.hs1 B.acc B.hacc v26 v1790 v1817 v1840 v1853 v1866 v1879 v1892 v1905 v1918 c0_i32_1223 = (do
      let v1921 : Vec F S256x128 .bf16 ← Prog.lift (.load B.k (Rect.unit (s := S8192x128) ![0, 0] S256x128.size inb_S8192x128_S256x128_0_0).toLoadRect (View.loadsAt_vmem h_S256x128))
      have v1922 : FVec F S256x128 .bf16 := shapeCast S256x128 v1921 shapeCasts_S256x128_S256x128
      let v1923 : Vec F S128x256 .bf16 ← Prog.lift (.load B.aug (Rect.unit (s := S128x2048) ![0, 1792] S128x256.size inb_S128x2048_S128x256_0_1792).toLoadRect (View.loadsAt_vmem h_S128x256))
      have cst_1227 : FVec F S256x256 .f32 := constant S256x256 .f32 0x00000000#32
      have v1924 : FVec F S256x256 .f32 := matmul dot_S256x128_S128x256_S256x256_1_0_0_1_n_n none v1922 v1923 cst_1227
      have v1925 : FVec F S256x256 .bf16 := truncf .bf16 v1924 bitsLt_bf16_f32
      let v1926 : Vec F S256x256 .bf16 ← Prog.lift (.load B.s0 (Rect.unit (s := S256x2048) ![0, 1792] S256x256.size inb_S256x2048_S256x256_0_1792).toLoadRect (View.loadsAt_vmem h_S256x256))
      have v1928 : FVec F S256x256 .bf16 := shapeCast S256x256 v1925 shapeCasts_S256x256_S256x256
      Prog.lift (.store B.s0 (Rect.unit (s := S256x2048) ![0, 1792] S256x256.size inb_S256x2048_S256x256_0_1792) v1928 Finset.univ (View.stores_vmem h_S256x256 (B.hs0.storeExact_slice rfl _ packedbf16_S256x2048_S256x256_0_1792) (fun _ => rfl)) (.inl rfl))
      have v1929 : FVec F S256 .bf16 := multiReduction .maximumf [0] S256 v1925 0xFF80#16 reduces_S256x256_S256 (.inr rfl) rfl
      have v1930 : FVec F S1x256 .bf16 := shapeCast S1x256 v1929 shapeCasts_S256_S1x256
      have v1931 : FVec F S1x256 .f32 := extf .f32 v1930 bitsLt_bf16_f32
      have v1932 : FVec F S1x2048 .f32 := concatenate S1x2048 1 [⟨S1x256, v1840⟩, ⟨S1x256, v1853⟩, ⟨S1x256, v1866⟩, ⟨S1x256, v1879⟩, ⟨S1x256, v1892⟩, ⟨S1x256, v1905⟩, ⟨S1x256, v1918⟩, ⟨S1x256, v1931⟩] concatenates_S1x256_S1x256_S1x256_S1x256_S1x256_S1x256_S1x256_S1x256_S1x2048_d1
      let r ← loop2 B (v1817, v1932, v1790)
      have v1935 : FVec F S1x2048 .bf16 := truncf .bf16 r.2.2 bitsLt_bf16_f32
      have v1936 : FVec F S1x2048 .f32 := extf .f32 v1935 bitsLt_bf16_f32
      have cst_1235 : F .f32 := Scalar.ofBits .f32 0x00000000#32
      have v1937 : FVec F S1x2048 .f32 := broadcast S1x2048 cst_1235
      have v1938 : FVec F S1x2048 .f32 := subf v1937 v1936
      have cst_1236 : F .f32 := Scalar.ofBits .f32 0x00000000#32
      have v1939 : FVec F S1x2048 .f32 := shapeCast S1x2048 v1938 shapeCasts_S1x2048_S1x2048
      have v1940 : FVec F S16x2048 .f32 := broadcastTo S16x2048 v1939 broadcasts_S1x2048_S16x2048
      have v1941 : FVec F S16x2048 .f32 := broadcast S16x2048 cst_1236
      have v1942 : FVec F S16x2048 .f32 := select (cmpi .eq (iota .tc S16x2048 32 [0] iota_S16x2048_d0_w32) (broadcast S16x2048 0#32)) v1940 v1941
      have v1943 : FVec F S16x2048 .bf16 := truncf .bf16 v1942 bitsLt_bf16_f32
      let v1944 : Vec F S16x2048 .bf16 ← Prog.lift (.load B.aug (Rect.unit (s := S128x2048) ![64, 0] S16x2048.size inb_S128x2048_S16x2048_64_0).toLoadRect (View.loadsAt_vmem h_S16x2048))
      have v1946 : FVec F S16x2048 .bf16 := shapeCast S16x2048 v1943 shapeCasts_S16x2048_S16x2048
      Prog.lift (.store B.aug (Rect.unit (s := S128x2048) ![64, 0] S16x2048.size inb_S128x2048_S16x2048_64_0) v1946 Finset.univ (View.stores_vmem h_S16x2048 (B.haug.storeExact_slice rfl _ packedbf16_S128x2048_S16x2048_64_0) (fun _ => rfl)) (.inl rfl))
      let v1949 : Vec F S256x128 .bf16 ← Prog.lift (.load B.k (Rect.unit (s := S8192x128) ![6400, 0] S256x128.size inb_S8192x128_S256x128_6400_0).toLoadRect (View.loadsAt_vmem h_S256x128))
      have v1950 : FVec F S256x128 .bf16 := shapeCast S256x128 v1949 shapeCasts_S256x128_S256x128
      let v1951 : Vec F S128x256 .bf16 ← Prog.lift (.load B.aug (Rect.unit (s := S128x2048) ![0, 0] S128x256.size inb_S128x2048_S128x256_0_0).toLoadRect (View.loadsAt_vmem h_S128x256))
      have cst_1243 : FVec F S256x256 .f32 := constant S256x256 .f32 0x00000000#32
      have v1952 : FVec F S256x256 .f32 := matmul dot_S256x128_S128x256_S256x256_1_0_0_1_n_n none v1950 v1951 cst_1243
      have v1953 : FVec F S256x256 .bf16 := truncf .bf16 v1952 bitsLt_bf16_f32
      let v1954 : Vec F S256x256 .bf16 ← Prog.lift (.load B.s1 (Rect.unit (s := S256x2048) ![0, 0] S256x256.size inb_S256x2048_S256x256_0_0).toLoadRect (View.loadsAt_vmem h_S256x256))
      pure ⟨r.1, v1936, v1953, v1954⟩ : Prog (TpuEff nD τ sig (Elt F) Λ₀ .tc) (Σ' (v1934_0 : FVec F S1x2048 .f32) (v1936 : FVec F S1x2048 .f32) (v1953 : FVec F S256x256 .bf16), Vec F S256x256 .bf16)) := by
  subst hm; chain_rfl

/-- The second sweep, part by part. -/
theorem shape148 (i : grid0.Coords) (B : Bufs) (v26 : IVec S16x2048 1) (hm : v26 = (cmpi .eq (iota .tc S16x2048 32 [0] iota_S16x2048_d0_w32) (broadcast S16x2048 0#32))) (v1790 : FVec F S1x2048 .f32) :
    k0_part148 i B.q B.hq B.k B.hk B.v B.hv B.o B.ho B.aug B.haug B.s0 B.hs0 B.s1 B.hs1 B.acc B.hacc v26 v1790 = (do
      let x104 ← k0_part104 i B.q B.hq B.k B.hk B.v B.hv B.o B.ho B.aug B.haug B.s0 B.hs0 B.s1 B.hs1 B.acc B.hacc (cmpi .eq (iota .tc S16x2048 32 [0] iota_S16x2048_d0_w32) (broadcast S16x2048 0#32)) v1790
      let x105 ← k0_part105 i B.q B.hq B.k B.hk B.v B.hv B.o B.ho B.aug B.haug B.s0 B.hs0 B.s1 B.hs1 B.acc B.hacc x104.2.2
      let x106 ← k0_part106 i B.q B.hq B.k B.hk B.v B.hv B.o B.ho B.aug B.haug B.s0 B.hs0 B.s1 B.hs1 B.acc B.hacc x105.2.2.2
      let x107 ← k0_part107 i B.q B.hq B.k B.hk B.v B.hv B.o B.ho B.aug B.haug B.s0 B.hs0 B.s1 B.hs1 B.acc B.hacc (cmpi .eq (iota .tc S16x2048 32 [0] iota_S16x2048_d0_w32) (broadcast S16x2048 0#32)) v1790 x104.1 x104.2.1 x105.1 x105.2.1 x105.2.2.1 x106.1 x106.2.1 x106.2.2.1 x106.2.2.2
      let v1987 : FVec F S80x256 .f32 ← k0_part108 i B.q B.hq B.k B.hk B.v B.hv B.o B.ho B.aug B.haug B.s0 B.hs0 B.s1 B.hs1 B.acc B.hacc x107.2.2.1 x107.2.2.2
      let x109 ← k0_part109 i B.q B.hq B.k B.hk B.v B.hv B.o B.ho B.aug B.haug B.s0 B.hs0 B.s1 B.hs1 B.acc B.hacc v1987
      let v2053 : FVec F S80x256 .f32 ← k0_part110 i B.q B.hq B.k B.hk B.v B.hv B.o B.ho B.aug B.haug B.s0 B.hs0 B.s1 B.hs1 B.acc B.hacc x109.1 x109.2
      let x111 ← k0_part111 i B.q B.hq B.k B.hk B.v B.hv B.o B.ho B.aug B.haug B.s0 B.hs0 B.s1 B.hs1 B.acc B.hacc v2053
      let v2119 : FVec F S80x256 .f32 ← k0_part112 i B.q B.hq B.k B.hk B.v B.hv B.o B.ho B.aug B.haug B.s0 B.hs0 B.s1 B.hs1 B.acc B.hacc x111.1 x111.2
      let x113 ← k0_part113 i B.q B.hq B.k B.hk B.v B.hv B.o B.ho B.aug B.haug B.s0 B.hs0 B.s1 B.hs1 B.acc B.hacc x107.1 x107.2.1 v2119
      let x114 ← k0_part114 i B.q B.hq B.k B.hk B.v B.hv B.o B.ho B.aug B.haug B.s0 B.hs0 B.s1 B.hs1 B.acc B.hacc x113.1 x113.2.1 x113.2.2.1 x113.2.2.2
      let c6656_i32_1431 : BitVec 32 ← k0_part115 i B.q B.hq B.k B.hk B.v B.hv B.o B.ho B.aug B.haug B.s0 B.hs0 B.s1 B.hs1 B.acc B.hacc x113.1 x114.1 x114.2
      k0_part116 i B.q B.hq B.k B.hk B.v B.hv B.o B.ho B.aug B.haug B.s0 B.hs0 B.s1 B.hs1 B.acc B.hacc x113.1 c6656_i32_1431
      let x117 ← k0_part117 i B.q B.hq B.k B.hk B.v B.hv B.o B.ho B.aug B.haug B.s0 B.hs0 B.s1 B.hs1 B.acc B.hacc x113.1
      let x118 ← k0_part118 i B.q B.hq B.k B.hk B.v B.hv B.o B.ho B.aug B.haug B.s0 B.hs0 B.s1 B.hs1 B.acc B.hacc x113.1 x117.1 x117.2.1 x117.2.2
      let x119 ← k0_part119 i B.q B.hq B.k B.hk B.v B.hv B.o B.ho B.aug B.haug B.s0 B.hs0 B.s1 B.hs1 B.acc B.hacc x118.1 x118.2
      let x120 ← k0_part120 i B.q B.hq B.k B.hk B.v B.hv B.o B.ho B.aug B.haug B.s0 B.hs0 B.s1 B.hs1 B.acc B.hacc x119.1 x119.2.1 x119.2.2
      let x121 ← k0_part121 i B.q B.hq B.k B.hk B.v B.hv B.o B.ho B.aug B.haug B.s0 B.hs0 B.s1 B.hs1 B.acc B.hacc x120.1 x120.2
      let x122 ← k0_part122 i B.q B.hq B.k B.hk B.v B.hv B.o B.ho B.aug B.haug B.s0 B.hs0 B.s1 B.hs1 B.acc B.hacc x121.1 x121.2.1 x121.2.2
      let x123 ← k0_part123 i B.q B.hq B.k B.hk B.v B.hv B.o B.ho B.aug B.haug B.s0 B.hs0 B.s1 B.hs1 B.acc B.hacc x122.1 x122.2
      let x124 ← k0_part124 i B.q B.hq B.k B.hk B.v B.hv B.o B.ho B.aug B.haug B.s0 B.hs0 B.s1 B.hs1 B.acc B.hacc x123.1 x123.2.1 x123.2.2
      let x125 ← k0_part125 i B.q B.hq B.k B.hk B.v B.hv B.o B.ho B.aug B.haug B.s0 B.hs0 B.s1 B.hs1 B.acc B.hacc x124.1 x124.2
      let x126 ← k0_part126 i B.q B.hq B.k B.hk B.v B.hv B.o B.ho B.aug B.haug B.s0 B.hs0 B.s1 B.hs1 B.acc B.hacc x125.1 x125.2.1 x125.2.2
      let x127 ← k0_part127 i B.q B.hq B.k B.hk B.v B.hv B.o B.ho B.aug B.haug B.s0 B.hs0 B.s1 B.hs1 B.acc B.hacc x126.1 x126.2
      let x128 ← k0_part128 i B.q B.hq B.k B.hk B.v B.hv B.o B.ho B.aug B.haug B.s0 B.hs0 B.s1 B.hs1 B.acc B.hacc x127.1 x127.2.1 x127.2.2
      let x129 ← k0_part129 i B.q B.hq B.k B.hk B.v B.hv B.o B.ho B.aug B.haug B.s0 B.hs0 B.s1 B.hs1 B.acc B.hacc x128.1 x128.2
      let x130 ← k0_part130 i B.q B.hq B.k B.hk B.v B.hv B.o B.ho B.aug B.haug B.s0 B.hs0 B.s1 B.hs1 B.acc B.hacc x129.1 x129.2.1 x129.2.2
      let x131 ← k0_part131 i B.q B.hq B.k B.hk B.v B.hv B.o B.ho B.aug B.haug B.s0 B.hs0 B.s1 B.hs1 B.acc B.hacc x130.1 x130.2
      let x132 ← k0_part132 i B.q B.hq B.k B.hk B.v B.hv B.o B.ho B.aug B.haug B.s0 B.hs0 B.s1 B.hs1 B.acc B.hacc x131.1 x131.2.1 x131.2.2
      let x133 ← k0_part133 i B.q B.hq B.k B.hk B.v B.hv B.o B.ho B.aug B.haug B.s0 B.hs0 B.s1 B.hs1 B.acc B.hacc x132.1 x132.2
      let x134 ← k0_part134 i B.q B.hq B.k B.hk B.v B.hv B.o B.ho B.aug B.haug B.s0 B.hs0 B.s1 B.hs1 B.acc B.hacc x133.1 x133.2.1 x133.2.2
      let x135 ← k0_part135 i B.q B.hq B.k B.hk B.v B.hv B.o B.ho B.aug B.haug B.s0 B.hs0 B.s1 B.hs1 B.acc B.hacc x134.1 x134.2
      let x136 ← k0_part136 i B.q B.hq B.k B.hk B.v B.hv B.o B.ho B.aug B.haug B.s0 B.hs0 B.s1 B.hs1 B.acc B.hacc x135.1 x135.2.1 x135.2.2
      let x137 ← k0_part137 i B.q B.hq B.k B.hk B.v B.hv B.o B.ho B.aug B.haug B.s0 B.hs0 B.s1 B.hs1 B.acc B.hacc x136.1 x136.2
      let x138 ← k0_part138 i B.q B.hq B.k B.hk B.v B.hv B.o B.ho B.aug B.haug B.s0 B.hs0 B.s1 B.hs1 B.acc B.hacc x137.1 x137.2.1 x137.2.2
      let x139 ← k0_part139 i B.q B.hq B.k B.hk B.v B.hv B.o B.ho B.aug B.haug B.s0 B.hs0 B.s1 B.hs1 B.acc B.hacc x138.1 x138.2
      let x140 ← k0_part140 i B.q B.hq B.k B.hk B.v B.hv B.o B.ho B.aug B.haug B.s0 B.hs0 B.s1 B.hs1 B.acc B.hacc x139.1 x139.2.1 x139.2.2
      let x141 ← k0_part141 i B.q B.hq B.k B.hk B.v B.hv B.o B.ho B.aug B.haug B.s0 B.hs0 B.s1 B.hs1 B.acc B.hacc x140.1 x140.2
      let x142 ← k0_part142 i B.q B.hq B.k B.hk B.v B.hv B.o B.ho B.aug B.haug B.s0 B.hs0 B.s1 B.hs1 B.acc B.hacc x141.1 x141.2.1 x141.2.2
      let x143 ← k0_part143 i B.q B.hq B.k B.hk B.v B.hv B.o B.ho B.aug B.haug B.s0 B.hs0 B.s1 B.hs1 B.acc B.hacc x142.1 x142.2
      let x144 ← k0_part144 i B.q B.hq B.k B.hk B.v B.hv B.o B.ho B.aug B.haug B.s0 B.hs0 B.s1 B.hs1 B.acc B.hacc x143.1 x143.2.1 x143.2.2
      let x145 ← k0_part145 i B.q B.hq B.k B.hk B.v B.hv B.o B.ho B.aug B.haug B.s0 B.hs0 B.s1 B.hs1 B.acc B.hacc x144.1 x144.2
      let c7936_i32_2171 : BitVec 32 ← k0_part146 i B.q B.hq B.k B.hk B.v B.hv B.o B.ho B.aug B.haug B.s0 B.hs0 B.s1 B.hs1 B.acc B.hacc x145.1 x145.2
      let v3285 : FVec F S80x256 .f32 ← k0_part147 i B.q B.hq B.k B.hk B.v B.hv B.o B.ho B.aug B.haug B.s0 B.hs0 B.s1 B.hs1 B.acc B.hacc c7936_i32_2171
      let v3286 : Vec F S80x256 .f32 ← Prog.lift (.load B.acc (Rect.unit (s := S80x2048) ![0, 1536] S80x256.size inb_S80x2048_S80x256_0_1536).toLoadRect (View.loadsAt_vmem h_S80x256))
      have v3288 : FVec F S80x256 .f32 := shapeCast S80x256 v3285 shapeCasts_S80x256_S80x256
      Prog.lift (.store B.acc (Rect.unit (s := S80x2048) ![0, 1536] S80x256.size inb_S80x2048_S80x256_0_1536) v3288 Finset.univ (View.stores_vmem_bits_univ h_S80x256 rfl) (.inl rfl))
      let v3290 : Vec F S256x256 .bf16 ← Prog.lift (.load B.s1 (Rect.unit (s := S256x2048) ![0, 1792] S256x256.size inb_S256x2048_S256x256_0_1792).toLoadRect (View.loadsAt_vmem h_S256x256))
      have v3291 : FVec F S256x256 .bf16 := exp2 v3290
      let v3293 : Vec F S80x256 .bf16 ← Prog.lift (.load B.v (Rect.unit (s := S80x8192) ![0, 7936] S80x256.size inb_S80x8192_S80x256_0_7936).toLoadRect (View.loadsAt_vmem h_S80x256))
      have v3294 : FVec F S80x256 .bf16 := shapeCast S80x256 v3293 shapeCasts_S80x256_S80x256
      have cst_2202 : FVec F S80x256 .f32 := constant S80x256 .f32 0x00000000#32
      pure ⟨v3291, v3294, cst_2202⟩ : Prog (TpuEff nD τ sig (Elt F) Λ₀ .tc) (Σ' (v3291 : FVec F S256x256 .bf16) (v3294 : FVec F S80x256 .bf16), FVec F S80x256 .f32)) := by
  subst hm; chain_rfl

/-- The part of the body with the condition. -/
theorem shape200 (i : grid0.Coords) (B : Bufs) (v26 : IVec S16x2048 1) (hm : v26 = (cmpi .eq (iota .tc S16x2048 32 [0] iota_S16x2048_d0_w32) (broadcast S16x2048 0#32))) (v228 : FVec F S1x2048 .f32) (v1689 : FVec F S1x2048 .f32) (v1691 : FVec F S1x2048 .f32) (v1692 : FVec F S1x2048 .f32) (v1761 : FVec F S80x256 .f32) :
    k0_part200 i B.q B.hq B.k B.hk B.v B.hv B.o B.ho B.aug B.haug B.s0 B.hs0 B.s1 B.hs1 B.acc B.hacc v26 v228 v1689 v1691 v1692 v1761 = (do
      have v1764 : FVec F S80x256 .f32 := shapeCast S80x256 v1761 shapeCasts_S80x256_S80x256
      Prog.lift (.store B.acc (Rect.unit (s := S80x2048) ![0, 1280] S80x256.size inb_S80x2048_S80x256_0_1280) v1764 Finset.univ (View.stores_vmem_bits_univ h_S80x256 rfl) (.inl rfl))
      let v1766 : Vec F S256x256 .bf16 ← Prog.lift (.load B.s1 (Rect.unit (s := S256x2048) ![0, 1536] S256x256.size inb_S256x2048_S256x256_0_1536).toLoadRect (View.loadsAt_vmem h_S256x256))
      have v1767 : FVec F S256x256 .bf16 := exp2 v1766
      let v1769 : Vec F S80x256 .bf16 ← Prog.lift (.load B.v (Rect.unit (s := S80x8192) ![0, 7936] S80x256.size inb_S80x8192_S80x256_0_7936).toLoadRect (View.loadsAt_vmem h_S80x256))
      have v1770 : FVec F S80x256 .bf16 := shapeCast S80x256 v1769 shapeCasts_S80x256_S80x256
      have cst_1139 : FVec F S80x256 .f32 := constant S80x256 .f32 0x00000000#32
      have v1771 : FVec F S80x256 .f32 := matmul dot_S80x256_S256x256_S80x256_1_0_0_1_n_n none v1770 v1767 cst_1139
      let v1772 : Vec F S80x256 .f32 ← Prog.lift (.load B.acc (Rect.unit (s := S80x2048) ![0, 1536] S80x256.size inb_S80x2048_S80x256_0_1536).toLoadRect (View.loadsAt_vmem h_S80x256))
      have v1773 : FVec F S80x256 .f32 := addf v1772 v1771
      let v1774 : Vec F S80x256 .f32 ← Prog.lift (.load B.acc (Rect.unit (s := S80x2048) ![0, 1536] S80x256.size inb_S80x2048_S80x256_0_1536).toLoadRect (View.loadsAt_vmem h_S80x256))
      have v1776 : FVec F S80x256 .f32 := shapeCast S80x256 v1773 shapeCasts_S80x256_S80x256
      Prog.lift (.store B.acc (Rect.unit (s := S80x2048) ![0, 1536] S80x256.size inb_S80x2048_S80x256_0_1536) v1776 Finset.univ (View.stores_vmem_bits_univ h_S80x256 rfl) (.inl rfl))
      let v1778 : Vec F S256x256 .bf16 ← Prog.lift (.load B.s1 (Rect.unit (s := S256x2048) ![0, 1792] S256x256.size inb_S256x2048_S256x256_0_1792).toLoadRect (View.loadsAt_vmem h_S256x256))
      have v1779 : FVec F S256x256 .bf16 := exp2 v1778
      let v1781 : Vec F S80x256 .bf16 ← Prog.lift (.load B.v (Rect.unit (s := S80x8192) ![0, 7936] S80x256.size inb_S80x8192_S80x256_0_7936).toLoadRect (View.loadsAt_vmem h_S80x256))
      have v1782 : FVec F S80x256 .bf16 := shapeCast S80x256 v1781 shapeCasts_S80x256_S80x256
      have cst_1148 : FVec F S80x256 .f32 := constant S80x256 .f32 0x00000000#32
      have v1783 : FVec F S80x256 .f32 := matmul dot_S80x256_S256x256_S80x256_1_0_0_1_n_n none v1782 v1779 cst_1148
      let v1784 : Vec F S80x256 .f32 ← Prog.lift (.load B.acc (Rect.unit (s := S80x2048) ![0, 1792] S80x256.size inb_S80x2048_S80x256_0_1792).toLoadRect (View.loadsAt_vmem h_S80x256))
      have v1785 : FVec F S80x256 .f32 := addf v1784 v1783
      let v1786 : Vec F S80x256 .f32 ← Prog.lift (.load B.acc (Rect.unit (s := S80x2048) ![0, 1792] S80x256.size inb_S80x2048_S80x256_0_1792).toLoadRect (View.loadsAt_vmem h_S80x256))
      have v1788 : FVec F S80x256 .f32 := shapeCast S80x256 v1785 shapeCasts_S80x256_S80x256
      Prog.lift (.store B.acc (Rect.unit (s := S80x2048) ![0, 1792] S80x256.size inb_S80x2048_S80x256_0_1792) v1788 Finset.univ (View.stores_vmem_bits_univ h_S80x256 rfl) (.inl rfl))
      have v1789 : FVec F S1x2048 .f32 := addf v228 v1689
      have v1790 : FVec F S1x2048 .f32 := maximumf v1691 v1789
      have v1791 : FVec F S1x2048 .f32 := maximumf v1692 v1689
      have v1792 : FVec F S1x1x2048 .f32 := shapeCast S1x1x2048 v1791 shapeCasts_S1x2048_S1x1x2048
      have v1793 : FVec F S1 .f32 := multiReduction .maximumf [1, 2] S1 v1792 0xFF800000#32 reduces_S1x1x2048_S1 (.inl rfl) rfl
      have v1794 : FVec F S1x1x1 .f32 := shapeCast S1x1x1 v1793 shapeCasts_S1_S1x1x1
      have v1795 : F .f32 := extractAt ![0, 0, 0] v1794 inpos_S1x1x1_p0_0_0
      have cst_1154 : F .f32 := Scalar.ofBits .f32 0x42C80000#32
      let v1796 : BitVec 1 := Scalar.cmpf .ogt v1795 cst_1154
      let v1797 : BitVec 32 := Scalar.extui v1796
      let c0_i32_1155 : BitVec 32 := 0#32
      let v1798 : BitVec 1 := Scalar.cmpi .ne v1797 c0_i32_1155
      if v1798 = 1#1 then do
        let x148 ← k0_part148 i B.q B.hq B.k B.hk B.v B.hv B.o B.ho B.aug B.haug B.s0 B.hs0 B.s1 B.hs1 B.acc B.hacc (cmpi .eq (iota .tc S16x2048 32 [0] iota_S16x2048_d0_w32) (broadcast S16x2048 0#32)) v1790
        have v3295 : FVec F S80x256 .f32 := matmul dot_S80x256_S256x256_S80x256_1_0_0_1_n_n none x148.2.1 x148.1 x148.2.2
        let v3296 : Vec F S80x256 .f32 ← Prog.lift (.load B.acc (Rect.unit (s := S80x2048) ![0, 1792] S80x256.size inb_S80x2048_S80x256_0_1792).toLoadRect (View.loadsAt_vmem h_S80x256))
        have v3297 : FVec F S80x256 .f32 := addf v3296 v3295
        let v3298 : Vec F S80x256 .f32 ← Prog.lift (.load B.acc (Rect.unit (s := S80x2048) ![0, 1792] S80x256.size inb_S80x2048_S80x256_0_1792).toLoadRect (View.loadsAt_vmem h_S80x256))
        have v3300 : FVec F S80x256 .f32 := shapeCast S80x256 v3297 shapeCasts_S80x256_S80x256
        Prog.lift (.store B.acc (Rect.unit (s := S80x2048) ![0, 1792] S80x256.size inb_S80x2048_S80x256_0_1792) v3300 Finset.univ (View.stores_vmem_bits_univ h_S80x256 rfl) (.inl rfl))
        pure ⟨⟩
      else do
        pure ⟨⟩
      pure ⟨⟩ : Prog (TpuEff nD τ sig (Elt F) Λ₀ .tc) (PUnit)) := by
  subst hm; chain_rfl

/-- The body, part by part. -/
theorem shape201 (i : grid0.Coords) (B : Bufs)  :
    k0_part201 i B.q B.hq B.k B.hk B.v B.hv B.o B.ho B.aug B.haug B.s0 B.hs0 B.s1 B.hs1 B.acc B.hacc  = (do
      let x149 ← k0_part149 i B.q B.hq B.k B.hk B.v B.hv B.o B.ho B.aug B.haug B.s0 B.hs0 B.s1 B.hs1 B.acc B.hacc
      let x150 ← k0_part150 i B.q B.hq B.k B.hk B.v B.hv B.o B.ho B.aug B.haug B.s0 B.hs0 B.s1 B.hs1 B.acc B.hacc x149.1 x149.2
      let x151 ← k0_part151 i B.q B.hq B.k B.hk B.v B.hv B.o B.ho B.aug B.haug B.s0 B.hs0 B.s1 B.hs1 B.acc B.hacc x150.2.2.2
      let x152 ← k0_part152 i B.q B.hq B.k B.hk B.v B.hv B.o B.ho B.aug B.haug B.s0 B.hs0 B.s1 B.hs1 B.acc B.hacc x149.1 x150.1 x150.2.1 x150.2.2.1 x151.1 x151.2.1 x151.2.2.1 x151.2.2.2.1 x151.2.2.2.2
      let x153 ← k0_part153 i B.q B.hq B.k B.hk B.v B.hv B.o B.ho B.aug B.haug B.s0 B.hs0 B.s1 B.hs1 B.acc B.hacc x152.2.2.2
      let x154 ← k0_part154 i B.q B.hq B.k B.hk B.v B.hv B.o B.ho B.aug B.haug B.s0 B.hs0 B.s1 B.hs1 B.acc B.hacc x153.2.2.2
      let x155 ← k0_part155 i B.q B.hq B.k B.hk B.v B.hv B.o B.ho B.aug B.haug B.s0 B.hs0 B.s1 B.hs1 B.acc B.hacc x149.1 x152.1 x152.2.1 x152.2.2.1 x153.1 x153.2.1 x153.2.2.1 x154.1 x154.2.1 x154.2.2
      let x156 ← k0_part156 i B.q B.hq B.k B.hk B.v B.hv B.o B.ho B.aug B.haug B.s0 B.hs0 B.s1 B.hs1 B.acc B.hacc x155.2.2.2.2.2
      let x157 ← k0_part157 i B.q B.hq B.k B.hk B.v B.hv B.o B.ho B.aug B.haug B.s0 B.hs0 B.s1 B.hs1 B.acc B.hacc x156.2.2
      let x158 ← k0_part158 i B.q B.hq B.k B.hk B.v B.hv B.o B.ho B.aug B.haug B.s0 B.hs0 B.s1 B.hs1 B.acc B.hacc x157.2
      let x159 ← k0_part159 i B.q B.hq B.k B.hk B.v B.hv B.o B.ho B.aug B.haug B.s0 B.hs0 B.s1 B.hs1 B.acc B.hacc x158.2
      let v401 : FVec F S1x256 .f32 ← k0_part160 i B.q B.hq B.k B.hk B.v B.hv B.o B.ho B.aug B.haug B.s0 B.hs0 B.s1 B.hs1 B.acc B.hacc x159.2.2.1 x159.2.2.2
      let x161 ← k0_part161 i B.q B.hq B.k B.hk B.v B.hv B.o B.ho B.aug B.haug B.s0 B.hs0 B.s1 B.hs1 B.acc B.hacc x155.1 x155.2.1 x155.2.2.1 x155.2.2.2.1 x155.2.2.2.2.1 x156.1 x156.2.1 x157.1 x158.1 x159.1 x159.2.1 v401
      let x162 ← k0_part162 i B.q B.hq B.k B.hk B.v B.hv B.o B.ho B.aug B.haug B.s0 B.hs0 B.s1 B.hs1 B.acc B.hacc x161.2.2.2.1 x161.2.2.2.2.1 x161.2.2.2.2.2.1 x161.2.2.2.2.2.2
      let x163 ← k0_part163 i B.q B.hq B.k B.hk B.v B.hv B.o B.ho B.aug B.haug B.s0 B.hs0 B.s1 B.hs1 B.acc B.hacc x161.2.2.2.1 x162.2.2
      let x164 ← k0_part164 i B.q B.hq B.k B.hk B.v B.hv B.o B.ho B.aug B.haug B.s0 B.hs0 B.s1 B.hs1 B.acc B.hacc x161.2.2.2.1 x163.2
      let x165 ← k0_part165 i B.q B.hq B.k B.hk B.v B.hv B.o B.ho B.aug B.haug B.s0 B.hs0 B.s1 B.hs1 B.acc B.hacc x161.2.2.2.1 x164.2
      let x166 ← k0_part166 i B.q B.hq B.k B.hk B.v B.hv B.o B.ho B.aug B.haug B.s0 B.hs0 B.s1 B.hs1 B.acc B.hacc x161.2.2.2.1 x165.2.1 x165.2.2
      let x167 ← k0_part167 i B.q B.hq B.k B.hk B.v B.hv B.o B.ho B.aug B.haug B.s0 B.hs0 B.s1 B.hs1 B.acc B.hacc x161.2.2.2.1 x166.2.2.1 x166.2.2.2
      let x168 ← k0_part168 i B.q B.hq B.k B.hk B.v B.hv B.o B.ho B.aug B.haug B.s0 B.hs0 B.s1 B.hs1 B.acc B.hacc x155.2.2.2.2.1 x161.1 x161.2.1 x161.2.2.1 x162.1 x162.2.1 x163.1 x164.1 x165.1 x166.1 x166.2.1 x167.1 x167.2
      let x169 ← k0_part169 i B.q B.hq B.k B.hk B.v B.hv B.o B.ho B.aug B.haug B.s0 B.hs0 B.s1 B.hs1 B.acc B.hacc x168.2.2.2.2
      let x170 ← k0_part170 i B.q B.hq B.k B.hk B.v B.hv B.o B.ho B.aug B.haug B.s0 B.hs0 B.s1 B.hs1 B.acc B.hacc
      let x171 ← k0_part171 i B.q B.hq B.k B.hk B.v B.hv B.o B.ho B.aug B.haug B.s0 B.hs0 B.s1 B.hs1 B.acc B.hacc x170.2
      let x172 ← k0_part172 i B.q B.hq B.k B.hk B.v B.hv B.o B.ho B.aug B.haug B.s0 B.hs0 B.s1 B.hs1 B.acc B.hacc x171.2.1 x171.2.2.1 x171.2.2.2
      let x173 ← k0_part173 i B.q B.hq B.k B.hk B.v B.hv B.o B.ho B.aug B.haug B.s0 B.hs0 B.s1 B.hs1 B.acc B.hacc x172.2.2
      let x174 ← k0_part174 i B.q B.hq B.k B.hk B.v B.hv B.o B.ho B.aug B.haug B.s0 B.hs0 B.s1 B.hs1 B.acc B.hacc x155.2.2.2.2.1 x168.1 x168.2.1 x168.2.2.1 x168.2.2.2.1 x169.1 x169.2 x170.1 x171.1 x172.1 x172.2.1 x173.1 x173.2
      let x175 ← k0_part175 i B.q B.hq B.k B.hk B.v B.hv B.o B.ho B.aug B.haug B.s0 B.hs0 B.s1 B.hs1 B.acc B.hacc x174.2.2.2.2.1 x174.2.2.2.2.2.1 x174.2.2.2.2.2.2
      let x176 ← k0_part176 i B.q B.hq B.k B.hk B.v B.hv B.o B.ho B.aug B.haug B.s0 B.hs0 B.s1 B.hs1 B.acc B.hacc x175.2.2
      let x177 ← k0_part177 i B.q B.hq B.k B.hk B.v B.hv B.o B.ho B.aug B.haug B.s0 B.hs0 B.s1 B.hs1 B.acc B.hacc x176.2
      let x178 ← k0_part178 i B.q B.hq B.k B.hk B.v B.hv B.o B.ho B.aug B.haug B.s0 B.hs0 B.s1 B.hs1 B.acc B.hacc x177.2
      let x179 ← k0_part179 i B.q B.hq B.k B.hk B.v B.hv B.o B.ho B.aug B.haug B.s0 B.hs0 B.s1 B.hs1 B.acc B.hacc x155.2.2.2.2.1 x174.1 x174.2.2.2.1 x175.1 x175.2.1 x176.1 x177.1 x178.1 x178.2.1 x178.2.2
      let x180 ← k0_part180 i B.q B.hq B.k B.hk B.v B.hv B.o B.ho B.aug B.haug B.s0 B.hs0 B.s1 B.hs1 B.acc B.hacc x174.1 x174.2.1 x174.2.2.1 x179.2
      let x181 ← k0_part181 i B.q B.hq B.k B.hk B.v B.hv B.o B.ho B.aug B.haug B.s0 B.hs0 B.s1 B.hs1 B.acc B.hacc x180.2.2.2
      let x182 ← k0_part182 i B.q B.hq B.k B.hk B.v B.hv B.o B.ho B.aug B.haug B.s0 B.hs0 B.s1 B.hs1 B.acc B.hacc x181.2.2
      let x183 ← k0_part183 i B.q B.hq B.k B.hk B.v B.hv B.o B.ho B.aug B.haug B.s0 B.hs0 B.s1 B.hs1 B.acc B.hacc x182.2
      let x184 ← k0_part184 i B.q B.hq B.k B.hk B.v B.hv B.o B.ho B.aug B.haug B.s0 B.hs0 B.s1 B.hs1 B.acc B.hacc x183.2
      let x185 ← k0_part185 i B.q B.hq B.k B.hk B.v B.hv B.o B.ho B.aug B.haug B.s0 B.hs0 B.s1 B.hs1 B.acc B.hacc x155.2.2.2.2.1 x179.1 x180.1 x180.2.1 x180.2.2.1 x181.1 x181.2.1 x182.1 x183.1 x184.1 x184.2.1 x184.2.2
      let x186 ← k0_part186 i B.q B.hq B.k B.hk B.v B.hv B.o B.ho B.aug B.haug B.s0 B.hs0 B.s1 B.hs1 B.acc B.hacc x185.2.2.2
      let x187 ← k0_part187 i B.q B.hq B.k B.hk B.v B.hv B.o B.ho B.aug B.haug B.s0 B.hs0 B.s1 B.hs1 B.acc B.hacc x186.2
      let x188 ← k0_part188 i B.q B.hq B.k B.hk B.v B.hv B.o B.ho B.aug B.haug B.s0 B.hs0 B.s1 B.hs1 B.acc B.hacc x187.2.2
      let x189 ← k0_part189 i B.q B.hq B.k B.hk B.v B.hv B.o B.ho B.aug B.haug B.s0 B.hs0 B.s1 B.hs1 B.acc B.hacc x188.2
      let x190 ← k0_part190 i B.q B.hq B.k B.hk B.v B.hv B.o B.ho B.aug B.haug B.s0 B.hs0 B.s1 B.hs1 B.acc B.hacc
      let x191 ← k0_part191 i B.q B.hq B.k B.hk B.v B.hv B.o B.ho B.aug B.haug B.s0 B.hs0 B.s1 B.hs1 B.acc B.hacc x155.2.2.2.2.1 x185.1 x185.2.1 x185.2.2.1 x186.1 x187.1 x187.2.1 x188.1 x189.1 x189.2 x190.1 x190.2
      let x192 ← k0_part192 i B.q B.hq B.k B.hk B.v B.hv B.o B.ho B.aug B.haug B.s0 B.hs0 B.s1 B.hs1 B.acc B.hacc x191.2.2.2
      let x193 ← k0_part193 i B.q B.hq B.k B.hk B.v B.hv B.o B.ho B.aug B.haug B.s0 B.hs0 B.s1 B.hs1 B.acc B.hacc
      let x194 ← k0_part194 i B.q B.hq B.k B.hk B.v B.hv B.o B.ho B.aug B.haug B.s0 B.hs0 B.s1 B.hs1 B.acc B.hacc x193.2
      let x195 ← k0_part195 i B.q B.hq B.k B.hk B.v B.hv B.o B.ho B.aug B.haug B.s0 B.hs0 B.s1 B.hs1 B.acc B.hacc x194.2.1 x194.2.2.1 x194.2.2.2
      let x196 ← k0_part196 i B.q B.hq B.k B.hk B.v B.hv B.o B.ho B.aug B.haug B.s0 B.hs0 B.s1 B.hs1 B.acc B.hacc x195.2.2
      let x197 ← k0_part197 i B.q B.hq B.k B.hk B.v B.hv B.o B.ho B.aug B.haug B.s0 B.hs0 B.s1 B.hs1 B.acc B.hacc x155.2.2.2.2.1 x191.1 x191.2.1 x191.2.2.1 x192.1 x192.2 x193.1 x194.1 x195.1 x195.2.1 x196.1 x196.2
      let v1729 : BitVec 32 ← k0_part198 i B.q B.hq B.k B.hk B.v B.hv B.o B.ho B.aug B.haug B.s0 B.hs0 B.s1 B.hs1 B.acc B.hacc x197.2.2.2.1 x197.2.2.2.2
      let v1761 : FVec F S80x256 .f32 ← k0_part199 i B.q B.hq B.k B.hk B.v B.hv B.o B.ho B.aug B.haug B.s0 B.hs0 B.s1 B.hs1 B.acc B.hacc v1729
      k0_part200 i B.q B.hq B.k B.hk B.v B.hv B.o B.ho B.aug B.haug B.s0 B.hs0 B.s1 B.hs1 B.acc B.hacc x149.1 x155.2.2.2.2.1 x197.1 x197.2.1 x197.2.2.1 v1761
      let v1799 : Vec F S80x2048 .f32 ← Prog.lift (.load B.acc (Rect.unit (s := S80x2048) ![0, 0] S80x2048.size inb_S80x2048_S80x2048_0_0).toLoadRect (View.loadsAt_vmem h_S80x2048))
      have v1800 : FVec F S64x2048 .f32 := extractStridedSlice S64x2048 ![0, 0] v1799 slices_S80x2048_o0_0_S64x2048
      have v1801 : FVec F S1x2048 .f32 := extractStridedSlice S1x2048 ![64, 0] v1799 slices_S80x2048_o64_0_S1x2048
      have v1802 : FVec F S64x2048 .f32 := broadcastTo S64x2048 v1801 broadcasts_S1x2048_S64x2048
      have v1803 : FVec F S64x2048 .f32 := divf v1800 v1802
      have v1804 : FVec F S64x512 .f32 := extractStridedSlice S64x512 ![0, 0] v1803 slices_S64x2048_o0_0_S64x512
      pure ⟨v1803, v1804⟩ : Prog (TpuEff nD τ sig (Elt F) Λ₀ .tc) (Σ' (v1803 : FVec F S64x2048 .f32), FVec F S64x512 .f32)) := by
  chain_rfl

/-- The body. -/
theorem shape (i : grid0.Coords) (B : Bufs)  :
    cc0_attn_axial i B.q B.hq B.k B.hk B.v B.hv B.o B.ho B.aug B.haug B.s0 B.hs0 B.s1 B.hs1 B.acc B.hacc  = (do
      let x201 ← k0_part201 i B.q B.hq B.k B.hk B.v B.hv B.o B.ho B.aug B.haug B.s0 B.hs0 B.s1 B.hs1 B.acc B.hacc
      have v1805 : FVec F S64x512 .f32 := extractStridedSlice S64x512 ![0, 512] x201.1 slices_S64x2048_o0_512_S64x512
      have v1806 : FVec F S64x512 .f32 := extractStridedSlice S64x512 ![0, 1024] x201.1 slices_S64x2048_o0_1024_S64x512
      have v1807 : FVec F S64x512 .f32 := extractStridedSlice S64x512 ![0, 1536] x201.1 slices_S64x2048_o0_1536_S64x512
      have v1808 : FVec F S256x512 .f32 := concatenate S256x512 0 [⟨S64x512, x201.2⟩, ⟨S64x512, v1805⟩, ⟨S64x512, v1806⟩, ⟨S64x512, v1807⟩] concatenates_S64x512_S64x512_S64x512_S64x512_S256x512_d0
      have v1809 : FVec F S512x256 .f32 := transpose S512x256 [1, 0] v1808 transposes_S256x512_p1_0_S512x256
      have v1810 : FVec F S512x256 .bf16 := truncf .bf16 v1809 bitsLt_bf16_f32
      let v1811 : Vec F S512x256 .bf16 ← Prog.lift (.load B.o (Rect.unit (s := S512x256) ![0, 0] S512x256.size inb_S512x256_S512x256_0_0).toLoadRect (View.loadsAt_vmem h_S512x256))
      Prog.lift (.store B.o (Rect.unit (s := S512x256) ![0, 0] S512x256.size inb_S512x256_S512x256_0_0) v1810 Finset.univ (View.stores_vmem h_S512x256 (B.ho.storeExact_slice rfl _ packedbf16_S512x256_S512x256_0_0) (fun _ => rfl)) (.inl rfl))
      pure ⟨⟩ : Prog (TpuEff nD τ sig (Elt F) Λ₀ .tc) PUnit) := by
  chain_rfl

/-- The body as far as its first loop. -/
theorem piece_head (B : Bufs) (i : grid0.Coords)  : (do
      let x149 ← k0_part149 i B.q B.hq B.k B.hk B.v B.hv B.o B.ho B.aug B.haug B.s0 B.hs0 B.s1 B.hs1 B.acc B.hacc
      let x150 ← k0_part150 i B.q B.hq B.k B.hk B.v B.hv B.o B.ho B.aug B.haug B.s0 B.hs0 B.s1 B.hs1 B.acc B.hacc x149.1 x149.2
      let x151 ← k0_part151 i B.q B.hq B.k B.hk B.v B.hv B.o B.ho B.aug B.haug B.s0 B.hs0 B.s1 B.hs1 B.acc B.hacc x150.2.2.2
      let x152 ← k0_part152 i B.q B.hq B.k B.hk B.v B.hv B.o B.ho B.aug B.haug B.s0 B.hs0 B.s1 B.hs1 B.acc B.hacc x149.1 x150.1 x150.2.1 x150.2.2.1 x151.1 x151.2.1 x151.2.2.1 x151.2.2.2.1 x151.2.2.2.2
      let x153 ← k0_part153 i B.q B.hq B.k B.hk B.v B.hv B.o B.ho B.aug B.haug B.s0 B.hs0 B.s1 B.hs1 B.acc B.hacc x152.2.2.2
      let x154 ← k0_part154 i B.q B.hq B.k B.hk B.v B.hv B.o B.ho B.aug B.haug B.s0 B.hs0 B.s1 B.hs1 B.acc B.hacc x153.2.2.2
      have v207 : FVec F S256 .bf16 := multiReduction .maximumf [0] S256 x154.2.2 0xFF80#16 reduces_S256x256_S256 (.inr rfl) rfl
      have v208 : FVec F S1x256 .bf16 := shapeCast S1x256 v207 shapeCasts_S256_S1x256
      have v209 : FVec F S1x256 .f32 := extf .f32 v208 bitsLt_bf16_f32
      let v212 : Vec F S256x128 .bf16 ← Prog.lift (.load B.k (Rect.unit (s := S8192x128) ![0, 0] S256x128.size inb_S8192x128_S256x128_0_0).toLoadRect (View.loadsAt_vmem h_S256x128))
      have v213 : FVec F S256x128 .bf16 := shapeCast S256x128 v212 shapeCasts_S256x128_S256x128
      let v214 : Vec F S128x256 .bf16 ← Prog.lift (.load B.aug (Rect.unit (s := S128x2048) ![0, 1792] S128x256.size inb_S128x2048_S128x256_0_1792).toLoadRect (View.loadsAt_vmem h_S128x256))
      have cst_126 : FVec F S256x256 .f32 := constant S256x256 .f32 0x00000000#32
      have v215 : FVec F S256x256 .f32 := matmul dot_S256x128_S128x256_S256x256_1_0_0_1_n_n none v213 v214 cst_126
      have v216 : FVec F S256x256 .bf16 := truncf .bf16 v215 bitsLt_bf16_f32
      let v217 : Vec F S256x256 .bf16 ← Prog.lift (.load B.s0 (Rect.unit (s := S256x2048) ![0, 1792] S256x256.size inb_S256x2048_S256x256_0_1792).toLoadRect (View.loadsAt_vmem h_S256x256))
      have v219 : FVec F S256x256 .bf16 := shapeCast S256x256 v216 shapeCasts_S256x256_S256x256
      Prog.lift (.store B.s0 (Rect.unit (s := S256x2048) ![0, 1792] S256x256.size inb_S256x2048_S256x256_0_1792) v219 Finset.univ (View.stores_vmem h_S256x256 (B.hs0.storeExact_slice rfl _ packedbf16_S256x2048_S256x256_0_1792) (fun _ => rfl)) (.inl rfl))
      have v220 : FVec F S256 .bf16 := multiReduction .maximumf [0] S256 v216 0xFF80#16 reduces_S256x256_S256 (.inr rfl) rfl
      have v221 : FVec F S1x256 .bf16 := shapeCast S1x256 v220 shapeCasts_S256_S1x256
      have v222 : FVec F S1x256 .f32 := extf .f32 v221 bitsLt_bf16_f32
      have v223 : FVec F S1x2048 .f32 := concatenate S1x2048 1 [⟨S1x256, x152.2.2.1⟩, ⟨S1x256, x153.1⟩, ⟨S1x256, x153.2.1⟩, ⟨S1x256, x153.2.2.1⟩, ⟨S1x256, x154.1⟩, ⟨S1x256, x154.2.1⟩, ⟨S1x256, v209⟩, ⟨S1x256, v222⟩] concatenates_S1x256_S1x256_S1x256_S1x256_S1x256_S1x256_S1x256_S1x256_S1x2048_d1
      have cst_130 : F .f32 := Scalar.ofBits .f32 0x00000000#32
      have v224 : FVec F S1x2048 .f32 := broadcast S1x2048 cst_130
      loop1 B (x152.2.1, v223, x152.1, v224) : Body F (Carry F)) =
  (before B >>= fun t0 => head B t0 >>= fun m => loop1 B (rnd t0, m, t0, broadcast S1x2048 (Scalar.ofBits .f32 0x00000000#32))) := by
  chain_rfl

/-- The body from its first loop to its condition. -/
theorem piece_tail (B : Bufs) (i : grid0.Coords) (c : Carry F) : (do
      have v227 : FVec F S1x2048 .bf16 := truncf .bf16 c.2.2.1 bitsLt_bf16_f32
      have v228 : FVec F S1x2048 .f32 := extf .f32 v227 bitsLt_bf16_f32
      have cst_133 : F .f32 := Scalar.ofBits .f32 0x00000000#32
      have v229 : FVec F S1x2048 .f32 := broadcast S1x2048 cst_133
      have v230 : FVec F S1x2048 .f32 := subf v229 v228
      have cst_134 : F .f32 := Scalar.ofBits .f32 0x00000000#32
      have v231 : FVec F S1x2048 .f32 := shapeCast S1x2048 v230 shapeCasts_S1x2048_S1x2048
      have v232 : FVec F S16x2048 .f32 := broadcastTo S16x2048 v231 broadcasts_S1x2048_S16x2048
      have v233 : FVec F S16x2048 .f32 := broadcast S16x2048 cst_134
      have v234 : FVec F S16x2048 .f32 := select (cmpi .eq (iota .tc S16x2048 32 [0] iota_S16x2048_d0_w32) (broadcast S16x2048 0#32)) v232 v233
      have v235 : FVec F S16x2048 .bf16 := truncf .bf16 v234 bitsLt_bf16_f32
      let v236 : Vec F S16x2048 .bf16 ← Prog.lift (.load B.aug (Rect.unit (s := S128x2048) ![64, 0] S16x2048.size inb_S128x2048_S16x2048_64_0).toLoadRect (View.loadsAt_vmem h_S16x2048))
      have v238 : FVec F S16x2048 .bf16 := shapeCast S16x2048 v235 shapeCasts_S16x2048_S16x2048
      Prog.lift (.store B.aug (Rect.unit (s := S128x2048) ![64, 0] S16x2048.size inb_S128x2048_S16x2048_64_0) v238 Finset.univ (View.stores_vmem h_S16x2048 (B.haug.storeExact_slice rfl _ packedbf16_S128x2048_S16x2048_64_0) (fun _ => rfl)) (.inl rfl))
      let v241 : Vec F S256x128 .bf16 ← Prog.lift (.load B.k (Rect.unit (s := S8192x128) ![6400, 0] S256x128.size inb_S8192x128_S256x128_6400_0).toLoadRect (View.loadsAt_vmem h_S256x128))
      have v242 : FVec F S256x128 .bf16 := shapeCast S256x128 v241 shapeCasts_S256x128_S256x128
      let x156 ← k0_part156 i B.q B.hq B.k B.hk B.v B.hv B.o B.ho B.aug B.haug B.s0 B.hs0 B.s1 B.hs1 B.acc B.hacc v242
      let x157 ← k0_part157 i B.q B.hq B.k B.hk B.v B.hv B.o B.ho B.aug B.haug B.s0 B.hs0 B.s1 B.hs1 B.acc B.hacc x156.2.2
      let x158 ← k0_part158 i B.q B.hq B.k B.hk B.v B.hv B.o B.ho B.aug B.haug B.s0 B.hs0 B.s1 B.hs1 B.acc B.hacc x157.2
      let x159 ← k0_part159 i B.q B.hq B.k B.hk B.v B.hv B.o B.ho B.aug B.haug B.s0 B.hs0 B.s1 B.hs1 B.acc B.hacc x158.2
      let v401 : FVec F S1x256 .f32 ← k0_part160 i B.q B.hq B.k B.hk B.v B.hv B.o B.ho B.aug B.haug B.s0 B.hs0 B.s1 B.hs1 B.acc B.hacc x159.2.2.1 x159.2.2.2
      let x161 ← k0_part161 i B.q B.hq B.k B.hk B.v B.hv B.o B.ho B.aug B.haug B.s0 B.hs0 B.s1 B.hs1 B.acc B.hacc c.1 c.2.1 c.2.2.1 c.2.2.2 v228 x156.1 x156.2.1 x157.1 x158.1 x159.1 x159.2.1 v401
      let x162 ← k0_part162 i B.q B.hq B.k B.hk B.v B.hv B.o B.ho B.aug B.haug B.s0 B.hs0 B.s1 B.hs1 B.acc B.hacc x161.2.2.2.1 x161.2.2.2.2.1 x161.2.2.2.2.2.1 x161.2.2.2.2.2.2
      let x163 ← k0_part163 i B.q B.hq B.k B.hk B.v B.hv B.o B.ho B.aug B.haug B.s0 B.hs0 B.s1 B.hs1 B.acc B.hacc x161.2.2.2.1 x162.2.2
      let x164 ← k0_part164 i B.q B.hq B.k B.hk B.v B.hv B.o B.ho B.aug B.haug B.s0 B.hs0 B.s1 B.hs1 B.acc B.hacc x161.2.2.2.1 x163.2
      let x165 ← k0_part165 i B.q B.hq B.k B.hk B.v B.hv B.o B.ho B.aug B.haug B.s0 B.hs0 B.s1 B.hs1 B.acc B.hacc x161.2.2.2.1 x164.2
      let x166 ← k0_part166 i B.q B.hq B.k B.hk B.v B.hv B.o B.ho B.aug B.haug B.s0 B.hs0 B.s1 B.hs1 B.acc B.hacc x161.2.2.2.1 x165.2.1 x165.2.2
      let x167 ← k0_part167 i B.q B.hq B.k B.hk B.v B.hv B.o B.ho B.aug B.haug B.s0 B.hs0 B.s1 B.hs1 B.acc B.hacc x161.2.2.2.1 x166.2.2.1 x166.2.2.2
      let x168 ← k0_part168 i B.q B.hq B.k B.hk B.v B.hv B.o B.ho B.aug B.haug B.s0 B.hs0 B.s1 B.hs1 B.acc B.hacc v228 x161.1 x161.2.1 x161.2.2.1 x162.1 x162.2.1 x163.1 x164.1 x165.1 x166.1 x166.2.1 x167.1 x167.2
      let x169 ← k0_part169 i B.q B.hq B.k B.hk B.v B.hv B.o B.ho B.aug B.haug B.s0 B.hs0 B.s1 B.hs1 B.acc B.hacc x168.2.2.2.2
      let x170 ← k0_part170 i B.q B.hq B.k B.hk B.v B.hv B.o B.ho B.aug B.haug B.s0 B.hs0 B.s1 B.hs1 B.acc B.hacc
      let x171 ← k0_part171 i B.q B.hq B.k B.hk B.v B.hv B.o B.ho B.aug B.haug B.s0 B.hs0 B.s1 B.hs1 B.acc B.hacc x170.2
      let x172 ← k0_part172 i B.q B.hq B.k B.hk B.v B.hv B.o B.ho B.aug B.haug B.s0 B.hs0 B.s1 B.hs1 B.acc B.hacc x171.2.1 x171.2.2.1 x171.2.2.2
      let x173 ← k0_part173 i B.q B.hq B.k B.hk B.v B.hv B.o B.ho B.aug B.haug B.s0 B.hs0 B.s1 B.hs1 B.acc B.hacc x172.2.2
      let x174 ← k0_part174 i B.q B.hq B.k B.hk B.v B.hv B.o B.ho B.aug B.haug B.s0 B.hs0 B.s1 B.hs1 B.acc B.hacc v228 x168.1 x168.2.1 x168.2.2.1 x168.2.2.2.1 x169.1 x169.2 x170.1 x171.1 x172.1 x172.2.1 x173.1 x173.2
      let x175 ← k0_part175 i B.q B.hq B.k B.hk B.v B.hv B.o B.ho B.aug B.haug B.s0 B.hs0 B.s1 B.hs1 B.acc B.hacc x174.2.2.2.2.1 x174.2.2.2.2.2.1 x174.2.2.2.2.2.2
      let x176 ← k0_part176 i B.q B.hq B.k B.hk B.v B.hv B.o B.ho B.aug B.haug B.s0 B.hs0 B.s1 B.hs1 B.acc B.hacc x175.2.2
      let x177 ← k0_part177 i B.q B.hq B.k B.hk B.v B.hv B.o B.ho B.aug B.haug B.s0 B.hs0 B.s1 B.hs1 B.acc B.hacc x176.2
      let x178 ← k0_part178 i B.q B.hq B.k B.hk B.v B.hv B.o B.ho B.aug B.haug B.s0 B.hs0 B.s1 B.hs1 B.acc B.hacc x177.2
      let x179 ← k0_part179 i B.q B.hq B.k B.hk B.v B.hv B.o B.ho B.aug B.haug B.s0 B.hs0 B.s1 B.hs1 B.acc B.hacc v228 x174.1 x174.2.2.2.1 x175.1 x175.2.1 x176.1 x177.1 x178.1 x178.2.1 x178.2.2
      let x180 ← k0_part180 i B.q B.hq B.k B.hk B.v B.hv B.o B.ho B.aug B.haug B.s0 B.hs0 B.s1 B.hs1 B.acc B.hacc x174.1 x174.2.1 x174.2.2.1 x179.2
      let x181 ← k0_part181 i B.q B.hq B.k B.hk B.v B.hv B.o B.ho B.aug B.haug B.s0 B.hs0 B.s1 B.hs1 B.acc B.hacc x180.2.2.2
      let x182 ← k0_part182 i B.q B.hq B.k B.hk B.v B.hv B.o B.ho B.aug B.haug B.s0 B.hs0 B.s1 B.hs1 B.acc B.hacc x181.2.2
      let x183 ← k0_part183 i B.q B.hq B.k B.hk B.v B.hv B.o B.ho B.aug B.haug B.s0 B.hs0 B.s1 B.hs1 B.acc B.hacc x182.2
      let x184 ← k0_part184 i B.q B.hq B.k B.hk B.v B.hv B.o B.ho B.aug B.haug B.s0 B.hs0 B.s1 B.hs1 B.acc B.hacc x183.2
      let x185 ← k0_part185 i B.q B.hq B.k B.hk B.v B.hv B.o B.ho B.aug B.haug B.s0 B.hs0 B.s1 B.hs1 B.acc B.hacc v228 x179.1 x180.1 x180.2.1 x180.2.2.1 x181.1 x181.2.1 x182.1 x183.1 x184.1 x184.2.1 x184.2.2
      let x186 ← k0_part186 i B.q B.hq B.k B.hk B.v B.hv B.o B.ho B.aug B.haug B.s0 B.hs0 B.s1 B.hs1 B.acc B.hacc x185.2.2.2
      let x187 ← k0_part187 i B.q B.hq B.k B.hk B.v B.hv B.o B.ho B.aug B.haug B.s0 B.hs0 B.s1 B.hs1 B.acc B.hacc x186.2
      let x188 ← k0_part188 i B.q B.hq B.k B.hk B.v B.hv B.o B.ho B.aug B.haug B.s0 B.hs0 B.s1 B.hs1 B.acc B.hacc x187.2.2
      let x189 ← k0_part189 i B.q B.hq B.k B.hk B.v B.hv B.o B.ho B.aug B.haug B.s0 B.hs0 B.s1 B.hs1 B.acc B.hacc x188.2
      let x190 ← k0_part190 i B.q B.hq B.k B.hk B.v B.hv B.o B.ho B.aug B.haug B.s0 B.hs0 B.s1 B.hs1 B.acc B.hacc
      let x191 ← k0_part191 i B.q B.hq B.k B.hk B.v B.hv B.o B.ho B.aug B.haug B.s0 B.hs0 B.s1 B.hs1 B.acc B.hacc v228 x185.1 x185.2.1 x185.2.2.1 x186.1 x187.1 x187.2.1 x188.1 x189.1 x189.2 x190.1 x190.2
      let x192 ← k0_part192 i B.q B.hq B.k B.hk B.v B.hv B.o B.ho B.aug B.haug B.s0 B.hs0 B.s1 B.hs1 B.acc B.hacc x191.2.2.2
      let x193 ← k0_part193 i B.q B.hq B.k B.hk B.v B.hv B.o B.ho B.aug B.haug B.s0 B.hs0 B.s1 B.hs1 B.acc B.hacc
      let x194 ← k0_part194 i B.q B.hq B.k B.hk B.v B.hv B.o B.ho B.aug B.haug B.s0 B.hs0 B.s1 B.hs1 B.acc B.hacc x193.2
      let x195 ← k0_part195 i B.q B.hq B.k B.hk B.v B.hv B.o B.ho B.aug B.haug B.s0 B.hs0 B.s1 B.hs1 B.acc B.hacc x194.2.1 x194.2.2.1 x194.2.2.2
      let x196 ← k0_part196 i B.q B.hq B.k B.hk B.v B.hv B.o B.ho B.aug B.haug B.s0 B.hs0 B.s1 B.hs1 B.acc B.hacc x195.2.2
      let x197 ← k0_part197 i B.q B.hq B.k B.hk B.v B.hv B.o B.ho B.aug B.haug B.s0 B.hs0 B.s1 B.hs1 B.acc B.hacc v228 x191.1 x191.2.1 x191.2.2.1 x192.1 x192.2 x193.1 x194.1 x195.1 x195.2.1 x196.1 x196.2
      let v1729 : BitVec 32 ← k0_part198 i B.q B.hq B.k B.hk B.v B.hv B.o B.ho B.aug B.haug B.s0 B.hs0 B.s1 B.hs1 B.acc B.hacc x197.2.2.2.1 x197.2.2.2.2
      let v1761 : FVec F S80x256 .f32 ← k0_part199 i B.q B.hq B.k B.hk B.v B.hv B.o B.ho B.aug B.haug B.s0 B.hs0 B.s1 B.hs1 B.acc B.hacc v1729
      have v1764 : FVec F S80x256 .f32 := shapeCast S80x256 v1761 shapeCasts_S80x256_S80x256
      Prog.lift (.store B.acc (Rect.unit (s := S80x2048) ![0, 1280] S80x256.size inb_S80x2048_S80x256_0_1280) v1764 Finset.univ (View.stores_vmem_bits_univ h_S80x256 rfl) (.inl rfl))
      let v1766 : Vec F S256x256 .bf16 ← Prog.lift (.load B.s1 (Rect.unit (s := S256x2048) ![0, 1536] S256x256.size inb_S256x2048_S256x256_0_1536).toLoadRect (View.loadsAt_vmem h_S256x256))
      have v1767 : FVec F S256x256 .bf16 := exp2 v1766
      let v1769 : Vec F S80x256 .bf16 ← Prog.lift (.load B.v (Rect.unit (s := S80x8192) ![0, 7936] S80x256.size inb_S80x8192_S80x256_0_7936).toLoadRect (View.loadsAt_vmem h_S80x256))
      have v1770 : FVec F S80x256 .bf16 := shapeCast S80x256 v1769 shapeCasts_S80x256_S80x256
      have cst_1139 : FVec F S80x256 .f32 := constant S80x256 .f32 0x00000000#32
      have v1771 : FVec F S80x256 .f32 := matmul dot_S80x256_S256x256_S80x256_1_0_0_1_n_n none v1770 v1767 cst_1139
      let v1772 : Vec F S80x256 .f32 ← Prog.lift (.load B.acc (Rect.unit (s := S80x2048) ![0, 1536] S80x256.size inb_S80x2048_S80x256_0_1536).toLoadRect (View.loadsAt_vmem h_S80x256))
      have v1773 : FVec F S80x256 .f32 := addf v1772 v1771
      let v1774 : Vec F S80x256 .f32 ← Prog.lift (.load B.acc (Rect.unit (s := S80x2048) ![0, 1536] S80x256.size inb_S80x2048_S80x256_0_1536).toLoadRect (View.loadsAt_vmem h_S80x256))
      have v1776 : FVec F S80x256 .f32 := shapeCast S80x256 v1773 shapeCasts_S80x256_S80x256
      Prog.lift (.store B.acc (Rect.unit (s := S80x2048) ![0, 1536] S80x256.size inb_S80x2048_S80x256_0_1536) v1776 Finset.univ (View.stores_vmem_bits_univ h_S80x256 rfl) (.inl rfl))
      let v1778 : Vec F S256x256 .bf16 ← Prog.lift (.load B.s1 (Rect.unit (s := S256x2048) ![0, 1792] S256x256.size inb_S256x2048_S256x256_0_1792).toLoadRect (View.loadsAt_vmem h_S256x256))
      have v1779 : FVec F S256x256 .bf16 := exp2 v1778
      let v1781 : Vec F S80x256 .bf16 ← Prog.lift (.load B.v (Rect.unit (s := S80x8192) ![0, 7936] S80x256.size inb_S80x8192_S80x256_0_7936).toLoadRect (View.loadsAt_vmem h_S80x256))
      have v1782 : FVec F S80x256 .bf16 := shapeCast S80x256 v1781 shapeCasts_S80x256_S80x256
      have cst_1148 : FVec F S80x256 .f32 := constant S80x256 .f32 0x00000000#32
      have v1783 : FVec F S80x256 .f32 := matmul dot_S80x256_S256x256_S80x256_1_0_0_1_n_n none v1782 v1779 cst_1148
      let v1784 : Vec F S80x256 .f32 ← Prog.lift (.load B.acc (Rect.unit (s := S80x2048) ![0, 1792] S80x256.size inb_S80x2048_S80x256_0_1792).toLoadRect (View.loadsAt_vmem h_S80x256))
      have v1785 : FVec F S80x256 .f32 := addf v1784 v1783
      let v1786 : Vec F S80x256 .f32 ← Prog.lift (.load B.acc (Rect.unit (s := S80x2048) ![0, 1792] S80x256.size inb_S80x2048_S80x256_0_1792).toLoadRect (View.loadsAt_vmem h_S80x256))
      have v1788 : FVec F S80x256 .f32 := shapeCast S80x256 v1785 shapeCasts_S80x256_S80x256
      Prog.lift (.store B.acc (Rect.unit (s := S80x2048) ![0, 1792] S80x256.size inb_S80x2048_S80x256_0_1792) v1788 Finset.univ (View.stores_vmem_bits_univ h_S80x256 rfl) (.inl rfl))
      have v1789 : FVec F S1x2048 .f32 := addf v228 x197.1
      have v1790 : FVec F S1x2048 .f32 := maximumf x197.2.1 v1789
      have v1791 : FVec F S1x2048 .f32 := maximumf x197.2.2.1 x197.1
      have v1792 : FVec F S1x1x2048 .f32 := shapeCast S1x1x2048 v1791 shapeCasts_S1x2048_S1x1x2048
      have v1793 : FVec F S1 .f32 := multiReduction .maximumf [1, 2] S1 v1792 0xFF800000#32 reduces_S1x1x2048_S1 (.inl rfl) rfl
      have v1794 : FVec F S1x1x1 .f32 := shapeCast S1x1x1 v1793 shapeCasts_S1_S1x1x1
      have v1795 : F .f32 := extractAt ![0, 0, 0] v1794 inpos_S1x1x1_p0_0_0
      have cst_1154 : F .f32 := Scalar.ofBits .f32 0x42C80000#32
      let v1796 : BitVec 1 := Scalar.cmpf .ogt v1795 cst_1154
      let v1797 : BitVec 32 := Scalar.extui v1796
      let c0_i32_1155 : BitVec 32 := 0#32
      let v1798 : BitVec 1 := Scalar.cmpi .ne v1797 c0_i32_1155
      pure (v1790, v1798) : Body F (FVec F S1x2048 .f32 × BitVec 1)) =
  (tail B c >>= fun r => pure (r.1, tooHigh r.2)) := by
  chain_rfl

/-- The second sweep as far as its loop. -/
theorem piece_again (B : Bufs) (i : grid0.Coords) (v1790 : FVec F S1x2048 .f32) : (do
      let x104 ← k0_part104 i B.q B.hq B.k B.hk B.v B.hv B.o B.ho B.aug B.haug B.s0 B.hs0 B.s1 B.hs1 B.acc B.hacc (cmpi .eq (iota .tc S16x2048 32 [0] iota_S16x2048_d0_w32) (broadcast S16x2048 0#32)) v1790
      let x105 ← k0_part105 i B.q B.hq B.k B.hk B.v B.hv B.o B.ho B.aug B.haug B.s0 B.hs0 B.s1 B.hs1 B.acc B.hacc x104.2.2
      let x106 ← k0_part106 i B.q B.hq B.k B.hk B.v B.hv B.o B.ho B.aug B.haug B.s0 B.hs0 B.s1 B.hs1 B.acc B.hacc x105.2.2.2
      let v1921 : Vec F S256x128 .bf16 ← Prog.lift (.load B.k (Rect.unit (s := S8192x128) ![0, 0] S256x128.size inb_S8192x128_S256x128_0_0).toLoadRect (View.loadsAt_vmem h_S256x128))
      have v1922 : FVec F S256x128 .bf16 := shapeCast S256x128 v1921 shapeCasts_S256x128_S256x128
      let v1923 : Vec F S128x256 .bf16 ← Prog.lift (.load B.aug (Rect.unit (s := S128x2048) ![0, 1792] S128x256.size inb_S128x2048_S128x256_0_1792).toLoadRect (View.loadsAt_vmem h_S128x256))
      have cst_1227 : FVec F S256x256 .f32 := constant S256x256 .f32 0x00000000#32
      have v1924 : FVec F S256x256 .f32 := matmul dot_S256x128_S128x256_S256x256_1_0_0_1_n_n none v1922 v1923 cst_1227
      have v1925 : FVec F S256x256 .bf16 := truncf .bf16 v1924 bitsLt_bf16_f32
      let v1926 : Vec F S256x256 .bf16 ← Prog.lift (.load B.s0 (Rect.unit (s := S256x2048) ![0, 1792] S256x256.size inb_S256x2048_S256x256_0_1792).toLoadRect (View.loadsAt_vmem h_S256x256))
      have v1928 : FVec F S256x256 .bf16 := shapeCast S256x256 v1925 shapeCasts_S256x256_S256x256
      Prog.lift (.store B.s0 (Rect.unit (s := S256x2048) ![0, 1792] S256x256.size inb_S256x2048_S256x256_0_1792) v1928 Finset.univ (View.stores_vmem h_S256x256 (B.hs0.storeExact_slice rfl _ packedbf16_S256x2048_S256x256_0_1792) (fun _ => rfl)) (.inl rfl))
      have v1929 : FVec F S256 .bf16 := multiReduction .maximumf [0] S256 v1925 0xFF80#16 reduces_S256x256_S256 (.inr rfl) rfl
      have v1930 : FVec F S1x256 .bf16 := shapeCast S1x256 v1929 shapeCasts_S256_S1x256
      have v1931 : FVec F S1x256 .f32 := extf .f32 v1930 bitsLt_bf16_f32
      have v1932 : FVec F S1x2048 .f32 := concatenate S1x2048 1 [⟨S1x256, x104.2.1⟩, ⟨S1x256, x105.1⟩, ⟨S1x256, x105.2.1⟩, ⟨S1x256, x105.2.2.1⟩, ⟨S1x256, x106.1⟩, ⟨S1x256, x106.2.1⟩, ⟨S1x256, x106.2.2.1⟩, ⟨S1x256, v1931⟩] concatenates_S1x256_S1x256_S1x256_S1x256_S1x256_S1x256_S1x256_S1x256_S1x2048_d1
      loop2 B (x104.1, v1932, v1790) : Body F (FVec F S1x2048 .f32 × FVec F S1x2048 .f32 × FVec F S1x2048 .f32)) =
  (head B v1790 >>= fun m => loop2 B (rnd v1790, m, v1790)) := by
  chain_rfl

/-- The second sweep from its loop on. -/
theorem piece_rest (B : Bufs) (i : grid0.Coords) (r : FVec F S1x2048 .f32 × FVec F S1x2048 .f32 × FVec F S1x2048 .f32) : (do
      have v1935 : FVec F S1x2048 .bf16 := truncf .bf16 r.2.2 bitsLt_bf16_f32
      have v1936 : FVec F S1x2048 .f32 := extf .f32 v1935 bitsLt_bf16_f32
      have cst_1235 : F .f32 := Scalar.ofBits .f32 0x00000000#32
      have v1937 : FVec F S1x2048 .f32 := broadcast S1x2048 cst_1235
      have v1938 : FVec F S1x2048 .f32 := subf v1937 v1936
      have cst_1236 : F .f32 := Scalar.ofBits .f32 0x00000000#32
      have v1939 : FVec F S1x2048 .f32 := shapeCast S1x2048 v1938 shapeCasts_S1x2048_S1x2048
      have v1940 : FVec F S16x2048 .f32 := broadcastTo S16x2048 v1939 broadcasts_S1x2048_S16x2048
      have v1941 : FVec F S16x2048 .f32 := broadcast S16x2048 cst_1236
      have v1942 : FVec F S16x2048 .f32 := select (cmpi .eq (iota .tc S16x2048 32 [0] iota_S16x2048_d0_w32) (broadcast S16x2048 0#32)) v1940 v1941
      have v1943 : FVec F S16x2048 .bf16 := truncf .bf16 v1942 bitsLt_bf16_f32
      let v1944 : Vec F S16x2048 .bf16 ← Prog.lift (.load B.aug (Rect.unit (s := S128x2048) ![64, 0] S16x2048.size inb_S128x2048_S16x2048_64_0).toLoadRect (View.loadsAt_vmem h_S16x2048))
      have v1946 : FVec F S16x2048 .bf16 := shapeCast S16x2048 v1943 shapeCasts_S16x2048_S16x2048
      Prog.lift (.store B.aug (Rect.unit (s := S128x2048) ![64, 0] S16x2048.size inb_S128x2048_S16x2048_64_0) v1946 Finset.univ (View.stores_vmem h_S16x2048 (B.haug.storeExact_slice rfl _ packedbf16_S128x2048_S16x2048_64_0) (fun _ => rfl)) (.inl rfl))
      let v1949 : Vec F S256x128 .bf16 ← Prog.lift (.load B.k (Rect.unit (s := S8192x128) ![6400, 0] S256x128.size inb_S8192x128_S256x128_6400_0).toLoadRect (View.loadsAt_vmem h_S256x128))
      have v1950 : FVec F S256x128 .bf16 := shapeCast S256x128 v1949 shapeCasts_S256x128_S256x128
      let v1951 : Vec F S128x256 .bf16 ← Prog.lift (.load B.aug (Rect.unit (s := S128x2048) ![0, 0] S128x256.size inb_S128x2048_S128x256_0_0).toLoadRect (View.loadsAt_vmem h_S128x256))
      have cst_1243 : FVec F S256x256 .f32 := constant S256x256 .f32 0x00000000#32
      have v1952 : FVec F S256x256 .f32 := matmul dot_S256x128_S128x256_S256x256_1_0_0_1_n_n none v1950 v1951 cst_1243
      have v1953 : FVec F S256x256 .bf16 := truncf .bf16 v1952 bitsLt_bf16_f32
      let v1954 : Vec F S256x256 .bf16 ← Prog.lift (.load B.s1 (Rect.unit (s := S256x2048) ![0, 0] S256x256.size inb_S256x2048_S256x256_0_0).toLoadRect (View.loadsAt_vmem h_S256x256))
      let v1987 : FVec F S80x256 .f32 ← k0_part108 i B.q B.hq B.k B.hk B.v B.hv B.o B.ho B.aug B.haug B.s0 B.hs0 B.s1 B.hs1 B.acc B.hacc v1953 v1954
      let x109 ← k0_part109 i B.q B.hq B.k B.hk B.v B.hv B.o B.ho B.aug B.haug B.s0 B.hs0 B.s1 B.hs1 B.acc B.hacc v1987
      let v2053 : FVec F S80x256 .f32 ← k0_part110 i B.q B.hq B.k B.hk B.v B.hv B.o B.ho B.aug B.haug B.s0 B.hs0 B.s1 B.hs1 B.acc B.hacc x109.1 x109.2
      let x111 ← k0_part111 i B.q B.hq B.k B.hk B.v B.hv B.o B.ho B.aug B.haug B.s0 B.hs0 B.s1 B.hs1 B.acc B.hacc v2053
      let v2119 : FVec F S80x256 .f32 ← k0_part112 i B.q B.hq B.k B.hk B.v B.hv B.o B.ho B.aug B.haug B.s0 B.hs0 B.s1 B.hs1 B.acc B.hacc x111.1 x111.2
      let x113 ← k0_part113 i B.q B.hq B.k B.hk B.v B.hv B.o B.ho B.aug B.haug B.s0 B.hs0 B.s1 B.hs1 B.acc B.hacc r.1 v1936 v2119
      let x114 ← k0_part114 i B.q B.hq B.k B.hk B.v B.hv B.o B.ho B.aug B.haug B.s0 B.hs0 B.s1 B.hs1 B.acc B.hacc x113.1 x113.2.1 x113.2.2.1 x113.2.2.2
      let c6656_i32_1431 : BitVec 32 ← k0_part115 i B.q B.hq B.k B.hk B.v B.hv B.o B.ho B.aug B.haug B.s0 B.hs0 B.s1 B.hs1 B.acc B.hacc x113.1 x114.1 x114.2
      k0_part116 i B.q B.hq B.k B.hk B.v B.hv B.o B.ho B.aug B.haug B.s0 B.hs0 B.s1 B.hs1 B.acc B.hacc x113.1 c6656_i32_1431
      let x117 ← k0_part117 i B.q B.hq B.k B.hk B.v B.hv B.o B.ho B.aug B.haug B.s0 B.hs0 B.s1 B.hs1 B.acc B.hacc x113.1
      let x118 ← k0_part118 i B.q B.hq B.k B.hk B.v B.hv B.o B.ho B.aug B.haug B.s0 B.hs0 B.s1 B.hs1 B.acc B.hacc x113.1 x117.1 x117.2.1 x117.2.2
      let x119 ← k0_part119 i B.q B.hq B.k B.hk B.v B.hv B.o B.ho B.aug B.haug B.s0 B.hs0 B.s1 B.hs1 B.acc B.hacc x118.1 x118.2
      let x120 ← k0_part120 i B.q B.hq B.k B.hk B.v B.hv B.o B.ho B.aug B.haug B.s0 B.hs0 B.s1 B.hs1 B.acc B.hacc x119.1 x119.2.1 x119.2.2
      let x121 ← k0_part121 i B.q B.hq B.k B.hk B.v B.hv B.o B.ho B.aug B.haug B.s0 B.hs0 B.s1 B.hs1 B.acc B.hacc x120.1 x120.2
      let x122 ← k0_part122 i B.q B.hq B.k B.hk B.v B.hv B.o B.ho B.aug B.haug B.s0 B.hs0 B.s1 B.hs1 B.acc B.hacc x121.1 x121.2.1 x121.2.2
      let x123 ← k0_part123 i B.q B.hq B.k B.hk B.v B.hv B.o B.ho B.aug B.haug B.s0 B.hs0 B.s1 B.hs1 B.acc B.hacc x122.1 x122.2
      let x124 ← k0_part124 i B.q B.hq B.k B.hk B.v B.hv B.o B.ho B.aug B.haug B.s0 B.hs0 B.s1 B.hs1 B.acc B.hacc x123.1 x123.2.1 x123.2.2
      let x125 ← k0_part125 i B.q B.hq B.k B.hk B.v B.hv B.o B.ho B.aug B.haug B.s0 B.hs0 B.s1 B.hs1 B.acc B.hacc x124.1 x124.2
      let x126 ← k0_part126 i B.q B.hq B.k B.hk B.v B.hv B.o B.ho B.aug B.haug B.s0 B.hs0 B.s1 B.hs1 B.acc B.hacc x125.1 x125.2.1 x125.2.2
      let x127 ← k0_part127 i B.q B.hq B.k B.hk B.v B.hv B.o B.ho B.aug B.haug B.s0 B.hs0 B.s1 B.hs1 B.acc B.hacc x126.1 x126.2
      let x128 ← k0_part128 i B.q B.hq B.k B.hk B.v B.hv B.o B.ho B.aug B.haug B.s0 B.hs0 B.s1 B.hs1 B.acc B.hacc x127.1 x127.2.1 x127.2.2
      let x129 ← k0_part129 i B.q B.hq B.k B.hk B.v B.hv B.o B.ho B.aug B.haug B.s0 B.hs0 B.s1 B.hs1 B.acc B.hacc x128.1 x128.2
      let x130 ← k0_part130 i B.q B.hq B.k B.hk B.v B.hv B.o B.ho B.aug B.haug B.s0 B.hs0 B.s1 B.hs1 B.acc B.hacc x129.1 x129.2.1 x129.2.2
      let x131 ← k0_part131 i B.q B.hq B.k B.hk B.v B.hv B.o B.ho B.aug B.haug B.s0 B.hs0 B.s1 B.hs1 B.acc B.hacc x130.1 x130.2
      let x132 ← k0_part132 i B.q B.hq B.k B.hk B.v B.hv B.o B.ho B.aug B.haug B.s0 B.hs0 B.s1 B.hs1 B.acc B.hacc x131.1 x131.2.1 x131.2.2
      let x133 ← k0_part133 i B.q B.hq B.k B.hk B.v B.hv B.o B.ho B.aug B.haug B.s0 B.hs0 B.s1 B.hs1 B.acc B.hacc x132.1 x132.2
      let x134 ← k0_part134 i B.q B.hq B.k B.hk B.v B.hv B.o B.ho B.aug B.haug B.s0 B.hs0 B.s1 B.hs1 B.acc B.hacc x133.1 x133.2.1 x133.2.2
      let x135 ← k0_part135 i B.q B.hq B.k B.hk B.v B.hv B.o B.ho B.aug B.haug B.s0 B.hs0 B.s1 B.hs1 B.acc B.hacc x134.1 x134.2
      let x136 ← k0_part136 i B.q B.hq B.k B.hk B.v B.hv B.o B.ho B.aug B.haug B.s0 B.hs0 B.s1 B.hs1 B.acc B.hacc x135.1 x135.2.1 x135.2.2
      let x137 ← k0_part137 i B.q B.hq B.k B.hk B.v B.hv B.o B.ho B.aug B.haug B.s0 B.hs0 B.s1 B.hs1 B.acc B.hacc x136.1 x136.2
      let x138 ← k0_part138 i B.q B.hq B.k B.hk B.v B.hv B.o B.ho B.aug B.haug B.s0 B.hs0 B.s1 B.hs1 B.acc B.hacc x137.1 x137.2.1 x137.2.2
      let x139 ← k0_part139 i B.q B.hq B.k B.hk B.v B.hv B.o B.ho B.aug B.haug B.s0 B.hs0 B.s1 B.hs1 B.acc B.hacc x138.1 x138.2
      let x140 ← k0_part140 i B.q B.hq B.k B.hk B.v B.hv B.o B.ho B.aug B.haug B.s0 B.hs0 B.s1 B.hs1 B.acc B.hacc x139.1 x139.2.1 x139.2.2
      let x141 ← k0_part141 i B.q B.hq B.k B.hk B.v B.hv B.o B.ho B.aug B.haug B.s0 B.hs0 B.s1 B.hs1 B.acc B.hacc x140.1 x140.2
      let x142 ← k0_part142 i B.q B.hq B.k B.hk B.v B.hv B.o B.ho B.aug B.haug B.s0 B.hs0 B.s1 B.hs1 B.acc B.hacc x141.1 x141.2.1 x141.2.2
      let x143 ← k0_part143 i B.q B.hq B.k B.hk B.v B.hv B.o B.ho B.aug B.haug B.s0 B.hs0 B.s1 B.hs1 B.acc B.hacc x142.1 x142.2
      let x144 ← k0_part144 i B.q B.hq B.k B.hk B.v B.hv B.o B.ho B.aug B.haug B.s0 B.hs0 B.s1 B.hs1 B.acc B.hacc x143.1 x143.2.1 x143.2.2
      let x145 ← k0_part145 i B.q B.hq B.k B.hk B.v B.hv B.o B.ho B.aug B.haug B.s0 B.hs0 B.s1 B.hs1 B.acc B.hacc x144.1 x144.2
      let c7936_i32_2171 : BitVec 32 ← k0_part146 i B.q B.hq B.k B.hk B.v B.hv B.o B.ho B.aug B.haug B.s0 B.hs0 B.s1 B.hs1 B.acc B.hacc x145.1 x145.2
      let v3285 : FVec F S80x256 .f32 ← k0_part147 i B.q B.hq B.k B.hk B.v B.hv B.o B.ho B.aug B.haug B.s0 B.hs0 B.s1 B.hs1 B.acc B.hacc c7936_i32_2171
      let v3286 : Vec F S80x256 .f32 ← Prog.lift (.load B.acc (Rect.unit (s := S80x2048) ![0, 1536] S80x256.size inb_S80x2048_S80x256_0_1536).toLoadRect (View.loadsAt_vmem h_S80x256))
      have v3288 : FVec F S80x256 .f32 := shapeCast S80x256 v3285 shapeCasts_S80x256_S80x256
      Prog.lift (.store B.acc (Rect.unit (s := S80x2048) ![0, 1536] S80x256.size inb_S80x2048_S80x256_0_1536) v3288 Finset.univ (View.stores_vmem_bits_univ h_S80x256 rfl) (.inl rfl))
      let v3290 : Vec F S256x256 .bf16 ← Prog.lift (.load B.s1 (Rect.unit (s := S256x2048) ![0, 1792] S256x256.size inb_S256x2048_S256x256_0_1792).toLoadRect (View.loadsAt_vmem h_S256x256))
      have v3291 : FVec F S256x256 .bf16 := exp2 v3290
      let v3293 : Vec F S80x256 .bf16 ← Prog.lift (.load B.v (Rect.unit (s := S80x8192) ![0, 7936] S80x256.size inb_S80x8192_S80x256_0_7936).toLoadRect (View.loadsAt_vmem h_S80x256))
      have v3294 : FVec F S80x256 .bf16 := shapeCast S80x256 v3293 shapeCasts_S80x256_S80x256
      have cst_2202 : FVec F S80x256 .f32 := constant S80x256 .f32 0x00000000#32
      have v3295 : FVec F S80x256 .f32 := matmul dot_S80x256_S256x256_S80x256_1_0_0_1_n_n none v3294 v3291 cst_2202
      let v3296 : Vec F S80x256 .f32 ← Prog.lift (.load B.acc (Rect.unit (s := S80x2048) ![0, 1792] S80x256.size inb_S80x2048_S80x256_0_1792).toLoadRect (View.loadsAt_vmem h_S80x256))
      have v3297 : FVec F S80x256 .f32 := addf v3296 v3295
      let v3298 : Vec F S80x256 .f32 ← Prog.lift (.load B.acc (Rect.unit (s := S80x2048) ![0, 1792] S80x256.size inb_S80x2048_S80x256_0_1792).toLoadRect (View.loadsAt_vmem h_S80x256))
      have v3300 : FVec F S80x256 .f32 := shapeCast S80x256 v3297 shapeCasts_S80x256_S80x256
      Prog.lift (.store B.acc (Rect.unit (s := S80x2048) ![0, 1792] S80x256.size inb_S80x2048_S80x256_0_1792) v3300 Finset.univ (View.stores_vmem_bits_univ h_S80x256 rfl) (.inl rfl))
      pure ⟨⟩ : Body F (PUnit)) =
  (tail B (r.1, r.2.1, r.2.2, r.2.2) >>= fun _ => (pure PUnit.unit : Body F PUnit)) := by
  chain_rfl

/-- The structured body with its pieces set apart. -/
theorem body_pieces (B : Bufs) : body (F := F) B =
    ((before B >>= fun t0 => head B t0 >>= fun m => loop1 B (rnd t0, m, t0, broadcast S1x2048 (Scalar.ofBits .f32 0x00000000#32))) >>= fun c =>
      (tail B c >>= fun r => pure (r.1, tooHigh r.2)) >>= fun r =>
      (if r.2 = 1#1 then ((head B r.1 >>= fun m => loop2 B (rnd r.1, m, r.1)) >>= fun r => tail B (r.1, r.2.1, r.2.2, r.2.2) >>= fun _ => (pure PUnit.unit : Body F PUnit))
        else (pure PUnit.unit : Body F PUnit)) >>= fun _ => after B) := by
  unfold body again
  simp only [bind_assoc, pure_bind]

set_option backward.isDefEq.respectTransparency false in
/-- The printed body is the structured one. -/
theorem body_eq (i : grid0.Coords) (B : Bufs) :
    cc0_attn_axial (F := F) i B.q B.hq B.k B.hk B.v B.hv B.o B.ho B.aug B.haug B.s0 B.hs0 B.s1 B.hs1 B.acc B.hacc = body B := by
  rw [body_pieces, ← piece_head B i]
  simp only [← piece_tail B i, ← piece_again B i, ← piece_rest B i]
  rw [shape, shape201]
  simp only [shape149, bind_assoc, pure_bind]
  simp only [shape155, bind_assoc, pure_bind]
  simp only [shape200, shape148, bind_assoc, pure_bind]
  simp only [shape107, bind_assoc, pure_bind]
  chain_rfl

end Cert.KernelIdeal.Axial
-- ==== Proof.Sweep.lean ====
/-
  The attention body's run, step by step: each program of Struct.lean takes the buffers where the functions of Pure.lean say.
-/
module

public import proofs.«01_k».proof.Proof.Runs
public import proofs.«01_k».proof.Proof.Shape

@[expose] public section

set_option maxRecDepth 16384

noncomputable section

namespace Cert.KernelIdeal.Axial

open Idealize.ShloMosaic Idealize.ShloMosaic.TcCoe
open Idealize.SL.Sem
open Cert.KernelIdeal Facts₀ Facts

variable {F : FTy → Type} [FloatOps F]
variable [Facts]
variable {B : Bufs} {c : Dev nD}

@[simp] theorem setS_q (σ : St F) (b X) : (σ.setS b X).q = σ.q := by cases b <;> rfl
@[simp] theorem setS_k (σ : St F) (b X) : (σ.setS b X).k = σ.k := by cases b <;> rfl
@[simp] theorem setS_v (σ : St F) (b X) : (σ.setS b X).v = σ.v := by cases b <;> rfl
@[simp] theorem setS_aug (σ : St F) (b X) : (σ.setS b X).aug = σ.aug := by cases b <;> rfl
@[simp] theorem setS_acc (σ : St F) (b X) : (σ.setS b X).acc = σ.acc := by cases b <;> rfl
@[simp] theorem setS_s (σ : St F) (b X) : (σ.setS b X).s b = X := by cases b <;> rfl
@[simp] theorem setS_s_not (σ : St F) (b X) : (σ.setS b X).s (!b) = σ.s (!b) := by cases b <;> rfl

/-! ## The programs that touch one tile -/

/-- A head's queries are stored where they go. -/
theorem fillHead_run (g : Fin 4) (P : St F → Prop) : Hoare B c P (fillHead B g)
    (fun _ σ' => ∃ σ, P σ ∧ σ' = { σ with aug := upd σ.aug (headAug g) (headQs σ.q g) }) := by
  unfold fillHead
  refine Hoare.bind (Hoare.load takes_q fun _ => rfl) fun x => Hoare.bind (Hoare.load takes_aug fun _ => rfl) fun _ => ?_
  refine (Hoare.store takes_aug).conseq (fun _ h => h) ?_
  rintro _ σ' ⟨σ, ⟨⟨hσ, rfl⟩, -⟩, rfl⟩
  exact ⟨σ, hσ, rfl⟩

/-- The padding is stored. -/
theorem fillPad_run (P : St F → Prop) : Hoare B c P (fillPad B)
    (fun _ σ' => ∃ σ, P σ ∧ σ' = { σ with aug := upd σ.aug padRect pads }) := by
  unfold fillPad
  refine Hoare.bind (Hoare.load takes_aug fun _ => rfl) fun _ => ?_
  refine (Hoare.store takes_aug).conseq (fun _ h => h) ?_
  rintro _ σ' ⟨σ, ⟨hσ, -⟩, rfl⟩
  exact ⟨σ, hσ, rfl⟩

/-- The reference's rows are stored. -/
theorem setRef_run (r : FVec F S1x2048 .f32) (P : St F → Prop) : Hoare B c P (setRef B r)
    (fun _ σ' => ∃ σ, P σ ∧ σ' = { σ with aug := upd σ.aug refRect (refs r) }) := by
  unfold setRef
  refine Hoare.bind (Hoare.load takes_aug fun _ => rfl) fun _ => ?_
  refine (Hoare.store takes_aug).conseq (fun _ h => h) ?_
  rintro _ σ' ⟨σ, ⟨hσ, -⟩, rfl⟩
  exact ⟨σ, hσ, rfl⟩

/-- The first look at one lane tile. -/
theorem first_run (t : Fin 8) (P : St F → Prop) : Hoare B c P (first B t) (fun a σ => P σ ∧ a = firstOf σ.k σ.aug t) := by
  unfold first
  refine Hoare.bind (Hoare.load takes_k fun _ => rfl) fun x => Hoare.bind (Hoare.load takes_aug fun _ => rfl) fun y => ?_
  refine Hoare.ret ?_
  rintro σ ⟨⟨hσ, rfl⟩, rfl⟩
  exact ⟨hσ, rfl⟩

/-- One lane tile's scores are stored. -/
theorem scores_run (b : Bool) (o : KOff) (t : Fin 8) (P : St F → Prop) : Hoare B c P (scores B b o t)
    (fun a σ' => ∃ σ, P σ ∧ a = maxTile (scoreOf σ.k σ.aug o t)
      ∧ σ' = σ.setS b (upd (σ.s b) (laneS t) (shapeCast S256x256 (scoreOf σ.k σ.aug o t) shapeCasts_S256x256_S256x256 : FVec F S256x256 .bf16))) := by
  unfold scores
  refine Hoare.bind (Hoare.load takes_k fun _ => rfl) fun x => Hoare.bind (Hoare.load takes_aug fun _ => rfl) fun y => ?_
  refine Hoare.bind (Hoare.load (takes_s b) fun _ => by cases b <;> rfl) fun _ => Hoare.bind (Hoare.store (takes_s b)) fun _ => ?_
  refine Hoare.ret ?_
  rintro σ' ⟨σ, ⟨⟨⟨hσ, rfl⟩, rfl⟩, -⟩, rfl⟩
  exact ⟨σ, hσ, rfl, rfl⟩

/-- One lane tile's scores are accumulated. -/
theorem accum_run (b : Bool) (o : VOff) (al : Option (FVec F S1x2048 .f32)) (t : Fin 8) (P : St F → Prop) : Hoare B c P (accum B b o al t)
    (fun _ σ' => ∃ σ, P σ ∧ σ' = { σ with acc := upd σ.acc (laneAcc t) (accT σ.v o al (σ.s b) σ.acc t) }) := by
  unfold accum
  refine Hoare.bind (Hoare.load (takes_s b) fun _ => by cases b <;> rfl) fun x => Hoare.bind (Hoare.load takes_v fun _ => rfl) fun y => ?_
  refine Hoare.bind (Hoare.load takes_acc fun _ => rfl) fun z => Hoare.bind (Hoare.load takes_acc fun _ => rfl) fun _ => ?_
  refine (Hoare.store takes_acc).conseq (fun _ h => h) ?_
  rintro _ σ' ⟨σ, ⟨⟨⟨⟨hσ, rfl⟩, rfl⟩, rfl⟩, -⟩, rfl⟩
  exact ⟨σ, hσ, rfl⟩

/-- An array replaced whole. -/
theorem upd_whole {S : Shape} {α : Type} (X : S.Idx → α) (r : Rect S) (w : r.shape.Idx → α) (W : S.Idx → α)
    (h : ∀ y, ∃ x, r.emb x = y ∧ w x = W y) : upd X r w = W := by
  funext y
  obtain ⟨x, rfl, hx⟩ := h y
  rw [upd_emb, hx]

/-- The accumulator is emptied. -/
theorem clear_run (P : St F → Prop) : Hoare B c P (clear B) (fun _ σ' => ∃ σ, P σ ∧ σ' = { σ with acc := acc0 }) := by
  unfold clear
  refine Hoare.bind (Hoare.load takes_acc fun _ => rfl) fun _ => ?_
  refine (Hoare.store takes_acc).conseq (fun _ h => h) ?_
  rintro _ σ' ⟨σ, ⟨hσ, -⟩, rfl⟩
  refine ⟨σ, hσ, ?_⟩
  dsimp only
  rw [upd_whole σ.acc _ _ acc0]
  intro y
  refine ⟨y, ?_, rfl⟩
  funext a
  apply Fin.ext
  refine (emb_val (S := S80x2048) (inb := inb_S80x2048_S80x2048_0_0) y a).trans ?_
  fin_cases a <;> exact Nat.zero_add _

/-- The quotient is stored. -/
theorem after_run (P : St F → Prop) : Hoare B c P (after B) (fun _ σ' => ∃ σ, P σ ∧ σ' = { σ with o := finish σ.acc }) := by
  unfold after
  refine Hoare.bind (Hoare.load takes_acc fun _ => rfl) fun x => Hoare.bind (Hoare.load takes_o fun _ => rfl) fun _ => ?_
  refine (Hoare.store takes_o).conseq (fun _ h => h) ?_
  rintro _ σ' ⟨σ, ⟨⟨hσ, rfl⟩, -⟩, rfl⟩
  refine ⟨σ, hσ, ?_⟩
  have e : (part σ.acc (Rect.unit (s := S80x2048) ![0, 0] S80x2048.size inb_S80x2048_S80x2048_0_0) : FVec F S80x2048 .f32) = σ.acc := by
    funext y
    refine congrArg σ.acc ?_
    funext a
    apply Fin.ext
    refine (emb_val (S := S80x2048) (inb := inb_S80x2048_S80x2048_0_0) y a).trans ?_
    fin_cases a <;> exact Nat.zero_add _
  dsimp only
  rw [e, upd_whole σ.o _ _ (finish σ.acc)]
  intro y
  refine ⟨y, ?_, rfl⟩
  funext a
  apply Fin.ext
  refine (emb_val (S := S512x256) (inb := inb_S512x256_S512x256_0_0) y a).trans ?_
  fin_cases a <;> exact Nat.zero_add _

/-! ## Eight tiles -/

/-- Eight tiles in turn, an invariant kept from each to the next. -/
theorem tiles_run {p : Fin 8 → Body F (FVec F S1x256 .f32)} (I : Nat → St F → Prop) (m : Fin 8 → FVec F S1x256 .f32)
    (h : ∀ t : Fin 8, Hoare B c (I t.val) (p t) (fun a σ => a = m t ∧ I (t.val + 1) σ)) :
    Hoare B c (I 0) (tiles p) (fun a σ => a = cat8' (m 0) (m 1) (m 2) (m 3) (m 4) (m 5) (m 6) (m 7) ∧ I 8 σ) := by
  unfold tiles
  have pull : ∀ {β : Type} {e : FVec F S1x256 .f32} {P : St F → Prop} {k : FVec F S1x256 .f32 → Body F β} {Q : β → St F → Prop},
      Hoare B c P (k e) Q → ∀ a, Hoare B c (fun σ => a = e ∧ P σ) (k a) Q := by
    rintro β e P k Q hk a σ ⟨rfl, hσ⟩
    exact hk σ hσ
  refine Hoare.bind (h 0) (pull ?_)
  refine Hoare.bind (h 1) (pull ?_)
  refine Hoare.bind (h 2) (pull ?_)
  refine Hoare.bind (h 3) (pull ?_)
  refine Hoare.bind (h 4) (pull ?_)
  refine Hoare.bind (h 5) (pull ?_)
  refine Hoare.bind (h 6) (pull ?_)
  refine Hoare.bind (h 7) (pull ?_)
  exact Hoare.ret fun σ hσ => ⟨rfl, hσ⟩

variable (q : Vec F S256x512 .bf16) (k : Vec F S8192x128 .bf16) (v : Vec F S80x8192 .bf16)

/-- The blocks are `q`, `k`, `v`, and the extended queries hold the queries and the padding. -/
def Filled (σ : St F) : Prop :=
  σ.q = q ∧ σ.k = k ∧ σ.v = v ∧ (∀ g, part σ.aug (headAug g) = headQs q g) ∧ part σ.aug padRect = pads

/-- Besides, the extended queries are at reference `r`. -/
def At (r : FVec F S1x2048 .f32) (σ : St F) : Prop := Filled q k v σ ∧ σ.aug = augOf q r

/-- Besides, score buffer `b` waits to be accumulated into the accumulator. -/
def Ok (b : Bool) (r : FVec F S1x2048 .f32) (cur : Vec F S256x2048 .bf16) (acc : Vec F S80x2048 .f32) (σ : St F) : Prop :=
  At q k v r σ ∧ σ.s b = cur ∧ σ.acc = acc

variable {q k v}

theorem At.hk {r : FVec F S1x2048 .f32} {σ : St F} (h : At q k v r σ) : σ.k = k := h.1.2.1
theorem At.hv {r : FVec F S1x2048 .f32} {σ : St F} (h : At q k v r σ) : σ.v = v := h.1.2.2.1
theorem At.setS {r : FVec F S1x2048 .f32} {σ : St F} {b X} (h : At q k v r σ) : At q k v r (σ.setS b X) := by
  cases b <;> exact h

theorem setAcc_s (σ : St F) (X) (b) : ({ σ with acc := X } : St F).s b = σ.s b := by cases b <;> rfl
theorem setAcc_acc (σ : St F) (X) : ({ σ with acc := X } : St F).acc = X := rfl
theorem setAug_aug (σ : St F) (X) : ({ σ with aug := X } : St F).aug = X := rfl
theorem At.setAcc {r : FVec F S1x2048 .f32} {σ : St F} {X} (h : At q k v r σ) : At q k v r { σ with acc := X } := h

/-- Eight tiles of scores. -/
theorem scores8_run (b : Bool) (o : KOff) (r : FVec F S1x2048 .f32) (acc : Vec F S80x2048 .f32) :
    Hoare B c (fun σ => At q k v r σ ∧ σ.acc = acc) (tiles fun t => scores B b o t)
      (fun a σ => a = maxOf k (augOf q r) o ∧ Ok q k v b r (scoresOf k (augOf q r) o) acc σ) := by
  refine (tiles_run (fun n σ => (At q k v r σ ∧ σ.acc = acc) ∧ ∀ t : Fin 8, t.val < n → part (σ.s b) (laneS t)
      = (shapeCast S256x256 (scoreOf k (augOf q r) o t) shapeCasts_S256x256_S256x256 : FVec F S256x256 .bf16))
    (fun t => maxTile (scoreOf k (augOf q r) o t)) fun t => ?_).conseq (fun σ hσ => ⟨hσ, fun t ht => absurd ht (Nat.not_lt_zero _)⟩) ?_
  · refine (scores_run b o t _).conseq (fun _ h => h) ?_
    rintro a σ' ⟨σ, ⟨⟨hA, hacc⟩, hs⟩, rfl, e₁⟩
    have hA' : At q k v r σ' := by rw [e₁]; exact hA.setS
    have hacc' : σ'.acc = acc := by rw [e₁, setS_acc, hacc]
    have hs' := congrArg (fun σ : St F => σ.s b) e₁
    simp only [setS_s, hA.hk, hA.2] at hs'
    rw [hA.hk, hA.2]
    refine ⟨rfl, ⟨hA', hacc'⟩, fun t' ht' => ?_⟩
    rw [hs']
    by_cases e : t = t'
    · subst e
      exact part_upd _ _ _
    · rw [part_upd_of_apart _ _ _ _ (apart_laneS e)]
      refine hs t' ?_
      have : t.val ≠ t'.val := fun h => e (Fin.ext h)
      omega
  · rintro a σ ⟨rfl, ⟨h, hacc⟩, hs⟩
    exact ⟨rfl, h, eq_glueS fun t => hs t t.isLt, hacc⟩

/-- One step. -/
theorem step_run (b : Bool) (ko : KOff) (vo : VOff) (al : Option (FVec F S1x2048 .f32)) (r : FVec F S1x2048 .f32)
    (cur : Vec F S256x2048 .bf16) (acc : Vec F S80x2048 .f32) :
    Hoare B c (Ok q k v (!b) r cur acc) (step B b ko vo al)
      (fun a σ => a = maxOf k (augOf q r) ko ∧ Ok q k v b r (scoresOf k (augOf q r) ko) (accOf v vo al cur acc) σ) := by
  unfold step
  refine (tiles_run (fun n σ => (At q k v r σ ∧ σ.s (!b) = cur) ∧ (∀ t : Fin 8, t.val < n → part (σ.s b) (laneS t)
        = (shapeCast S256x256 (scoreOf k (augOf q r) ko t) shapeCasts_S256x256_S256x256 : FVec F S256x256 .bf16))
      ∧ (∀ t : Fin 8, t.val < n → part σ.acc (laneAcc t) = accT v vo al cur acc t)
      ∧ (∀ t : Fin 8, n ≤ t.val → part σ.acc (laneAcc t) = part acc (laneAcc t)))
    (fun t => maxTile (scoreOf k (augOf q r) ko t)) fun t => ?_).conseq
      (fun σ hσ => ⟨⟨hσ.1, hσ.2.1⟩, fun t ht => absurd ht (Nat.not_lt_zero _), fun t ht => absurd ht (Nat.not_lt_zero _), fun t _ => by rw [hσ.2.2]⟩) ?_
  · refine Hoare.bind (scores_run b ko t _) fun m => Hoare.bind (accum_run (!b) vo al t _) fun _ => Hoare.ret ?_
    rintro σ' ⟨σ₁, ⟨σ, ⟨⟨hA, hcur⟩, hs, hacc, hrest⟩, rfl, e₁⟩, e₂⟩
    have hA₁ : At q k v r σ₁ := by rw [e₁]; exact hA.setS
    have hA' : At q k v r σ' := by rw [e₂]; exact hA₁.setAcc
    have hc₁ : σ₁.s (!b) = cur := by rw [e₁, setS_s_not, hcur]
    have hc' : σ'.s (!b) = cur := by rw [e₂, setAcc_s, hc₁]
    have hs' : σ'.s b = σ₁.s b := by rw [e₂, setAcc_s]
    have hs₁ := congrArg (fun σ : St F => σ.s b) e₁
    simp only [setS_s, hA.hk, hA.2] at hs₁
    have ha₁ : σ₁.acc = σ.acc := by rw [e₁, setS_acc]
    have ha' := congrArg St.acc e₂
    simp only [ha₁, hA₁.hv, hc₁] at ha'
    clear e₁ e₂
    rw [hA.hk, hA.2]
    refine ⟨rfl, ⟨hA', hc'⟩, fun t' ht' => ?_, fun t' ht' => ?_, fun t' ht' => ?_⟩
    · rw [hs', hs₁]
      by_cases e : t = t'
      · subst e
        exact part_upd _ _ _
      · rw [part_upd_of_apart _ _ _ _ (apart_laneS e)]
        refine hs t' ?_
        have : t.val ≠ t'.val := fun h => e (Fin.ext h)
        omega
    · rw [ha']
      by_cases e : t = t'
      · subst e
        rw [part_upd]
        unfold accT
        rw [hrest t le_rfl]
      · rw [part_upd_of_apart _ _ _ _ (apart_laneAcc e)]
        refine hacc t' ?_
        have : t.val ≠ t'.val := fun h => e (Fin.ext h)
        omega
    · have e : t ≠ t' := fun h => by subst h; omega
      rw [ha', part_upd_of_apart _ _ _ _ (apart_laneAcc e)]
      exact hrest t' (by omega)
  · rintro a σ ⟨rfl, ⟨h, hcur⟩, hs, hacc, -⟩
    exact ⟨rfl, h, eq_glueS fun t => hs t t.isLt, eq_glueAcc fun t => hacc t t.isLt⟩

/-- The reference moves. -/
theorem setRef_at (r' : FVec F S1x2048 .f32) (J : St F → Prop) (hJ : ∀ σ X, J σ → J { σ with aug := X }) :
    Hoare B c (fun σ => Filled q k v σ ∧ J σ) (setRef B r') (fun _ σ => At q k v r' σ ∧ J σ) := by
  refine (setRef_run r' _).conseq (fun _ h => h) ?_
  rintro _ σ' ⟨σ, ⟨⟨hq, hk, hv, hH, hP⟩, hj⟩, rfl⟩
  have hH' : ∀ g, part (upd σ.aug refRect (refs r')) (headAug g) = headQs q g := fun g => by
    rw [part_upd_of_apart _ _ _ _ (apart_ref_head g), hH]
  have hP' : part (upd σ.aug refRect (refs r')) padRect = pads := by
    rw [part_upd_of_apart _ _ _ _ apart_ref_pad, hP]
  exact ⟨⟨⟨hq, hk, hv, hH', hP'⟩, eq_glueAug hH' (part_upd _ _ _) hP'⟩, hJ _ _ hj⟩

/-! ## Groups and sweeps -/

/-- The sweep stands at `w`, its scores in buffer `b`. -/
def Is (q : Vec F S256x512 .bf16) (k : Vec F S8192x128 .bf16) (v : Vec F S80x8192 .bf16) (b : Bool) (w : Sw F) : St F → Prop :=
  Ok q k v b w.c.1 w.cur w.acc

/-- The steps' numbers alternate, the first filling buffer `b`. -/
def Alt : Bool → List (Fin 8) → Prop
  | _, [] => True
  | b, u :: us => (u.val % 2 == 0) = b ∧ Alt (!b) us

/-- The buffer filled last. -/
def lastB : Bool → List (Fin 8) → Bool
  | b, [] => !b
  | b, _ :: us => lastB (!b) us

/-- Steps that keep the reference. -/
theorem plain_run (ko : Fin 8 → KOff) (vo : Fin 8 → VOff) : ∀ (us : List (Fin 8)) (b : Bool) (w : Sw F), Alt b us →
    Hoare B c (Is q k v (!b) w) (plain B ko vo us w.c)
      (fun a σ => a = (Sw.plain q k v ko vo us w).c ∧ Is q k v (lastB b us) (Sw.plain q k v ko vo us w) σ)
  | [], b, w, _ => Hoare.ret fun σ hσ => ⟨rfl, hσ⟩
  | u :: us, b, w, h => by
    unfold plain Sw.plain
    rw [h.1]
    refine Hoare.bind (step_run b (ko u) (vo u) none w.c.1 w.cur w.acc) fun m => ?_
    rintro σ ⟨rfl, hσ⟩
    have ih := plain_run ko vo us (!b) (Sw.step q k v w.c.1 (ko u) (vo u) none w) h.2
    rw [Bool.not_not] at ih
    exact ih σ hσ

/-- A group of steps, from scores in the buffer `false`. -/
theorem group_run (ko : Fin 8 → KOff) (vo : Fin 8 → VOff) (us : List (Fin 8)) (hus : Alt true us) (w : Sw F) :
    Hoare B c (Is q k v false w) (group B ko vo us w.c)
      (fun a σ => a = (Sw.group q k v ko vo us w).c ∧ Is q k v (lastB true us) (Sw.group q k v ko vo us w) σ) := by
  unfold group Sw.group
  refine Hoare.bind ((setRef_at (q := q) (k := k) (v := v) (rnd w.c.2.2.1) (fun σ => σ.s false = w.cur ∧ σ.acc = w.acc)
    (fun _ _ h => h)).conseq (fun σ hσ => ⟨hσ.1.1, hσ.2⟩) (fun _ _ h => h)) fun _ => ?_
  refine Hoare.bind (step_run true (ko 0) (vo 0) none (rnd w.c.2.2.1) w.cur w.acc) fun m => ?_
  rintro σ ⟨rfl, hσ⟩
  revert σ
  refine Hoare.bind (step_run false (ko 1) (vo 1) _ (rnd w.c.2.2.1) _ _) fun m => ?_
  rintro σ ⟨rfl, hσ⟩
  exact plain_run ko vo us true (Sw.step q k v (rnd w.c.2.2.1) (ko 1) (vo 1) (some (exp2 (subf w.c.1 (rnd w.c.2.2.1))))
    (Sw.step q k v (rnd w.c.2.2.1) (ko 0) (vo 0) none w)) hus σ hσ

/-- A sweep's start. -/
theorem head_run (top over : FVec F S1x2048 .f32) :
    Hoare B c (Filled q k v) (head B top) (fun a σ => a = (Sw.start q k top over).c.2.1 ∧ Is q k v false (Sw.start q k top over) σ) := by
  unfold head
  refine Hoare.bind ((clear_run (Filled q k v)).conseq (Q' := fun _ σ => Filled q k v σ ∧ σ.acc = acc0) (fun _ h => h) ?_) fun _ => ?_
  · rintro _ σ' ⟨σ, hσ, rfl⟩
    exact ⟨hσ, rfl⟩
  refine Hoare.bind (setRef_at (q := q) (k := k) (v := v) (rnd top) (fun σ => σ.acc = acc0) (fun _ _ h => h)) fun _ => ?_
  exact scores8_run false (kAt 0) (rnd top) acc0

/-- The last group and the last accumulation. -/
theorem tail_run (w : Sw F) : Hoare B c (Is q k v false w) (tail B w.c)
    (fun a σ => a = (maximumf (Sw.tail q k v w).c.2.2.1 (addf (Sw.tail q k v w).c.1 (Sw.tail q k v w).c.2.1), maximumf (Sw.tail q k v w).c.2.2.2 (Sw.tail q k v w).c.2.1)
      ∧ Filled q k v σ ∧ σ.acc = (Sw.tail q k v w).acc) := by
  unfold tail
  refine Hoare.bind (group_run _ _ [2, 3, 4, 5, 6] ⟨rfl, rfl, rfl, rfl, rfl, trivial⟩ w) fun a => ?_
  rintro σ ⟨rfl, hσ⟩
  revert σ
  unfold Sw.tail
  dsimp only
  generalize hw : Sw.group q k v (fun u => kAt ⟨(25 + u.val) % 32, Nat.mod_lt _ (by decide)⟩) (fun u => vAt ⟨(24 + u.val) % 32, Nat.mod_lt _ (by decide)⟩)
    [2, 3, 4, 5, 6] w = w'
  have one : ∀ t : Fin 8, Hoare B c
      (fun σ => (At q k v w'.c.1 σ ∧ σ.s true = w'.cur) ∧ (∀ t' : Fin 8, t'.val < t.val → part σ.acc (laneAcc t') = accT v (vAt 31) none w'.cur w'.acc t')
        ∧ (∀ t' : Fin 8, t.val ≤ t'.val → part σ.acc (laneAcc t') = part w'.acc (laneAcc t')))
      (accum B true (vAt 31) none t)
      (fun _ σ => (At q k v w'.c.1 σ ∧ σ.s true = w'.cur) ∧ (∀ t' : Fin 8, t'.val < t.val + 1 → part σ.acc (laneAcc t') = accT v (vAt 31) none w'.cur w'.acc t')
        ∧ (∀ t' : Fin 8, t.val + 1 ≤ t'.val → part σ.acc (laneAcc t') = part w'.acc (laneAcc t'))) := by
    intro t
    refine (accum_run true (vAt 31) none t _).conseq (fun _ h => h) ?_
    rintro _ σ' ⟨σ, ⟨⟨hA, hcur⟩, hacc, hrest⟩, e₁⟩
    have hA' : At q k v w'.c.1 σ' := by rw [e₁]; exact hA.setAcc
    have hc' : σ'.s true = w'.cur := by rw [e₁, setAcc_s, hcur]
    have ha' := congrArg St.acc e₁
    simp only [hA.hv, hcur] at ha'
    clear e₁
    refine ⟨⟨hA', hc'⟩, fun t' ht' => ?_, fun t' ht' => ?_⟩
    · rw [ha']
      by_cases e : t = t'
      · subst e
        rw [part_upd]
        unfold accT
        rw [hrest t le_rfl]
      · rw [part_upd_of_apart _ _ _ _ (apart_laneAcc e)]
        refine hacc t' ?_
        have : t.val ≠ t'.val := fun h => e (Fin.ext h)
        omega
    · have e : t ≠ t' := fun h => by subst h; omega
      rw [ha', part_upd_of_apart _ _ _ _ (apart_laneAcc e)]
      exact hrest t' (by omega)
  refine Hoare.bind ((one 0).conseq (fun σ hσ => ⟨⟨hσ.1, hσ.2.1⟩, fun t ht => absurd ht (Nat.not_lt_zero _), fun t _ => by rw [hσ.2.2]⟩) (fun _ _ h => h)) fun _ => ?_
  refine Hoare.bind (one 1) fun _ => ?_
  refine Hoare.bind (one 2) fun _ => ?_
  refine Hoare.bind (one 3) fun _ => ?_
  refine Hoare.bind (one 4) fun _ => ?_
  refine Hoare.bind (one 5) fun _ => ?_
  refine Hoare.bind (one 6) fun _ => ?_
  refine Hoare.bind (one 7) fun _ => Hoare.ret ?_
  rintro σ ⟨⟨hA, -⟩, hacc, -⟩
  exact ⟨rfl, hA.1, eq_glueAcc fun t => hacc t t.isLt⟩

/-- A counted loop whose body takes each state to the next. -/
theorem for_run {α β : Type} {n : Nat} (body : Fin n → α → Body F α) (step : Fin n → β → β) (out : β → α) (I : β → St F → Prop)
    (h : ∀ i w, Hoare B c (I w) (body i (out w)) (fun a σ => a = out (step i w) ∧ I (step i w) σ)) :
    ∀ (l : List (Fin n)) (w : β), Hoare B c (I w) (Scf.forFrom body l (out w))
      (fun a σ => a = out (l.foldl (fun w i => step i w) w) ∧ I (l.foldl (fun w i => step i w) w) σ)
  | [], w => Hoare.ret fun σ hσ => ⟨rfl, hσ⟩
  | i :: l, w => by
    rw [Scf.forFrom_cons]
    refine Hoare.bind (h i w) fun a => ?_
    rintro σ ⟨rfl, hσ⟩
    exact for_run body step out I h l (step i w) σ hσ

/-- The first sweep's loop. -/
theorem loop1_run (w : Sw F) : Hoare B c (Is q k v false w) (loop1 B w.c)
    (fun a σ => a = (Sw.loop1 q k v w).c ∧ Is q k v false (Sw.loop1 q k v w) σ) := by
  unfold loop1 Scf.Loop.for
  rw [Scf.for_eq]
  exact for_run _ _ Sw.c (Is q k v false) (fun i w => group_run _ _ [2, 3, 4, 5, 6, 7] ⟨rfl, rfl, rfl, rfl, rfl, rfl, trivial⟩ w) _ w

/-- The second sweep's loop. -/
theorem loop2_run (w : Sw F) : Hoare B c (Is q k v false w) (loop2 B (w.c.1, w.c.2.1, w.c.2.2.1))
    (fun a σ => a = ((Sw.loop2 q k v w).c.1, (Sw.loop2 q k v w).c.2.1, (Sw.loop2 q k v w).c.2.2.1) ∧ Is q k v false (Sw.loop2 q k v w) σ) := by
  unfold loop2 Scf.Loop.for
  rw [Scf.for_eq]
  refine for_run _ (fun i w => Sw.group q k v (fun u => ⟨k0_off3 i (BitVec.ofNat 32 u.val), k0_off3_inb i u⟩)
    (fun u => ⟨k0_off4 i (BitVec.ofNat 32 u.val), k0_off4_inb i u⟩) [2, 3, 4, 5, 6, 7] (Sw.reset w)) (fun w => (w.c.1, w.c.2.1, w.c.2.2.1)) (Is q k v false) (fun i w => ?_) _ w
  refine Hoare.bind (group_run _ _ [2, 3, 4, 5, 6, 7] ⟨rfl, rfl, rfl, rfl, rfl, rfl, trivial⟩ (Sw.reset w)) fun a => Hoare.ret ?_
  rintro σ ⟨rfl, hσ⟩
  exact ⟨rfl, hσ⟩

/-- Before the sweeps. -/
theorem before_run : Hoare B c (fun σ => σ.q = q ∧ σ.k = k ∧ σ.v = v) (before B)
    (fun a σ => a = topOf k (augOf q (broadcast S1x2048 (Scalar.ofBits .f32 0x00000000#32))) ∧ Filled q k v σ) := by
  unfold before
  have fill : ∀ g : Fin 4, Hoare B c
      (fun σ => (σ.q = q ∧ σ.k = k ∧ σ.v = v) ∧ ∀ g' : Fin 4, g'.val < g.val → part σ.aug (headAug g') = headQs q g')
      (fillHead B g)
      (fun _ σ => (σ.q = q ∧ σ.k = k ∧ σ.v = v) ∧ ∀ g' : Fin 4, g'.val < g.val + 1 → part σ.aug (headAug g') = headQs q g') := by
    intro g
    refine (fillHead_run g _).conseq (fun _ h => h) ?_
    rintro _ σ' ⟨σ, ⟨h, hH⟩, e₁⟩
    have h' : σ'.q = q ∧ σ'.k = k ∧ σ'.v = v := by rw [e₁]; exact h
    have ha' := congrArg St.aug e₁
    simp only [h.1] at ha'
    clear e₁
    refine ⟨h', fun g' hg' => ?_⟩
    rw [ha']
    by_cases e : g = g'
    · subst e
      rw [part_upd]
    · rw [part_upd_of_apart _ _ _ _ (apart_headAug e)]
      refine hH g' ?_
      have : g.val ≠ g'.val := fun h => e (Fin.ext h)
      omega
  refine Hoare.bind ((fill 0).conseq (fun σ hσ => ⟨hσ, fun t ht => absurd ht (Nat.not_lt_zero _)⟩) (fun _ _ h => h)) fun _ => ?_
  refine Hoare.bind (fill 1) fun _ => ?_
  refine Hoare.bind (fill 2) fun _ => ?_
  refine Hoare.bind (fill 3) fun _ => ?_
  refine Hoare.bind ((fillPad_run _).conseq (Q' := fun _ σ => Filled q k v σ ∧ True) (fun _ h => h) ?_) fun _ => ?_
  · rintro _ σ' ⟨σ, ⟨h, hH⟩, e₁⟩
    have h' : σ'.q = q ∧ σ'.k = k ∧ σ'.v = v := by rw [e₁]; exact h
    have ha' := congrArg St.aug e₁
    simp only at ha'
    clear e₁
    refine ⟨⟨h'.1, h'.2.1, h'.2.2, fun g => ?_, ?_⟩, trivial⟩
    · rw [ha', part_upd_of_apart _ _ _ _ (apart_pad_head g)]
      exact hH g g.isLt
    · rw [ha', part_upd]
  refine Hoare.bind (setRef_at (q := q) (k := k) (v := v) (broadcast S1x2048 (Scalar.ofBits .f32 0x00000000#32)) (fun _ => True) (fun _ _ h => h)) fun _ => ?_
  refine (tiles_run (fun _ σ => At q k v (broadcast S1x2048 (Scalar.ofBits .f32 0x00000000#32)) σ)
    (firstOf k (augOf q (broadcast S1x2048 (Scalar.ofBits .f32 0x00000000#32)))) fun t => ?_).conseq (fun σ hσ => hσ.1) ?_
  · refine (first_run t _).conseq (fun _ h => h) ?_
    rintro a σ ⟨hA, rfl⟩
    rw [hA.hk, hA.2]
    exact ⟨rfl, hA⟩
  · rintro a σ ⟨rfl, hA⟩
    exact ⟨rfl, hA.1⟩

/-- The second sweep's end. -/
theorem tail2_run (w : Sw F) : Hoare B c (Is q k v false w) (tail B (w.c.1, w.c.2.1, w.c.2.2.1, w.c.2.2.1) >>= fun _ => pure PUnit.unit)
    (fun _ σ => Filled q k v σ ∧ σ.acc = (Sw.tail q k v (Sw.reset w)).acc) := by
  refine Hoare.bind (R := fun _ σ => Filled q k v σ ∧ σ.acc = (Sw.tail q k v (Sw.reset w)).acc)
    ((tail_run (B := B) (c := c) (Sw.reset w)).conseq (fun σ h => (h : Ok q k v false w.c.1 w.cur w.acc σ)) fun a σ h => h.2) fun _ => Hoare.ret fun σ h => h

/-- A known result is put in place. -/
theorem Hoare.pull {α β : Type} {e : α} {P : St F → Prop} {k : α → Body F β} {Q : β → St F → Prop}
    (hk : Hoare B c P (k e) Q) (a : α) : Hoare B c (fun σ => a = e ∧ P σ) (k a) Q := by
  rintro σ ⟨rfl, hσ⟩
  exact hk σ hσ

/-- The second sweep after its start. -/
theorem again2_run (w : Sw F) (w2 : Sw F) (x : FVec F S1x2048 .f32 × FVec F S1x2048 .f32 × FVec F S1x2048 .f32)
    (h1 : Hoare B c (Is q k v false w) (loop2 B x) (fun a σ => a = (w2.c.1, w2.c.2.1, w2.c.2.2.1) ∧ Is q k v false w2 σ)) :
    Hoare B c (Is q k v false w) (loop2 B x >>= fun c => tail B (c.1, c.2.1, c.2.2, c.2.2) >>= fun _ => pure PUnit.unit)
      (fun _ σ => Filled q k v σ ∧ σ.acc = (Sw.tail q k v (Sw.reset w2)).acc) :=
  Hoare.bind h1 (Hoare.pull (tail2_run w2))

/-- The second sweep. -/
theorem again_run (top : FVec F S1x2048 .f32) : Hoare B c (Filled q k v) (again B top)
    (fun _ σ => Filled q k v σ ∧ σ.acc = (Sw.tail q k v (Sw.reset (Sw.loop2 q k v (Sw.start q k top top)))).acc) := by
  unfold again
  exact Hoare.bind (head_run top top) (Hoare.pull (again2_run (Sw.start q k top top) (Sw.loop2 q k v (Sw.start q k top top)) _ (loop2_run (Sw.start q k top top))))

/-- The first sweep, from a top. -/
theorem sweep1_run (t0 o0 : FVec F S1x2048 .f32) (K : FVec F S1x2048 .f32 × FVec F S1x2048 .f32 → Body F PUnit) (Q : PUnit → St F → Prop)
    (hK : ∀ w : Sw F, w = Sw.tail q k v (Sw.loop1 q k v (Sw.start q k t0 o0)) →
      Hoare B c (fun σ => Filled q k v σ ∧ σ.acc = w.acc) (K (maximumf w.c.2.2.1 (addf w.c.1 w.c.2.1), maximumf w.c.2.2.2 w.c.2.1)) Q) :
    Hoare B c (Filled q k v) (head B t0 >>= fun m => loop1 B (rnd t0, m, t0, o0) >>= fun w => tail B w >>= K) Q := by
  refine Hoare.bind (head_run t0 o0) fun m => ?_
  rintro σ ⟨rfl, hσ⟩
  revert σ
  refine Hoare.bind (loop1_run (Sw.start q k t0 o0)) fun a => ?_
  rintro σ ⟨ha, hσ⟩
  generalize Sw.loop1 q k v (Sw.start q k t0 o0) = w1 at ha hσ hK
  subst ha
  revert σ
  refine Hoare.bind (tail_run w1) fun a => ?_
  generalize Sw.tail q k v w1 = w at hK
  rintro σ ⟨rfl, hσ⟩
  exact hK _ rfl σ hσ

/-- The whole body: it leaves the three input blocks as they were, and the output block at `outOf q k v`. -/
theorem body_run : Hoare B c (fun σ => σ.q = q ∧ σ.k = k ∧ σ.v = v) (body B)
    (fun _ σ => (σ.q = q ∧ σ.k = k ∧ σ.v = v) ∧ σ.o = outOf q k v) := by
  unfold body
  refine Hoare.bind before_run fun t0 => ?_
  rintro σ ⟨ht, hσ⟩
  revert σ
  have ho : outOf q k v = outOf q k v := rfl
  conv_rhs at ho => unfold outOf
  dsimp only at ho
  rw [← ht] at ho
  refine sweep1_run t0 _ _ _ fun w hw => ?_
  rw [← hw] at ho
  refine Hoare.bind (R := fun _ σ => Filled q k v σ ∧ finish σ.acc = outOf q k v) ?_ fun _ => (after_run _).conseq (fun _ h => h) ?_
  · rw [ho]
    clear ho hw
    dsimp only
    split_ifs with h
    · refine (again_run _).conseq (fun σ hσ => hσ.1) ?_
      rintro _ σ ⟨hσ, hacc⟩
      exact ⟨hσ, by rw [hacc]⟩
    · exact Hoare.ret fun σ hσ => ⟨hσ.1, by rw [hσ.2]⟩
  · rintro _ σ' ⟨σ, ⟨hσ, h⟩, rfl⟩
    exact ⟨⟨hσ.1, hσ.2.1, hσ.2.2.1⟩, h⟩

end Cert.KernelIdeal.Axial
-- ==== Proof.Run.lean ====
/-
  The attention call's run, over any values: the body's run at each grid point, the pipeline's proof data, the launch.
-/
module

public import Idealize.ShloMosaic.Lib.Claim
public import proofs.«01_k».proof.Proof.Sweep
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.KernelIdeal.Axial

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The eight buffers at a point. -/
def bufsAt (t : Fin cfg0.N) : Bufs where
  q := st0_0 t
  hq := hstage0_0 ((cfg0.slots t 0).cast nbuf0_0)
  k := st0_1 t
  hk := hstage0_1 ((cfg0.slots t 1).cast nbuf0_1)
  v := st0_2 t
  hv := hstage0_2 ((cfg0.slots t 2).cast nbuf0_2)
  o := st0_3 t
  ho := hstage0_3 ((cfg0.slots t 3).cast nbuf0_3)
  aug := Memref.whole cc0_scratch0
  haug := Memref.isWhole_whole _
  s0 := Memref.whole cc0_scratch1
  hs0 := Memref.isWhole_whole _
  s1 := Memref.whole cc0_scratch2
  hs1 := Memref.isWhole_whole _
  acc := Memref.whole cc0_scratch3
  hacc := Memref.isWhole_whole _

/-- What the body leaves in the output's block at a point. -/
def outAt (c : Dev nD) (t : Fin cfg0.N) : Vec F S512x256 .bf16 := outOf (iblk m c 0 t) (iblk m c 1 t) (iblk m c 2 t)

/-- The arrays as the region finds them; after the body each input block in place and the output block at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := ΦA spec0 c
  q _ := fullShare
  owed _ := 0

theorem A_eq (c : Dev nD) (w : Fin cfg0.W) : (dats m 0 c).A w = V m c (Pipeline.arrRef spec0 w) := rfl
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

/-- Each input's buffer holds its block when the body runs. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- The body at a point, on its staging and scratch buffers. -/
theorem row (t : Fin cfg0.N) : defs₀ (F := F) .tc cfg0.body (cfg0.bodyArgs t (cfg0.slots t)) = body (bufsAt t) := by
  have h : defs₀ (F := F) .tc cfg0.body (cfg0.bodyArgs t (cfg0.slots t)) = bodyAt0 t := by
    unfold defs₀; rw [Defs.onTc_tc]
  rw [h]
  exact body_eq (grid0.coords t) (bufsAt t)

/-- A scratch buffer held at some contents, as a memref. -/
theorem scratch_eq (c : Dev nD) (b : Ref sig .tc) :
    iprop(∃ f : Buf (Elt F) ((c : Thread nD τ).loc b), ((c : Thread nD τ).loc b) ↦{fullShare} f)
      = (iprop(∃ X, owns (c : Thread nD τ) (Memref.whole b) fullShare X) : sProp 𝕄) :=
  congrArg BIBase.exists (funext fun f => (owns_whole (c : Thread nD τ) b fullShare f).symm)

/-- The scratch buffers, each at some contents. -/
def Scratch (c : Dev nD) : sProp 𝕄 :=
  iprop((∃ X : Vec F S128x2048 .bf16, owns (c : Thread nD τ) (Memref.whole cc0_scratch0) fullShare X)
    ∗ (∃ X : Vec F S256x2048 .bf16, owns (c : Thread nD τ) (Memref.whole cc0_scratch1) fullShare X)
    ∗ (∃ X : Vec F S256x2048 .bf16, owns (c : Thread nD τ) (Memref.whole cc0_scratch2) fullShare X)
    ∗ (∃ X : Vec F S80x2048 .f32, owns (c : Thread nD τ) (Memref.whole cc0_scratch3) fullShare X))

theorem scratch_rest (c : Dev nD) :
    Pipeline.scopedRest (Ix := Unit) (Name := ℕ) (U := UR sig nD τ) (Lvl := ℕ) (Val := Elt F) spec0 c = (Scratch c : sProp 𝕄) := by
  rw [scopedRest0_eq, scratch_eq, scratch_eq, scratch_eq, scratch_eq]
  rfl

/-- The eight buffers, from the staged blocks and the scratch. -/
theorem own_intro (B : Bufs) (c : Dev nD) (σ : St F) :
    iprop(owns (c : Thread nD τ) B.q fullShare σ.q ∗ owns (c : Thread nD τ) B.k fullShare σ.k ∗ owns (c : Thread nD τ) B.v fullShare σ.v
      ∗ owns (c : Thread nD τ) B.o fullShare σ.o ∗ owns (c : Thread nD τ) B.aug fullShare σ.aug ∗ owns (c : Thread nD τ) B.s0 fullShare σ.s0
      ∗ owns (c : Thread nD τ) B.s1 fullShare σ.s1 ∗ owns (c : Thread nD τ) B.acc fullShare σ.acc) ⊢ (Own B c σ : sProp 𝕄) := by
  unfold Own; exact .rfl

/-- The body's run at a point: the scratch buffers come and go at some contents. -/
theorem point_run (B : Bufs) (c : Dev nD) (q : Vec F S256x512 .bf16) (k : Vec F S8192x128 .bf16) (v : Vec F S80x8192 .bf16) (K : PUnit → sProp 𝕄) :
    iprop(((∃ X, owns (c : Thread nD τ) B.aug fullShare X) ∗ (∃ X, owns (c : Thread nD τ) B.s0 fullShare X)
          ∗ (∃ X, owns (c : Thread nD τ) B.s1 fullShare X) ∗ (∃ X, owns (c : Thread nD τ) B.acc fullShare X))
        ∗ owns (c : Thread nD τ) B.q fullShare q ∗ owns (c : Thread nD τ) B.k fullShare k
        ∗ owns (c : Thread nD τ) B.v fullShare v ∗ (∃ d, owns (c : Thread nD τ) B.o fullShare d)
        ∗ (iprop(((∃ X, owns (c : Thread nD τ) B.aug fullShare X) ∗ (∃ X, owns (c : Thread nD τ) B.s0 fullShare X)
              ∗ (∃ X, owns (c : Thread nD τ) B.s1 fullShare X) ∗ (∃ X, owns (c : Thread nD τ) B.acc fullShare X))
            ∗ owns (c : Thread nD τ) B.q fullShare q ∗ owns (c : Thread nD τ) B.k fullShare k
            ∗ owns (c : Thread nD τ) B.v fullShare v ∗ owns (c : Thread nD τ) B.o fullShare (outOf q k v)) -∗ K ⟨⟩))
      ⊢ wp frame (wpE (defs₀ (F := F)) Variants.none c none) Set.univ (body B) K := by
  iintro ⟨⟨⟨%fa, Ha⟩, ⟨%f0, H0⟩, ⟨%f1, H1⟩, ⟨%fc, Hc⟩⟩, Hq, Hk, Hv, ⟨%d, Ho⟩, HK⟩
  iapply (wp_wand _ _ _) $$ [Ha H0 H1 Hc Hq Hk Hv Ho]
  · iapply (body_run (B := B) (c := c) (q := q) (k := k) (v := v) ⟨q, k, v, d, fa, f0, f1, fc⟩ ⟨rfl, rfl, rfl⟩)
    unfold Own
    isplitl [Hq]; · iexact Hq
    isplitl [Hk]; · iexact Hk
    isplitl [Hv]; · iexact Hv
    isplitl [Ho]; · iexact Ho
    isplitl [Ha]; · iexact Ha
    isplitl [H0]; · iexact H0
    isplitl [H1]; · iexact H1
    iexact Hc
  iintro %_ ⟨%σ, %hσ, H⟩
  obtain ⟨⟨rfl, rfl, rfl⟩, ho⟩ := hσ
  unfold Own
  rw [ho]
  icases H with ⟨Hq, Hk, Hv, Ho, Ha, H0, H1, Hc⟩
  iapply HK
  isplitl [Ha H0 H1 Hc]
  · isplitl [Ha]
    · iexists σ.aug; iexact Ha
    isplitl [H0]
    · iexists σ.s0; iexact H0
    isplitl [H1]
    · iexists σ.s1; iexact H1
    iexists σ.acc; iexact Hc
  isplitl [Hq]; · iexact Hq
  isplitl [Hk]; · iexact Hk
  isplitl [Hv]; · iexact Hv
  iexact Ho

/-- The body at every point. -/
theorem body_obligation (c : Dev nD) : BodyObligation (dats (F := F) m 0 c) (defs₀ (F := F)) Variants.none () Set.univ := fun t => by
  rw [bigSep_W0, bigSep_W0, row]
  simp only [before0, before1, before2]
  rw [show (dats m 0 c).Φ t.succ = (dats m 0 c).Φ t.castSucc from rfl,
    show (dats m 0 c).owesAt () t.succ = (dats m 0 c).owesAt () t.castSucc from rfl, after0, after1, after2, after3,
    show (dats m 0 c).Φ t.castSucc = ΦA spec0 c from rfl]
  unfold outAt ΦA
  rw [scratch_rest]
  unfold Scratch
  iintro ⟨⟨Hs, Hr⟩, Ho, ⟨%d0, H0⟩, ⟨%d1, H1⟩, ⟨%d2, H2⟩, ⟨%d3, H3⟩⟩
  iapply (point_run (bufsAt t) c (iblk m c 0 t) (iblk m c 1 t) (iblk m c 2 t))
  isplitl [Hs]; · iexact Hs
  isplitl [H0]; · iexact H0
  isplitl [H1]; · iexact H1
  isplitl [H2]; · iexact H2
  isplitl [H3]; · iexists _; iexact H3
  iintro ⟨Hs, H0, H1, H2, H3⟩
  isplitl [Hs Hr]
  · isplitl [Hs]; · iexact Hs
    iexact Hr
  isplitl [Ho]; · iexact Ho
  isplitl [H0]; · iexact H0
  isplitl [H1]; · iexact H1
  isplitl [H2]; · iexact H2
  iexact H3

/-! ## The launch -/

set_option backward.isDefEq.respectTransparency.types false in
set_option maxHeartbeats 800000 in
/-- From any memory with zero counters every weakly fair execution terminates; every final state has the pipeline's
    arrays at what the proof data give, and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := fun _ _ => rfl) (hΦ := fun _ _ => rfl)

/-- The argument arrays end as launched, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Axial
-- ==== Proof.Same.lean ====
/-
  The printed attention kernel and its idealization have the same text, so at the bit patterns they are the same program.
-/
module

public import proofs.«01_k».proof.Defs
public import proofs.«01_k».proof.Proof.Run
public import proofs.«01_k».proof.Proof.Gen.Kernel

@[expose] public section

set_option maxRecDepth 16384

namespace Cert.Same

open Idealize.ShloMosaic Idealize.SL.Sem

/-- The two programs' body tables agree. -/
theorem bodies_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg (Defs.onTc (nD := Cert.KernelIdeal.nD) (τ := Cert.KernelIdeal.τ) (sig := Cert.KernelIdeal.sig) (Λ := Cert.KernelIdeal.Λ₀)) ?_
  funext l x
  match l, x with
  | 0, (t, s) => rfl

/-- So do the tables with the pipelined call. -/
theorem defs_eq : @Cert.Kernel.defs Bits _ Cert.Kernel.Gen.facts = @Cert.KernelIdeal.defs Bits _ Cert.KernelIdeal.Gen.facts :=
  congrArg (Pipeline.defs (Cert.KernelIdeal.pcfgs (F := Bits))) bodies_eq

/-- The printed attention kernel runs, leaves its arguments unchanged and every counter at zero: its idealization's run at
    the bit patterns. -/
theorem frame_kernel : Cert.quiescent_Kernel := by
  intro m ρ _
  rw [defs_eq]
  exact Cert.KernelIdeal.Axial.frame (F := Bits) m ρ

end Cert.Same
-- ==== Proof.PostForm.lean ====
/-
  The output projection with the feed-forward network: the kernel body's result on one block of tokens, in a few named
  steps, and each step read at an index over the extended reals.
-/
module

public import proofs.«01_k».proof.Proof.Gen.PostIdeal.Value
public import Idealize.ShloMosaic.Lib.Pipeline.Value
public import Idealize.ShloMosaic.Lib.Pointwise

@[expose] public section

set_option maxRecDepth 16384

noncomputable section

namespace Cert.PostIdeal.Ffn

open Idealize.ShloMosaic Idealize.ShloMosaic.TcCoe Idealize.SL.Sem
open Cert.PostIdeal Cert.PostIdeal.Gen

/-! ## The body's steps -/

section Steps
variable {F : FTy → Type} [FloatOps F]

/-- A block's rows normalised by their root mean squares, times a gain. -/
def rmsT (x : FVec F S512x1024 .f32) (g : FVec F S1x1024 .f32) : FVec F S512x1024 .f32 :=
  mulf (mulf x (broadcastTo S512x1024 (rsqrt (addf (divf (shapeCast S512x1 (multiReduction .add [1] S512 (mulf x x) 0x00000000#32
    reduces_S512x1024_S512 (.inl rfl) rfl) shapeCasts_S512_S512x1) (broadcast S512x1 (Scalar.ofBits .f32 0x44800000#32)))
    (broadcast S512x1 (Scalar.ofBits .f32 0x358637BD#32)))) broadcasts_S512x1_S512x1024)) (broadcastTo S512x1024 g broadcasts_S1x1024_S512x1024)

/-- The two halves of the attention's output times the projection's two halves. -/
def mixT (lo hi : Vec F S512x512 .bf16) (wa wb : Vec F S512x1024 .bf16) : FVec F S512x1024 .f32 :=
  addf (matmul dot_S512x512_S512x1024_S512x1024_1_0_0_1_n_n none (shapeCast S512x512 lo shapeCasts_S512x512_S512x512 : FVec F S512x512 .bf16)
      (shapeCast S512x1024 wa shapeCasts_S512x1024_S512x1024 : FVec F S512x1024 .bf16) (constant S512x1024 .f32 0x00000000#32))
    (matmul dot_S512x512_S512x1024_S512x1024_1_0_0_1_n_n none (shapeCast S512x512 hi shapeCasts_S512x512_S512x512 : FVec F S512x512 .bf16)
      (shapeCast S512x1024 wb shapeCasts_S512x1024_S512x1024 : FVec F S512x1024 .bf16) (constant S512x1024 .f32 0x00000000#32))

/-- A block's tokens times 256 columns of the gate and up weights. -/
def projT (h : FVec F S512x1024 .bf16) (w : Vec F S1024x256 .bf16) : FVec F S512x256 .f32 :=
  matmul dot_S512x1024_S1024x256_S512x256_1_0_0_1_n_n none h (shapeCast S1024x256 w shapeCasts_S1024x256_S1024x256 : FVec F S1024x256 .bf16)
    (constant S512x256 .f32 0x00000000#32)

/-- The gated activation on 256 columns. -/
def actT (g u : FVec F S512x256 .f32) : FVec F S512x256 .bf16 :=
  truncf .bf16 (mulf (mulf g (divf (broadcast S512x256 (Scalar.ofBits .f32 0x3F800000#32)) (addf (broadcast S512x256 (Scalar.ofBits .f32 0x3F800000#32))
    (exp (subf (broadcast S512x256 (Scalar.ofBits .f32 0x00000000#32)) g))))) u) bitsLt_bf16_f32

/-- One chunk of 256 columns added to what was there. -/
def chunkT (h : FVec F S512x1024 .bf16) (wg wu : Vec F S1024x256 .bf16) (wd : Vec F S256x1024 .bf16) (acc : FVec F S512x1024 .f32) : FVec F S512x1024 .f32 :=
  addf acc (matmul dot_S512x256_S256x1024_S512x1024_1_0_0_1_n_n none (actT (projT h wg) (projT h wu))
    (shapeCast S256x1024 wd shapeCasts_S256x1024_S256x1024 : FVec F S256x1024 .bf16) (constant S512x1024 .f32 0x00000000#32))

/-- The block after the projection is added to the residual. -/
def midT (lo hi : Vec F S512x512 .bf16) (x : Vec F S512x1024 .f32) (wa wb : Vec F S512x1024 .bf16) (g : Vec F S1x1024 .f32) : FVec F S512x1024 .f32 :=
  addf x (rmsT (mixT lo hi wa wb) (shapeCast S1x1024 g shapeCasts_S1x1024_S1x1024))

/-- The eleven chunks added up. -/
def ffnT (h : FVec F S512x1024 .bf16) (wgu : Vec F S1024x5632 .bf16) (wd : Vec F S2816x1024 .bf16) : FVec F S512x1024 .f32 :=
  chunkT h (View.ld wgu r0_35) (View.ld wgu r0_36) (View.ld wd r0_37)
    (chunkT h (View.ld wgu r0_32) (View.ld wgu r0_33) (View.ld wd r0_34)
    (chunkT h (View.ld wgu r0_29) (View.ld wgu r0_30) (View.ld wd r0_31)
    (chunkT h (View.ld wgu r0_26) (View.ld wgu r0_27) (View.ld wd r0_28)
    (chunkT h (View.ld wgu r0_23) (View.ld wgu r0_24) (View.ld wd r0_25)
    (chunkT h (View.ld wgu r0_20) (View.ld wgu r0_21) (View.ld wd r0_22)
    (chunkT h (View.ld wgu r0_17) (View.ld wgu r0_18) (View.ld wd r0_19)
    (chunkT h (View.ld wgu r0_14) (View.ld wgu r0_15) (View.ld wd r0_16)
    (chunkT h (View.ld wgu r0_11) (View.ld wgu r0_12) (View.ld wd r0_13)
    (chunkT h (View.ld wgu r0_8) (View.ld wgu r0_9) (View.ld wd r0_10)
    (chunkT h (View.ld wgu r0_5) (View.ld wgu r0_6) (View.ld wd r0_7)
    (broadcast S512x1024 (Scalar.ofBits .f32 0x00000000#32))))))))))))

/-- The whole block. -/
def outT (x0 x1 : Vec F S512x512 .bf16) (x2 : Vec F S512x1024 .f32) (x3 : Vec F S1024x1024 .bf16) (x4 x5 : Vec F S1x1024 .f32)
    (x6 : Vec F S1024x5632 .bf16) (x7 : Vec F S2816x1024 .bf16) (x8 : Vec F S1x1024 .f32) : FVec F S512x1024 .f32 :=
  addf (midT x0 x1 x2 (View.ld x3 r0_1) (View.ld x3 r0_2) x4)
    (rmsT (ffnT (truncf .bf16 (rmsT (midT x0 x1 x2 (View.ld x3 r0_1) (View.ld x3 r0_2) x4) (shapeCast S1x1024 x5 shapeCasts_S1x1024_S1x1024)) bitsLt_bf16_f32) x6 x7)
      (shapeCast S1x1024 x8 shapeCasts_S1x1024_S1x1024))

/-- What the body leaves in the output block is the named steps' composition. -/
theorem out_eq (x0 x1 : Vec F S512x512 .bf16) (x2 : Vec F S512x1024 .f32) (x3 : Vec F S1024x1024 .bf16) (x4 x5 : Vec F S1x1024 .f32)
    (x6 : Vec F S1024x5632 .bf16) (x7 : Vec F S2816x1024 .bf16) (x8 : Vec F S1x1024 .f32) :
    out0_9 x0 x1 x2 x3 x4 x5 x6 x7 x8 = outT x0 x1 x2 x3 x4 x5 x6 x7 x8 := by
  have hz : (![0, 0] : Fin 2 → Nat) = fun _ => 0 := funext fun a => by fin_cases a <;> rfl
  have e0 : ∀ X : Vec F S512x512 .bf16, View.ld X r0_0 = X := fun X => View.ld_unit_zero hz _ X
  have e3 : ∀ X : Vec F S512x1024 .f32, View.ld X r0_3 = X := fun X => View.ld_unit_zero hz _ X
  have e4 : ∀ X : Vec F S1x1024 .f32, View.ld X r0_4 = X := fun X => View.ld_unit_zero hz _ X
  unfold out0_9
  rw [View.canon_unit_zero hz]
  unfold k0_pay26 k0_pay25 k0_pay24 k0_pay23
  rw [e0, e0, e3, e4, e4, e4]
  rfl

end Steps

/-! ## Over the extended reals, a row at a time -/

/-- A row's entry over its root mean square. -/
def nrm (x : Fin 1024 → EReal) (k : Fin 1024) : EReal :=
  x k * Ideal.rsqrt (Ideal.div (∑ j, x j * x j) (Ideal.ofBits .f32 0x44800000#32) + Ideal.ofBits .f32 0x358637BD#32)

/-- The gate. -/
def gate (z : EReal) : EReal :=
  z * Ideal.div (Ideal.ofBits .f32 0x3F800000#32) (Ideal.ofBits .f32 0x3F800000#32 + Ideal.exp (-z))

/-- The projection of a row given in two halves. -/
def mixR (lo hi : Fin 512 → EReal) (w : Fin 1024 → Fin 1024 → EReal) (k : Fin 1024) : EReal :=
  (∑ j : Fin 512, lo j * w ⟨j.val, by omega⟩ k) + ∑ j : Fin 512, hi j * w ⟨512 + j.val, by omega⟩ k

/-- The row after the projection is added to the residual. -/
def midR (lo hi : Fin 512 → EReal) (x : Fin 1024 → EReal) (w : Fin 1024 → Fin 1024 → EReal) (g : Fin 1024 → EReal) (k : Fin 1024) : EReal :=
  x k + nrm (mixR lo hi w) k * g k

/-- One hidden unit's activation. -/
def hidR (h : Fin 1024 → EReal) (w : Fin 1024 → Fin 5632 → EReal) (l : Fin 2816) : EReal :=
  gate (∑ k, h k * w k ⟨l.val, by omega⟩) * ∑ k, h k * w k ⟨2816 + l.val, by omega⟩

/-- The feed-forward network on a row. -/
def ffnR (h : Fin 1024 → EReal) (w : Fin 1024 → Fin 5632 → EReal) (d : Fin 2816 → Fin 1024 → EReal) (k : Fin 1024) : EReal :=
  ∑ l : Fin 2816, hidR h w l * d l k

/-- The whole row. -/
def outR (lo hi : Fin 512 → EReal) (x : Fin 1024 → EReal) (wo : Fin 1024 → Fin 1024 → EReal) (g1 g2 : Fin 1024 → EReal)
    (w : Fin 1024 → Fin 5632 → EReal) (d : Fin 2816 → Fin 1024 → EReal) (g3 : Fin 1024 → EReal) (k : Fin 1024) : EReal :=
  midR lo hi x wo g1 k + nrm (ffnR (fun j => nrm (midR lo hi x wo g1) j * g2 j) w d) k * g3 k

theorem rmsT_apply (x : FVec Ideal S512x1024 .f32) (g : FVec Ideal S1x1024 .f32) (r : Fin 512) (k : Fin 1024) :
    rmsT x g (ix2 r k) = nrm (fun j => x (ix2 r j)) k * g (ix2 0 k) := by
  pointwise [rmsT, nrm]

theorem mixT_apply (lo hi : Vec Ideal S512x512 .bf16) (X : Vec Ideal S1024x1024 .bf16) (r : Fin 512) (k : Fin 1024) :
    mixT lo hi (View.ld X r0_1) (View.ld X r0_2) (ix2 r k)
      = mixR (fun j => lo (ix2 r j)) (fun j => hi (ix2 r j)) (fun j k => X (ix2 j k)) k := by
  pointwise [mixT, mixR]

theorem midT_apply (lo hi : Vec Ideal S512x512 .bf16) (x : Vec Ideal S512x1024 .f32) (X : Vec Ideal S1024x1024 .bf16) (g : Vec Ideal S1x1024 .f32)
    (r : Fin 512) (k : Fin 1024) :
    midT lo hi x (View.ld X r0_1) (View.ld X r0_2) g (ix2 r k)
      = midR (fun j => lo (ix2 r j)) (fun j => hi (ix2 r j)) (fun j => x (ix2 r j)) (fun j k => X (ix2 j k)) (fun j => g (ix2 0 j)) k := by
  unfold midT midR
  rw [addf_apply, rmsT_apply]
  simp only [mixT_apply]
  pointwise

theorem projT_apply (h : FVec Ideal S512x1024 .bf16) (w : Vec Ideal S1024x256 .bf16) (r : Fin 512) (l : Fin 256) :
    projT h w (ix2 r l) = ∑ k, h (ix2 r k) * w (ix2 k l) := by
  pointwise [projT]

theorem actT_apply (g u : FVec Ideal S512x256 .f32) (r : Fin 512) (l : Fin 256) :
    actT g u (ix2 r l) = gate (g (ix2 r l)) * u (ix2 r l) := by
  pointwise [actT, gate]
  rw [sub_eq_add_neg, zero_add]

theorem chunkT_apply (h : FVec Ideal S512x1024 .bf16) (wg wu : Vec Ideal S1024x256 .bf16) (wd : Vec Ideal S256x1024 .bf16) (acc : FVec Ideal S512x1024 .f32)
    (r : Fin 512) (k : Fin 1024) :
    chunkT h wg wu wd acc (ix2 r k) = acc (ix2 r k)
      + ∑ l : Fin 256, actT (projT h wg) (projT h wu) (ix2 r l) * wd (ix2 l k) := by
  pointwise [chunkT]

/-! ## The eleven chunks are one sum -/

/-- A sum over 2816 hidden units is the sum of eleven chunks of 256. -/
theorem sum_chunks (f : Fin 2816 → EReal) : ∑ n, f n = ∑ c : Fin 11, ∑ l : Fin 256, f ⟨256 * c.val + l.val, by omega⟩ := by
  rw [← Fintype.sum_prod_type', ← (finProdFinEquiv (m := 11) (n := 256)).sum_comp]
  refine Finset.sum_congr rfl fun x _ => congrArg f (Fin.ext ?_)
  show x.2.val + 256 * x.1.val = 256 * x.1.val + x.2.val
  omega

/-- One chunk, when its weights are columns `256 c` on of the gate and up weights and rows `256 c` on of the down weights. -/
theorem chunk_at (h : FVec Ideal S512x1024 .bf16) (wgu : Vec Ideal S1024x5632 .bf16) (wd : Vec Ideal S2816x1024 .bf16) (c : Fin 11)
    (wg wu : Vec Ideal S1024x256 .bf16) (wc : Vec Ideal S256x1024 .bf16) (acc : FVec Ideal S512x1024 .f32)
    (hg : ∀ (k : Fin 1024) (l : Fin 256), wg (ix2 k l) = wgu (ix2 k ⟨256 * c.val + l.val, by omega⟩))
    (hu : ∀ (k : Fin 1024) (l : Fin 256), wu (ix2 k l) = wgu (ix2 k ⟨2816 + (256 * c.val + l.val), by omega⟩))
    (hd : ∀ (l : Fin 256) (k : Fin 1024), wc (ix2 l k) = wd (ix2 ⟨256 * c.val + l.val, by omega⟩ k)) (r : Fin 512) (k : Fin 1024) :
    chunkT h wg wu wc acc (ix2 r k) = acc (ix2 r k)
      + ∑ l : Fin 256, hidR (fun j => h (ix2 r j)) (fun j l => wgu (ix2 j l)) ⟨256 * c.val + l.val, by omega⟩ * wd (ix2 ⟨256 * c.val + l.val, by omega⟩ k) := by
  rw [chunkT_apply]
  refine congrArg (acc (ix2 r k) + ·) (Finset.sum_congr rfl fun l _ => ?_)
  rw [actT_apply, projT_apply, projT_apply, hd]
  simp only [hg, hu]
  rfl

theorem ffnT_apply (h : FVec Ideal S512x1024 .bf16) (wgu : Vec Ideal S1024x5632 .bf16) (wd : Vec Ideal S2816x1024 .bf16) (r : Fin 512) (k : Fin 1024) :
    ffnT h wgu wd (ix2 r k) = ffnR (fun j => h (ix2 r j)) (fun j l => wgu (ix2 j l)) (fun l k => wd (ix2 l k)) k := by
  unfold ffnT ffnR
  rw [sum_chunks]
  rw [chunk_at h wgu wd 10 _ _ _ _ (fun k l => by pointwise)
    (fun k l => by pointwise; exact congrArg (fun i => wgu (ix2 k i)) (Fin.ext (Nat.add_assoc 2816 2560 _))) (fun l k => by pointwise)]
  rw [chunk_at h wgu wd 9 _ _ _ _ (fun k l => by pointwise)
    (fun k l => by pointwise; exact congrArg (fun i => wgu (ix2 k i)) (Fin.ext (Nat.add_assoc 2816 2304 _))) (fun l k => by pointwise)]
  rw [chunk_at h wgu wd 8 _ _ _ _ (fun k l => by pointwise)
    (fun k l => by pointwise; exact congrArg (fun i => wgu (ix2 k i)) (Fin.ext (Nat.add_assoc 2816 2048 _))) (fun l k => by pointwise)]
  rw [chunk_at h wgu wd 7 _ _ _ _ (fun k l => by pointwise)
    (fun k l => by pointwise; exact congrArg (fun i => wgu (ix2 k i)) (Fin.ext (Nat.add_assoc 2816 1792 _))) (fun l k => by pointwise)]
  rw [chunk_at h wgu wd 6 _ _ _ _ (fun k l => by pointwise)
    (fun k l => by pointwise; exact congrArg (fun i => wgu (ix2 k i)) (Fin.ext (Nat.add_assoc 2816 1536 _))) (fun l k => by pointwise)]
  rw [chunk_at h wgu wd 5 _ _ _ _ (fun k l => by pointwise)
    (fun k l => by pointwise; exact congrArg (fun i => wgu (ix2 k i)) (Fin.ext (Nat.add_assoc 2816 1280 _))) (fun l k => by pointwise)]
  rw [chunk_at h wgu wd 4 _ _ _ _ (fun k l => by pointwise)
    (fun k l => by pointwise; exact congrArg (fun i => wgu (ix2 k i)) (Fin.ext (Nat.add_assoc 2816 1024 _))) (fun l k => by pointwise)]
  rw [chunk_at h wgu wd 3 _ _ _ _ (fun k l => by pointwise)
    (fun k l => by pointwise; exact congrArg (fun i => wgu (ix2 k i)) (Fin.ext (Nat.add_assoc 2816 768 _))) (fun l k => by pointwise)]
  rw [chunk_at h wgu wd 2 _ _ _ _ (fun k l => by pointwise)
    (fun k l => by pointwise; exact congrArg (fun i => wgu (ix2 k i)) (Fin.ext (Nat.add_assoc 2816 512 _))) (fun l k => by pointwise)]
  rw [chunk_at h wgu wd 1 _ _ _ _ (fun k l => by pointwise)
    (fun k l => by pointwise; exact congrArg (fun i => wgu (ix2 k i)) (Fin.ext (Nat.add_assoc 2816 256 _))) (fun l k => by pointwise)]
  rw [chunk_at h wgu wd 0 _ _ _ _ (fun k l => by pointwise) (fun k l => by pointwise) (fun l k => by pointwise)]
  rw [show (broadcast S512x1024 (Scalar.ofBits .f32 0x00000000#32) : FVec Ideal S512x1024 .f32) (ix2 r k) = 0 from by pointwise]
  simp only [Fin.sum_univ_castSucc (n := 10), Fin.sum_univ_castSucc (n := 9), Fin.sum_univ_castSucc (n := 8), Fin.sum_univ_castSucc (n := 7),
    Fin.sum_univ_castSucc (n := 6), Fin.sum_univ_castSucc (n := 5), Fin.sum_univ_castSucc (n := 4), Fin.sum_univ_castSucc (n := 3),
    Fin.sum_univ_castSucc (n := 2), Fin.sum_univ_castSucc (n := 1), Fin.sum_univ_castSucc (n := 0), Finset.univ_eq_empty (α := Fin 0), Finset.sum_empty]
  rfl

theorem outT_apply (x0 x1 : Vec Ideal S512x512 .bf16) (x2 : Vec Ideal S512x1024 .f32) (x3 : Vec Ideal S1024x1024 .bf16) (x4 x5 : Vec Ideal S1x1024 .f32)
    (x6 : Vec Ideal S1024x5632 .bf16) (x7 : Vec Ideal S2816x1024 .bf16) (x8 : Vec Ideal S1x1024 .f32) (r : Fin 512) (k : Fin 1024) :
    outT x0 x1 x2 x3 x4 x5 x6 x7 x8 (ix2 r k)
      = outR (fun j => x0 (ix2 r j)) (fun j => x1 (ix2 r j)) (fun j => x2 (ix2 r j)) (fun j k => x3 (ix2 j k)) (fun j => x4 (ix2 0 j))
          (fun j => x5 (ix2 0 j)) (fun j l => x6 (ix2 j l)) (fun l k => x7 (ix2 l k)) (fun j => x8 (ix2 0 j)) k := by
  have cast : ∀ (g : Vec Ideal S1x1024 .f32) (j : Fin 1024), (shapeCast S1x1024 g shapeCasts_S1x1024_S1x1024 : FVec Ideal S1x1024 .f32) (ix2 0 j) = g (ix2 0 j) :=
    fun g j => by pointwise
  unfold outT outR
  rw [addf_apply, rmsT_apply, midT_apply, cast]
  simp only [ffnT_apply]
  have hh : ∀ j, (truncf .bf16 (rmsT (midT x0 x1 x2 (View.ld x3 r0_1) (View.ld x3 r0_2) x4) (shapeCast S1x1024 x5 shapeCasts_S1x1024_S1x1024)) bitsLt_bf16_f32 : FVec Ideal S512x1024 .bf16) (ix2 r j)
      = nrm (midR (fun j => x0 (ix2 r j)) (fun j => x1 (ix2 r j)) (fun j => x2 (ix2 r j)) (fun j k => x3 (ix2 j k)) (fun j => x4 (ix2 0 j))) j * x5 (ix2 0 j) := by
    intro j
    show rmsT (F := Ideal) _ _ (ix2 r j) = _
    rw [rmsT_apply, cast]
    simp only [midT_apply]
  simp only [hh]
  rfl

end Cert.PostIdeal.Ffn
-- ==== Proof.PostRef.lean ====
/-
  The reference for the output projection with the feed-forward network: its composed term in a few named steps, and
  each step read at an index over the extended reals. It comes to the same row function as the kernel's block.
-/
module

public import proofs.«01_k».proof.Proof.PostForm
public import proofs.«01_k».proof.Proof.Gen.PostReferenceIdeal.Run

@[expose] public section

set_option maxRecDepth 16384

noncomputable section

namespace Cert.PostReferenceIdeal.Ffn

open Idealize.ShloMosaic Idealize.ShloMosaic.TcCoe Idealize.SL.Sem
open Cert.PostReferenceIdeal Cert.PostReferenceIdeal.Gen
open Cert.PostIdeal.Ffn (nrm gate mixR midR hidR ffnR outR)

section Steps
variable {F : FTy → Type} [FloatOps F]

/-- All rows normalised by their root mean squares, times a gain. -/
def rmsA (x : FVec F S65536x1024 .f32) (g : FVec F S1024 .f32) : FVec F S65536x1024 .f32 :=
  mulf (mulf x (broadcastInDim S65536x1024 ![0, 1] bcast_S65536x1_S65536x1024_0_1
      (Host.rsqrt (addf (Host.divf (broadcastInDim S65536x1 ![0] bcast_S65536_S65536x1_0 (Host.reduceAdd (mulf x x) (constant S_ .f32 0x00000000#32) reducesTo_S65536x1024_S65536_d1 h_S_))
          (broadcastInDim S65536x1 ![] bcast_S_S65536x1 (constant S_ .f32 0x44800000#32)))
        (broadcastInDim S65536x1 ![] bcast_S_S65536x1 (constant S_ .f32 0x358637BD#32))))))
    (broadcastInDim S65536x1024 ![0, 1] bcast_S1x1024_S65536x1024_0_1 (broadcastInDim S1x1024 ![1] bcast_S1024_S1x1024_1 g))

/-- The output projection. -/
def mixA (o : FVec F S65536x1024 .f32) (w : FVec F S1024x1024 .f32) : FVec F S65536x1024 .f32 :=
  Host.dotGeneral dot_S65536x1024_S1024x1024_S65536x1024_1_0_0_1_n_n none o w

/-- The residual with the projection added. -/
def midA (o x : FVec F S65536x1024 .f32) (w : FVec F S1024x1024 .f32) (g : FVec F S1024 .f32) : FVec F S65536x1024 .f32 :=
  addf x (rmsA (mixA o w) g)

/-- Gate and up projections. -/
def projA (h : FVec F S65536x1024 .f32) (w : FVec F S1024x5632 .f32) : FVec F S65536x5632 .f32 :=
  Host.dotGeneral dot_S65536x1024_S1024x5632_S65536x5632_1_0_0_1_n_n none h w

/-- The activations of both halves of the projections. -/
def actA (p : FVec F S65536x5632 .f32) : FVec F S65536x2816 .f32 :=
  mulf (mulf (extractStridedSlice S65536x2816 ![0, 0] p slices_S65536x5632_S65536x2816_0_0)
      (Host.divf (broadcastInDim S65536x2816 ![] bcast_S_S65536x2816 (constant S_ .f32 0x3F800000#32))
        (addf (broadcastInDim S65536x2816 ![] bcast_S_S65536x2816 (constant S_ .f32 0x3F800000#32))
          (Host.exp (Host.negf (extractStridedSlice S65536x2816 ![0, 0] p slices_S65536x5632_S65536x2816_0_0))))))
    (extractStridedSlice S65536x2816 ![0, 2816] p slices_S65536x5632_S65536x2816_0_2816)

/-- The down projection. -/
def downA (a : FVec F S65536x2816 .f32) (w : FVec F S2816x1024 .f32) : FVec F S65536x1024 .f32 :=
  Host.dotGeneral dot_S65536x2816_S2816x1024_S65536x1024_1_0_0_1_n_n none a w

/-- The reference's result. -/
def outA (o x : FVec F S65536x1024 .f32) (wo : FVec F S1024x1024 .f32) (g1 g2 : FVec F S1024 .f32)
    (w : FVec F S1024x5632 .f32) (d : FVec F S2816x1024 .f32) (g3 : FVec F S1024 .f32) : FVec F S65536x1024 .f32 :=
  addf (midA o x wo g1) (rmsA (downA (actA (projA (rmsA (midA o x wo g1) g2) w)) d) g3)

/-- The printed composed term is the named steps' composition. -/
theorem res_eq (m : (ℓ : Loc nD τ sig) → Buf (Elt F) ℓ) (c : Dev nD) :
    Value.res_out0 m c = outA (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  unfold Value.res_out0 Value.res_main_v47
  rfl

end Steps

theorem rmsA_apply (x : FVec Ideal S65536x1024 .f32) (g : FVec Ideal S1024 .f32) (n : Fin 65536) (k : Fin 1024) :
    rmsA x g (ix2 n k) = nrm (fun j => x (ix2 n j)) k * g (ix1 k) := by
  pointwise [rmsA, nrm]

/-- A row times a matrix is the sum over each half of the row. -/
theorem mixA_apply (o : FVec Ideal S65536x1024 .f32) (w : FVec Ideal S1024x1024 .f32) (n : Fin 65536) (k : Fin 1024) :
    mixA o w (ix2 n k) = mixR (fun j => o (ix2 n ⟨j.val, by omega⟩)) (fun j => o (ix2 n ⟨512 + j.val, by omega⟩)) (fun j k => w (ix2 j k)) k := by
  have e : mixA o w (ix2 n k) = ∑ j : Fin (512 + 512), o (ix2 n j) * w (ix2 j k) := by pointwise [mixA]
  rw [e, Fin.sum_univ_add]
  rfl

theorem midA_apply (o x : FVec Ideal S65536x1024 .f32) (w : FVec Ideal S1024x1024 .f32) (g : FVec Ideal S1024 .f32)
    (n : Fin 65536) (k : Fin 1024) :
    midA o x w g (ix2 n k) = midR (fun j => o (ix2 n ⟨j.val, by omega⟩)) (fun j => o (ix2 n ⟨512 + j.val, by omega⟩)) (fun j => x (ix2 n j)) (fun j k => w (ix2 j k)) (fun j => g (ix1 j)) k := by
  unfold midA midR
  rw [addf_apply, rmsA_apply]
  simp only [mixA_apply]
  rfl

theorem projA_apply (h : FVec Ideal S65536x1024 .f32) (w : FVec Ideal S1024x5632 .f32) (n : Fin 65536) (l : Fin 5632) :
    projA h w (ix2 n l) = ∑ k : Fin 1024, h (ix2 n k) * w (ix2 k l) := by
  pointwise [projA]

theorem actA_apply (p : FVec Ideal S65536x5632 .f32) (n : Fin 65536) (l : Fin 2816) :
    actA p (ix2 n l) = gate (p (ix2 n ⟨l.val, by omega⟩)) * p (ix2 n ⟨2816 + l.val, by omega⟩) := by
  pointwise [actA, gate]

theorem downA_apply (a : FVec Ideal S65536x2816 .f32) (w : FVec Ideal S2816x1024 .f32) (n : Fin 65536) (k : Fin 1024) :
    downA a w (ix2 n k) = ∑ l : Fin 2816, a (ix2 n l) * w (ix2 l k) := by
  pointwise [downA]

/-- The reference's result at a token and a feature: the row function of that token's row. -/
theorem outA_apply (o x : FVec Ideal S65536x1024 .f32) (wo : FVec Ideal S1024x1024 .f32) (g1 g2 : FVec Ideal S1024 .f32)
    (w : FVec Ideal S1024x5632 .f32) (d : FVec Ideal S2816x1024 .f32) (g3 : FVec Ideal S1024 .f32) (n : Fin 65536) (k : Fin 1024) :
    outA o x wo g1 g2 w d g3 (ix2 n k)
      = outR (fun j => o (ix2 n ⟨j.val, by omega⟩)) (fun j => o (ix2 n ⟨512 + j.val, by omega⟩)) (fun j => x (ix2 n j)) (fun j k => wo (ix2 j k)) (fun j => g1 (ix1 j)) (fun j => g2 (ix1 j))
          (fun j l => w (ix2 j l)) (fun l k => d (ix2 l k)) (fun j => g3 (ix1 j)) k := by
  unfold outA outR
  rw [addf_apply, midA_apply, rmsA_apply]
  simp only [downA_apply, actA_apply, projA_apply, rmsA_apply, midA_apply]
  rfl

end Cert.PostReferenceIdeal.Ffn

end
-- ==== Proof.PostValue.lean ====
/-
  The output projection with the feed-forward network: the kernel's result array at a token and a feature is the row
  function of that token's row, and so is the reference's.
-/
module

public import proofs.«01_k».proof.Defs
public import proofs.«01_k».proof.Proof.PostRef
public import Idealize.ShloMosaic.Lib.Quiescent

@[expose] public section

set_option maxRecDepth 16384

noncomputable section

namespace Cert.PostIdeal.Ffn

open Idealize.ShloMosaic Idealize.ShloMosaic.TcCoe Idealize.SL.Sem
open Cert.PostIdeal Cert.PostIdeal.Gen

variable (m : (ℓ : Loc nD τ sig) → Buf (Elt Ideal) ℓ) (ρ : Dev nD → PrngReg) (c : Dev nD)

/-! ## The arrays the windows read: the arguments, some of them re-laid -/

theorem V_main_v0 : V m c main_v0 = (fun i => m ((c : Thread nD τ).loc main_arg0) i : Buf (Elt Ideal) ((c : Thread nD τ).loc main_v0)) := by
  show StableHlo.after hostOps0 _ (Proc.devRef .tc main_v0) = _
  after_results
  rfl

theorem V_main_v1 : V m c main_v1 = (fun i => m ((c : Thread nD τ).loc main_arg2) i : Buf (Elt Ideal) ((c : Thread nD τ).loc main_v1)) := by
  show StableHlo.after hostOps0 _ (Proc.devRef .tc main_v1) = _
  after_results
  rfl

theorem V_main_v2 : V m c main_v2 = (fun i => m ((c : Thread nD τ).loc main_arg5) i : Buf (Elt Ideal) ((c : Thread nD τ).loc main_v2)) := by
  show StableHlo.after hostOps0 _ (Proc.devRef .tc main_v2) = _
  after_results
  rfl

theorem V_main_v3 : V m c main_v3 = (fun i => m ((c : Thread nD τ).loc main_arg6) i : Buf (Elt Ideal) ((c : Thread nD τ).loc main_v3)) := by
  show StableHlo.after hostOps0 _ (Proc.devRef .tc main_v3) = _
  after_results
  rfl

theorem V_main_v4 (j : Fin 1024) : (V m c main_v4 : FVec Ideal S1x1024 .f32) (ix2 0 j) = (m ((c : Thread nD τ).loc main_arg3) : FVec Ideal S1024 .f32) (ix1 j) := by
  have e : V m c main_v4 = (shapeCast S1x1024 (m ((c : Thread nD τ).loc main_arg3) : FVec Ideal S1024 .f32) shapeCasts_S1024_S1x1024 : FVec Ideal S1x1024 .f32) := by
    show StableHlo.after hostOps0 _ (Proc.devRef .tc main_v4) = _
    after_results
    rfl
  rw [e]
  pointwise

theorem V_main_v5 (j : Fin 1024) : (V m c main_v5 : FVec Ideal S1x1024 .f32) (ix2 0 j) = (m ((c : Thread nD τ).loc main_arg4) : FVec Ideal S1024 .f32) (ix1 j) := by
  have e : V m c main_v5 = (shapeCast S1x1024 (m ((c : Thread nD τ).loc main_arg4) : FVec Ideal S1024 .f32) shapeCasts_S1024_S1x1024 : FVec Ideal S1x1024 .f32) := by
    show StableHlo.after hostOps0 _ (Proc.devRef .tc main_v5) = _
    after_results
    rfl
  rw [e]
  pointwise

theorem V_main_v6 (j : Fin 1024) : (V m c main_v6 : FVec Ideal S1x1024 .f32) (ix2 0 j) = (m ((c : Thread nD τ).loc main_arg7) : FVec Ideal S1024 .f32) (ix1 j) := by
  have e : V m c main_v6 = (shapeCast S1x1024 (m ((c : Thread nD τ).loc main_arg7) : FVec Ideal S1024 .f32) shapeCasts_S1024_S1x1024 : FVec Ideal S1x1024 .f32) := by
    show StableHlo.after hostOps0 _ (Proc.devRef .tc main_v6) = _
    after_results
    rfl
  rw [e]
  pointwise

/-! ## The windows' blocks: 512 tokens, or a whole array -/

/-- The grid point's coordinate is its position. -/
theorem tok_lt (t : Fin cfg0.N) (r : Fin 512) : 512 * t.val + r.val < 65536 := by
  have h : t.val < 128 := N_0 ▸ t.isLt
  omega

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem emb0 (t : Fin cfg0.N) (r : Fin 512) (k : Fin 512) :
    ((cfg0.win 0).blk t).view.emb (ix2 r k) = (ix2 ⟨512 * t.val + r.val, tok_lt t r⟩ ⟨k.val, by omega⟩ : S65536x1024.Idx) := by
  obtain ⟨e0, e1⟩ := idx0 t
  funext a; apply Fin.ext
  match a with
  | ⟨0, _⟩ => show win0_0.index t (0 : Fin 2) * 512 + 1 * r.val = 512 * t.val + r.val; omega
  | ⟨1, _⟩ => show win0_0.index t (1 : Fin 2) * 512 + 1 * k.val = k.val; omega

theorem iblk0 (t : Fin cfg0.N) (r : Fin 512) (k : Fin 512) :
    (iblk m c 0 t : Vec Ideal S512x512 .bf16) (ix2 r k) = (V m c main_v0 : Vec Ideal S65536x1024 .bf16) (ix2 ⟨512 * t.val + r.val, tok_lt t r⟩ ⟨k.val, by omega⟩) := by
  show V m c main_v0 (((cfg0.win 0).blk t).view.emb (ix2 r k)) = _
  rw [emb0]

theorem idx1 : ∀ t : Fin cfg0.N, win0_1.index t (0 : Fin 2) = t.val ∧ win0_1.index t (1 : Fin 2) = 1 :=
  (by decide +kernel : ∀ t : Fin grid0.N, win0_1.index t (0 : Fin 2) = t.val ∧ win0_1.index t (1 : Fin 2) = 1)

theorem emb1 (t : Fin cfg0.N) (r : Fin 512) (k : Fin 512) :
    ((cfg0.win 1).blk t).view.emb (ix2 r k) = (ix2 ⟨512 * t.val + r.val, tok_lt t r⟩ ⟨512 + k.val, by omega⟩ : S65536x1024.Idx) := by
  obtain ⟨e0, e1⟩ := idx1 t
  funext a; apply Fin.ext
  match a with
  | ⟨0, _⟩ => show win0_1.index t (0 : Fin 2) * 512 + 1 * r.val = 512 * t.val + r.val; omega
  | ⟨1, _⟩ => show win0_1.index t (1 : Fin 2) * 512 + 1 * k.val = 512 + k.val; omega

theorem iblk1 (t : Fin cfg0.N) (r : Fin 512) (k : Fin 512) :
    (iblk m c 1 t : Vec Ideal S512x512 .bf16) (ix2 r k) = (V m c main_v0 : Vec Ideal S65536x1024 .bf16) (ix2 ⟨512 * t.val + r.val, tok_lt t r⟩ ⟨512 + k.val, by omega⟩) := by
  show V m c main_v0 (((cfg0.win 1).blk t).view.emb (ix2 r k)) = _
  rw [emb1]

theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

theorem emb2 (t : Fin cfg0.N) (r : Fin 512) (k : Fin 1024) :
    ((cfg0.win 2).blk t).view.emb (ix2 r k) = (ix2 ⟨512 * t.val + r.val, tok_lt t r⟩ k : S65536x1024.Idx) := by
  obtain ⟨e0, e1⟩ := idx2 t
  funext a; apply Fin.ext
  match a with
  | ⟨0, _⟩ => show win0_2.index t (0 : Fin 2) * 512 + 1 * r.val = 512 * t.val + r.val; omega
  | ⟨1, _⟩ => show win0_2.index t (1 : Fin 2) * 1024 + 1 * k.val = k.val; omega

theorem iblk2 (t : Fin cfg0.N) (r : Fin 512) (k : Fin 1024) :
    (iblk m c 2 t : Vec Ideal S512x1024 .f32) (ix2 r k) = (V m c main_arg1 : Vec Ideal S65536x1024 .f32) (ix2 ⟨512 * t.val + r.val, tok_lt t r⟩ k) := by
  show V m c main_arg1 (((cfg0.win 2).blk t).view.emb (ix2 r k)) = _
  rw [emb2]

theorem idx9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

theorem emb9 (t : Fin cfg0.N) (r : Fin 512) (k : Fin 1024) :
    ((cfg0.win 9).blk t).view.emb (ix2 r k) = (ix2 ⟨512 * t.val + r.val, tok_lt t r⟩ k : S65536x1024.Idx) := by
  obtain ⟨e0, e1⟩ := idx9 t
  funext a; apply Fin.ext
  match a with
  | ⟨0, _⟩ => show win0_9.index t (0 : Fin 2) * 512 + 1 * r.val = 512 * t.val + r.val; omega
  | ⟨1, _⟩ => show win0_9.index t (1 : Fin 2) * 1024 + 1 * k.val = k.val; omega

theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

theorem iblk3 (t : Fin cfg0.N) : iblk m c 3 t = V m c main_v1 := by
  obtain ⟨e0, e1⟩ := idx3 t
  have e : ∀ j : S1024x1024.Idx, ((cfg0.win 3).blk t).view.emb j = j := by
    intro j
    funext a; apply Fin.ext
    match a with
    | ⟨0, _⟩ => show win0_3.index t (0 : Fin 2) * 1024 + 1 * (j 0).val = (j 0).val; omega
    | ⟨1, _⟩ => show win0_3.index t (1 : Fin 2) * 1024 + 1 * (j 1).val = (j 1).val; omega
  funext j
  show V m c main_v1 (((cfg0.win 3).blk t).view.emb j) = V m c main_v1 j
  rw [e]

theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem iblk4 (t : Fin cfg0.N) : iblk m c 4 t = V m c main_v4 := by
  obtain ⟨e0, e1⟩ := idx4 t
  have e : ∀ j : S1x1024.Idx, ((cfg0.win 4).blk t).view.emb j = j := by
    intro j
    funext a; apply Fin.ext
    match a with
    | ⟨0, _⟩ => show win0_4.index t (0 : Fin 2) * 1 + 1 * (j 0).val = (j 0).val; omega
    | ⟨1, _⟩ => show win0_4.index t (1 : Fin 2) * 1024 + 1 * (j 1).val = (j 1).val; omega
  funext j
  show V m c main_v4 (((cfg0.win 4).blk t).view.emb j) = V m c main_v4 j
  rw [e]

theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

theorem iblk5 (t : Fin cfg0.N) : iblk m c 5 t = V m c main_v5 := by
  obtain ⟨e0, e1⟩ := idx5 t
  have e : ∀ j : S1x1024.Idx, ((cfg0.win 5).blk t).view.emb j = j := by
    intro j
    funext a; apply Fin.ext
    match a with
    | ⟨0, _⟩ => show win0_5.index t (0 : Fin 2) * 1 + 1 * (j 0).val = (j 0).val; omega
    | ⟨1, _⟩ => show win0_5.index t (1 : Fin 2) * 1024 + 1 * (j 1).val = (j 1).val; omega
  funext j
  show V m c main_v5 (((cfg0.win 5).blk t).view.emb j) = V m c main_v5 j
  rw [e]

theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

theorem iblk6 (t : Fin cfg0.N) : iblk m c 6 t = V m c main_v2 := by
  obtain ⟨e0, e1⟩ := idx6 t
  have e : ∀ j : S1024x5632.Idx, ((cfg0.win 6).blk t).view.emb j = j := by
    intro j
    funext a; apply Fin.ext
    match a with
    | ⟨0, _⟩ => show win0_6.index t (0 : Fin 2) * 1024 + 1 * (j 0).val = (j 0).val; omega
    | ⟨1, _⟩ => show win0_6.index t (1 : Fin 2) * 5632 + 1 * (j 1).val = (j 1).val; omega
  funext j
  show V m c main_v2 (((cfg0.win 6).blk t).view.emb j) = V m c main_v2 j
  rw [e]

theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

theorem iblk7 (t : Fin cfg0.N) : iblk m c 7 t = V m c main_v3 := by
  obtain ⟨e0, e1⟩ := idx7 t
  have e : ∀ j : S2816x1024.Idx, ((cfg0.win 7).blk t).view.emb j = j := by
    intro j
    funext a; apply Fin.ext
    match a with
    | ⟨0, _⟩ => show win0_7.index t (0 : Fin 2) * 2816 + 1 * (j 0).val = (j 0).val; omega
    | ⟨1, _⟩ => show win0_7.index t (1 : Fin 2) * 1024 + 1 * (j 1).val = (j 1).val; omega
  funext j
  show V m c main_v3 (((cfg0.win 7).blk t).view.emb j) = V m c main_v3 j
  rw [e]

theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

theorem iblk8 (t : Fin cfg0.N) : iblk m c 8 t = V m c main_v6 := by
  obtain ⟨e0, e1⟩ := idx8 t
  have e : ∀ j : S1x1024.Idx, ((cfg0.win 8).blk t).view.emb j = j := by
    intro j
    funext a; apply Fin.ext
    match a with
    | ⟨0, _⟩ => show win0_8.index t (0 : Fin 2) * 1 + 1 * (j 0).val = (j 0).val; omega
    | ⟨1, _⟩ => show win0_8.index t (1 : Fin 2) * 1024 + 1 * (j 1).val = (j 1).val; omega
  funext j
  show V m c main_v6 (((cfg0.win 8).blk t).view.emb j) = V m c main_v6 j
  rw [e]

/-! ## The result array -/

/-- The result at a token and a feature, as a function of the arguments: the row function of the token's row. -/
def rowOut (n : Fin 65536) (k : Fin 1024) : EReal :=
  outR (fun j => (m ((c : Thread nD τ).loc main_arg0) : FVec Ideal S65536x1024 .f32) (ix2 n ⟨j.val, by omega⟩)) (fun j => (m ((c : Thread nD τ).loc main_arg0) : FVec Ideal S65536x1024 .f32) (ix2 n ⟨512 + j.val, by omega⟩))
    (fun j => (m ((c : Thread nD τ).loc main_arg1) : FVec Ideal S65536x1024 .f32) (ix2 n j)) (fun j k => (m ((c : Thread nD τ).loc main_arg2) : FVec Ideal S1024x1024 .f32) (ix2 j k))
    (fun j => (m ((c : Thread nD τ).loc main_arg3) : FVec Ideal S1024 .f32) (ix1 j)) (fun j => (m ((c : Thread nD τ).loc main_arg4) : FVec Ideal S1024 .f32) (ix1 j))
    (fun j l => (m ((c : Thread nD τ).loc main_arg5) : FVec Ideal S1024x5632 .f32) (ix2 j l)) (fun l k => (m ((c : Thread nD τ).loc main_arg6) : FVec Ideal S2816x1024 .f32) (ix2 l k))
    (fun j => (m ((c : Thread nD τ).loc main_arg7) : FVec Ideal S1024 .f32) (ix1 j)) k

/-- The whole result array. -/
def resOut : Buf (Elt Ideal) ((c : Thread nD τ).loc main_v7) :=
  (fun i => rowOut m c (i 0) (i 1) : FVec Ideal S65536x1024 .f32)

/-- The row function of equal rows. -/
theorem outR_congr {lo lo' hi hi' : Fin 512 → EReal} {x x' : Fin 1024 → EReal} {wo wo' : Fin 1024 → Fin 1024 → EReal} {g1 g1' g2 g2' : Fin 1024 → EReal}
    {w w' : Fin 1024 → Fin 5632 → EReal} {d d' : Fin 2816 → Fin 1024 → EReal} {g3 g3' : Fin 1024 → EReal}
    (h0 : lo = lo') (h1 : hi = hi') (h2 : x = x') (h3 : wo = wo') (h4 : g1 = g1') (h5 : g2 = g2') (h6 : w = w') (h7 : d = d') (h8 : g3 = g3')
    (k : Fin 1024) : outR lo hi x wo g1 g2 w d g3 k = outR lo' hi' x' wo' g1' g2' w' d' g3' k := by
  rw [h0, h1, h2, h3, h4, h5, h6, h7, h8]

/-- What a grid point writes back is its 512 tokens of the result. -/
theorem flushed_eq (t : Fin cfg0.N) :
    (dats m 0 c).flushed 9 t = ((cfg0.win 9).blk t).view.read (Elt Ideal) (resOut m c) := by
  rw [Value.flushed9, out_eq]
  funext j
  show outT (iblk m c 0 t) (iblk m c 1 t) (iblk m c 2 t) (iblk m c 3 t) (iblk m c 4 t) (iblk m c 5 t) (iblk m c 6 t) (iblk m c 7 t) (iblk m c 8 t) j
    = resOut m c (((cfg0.win 9).blk t).view.emb j)
  obtain ⟨r, k, rfl⟩ : ∃ (r : Fin 512) (k : Fin 1024), j = ix2 r k := ⟨j 0, j 1, eq_ix2 j⟩
  rw [outT_apply, emb9]
  show _ = rowOut m c ⟨512 * t.val + r.val, tok_lt t r⟩ k
  refine outR_congr (funext fun j => ?_) (funext fun j => ?_) (funext fun j => ?_) (funext fun j => funext fun k => ?_) (funext fun j => ?_)
    (funext fun j => ?_) (funext fun j => funext fun l => ?_) (funext fun l => funext fun k => ?_) (funext fun j => ?_) k
  · exact (iblk0 m c t r j).trans (congrFun (V_main_v0 m c) _)
  · exact (iblk1 m c t r j).trans (congrFun (V_main_v0 m c) _)
  · exact (iblk2 m c t r j).trans (congrFun (V_main_arg1 m c) _)
  · exact (congrFun (iblk3 m c t) _).trans (congrFun (V_main_v1 m c) _)
  · exact (congrFun (iblk4 m c t) _).trans (V_main_v4 m c j)
  · exact (congrFun (iblk5 m c t) _).trans (V_main_v5 m c j)
  · exact (congrFun (iblk6 m c t) _).trans (congrFun (V_main_v2 m c) _)
  · exact (congrFun (iblk7 m c t) _).trans (congrFun (V_main_v3 m c) _)
  · exact (congrFun (iblk8 m c t) _).trans (V_main_v6 m c j)

/-- An index of the result is in a grid point's block when its token is one of the point's 512. -/
theorem mem_blk (t : Fin cfg0.N) (i : S65536x1024.Idx) (h : 512 * t.val ≤ (i 0 : Nat) ∧ (i 0 : Nat) < 512 * t.val + 512) :
    i ∈ ((cfg0.win 9).blk t).view.set := by
  show i ∈ ((View.whole main_v7).slice (win0_9.rect t)).set
  rw [View.set_slice_whole, Rect.mem_set_unit]
  have h1 : (i 1 : Nat) < 1024 := (i 1).isLt
  obtain ⟨e0, e1⟩ := idx9 t
  intro a
  match a with
  | ⟨0, _⟩ => show win0_9.index t (0 : Fin 2) * 512 ≤ (i 0 : Nat) ∧ (i 0 : Nat) < win0_9.index t (0 : Fin 2) * 512 + 512
              omega
  | ⟨1, _⟩ => show win0_9.index t (1 : Fin 2) * 1024 ≤ (i 1 : Nat) ∧ (i 1 : Nat) < win0_9.index t (1 : Fin 2) * 1024 + 1024
              omega

/-- Every index of the result is in some point's block. -/
theorem cover (i : S65536x1024.Idx) : ∃ t : Fin cfg0.N, (cfg0.win 9).flush t = true ∧ i ∈ ((cfg0.win 9).blk t).view.set := by
  have h0 : (i 0 : Nat) < 65536 := (i 0).isLt
  have hN : cfg0.N = 128 := N_0
  refine ⟨⟨(i 0 : Nat) / 512, by omega⟩, flush0_9 _, mem_blk _ i ?_⟩
  dsimp only
  omega

/-- So the result array is the row function at every token and feature. -/
theorem final : (dats m 0 c).arrAt 9 cfg0.N = resOut m c :=
  (dats m 0 c).arrAt_eq_of_cover 9 (resOut m c) (fun t _ => flushed_eq m c t) cover

end Cert.PostIdeal.Ffn

namespace Cert.PostProof

open Idealize.ShloMosaic Idealize.ShloMosaic.TcCoe Idealize.SL.Sem

/-- Kernel and reference agree: each result is the row function of the same arguments. -/
theorem algebraic : Cert.algebraic_PostIdeal_PostReferenceIdeal := by
  intro m g m' g' _ hm
  refine ⟨fun c => Cert.PostIdeal.Ffn.resOut m c, ?_, ?_⟩
  · refine (θ_run _ _ _).mono (fun r h c => ?_) (Cert.PostIdeal.Value.run_blocks m g)
    exact ⟨(h c).1.trans (Cert.PostIdeal.Ffn.final m c), (h c).2⟩
  · refine (θ_run _ _ _).mono (fun r h c => ?_) (Cert.PostReferenceIdeal.Value.run m' g')
    refine ⟨(h c).1.trans ?_, (h c).2⟩
    obtain ⟨h0, h1, h2, h3, h4, h5, h6, h7⟩ := hm c
    refine (Cert.PostReferenceIdeal.Ffn.res_eq m' c).trans ?_
    rw [h0, h1, h2, h3, h4, h5, h6, h7]
    funext i
    obtain ⟨n, k, rfl⟩ : ∃ (n : Fin 65536) (k : Fin 1024), i = ix2 n k := ⟨i 0, i 1, eq_ix2 i⟩
    exact Cert.PostReferenceIdeal.Ffn.outA_apply _ _ _ _ _ _ _ _ n k

end Cert.PostProof

end
-- ==== Proof.AxMath.lean ====
/-
  The arithmetic of the axial attention over the extended reals: finite values, weights that are exponentials, and the
  quotient of two weighted sums as a softmax.
-/
module

public import Idealize.ShloMosaic.PureOps.Ideal
public import Mathlib.Data.EReal.Operations
public import Mathlib.Analysis.SpecialFunctions.Pow.Real

@[expose] public section

noncomputable section

namespace Cert.AxMath

open Idealize.ShloMosaic

/-- A finite value. -/
def IsR (x : EReal) : Prop := ∃ r : ℝ, x = (r : EReal)

theorem isR_coe (r : ℝ) : IsR (r : EReal) := ⟨r, rfl⟩

theorem IsR.max {x y : EReal} (hx : IsR x) (hy : IsR y) : IsR (max x y) := by
  rcases le_total x y with h | h
  · rw [max_eq_right h]; exact hy
  · rw [max_eq_left h]; exact hx

theorem IsR.add {x y : EReal} (hx : IsR x) (hy : IsR y) : IsR (x + y) := by
  obtain ⟨a, rfl⟩ := hx; obtain ⟨b, rfl⟩ := hy
  exact ⟨a + b, (EReal.coe_add a b).symm⟩

/-- A finite sum of real numbers, as an extended real. -/
theorem coe_sum {ι : Type*} (s : Finset ι) (f : ι → ℝ) : ∑ x ∈ s, (f x : EReal) = ((∑ x ∈ s, f x : ℝ) : EReal) := by
  classical
  induction s using Finset.induction_on with
  | empty => simp
  | insert a s ha ih => rw [Finset.sum_insert ha, Finset.sum_insert ha, ih, EReal.coe_add]

/-- A largest value over a nonempty family of finite values, started from −∞, is finite. -/
theorem isR_fold_max {ι : Type*} (s : Finset ι) (hs : s.Nonempty) (f : ι → EReal) (hf : ∀ x, IsR (f x)) : IsR (s.fold max ⊥ f) := by
  classical
  induction hs using Finset.Nonempty.cons_induction with
  | singleton a => rw [Finset.fold_singleton, max_bot_right]; exact hf a
  | cons a s ha hs ih => rw [Finset.fold_cons]; exact (hf a).max ih

/-- A real number that is not negative moves into a finite sum. -/
theorem mul_sum_real {ι : Type*} (s : Finset ι) (c : ℝ) (hc : 0 ≤ c) (f : ι → EReal) : (c : EReal) * ∑ x ∈ s, f x = ∑ x ∈ s, (c : EReal) * f x := by
  classical
  induction s using Finset.induction_on with
  | empty => simp
  | insert a s ha ih =>
    rw [Finset.sum_insert ha, Finset.sum_insert ha, EReal.left_distrib_of_nonneg_of_ne_top (EReal.coe_nonneg.mpr hc) (EReal.coe_ne_top c), ih]

/-- Dividing by a real number that is not zero is multiplying by its inverse. -/
theorem div_real (x : EReal) (c : ℝ) (hc : c ≠ 0) : Ideal.div x (c : EReal) = ((c⁻¹ : ℝ) : EReal) * x := by
  unfold Ideal.div
  rw [if_neg (by exact_mod_cast hc), EReal.coe_inv, mul_comm]

/-- A power of two as an exponential. -/
theorem pow_two_eq (x : ℝ) : Real.rpow 2 x = Real.exp (x * Real.log 2) := by
  show (2 : ℝ) ^ x = _
  rw [Real.rpow_def_of_pos (by norm_num), mul_comm]

theorem pow_two_pos (x : ℝ) : 0 < Real.rpow 2 x := Real.rpow_pos_of_pos (by norm_num) x

theorem log_two_pos : 0 < Real.log 2 := Real.log_pos (by norm_num)

/-- Moving the reference of a power of two. -/
theorem pow_two_move (a ρ γ : ℝ) : Real.rpow 2 (ρ - γ) * Real.rpow 2 (a - ρ) = Real.rpow 2 (a - γ) := by
  rw [pow_two_eq, pow_two_eq, pow_two_eq, ← Real.exp_add]
  congr 1; ring

/-- The kernel's quotient of two sums of powers of two, of scores over log 2 and any reference, is the sum weighted by the
    softmax of the scores, taken against any other reference. -/
theorem quotient {n : Nat} (hn : 0 < n) (s : Fin n → ℝ) (v : Fin n → EReal) (ρ M : ℝ) :
    Ideal.div (∑ x, v x * ((Real.rpow 2 (s x * (Real.log 2)⁻¹ - ρ) : ℝ) : EReal)) (∑ x, ((Real.rpow 2 (s x * (Real.log 2)⁻¹ - ρ) : ℝ) : EReal))
      = ∑ x, Ideal.div ((Real.exp (s x - M) : ℝ) : EReal) (∑ x', ((Real.exp (s x' - M) : ℝ) : EReal)) * v x := by
  have hl := log_two_pos
  have key : ∀ x, Real.rpow 2 (s x * (Real.log 2)⁻¹ - ρ) = Real.exp (M - ρ * Real.log 2) * Real.exp (s x - M) := fun x => by
    rw [pow_two_eq, ← Real.exp_add]
    congr 1
    field_simp
    ring
  have hne : (Finset.univ : Finset (Fin n)).Nonempty := ⟨⟨0, hn⟩, Finset.mem_univ _⟩
  have hE : 0 < ∑ x, Real.exp (s x - M) := Finset.sum_pos (fun x _ => Real.exp_pos _) hne
  have hL : 0 < ∑ x, Real.rpow 2 (s x * (Real.log 2)⁻¹ - ρ) := Finset.sum_pos (fun x _ => pow_two_pos _) hne
  have hLE : ∑ x, Real.rpow 2 (s x * (Real.log 2)⁻¹ - ρ) = Real.exp (M - ρ * Real.log 2) * ∑ x, Real.exp (s x - M) := by
    rw [Finset.mul_sum]; exact Finset.sum_congr rfl fun x _ => key x
  rw [coe_sum, coe_sum, div_real _ _ hL.ne', mul_sum_real _ _ (inv_nonneg.mpr hL.le)]
  refine Finset.sum_congr rfl fun x _ => ?_
  rw [div_real _ _ hE.ne', ← EReal.coe_mul, mul_comm (v x), ← mul_assoc, ← EReal.coe_mul]
  congr 2
  rw [key, hLE]
  have := Real.exp_pos (M - ρ * Real.log 2)
  field_simp

end Cert.AxMath

end
-- ==== Proof.AxTiles.lean ====
/-
  The axial attention's tiles read at an index over the extended reals: the extended queries, a chunk's scores and their
  maxima, a chunk's accumulation, and the quotient.
-/
module

public import proofs.«01_k».proof.Proof.Pure
public import proofs.«01_k».proof.Proof.AxMath
public import Idealize.ShloMosaic.Lib.Pipeline.Value
public import Idealize.ShloMosaic.Lib.Pointwise

@[expose] public section

set_option maxRecDepth 16384

noncomputable section

namespace Cert.KernelIdeal.Axial

open Idealize.ShloMosaic Idealize.SL.Sem
open Cert.KernelIdeal Facts₀ Facts Cert.AxMath

variable [Facts]

/-- A chunk's scores on a lane tile are the products of its keys with the tile's extended queries. -/
theorem scoreTile_apply (k : FVec Ideal S256x128 .bf16) (q : FVec Ideal S128x256 .bf16) (i j : Fin 256) :
    scoreTile k q (ix2 i j) = ∑ d, k (ix2 i d) * q (ix2 d j) := by
  pointwise [scoreTile]

/-- A chunk accumulated on a lane tile, the reference unmoved, -/
theorem accTile_none (t : Fin 8) (s : FVec Ideal S256x256 .bf16) (v : FVec Ideal S80x256 .bf16) (a : FVec Ideal S80x256 .f32) (d : Fin 80) (j : Fin 256) :
    accTile t none s v a (ix2 d j) = a (ix2 d j) + ∑ i, v (ix2 d i) * Ideal.exp2 (s (ix2 i j)) := by
  unfold accTile rescale
  pointwise
  rfl

/-- and the reference moved. -/
theorem accTile_some (t : Fin 8) (w : FVec Ideal S1x2048 .f32) (s : FVec Ideal S256x256 .bf16) (v : FVec Ideal S80x256 .bf16) (a : FVec Ideal S80x256 .f32) (d : Fin 80) (j : Fin 256) :
    accTile t (some w) s v a (ix2 d j) = w (ix2 0 ⟨256 * t.val + j.val, by omega⟩) * a (ix2 d j) + ∑ i, v (ix2 d i) * Ideal.exp2 (s (ix2 i j)) := by
  unfold accTile rescale
  pointwise
  rfl

/-- A largest value starts from −∞. -/
theorem maxStart : Ideal.ofBits .bf16 0xFF80#16 = ⊥ := by
  simp [Ideal.ofBits, Ideal.ieee]

/-- The largest of finite scores is finite. -/
theorem maxTile_real (s : FVec Ideal S256x256 .bf16) (j : Fin 256) (h : ∀ i, IsR (s (ix2 i j))) : IsR (maxTile s (ix2 0 j)) := by
  have e : maxTile s (ix2 0 j) = Finset.univ.fold max (Ideal.ofBits .bf16 0xFF80#16) (fun i : Fin 256 => s (ix2 i j)) := by
    pointwise [maxTile]
  rw [e, maxStart]
  exact isR_fold_max _ ⟨0, Finset.mem_univ _⟩ _ h

/-- So is the largest of the first look's. -/
theorem firstTile_real (k : FVec Ideal S128x128 .bf16) (q : FVec Ideal S128x256 .bf16) (j : Fin 256)
    (h : ∀ i : Fin 128, IsR (∑ d, k (ix2 i d) * q (ix2 d j))) : IsR (firstTile k q (ix2 0 j)) := by
  have e : firstTile k q (ix2 0 j) = Finset.univ.fold max (Ideal.ofBits .bf16 0xFF80#16) (fun i : Fin 128 => ∑ d, k (ix2 i d) * q (ix2 d j)) := by
    pointwise [firstTile]
  rw [e, maxStart]
  exact isR_fold_max _ ⟨0, Finset.mem_univ _⟩ _ h

/-- A row of eight tiles of finite values is one of finite values. -/
theorem cat8'_real (m0 m1 m2 m3 m4 m5 m6 m7 : FVec Ideal S1x256 .f32) (h0 : ∀ j, IsR (m0 (ix2 0 j))) (h1 : ∀ j, IsR (m1 (ix2 0 j)))
    (h2 : ∀ j, IsR (m2 (ix2 0 j))) (h3 : ∀ j, IsR (m3 (ix2 0 j))) (h4 : ∀ j, IsR (m4 (ix2 0 j))) (h5 : ∀ j, IsR (m5 (ix2 0 j)))
    (h6 : ∀ j, IsR (m6 (ix2 0 j))) (h7 : ∀ j, IsR (m7 (ix2 0 j))) (y : Fin 2048) : IsR (cat8' m0 m1 m2 m3 m4 m5 m6 m7 (ix2 0 y)) := by
  pointwise [cat8']
  split_ifs <;> first | exact h0 _ | exact h1 _ | exact h2 _ | exact h3 _ | exact h4 _ | exact h5 _ | exact h6 _ | exact h7 _

/-- The quotient of the accumulated values by the accumulated weights, a head's columns beside one another. -/
theorem finish_apply (a : FVec Ideal S80x2048 .f32) (n : Fin 512) (g : Fin 4) (d : Fin 64) :
    finish a (ix2 n ⟨64 * g.val + d.val, by omega⟩)
      = Ideal.div (a (ix2 ⟨d.val, by omega⟩ ⟨512 * g.val + n.val, by omega⟩)) (a (ix2 64 ⟨512 * g.val + n.val, by omega⟩)) := by
  have f : ∀ x y : Fin 80, x.val = y.val → ∀ z, a (ix2 x z) = a (ix2 y z) := fun x y h z => by rw [Fin.ext h]
  fin_cases g
  · pointwise [finish]
  · pointwise [finish]
  · pointwise [finish]
    rw [dif_neg (by omega), dif_neg (by omega), dif_pos (by omega)]
    congr 1
    exact f _ _ (show 128 + d.val - 64 - 64 = d.val by omega) _
  · pointwise [finish]
    rw [dif_neg (by omega), dif_neg (by omega), dif_neg (by omega)]
    congr 1
    exact f _ _ (show 192 + d.val - 64 - 64 - 64 = d.val by omega) _

/-! ## The glued arrays -/

/-- A score is in the lane tile of its column; -/
theorem glueS_apply {α : Type} (X : (t : Fin 8) → (laneS t).shape.Idx → α) (i : Fin 256) (y : Fin 2048) :
    glueS X (ix2 i y) = X ⟨y.val / 256, lane_lt y.isLt⟩ (ix2 i ⟨y.val % 256, Nat.mod_lt _ (by decide)⟩ : S256x256.Idx) := by
  unfold glueS
  refine congrArg (X ⟨y.val / 256, lane_lt y.isLt⟩) (funext fun a => Fin.ext ?_)
  match a with
  | ⟨0, _⟩ => show i.val - 0 = i.val; omega
  | ⟨1, _⟩ => show y.val - 256 * (y.val / 256) = y.val % 256; omega

/-- so is an accumulated value. -/
theorem glueAcc_apply {α : Type} (X : (t : Fin 8) → (laneAcc t).shape.Idx → α) (d : Fin 80) (y : Fin 2048) :
    glueAcc X (ix2 d y) = X ⟨y.val / 256, lane_lt y.isLt⟩ (ix2 d ⟨y.val % 256, Nat.mod_lt _ (by decide)⟩ : S80x256.Idx) := by
  unfold glueAcc
  refine congrArg (X ⟨y.val / 256, lane_lt y.isLt⟩) (funext fun a => Fin.ext ?_)
  match a with
  | ⟨0, _⟩ => show d.val - 0 = d.val; omega
  | ⟨1, _⟩ => show y.val - 256 * (y.val / 256) = y.val % 256; omega

/-- A lane tile's column in the whole array. -/
theorem lane_col (y : Fin 2048) : (⟨256 * (y.val / 256) + y.val % 256, by omega⟩ : Fin 2048) = y := Fin.ext (by show 256 * (y.val / 256) + y.val % 256 = y.val; omega)

theorem part_laneAug (X : Vec Ideal S128x2048 .bf16) (t : Fin 8) (d : Fin 128) (j : Fin 256) :
    part X (laneAug t) (ix2 d j : S128x256.Idx) = X (ix2 d ⟨256 * t.val + j.val, by omega⟩) := by
  unfold part
  refine congrArg X (funext fun a => Fin.ext ?_)
  match a with
  | ⟨0, _⟩ => show 0 + 1 * d.val = d.val; omega
  | ⟨1, _⟩ => show 256 * t.val + 1 * j.val = 256 * t.val + j.val; omega

theorem part_laneS (X : Vec Ideal S256x2048 .bf16) (t : Fin 8) (i : Fin 256) (j : Fin 256) :
    part X (laneS t) (ix2 i j : S256x256.Idx) = X (ix2 i ⟨256 * t.val + j.val, by omega⟩) := by
  unfold part
  refine congrArg X (funext fun a => Fin.ext ?_)
  match a with
  | ⟨0, _⟩ => show 0 + 1 * i.val = i.val; omega
  | ⟨1, _⟩ => show 256 * t.val + 1 * j.val = 256 * t.val + j.val; omega

theorem part_laneAcc (X : Vec Ideal S80x2048 .f32) (t : Fin 8) (d : Fin 80) (j : Fin 256) :
    part X (laneAcc t) (ix2 d j : S80x256.Idx) = X (ix2 d ⟨256 * t.val + j.val, by omega⟩) := by
  unfold part
  refine congrArg X (funext fun a => Fin.ext ?_)
  match a with
  | ⟨0, _⟩ => show 0 + 1 * d.val = d.val; omega
  | ⟨1, _⟩ => show 256 * t.val + 1 * j.val = 256 * t.val + j.val; omega

/-- Key `i` of chunk `c`. -/
abbrev keyOf (c : Fin 32) (i : Fin 256) : Fin 8192 := ⟨256 * c.val + i.val, by omega⟩

theorem part_key (k : Vec Ideal S8192x128 .bf16) (o : KOff) (c : Fin 32) (h : o.off = ![256 * c.val, 0]) (i : Fin 256) (d : Fin 128) :
    part k o.rect (ix2 i d : S256x128.Idx) = k (ix2 (keyOf c i) d) := by
  obtain ⟨off, inb⟩ := o
  subst h
  unfold part
  refine congrArg k (funext fun a => Fin.ext ?_)
  match a with
  | ⟨0, _⟩ => show 256 * c.val + 1 * i.val = 256 * c.val + i.val; omega
  | ⟨1, _⟩ => show 0 + 1 * d.val = d.val; omega

theorem part_value (v : Vec Ideal S80x8192 .bf16) (o : VOff) (c : Fin 32) (h : o.off = ![0, 256 * c.val]) (d : Fin 80) (i : Fin 256) :
    part v o.rect (ix2 d i : S80x256.Idx) = v (ix2 d (keyOf c i)) := by
  obtain ⟨off, inb⟩ := o
  subst h
  unfold part
  refine congrArg v (funext fun a => Fin.ext ?_)
  match a with
  | ⟨0, _⟩ => show 0 + 1 * d.val = d.val; omega
  | ⟨1, _⟩ => show 256 * c.val + 1 * i.val = 256 * c.val + i.val; omega

theorem part_headQ (q : Vec Ideal S256x512 .bf16) (g : Fin 4) (d : Fin 64) (n : Fin 512) :
    part q (headQ g) (ix2 d n : S64x512.Idx) = q (ix2 ⟨64 * g.val + d.val, by omega⟩ n) := by
  unfold part
  refine congrArg q (funext fun a => Fin.ext ?_)
  match a with
  | ⟨0, _⟩ => show 64 * g.val + 1 * d.val = 64 * g.val + d.val; omega
  | ⟨1, _⟩ => show 0 + 1 * n.val = n.val; omega

/-! ## The extended queries at an index -/

/-- The reference's rows: minus the reference, then zeros. -/
theorem refs_apply (r : FVec Ideal S1x2048 .f32) (e : Fin 16) (y : Fin 2048) :
    refs r (ix2 e y : S16x2048.Idx) = if e.val = 0 then 0 - r (ix2 0 y) else 0 := by
  have h : ∀ e : Fin 16, IntOp.cmpi .eq (BitVec.ofNat 32 e.val) 0#32 = if e.val = 0 then 1#1 else 0#1 := by decide
  unfold refs refRows
  pointwise
  rw [h]
  by_cases h0 : e.val = 0
  · rw [if_pos h0, if_pos h0]; rfl
  · rw [if_neg h0, if_neg h0]; rfl

/-- A head's stored queries are its rows of the query block. -/
theorem headQs_eq (q : Vec Ideal S256x512 .bf16) (g : Fin 4) : headQs q g = part q (headQ g) :=
  (shapeCast_self _ _).trans (shapeCast_self _ _)

/-- The padding is zero. -/
theorem pads_apply (x : padRect.shape.Idx) : (pads (F := Ideal) x : EReal) = 0 := by
  unfold pads
  rw [shapeCast_self]
  show Ideal.ofBits .bf16 0x0000#16 = 0
  simp

/-- A head's queries, -/
theorem aug_query (q : Vec Ideal S256x512 .bf16) (r : FVec Ideal S1x2048 .f32) (d : Fin 64) (y : Fin 2048) :
    augOf q r (ix2 ⟨d.val, by omega⟩ y) = q (ix2 ⟨64 * (y.val / 512) + d.val, by omega⟩ ⟨y.val % 512, Nat.mod_lt _ (by decide)⟩) := by
  unfold augOf glueAug
  refine (dif_pos d.isLt).trans ?_
  refine (congrFun (headQs_eq q _) _).trans ?_
  refine Eq.trans ?_ (part_headQ q ⟨y.val / 512, head_lt y.isLt⟩ d ⟨y.val % 512, Nat.mod_lt _ (by decide)⟩)
  refine congrArg (part q (headQ ⟨y.val / 512, head_lt y.isLt⟩)) (funext fun a => Fin.ext ?_)
  match a with
  | ⟨0, _⟩ => show d.val - 0 = d.val; omega
  | ⟨1, _⟩ => show y.val - 512 * (y.val / 512) = y.val % 512; omega

/-- and what is below them: minus the reference, then zeros. -/
theorem aug_rest (q : Vec Ideal S256x512 .bf16) (r : FVec Ideal S1x2048 .f32) (e : Fin 64) (y : Fin 2048) :
    augOf q r (ix2 ⟨64 + e.val, by omega⟩ y) = if e.val = 0 then 0 - r (ix2 0 y) else 0 := by
  unfold augOf glueAug
  refine (dif_neg (show ¬ 64 + e.val < 64 by omega)).trans ?_
  by_cases h : 64 + e.val < 80
  · refine (dif_pos h).trans ?_
    refine Eq.trans ?_ (refs_apply r ⟨e.val, by omega⟩ y)
    refine congrArg (refs r) (funext fun a => Fin.ext ?_)
    match a with
    | ⟨0, _⟩ => show 64 + e.val - 64 = e.val; omega
    | ⟨1, _⟩ => show y.val - 0 = y.val; omega
  · refine (dif_neg h).trans ?_
    rw [if_neg (by omega)]
    exact pads_apply _

/-! ## A chunk's scores and accumulation at an index -/

/-- The scores of chunk `c` at a column. -/
theorem scoreOf_apply (k : Vec Ideal S8192x128 .bf16) (aug : Vec Ideal S128x2048 .bf16) (o : KOff) (c : Fin 32) (h : o.off = ![256 * c.val, 0])
    (t : Fin 8) (i j : Fin 256) :
    scoreOf k aug o t (ix2 i j) = ∑ d, k (ix2 (keyOf c i) d) * aug (ix2 d ⟨256 * t.val + j.val, by omega⟩) := by
  unfold scoreOf
  rw [scoreTile_apply]
  refine Finset.sum_congr rfl fun d _ => ?_
  rw [part_key k o c h, part_laneAug]

theorem scoresOf_apply (k : Vec Ideal S8192x128 .bf16) (aug : Vec Ideal S128x2048 .bf16) (o : KOff) (c : Fin 32) (h : o.off = ![256 * c.val, 0])
    (i : Fin 256) (y : Fin 2048) :
    scoresOf k aug o (ix2 i y) = ∑ d, k (ix2 (keyOf c i) d) * aug (ix2 d y) := by
  unfold scoresOf
  rw [glueS_apply, shapeCast_self, scoreOf_apply k aug o c h]
  simp only [lane_col]

/-- The maxima are finite when the scores are. -/
theorem maxOf_real (k : Vec Ideal S8192x128 .bf16) (aug : Vec Ideal S128x2048 .bf16) (o : KOff) (c : Fin 32) (h : o.off = ![256 * c.val, 0])
    (hs : ∀ x y, IsR (∑ d, k (ix2 x d) * aug (ix2 d y))) (y : Fin 2048) : IsR (maxOf k aug o (ix2 0 y)) := by
  have H : ∀ t j, IsR (maxTile (scoreOf k aug o t) (ix2 0 j)) := fun t j =>
    maxTile_real _ j fun i => by rw [scoreOf_apply k aug o c h]; exact hs _ _
  exact cat8'_real _ _ _ _ _ _ _ _ (H 0) (H 1) (H 2) (H 3) (H 4) (H 5) (H 6) (H 7) y

/-- So is the first top. -/
theorem topOf_real (k : Vec Ideal S8192x128 .bf16) (aug : Vec Ideal S128x2048 .bf16)
    (hs : ∀ x y, IsR (∑ d, k (ix2 x d) * aug (ix2 d y))) (y : Fin 2048) : IsR (topOf k aug (ix2 0 y)) := by
  have e : ∀ (i d : Fin 128), part k (Rect.unit (s := S8192x128) ![0, 0] S128x128.size inb_S8192x128_S128x128_0_0) (ix2 i d : S128x128.Idx)
      = k (ix2 ⟨i.val, by omega⟩ d) := fun i d => by
    unfold part
    refine congrArg k (funext fun a => Fin.ext ?_)
    match a with
    | ⟨0, _⟩ => show 0 + 1 * i.val = i.val; omega
    | ⟨1, _⟩ => show 0 + 1 * d.val = d.val; omega
  have H : ∀ t j, IsR (firstOf k aug t (ix2 0 j)) := fun t j => by
    unfold firstOf
    refine firstTile_real _ _ j fun i => ?_
    have := hs ⟨i.val, by omega⟩ ⟨256 * t.val + j.val, by omega⟩
    refine (congrArg IsR (Finset.sum_congr rfl fun d _ => ?_)).mpr this
    rw [e, part_laneAug]
  exact cat8'_real _ _ _ _ _ _ _ _ (H 0) (H 1) (H 2) (H 3) (H 4) (H 5) (H 6) (H 7) y

/-- Chunk `c` accumulated, the reference unmoved, -/
theorem accOf_none (v : Vec Ideal S80x8192 .bf16) (o : VOff) (c : Fin 32) (h : o.off = ![0, 256 * c.val]) (cur : Vec Ideal S256x2048 .bf16)
    (acc : Vec Ideal S80x2048 .f32) (d : Fin 80) (y : Fin 2048) :
    accOf v o none cur acc (ix2 d y) = acc (ix2 d y) + ∑ i, v (ix2 d (keyOf c i)) * Ideal.exp2 (cur (ix2 i y)) := by
  unfold accOf
  rw [glueAcc_apply]
  unfold accT
  rw [shapeCast_self, accTile_none, part_laneAcc, lane_col]
  refine congrArg (_ + ·) (Finset.sum_congr rfl fun i _ => ?_)
  exact congrArg₂ (· * ·) (part_value v o c h d i) (congrArg Ideal.exp2 ((part_laneS cur _ i _).trans (by rw [lane_col])))

/-- and the reference moved. -/
theorem accOf_some (v : Vec Ideal S80x8192 .bf16) (o : VOff) (c : Fin 32) (h : o.off = ![0, 256 * c.val]) (w : FVec Ideal S1x2048 .f32)
    (cur : Vec Ideal S256x2048 .bf16) (acc : Vec Ideal S80x2048 .f32) (d : Fin 80) (y : Fin 2048) :
    accOf v o (some w) cur acc (ix2 d y) = w (ix2 0 y) * acc (ix2 d y) + ∑ i, v (ix2 d (keyOf c i)) * Ideal.exp2 (cur (ix2 i y)) := by
  unfold accOf
  rw [glueAcc_apply]
  unfold accT
  rw [shapeCast_self, accTile_some, part_laneAcc, lane_col]
  refine congrArg (_ + ·) (Finset.sum_congr rfl fun i _ => ?_)
  exact congrArg₂ (· * ·) (part_value v o c h d i) (congrArg Ideal.exp2 ((part_laneS cur _ i _).trans (by rw [lane_col])))

end Cert.KernelIdeal.Axial

end
-- ==== Proof.AxSum.lean ====
/-
  The axial attention's two sweeps over the extended reals: after each step the accumulator holds the sum over the chunks
  done so far, taken against some finite reference.
-/
module

public import proofs.«01_k».proof.Proof.AxTiles

@[expose] public section

set_option maxRecDepth 16384

noncomputable section

namespace Cert.KernelIdeal.Axial

open Idealize.ShloMosaic Idealize.SL.Sem
open Cert.KernelIdeal Facts₀ Facts Cert.AxMath

variable [Facts]

/-- The blocks' scores are the real numbers `s`, the keys are followed by a one and then zeros. -/
structure Good (q : Vec Ideal S256x512 .bf16) (k : Vec Ideal S8192x128 .bf16) (s : Fin 8192 → Fin 2048 → ℝ) : Prop where
  score : ∀ x y, ∑ d : Fin 64, k (ix2 x ⟨d.val, by omega⟩) * q (ix2 ⟨64 * (y.val / 512) + d.val, by omega⟩ ⟨y.val % 512, Nat.mod_lt _ (by decide)⟩) = (s x y : EReal)
  one : ∀ x, k (ix2 x 64) = 1
  zero : ∀ x (e : Fin 64), e.val ≠ 0 → k (ix2 x ⟨64 + e.val, by omega⟩) = 0

/-- The product of the extended keys with the extended queries is the score minus the reference. -/
theorem Good.full {q : Vec Ideal S256x512 .bf16} {k : Vec Ideal S8192x128 .bf16} {s : Fin 8192 → Fin 2048 → ℝ} (G : Good q k s)
    (r : FVec Ideal S1x2048 .f32) (ρ : Fin 2048 → ℝ) (hr : ∀ y, r (ix2 0 y) = (ρ y : EReal)) (x : Fin 8192) (y : Fin 2048) :
    ∑ d : Fin 128, k (ix2 x d) * augOf q r (ix2 d y) = ((s x y - ρ y : ℝ) : EReal) := by
  refine (Fin.sum_univ_add (a := 64) (b := 64) (fun d : Fin (64 + 64) => k (ix2 x d) * augOf q r (ix2 d y))).trans ?_
  rw [sub_eq_add_neg, EReal.coe_add]
  refine congrArg₂ (· + ·) ?_ ?_
  · refine Eq.trans (Finset.sum_congr rfl fun d _ => ?_) (G.score x y)
    exact congrArg (k (ix2 x ⟨d.val, by omega⟩) * ·) (aug_query q r d y)
  · rw [Finset.sum_eq_single (0 : Fin 64)]
    · refine (congrArg₂ (· * ·) (G.one x) (aug_rest q r 0 y)).trans ?_
      rw [if_pos (show (0 : Fin 64).val = 0 from rfl), hr, one_mul, zero_sub, EReal.coe_neg]
    · intro e _ he
      have h : e.val ≠ 0 := fun h => he (Fin.ext h)
      refine (congrArg₂ (· * ·) (G.zero x e h) (aug_rest q r e y)).trans ?_
      rw [zero_mul]
    · intro h; exact absurd (Finset.mem_univ _) h

/-- Key `i` of chunk `c`, the chunk's number taken modulo the number of chunks. -/
def keyN (c : Nat) (i : Fin 256) : Fin 8192 := keyOf ⟨c % 32, Nat.mod_lt _ (by decide)⟩ i

theorem keyN_eq (c : Nat) (h : c < 32) (i : Fin 256) : keyOf ⟨c, h⟩ i = keyN c i :=
  Fin.ext (by show 256 * c + i.val = 256 * (c % 32) + i.val; rw [Nat.mod_eq_of_lt h])

/-- The values of the first `c` chunks, weighted by powers of two of the scores against a reference. -/
def done (v : Vec Ideal S80x8192 .bf16) (s : Fin 8192 → Fin 2048 → ℝ) (ρ : Fin 2048 → ℝ) (c : Nat) (d : Fin 80) (y : Fin 2048) : EReal :=
  ∑ j ∈ Finset.range c, ∑ i : Fin 256, v (ix2 d (keyN j i)) * ((Real.rpow 2 (s (keyN j i) y - ρ y) : ℝ) : EReal)

/-- Where a sweep stands when chunk `c` waits: its reference is `ρ`, the accumulator's is `ρa`. -/
structure Inv (v : Vec Ideal S80x8192 .bf16) (s : Fin 8192 → Fin 2048 → ℝ) (c : Nat) (ρ ρa : Fin 2048 → ℝ) (w : Sw Ideal) : Prop where
  ref : ∀ y, w.c.1 (ix2 0 y) = (ρ y : EReal)
  mx : ∀ y, IsR (w.c.2.1 (ix2 0 y))
  top : ∀ y, IsR (w.c.2.2.1 (ix2 0 y))
  cur : ∀ i y, w.cur (ix2 i y) = ((s (keyN c i) y - ρ y : ℝ) : EReal)
  acc : ∀ d y, w.acc (ix2 d y) = done v s ρa c d y

section Steps
variable {q : Vec Ideal S256x512 .bf16} {k : Vec Ideal S8192x128 .bf16} {v : Vec Ideal S80x8192 .bf16} {s : Fin 8192 → Fin 2048 → ℝ}
  (G : Good q k s)
include G

/-- The part of a step that does not concern the accumulator. -/
theorem step_scores {c : Nat} {ρ ρa γ : Fin 2048 → ℝ} {w : Sw Ideal} (h : Inv v s c ρ ρa w) (hc : c + 1 < 32) (g : FVec Ideal S1x2048 .f32)
    (hg : ∀ y, g (ix2 0 y) = (γ y : EReal)) (ko : KOff) (hk : ko.off = ![256 * (c + 1), 0]) (vo : VOff) (al : Option (FVec Ideal S1x2048 .f32))
    {ρb : Fin 2048 → ℝ} (ha : ∀ d y, accOf v vo al w.cur w.acc (ix2 d y) = done v s ρb (c + 1) d y) :
    Inv v s (c + 1) γ ρb (Sw.step q k v g ko vo al w) where
  ref := hg
  mx := fun y => maxOf_real k (augOf q g) ko ⟨c + 1, hc⟩ hk (fun x y => ⟨_, G.full g γ hg x y⟩) y
  top := fun y => (h.top y).max (IsR.add ⟨_, h.ref y⟩ (h.mx y))
  cur := fun i y => (scoresOf_apply k (augOf q g) ko ⟨c + 1, hc⟩ hk i y).trans (by rw [keyN_eq]; exact G.full g γ hg _ y)
  acc := ha

omit G in
/-- The weighted values of the waiting chunk. -/
theorem chunk_sum {c : Nat} {ρ ρa : Fin 2048 → ℝ} {w : Sw Ideal} (h : Inv v s c ρ ρa w) (hc : c < 32) (d : Fin 80) (y : Fin 2048) :
    ∑ i, v (ix2 d (keyOf ⟨c, hc⟩ i)) * Ideal.exp2 (w.cur (ix2 i y))
      = ∑ i : Fin 256, v (ix2 d (keyN c i)) * ((Real.rpow 2 (s (keyN c i) y - ρ y) : ℝ) : EReal) :=
  Finset.sum_congr rfl fun i _ => by rw [h.cur, keyN_eq, Ideal.exp2_coe]

omit G in
/-- Accumulating the waiting chunk. -/
theorem acc_none {c : Nat} {ρ : Fin 2048 → ℝ} {w : Sw Ideal} (h : Inv v s c ρ ρ w) (hc : c < 32) (vo : VOff) (hv : vo.off = ![0, 256 * c])
    (d : Fin 80) (y : Fin 2048) : accOf v vo none w.cur w.acc (ix2 d y) = done v s ρ (c + 1) d y := by
  rw [accOf_none v vo ⟨c, hc⟩ hv, chunk_sum h hc, h.acc]
  unfold done
  rw [Finset.sum_range_succ]

omit G in
/-- Accumulating it when the reference has moved. -/
theorem acc_some {c : Nat} {γ ρ : Fin 2048 → ℝ} {w : Sw Ideal} (h : Inv v s c γ ρ w) (hc : c < 32) (vo : VOff) (hv : vo.off = ![0, 256 * c])
    (al : FVec Ideal S1x2048 .f32) (hal : ∀ y, al (ix2 0 y) = ((Real.rpow 2 (ρ y - γ y) : ℝ) : EReal))
    (d : Fin 80) (y : Fin 2048) : accOf v vo (some al) w.cur w.acc (ix2 d y) = done v s γ (c + 1) d y := by
  rw [accOf_some v vo ⟨c, hc⟩ hv, chunk_sum h hc, h.acc, hal]
  unfold done
  rw [Finset.sum_range_succ, mul_sum_real _ _ (pow_two_pos _).le]
  refine congrArg (· + _) (Finset.sum_congr rfl fun j _ => ?_)
  rw [mul_sum_real _ _ (pow_two_pos _).le]
  refine Finset.sum_congr rfl fun i _ => ?_
  rw [mul_left_comm, ← EReal.coe_mul, pow_two_move]

theorem step_none {c : Nat} {ρ γ : Fin 2048 → ℝ} {w : Sw Ideal} (h : Inv v s c ρ ρ w) (hc : c + 1 < 32) (g : FVec Ideal S1x2048 .f32)
    (hg : ∀ y, g (ix2 0 y) = (γ y : EReal)) (ko : KOff) (hk : ko.off = ![256 * (c + 1), 0]) (vo : VOff) (hv : vo.off = ![0, 256 * c]) :
    Inv v s (c + 1) γ ρ (Sw.step q k v g ko vo none w) :=
  step_scores G h hc g hg ko hk vo none (acc_none h (by omega) vo hv)

theorem step_some {c : Nat} {ρ γ : Fin 2048 → ℝ} {w : Sw Ideal} (h : Inv v s c γ ρ w) (hc : c + 1 < 32) (g : FVec Ideal S1x2048 .f32)
    (hg : ∀ y, g (ix2 0 y) = (γ y : EReal)) (ko : KOff) (hk : ko.off = ![256 * (c + 1), 0]) (vo : VOff) (hv : vo.off = ![0, 256 * c])
    (al : FVec Ideal S1x2048 .f32) (hal : ∀ y, al (ix2 0 y) = ((Real.rpow 2 (ρ y - γ y) : ℝ) : EReal)) :
    Inv v s (c + 1) γ γ (Sw.step q k v g ko vo (some al) w) :=
  step_scores G h hc g hg ko hk vo (some al) (acc_some h (by omega) vo hv al hal)

omit G in
/-- The steps' numbers follow one another. -/
def Consec (b : Nat) : Nat → List (Fin 8) → Prop
  | _, [] => True
  | c, u :: us => b + u.val = c ∧ Consec b (c + 1) us

/-- Steps that keep the reference. -/
theorem plain_inv (ko : Fin 8 → KOff) (vo : Fin 8 → VOff) (b : Nat) (hk : ∀ u : Fin 8, b + u.val + 1 < 32 → (ko u).off = ![256 * (b + u.val + 1), 0])
    (hv : ∀ u : Fin 8, b + u.val < 32 → (vo u).off = ![0, 256 * (b + u.val)]) {ρ : Fin 2048 → ℝ} :
    ∀ (us : List (Fin 8)) (c : Nat) (w : Sw Ideal), Inv v s c ρ ρ w → Consec b c us → c + us.length < 32 →
      Inv v s (c + us.length) ρ ρ (Sw.plain q k v ko vo us w)
  | [], c, w, h, _, _ => h
  | u :: us, c, w, h, hu, hl => by
    obtain ⟨rfl, hu⟩ := hu
    rw [List.length_cons] at hl ⊢
    have h1 := step_none G h (by omega) w.c.1 h.ref (ko u) (hk u (by omega)) (vo u) (hv u (by omega))
    have h2 := plain_inv ko vo b hk hv us _ _ h1 hu (by omega)
    rw [show b + u.val + (us.length + 1) = b + u.val + 1 + us.length by omega]
    exact h2

/-- A group of steps. -/
theorem group_inv (ko : Fin 8 → KOff) (vo : Fin 8 → VOff) (b : Nat) (hk : ∀ u : Fin 8, b + u.val + 1 < 32 → (ko u).off = ![256 * (b + u.val + 1), 0])
    (hv : ∀ u : Fin 8, b + u.val < 32 → (vo u).off = ![0, 256 * (b + u.val)]) {ρ : Fin 2048 → ℝ}
    (us : List (Fin 8)) (w : Sw Ideal) (h : Inv v s b ρ ρ w) (hu : Consec b (b + 2) us) (hl : b + 2 + us.length < 32) :
    ∃ γ, Inv v s (b + 2 + us.length) γ γ (Sw.group q k v ko vo us w) := by
  choose γ hγ using h.top
  have hg : ∀ y, rnd w.c.2.2.1 (ix2 0 y) = (γ y : EReal) := fun y => hγ y
  have h1 := step_none G h (by omega) (rnd w.c.2.2.1) hg (ko 0) (hk 0 (by show b + 0 + 1 < 32; omega)) (vo 0) (hv 0 (by show b + 0 < 32; omega))
  have h2 := step_some G h1 (by omega) (rnd w.c.2.2.1) hg (ko 1) (hk 1 (by show b + 1 + 1 < 32; omega)) (vo 1) (hv 1 (by show b + 1 < 32; omega))
    (exp2 (subf w.c.1 (rnd w.c.2.2.1))) (fun y => by
      show Ideal.exp2 (w.c.1 (ix2 0 y) - rnd w.c.2.2.1 (ix2 0 y)) = _
      rw [h.ref, hg, ← EReal.coe_sub, Ideal.exp2_coe])
  exact ⟨γ, plain_inv G ko vo b hk hv us _ _ h2 hu hl⟩

/-! ## The loops and the whole sweeps -/

omit G in
/-- A fold over the numbers below `n` keeps what each step passes on. -/
theorem fold_inv {α : Type} (P : Nat → α → Prop) : ∀ {n : Nat} (f : α → Fin n → α), (∀ i a, P i.val a → P (i.val + 1) (f a i)) →
    ∀ a, P 0 a → P n ((List.finRange n).foldl f a)
  | 0, f, _, a, h => h
  | n + 1, f, hf, a, h => by
    rw [List.finRange_succ_last, List.foldl_append, List.foldl_map]
    exact hf (Fin.last n) _ (fold_inv P (n := n) (fun a i => f a i.castSucc) (fun i a h => hf i.castSucc a h) a h)

omit G in
theorem trips1 : k0_t1_loop.trips = 3 := by decide +kernel
omit G in
theorem trips2 : k0_t2_loop.trips = 3 := by decide +kernel

omit G in
/-- The places of the chunks in the first sweep's loop; -/
theorem off1_eq : ∀ (i : Fin k0_t1_loop.trips) (u : Fin 8), k0_off1 i (BitVec.ofNat 32 u.val) = ![256 * (8 * i.val + u.val + 1), 0] := by decide +kernel
omit G in
theorem off2_eq : ∀ (i : Fin k0_t1_loop.trips) (u : Fin 8), k0_off2 i (BitVec.ofNat 32 u.val) = ![0, 256 * (8 * i.val + u.val)] := by decide +kernel
omit G in
/-- in the second's. -/
theorem off3_eq : ∀ (i : Fin k0_t2_loop.trips) (u : Fin 8), k0_off3 i (BitVec.ofNat 32 u.val) = ![256 * (8 * i.val + u.val + 1), 0] := by decide +kernel
omit G in
theorem off4_eq : ∀ (i : Fin k0_t2_loop.trips) (u : Fin 8), k0_off4 i (BitVec.ofNat 32 u.val) = ![0, 256 * (8 * i.val + u.val)] := by decide +kernel

omit G in
/-- The numbers two to seven follow one another. -/
theorem consec7 (b : Nat) : Consec b (b + 2) [2, 3, 4, 5, 6, 7] := ⟨rfl, rfl, rfl, rfl, rfl, rfl, trivial⟩
omit G in
theorem consec6 (b : Nat) : Consec b (b + 2) [2, 3, 4, 5, 6] := ⟨rfl, rfl, rfl, rfl, rfl, trivial⟩

omit G in
/-- What a sweep watches besides does not matter. -/
theorem reset_inv {c : Nat} {ρ ρa : Fin 2048 → ℝ} {w : Sw Ideal} (h : Inv v s c ρ ρa w) : Inv v s c ρ ρa (Sw.reset w) :=
  ⟨h.ref, h.mx, h.top, h.cur, h.acc⟩

/-- The first sweep's loop does 24 chunks, -/
theorem loop1_inv (w : Sw Ideal) (h : ∃ ρ, Inv v s 0 ρ ρ w) : ∃ ρ, Inv v s 24 ρ ρ (Sw.loop1 q k v w) := by
  have key := fold_inv (fun i (w : Sw Ideal) => i ≤ 3 → ∃ ρ, Inv v s (8 * i) ρ ρ w) (n := k0_t1_loop.trips)
    (fun w i => Sw.group q k v (fun u => ⟨k0_off1 i (BitVec.ofNat 32 u.val), k0_off1_inb i u⟩)
      (fun u => ⟨k0_off2 i (BitVec.ofNat 32 u.val), k0_off2_inb i u⟩) [2, 3, 4, 5, 6, 7] w)
    (fun i w hw hi => by
      obtain ⟨ρ, hρ⟩ := hw (by omega)
      exact group_inv G _ _ (8 * i.val) (fun u _ => off1_eq i u) (fun u _ => off2_eq i u) [2, 3, 4, 5, 6, 7] w hρ (consec7 _)
        (by show 8 * i.val + 2 + 6 < 32; omega))
    w (fun _ => h)
  obtain ⟨ρ, hρ⟩ := key trips1.le
  rw [show 8 * k0_t1_loop.trips = 24 by rw [trips1]] at hρ
  exact ⟨ρ, hρ⟩

/-- so does the second's. -/
theorem loop2_inv (w : Sw Ideal) (h : ∃ ρ, Inv v s 0 ρ ρ w) : ∃ ρ, Inv v s 24 ρ ρ (Sw.loop2 q k v w) := by
  have key := fold_inv (fun i (w : Sw Ideal) => i ≤ 3 → ∃ ρ, Inv v s (8 * i) ρ ρ w) (n := k0_t2_loop.trips)
    (fun w i => Sw.group q k v (fun u => ⟨k0_off3 i (BitVec.ofNat 32 u.val), k0_off3_inb i u⟩)
      (fun u => ⟨k0_off4 i (BitVec.ofNat 32 u.val), k0_off4_inb i u⟩) [2, 3, 4, 5, 6, 7] (Sw.reset w))
    (fun i w hw hi => by
      obtain ⟨ρ, hρ⟩ := hw (by omega)
      exact group_inv G _ _ (8 * i.val) (fun u _ => off3_eq i u) (fun u _ => off4_eq i u) [2, 3, 4, 5, 6, 7] (Sw.reset w)
        (reset_inv hρ) (consec7 _) (by show 8 * i.val + 2 + 6 < 32; omega))
    w (fun _ => h)
  obtain ⟨ρ, hρ⟩ := key trips2.le
  rw [show 8 * k0_t2_loop.trips = 24 by rw [trips2]] at hρ
  exact ⟨ρ, hρ⟩

/-- A sweep's start from a finite top. -/
theorem start_inv (top over : FVec Ideal S1x2048 .f32) (h : ∀ y, IsR (top (ix2 0 y))) : ∃ ρ, Inv v s 0 ρ ρ (Sw.start q k top over) := by
  choose ρ hρ using h
  have hg : ∀ y, rnd top (ix2 0 y) = (ρ y : EReal) := fun y => hρ y
  refine ⟨ρ, hg, fun y => maxOf_real k (augOf q (rnd top)) (kAt 0) 0 rfl (fun x y => ⟨_, G.full _ ρ hg x y⟩) y, fun y => ⟨_, hρ y⟩,
    fun i y => (scoresOf_apply k (augOf q (rnd top)) (kAt 0) 0 rfl i y).trans (G.full _ ρ hg _ y), fun d y => ?_⟩
  show (acc0 (F := Ideal) (ix2 d y) : EReal) = _
  unfold acc0 done
  rw [shapeCast_self, Finset.range_zero, Finset.sum_empty]
  show Ideal.ofBits .f32 0x00000000#32 = 0
  simp

/-- The last group and the last chunk: all 32 chunks are in, and reference, maxima and top are finite. -/
theorem tail_inv (w : Sw Ideal) (h : ∃ ρ, Inv v s 24 ρ ρ w) :
    (∃ ρ, ∀ d y, (Sw.tail q k v w).acc (ix2 d y) = done v s ρ 32 d y)
      ∧ ∀ y, IsR (max ((Sw.tail q k v w).c.2.2.1 (ix2 0 y)) ((Sw.tail q k v w).c.1 (ix2 0 y) + (Sw.tail q k v w).c.2.1 (ix2 0 y))) := by
  obtain ⟨ρ, hρ⟩ := h
  obtain ⟨γ, hγ⟩ := group_inv G (fun u => kAt ⟨(25 + u.val) % 32, Nat.mod_lt _ (by decide)⟩) (fun u => vAt ⟨(24 + u.val) % 32, Nat.mod_lt _ (by decide)⟩)
    24 (fun u hu => by unfold kAt; show ![256 * ((25 + u.val) % 32), 0] = _; rw [Nat.mod_eq_of_lt (by omega), show 25 + u.val = 24 + u.val + 1 by omega])
    (fun u hu => by unfold vAt; show ![0, 256 * ((24 + u.val) % 32)] = _; rw [Nat.mod_eq_of_lt (by omega)]) [2, 3, 4, 5, 6] w hρ (consec6 _) (by decide)
  unfold Sw.tail
  exact ⟨⟨γ, fun d y => acc_none hγ (by decide) (vAt 31) rfl d y⟩, fun y => (hγ.top y).max (IsR.add ⟨_, hγ.ref y⟩ (hγ.mx y))⟩

/-- The second sweep's accumulator holds all chunks. -/
theorem second_acc (t : FVec Ideal S1x2048 .f32) (h : ∀ y, IsR (t (ix2 0 y))) :
    ∃ ρ, ∀ d y, (Sw.tail q k v (Sw.reset (Sw.loop2 q k v (Sw.start q k t t)))).acc (ix2 d y) = done v s ρ 32 d y := by
  obtain ⟨γ, hγ⟩ := loop2_inv (v := v) G _ (start_inv G t t h)
  exact (tail_inv G _ ⟨γ, reset_inv hγ⟩).1

/-- Whatever the first sweep finds, the output block is the quotient of an accumulator that holds all chunks. -/
theorem out_acc : ∃ (ρ : Fin 2048 → ℝ) (a : FVec Ideal S80x2048 .f32), outOf q k v = finish a ∧ ∀ d y, a (ix2 d y) = done v s ρ 32 d y := by
  have hz : ∀ y, (broadcast S1x2048 (Scalar.ofBits (F := Ideal) .f32 0x00000000#32) : FVec Ideal S1x2048 .f32) (ix2 0 y) = ((0 : ℝ) : EReal) := fun y => by
    show Ideal.ofBits .f32 0x00000000#32 = _
    simp
  have h0 := topOf_real k (augOf q (broadcast S1x2048 (Scalar.ofBits (F := Ideal) .f32 0x00000000#32))) (fun x y => ⟨_, G.full _ (fun _ => 0) hz x y⟩)
  unfold outOf
  dsimp only
  generalize topOf k (augOf q (broadcast S1x2048 (Scalar.ofBits (F := Ideal) .f32 0x00000000#32))) = t0 at h0 ⊢
  have h1 := tail_inv G _ (loop1_inv (v := v) G _ (start_inv G t0 (broadcast S1x2048 (Scalar.ofBits (F := Ideal) .f32 0x00000000#32)) h0))
  generalize Sw.tail q k v (Sw.loop1 q k v (Sw.start q k t0 (broadcast S1x2048 (Scalar.ofBits (F := Ideal) .f32 0x00000000#32)))) = w at h1 ⊢
  obtain ⟨⟨ρ, hρ⟩, ht⟩ := h1
  by_cases hh : tooHigh (maximumf w.c.2.2.2 w.c.2.1) = 1#1
  · obtain ⟨γ, hγ⟩ := second_acc (v := v) G (maximumf w.c.2.2.1 (addf w.c.1 w.c.2.1)) ht
    rw [if_pos hh]
    exact ⟨γ, _, rfl, hγ⟩
  · rw [if_neg hh]
    exact ⟨ρ, _, rfl, hρ⟩

end Steps

/-- A sum over 32 chunks of 256 keys is a sum over the keys. -/
theorem sum_keys (f : Fin 8192 → EReal) : ∑ j ∈ Finset.range 32, ∑ i : Fin 256, f (keyN j i) = ∑ x, f x := by
  rw [← Fin.sum_univ_eq_sum_range (fun j => ∑ i : Fin 256, f (keyN j i)) 32, ← Fintype.sum_prod_type' (fun (j : Fin 32) (i : Fin 256) => f (keyN j.val i))]
  refine Fintype.sum_equiv (finProdFinEquiv (m := 32) (n := 256)) _ _ fun p => congrArg f (Fin.ext ?_)
  show 256 * (p.1.val % 32) + p.2.val = p.2.val + 256 * p.1.val
  rw [Nat.mod_eq_of_lt p.1.isLt]; omega

/-- All chunks done: a sum over the keys. -/
theorem done_all (v : Vec Ideal S80x8192 .bf16) (s : Fin 8192 → Fin 2048 → ℝ) (ρ : Fin 2048 → ℝ) (d : Fin 80) (y : Fin 2048) :
    done v s ρ 32 d y = ∑ x, v (ix2 d x) * ((Real.rpow 2 (s x y - ρ y) : ℝ) : EReal) :=
  sum_keys (fun x => v (ix2 d x) * ((Real.rpow 2 (s x y - ρ y) : ℝ) : EReal))

/-- The output block at a token and a feature: the values weighted by the softmax of the scores. -/
theorem out_apply {q : Vec Ideal S256x512 .bf16} {k : Vec Ideal S8192x128 .bf16} {v : Vec Ideal S80x8192 .bf16} (σ : Fin 8192 → Fin 2048 → ℝ)
    (G : Good q k fun x y => σ x y * (Real.log 2)⁻¹) (hv : ∀ x, v (ix2 64 x) = 1) (M : ℝ) (n : Fin 512) (g : Fin 4) (d : Fin 64) :
    (outOf q k v (ix2 n ⟨64 * g.val + d.val, by omega⟩) : EReal)
      = ∑ x, Ideal.div ((Real.exp (σ x ⟨512 * g.val + n.val, by omega⟩ - M) : ℝ) : EReal)
          (∑ x', ((Real.exp (σ x' ⟨512 * g.val + n.val, by omega⟩ - M) : ℝ) : EReal)) * v (ix2 ⟨d.val, by omega⟩ x) := by
  obtain ⟨ρ, a, e, ha⟩ := out_acc (v := v) G
  rw [e, finish_apply, ha, ha, done_all, done_all]
  simp only [hv, one_mul]
  exact quotient (by decide) (fun x => σ x ⟨512 * g.val + n.val, by omega⟩) (fun x => v (ix2 ⟨d.val, by omega⟩ x)) _ M

end Cert.KernelIdeal.Axial

end
-- ==== Proof.AxArrays.lean ====
/-
  The arrays the axial attention's blocks are cut from, read at an index: the scaled queries, the keys with their ones,
  the values with their ones.
-/
module

public import proofs.«01_k».proof.Proof.AxSum
public import proofs.«01_k».proof.Proof.Run

@[expose] public section

set_option maxRecDepth 16384

noncomputable section

namespace Cert.KernelIdeal.Axial

open Idealize.ShloMosaic Idealize.ShloMosaic.TcCoe Idealize.SL.Sem
open Cert.KernelIdeal Cert.KernelIdeal.Gen Cert.AxMath

variable (m : (ℓ : Loc nD τ sig) → Buf (Elt Ideal) ℓ) (c : Dev nD)

/-- The queries, keys and values. -/
abbrev argQ : FVec Ideal S8x8192x8x64 .f32 := m ((c : Thread nD τ).loc main_arg0)
abbrev argK : FVec Ideal S8x8192x2x64 .f32 := m ((c : Thread nD τ).loc main_arg1)
abbrev argV : FVec Ideal S8x8192x2x64 .f32 := m ((c : Thread nD τ).loc main_arg2)

/-- The scale of the queries. -/
def qScale : EReal := Ideal.div (Ideal.ofBits .f32 0x3E000000#32) (Ideal.log (Ideal.ofBits .f32 0x40000000#32))

/-- The scaled queries, transposed. -/
def qT (Q : FVec Ideal S8x8192x8x64 .f32) : FVec Ideal S512x65536 .bf16 :=
  transpose S512x65536 [1, 0] (truncf .bf16 (mulf (shapeCast S65536x512 Q shapeCasts_S8x8192x8x64_S65536x512 : FVec Ideal S65536x512 .f32)
    (broadcastInDim S65536x512 ![] bcast_S_S65536x512 (Host.divf (constant S_ .f32 0x3E000000#32) (Host.log (constant S_ .f32 0x40000000#32)) : FVec Ideal S_ .f32))) bitsLt_bf16_f32 : FVec Ideal S65536x512 .bf16) transposes_S65536x512_S512x65536_1_0

/-- The keys, a one and zeros after each. -/
def kT (K : FVec Ideal S8x8192x2x64 .f32) : FVec Ideal S65536x256 .bf16 :=
  shapeCast S65536x256 (concatenate S65536x2x128 2
    [⟨S65536x2x64, (shapeCast S65536x2x64 (truncf .bf16 K bitsLt_bf16_f32 : FVec Ideal S8x8192x2x64 .bf16) shapeCasts_S8x8192x2x64_S65536x2x64 : FVec Ideal S65536x2x64 .bf16)⟩,
     ⟨S65536x2x1, (broadcastInDim S65536x2x1 ![] bcast_S_S65536x2x1 (constant S_ .bf16 0x3F80#16) : FVec Ideal S65536x2x1 .bf16)⟩,
     ⟨S65536x2x63, (broadcastInDim S65536x2x63 ![] bcast_S_S65536x2x63 (constant S_ .bf16 0x0000#16) : FVec Ideal S65536x2x63 .bf16)⟩]
    concatenates_S65536x2x64_S65536x2x1_S65536x2x63_S65536x2x128_d2 : FVec Ideal S65536x2x128 .bf16) shapeCasts_S65536x2x128_S65536x256

/-- The values, transposed, ones and zeros below. -/
def vT (X : FVec Ideal S8x8192x2x64 .f32) : FVec Ideal S160x65536 .bf16 :=
  shapeCast S160x65536 (concatenate S2x80x65536 1
    [⟨S2x64x65536, (transpose S2x64x65536 [1, 2, 0] (shapeCast S65536x2x64 (truncf .bf16 X bitsLt_bf16_f32 : FVec Ideal S8x8192x2x64 .bf16) shapeCasts_S8x8192x2x64_S65536x2x64 : FVec Ideal S65536x2x64 .bf16) transposes_S65536x2x64_S2x64x65536_1_2_0 : FVec Ideal S2x64x65536 .bf16)⟩,
     ⟨S2x1x65536, (broadcastInDim S2x1x65536 ![] bcast_S_S2x1x65536 (constant S_ .bf16 0x3F80#16) : FVec Ideal S2x1x65536 .bf16)⟩,
     ⟨S2x15x65536, (broadcastInDim S2x15x65536 ![] bcast_S_S2x15x65536 (constant S_ .bf16 0x0000#16) : FVec Ideal S2x15x65536 .bf16)⟩]
    concatenates_S2x64x65536_S2x1x65536_S2x15x65536_S2x80x65536_d1 : FVec Ideal S2x80x65536 .bf16) shapeCasts_S2x80x65536_S160x65536

theorem V_main_v6 : V m c main_v6 = qT (argQ m c) := by
  show StableHlo.after hostOps0 _ (Proc.devRef .tc main_v6) = _
  after_results
  rfl

theorem V_main_v12 : V m c main_v12 = kT (argK m c) := by
  show StableHlo.after hostOps0 _ (Proc.devRef .tc main_v12) = _
  after_results
  rfl

theorem V_main_v19 : V m c main_v19 = vT (argV m c) := by
  show StableHlo.after hostOps0 _ (Proc.devRef .tc main_v19) = _
  after_results
  rfl

theorem qT_apply (Q : FVec Ideal S8x8192x8x64 .f32) (b : Fin 8) (x : Fin 8192) (h : Fin 8) (d : Fin 64) :
    qT Q (ix2 ⟨64 * h.val + d.val, by omega⟩ ⟨8192 * b.val + x.val, by omega⟩) = Q (ix4 b x h d) * qScale := by
  pointwise [qT, qScale]

theorem kT_key (K : FVec Ideal S8x8192x2x64 .f32) (b : Fin 8) (x : Fin 8192) (j : Fin 2) (d : Fin 64) :
    kT K (ix2 ⟨8192 * b.val + x.val, by omega⟩ ⟨128 * j.val + d.val, by omega⟩) = K (ix4 b x j d) := by
  pointwise [kT]
  have e : (128 * j.val + d.val) % 128 = d.val := by omega
  refine (dif_pos (by omega)).trans ?_
  exact congrArg (fun y => K (ix4 b x j y)) (Fin.ext e)

theorem kT_one (K : FVec Ideal S8x8192x2x64 .f32) (b : Fin 8) (x : Fin 8192) (j : Fin 2) :
    kT K (ix2 ⟨8192 * b.val + x.val, by omega⟩ ⟨128 * j.val + 64, by omega⟩) = 1 := by
  pointwise [kT]
  rw [dif_neg (by omega), dif_pos (by omega)]

theorem kT_zero (K : FVec Ideal S8x8192x2x64 .f32) (b : Fin 8) (x : Fin 8192) (j : Fin 2) (e : Fin 64) (h : e.val ≠ 0) :
    kT K (ix2 ⟨8192 * b.val + x.val, by omega⟩ ⟨128 * j.val + (64 + e.val), by omega⟩) = 0 := by
  pointwise [kT]
  rw [dif_neg (by omega), dif_neg (by omega)]

theorem vT_value (X : FVec Ideal S8x8192x2x64 .f32) (b : Fin 8) (x : Fin 8192) (j : Fin 2) (d : Fin 64) :
    vT X (ix2 ⟨80 * j.val + d.val, by omega⟩ ⟨8192 * b.val + x.val, by omega⟩) = X (ix4 b x j d) := by
  pointwise [vT]
  have e : (80 * j.val + d.val) % 80 = d.val := by omega
  refine (dif_pos (by omega)).trans ?_
  exact congrArg (fun y => X (ix4 b x j y)) (Fin.ext e)

theorem vT_one (X : FVec Ideal S8x8192x2x64 .f32) (b : Fin 8) (x : Fin 8192) (j : Fin 2) :
    vT X (ix2 ⟨80 * j.val + 64, by omega⟩ ⟨8192 * b.val + x.val, by omega⟩) = 1 := by
  pointwise [vT]
  rw [dif_neg (by omega), dif_pos (by omega)]

/-! ## The blocks -/

/-- A token of a batch among the tokens of all batches. -/
abbrev tok (b : Fin 8) (x : Fin 8192) : Fin 65536 := ⟨8192 * b.val + x.val, by omega⟩
/-- Batch, key head and query tile of a grid point. -/
abbrev bOf (t : Fin cfg0.N) : Fin 8 := ⟨t.val / 32, by have h := t.isLt; have hN : cfg0.N = 256 := N_0; omega⟩
abbrev jOf (t : Fin cfg0.N) : Fin 2 := ⟨t.val / 16 % 2, by omega⟩
abbrev iOf (t : Fin cfg0.N) : Fin 16 := ⟨t.val % 16, by omega⟩

theorem idx0 : ∀ t : Fin cfg0.N, win0_0.index t (0 : Fin 2) = t.val / 16 % 2 ∧ win0_0.index t (1 : Fin 2) = 16 * (t.val / 32) + t.val % 16 :=
  (by decide +kernel : ∀ t : Fin grid0.N, win0_0.index t (0 : Fin 2) = t.val / 16 % 2 ∧ win0_0.index t (1 : Fin 2) = 16 * (t.val / 32) + t.val % 16)

theorem idx1 : ∀ t : Fin cfg0.N, win0_1.index t (0 : Fin 2) = t.val / 32 ∧ win0_1.index t (1 : Fin 2) = t.val / 16 % 2 :=
  (by decide +kernel : ∀ t : Fin grid0.N, win0_1.index t (0 : Fin 2) = t.val / 32 ∧ win0_1.index t (1 : Fin 2) = t.val / 16 % 2)

theorem idx2 : ∀ t : Fin cfg0.N, win0_2.index t (0 : Fin 2) = t.val / 16 % 2 ∧ win0_2.index t (1 : Fin 2) = t.val / 32 :=
  (by decide +kernel : ∀ t : Fin grid0.N, win0_2.index t (0 : Fin 2) = t.val / 16 % 2 ∧ win0_2.index t (1 : Fin 2) = t.val / 32)

theorem idx3 : ∀ t : Fin cfg0.N, win0_3.index t (0 : Fin 2) = 16 * (t.val / 32) + t.val % 16 ∧ win0_3.index t (1 : Fin 2) = t.val / 16 % 2 :=
  (by decide +kernel : ∀ t : Fin grid0.N, win0_3.index t (0 : Fin 2) = 16 * (t.val / 32) + t.val % 16 ∧ win0_3.index t (1 : Fin 2) = t.val / 16 % 2)

/-- The query, key and value blocks of a point. -/
abbrev qB (t : Fin cfg0.N) : Vec Ideal S256x512 .bf16 := iblk m c 0 t
abbrev kB (t : Fin cfg0.N) : Vec Ideal S8192x128 .bf16 := iblk m c 1 t
abbrev vB (t : Fin cfg0.N) : Vec Ideal S80x8192 .bf16 := iblk m c 2 t

/-- The query block: row `64 g + d`, column `n` is the scaled query of head `4 j + g`, token `512 i + n`. -/
theorem iblk0_apply (t : Fin cfg0.N) (g : Fin 4) (d : Fin 64) (n : Fin 512) :
    qB m c t (ix2 ⟨64 * g.val + d.val, by omega⟩ n)
      = argQ m c (ix4 (bOf t) ⟨512 * (iOf t).val + n.val, by omega⟩ ⟨4 * (jOf t).val + g.val, by omega⟩ d) * qScale := by
  have e : ((cfg0.win 0).blk t).view.emb (ix2 ⟨64 * g.val + d.val, by omega⟩ n)
      = (ix2 ⟨64 * (⟨4 * (jOf t).val + g.val, by omega⟩ : Fin 8).val + d.val, by dsimp only; omega⟩
          (tok (bOf t) ⟨512 * (iOf t).val + n.val, by omega⟩) : S512x65536.Idx) := by
    obtain ⟨e0, e1⟩ := idx0 t
    funext a; apply Fin.ext
    match a with
    | ⟨0, _⟩ => show win0_0.index t (0 : Fin 2) * 256 + 1 * (64 * g.val + d.val) = 64 * (4 * (t.val / 16 % 2) + g.val) + d.val; omega
    | ⟨1, _⟩ => show win0_0.index t (1 : Fin 2) * 512 + 1 * n.val = 8192 * (t.val / 32) + (512 * (t.val % 16) + n.val); omega
  show V m c main_v6 (((cfg0.win 0).blk t).view.emb (ix2 ⟨64 * g.val + d.val, by omega⟩ n)) = _
  rw [e]
  exact (congrFun (V_main_v6 m c) _).trans (qT_apply (argQ m c) _ _ _ _)

theorem emb1 (t : Fin cfg0.N) (x : Fin 8192) (y : Fin 128) : ((cfg0.win 1).blk t).view.emb (ix2 x y)
    = (ix2 (tok (bOf t) x) ⟨128 * (jOf t).val + y.val, by omega⟩ : S65536x256.Idx) := by
  obtain ⟨e0, e1⟩ := idx1 t
  funext a; apply Fin.ext
  match a with
  | ⟨0, _⟩ => show win0_1.index t (0 : Fin 2) * 8192 + 1 * x.val = 8192 * (t.val / 32) + x.val; omega
  | ⟨1, _⟩ => show win0_1.index t (1 : Fin 2) * 128 + 1 * y.val = 128 * (t.val / 16 % 2) + y.val; omega

theorem emb2 (t : Fin cfg0.N) (y : Fin 80) (x : Fin 8192) : ((cfg0.win 2).blk t).view.emb (ix2 y x)
    = (ix2 ⟨80 * (jOf t).val + y.val, by omega⟩ (tok (bOf t) x) : S160x65536.Idx) := by
  obtain ⟨e0, e1⟩ := idx2 t
  funext a; apply Fin.ext
  match a with
  | ⟨0, _⟩ => show win0_2.index t (0 : Fin 2) * 80 + 1 * y.val = 80 * (t.val / 16 % 2) + y.val; omega
  | ⟨1, _⟩ => show win0_2.index t (1 : Fin 2) * 8192 + 1 * x.val = 8192 * (t.val / 32) + x.val; omega

/-- The key block at any index is the key array at the block's rows. -/
theorem iblk1_eq (t : Fin cfg0.N) (x : Fin 8192) (y : Fin 128) :
    kB m c t (ix2 x y)
      = kT (argK m c) (ix2 (tok (bOf t) x) ⟨128 * (jOf t).val + y.val, by omega⟩) := by
  show V m c main_v12 (((cfg0.win 1).blk t).view.emb (ix2 x y)) = _
  rw [emb1]
  exact congrFun (V_main_v12 m c) _

theorem iblk2_eq (t : Fin cfg0.N) (y : Fin 80) (x : Fin 8192) :
    vB m c t (ix2 y x)
      = vT (argV m c) (ix2 ⟨80 * (jOf t).val + y.val, by omega⟩ (tok (bOf t) x)) := by
  show V m c main_v19 (((cfg0.win 2).blk t).view.emb (ix2 y x)) = _
  rw [emb2]
  exact congrFun (V_main_v19 m c) _

/-! ## The result -/

/-- The attention weights' sum at a batch, token, head and feature, shifted by `M`, of real scores. -/
def soft (σ : Fin 8192 → ℝ) (M : ℝ) (v : Fin 8192 → EReal) : EReal :=
  ∑ x, Ideal.div ((Real.exp (σ x - M) : ℝ) : EReal) (∑ x', ((Real.exp (σ x' - M) : ℝ) : EReal)) * v x

/-- The score of query token `n`, head `h` with key token `x`, of real queries and keys. -/
def scoreR (q : Fin 8 → Fin 8192 → Fin 8 → Fin 64 → ℝ) (k : Fin 8 → Fin 8192 → Fin 2 → Fin 64 → ℝ)
    (b : Fin 8) (n : Fin 8192) (h : Fin 8) (x : Fin 8192) : ℝ :=
  (∑ d, k b x ⟨h.val / 4, by omega⟩ d * q b n h d) * (1 / 8)

theorem qScale_eq : qScale = (((1 / 8) * (Real.log 2)⁻¹ : ℝ) : EReal) := by
  unfold qScale
  have h1 : Ideal.ofBits .f32 0x3E000000#32 = ((1 / 8 : ℝ) : EReal) := by
    simp [Ideal.ofBits, Ideal.ieee]
    rw [← EReal.coe_mul]
    norm_num
  have h2 : Ideal.ofBits .f32 0x40000000#32 = ((2 : ℝ) : EReal) := by
    simp [Ideal.ofBits, Ideal.ieee]
    rw [← EReal.coe_mul]
    norm_num
  have h3 : Ideal.log ((2 : ℝ) : EReal) = ((Real.log 2 : ℝ) : EReal) := if_neg (by norm_num)
  rw [h1, h2, h3, div_real _ _ log_two_pos.ne', ← EReal.coe_mul]
  congr 1
  ring

/-- The blocks of a point hold what the sweep's lemma needs. -/
theorem good_at {q : Fin 8 → Fin 8192 → Fin 8 → Fin 64 → ℝ} {k : Fin 8 → Fin 8192 → Fin 2 → Fin 64 → ℝ}
    (hq : ∀ b n h d, argQ m c (ix4 b n h d) = (q b n h d : EReal)) (hk : ∀ b x j d, argK m c (ix4 b x j d) = (k b x j d : EReal))
    (t : Fin cfg0.N) :
    Good (qB m c t) (kB m c t) fun x y =>
      scoreR q k (bOf t) ⟨512 * (iOf t).val + y.val % 512, by omega⟩ ⟨4 * (jOf t).val + y.val / 512, by omega⟩ x * (Real.log 2)⁻¹ where
  score x y := by
    have e : ∀ d : Fin 64, kB m c t (ix2 x ⟨d.val, by omega⟩)
        * qB m c t (ix2 ⟨64 * (y.val / 512) + d.val, by omega⟩ ⟨y.val % 512, Nat.mod_lt _ (by decide)⟩)
        = ((k (bOf t) x (jOf t) d * (q (bOf t) ⟨512 * (iOf t).val + y.val % 512, by omega⟩ ⟨4 * (jOf t).val + y.val / 512, by omega⟩ d
            * ((1 / 8) * (Real.log 2)⁻¹)) : ℝ) : EReal) := by
      intro d
      have e1 := (iblk1_eq m c t x ⟨d.val, by omega⟩).trans ((kT_key (argK m c) (bOf t) x (jOf t) d).trans (hk _ _ _ _))
      have e2 := (iblk0_apply m c t ⟨y.val / 512, by omega⟩ d ⟨y.val % 512, Nat.mod_lt _ (by decide)⟩)
      rw [hq, qScale_eq] at e2
      refine (congrArg₂ (fun a b : EReal => a * b) e1 e2).trans ?_
      dsimp only
      rw [← EReal.coe_mul, ← EReal.coe_mul]
    rw [Finset.sum_congr rfl fun d _ => e d, coe_sum]
    congr 1
    unfold scoreR
    have hj : (⟨(4 * (jOf t).val + y.val / 512) / 4, by omega⟩ : Fin 2) = jOf t := Fin.ext (by dsimp only; omega)
    simp only [hj]
    rw [Finset.sum_mul, Finset.sum_mul]
    exact Finset.sum_congr rfl fun d _ => by ring
  one x := (iblk1_eq m c t x 64).trans (kT_one (argK m c) (bOf t) x (jOf t))
  zero x e h := (iblk1_eq m c t x ⟨64 + e.val, by omega⟩).trans (kT_zero (argK m c) (bOf t) x (jOf t) e h)

/-- A point's output block: at token `n` of the tile, head `g` of the four, feature `d`. -/
theorem outAt_apply {q : Fin 8 → Fin 8192 → Fin 8 → Fin 64 → ℝ} {k : Fin 8 → Fin 8192 → Fin 2 → Fin 64 → ℝ}
    (hq : ∀ b n h d, argQ m c (ix4 b n h d) = (q b n h d : EReal)) (hk : ∀ b x j d, argK m c (ix4 b x j d) = (k b x j d : EReal))
    (M : Fin 8 → Fin 8192 → Fin 8 → ℝ) (t : Fin cfg0.N) (n : Fin 512) (g : Fin 4) (d : Fin 64) :
    (outAt m c t (ix2 n ⟨64 * g.val + d.val, by omega⟩) : EReal)
      = soft (scoreR q k (bOf t) ⟨512 * (iOf t).val + n.val, by omega⟩ ⟨4 * (jOf t).val + g.val, by omega⟩)
          (M (bOf t) ⟨512 * (iOf t).val + n.val, by omega⟩ ⟨4 * (jOf t).val + g.val, by omega⟩)
          fun x => argV m c (ix4 (bOf t) x (jOf t) d) := by
  have hv : ∀ x, vB m c t (ix2 64 x) = 1 :=
    fun x => (iblk2_eq m c t 64 x).trans (vT_one (argV m c) (bOf t) x (jOf t))
  refine (out_apply _ (good_at m c hq hk t) hv (M (bOf t) ⟨512 * (iOf t).val + n.val, by omega⟩ ⟨4 * (jOf t).val + g.val, by omega⟩) n g d).trans ?_
  have e1 : (512 * g.val + n.val) % 512 = n.val := by omega
  have e2 : (512 * g.val + n.val) / 512 = g.val := by omega
  simp only [e1, e2]
  unfold soft
  refine Finset.sum_congr rfl fun x _ => ?_
  congr 1
  exact (iblk2_eq m c t ⟨d.val, by omega⟩ x).trans (vT_value (argV m c) (bOf t) x (jOf t) d)

end Cert.KernelIdeal.Axial

end
-- ==== Proof.AxOut.lean ====
/-
  The result of the axial attention: every point's block is a part of one array, the blocks cover it, and the lines after
  the region reshape it and convert its type.
-/
module

public import proofs.«01_k».proof.Proof.AxArrays
public import Idealize.ShloMosaic.Lib.Pipeline.ValueKit.Geometry

@[expose] public section

set_option maxRecDepth 16384

noncomputable section

namespace Cert.KernelIdeal.Axial

open Idealize.ShloMosaic Idealize.ShloMosaic.TcCoe Idealize.SL.Sem
open Cert.KernelIdeal Cert.KernelIdeal.Gen Cert.AxMath

variable (m : (ℓ : Loc nD τ sig) → Buf (Elt Ideal) ℓ) (c : Dev nD)

/-- The attention at a batch, token, head and feature, of real queries and keys. -/
def attn (q : Fin 8 → Fin 8192 → Fin 8 → Fin 64 → ℝ) (k : Fin 8 → Fin 8192 → Fin 2 → Fin 64 → ℝ)
    (v : FVec Ideal S8x8192x2x64 .f32) (M : Fin 8 → Fin 8192 → Fin 8 → ℝ) (b : Fin 8) (n : Fin 8192) (h : Fin 8) (d : Fin 64) : EReal :=
  soft (scoreR q k b n h) (M b n h) fun x => v (ix4 b x ⟨h.val / 4, by omega⟩ d)

/-- The whole result array: rows are tokens, columns heads and features. -/
def outArr (q : Fin 8 → Fin 8192 → Fin 8 → Fin 64 → ℝ) (k : Fin 8 → Fin 8192 → Fin 2 → Fin 64 → ℝ)
    (v : FVec Ideal S8x8192x2x64 .f32) (M : Fin 8 → Fin 8192 → Fin 8 → ℝ) : Vec Ideal S65536x512 .bf16 :=
  fun i => attn q k v M ⟨(i 0 : Nat) / 8192, by have h : (i 0 : Nat) < 65536 := (i 0).isLt; omega⟩ ⟨(i 0 : Nat) % 8192, Nat.mod_lt _ (by decide)⟩
    ⟨(i 1 : Nat) / 64, by have h : (i 1 : Nat) < 512 := (i 1).isLt; omega⟩ ⟨(i 1 : Nat) % 64, Nat.mod_lt _ (by decide)⟩

theorem outArr_apply (q : Fin 8 → Fin 8192 → Fin 8 → Fin 64 → ℝ) (k : Fin 8 → Fin 8192 → Fin 2 → Fin 64 → ℝ)
    (v : FVec Ideal S8x8192x2x64 .f32) (M : Fin 8 → Fin 8192 → Fin 8 → ℝ) (b : Fin 8) (n : Fin 8192) (h : Fin 8) (d : Fin 64) :
    outArr q k v M (ix2 (tok b n) ⟨64 * h.val + d.val, by omega⟩) = attn q k v M b n h d := by
  have e1 : (⟨(8192 * b.val + n.val) / 8192, by omega⟩ : Fin 8) = b := Fin.ext (by dsimp only; omega)
  have e2 : (⟨(8192 * b.val + n.val) % 8192, Nat.mod_lt _ (by decide)⟩ : Fin 8192) = n := Fin.ext (by dsimp only; omega)
  have e3 : (⟨(64 * h.val + d.val) / 64, by omega⟩ : Fin 8) = h := Fin.ext (by dsimp only; omega)
  have e4 : (⟨(64 * h.val + d.val) % 64, Nat.mod_lt _ (by decide)⟩ : Fin 64) = d := Fin.ext (by dsimp only; omega)
  show attn q k v M ⟨(8192 * b.val + n.val) / 8192, by omega⟩ ⟨(8192 * b.val + n.val) % 8192, _⟩ ⟨(64 * h.val + d.val) / 64, by omega⟩ ⟨(64 * h.val + d.val) % 64, _⟩ = _
  rw [e1, e2, e3, e4]

/-- What a point writes back is its block of the result array. -/
theorem flushed_eq {q : Fin 8 → Fin 8192 → Fin 8 → Fin 64 → ℝ} {k : Fin 8 → Fin 8192 → Fin 2 → Fin 64 → ℝ}
    (hq : ∀ b n h d, argQ m c (ix4 b n h d) = (q b n h d : EReal)) (hk : ∀ b x j d, argK m c (ix4 b x j d) = (k b x j d : EReal))
    (M : Fin 8 → Fin 8192 → Fin 8 → ℝ) (t : Fin cfg0.N) :
    (dats m 0 c).flushed 3 t = ((cfg0.win 3).blk t).view.read (Elt Ideal) (outArr q k (argV m c) M) := by
  show (cfg0.win 3).cut (grid0.coords t) ((dats m 0 c).after 3 t) = _
  rw [after3]
  funext j
  show outAt m c t j = outArr q k (argV m c) M (((cfg0.win 3).blk t).view.emb j)
  obtain ⟨n, y, rfl⟩ : ∃ (n : Fin 512) (y : Fin 256), j = ix2 n y := ⟨j 0, j 1, eq_ix2 j⟩
  obtain ⟨g, d, rfl⟩ : ∃ (g : Fin 4) (d : Fin 64), y = ⟨64 * g.val + d.val, by omega⟩ :=
    ⟨⟨y.val / 64, by omega⟩, ⟨y.val % 64, by omega⟩, Fin.ext (by dsimp only; omega)⟩
  have e : ((cfg0.win 3).blk t).view.emb (ix2 n ⟨64 * g.val + d.val, by omega⟩)
      = (ix2 (tok (bOf t) ⟨512 * (iOf t).val + n.val, by omega⟩) ⟨64 * (⟨4 * (jOf t).val + g.val, by omega⟩ : Fin 8).val + d.val, by dsimp only; omega⟩ : S65536x512.Idx) := by
    obtain ⟨e0, e1⟩ := idx3 t
    funext a; apply Fin.ext
    match a with
    | ⟨0, _⟩ => show win0_3.index t (0 : Fin 2) * 512 + 1 * n.val = 8192 * (t.val / 32) + (512 * (t.val % 16) + n.val); omega
    | ⟨1, _⟩ => show win0_3.index t (1 : Fin 2) * 256 + 1 * (64 * g.val + d.val) = 64 * (4 * (t.val / 16 % 2) + g.val) + d.val; omega
  rw [e, outArr_apply]
  refine (outAt_apply m c hq hk M t n g d).trans ?_
  unfold attn
  have hj : (⟨(4 * (jOf t).val + g.val) / 4, by omega⟩ : Fin 2) = jOf t := Fin.ext (by dsimp only; omega)
  simp only [hj]

/-- An index lies in a point's block when its row and column do. -/
theorem mem_blk (t : Fin cfg0.N) (i : S65536x512.Idx)
    (h0 : 512 * (16 * (t.val / 32) + t.val % 16) ≤ (i 0 : Nat) ∧ (i 0 : Nat) < 512 * (16 * (t.val / 32) + t.val % 16) + 512)
    (h1 : 256 * (t.val / 16 % 2) ≤ (i 1 : Nat) ∧ (i 1 : Nat) < 256 * (t.val / 16 % 2) + 256) :
    i ∈ ((cfg0.win 3).blk t).view.set := by
  show i ∈ ((View.whole main_v20).slice (win0_3.rect t)).set
  rw [View.set_slice_whole, Rect.mem_set_unit]
  obtain ⟨e0, e1⟩ := idx3 t
  intro a
  match a with
  | ⟨0, _⟩ => show win0_3.index t (0 : Fin 2) * 512 ≤ (i 0 : Nat) ∧ (i 0 : Nat) < win0_3.index t (0 : Fin 2) * 512 + 512
              omega
  | ⟨1, _⟩ => show win0_3.index t (1 : Fin 2) * 256 ≤ (i 1 : Nat) ∧ (i 1 : Nat) < win0_3.index t (1 : Fin 2) * 256 + 256
              omega

/-- Every index of the result is in some point's block. -/
theorem cover (i : S65536x512.Idx) : ∃ t : Fin cfg0.N, (cfg0.win 3).flush t = true ∧ i ∈ ((cfg0.win 3).blk t).view.set := by
  have h0 : (i 0 : Nat) < 65536 := (i 0).isLt
  have h1 : (i 1 : Nat) < 512 := (i 1).isLt
  have hN : cfg0.N = 256 := N_0
  refine ⟨⟨32 * ((i 0 : Nat) / 8192) + 16 * ((i 1 : Nat) / 256) + (i 0 : Nat) % 8192 / 512, by omega⟩, flush0_3 _, mem_blk _ i ?_ ?_⟩
  · dsimp only; omega
  · dsimp only; omega

/-- So the array ends as the attention at every token, head and feature. -/
theorem final {q : Fin 8 → Fin 8192 → Fin 8 → Fin 64 → ℝ} {k : Fin 8 → Fin 8192 → Fin 2 → Fin 64 → ℝ}
    (hq : ∀ b n h d, argQ m c (ix4 b n h d) = (q b n h d : EReal)) (hk : ∀ b x j d, argK m c (ix4 b x j d) = (k b x j d : EReal))
    (M : Fin 8 → Fin 8192 → Fin 8 → ℝ) : (dats m 0 c).arrAt 3 cfg0.N = outArr q k (argV m c) M :=
  (dats m 0 c).arrAt_eq_of_cover 3 (outArr q k (argV m c) M) (fun t _ => flushed_eq m c hq hk M t) cover

/-- The lines after the region: a reshape and a conversion. -/
def tailOf (x : FVec Ideal S65536x512 .bf16) : FVec Ideal S8x8192x8x64 .f32 :=
  extf .f32 (shapeCast S8x8192x8x64 x shapeCasts_S65536x512_S8x8192x8x64 : FVec Ideal S8x8192x8x64 .bf16) bitsLt_bf16_f32

theorem tailOf_apply (x : FVec Ideal S65536x512 .bf16) (b : Fin 8) (n : Fin 8192) (h : Fin 8) (d : Fin 64) :
    tailOf x (ix4 b n h d) = x (ix2 (tok b n) ⟨64 * h.val + d.val, by omega⟩) := by
  pointwise [tailOf]
  exact congrArg x (congrArg₂ ix2 (Fin.ext (by dsimp only; omega)) (Fin.ext (by dsimp only; omega)))

/-- The result buffer after the lines is those lines of the region's array. -/
theorem tail_eq : Pipeline.afterTail₀ cfgs (dats m) 0 (V0 m) [hostOps1] c main_v22 = tailOf ((dats m 0 c).arrAt 3 cfg0.N) := by
  unfold Pipeline.afterTail₀
  have h : Pipeline.withArrays (cfgs 0).spec c (V0 m c) (fun w => (dats m 0 c).arrAt w (cfgs 0).N) (Proc.devRef .tc main_v20)
      = (dats m 0 c).arrAt 3 cfg0.N :=
    Pipeline.withArrays_arr (cfgs 0).spec launch0.win.arr_inj c (V0 m c) (fun w => (dats m 0 c).arrAt w (cfgs 0).N) 3
  generalize Pipeline.withArrays (cfgs 0).spec c (V0 m c) (fun w => (dats m 0 c).arrAt w (cfgs 0).N) = W at h ⊢
  show StableHlo.after hostOps1 W (Proc.devRef .tc main_v22) = _
  rw [← h]
  after_results
  rfl

end Cert.KernelIdeal.Axial

end
-- ==== Proof.AxRef.lean ====
/-
  The reference of the axial attention read at an index: scaled scores, their largest, the exponentials, their sum, the
  weighted values.
-/
module

public import proofs.«01_k».proof.Proof.AxMath
public import proofs.«01_k».proof.Proof.Gen.ReferenceIdeal.Run
public import Idealize.ShloMosaic.Lib.Pointwise
public import Idealize.ShloMosaic.Lib.IdealHost

@[expose] public section

set_option maxRecDepth 16384

noncomputable section

namespace Cert.ReferenceIdeal.Axial

open Idealize.ShloMosaic Idealize.ShloMosaic.TcCoe Idealize.SL.Sem
open Cert.ReferenceIdeal Cert.ReferenceIdeal.Gen Cert.AxMath

/-- The scores, scaled. -/
def refS (Q : FVec Ideal S8x8192x8x64 .f32) (K : FVec Ideal S8x8192x2x64 .f32) : FVec Ideal S8x2x4x8192x8192 .f32 :=
  mulf (transpose S8x2x4x8192x8192 [0, 1, 4, 3, 2] (Host.dotGeneral dot_S8x8192x2x64_S8x8192x2x4x64_S8x2x8192x8192x4_3_4_1_13_02_02 none K
      (shapeCast S8x8192x2x4x64 Q shapeCasts_S8x8192x8x64_S8x8192x2x4x64 : FVec Ideal S8x8192x2x4x64 .f32) : FVec Ideal S8x2x8192x8192x4 .f32)
      transposes_S8x2x8192x8192x4_S8x2x4x8192x8192_0_1_4_3_2)
    (broadcastInDim S8x2x4x8192x8192 ![] bcast_S_S8x2x4x8192x8192 (constant S_ .f32 0x3E000000#32))

/-- The largest score of each query, from −∞. -/
def rowMax (S : FVec Ideal S8x2x4x8192x8192 .f32) : FVec Ideal S8x2x4x8192 .f32 :=
  Host.reduce FloatOps.maximumf S (constant S_ .f32 0xFF800000#32 : FVec Ideal S_ .f32) reducesTo_S8x2x4x8192x8192_S8x2x4x8192_d4 h_S_

/-- The largest score of each query. -/
def refM (S : FVec Ideal S8x2x4x8192x8192 .f32) : FVec Ideal S8x2x4x8192 .f32 :=
  maximumf (broadcastInDim S8x2x4x8192 ![] bcast_S_S8x2x4x8192 (constant S_ .f32 0xFF800000#32))
    (rowMax S)

/-- The exponentials of the scores less the largest. -/
def refE (S : FVec Ideal S8x2x4x8192x8192 .f32) : FVec Ideal S8x2x4x8192x8192 .f32 :=
  Host.exp (subf S (broadcastInDim S8x2x4x8192x8192 ![0, 1, 2, 3, 4] bcast_S8x2x4x8192x1_S8x2x4x8192x8192_0_1_2_3_4
    (broadcastInDim S8x2x4x8192x1 ![0, 1, 2, 3] bcast_S8x2x4x8192_S8x2x4x8192x1_0_1_2_3 (refM S))))

/-- The exponentials over their sum. -/
def refP (E : FVec Ideal S8x2x4x8192x8192 .f32) : FVec Ideal S8x2x4x8192x8192 .f32 :=
  Host.divf E (broadcastInDim S8x2x4x8192x8192 ![0, 1, 2, 3, 4] bcast_S8x2x4x8192x1_S8x2x4x8192x8192_0_1_2_3_4
    (broadcastInDim S8x2x4x8192x1 ![0, 1, 2, 3] bcast_S8x2x4x8192_S8x2x4x8192x1_0_1_2_3
      (Host.reduceAdd E (constant S_ .f32 0x00000000#32) reducesTo_S8x2x4x8192x8192_S8x2x4x8192_d4 h_S_)))

/-- The reference's result of its arguments. -/
def refOut (Q : FVec Ideal S8x8192x8x64 .f32) (K X : FVec Ideal S8x8192x2x64 .f32) : FVec Ideal S8x8192x8x64 .f32 :=
  shapeCast S8x8192x8x64 (transpose S8x8192x2x4x64 [0, 4, 1, 3, 2]
    (Host.dotGeneral dot_S8x8192x2x64_S8x2x4x8192x8192_S8x2x64x4x8192_1_4_3_23_02_01 none X (refP (refE (refS Q K))) : FVec Ideal S8x2x64x4x8192 .f32)
    transposes_S8x2x64x4x8192_S8x8192x2x4x64_0_4_1_3_2 : FVec Ideal S8x8192x2x4x64 .f32) shapeCasts_S8x8192x2x4x64_S8x8192x8x64

theorem refS_apply (Q : FVec Ideal S8x8192x8x64 .f32) (K : FVec Ideal S8x8192x2x64 .f32) (b : Fin 8) (j : Fin 2) (g : Fin 4) (n x : Fin 8192) :
    refS Q K (ix5 b j g n x) = (∑ d : Fin 64, K (ix4 b x j d) * Q (ix4 b n ⟨4 * j.val + g.val, by omega⟩ d)) * Ideal.ofBits .f32 0x3E000000#32 := by
  pointwise [refS]
  have e : (⟨j.val * 4 + g.val, by omega⟩ : Fin 8) = ⟨4 * j.val + g.val, by omega⟩ := Fin.ext (by dsimp only; omega)
  exact congrArg (fun y : EReal => y * Ideal.ofBits .f32 0x3E000000#32)
    (Finset.sum_congr rfl fun d _ => congrArg (fun y : Fin 8 => (K (ix4 b x j d) * Q (ix4 b n y d) : EReal)) e)

/-- A largest value starts from −∞. -/
theorem start : Ideal.ofBits .f32 0xFF800000#32 = ⊥ := by
  simp [Ideal.ofBits, Ideal.ieee]

/-- A reduction by maximum from −∞, of finite values at least one of which reduces into the place, is finite there. -/
theorem reduce_real {s t u : Shape} {axes : List (Fin s.rank)} (x : FVec Ideal s .f32) (init : FVec Ideal u .f32) (h : s.ReducesTo axes t)
    (hu : 0 < u.numel) (j : t.Idx) (hi : init (Shape.Idx.first hu) = (⊥ : EReal)) (hx : ∀ i, IsR (x i)) (i0 : s.Idx) (h0 : h.drop i0 = j) :
    IsR ((Host.reduce FloatOps.maximumf x init h hu : FVec Ideal t .f32) j) := by
  have e : (Host.reduce FloatOps.maximumf x init h hu : FVec Ideal t .f32) j = (Finset.univ.filter fun i => h.drop i = j).fold max (⊥ : EReal) x := by
    rw [← hi]
    exact Host.reduce_eq_fold (max : EReal → EReal → EReal) x init h hu j
  rw [e]
  exact isR_fold_max _ ⟨i0, by simp [h0]⟩ _ hx

/-- A maximum with the array that is −∞ everywhere changes nothing. -/
theorem max_start (R : FVec Ideal S8x2x4x8192 .f32) (i : S8x2x4x8192.Idx) :
    maximumf (broadcastInDim S8x2x4x8192 ![] bcast_S_S8x2x4x8192 (constant S_ .f32 0xFF800000#32)) R i = R i := by
  have e : maximumf (broadcastInDim S8x2x4x8192 ![] bcast_S_S8x2x4x8192 (constant S_ .f32 0xFF800000#32)) R i
      = max (Ideal.ofBits .f32 0xFF800000#32) (R i) := rfl
  rw [e, start, max_bot_left]

/-- The start of the largest score is −∞. -/
theorem const_start (i : S_.Idx) : (constant S_ .f32 0xFF800000#32 : FVec Ideal S_ .f32) i = (⊥ : EReal) := by
  have e : (constant S_ .f32 0xFF800000#32 : FVec Ideal S_ .f32) i = Ideal.ofBits .f32 0xFF800000#32 := rfl
  rw [e, start]

/-- The last coordinate of a score's index is the one reduced. -/
theorem drop_score (h : S8x2x4x8192x8192.ReducesTo [4] S8x2x4x8192) (b : Fin 8) (j : Fin 2) (g : Fin 4) (n x : Fin 8192) :
    h.drop (ix5 b j g n x) = ix4 b j g n :=
  (h.fiber_r5_a4 (ix4 b j g n) (ix5 b j g n x)).2 ⟨x, rfl⟩

/-- The largest of finite scores is finite. -/
theorem rowMax_real (S : FVec Ideal S8x2x4x8192x8192 .f32) (hS : ∀ i, IsR (S i)) (b : Fin 8) (j : Fin 2) (g : Fin 4) (n : Fin 8192) :
    IsR (rowMax S (ix4 b j g n)) := by
  unfold rowMax
  exact reduce_real S _ _ _ _ (const_start _) hS (ix5 b j g n n) (drop_score _ b j g n n)

theorem refM_eq (S : FVec Ideal S8x2x4x8192x8192 .f32) (i : S8x2x4x8192.Idx) : refM S i = rowMax S i := by
  unfold refM
  exact max_start _ i

theorem refM_real (S : FVec Ideal S8x2x4x8192x8192 .f32) (hS : ∀ i, IsR (S i)) (b : Fin 8) (j : Fin 2) (g : Fin 4) (n : Fin 8192) :
    IsR (refM S (ix4 b j g n)) := by
  rw [refM_eq]
  exact rowMax_real S hS b j g n

theorem refE_apply (S : FVec Ideal S8x2x4x8192x8192 .f32) (b : Fin 8) (j : Fin 2) (g : Fin 4) (n x : Fin 8192) :
    refE S (ix5 b j g n x) = Ideal.exp (S (ix5 b j g n x) - refM S (ix4 b j g n)) := by
  pointwise [refE]

theorem refP_apply (E : FVec Ideal S8x2x4x8192x8192 .f32) (b : Fin 8) (j : Fin 2) (g : Fin 4) (n x : Fin 8192) :
    refP E (ix5 b j g n x) = Ideal.div (E (ix5 b j g n x)) (∑ x' : Fin 8192, E (ix5 b j g n x')) := by
  pointwise [refP]

theorem refOut_apply (Q : FVec Ideal S8x8192x8x64 .f32) (K X : FVec Ideal S8x8192x2x64 .f32) (b : Fin 8) (n : Fin 8192) (h : Fin 8) (d : Fin 64) :
    refOut Q K X (ix4 b n h d) = ∑ x : Fin 8192, X (ix4 b x ⟨h.val / 4, by omega⟩ d)
      * refP (refE (refS Q K)) (ix5 b ⟨h.val / 4, by omega⟩ ⟨h.val % 4, by omega⟩ n x) := by
  unfold refOut
  generalize refP (refE (refS Q K)) = P
  pointwise []

end Cert.ReferenceIdeal.Axial

end
-- ==== Proof.AxPre.lean ====
/-
  What the precondition says: every entry of the queries and of the keys is a real number.
-/
module

public import proofs.«01_k».proof.Pre_finite
public import proofs.«01_k».proof.Proof.AxMath
public import Idealize.ShloMosaic.Lib.ReduceAll
public import Idealize.ShloMosaic.Lib.Pointwise

@[expose] public section

set_option maxRecDepth 16384

noncomputable section

namespace Cert.Pre_finite.Axial

open Idealize.ShloMosaic Cert.AxMath

/-- The precondition's side conditions. -/
theorem facts : Cert.Pre_finite.Facts where
  bcast_S_S8x8192x8x64 := by decide
  reducesTo_S8x8192x8x64_S_d0_1_2_3 := by decide
  h_S_ := by decide
  bcast_S_S8x8192x2x64 := by decide
  reducesTo_S8x8192x2x64_S_d0_1_2_3 := by decide

/-- A value whose absolute value is below +∞ is a real number. -/
theorem isR_of_abs_lt (x : EReal) (h : Ideal.cmp .olt (max x (-x)) (Ideal.ofBits .f32 0x7F800000#32) = 1#1) : IsR x := by
  have htop : Ideal.ofBits .f32 0x7F800000#32 = ⊤ := by simp [Ideal.ofBits, Ideal.ieee]
  rw [htop] at h
  have hlt : max x (-x) < ⊤ := by
    by_contra hn
    simp [Ideal.cmp, hn] at h
  rw [max_lt_iff] at hlt
  induction x using EReal.rec with
  | bot => simp at hlt
  | top => simp at hlt
  | coe r => exact ⟨r, rfl⟩

instance : Subsingleton S_.Idx := ⟨fun a b => funext fun i => i.elim0⟩

/-- So the precondition says that all queries and all keys are real. -/
theorem real [Facts] (Q : FVec Ideal S8x8192x8x64 .f32) (K X : FVec Ideal S8x8192x2x64 .f32)
    (h : Cert.Pre_finite.fn (F := Ideal) Q K X = fun _ => 1#1) : (∀ i, IsR (Q i)) ∧ ∀ i, IsR (K i) := by
  have h0 := congrFun h ix0
  unfold Cert.Pre_finite.fn at h0
  dsimp only at h0
  obtain ⟨hq, hk⟩ := IntOp.andi_eq_one.1 h0
  exact ⟨fun i => isR_of_abs_lt _ (Host.reduce_andi_all _ _ _ _ _ hq i), fun i => isR_of_abs_lt _ (Host.reduce_andi_all _ _ _ _ _ hk i)⟩

end Cert.Pre_finite.Axial

end
-- ==== Proof.AxValue.lean ====
/-
  The value claim of the axial attention: of finite queries and keys, kernel and reference leave the same result.
-/
module

public import proofs.«01_k».proof.Defs
public import proofs.«01_k».proof.Proof.AxOut
public import proofs.«01_k».proof.Proof.AxRef
public import proofs.«01_k».proof.Proof.AxPre

@[expose] public section

set_option maxRecDepth 16384

noncomputable section

namespace Cert.ReferenceIdeal.Axial

open Idealize.ShloMosaic Idealize.ShloMosaic.TcCoe Idealize.SL.Sem
open Cert.ReferenceIdeal Cert.ReferenceIdeal.Gen Cert.AxMath
open Cert.KernelIdeal.Axial (scoreR soft attn)

variable {Q : FVec Ideal S8x8192x8x64 .f32} {K : FVec Ideal S8x8192x2x64 .f32}
  {q : Fin 8 → Fin 8192 → Fin 8 → Fin 64 → ℝ} {k : Fin 8 → Fin 8192 → Fin 2 → Fin 64 → ℝ}

/-- Of real queries and keys the reference's scores are the real scores. -/
theorem refS_real (hq : ∀ b n h d, Q (ix4 b n h d) = (q b n h d : EReal)) (hk : ∀ b x j d, K (ix4 b x j d) = (k b x j d : EReal))
    (b : Fin 8) (j : Fin 2) (g : Fin 4) (n x : Fin 8192) :
    refS Q K (ix5 b j g n x) = (scoreR q k b n ⟨4 * j.val + g.val, by omega⟩ x : EReal) := by
  have e8 : Ideal.ofBits .f32 0x3E000000#32 = ((1 / 8 : ℝ) : EReal) := by
    simp [Ideal.ofBits, Ideal.ieee]
    rw [← EReal.coe_mul]
    norm_num
  have hj : (⟨(4 * j.val + g.val) / 4, by omega⟩ : Fin 2) = j := Fin.ext (by dsimp only; omega)
  rw [refS_apply, e8]
  have e : ∀ d : Fin 64, (K (ix4 b x j d) * Q (ix4 b n ⟨4 * j.val + g.val, by omega⟩ d) : EReal)
      = ((k b x j d * q b n ⟨4 * j.val + g.val, by omega⟩ d : ℝ) : EReal) := by
    intro d
    rw [hq, hk, EReal.coe_mul]
  rw [Finset.sum_congr rfl fun d _ => e d, coe_sum, ← EReal.coe_mul]
  unfold scoreR
  rw [hj]

/-- So the reference is the attention of those real scores, shifted by the largest. -/
theorem refOut_attn (X : FVec Ideal S8x8192x2x64 .f32) (hq : ∀ b n h d, Q (ix4 b n h d) = (q b n h d : EReal))
    (hk : ∀ b x j d, K (ix4 b x j d) = (k b x j d : EReal)) :
    ∃ M : Fin 8 → Fin 8192 → Fin 8 → ℝ, ∀ b n h d, refOut Q K X (ix4 b n h d) = attn q k X M b n h d := by
  have hS : ∀ i, IsR (refS Q K i) := by
    intro i
    obtain ⟨b, j, g, n, x, rfl⟩ : ∃ (b : Fin 8) (j : Fin 2) (g : Fin 4) (n x : Fin 8192), i = ix5 b j g n x :=
      ⟨i 0, i 1, i 2, i 3, i 4, eq_ix5 i⟩
    exact ⟨_, refS_real hq hk b j g n x⟩
  have hM : ∀ (b : Fin 8) (n : Fin 8192) (h : Fin 8), ∃ r : ℝ, refM (refS Q K) (ix4 b ⟨h.val / 4, by omega⟩ ⟨h.val % 4, by omega⟩ n) = (r : EReal) :=
    fun b n h => refM_real (refS Q K) hS b ⟨h.val / 4, by omega⟩ ⟨h.val % 4, by omega⟩ n
  choose M hM using hM
  refine ⟨M, fun b n h d => ?_⟩
  have hh : (⟨4 * (⟨h.val / 4, by omega⟩ : Fin 2).val + (⟨h.val % 4, by omega⟩ : Fin 4).val, by dsimp only; omega⟩ : Fin 8) = h :=
    Fin.ext (by dsimp only; omega)
  have hE : ∀ x, refE (refS Q K) (ix5 b ⟨h.val / 4, by omega⟩ ⟨h.val % 4, by omega⟩ n x) = ((Real.exp (scoreR q k b n h x - M b n h) : ℝ) : EReal) := by
    intro x
    rw [refE_apply, hM, refS_real hq hk, hh, ← EReal.coe_sub]
    rfl
  rw [refOut_apply]
  unfold attn soft
  refine Finset.sum_congr rfl fun x _ => ?_
  rw [refP_apply, hE, Finset.sum_congr rfl fun x' _ => hE x', mul_comm]

end Cert.ReferenceIdeal.Axial

namespace Cert.AxProof

open Idealize.ShloMosaic Idealize.ShloMosaic.TcCoe Idealize.SL.Sem
open Cert.AxMath

/-- The kernel's result is the reference's function of the same arguments, of finite queries and keys. -/
theorem kernel_eq (m : (ℓ : Loc Cert.KernelIdeal.nD Cert.KernelIdeal.τ Cert.KernelIdeal.sig) → Buf (Elt Ideal) ℓ) (c : Dev Cert.KernelIdeal.nD)
    (hq : ∀ i, IsR (Cert.KernelIdeal.Axial.argQ m c i)) (hk : ∀ i, IsR (Cert.KernelIdeal.Axial.argK m c i)) :
    Cert.KernelIdeal.Axial.tailOf ((Cert.KernelIdeal.Axial.dats m 0 c).arrAt 3 Cert.KernelIdeal.cfg0.N)
      = Cert.ReferenceIdeal.Axial.refOut (Cert.KernelIdeal.Axial.argQ m c) (Cert.KernelIdeal.Axial.argK m c) (Cert.KernelIdeal.Axial.argV m c) := by
  choose q hq using hq
  choose k hk using hk
  have hq' : ∀ b n h d, Cert.KernelIdeal.Axial.argQ m c (ix4 b n h d) = (q (ix4 b n h d) : EReal) := fun b n h d => hq _
  have hk' : ∀ b x j d, Cert.KernelIdeal.Axial.argK m c (ix4 b x j d) = (k (ix4 b x j d) : EReal) := fun b x j d => hk _
  obtain ⟨M, hM⟩ := Cert.ReferenceIdeal.Axial.refOut_attn (q := fun b n h d => q (ix4 b n h d)) (k := fun b x j d => k (ix4 b x j d))
    (Cert.KernelIdeal.Axial.argV m c) hq' hk'
  rw [Cert.KernelIdeal.Axial.final m c (q := fun b n h d => q (ix4 b n h d)) (k := fun b x j d => k (ix4 b x j d)) hq' hk' M]
  funext i
  obtain ⟨b, n, h, d, rfl⟩ : ∃ (b : Fin 8) (n : Fin 8192) (h : Fin 8) (d : Fin 64), i = ix4 b n h d := ⟨i 0, i 1, i 2, i 3, eq_ix4 i⟩
  rw [Cert.KernelIdeal.Axial.tailOf_apply, Cert.KernelIdeal.Axial.outArr_apply]
  exact (hM b n h d).symm

/-- Kernel and reference agree on finite queries and keys. -/
theorem algebraic [h : Cert.Pre_finite.Facts] : Cert.algebraic_KernelIdeal_ReferenceIdeal_pre_finite := by
  intro m g m' g' hpre hm
  refine ⟨fun c => Cert.ReferenceIdeal.Axial.refOut (Cert.KernelIdeal.Axial.argQ m c) (Cert.KernelIdeal.Axial.argK m c) (Cert.KernelIdeal.Axial.argV m c), ?_, ?_⟩
  · refine (θ_run _ _ _).mono (fun r h c => ?_) (θ_run_and (Cert.KernelIdeal.Axial.run_main m g) (Cert.KernelIdeal.Axial.frame m g))
    obtain ⟨hq, hk⟩ := Cert.Pre_finite.Axial.real _ _ _ (hpre c)
    refine ⟨?_, h.2.1 c⟩
    refine ((h.1.1 c).2 Cert.KernelIdeal.main_v22 (Pipeline.mem_restRefs_of Cert.KernelIdeal.main_v22 (by decide) (by decide))).trans ?_
    exact (Cert.KernelIdeal.Axial.tail_eq m c).trans (kernel_eq m c hq hk)
  · refine (θ_run _ _ _).mono (fun r h c => ?_) (Cert.ReferenceIdeal.Value.run m' g')
    refine ⟨(h c).1.trans ?_, (h c).2⟩
    obtain ⟨h0, h1, h2⟩ := hm c
    rw [h0, h1, h2]
    rfl

end Cert.AxProof

end
-- ==== Proof.DiffStruct.lean ====
/-
  The differential attention kernel's body, written as what it is: two half heads' queries filled in, a first look at the scores, a sweep over the
  keys in chunks of 256, a second sweep when the first one's running references fell too far behind, and the
  two quotients, the second times a weight taken from the first, and scaled to unit mean square.
-/
module

public import proofs.«01_k».proof.Proof.Gen.DiffIdeal

@[expose] public section

set_option maxRecDepth 16384

noncomputable section

namespace Cert.DiffIdeal.Diff

open Idealize.ShloMosaic Idealize.SL.Sem
open Cert.DiffIdeal Facts₀ Facts

variable {F : FTy → Type} [FloatOps F]
variable [Facts]

/-- The programs of the body. -/
abbrev Body (F : FTy → Type) [FloatOps F] (α : Type) := Prog (TpuEff nD τ sig (Elt F) Λ₀ .tc) α

/-- The ten buffers the body works on: the query block, the two half heads' key blocks, the value, weight and output
    blocks and the four scratch buffers. -/
structure Bufs where
  q : Memref sig .tc .vmem S128x1024 .bf16
  hq : q.IsWhole
  k0 : Memref sig .tc .vmem S8192x128 .bf16
  hk0 : k0.IsWhole
  k1 : Memref sig .tc .vmem S8192x128 .bf16
  hk1 : k1.IsWhole
  v : Memref sig .tc .vmem S144x8192 .bf16
  hv : v.IsWhole
  lam : Memref sig .tc .vmem S4x64 .f32
  hlam : lam.IsWhole
  o : Memref sig .tc .vmem S1024x128 .bf16
  ho : o.IsWhole
  aug : Memref sig .tc .vmem S128x2048 .bf16
  haug : aug.IsWhole
  s0 : Memref sig .tc .vmem S256x2048 .bf16
  hs0 : s0.IsWhole
  s1 : Memref sig .tc .vmem S256x2048 .bf16
  hs1 : s1.IsWhole
  acc : Memref sig .tc .vmem S144x2048 .f32
  hacc : acc.IsWhole

/-- Which of the two score buffers. -/
def Bufs.s (B : Bufs) : Bool → Memref sig .tc .vmem S256x2048 .bf16
  | false => B.s0
  | true => B.s1

theorem Bufs.hs (B : Bufs) : ∀ b, (B.s b).IsWhole
  | false => B.hs0
  | true => B.hs1

/-- Which of the two key blocks, -/
def Bufs.kb (B : Bufs) : Bool → Memref sig .tc .vmem S8192x128 .bf16
  | false => B.k0
  | true => B.k1

/-- for a lane tile: the first four are the first half head's. -/
def Bufs.k (B : Bufs) (t : Fin 8) : Memref sig .tc .vmem S8192x128 .bf16 := B.kb (Nat.ble 4 t.val)

/-! ## The rectangles -/

theorem inb_lane_aug (t : Fin 8) : ∀ a, (![0, 256 * t.val] : Fin 2 → Nat) a + S128x256.size a ≤ S128x2048.size a := by
  revert t; decide +kernel
theorem inb_lane_s (t : Fin 8) : ∀ a, (![0, 256 * t.val] : Fin 2 → Nat) a + S256x256.size a ≤ S256x2048.size a := by
  revert t; decide +kernel
theorem inb_lane_acc (t : Fin 8) : ∀ a, (![0, 256 * t.val] : Fin 2 → Nat) a + S144x256.size a ≤ S144x2048.size a := by
  revert t; decide +kernel
theorem inb_q (g : Fin 2) : ∀ a, (![64 * g.val, 0] : Fin 2 → Nat) a + S64x1024.size a ≤ S128x1024.size a := by
  revert g; decide +kernel
theorem inb_head_aug (g : Fin 2) : ∀ a, (![0, 1024 * g.val] : Fin 2 → Nat) a + S64x1024.size a ≤ S128x2048.size a := by
  revert g; decide +kernel

/-- Lane tile `t` of the extended queries, -/
abbrev laneAug (t : Fin 8) : Rect S128x2048 := .unit (s := S128x2048) ![0, 256 * t.val] S128x256.size (inb_lane_aug t)
/-- of a score buffer, -/
abbrev laneS (t : Fin 8) : Rect S256x2048 := .unit (s := S256x2048) ![0, 256 * t.val] S256x256.size (inb_lane_s t)
/-- and of the accumulator. -/
abbrev laneAcc (t : Fin 8) : Rect S144x2048 := .unit (s := S144x2048) ![0, 256 * t.val] S144x256.size (inb_lane_acc t)
/-- Head `g`'s rows of the query block, -/
abbrev headQ (g : Fin 2) : Rect S128x1024 := .unit (s := S128x1024) ![64 * g.val, 0] S64x1024.size (inb_q g)
/-- and the columns they go to. -/
abbrev headAug (g : Fin 2) : Rect S128x2048 := .unit (s := S128x2048) ![0, 1024 * g.val] S64x1024.size (inb_head_aug g)

theorem packed_laneS : ∀ t : Fin 8, (laneS t).PackedRows (EltTy.packing .bf16)
  | 0 => packedbf16_S256x2048_S256x256_0_0
  | 1 => packedbf16_S256x2048_S256x256_0_256
  | 2 => packedbf16_S256x2048_S256x256_0_512
  | 3 => packedbf16_S256x2048_S256x256_0_768
  | 4 => packedbf16_S256x2048_S256x256_0_1024
  | 5 => packedbf16_S256x2048_S256x256_0_1280
  | 6 => packedbf16_S256x2048_S256x256_0_1536
  | 7 => packedbf16_S256x2048_S256x256_0_1792

theorem packed_headAug : ∀ g : Fin 2, (headAug g).PackedRows (EltTy.packing .bf16)
  | 0 => packedbf16_S128x2048_S64x1024_0_0
  | 1 => packedbf16_S128x2048_S64x1024_0_1024

theorem slices_lane : ∀ t : Fin 8, S1x2048.Slices ![0, 256 * t.val] S1x256
  | 0 => slices_S1x2048_o0_0_S1x256
  | 1 => slices_S1x2048_o0_256_S1x256
  | 2 => slices_S1x2048_o0_512_S1x256
  | 3 => slices_S1x2048_o0_768_S1x256
  | 4 => slices_S1x2048_o0_1024_S1x256
  | 5 => slices_S1x2048_o0_1280_S1x256
  | 6 => slices_S1x2048_o0_1536_S1x256
  | 7 => slices_S1x2048_o0_1792_S1x256

/-- The place of a chunk of 256 keys in the key block, -/
structure KOff where
  off : Fin 2 → Nat
  inb : ∀ a, off a + S256x128.size a ≤ S8192x128.size a
/-- and in the value block. -/
structure VOff where
  off : Fin 2 → Nat
  inb : ∀ a, off a + S144x256.size a ≤ S144x8192.size a

abbrev KOff.rect (o : KOff) : Rect S8192x128 := .unit (s := S8192x128) o.off S256x128.size o.inb
abbrev VOff.rect (o : VOff) : Rect S144x8192 := .unit (s := S144x8192) o.off S144x256.size o.inb

/-- The places of chunk `c`. -/
def kAt (c : Fin 32) : KOff := ⟨![256 * c.val, 0], by revert c; decide +kernel⟩
def vAt (c : Fin 32) : VOff := ⟨![0, 256 * c.val], by revert c; decide +kernel⟩

/-! ## The vector arithmetic -/

/-- The scores of one chunk against one lane tile, rounded. -/
def scoreTile (k : FVec F S256x128 .bf16) (q : FVec F S128x256 .bf16) : FVec F S256x256 .bf16 :=
  truncf .bf16 (matmul dot_S256x128_S128x256_S256x256_1_0_0_1_n_n none (shapeCast S256x128 k shapeCasts_S256x128_S256x128) q
    (constant S256x256 .f32 0x00000000#32)) bitsLt_bf16_f32

/-- Each column's largest score. -/
def maxTile (s : FVec F S256x256 .bf16) : FVec F S1x256 .f32 :=
  extf .f32 (shapeCast S1x256 (multiReduction .maximumf [0] S256 s 0xFF80#16 reduces_S256x256_S256 (.inr rfl) rfl)
    shapeCasts_S256_S1x256) bitsLt_bf16_f32

/-- The largest of the first 128 scores of one lane tile. -/
def firstTile (k : FVec F S128x128 .bf16) (q : FVec F S128x256 .bf16) : FVec F S1x256 .f32 :=
  extf .f32 (shapeCast S1x256 (multiReduction .maximumf [0] S256
    (truncf .bf16 (matmul dot_S128x128_S128x256_S128x256_1_0_0_1_n_n none (shapeCast S128x128 k shapeCasts_S128x128_S128x128) q
      (constant S128x256 .f32 0x00000000#32)) bitsLt_bf16_f32) 0xFF80#16 reduces_S128x256_S256 (.inr rfl) rfl)
    shapeCasts_S256_S1x256) bitsLt_bf16_f32

/-- The old accumulator of a lane tile, rescaled when the references moved. -/
def rescale (t : Fin 8) (al : Option (FVec F S1x2048 .f32)) (a : FVec F S144x256 .f32) : FVec F S144x256 .f32 :=
  match al with
  | none => a
  | some w => mulf (broadcastTo S144x256 (extractStridedSlice S1x256 ![0, 256 * t.val] w (slices_lane t)) broadcasts_S1x256_S144x256) a

/-- One chunk's values, weighted by the exponentials of its scores, added to the accumulator. -/
def accTile (t : Fin 8) (al : Option (FVec F S1x2048 .f32)) (s : FVec F S256x256 .bf16) (v : FVec F S144x256 .bf16)
    (a : FVec F S144x256 .f32) : FVec F S144x256 .f32 :=
  addf (rescale t al a) (matmul dot_S144x256_S256x256_S144x256_1_0_0_1_n_n none (shapeCast S144x256 v shapeCasts_S144x256_S144x256)
    (exp2 s) (constant S144x256 .f32 0x00000000#32))

/-- Eight lane tiles side by side. -/
def cat8 (m : Fin 8 → FVec F S1x256 .f32) : FVec F S1x2048 .f32 :=
  concatenate S1x2048 1 [⟨S1x256, m 0⟩, ⟨S1x256, m 1⟩, ⟨S1x256, m 2⟩, ⟨S1x256, m 3⟩, ⟨S1x256, m 4⟩, ⟨S1x256, m 5⟩, ⟨S1x256, m 6⟩,
    ⟨S1x256, m 7⟩] concatenates_S1x256_S1x256_S1x256_S1x256_S1x256_S1x256_S1x256_S1x256_S1x2048_d1

/-- A row of eight tiles, given one by one. -/
def cat8' (m0 m1 m2 m3 m4 m5 m6 m7 : FVec F S1x256 .f32) : FVec F S1x2048 .f32 :=
  concatenate S1x2048 1 [⟨S1x256, m0⟩, ⟨S1x256, m1⟩, ⟨S1x256, m2⟩, ⟨S1x256, m3⟩, ⟨S1x256, m4⟩, ⟨S1x256, m5⟩, ⟨S1x256, m6⟩,
    ⟨S1x256, m7⟩] concatenates_S1x256_S1x256_S1x256_S1x256_S1x256_S1x256_S1x256_S1x256_S1x2048_d1

/-- The reference row, negated, over 15 rows of zeros, rounded. -/
def refRows (r : FVec F S1x2048 .f32) : FVec F S16x2048 .bf16 :=
  truncf .bf16 (select (cmpi .eq (iota .tc S16x2048 32 [0] iota_S16x2048_d0_w32) (broadcast S16x2048 0#32))
    (broadcastTo S16x2048 (shapeCast S1x2048 (subf (broadcast S1x2048 (Scalar.ofBits .f32 0x00000000#32)) r) shapeCasts_S1x2048_S1x2048)
      broadcasts_S1x2048_S16x2048)
    (broadcast S16x2048 (Scalar.ofBits .f32 0x00000000#32))) bitsLt_bf16_f32

/-- A row rounded to sixteen bits. -/
def rnd (r : FVec F S1x2048 .f32) : FVec F S1x2048 .f32 := extf .f32 (truncf .bf16 r bitsLt_bf16_f32) bitsLt_bf16_f32

/-- The weight of the second half head: the exponentials of two inner products, their difference, and a constant. -/
def lamOf (l : FVec F S4x64 .f32) : FVec F S1x1 .f32 :=
  addf
    (subf
      (exp (shapeCast S1x1 (multiReduction .add [1] S1
        (mulf (extractStridedSlice S1x64 ![0, 0] l slices_S4x64_o0_0_S1x64) (extractStridedSlice S1x64 ![1, 0] l slices_S4x64_o1_0_S1x64))
        0x00000000#32 reduces_S1x64_S1 (.inl rfl) rfl) shapeCasts_S1_S1x1))
      (exp (shapeCast S1x1 (multiReduction .add [1] S1
        (mulf (extractStridedSlice S1x64 ![2, 0] l slices_S4x64_o2_0_S1x64) (extractStridedSlice S1x64 ![3, 0] l slices_S4x64_o3_0_S1x64))
        0x00000000#32 reduces_S1x64_S1 (.inl rfl) rfl) shapeCasts_S1_S1x1)))
    (broadcast S1x1 (Scalar.ofBits .f32 0x3E4CCCCD#32))

/-- The accumulated values over the accumulated weights, both half heads side by side. -/
def quot (a : FVec F S144x2048 .f32) : FVec F S128x2048 .f32 :=
  divf (extractStridedSlice S128x2048 ![0, 0] a slices_S144x2048_o0_0_S128x2048)
    (broadcastTo S128x2048 (extractStridedSlice S1x2048 ![128, 0] a slices_S144x2048_o128_0_S1x2048) broadcasts_S1x2048_S128x2048)

/-- The first half head's quotient less the weighted second's. -/
def diffs (a : FVec F S144x2048 .f32) (l : FVec F S4x64 .f32) : FVec F S128x1024 .f32 :=
  subf (extractStridedSlice S128x1024 ![0, 0] (quot a) slices_S128x2048_o0_0_S128x1024)
    (mulf (broadcastTo S128x1024 (lamOf l) broadcasts_S1x1_S128x1024)
      (extractStridedSlice S128x1024 ![0, 1024] (quot a) slices_S128x2048_o0_1024_S128x1024))

/-- A column's inverse root mean square. -/
def invRms (d : FVec F S128x1024 .f32) : FVec F S1x1024 .f32 :=
  rsqrt (addf (divf (shapeCast S1x1024 (multiReduction .add [0] S1024 (mulf d d) 0x00000000#32 reduces_S128x1024_S1024 (.inl rfl) rfl)
    shapeCasts_S1024_S1x1024) (broadcast S1x1024 (Scalar.ofBits .f32 0x43000000#32)))
    (broadcast S1x1024 (Scalar.ofBits .f32 0x358637BD#32)))

/-- The output block: the difference over its root mean square, times a constant, one row per token. -/
def finish (a : FVec F S144x2048 .f32) (l : FVec F S4x64 .f32) : FVec F S1024x128 .bf16 :=
  truncf .bf16 (transpose S1024x128 [1, 0] (mulf (mulf (diffs a l) (broadcastTo S128x1024 (invRms (diffs a l)) broadcasts_S1x1024_S128x1024))
    (broadcast S128x1024 (Scalar.ofBits .f32 0x3F4CCCCD#32))) transposes_S128x1024_p1_0_S1024x128) bitsLt_bf16_f32

/-- Whether some column's score rose too far above the reference it was taken against. -/
def tooHigh (over : FVec F S1x2048 .f32) : BitVec 1 :=
  Scalar.cmpi .ne (Scalar.extui (Scalar.cmpf .ogt (extractAt ![0, 0, 0] (shapeCast S1x1x1 (multiReduction .maximumf [1, 2] S1
    (shapeCast S1x1x2048 over shapeCasts_S1x2048_S1x1x2048) 0xFF800000#32 reduces_S1x1x2048_S1 (.inl rfl) rfl) shapeCasts_S1_S1x1x1)
    inpos_S1x1x1_p0_0_0) (Scalar.ofBits .f32 0x42C80000#32)) : BitVec 32) 0#32

/-! ## The programs -/

variable (B : Bufs)

/-- Head `g`'s queries into the extended query block. -/
def fillHead (g : Fin 2) : Body F PUnit := do
  let x : Vec F S64x1024 .bf16 ← Prog.lift (.load B.q (headQ g).toLoadRect (View.loadsAt_vmem h_S64x1024))
  let _ : Vec F S64x1024 .bf16 ← Prog.lift (.load B.aug (headAug g).toLoadRect (View.loadsAt_vmem h_S64x1024))
  Prog.lift (.store B.aug (headAug g) (shapeCast S64x1024 (shapeCast S64x1024 x shapeCasts_S64x1024_S64x1024) shapeCasts_S64x1024_S64x1024 : FVec F S64x1024 .bf16)
    Finset.univ (View.stores_vmem h_S64x1024 (B.haug.storeExact_slice rfl _ (packed_headAug g)) (fun _ => rfl)) (.inl rfl))

/-- The last 48 rows of the extended query block are zero. -/
def fillPad : Body F PUnit := do
  let _ : Vec F S48x2048 .bf16 ← Prog.lift (.load B.aug (Rect.unit (s := S128x2048) ![80, 0] S48x2048.size inb_S128x2048_S48x2048_80_0).toLoadRect (View.loadsAt_vmem h_S48x2048))
  Prog.lift (.store B.aug (Rect.unit (s := S128x2048) ![80, 0] S48x2048.size inb_S128x2048_S48x2048_80_0)
    (shapeCast S48x2048 (broadcast S48x2048 (Scalar.ofBits .bf16 0x0000#16)) shapeCasts_S48x2048_S48x2048 : FVec F S48x2048 .bf16)
    Finset.univ (View.stores_vmem h_S48x2048 (B.haug.storeExact_slice rfl _ packedbf16_S128x2048_S48x2048_80_0) (fun _ => rfl)) (.inl rfl))

/-- The reference subtracted from the scores: a row of the extended query block. -/
def setRef (r : FVec F S1x2048 .f32) : Body F PUnit := do
  let _ : Vec F S16x2048 .bf16 ← Prog.lift (.load B.aug (Rect.unit (s := S128x2048) ![64, 0] S16x2048.size inb_S128x2048_S16x2048_64_0).toLoadRect (View.loadsAt_vmem h_S16x2048))
  Prog.lift (.store B.aug (Rect.unit (s := S128x2048) ![64, 0] S16x2048.size inb_S128x2048_S16x2048_64_0)
    (shapeCast S16x2048 (refRows r) shapeCasts_S16x2048_S16x2048 : FVec F S16x2048 .bf16)
    Finset.univ (View.stores_vmem h_S16x2048 (B.haug.storeExact_slice rfl _ packedbf16_S128x2048_S16x2048_64_0) (fun _ => rfl)) (.inl rfl))

/-- Lane tile `t`'s largest of the first 128 scores. -/
def first (t : Fin 8) : Body F (FVec F S1x256 .f32) := do
  let k : Vec F S128x128 .bf16 ← Prog.lift (.load (B.k t) (Rect.unit (s := S8192x128) ![0, 0] S128x128.size inb_S8192x128_S128x128_0_0).toLoadRect (View.loadsAt_vmem h_S128x128))
  let q : Vec F S128x256 .bf16 ← Prog.lift (.load B.aug (laneAug t).toLoadRect (View.loadsAt_vmem h_S128x256))
  pure (firstTile k q)

/-- Lane tile `t`'s scores of one chunk into a score buffer; their column maxima. -/
def scores (b : Bool) (o : KOff) (t : Fin 8) : Body F (FVec F S1x256 .f32) := do
  let k : Vec F S256x128 .bf16 ← Prog.lift (.load (B.k t) o.rect.toLoadRect (View.loadsAt_vmem h_S256x128))
  let q : Vec F S128x256 .bf16 ← Prog.lift (.load B.aug (laneAug t).toLoadRect (View.loadsAt_vmem h_S128x256))
  let _ : Vec F S256x256 .bf16 ← Prog.lift (.load (B.s b) (laneS t).toLoadRect (View.loadsAt_vmem h_S256x256))
  Prog.lift (.store (B.s b) (laneS t) (shapeCast S256x256 (scoreTile k q) shapeCasts_S256x256_S256x256 : FVec F S256x256 .bf16)
    Finset.univ (View.stores_vmem h_S256x256 ((B.hs b).storeExact_slice rfl _ (packed_laneS t)) (fun _ => rfl)) (.inl rfl))
  pure (maxTile (scoreTile k q))

/-- Lane tile `t` of a score buffer weighted into the accumulator. -/
def accum (b : Bool) (o : VOff) (al : Option (FVec F S1x2048 .f32)) (t : Fin 8) : Body F PUnit := do
  let s : Vec F S256x256 .bf16 ← Prog.lift (.load (B.s b) (laneS t).toLoadRect (View.loadsAt_vmem h_S256x256))
  let v : Vec F S144x256 .bf16 ← Prog.lift (.load B.v o.rect.toLoadRect (View.loadsAt_vmem h_S144x256))
  let a : Vec F S144x256 .f32 ← Prog.lift (.load B.acc (laneAcc t).toLoadRect (View.loadsAt_vmem h_S144x256))
  let _ : Vec F S144x256 .f32 ← Prog.lift (.load B.acc (laneAcc t).toLoadRect (View.loadsAt_vmem h_S144x256))
  Prog.lift (.store B.acc (laneAcc t) (shapeCast S144x256 (accTile t al s v a) shapeCasts_S144x256_S144x256 : FVec F S144x256 .f32)
    Finset.univ (View.stores_vmem_bits_univ h_S144x256 rfl) (.inl rfl))

/-- The accumulator emptied. -/
def clear : Body F PUnit := do
  let _ : Vec F S144x2048 .f32 ← Prog.lift (.load B.acc (Rect.unit (s := S144x2048) ![0, 0] S144x2048.size inb_S144x2048_S144x2048_0_0).toLoadRect (View.loadsAt_vmem h_S144x2048))
  Prog.lift (.store B.acc (Rect.unit (s := S144x2048) ![0, 0] S144x2048.size inb_S144x2048_S144x2048_0_0)
    (shapeCast S144x2048 (broadcast S144x2048 (Scalar.ofBits .f32 0x00000000#32)) shapeCasts_S144x2048_S144x2048 : FVec F S144x2048 .f32)
    Finset.univ (View.stores_vmem_bits_univ h_S144x2048 rfl) (.inl rfl))

/-- The eight lane tiles in turn, their results side by side. -/
def tiles (p : Fin 8 → Body F (FVec F S1x256 .f32)) : Body F (FVec F S1x2048 .f32) := do
  let m0 ← p 0
  let m1 ← p 1
  let m2 ← p 2
  let m3 ← p 3
  let m4 ← p 4
  let m5 ← p 5
  let m6 ← p 6
  let m7 ← p 7
  pure (cat8' m0 m1 m2 m3 m4 m5 m6 m7)

/-- One step: the next chunk's scores and the current chunk's accumulation, tile by tile. -/
def step (b : Bool) (ko : KOff) (vo : VOff) (al : Option (FVec F S1x2048 .f32)) : Body F (FVec F S1x2048 .f32) :=
  tiles fun t => do
    let m ← scores B b ko t
    accum B (!b) vo al t
    pure m

/-- What a sweep carries: the reference, the current chunk's maxima, the running top, and how far scores rose. -/
abbrev Carry (F : FTy → Type) [FloatOps F] := FVec F S1x2048 .f32 × FVec F S1x2048 .f32 × FVec F S1x2048 .f32 × FVec F S1x2048 .f32

/-- The carry after a step that found the next chunk's maxima `m`. -/
def Carry.next (g : FVec F S1x2048 .f32) (c : Carry F) (m : FVec F S1x2048 .f32) : Carry F :=
  (g, m, maximumf c.2.2.1 (addf c.1 c.2.1), maximumf c.2.2.2 c.2.1)

/-- Steps that keep the reference: the step's number in its group says which buffer it fills. -/
def plain (ko : Fin 8 → KOff) (vo : Fin 8 → VOff) : List (Fin 8) → Carry F → Body F (Carry F)
  | [], c => pure c
  | u :: us, c => do
    let m ← step B (u.val % 2 == 0) (ko u) (vo u) none
    plain ko vo us (Carry.next c.1 c m)

/-- A group of steps: the reference moves to the running top, and the accumulator follows one step later. -/
def group (ko : Fin 8 → KOff) (vo : Fin 8 → VOff) (us : List (Fin 8)) (c : Carry F) : Body F (Carry F) := do
  setRef B (rnd c.2.2.1)
  let m0 ← step B true (ko 0) (vo 0) none
  let c0 := Carry.next (rnd c.2.2.1) c m0
  let m1 ← step B false (ko 1) (vo 1) (some (exp2 (subf c.1 (rnd c.2.2.1))))
  plain B ko vo us (Carry.next (rnd c.2.2.1) c0 m1)

/-- A sweep up to its loop: the accumulator emptied, the reference set, the first chunk's scores. -/
def head (top : FVec F S1x2048 .f32) : Body F (FVec F S1x2048 .f32) := do
  clear B
  setRef B (rnd top)
  tiles fun t => scores B false (kAt 0) t

/-- The chunks left after a sweep's loop, and the last chunk's accumulation. -/
def tail (c : Carry F) : Body F (FVec F S1x2048 .f32 × FVec F S1x2048 .f32) := do
  let c ← group B (fun u => kAt ⟨(25 + u.val) % 32, Nat.mod_lt _ (by decide)⟩) (fun u => vAt ⟨(24 + u.val) % 32, Nat.mod_lt _ (by decide)⟩) [2, 3, 4, 5, 6] c
  accum B true (vAt 31) none 0
  accum B true (vAt 31) none 1
  accum B true (vAt 31) none 2
  accum B true (vAt 31) none 3
  accum B true (vAt 31) none 4
  accum B true (vAt 31) none 5
  accum B true (vAt 31) none 6
  accum B true (vAt 31) none 7
  pure (maximumf c.2.2.1 (addf c.1 c.2.1), maximumf c.2.2.2 c.2.1)

/-- The first sweep's loop. -/
def loop1 (c : Carry F) : Body F (Carry F) :=
  Scf.Loop.for k0_t1_loop k0_t1_ok c fun i c =>
    group B (fun u => ⟨k0_off1 i (BitVec.ofNat 32 u.val), k0_off1_inb i u⟩) (fun u => ⟨k0_off2 i (BitVec.ofNat 32 u.val), k0_off2_inb i u⟩) [2, 3, 4, 5, 6, 7] c

/-- The second sweep's loop, which no longer watches how far scores rise. -/
def loop2 (c : FVec F S1x2048 .f32 × FVec F S1x2048 .f32 × FVec F S1x2048 .f32) :
    Body F (FVec F S1x2048 .f32 × FVec F S1x2048 .f32 × FVec F S1x2048 .f32) :=
  Scf.Loop.for k0_t2_loop k0_t2_ok c fun i c => do
    let c ← group B (fun u => ⟨k0_off3 i (BitVec.ofNat 32 u.val), k0_off3_inb i u⟩) (fun u => ⟨k0_off4 i (BitVec.ofNat 32 u.val), k0_off4_inb i u⟩) [2, 3, 4, 5, 6, 7]
      (c.1, c.2.1, c.2.2, c.2.2)
    pure (c.1, c.2.1, c.2.2.1)

/-- Before the sweeps: the queries, a zero reference, the first look. -/
def before : Body F (FVec F S1x2048 .f32) := do
  fillHead B 0
  fillHead B 1
  fillPad B
  setRef B (broadcast S1x2048 (Scalar.ofBits .f32 0x00000000#32))
  tiles fun t => first B t

/-- After the sweeps: the result into the output block. -/
def after : Body F PUnit := do
  let l : Vec F S4x64 .f32 ← Prog.lift (.load B.lam (Rect.unit (s := S4x64) ![0, 0] S4x64.size inb_S4x64_S4x64_0_0).toLoadRect (View.loadsAt_vmem h_S4x64))
  let a : Vec F S144x2048 .f32 ← Prog.lift (.load B.acc (Rect.unit (s := S144x2048) ![0, 0] S144x2048.size inb_S144x2048_S144x2048_0_0).toLoadRect (View.loadsAt_vmem h_S144x2048))
  let _ : Vec F S1024x128 .bf16 ← Prog.lift (.load B.o (Rect.unit (s := S1024x128) ![0, 0] S1024x128.size inb_S1024x128_S1024x128_0_0).toLoadRect (View.loadsAt_vmem h_S1024x128))
  Prog.lift (.store B.o (Rect.unit (s := S1024x128) ![0, 0] S1024x128.size inb_S1024x128_S1024x128_0_0) (finish a l)
    Finset.univ (View.stores_vmem h_S1024x128 (B.ho.storeExact_slice rfl _ packedbf16_S1024x128_S1024x128_0_0) (fun _ => rfl)) (.inl rfl))

/-- The second sweep. -/
def again (top : FVec F S1x2048 .f32) : Body F PUnit := do
  let m ← head B top
  let c ← loop2 B (rnd top, m, top)
  let _ ← tail B (c.1, c.2.1, c.2.2, c.2.2)
  pure ⟨⟩

/-- The whole body. -/
def body : Body F PUnit := do
  let t0 ← before B
  let m ← head B t0
  let c ← loop1 B (rnd t0, m, t0, broadcast S1x2048 (Scalar.ofBits .f32 0x00000000#32))
  let r ← tail B c
  (if tooHigh r.2 = 1#1 then again B r.1 else pure ⟨⟩) >>= fun _ => after B

end Cert.DiffIdeal.Diff
-- ==== Proof.DiffPure.lean ====
/-
  What the differential attention body computes, as functions of its query, key and value blocks alone: the extended queries, a
  chunk's scores and maxima, a chunk's accumulation, a group of steps, a sweep, and the output block.
-/
module

public import proofs.«01_k».proof.Proof.DiffStruct
public import Idealize.ShloMosaic.Lib.WritesUnit

@[expose] public section

set_option maxRecDepth 16384

noncomputable section

namespace Cert.DiffIdeal.Diff

open Idealize.ShloMosaic Idealize.SL.Sem
open Cert.DiffIdeal Facts₀ Facts

/-! ## Reading and writing a rectangle of an array -/

section Rects
variable {S : Shape} {α : Type}

/-- The part of an array under a rectangle. -/
def part (X : S.Idx → α) (r : Rect S) : r.shape.Idx → α := fun x => X (r.emb x)

open Classical in
/-- An array with the part under a rectangle replaced. -/
def upd (X : S.Idx → α) (r : Rect S) (w : r.shape.Idx → α) : S.Idx → α :=
  fun y => if h : ∃ x, r.emb x = y then w h.choose else X y

theorem upd_emb (X : S.Idx → α) (r : Rect S) (w : r.shape.Idx → α) (x : r.shape.Idx) : upd X r w (r.emb x) = w x := by
  have h : ∃ x', r.emb x' = r.emb x := ⟨x, rfl⟩
  unfold upd
  rw [dif_pos h]
  exact congrArg w (r.emb.injective h.choose_spec)

theorem upd_of_not (X : S.Idx → α) (r : Rect S) (w : r.shape.Idx → α) (y : S.Idx) (h : ∀ x, r.emb x ≠ y) :
    upd X r w y = X y := by
  unfold upd
  rw [dif_neg (fun ⟨x, hx⟩ => h x hx)]

/-- The replaced part reads as what replaced it; -/
theorem part_upd (X : S.Idx → α) (r : Rect S) (w : r.shape.Idx → α) : part (upd X r w) r = w :=
  funext fun x => upd_emb X r w x

/-- a part under a rectangle apart from the replaced one reads as before. -/
theorem part_upd_of_apart (X : S.Idx → α) (r r' : Rect S) (w : r.shape.Idx → α) (h : ∀ x x', r.emb x ≠ r'.emb x') :
    part (upd X r w) r' = part X r' :=
  funext fun x' => upd_of_not X r w _ fun x => h x x'

/-- Coordinates of an index placed by a unit-stride rectangle. -/
theorem emb_val {off size : Fin S.rank → Nat} {inb : ∀ a, off a + size a ≤ S.size a} (x : (Rect.unit (s := S) off size inb).shape.Idx)
    (a : Fin S.rank) : ((Rect.unit (s := S) off size inb).emb x a).val = off a + (x a).val := by
  show off a + 1 * (x a).val = _
  rw [Nat.one_mul]

theorem emb_unitLocal {off size : Fin S.rank → Nat} {inb : ∀ a, off a + size a ≤ S.size a} (y : S.Idx)
    (h : ∀ a, off a ≤ (y a).val ∧ (y a).val < off a + size a) :
    (Rect.unit (s := S) off size inb).emb (Rect.unitLocal (s := S) y h) = y := by
  funext a
  apply Fin.ext
  have h1 := (h a).1
  show off a + 1 * ((y a).val - off a) = (y a).val
  omega

theorem unitLocal_emb {off size : Fin S.rank → Nat} {inb : ∀ a, off a + size a ≤ S.size a} (x : (Rect.unit (s := S) off size inb).shape.Idx)
    (h : ∀ a, off a ≤ ((Rect.unit (s := S) off size inb).emb x a).val ∧ ((Rect.unit (s := S) off size inb).emb x a).val < off a + size a) :
    Rect.unitLocal (s := S) ((Rect.unit (s := S) off size inb).emb x) h = x := by
  funext a
  apply Fin.ext
  show off a + 1 * (x a).val - off a = (x a).val
  omega

end Rects

variable {α : Type}

/-! ## Lane tiles -/

theorem lane_lt {n : Nat} (h : n < 2048) : n / 256 < 8 := by omega

theorem in_laneS (y : S256x2048.Idx) (a : Fin 2) :
    (![0, 256 * ((y 1).val / 256)] : Fin 2 → Nat) a ≤ (y a).val ∧ (y a).val < (![0, 256 * ((y 1).val / 256)] : Fin 2 → Nat) a + S256x256.size a := by
  have h0 : (y 0).val < 256 := (y 0).isLt
  fin_cases a
  · exact ⟨Nat.zero_le _, by show (y 0).val < 0 + 256; omega⟩
  · exact ⟨by show 256 * ((y 1).val / 256) ≤ (y 1).val; omega, by show (y 1).val < 256 * ((y 1).val / 256) + 256; omega⟩

theorem in_laneAcc (y : S144x2048.Idx) (a : Fin 2) :
    (![0, 256 * ((y 1).val / 256)] : Fin 2 → Nat) a ≤ (y a).val ∧ (y a).val < (![0, 256 * ((y 1).val / 256)] : Fin 2 → Nat) a + S144x256.size a := by
  have h0 : (y 0).val < 144 := (y 0).isLt
  fin_cases a
  · exact ⟨Nat.zero_le _, by show (y 0).val < 0 + 144; omega⟩
  · exact ⟨by show 256 * ((y 1).val / 256) ≤ (y 1).val; omega, by show (y 1).val < 256 * ((y 1).val / 256) + 256; omega⟩

/-- Eight lane tiles of scores side by side. -/
def glueS (X : (t : Fin 8) → (laneS t).shape.Idx → α) : S256x2048.Idx → α := fun y =>
  X ⟨(y 1).val / 256, lane_lt (y 1).isLt⟩ (Rect.unitLocal (s := S256x2048) y (in_laneS y))

/-- Eight lane tiles of accumulators side by side. -/
def glueAcc (X : (t : Fin 8) → (laneAcc t).shape.Idx → α) : S144x2048.Idx → α := fun y =>
  X ⟨(y 1).val / 256, lane_lt (y 1).isLt⟩ (Rect.unitLocal (s := S144x2048) y (in_laneAcc y))

/-- An array of scores is determined by its lane tiles. -/
theorem eq_glueS {X : S256x2048.Idx → α} {T : (t : Fin 8) → (laneS t).shape.Idx → α} (h : ∀ t, part X (laneS t) = T t) : X = glueS T := by
  funext y
  unfold glueS
  rw [← h]
  unfold part
  exact congrArg X (emb_unitLocal (S := S256x2048) (inb := inb_lane_s ⟨(y 1).val / 256, lane_lt (y 1).isLt⟩) y (in_laneS y)).symm

/-- An accumulator is determined by its lane tiles. -/
theorem eq_glueAcc {X : S144x2048.Idx → α} {T : (t : Fin 8) → (laneAcc t).shape.Idx → α} (h : ∀ t, part X (laneAcc t) = T t) : X = glueAcc T := by
  funext y
  unfold glueAcc
  rw [← h]
  unfold part
  exact congrArg X (emb_unitLocal (S := S144x2048) (inb := inb_lane_acc ⟨(y 1).val / 256, lane_lt (y 1).isLt⟩) y (in_laneAcc y)).symm

theorem apart_laneS {t t' : Fin 8} (h : t ≠ t') (x : (laneS t).shape.Idx) (x' : (laneS t').shape.Idx) : (laneS t).emb x ≠ (laneS t').emb x' := by
  intro e
  have e1 := congrArg Fin.val (congrFun e 1)
  rw [emb_val, emb_val] at e1
  have hx : (x 1).val < 256 := (x 1).isLt
  have hx' : (x' 1).val < 256 := (x' 1).isLt
  replace e1 : 256 * t.val + (x 1).val = 256 * t'.val + (x' 1).val := e1
  exact h (Fin.ext (by omega))

theorem apart_laneAcc {t t' : Fin 8} (h : t ≠ t') (x : (laneAcc t).shape.Idx) (x' : (laneAcc t').shape.Idx) : (laneAcc t).emb x ≠ (laneAcc t').emb x' := by
  intro e
  have e1 := congrArg Fin.val (congrFun e 1)
  rw [emb_val, emb_val] at e1
  have hx : (x 1).val < 256 := (x 1).isLt
  have hx' : (x' 1).val < 256 := (x' 1).isLt
  replace e1 : 256 * t.val + (x 1).val = 256 * t'.val + (x' 1).val := e1
  exact h (Fin.ext (by omega))

/-! ## The extended queries -/

/-- The rows that hold the reference, -/
abbrev refRect : Rect S128x2048 := .unit (s := S128x2048) ![64, 0] S16x2048.size inb_S128x2048_S16x2048_64_0
/-- and the rows of padding. -/
abbrev padRect : Rect S128x2048 := .unit (s := S128x2048) ![80, 0] S48x2048.size inb_S128x2048_S48x2048_80_0

theorem head_lt {n : Nat} (h : n < 2048) : n / 1024 < 2 := by omega

theorem in_headAug (y : S128x2048.Idx) (h : (y 0).val < 64) (a : Fin 2) :
    (![0, 1024 * ((y 1).val / 1024)] : Fin 2 → Nat) a ≤ (y a).val ∧ (y a).val < (![0, 1024 * ((y 1).val / 1024)] : Fin 2 → Nat) a + S64x1024.size a := by
  fin_cases a
  · exact ⟨Nat.zero_le _, by show (y 0).val < 0 + 64; omega⟩
  · exact ⟨by show 1024 * ((y 1).val / 1024) ≤ (y 1).val; omega, by show (y 1).val < 1024 * ((y 1).val / 1024) + 1024; omega⟩

theorem in_ref (y : S128x2048.Idx) (h : ¬ (y 0).val < 64) (h' : (y 0).val < 80) (a : Fin 2) :
    (![64, 0] : Fin 2 → Nat) a ≤ (y a).val ∧ (y a).val < (![64, 0] : Fin 2 → Nat) a + S16x2048.size a := by
  have h1 : (y 1).val < 2048 := (y 1).isLt
  fin_cases a
  · exact ⟨by show 64 ≤ (y 0).val; omega, by show (y 0).val < 64 + 16; omega⟩
  · exact ⟨Nat.zero_le _, by show (y 1).val < 0 + 2048; omega⟩

theorem in_pad (y : S128x2048.Idx) (h : ¬ (y 0).val < 80) (a : Fin 2) :
    (![80, 0] : Fin 2 → Nat) a ≤ (y a).val ∧ (y a).val < (![80, 0] : Fin 2 → Nat) a + S48x2048.size a := by
  have h0 : (y 0).val < 128 := (y 0).isLt
  have h1 : (y 1).val < 2048 := (y 1).isLt
  fin_cases a
  · exact ⟨by show 80 ≤ (y 0).val; omega, by show (y 0).val < 80 + 48; omega⟩
  · exact ⟨Nat.zero_le _, by show (y 1).val < 0 + 2048; omega⟩

/-- Two half heads' queries over the reference's rows over padding. -/
def glueAug (H : (g : Fin 2) → (headAug g).shape.Idx → α) (R : refRect.shape.Idx → α) (P : padRect.shape.Idx → α) : S128x2048.Idx → α := fun y =>
  if h : (y 0).val < 64 then H ⟨(y 1).val / 1024, head_lt (y 1).isLt⟩ (Rect.unitLocal (s := S128x2048) y (in_headAug y h))
  else if h' : (y 0).val < 80 then R (Rect.unitLocal (s := S128x2048) y (in_ref y h h'))
  else P (Rect.unitLocal (s := S128x2048) y (in_pad y h'))

theorem eq_glueAug {X : S128x2048.Idx → α} {H : (g : Fin 2) → (headAug g).shape.Idx → α} {R : refRect.shape.Idx → α} {P : padRect.shape.Idx → α}
    (hH : ∀ g, part X (headAug g) = H g) (hR : part X refRect = R) (hP : part X padRect = P) : X = glueAug H R P := by
  funext y
  unfold glueAug
  split_ifs with h h'
  · rw [← hH]
    exact congrArg X (emb_unitLocal (S := S128x2048) (inb := inb_head_aug ⟨(y 1).val / 1024, head_lt (y 1).isLt⟩) y (in_headAug y h)).symm
  · rw [← hR]
    exact congrArg X (emb_unitLocal (S := S128x2048) (inb := inb_S128x2048_S16x2048_64_0) y (in_ref y h h')).symm
  · rw [← hP]
    exact congrArg X (emb_unitLocal (S := S128x2048) (inb := inb_S128x2048_S48x2048_80_0) y (in_pad y h')).symm

theorem apart_headAug {t t' : Fin 2} (h : t ≠ t') (x : (headAug t).shape.Idx) (x' : (headAug t').shape.Idx) : (headAug t).emb x ≠ (headAug t').emb x' := by
  intro e
  have e1 := congrArg Fin.val (congrFun e 1)
  rw [emb_val, emb_val] at e1
  have hx : (x 1).val < 1024 := (x 1).isLt
  have hx' : (x' 1).val < 1024 := (x' 1).isLt
  replace e1 : 1024 * t.val + (x 1).val = 1024 * t'.val + (x' 1).val := e1
  exact h (Fin.ext (by omega))

theorem apart_ref_head (t : Fin 2) (x : refRect.shape.Idx) (x' : (headAug t).shape.Idx) : refRect.emb x ≠ (headAug t).emb x' := by
  intro e
  have e1 := congrArg Fin.val (congrFun e 0)
  rw [emb_val, emb_val] at e1
  have hx' : (x' 0).val < 64 := (x' 0).isLt
  replace e1 : 64 + (x 0).val = 0 + (x' 0).val := e1
  omega

theorem apart_pad_head (t : Fin 2) (x : padRect.shape.Idx) (x' : (headAug t).shape.Idx) : padRect.emb x ≠ (headAug t).emb x' := by
  intro e
  have e1 := congrArg Fin.val (congrFun e 0)
  rw [emb_val, emb_val] at e1
  have hx' : (x' 0).val < 64 := (x' 0).isLt
  replace e1 : 80 + (x 0).val = 0 + (x' 0).val := e1
  omega

theorem apart_ref_pad (x : refRect.shape.Idx) (x' : padRect.shape.Idx) : refRect.emb x ≠ padRect.emb x' := by
  intro e
  have e1 := congrArg Fin.val (congrFun e 0)
  rw [emb_val, emb_val] at e1
  have hx : (x 0).val < 16 := (x 0).isLt
  replace e1 : 64 + (x 0).val = 80 + (x' 0).val := e1
  omega

/-! ## The sweep -/

variable {F : FTy → Type} [FloatOps F]
variable [Facts]

/-- The key blocks, as each lane tile sees them. -/
abbrev Keys (F : FTy → Type) := Fin 8 → Vec F S8192x128 .bf16

/-- Head `g`'s queries as stored. -/
def headQs (q : Vec F S128x1024 .bf16) (g : Fin 2) : (headAug g).shape.Idx → Elt F .bf16 :=
  (shapeCast S64x1024 (shapeCast S64x1024 (part q (headQ g) : FVec F S64x1024 .bf16) shapeCasts_S64x1024_S64x1024) shapeCasts_S64x1024_S64x1024 : FVec F S64x1024 .bf16)

/-- The reference's rows as stored. -/
def refs (r : FVec F S1x2048 .f32) : refRect.shape.Idx → Elt F .bf16 :=
  (shapeCast S16x2048 (refRows r) shapeCasts_S16x2048_S16x2048 : FVec F S16x2048 .bf16)

/-- The padding as stored. -/
def pads : padRect.shape.Idx → Elt F .bf16 :=
  (shapeCast S48x2048 (broadcast S48x2048 (Scalar.ofBits .bf16 0x0000#16)) shapeCasts_S48x2048_S48x2048 : FVec F S48x2048 .bf16)

/-- The extended queries at a reference. -/
def augOf (q : Vec F S128x1024 .bf16) (r : FVec F S1x2048 .f32) : Vec F S128x2048 .bf16 := glueAug (headQs q) (refs r) pads

/-- One chunk's scores, rounded, on one lane tile. -/
def scoreOf (k : Keys F) (aug : Vec F S128x2048 .bf16) (o : KOff) (t : Fin 8) : FVec F S256x256 .bf16 :=
  scoreTile (part (k t) o.rect) (part aug (laneAug t))

/-- One chunk's scores. -/
def scoresOf (k : Keys F) (aug : Vec F S128x2048 .bf16) (o : KOff) : Vec F S256x2048 .bf16 :=
  glueS fun t => (shapeCast S256x256 (scoreOf k aug o t) shapeCasts_S256x256_S256x256 : FVec F S256x256 .bf16)

/-- One chunk's column maxima. -/
def maxOf (k : Keys F) (aug : Vec F S128x2048 .bf16) (o : KOff) : FVec F S1x2048 .f32 :=
  cat8' (maxTile (scoreOf k aug o 0)) (maxTile (scoreOf k aug o 1)) (maxTile (scoreOf k aug o 2)) (maxTile (scoreOf k aug o 3))
    (maxTile (scoreOf k aug o 4)) (maxTile (scoreOf k aug o 5)) (maxTile (scoreOf k aug o 6)) (maxTile (scoreOf k aug o 7))

/-- One chunk accumulated, on one lane tile. -/
def accT (v : Vec F S144x8192 .bf16) (o : VOff) (al : Option (FVec F S1x2048 .f32)) (cur : Vec F S256x2048 .bf16) (acc : Vec F S144x2048 .f32)
    (t : Fin 8) : (laneAcc t).shape.Idx → Elt F .f32 :=
  (shapeCast S144x256 (accTile t al (part cur (laneS t)) (part v o.rect) (part acc (laneAcc t))) shapeCasts_S144x256_S144x256 : FVec F S144x256 .f32)

/-- One chunk accumulated. -/
def accOf (v : Vec F S144x8192 .bf16) (o : VOff) (al : Option (FVec F S1x2048 .f32)) (cur : Vec F S256x2048 .bf16) (acc : Vec F S144x2048 .f32) :
    Vec F S144x2048 .f32 :=
  glueAcc (accT v o al cur acc)

/-- The first 128 keys' largest scores. -/
def firstOf (k : Keys F) (aug : Vec F S128x2048 .bf16) (t : Fin 8) : FVec F S1x256 .f32 :=
  firstTile (part (k t) (Rect.unit (s := S8192x128) ![0, 0] S128x128.size inb_S8192x128_S128x128_0_0)) (part aug (laneAug t))

/-- The first top. -/
def topOf (k : Keys F) (aug : Vec F S128x2048 .bf16) : FVec F S1x2048 .f32 :=
  cat8' (firstOf k aug 0) (firstOf k aug 1) (firstOf k aug 2) (firstOf k aug 3) (firstOf k aug 4) (firstOf k aug 5) (firstOf k aug 6) (firstOf k aug 7)

/-- Where a sweep stands: what it carries, the scores waiting to be accumulated, and the accumulator. -/
structure Sw (F : FTy → Type) [FloatOps F] where
  c : Carry F
  cur : Vec F S256x2048 .bf16
  acc : Vec F S144x2048 .f32

/-- One step of a sweep, at a new reference `g`. -/
def Sw.step (q : Vec F S128x1024 .bf16) (k : Keys F) (v : Vec F S144x8192 .bf16) (g : FVec F S1x2048 .f32) (ko : KOff) (vo : VOff)
    (al : Option (FVec F S1x2048 .f32)) (w : Sw F) : Sw F :=
  ⟨Carry.next g w.c (maxOf k (augOf q g) ko), scoresOf k (augOf q g) ko, accOf v vo al w.cur w.acc⟩

/-- Steps that keep the reference. -/
def Sw.plain (q : Vec F S128x1024 .bf16) (k : Keys F) (v : Vec F S144x8192 .bf16) (ko : Fin 8 → KOff) (vo : Fin 8 → VOff) :
    List (Fin 8) → Sw F → Sw F
  | [], w => w
  | u :: us, w => Sw.plain q k v ko vo us (Sw.step q k v w.c.1 (ko u) (vo u) none w)

/-- A group of steps. -/
def Sw.group (q : Vec F S128x1024 .bf16) (k : Keys F) (v : Vec F S144x8192 .bf16) (ko : Fin 8 → KOff) (vo : Fin 8 → VOff)
    (us : List (Fin 8)) (w : Sw F) : Sw F :=
  Sw.plain q k v ko vo us
    (Sw.step q k v (rnd w.c.2.2.1) (ko 1) (vo 1) (some (exp2 (subf w.c.1 (rnd w.c.2.2.1))))
      (Sw.step q k v (rnd w.c.2.2.1) (ko 0) (vo 0) none w))

/-- The emptied accumulator. -/
def acc0 : Vec F S144x2048 .f32 :=
  (shapeCast S144x2048 (broadcast S144x2048 (Scalar.ofBits .f32 0x00000000#32)) shapeCasts_S144x2048_S144x2048 : FVec F S144x2048 .f32)

/-- A sweep's start from a top: the first chunk's scores are in, nothing is accumulated. -/
def Sw.start (q : Vec F S128x1024 .bf16) (k : Keys F) (top over : FVec F S1x2048 .f32) : Sw F :=
  ⟨(rnd top, maxOf k (augOf q (rnd top)) (kAt 0), top, over), scoresOf k (augOf q (rnd top)) (kAt 0), acc0⟩

/-- The first sweep's loop. -/
def Sw.loop1 (q : Vec F S128x1024 .bf16) (k : Keys F) (v : Vec F S144x8192 .bf16) (w : Sw F) : Sw F :=
  (List.finRange k0_t1_loop.trips).foldl (fun w i => Sw.group q k v (fun u => ⟨k0_off1 i (BitVec.ofNat 32 u.val), k0_off1_inb i u⟩)
    (fun u => ⟨k0_off2 i (BitVec.ofNat 32 u.val), k0_off2_inb i u⟩) [2, 3, 4, 5, 6, 7] w) w

/-- The second sweep does not watch how far scores rise: the top stands in that place. -/
def Sw.reset (w : Sw F) : Sw F := ⟨(w.c.1, w.c.2.1, w.c.2.2.1, w.c.2.2.1), w.cur, w.acc⟩

/-- The second sweep's loop. -/
def Sw.loop2 (q : Vec F S128x1024 .bf16) (k : Keys F) (v : Vec F S144x8192 .bf16) (w : Sw F) : Sw F :=
  (List.finRange k0_t2_loop.trips).foldl (fun w i => Sw.group q k v (fun u => ⟨k0_off3 i (BitVec.ofNat 32 u.val), k0_off3_inb i u⟩)
    (fun u => ⟨k0_off4 i (BitVec.ofNat 32 u.val), k0_off4_inb i u⟩) [2, 3, 4, 5, 6, 7] (Sw.reset w)) w

/-- The last group, and the last chunk accumulated. -/
def Sw.tail (q : Vec F S128x1024 .bf16) (k : Keys F) (v : Vec F S144x8192 .bf16) (w : Sw F) : Sw F :=
  let w' := Sw.group q k v (fun u => kAt ⟨(25 + u.val) % 32, Nat.mod_lt _ (by decide)⟩) (fun u => vAt ⟨(24 + u.val) % 32, Nat.mod_lt _ (by decide)⟩)
    [2, 3, 4, 5, 6] w
  ⟨w'.c, w'.cur, accOf v (vAt 31) none w'.cur w'.acc⟩

/-- The output block. -/
def outOf (q : Vec F S128x1024 .bf16) (k : Keys F) (v : Vec F S144x8192 .bf16) (l : Vec F S4x64 .f32) : Vec F S1024x128 .bf16 :=
  let t0 := topOf k (augOf q (broadcast S1x2048 (Scalar.ofBits .f32 0x00000000#32)))
  let w := Sw.tail q k v (Sw.loop1 q k v (Sw.start q k t0 (broadcast S1x2048 (Scalar.ofBits .f32 0x00000000#32))))
  if tooHigh (maximumf w.c.2.2.2 w.c.2.1) = 1#1 then
    let t1 := maximumf w.c.2.2.1 (addf w.c.1 w.c.2.1)
    finish (Sw.tail q k v (Sw.reset (Sw.loop2 q k v (Sw.start q k t1 t1)))).acc l
  else finish w.acc l

end Cert.DiffIdeal.Diff
-- ==== Proof.DiffRuns.lean ====
/-
  The differential attention body's run: what its ten buffers hold, and what a load and a store do
  to them.
-/
module

public import proofs.«01_k».proof.Proof.DiffPure
public import Idealize.ShloMosaic.Lib.Pipeline.Frame
public import Idealize.ShloMosaic.Lib.Tactic

@[expose] public section

set_option maxRecDepth 16384

noncomputable section

namespace Cert.DiffIdeal.Diff

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.DiffIdeal Facts₀ Facts

variable {F : FTy → Type} [FloatOps F]
variable [Facts]

local notation "𝕄" => MT nD τ sig Unit (Elt F) ℕ (UR sig nD τ) ℕ

/-- The contents of the ten buffers. -/
structure St (F : FTy → Type) [FloatOps F] where
  q : Vec F S128x1024 .bf16
  k0 : Vec F S8192x128 .bf16
  k1 : Vec F S8192x128 .bf16
  v : Vec F S144x8192 .bf16
  lam : Vec F S4x64 .f32
  o : Vec F S1024x128 .bf16
  aug : Vec F S128x2048 .bf16
  s0 : Vec F S256x2048 .bf16
  s1 : Vec F S256x2048 .bf16
  acc : Vec F S144x2048 .f32

/-- A score buffer's contents, -/
def St.s (σ : St F) : Bool → Vec F S256x2048 .bf16
  | false => σ.s0
  | true => σ.s1

/-- and the contents with one score buffer's replaced. -/
def St.setS (σ : St F) (b : Bool) (X : Vec F S256x2048 .bf16) : St F :=
  match b with
  | false => { σ with s0 := X }
  | true => { σ with s1 := X }

/-- A key block's contents, -/
def St.kb (σ : St F) : Bool → Vec F S8192x128 .bf16
  | false => σ.k0
  | true => σ.k1

/-- the contents with one key block's replaced, -/
def St.setK (σ : St F) (b : Bool) (X : Vec F S8192x128 .bf16) : St F :=
  match b with
  | false => { σ with k0 := X }
  | true => { σ with k1 := X }

/-- and the key blocks as each lane tile sees them. -/
def St.k (σ : St F) : Keys F := fun t => σ.kb (Nat.ble 4 t.val)

variable (B : Bufs) (c : Dev nD)

/-- The ten buffers held at `σ`. -/
def Own (σ : St F) : sProp 𝕄 :=
  iprop(owns (c : Thread nD τ) B.q fullShare σ.q
    ∗ owns (c : Thread nD τ) B.k0 fullShare σ.k0
    ∗ owns (c : Thread nD τ) B.k1 fullShare σ.k1
    ∗ owns (c : Thread nD τ) B.v fullShare σ.v
    ∗ owns (c : Thread nD τ) B.lam fullShare σ.lam
    ∗ owns (c : Thread nD τ) B.o fullShare σ.o
    ∗ owns (c : Thread nD τ) B.aug fullShare σ.aug
    ∗ owns (c : Thread nD τ) B.s0 fullShare σ.s0
    ∗ owns (c : Thread nD τ) B.s1 fullShare σ.s1
    ∗ owns (c : Thread nD τ) B.acc fullShare σ.acc)

/-- From contents with `P`, the program runs to a result and contents with `Q`. -/
def Hoare {α : Type} (P : St F → Prop) (p : Body F α) (Q : α → St F → Prop) : Prop :=
  ∀ σ, P σ → (Own B c σ : sProp 𝕄) ⊢ wp frame (wpE (defs₀ (F := F)) Variants.none c none) Set.univ p (fun a => iprop(∃ σ', ⌜Q a σ'⌝ ∗ Own B c σ'))

variable {B c}

theorem Hoare.bind {α β : Type} {P : St F → Prop} {p : Body F α} {R : α → St F → Prop} {k : α → Body F β} {Q : β → St F → Prop}
    (hp : Hoare B c P p R) (hk : ∀ a, Hoare B c (R a) (k a) Q) : Hoare B c P (p >>= k) Q := by
  intro σ hσ
  rw [wp_bind]
  refine (hp σ hσ).trans (wp_mono _ _ _ fun a => ?_)
  iintro ⟨%σ', %h, H⟩
  iapply (hk a σ' h)
  iexact H

theorem Hoare.ret {α : Type} {P : St F → Prop} {Q : α → St F → Prop} {a : α} (h : ∀ σ, P σ → Q a σ) : Hoare B c P (pure a) Q := by
  intro σ hσ
  rw [wp_pure]
  refine BIBase.Entails.trans ?_ fupd_intro
  iintro H
  iexists σ
  isplitr
  · ipureintro; exact h σ hσ
  iexact H

theorem Hoare.conseq {α : Type} {P P' : St F → Prop} {p : Body F α} {Q Q' : α → St F → Prop} (h : Hoare B c P p Q)
    (hP : ∀ σ, P' σ → P σ) (hQ : ∀ a σ, Q a σ → Q' a σ) : Hoare B c P' p Q' := by
  intro σ hσ
  refine (h σ (hP σ hσ)).trans (wp_mono _ _ _ fun a => ?_)
  iintro ⟨%σ', %h, H⟩
  iexists σ'
  isplitr
  · ipureintro; exact hQ _ _ h
  iexact H

/-! ## One buffer out of the ten -/

/-- The buffer `m` can be taken out of the ten at `get σ`, and put back at anything. -/
def Takes (B : Bufs) (c : Dev nD) {S : Shape} {e : EltTy} (m : Memref sig .tc .vmem S e) (get : St F → Vec F S e) (put : St F → Vec F S e → St F) : Prop :=
  ∀ σ, (Own B c σ : sProp 𝕄) ⊢ iprop(owns (c : Thread nD τ) m fullShare (get σ) ∗ (∀ Y, owns (c : Thread nD τ) m fullShare Y -∗ Own B c (put σ Y)))

theorem takes_q : Takes (F := F) B c B.q St.q (fun σ Y => { σ with q := Y }) := by
  intro σ; unfold Own
  iintro ⟨H0, H1, H2, H3, H4, H5, H6, H7, H8, H9⟩
  isplitl [H0]; · iexact H0
  iintro %Y H
  isplitl [H]; · iexact H
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem takes_k0 : Takes (F := F) B c B.k0 St.k0 (fun σ Y => { σ with k0 := Y }) := by
  intro σ; unfold Own
  iintro ⟨H0, H1, H2, H3, H4, H5, H6, H7, H8, H9⟩
  isplitl [H1]; · iexact H1
  iintro %Y H
  isplitl [H0]; · iexact H0
  isplitl [H]; · iexact H
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem takes_k1 : Takes (F := F) B c B.k1 St.k1 (fun σ Y => { σ with k1 := Y }) := by
  intro σ; unfold Own
  iintro ⟨H0, H1, H2, H3, H4, H5, H6, H7, H8, H9⟩
  isplitl [H2]; · iexact H2
  iintro %Y H
  isplitl [H0]; · iexact H0
  isplitl [H1]; · iexact H1
  isplitl [H]; · iexact H
  isplitl [H3]; · iexact H3
  isplitl [H4]; · iexact H4
  isplitl [H5]; · iexact H5
  isplitl [H6]; · iexact H6
  isplitl [H7]; · iexact H7
  isplitl [H8]; · iexact H8
  iexact H9

theorem takes_v : Takes (F := F) B c B.v St.v (fun σ Y => { σ with v := Y }) := by
  intro σ; unfold Own
  iintro ⟨H0, H1, H2, H3, H4, H5, H6, H7, H8, H9⟩
  isplitl [H3]; · iexact H3
  iintro %Y H
  isplitl [H0]; · iexact H0
  isplitl [H1]; · iexact H1
  isplitl [H2]; · iexact H2
  isplitl [H]; · iexact H
  isplitl [H4]; · iexact H4
  isplitl [H5]; · iexact H5
  isplitl [H6]; · iexact H6
  isplitl [H7]; · iexact H7
  isplitl [H8]; · iexact H8
  iexact H9

theorem takes_lam : Takes (F := F) B c B.lam St.lam (fun σ Y => { σ with lam := Y }) := by
  intro σ; unfold Own
  iintro ⟨H0, H1, H2, H3, H4, H5, H6, H7, H8, H9⟩
  isplitl [H4]; · iexact H4
  iintro %Y H
  isplitl [H0]; · iexact H0
  isplitl [H1]; · iexact H1
  isplitl [H2]; · iexact H2
  isplitl [H3]; · iexact H3
  isplitl [H]; · iexact H
  isplitl [H5]; · iexact H5
  isplitl [H6]; · iexact H6
  isplitl [H7]; · iexact H7
  isplitl [H8]; · iexact H8
  iexact H9

theorem takes_o : Takes (F := F) B c B.o St.o (fun σ Y => { σ with o := Y }) := by
  intro σ; unfold Own
  iintro ⟨H0, H1, H2, H3, H4, H5, H6, H7, H8, H9⟩
  isplitl [H5]; · iexact H5
  iintro %Y H
  isplitl [H0]; · iexact H0
  isplitl [H1]; · iexact H1
  isplitl [H2]; · iexact H2
  isplitl [H3]; · iexact H3
  isplitl [H4]; · iexact H4
  isplitl [H]; · iexact H
  isplitl [H6]; · iexact H6
  isplitl [H7]; · iexact H7
  isplitl [H8]; · iexact H8
  iexact H9

theorem takes_aug : Takes (F := F) B c B.aug St.aug (fun σ Y => { σ with aug := Y }) := by
  intro σ; unfold Own
  iintro ⟨H0, H1, H2, H3, H4, H5, H6, H7, H8, H9⟩
  isplitl [H6]; · iexact H6
  iintro %Y H
  isplitl [H0]; · iexact H0
  isplitl [H1]; · iexact H1
  isplitl [H2]; · iexact H2
  isplitl [H3]; · iexact H3
  isplitl [H4]; · iexact H4
  isplitl [H5]; · iexact H5
  isplitl [H]; · iexact H
  isplitl [H7]; · iexact H7
  isplitl [H8]; · iexact H8
  iexact H9

theorem takes_s0 : Takes (F := F) B c B.s0 St.s0 (fun σ Y => { σ with s0 := Y }) := by
  intro σ; unfold Own
  iintro ⟨H0, H1, H2, H3, H4, H5, H6, H7, H8, H9⟩
  isplitl [H7]; · iexact H7
  iintro %Y H
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H]; · iexact H
  isplitl [H8]; · iexact H8
  iexact H9

theorem takes_s1 : Takes (F := F) B c B.s1 St.s1 (fun σ Y => { σ with s1 := Y }) := by
  intro σ; unfold Own
  iintro ⟨H0, H1, H2, H3, H4, H5, H6, H7, H8, H9⟩
  isplitl [H8]; · iexact H8
  iintro %Y H
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H]; · iexact H
  iexact H9

theorem takes_acc : Takes (F := F) B c B.acc St.acc (fun σ Y => { σ with acc := Y }) := by
  intro σ; unfold Own
  iintro ⟨H0, H1, H2, H3, H4, H5, H6, H7, H8, H9⟩
  isplitl [H9]; · iexact H9
  iintro %Y H
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H

theorem takes_kb : ∀ b, Takes (F := F) B c (B.kb b) (fun σ => σ.kb b) (fun σ Y => σ.setK b Y)
  | false => takes_k0
  | true => takes_k1

theorem takes_k (t : Fin 8) : Takes (F := F) B c (B.k t) (fun σ => σ.k t) (fun σ Y => σ.setK (Nat.ble 4 t.val) Y) :=
  takes_kb (Nat.ble 4 t.val)

theorem setK_kb (σ : St F) (b : Bool) : σ.setK b (σ.kb b) = σ := by cases b <;> rfl

theorem takes_s : ∀ b, Takes (F := F) B c (B.s b) (fun σ => σ.s b) (fun σ Y => σ.setS b Y)
  | false => takes_s0
  | true => takes_s1

/-- A load reads the part under its rectangle. -/
theorem Hoare.load {S : Shape} {e : EltTy} {m : Memref sig .tc .vmem S e} {get : St F → Vec F S e} {put : St F → Vec F S e → St F}
    (ht : Takes B c m get put) (hput : ∀ σ, put σ (get σ) = σ) {r : Rect S} {hl : m.view.LoadsAt r.toLoadRect} {P : St F → Prop} :
    Hoare B c P (Prog.lift (.load m r.toLoadRect hl)) (fun x σ => P σ ∧ x = part (get σ) r) := by
  intro σ hσ
  refine (ht σ).trans ?_
  unfold owns
  iintro ⟨⟨%f, %hf, Hm⟩, Hk⟩
  iapply (wp_load (defs := defs₀ (F := F)) Variants.none (c : Thread nD τ) none Set.univ (m := m) (r := r.toLoadRect) (hl := hl) (S := m.view.set) (f := f)
    (m.view.setOn_subset_set _)) $$ Hm
  iintro Hm
  rw [wp_ret]
  iapply fupd_intro
  iexists σ
  isplitr
  · ipureintro
    refine ⟨hσ, ?_⟩
    rw [← hf]
    rfl
  ispecialize Hk $$ %(get σ)
  rw [hput σ]
  iapply Hk
  iexists f
  isplitr
  · ipureintro; exact hf
  iexact Hm

/-- A store replaces the part under its rectangle. -/
theorem Hoare.store {S : Shape} {e : EltTy} {m : Memref sig .tc .vmem S e} {get : St F → Vec F S e} {put : St F → Vec F S e → St F}
    (ht : Takes B c m get put) {r : Rect S} {w : r.shape.Idx → Elt F e} {hx : (m.access r).Stores Finset.univ} {hm} {P : St F → Prop} :
    Hoare B c P (Prog.lift (.store m r w Finset.univ hx hm)) (fun _ σ' => ∃ σ, P σ ∧ σ' = put σ (upd (get σ) r w)) := by
  intro σ hσ
  refine (ht σ).trans ?_
  unfold owns
  iintro ⟨⟨%f, %hf, Hm⟩, Hk⟩
  iapply (wp_store_writes₀ Variants.none (c : Thread nD τ) none Set.univ (m := m) (r := r) (w := w) (hx := hx) (hm := hm) (S := m.view.set) (f := f)
    (m.view.set_slice_subset r)) $$ Hm
  iintro Hm
  rw [wp_ret]
  iapply fupd_intro
  iexists (put σ (upd (get σ) r w))
  isplitr
  · ipureintro
    exact ⟨σ, hσ, rfl⟩
  iapply Hk
  iexists _
  isplitr; swap
  · iexact Hm
  ipureintro
  funext y
  by_cases hy : ∃ x, r.emb x = y
  · obtain ⟨x, rfl⟩ := hy
    rw [upd_emb]
    exact View.read_writes_cons_emb m.view f r w [] x
  · rw [upd_of_not _ _ _ _ (fun x hx => hy ⟨x, hx⟩), ← hf]
    refine View.read_slice_write_of_not_mem r f w Finset.univ ?_
    intro h
    obtain ⟨x, -, hx⟩ := Finset.mem_map.mp h
    exact hy ⟨x, hx⟩

end Cert.DiffIdeal.Diff
-- ==== Proof.DiffShape.lean ====
/-
  The printed body of the differential attention kernel is the structured one (`body_eq`): the printed text is cut into parts of sixty
  statements, so the parts that hold a loop or a condition are restated around it, then the pieces between the loops compared.
-/
module

public import proofs.«01_k».proof.Proof.DiffStruct
public import Idealize.ShloMosaic.Lib.Pipeline.Regions

@[expose] public section

set_option maxRecDepth 16384

noncomputable section

namespace Cert.DiffIdeal.Diff

open Idealize.ShloMosaic Idealize.SL.Sem
open Cert.DiffIdeal Facts₀ Facts

variable {F : FTy → Type} [FloatOps F]
variable [Facts]

/-- The part of the body that fills in the queries. -/
theorem shape149 (i : grid0.Coords) (B : Bufs)  :
    k0_part149 i B.q B.hq B.k0 B.hk0 B.k1 B.hk1 B.v B.hv B.lam B.hlam B.o B.ho B.aug B.haug B.s0 B.hs0 B.s1 B.hs1 B.acc B.hacc  = (do
      let v0 : Vec F S64x1024 .bf16 ← Prog.lift (.load B.q (Rect.unit (s := S128x1024) ![0, 0] S64x1024.size inb_S128x1024_S64x1024_0_0).toLoadRect (View.loadsAt_vmem h_S64x1024))
      have v1 : FVec F S64x1024 .bf16 := shapeCast S64x1024 v0 shapeCasts_S64x1024_S64x1024
      let v2 : Vec F S64x1024 .bf16 ← Prog.lift (.load B.aug (Rect.unit (s := S128x2048) ![0, 0] S64x1024.size inb_S128x2048_S64x1024_0_0).toLoadRect (View.loadsAt_vmem h_S64x1024))
      have v4 : FVec F S64x1024 .bf16 := shapeCast S64x1024 v1 shapeCasts_S64x1024_S64x1024
      Prog.lift (.store B.aug (Rect.unit (s := S128x2048) ![0, 0] S64x1024.size inb_S128x2048_S64x1024_0_0) v4 Finset.univ (View.stores_vmem h_S64x1024 (B.haug.storeExact_slice rfl _ packedbf16_S128x2048_S64x1024_0_0) (fun _ => rfl)) (.inl rfl))
      let v5 : Vec F S64x1024 .bf16 ← Prog.lift (.load B.q (Rect.unit (s := S128x1024) ![64, 0] S64x1024.size inb_S128x1024_S64x1024_64_0).toLoadRect (View.loadsAt_vmem h_S64x1024))
      have v6 : FVec F S64x1024 .bf16 := shapeCast S64x1024 v5 shapeCasts_S64x1024_S64x1024
      let v7 : Vec F S64x1024 .bf16 ← Prog.lift (.load B.aug (Rect.unit (s := S128x2048) ![0, 1024] S64x1024.size inb_S128x2048_S64x1024_0_1024).toLoadRect (View.loadsAt_vmem h_S64x1024))
      have v9 : FVec F S64x1024 .bf16 := shapeCast S64x1024 v6 shapeCasts_S64x1024_S64x1024
      Prog.lift (.store B.aug (Rect.unit (s := S128x2048) ![0, 1024] S64x1024.size inb_S128x2048_S64x1024_0_1024) v9 Finset.univ (View.stores_vmem h_S64x1024 (B.haug.storeExact_slice rfl _ packedbf16_S128x2048_S64x1024_0_1024) (fun _ => rfl)) (.inl rfl))
      have cst : F .bf16 := Scalar.ofBits .bf16 0x0000#16
      have v10 : FVec F S48x2048 .bf16 := broadcast S48x2048 cst
      let v11 : Vec F S48x2048 .bf16 ← Prog.lift (.load B.aug (Rect.unit (s := S128x2048) ![80, 0] S48x2048.size inb_S128x2048_S48x2048_80_0).toLoadRect (View.loadsAt_vmem h_S48x2048))
      have v13 : FVec F S48x2048 .bf16 := shapeCast S48x2048 v10 shapeCasts_S48x2048_S48x2048
      Prog.lift (.store B.aug (Rect.unit (s := S128x2048) ![80, 0] S48x2048.size inb_S128x2048_S48x2048_80_0) v13 Finset.univ (View.stores_vmem h_S48x2048 (B.haug.storeExact_slice rfl _ packedbf16_S128x2048_S48x2048_80_0) (fun _ => rfl)) (.inl rfl))
      have v14 : IVec S16x2048 32 := iota .tc S16x2048 32 [0] iota_S16x2048_d0_w32
      let c0_i32 : BitVec 32 := 0#32
      have v15 : IVec S16x2048 32 := broadcast S16x2048 c0_i32
      have v16 : IVec S16x2048 1 := cmpi .eq v14 v15
      have cst_6 : F .f32 := Scalar.ofBits .f32 0x00000000#32
      have v17 : FVec F S1x2048 .f32 := broadcast S1x2048 cst_6
      have cst_7 : F .f32 := Scalar.ofBits .f32 0x00000000#32
      have v18 : FVec F S1x2048 .f32 := broadcast S1x2048 cst_7
      have v19 : FVec F S1x2048 .f32 := subf v18 v17
      have cst_8 : F .f32 := Scalar.ofBits .f32 0x00000000#32
      have v20 : FVec F S1x2048 .f32 := shapeCast S1x2048 v19 shapeCasts_S1x2048_S1x2048
      have v21 : FVec F S16x2048 .f32 := broadcastTo S16x2048 v20 broadcasts_S1x2048_S16x2048
      have v22 : FVec F S16x2048 .f32 := broadcast S16x2048 cst_8
      have v23 : FVec F S16x2048 .f32 := select v16 v21 v22
      have v24 : FVec F S16x2048 .bf16 := truncf .bf16 v23 bitsLt_bf16_f32
      let v25 : Vec F S16x2048 .bf16 ← Prog.lift (.load B.aug (Rect.unit (s := S128x2048) ![64, 0] S16x2048.size inb_S128x2048_S16x2048_64_0).toLoadRect (View.loadsAt_vmem h_S16x2048))
      have v27 : FVec F S16x2048 .bf16 := shapeCast S16x2048 v24 shapeCasts_S16x2048_S16x2048
      Prog.lift (.store B.aug (Rect.unit (s := S128x2048) ![64, 0] S16x2048.size inb_S128x2048_S16x2048_64_0) v27 Finset.univ (View.stores_vmem h_S16x2048 (B.haug.storeExact_slice rfl _ packedbf16_S128x2048_S16x2048_64_0) (fun _ => rfl)) (.inl rfl))
      let v28 : Vec F S128x128 .bf16 ← Prog.lift (.load B.k0 (Rect.unit (s := S8192x128) ![0, 0] S128x128.size inb_S8192x128_S128x128_0_0).toLoadRect (View.loadsAt_vmem h_S128x128))
      have v29 : FVec F S128x128 .bf16 := shapeCast S128x128 v28 shapeCasts_S128x128_S128x128
      let v30 : Vec F S128x256 .bf16 ← Prog.lift (.load B.aug (Rect.unit (s := S128x2048) ![0, 0] S128x256.size inb_S128x2048_S128x256_0_0).toLoadRect (View.loadsAt_vmem h_S128x256))
      have cst_15 : FVec F S128x256 .f32 := constant S128x256 .f32 0x00000000#32
      pure ⟨v16, v29, v30, cst_15⟩ : Prog (TpuEff nD τ sig (Elt F) Λ₀ .tc) (Σ' (v16 : IVec S16x2048 1) (v29 : FVec F S128x128 .bf16) (v30 : Vec F S128x256 .bf16), FVec F S128x256 .f32)) := by
  chain_rfl

/-- The part of the body with the first loop. -/
theorem shape155 (i : grid0.Coords) (B : Bufs) (v16 : IVec S16x2048 1) (hm : v16 = (cmpi .eq (iota .tc S16x2048 32 [0] iota_S16x2048_d0_w32) (broadcast S16x2048 0#32))) (v92 : FVec F S1x2048 .f32) (v98 : FVec F S1x2048 .f32) (v121 : FVec F S1x256 .f32) (v134 : FVec F S1x256 .f32) (v147 : FVec F S1x256 .f32) (v160 : FVec F S1x256 .f32) (v173 : FVec F S1x256 .f32) (v186 : FVec F S1x256 .f32) (v199 : FVec F S1x256 .f32) (v206 : FVec F S256x256 .bf16) :
    k0_part155 i B.q B.hq B.k0 B.hk0 B.k1 B.hk1 B.v B.hv B.lam B.hlam B.o B.ho B.aug B.haug B.s0 B.hs0 B.s1 B.hs1 B.acc B.hacc v16 v92 v98 v121 v134 v147 v160 v173 v186 v199 v206 = (do
      have v209 : FVec F S256x256 .bf16 := shapeCast S256x256 v206 shapeCasts_S256x256_S256x256
      Prog.lift (.store B.s0 (Rect.unit (s := S256x2048) ![0, 1792] S256x256.size inb_S256x2048_S256x256_0_1792) v209 Finset.univ (View.stores_vmem h_S256x256 (B.hs0.storeExact_slice rfl _ packedbf16_S256x2048_S256x256_0_1792) (fun _ => rfl)) (.inl rfl))
      have v210 : FVec F S256 .bf16 := multiReduction .maximumf [0] S256 v206 0xFF80#16 reduces_S256x256_S256 (.inr rfl) rfl
      have v211 : FVec F S1x256 .bf16 := shapeCast S1x256 v210 shapeCasts_S256_S1x256
      have v212 : FVec F S1x256 .f32 := extf .f32 v211 bitsLt_bf16_f32
      have v213 : FVec F S1x2048 .f32 := concatenate S1x2048 1 [⟨S1x256, v121⟩, ⟨S1x256, v134⟩, ⟨S1x256, v147⟩, ⟨S1x256, v160⟩, ⟨S1x256, v173⟩, ⟨S1x256, v186⟩, ⟨S1x256, v199⟩, ⟨S1x256, v212⟩] concatenates_S1x256_S1x256_S1x256_S1x256_S1x256_S1x256_S1x256_S1x256_S1x2048_d1
      have cst_124 : F .f32 := Scalar.ofBits .f32 0x00000000#32
      have v214 : FVec F S1x2048 .f32 := broadcast S1x2048 cst_124
      let r ← loop1 B (v98, v213, v92, v214)
      have v217 : FVec F S1x2048 .bf16 := truncf .bf16 r.2.2.1 bitsLt_bf16_f32
      have v218 : FVec F S1x2048 .f32 := extf .f32 v217 bitsLt_bf16_f32
      have cst_127 : F .f32 := Scalar.ofBits .f32 0x00000000#32
      have v219 : FVec F S1x2048 .f32 := broadcast S1x2048 cst_127
      have v220 : FVec F S1x2048 .f32 := subf v219 v218
      have cst_128 : F .f32 := Scalar.ofBits .f32 0x00000000#32
      have v221 : FVec F S1x2048 .f32 := shapeCast S1x2048 v220 shapeCasts_S1x2048_S1x2048
      have v222 : FVec F S16x2048 .f32 := broadcastTo S16x2048 v221 broadcasts_S1x2048_S16x2048
      have v223 : FVec F S16x2048 .f32 := broadcast S16x2048 cst_128
      have v224 : FVec F S16x2048 .f32 := select (cmpi .eq (iota .tc S16x2048 32 [0] iota_S16x2048_d0_w32) (broadcast S16x2048 0#32)) v222 v223
      have v225 : FVec F S16x2048 .bf16 := truncf .bf16 v224 bitsLt_bf16_f32
      let v226 : Vec F S16x2048 .bf16 ← Prog.lift (.load B.aug (Rect.unit (s := S128x2048) ![64, 0] S16x2048.size inb_S128x2048_S16x2048_64_0).toLoadRect (View.loadsAt_vmem h_S16x2048))
      have v228 : FVec F S16x2048 .bf16 := shapeCast S16x2048 v225 shapeCasts_S16x2048_S16x2048
      Prog.lift (.store B.aug (Rect.unit (s := S128x2048) ![64, 0] S16x2048.size inb_S128x2048_S16x2048_64_0) v228 Finset.univ (View.stores_vmem h_S16x2048 (B.haug.storeExact_slice rfl _ packedbf16_S128x2048_S16x2048_64_0) (fun _ => rfl)) (.inl rfl))
      let v231 : Vec F S256x128 .bf16 ← Prog.lift (.load B.k0 (Rect.unit (s := S8192x128) ![6400, 0] S256x128.size inb_S8192x128_S256x128_6400_0).toLoadRect (View.loadsAt_vmem h_S256x128))
      have v232 : FVec F S256x128 .bf16 := shapeCast S256x128 v231 shapeCasts_S256x128_S256x128
      let v233 : Vec F S128x256 .bf16 ← Prog.lift (.load B.aug (Rect.unit (s := S128x2048) ![0, 0] S128x256.size inb_S128x2048_S128x256_0_0).toLoadRect (View.loadsAt_vmem h_S128x256))
      have cst_134 : FVec F S256x256 .f32 := constant S256x256 .f32 0x00000000#32
      have v234 : FVec F S256x256 .f32 := matmul dot_S256x128_S128x256_S256x256_1_0_0_1_n_n none v232 v233 cst_134
      have v235 : FVec F S256x256 .bf16 := truncf .bf16 v234 bitsLt_bf16_f32
      let v236 : Vec F S256x256 .bf16 ← Prog.lift (.load B.s1 (Rect.unit (s := S256x2048) ![0, 0] S256x256.size inb_S256x2048_S256x256_0_0).toLoadRect (View.loadsAt_vmem h_S256x256))
      have v238 : FVec F S256x256 .bf16 := shapeCast S256x256 v235 shapeCasts_S256x256_S256x256
      Prog.lift (.store B.s1 (Rect.unit (s := S256x2048) ![0, 0] S256x256.size inb_S256x2048_S256x256_0_0) v238 Finset.univ (View.stores_vmem h_S256x256 (B.hs1.storeExact_slice rfl _ packedbf16_S256x2048_S256x256_0_0) (fun _ => rfl)) (.inl rfl))
      have v239 : FVec F S256 .bf16 := multiReduction .maximumf [0] S256 v235 0xFF80#16 reduces_S256x256_S256 (.inr rfl) rfl
      have v240 : FVec F S1x256 .bf16 := shapeCast S1x256 v239 shapeCasts_S256_S1x256
      have v241 : FVec F S1x256 .f32 := extf .f32 v240 bitsLt_bf16_f32
      let c6144_i32 : BitVec 32 := 6144#32
      let v242 : BitVec 32 := c6144_i32
      let v243 : Vec F S256x256 .bf16 ← Prog.lift (.load B.s0 (Rect.unit (s := S256x2048) ![0, 0] S256x256.size inb_S256x2048_S256x256_0_0).toLoadRect (View.loadsAt_vmem h_S256x256))
      have v244 : FVec F S256x256 .bf16 := exp2 v243
      pure ⟨r.1, r.2.1, r.2.2.1, r.2.2.2, v218, v241, v242, v244⟩ : Prog (TpuEff nD τ sig (Elt F) Λ₀ .tc) (Σ' (v216_0 : FVec F S1x2048 .f32) (v216_1 : FVec F S1x2048 .f32) (v216_2 : FVec F S1x2048 .f32) (v216_3 : FVec F S1x2048 .f32) (v218 : FVec F S1x2048 .f32) (v241 : FVec F S1x256 .f32) (v242 : BitVec 32), FVec F S256x256 .bf16)) := by
  subst hm; chain_rfl

/-- The part of the second sweep with its loop. -/
theorem shape107 (i : grid0.Coords) (B : Bufs) (v16 : IVec S16x2048 1) (hm : v16 = (cmpi .eq (iota .tc S16x2048 32 [0] iota_S16x2048_d0_w32) (broadcast S16x2048 0#32))) (v1780 : FVec F S1x2048 .f32) (v1835 : FVec F S1x2048 .f32) (v1858 : FVec F S1x256 .f32) (v1871 : FVec F S1x256 .f32) (v1884 : FVec F S1x256 .f32) (v1897 : FVec F S1x256 .f32) (v1910 : FVec F S1x256 .f32) (v1923 : FVec F S1x256 .f32) (v1936 : FVec F S1x256 .f32) (c0_i32_1226 : BitVec 32) :
    k0_part107 i B.q B.hq B.k0 B.hk0 B.k1 B.hk1 B.v B.hv B.lam B.hlam B.o B.ho B.aug B.haug B.s0 B.hs0 B.s1 B.hs1 B.acc B.hacc v16 v1780 v1835 v1858 v1871 v1884 v1897 v1910 v1923 v1936 c0_i32_1226 = (do
      let v1939 : Vec F S256x128 .bf16 ← Prog.lift (.load B.k1 (Rect.unit (s := S8192x128) ![0, 0] S256x128.size inb_S8192x128_S256x128_0_0).toLoadRect (View.loadsAt_vmem h_S256x128))
      have v1940 : FVec F S256x128 .bf16 := shapeCast S256x128 v1939 shapeCasts_S256x128_S256x128
      let v1941 : Vec F S128x256 .bf16 ← Prog.lift (.load B.aug (Rect.unit (s := S128x2048) ![0, 1792] S128x256.size inb_S128x2048_S128x256_0_1792).toLoadRect (View.loadsAt_vmem h_S128x256))
      have cst_1230 : FVec F S256x256 .f32 := constant S256x256 .f32 0x00000000#32
      have v1942 : FVec F S256x256 .f32 := matmul dot_S256x128_S128x256_S256x256_1_0_0_1_n_n none v1940 v1941 cst_1230
      have v1943 : FVec F S256x256 .bf16 := truncf .bf16 v1942 bitsLt_bf16_f32
      let v1944 : Vec F S256x256 .bf16 ← Prog.lift (.load B.s0 (Rect.unit (s := S256x2048) ![0, 1792] S256x256.size inb_S256x2048_S256x256_0_1792).toLoadRect (View.loadsAt_vmem h_S256x256))
      have v1946 : FVec F S256x256 .bf16 := shapeCast S256x256 v1943 shapeCasts_S256x256_S256x256
      Prog.lift (.store B.s0 (Rect.unit (s := S256x2048) ![0, 1792] S256x256.size inb_S256x2048_S256x256_0_1792) v1946 Finset.univ (View.stores_vmem h_S256x256 (B.hs0.storeExact_slice rfl _ packedbf16_S256x2048_S256x256_0_1792) (fun _ => rfl)) (.inl rfl))
      have v1947 : FVec F S256 .bf16 := multiReduction .maximumf [0] S256 v1943 0xFF80#16 reduces_S256x256_S256 (.inr rfl) rfl
      have v1948 : FVec F S1x256 .bf16 := shapeCast S1x256 v1947 shapeCasts_S256_S1x256
      have v1949 : FVec F S1x256 .f32 := extf .f32 v1948 bitsLt_bf16_f32
      have v1950 : FVec F S1x2048 .f32 := concatenate S1x2048 1 [⟨S1x256, v1858⟩, ⟨S1x256, v1871⟩, ⟨S1x256, v1884⟩, ⟨S1x256, v1897⟩, ⟨S1x256, v1910⟩, ⟨S1x256, v1923⟩, ⟨S1x256, v1936⟩, ⟨S1x256, v1949⟩] concatenates_S1x256_S1x256_S1x256_S1x256_S1x256_S1x256_S1x256_S1x256_S1x2048_d1
      let r ← loop2 B (v1835, v1950, v1780)
      have v1953 : FVec F S1x2048 .bf16 := truncf .bf16 r.2.2 bitsLt_bf16_f32
      have v1954 : FVec F S1x2048 .f32 := extf .f32 v1953 bitsLt_bf16_f32
      have cst_1238 : F .f32 := Scalar.ofBits .f32 0x00000000#32
      have v1955 : FVec F S1x2048 .f32 := broadcast S1x2048 cst_1238
      have v1956 : FVec F S1x2048 .f32 := subf v1955 v1954
      have cst_1239 : F .f32 := Scalar.ofBits .f32 0x00000000#32
      have v1957 : FVec F S1x2048 .f32 := shapeCast S1x2048 v1956 shapeCasts_S1x2048_S1x2048
      have v1958 : FVec F S16x2048 .f32 := broadcastTo S16x2048 v1957 broadcasts_S1x2048_S16x2048
      have v1959 : FVec F S16x2048 .f32 := broadcast S16x2048 cst_1239
      have v1960 : FVec F S16x2048 .f32 := select (cmpi .eq (iota .tc S16x2048 32 [0] iota_S16x2048_d0_w32) (broadcast S16x2048 0#32)) v1958 v1959
      have v1961 : FVec F S16x2048 .bf16 := truncf .bf16 v1960 bitsLt_bf16_f32
      let v1962 : Vec F S16x2048 .bf16 ← Prog.lift (.load B.aug (Rect.unit (s := S128x2048) ![64, 0] S16x2048.size inb_S128x2048_S16x2048_64_0).toLoadRect (View.loadsAt_vmem h_S16x2048))
      have v1964 : FVec F S16x2048 .bf16 := shapeCast S16x2048 v1961 shapeCasts_S16x2048_S16x2048
      Prog.lift (.store B.aug (Rect.unit (s := S128x2048) ![64, 0] S16x2048.size inb_S128x2048_S16x2048_64_0) v1964 Finset.univ (View.stores_vmem h_S16x2048 (B.haug.storeExact_slice rfl _ packedbf16_S128x2048_S16x2048_64_0) (fun _ => rfl)) (.inl rfl))
      let v1967 : Vec F S256x128 .bf16 ← Prog.lift (.load B.k0 (Rect.unit (s := S8192x128) ![6400, 0] S256x128.size inb_S8192x128_S256x128_6400_0).toLoadRect (View.loadsAt_vmem h_S256x128))
      have v1968 : FVec F S256x128 .bf16 := shapeCast S256x128 v1967 shapeCasts_S256x128_S256x128
      let v1969 : Vec F S128x256 .bf16 ← Prog.lift (.load B.aug (Rect.unit (s := S128x2048) ![0, 0] S128x256.size inb_S128x2048_S128x256_0_0).toLoadRect (View.loadsAt_vmem h_S128x256))
      have cst_1246 : FVec F S256x256 .f32 := constant S256x256 .f32 0x00000000#32
      have v1970 : FVec F S256x256 .f32 := matmul dot_S256x128_S128x256_S256x256_1_0_0_1_n_n none v1968 v1969 cst_1246
      have v1971 : FVec F S256x256 .bf16 := truncf .bf16 v1970 bitsLt_bf16_f32
      let v1972 : Vec F S256x256 .bf16 ← Prog.lift (.load B.s1 (Rect.unit (s := S256x2048) ![0, 0] S256x256.size inb_S256x2048_S256x256_0_0).toLoadRect (View.loadsAt_vmem h_S256x256))
      pure ⟨r.1, v1954, v1971, v1972⟩ : Prog (TpuEff nD τ sig (Elt F) Λ₀ .tc) (Σ' (v1952_0 : FVec F S1x2048 .f32) (v1954 : FVec F S1x2048 .f32) (v1971 : FVec F S256x256 .bf16), Vec F S256x256 .bf16)) := by
  subst hm; chain_rfl

/-- The second sweep, part by part. -/
theorem shape148 (i : grid0.Coords) (B : Bufs) (v16 : IVec S16x2048 1) (hm : v16 = (cmpi .eq (iota .tc S16x2048 32 [0] iota_S16x2048_d0_w32) (broadcast S16x2048 0#32))) (v1780 : FVec F S1x2048 .f32) :
    k0_part148 i B.q B.hq B.k0 B.hk0 B.k1 B.hk1 B.v B.hv B.lam B.hlam B.o B.ho B.aug B.haug B.s0 B.hs0 B.s1 B.hs1 B.acc B.hacc v16 v1780 = (do
      let x104 ← k0_part104 i B.q B.hq B.k0 B.hk0 B.k1 B.hk1 B.v B.hv B.lam B.hlam B.o B.ho B.aug B.haug B.s0 B.hs0 B.s1 B.hs1 B.acc B.hacc (cmpi .eq (iota .tc S16x2048 32 [0] iota_S16x2048_d0_w32) (broadcast S16x2048 0#32)) v1780
      let x105 ← k0_part105 i B.q B.hq B.k0 B.hk0 B.k1 B.hk1 B.v B.hv B.lam B.hlam B.o B.ho B.aug B.haug B.s0 B.hs0 B.s1 B.hs1 B.acc B.hacc x104.2.2
      let x106 ← k0_part106 i B.q B.hq B.k0 B.hk0 B.k1 B.hk1 B.v B.hv B.lam B.hlam B.o B.ho B.aug B.haug B.s0 B.hs0 B.s1 B.hs1 B.acc B.hacc x105.2.2.2
      let x107 ← k0_part107 i B.q B.hq B.k0 B.hk0 B.k1 B.hk1 B.v B.hv B.lam B.hlam B.o B.ho B.aug B.haug B.s0 B.hs0 B.s1 B.hs1 B.acc B.hacc (cmpi .eq (iota .tc S16x2048 32 [0] iota_S16x2048_d0_w32) (broadcast S16x2048 0#32)) v1780 x104.1 x104.2.1 x105.1 x105.2.1 x105.2.2.1 x106.1 x106.2.1 x106.2.2.1 x106.2.2.2
      let v2005 : FVec F S144x256 .f32 ← k0_part108 i B.q B.hq B.k0 B.hk0 B.k1 B.hk1 B.v B.hv B.lam B.hlam B.o B.ho B.aug B.haug B.s0 B.hs0 B.s1 B.hs1 B.acc B.hacc x107.2.2.1 x107.2.2.2
      let x109 ← k0_part109 i B.q B.hq B.k0 B.hk0 B.k1 B.hk1 B.v B.hv B.lam B.hlam B.o B.ho B.aug B.haug B.s0 B.hs0 B.s1 B.hs1 B.acc B.hacc v2005
      let v2071 : FVec F S144x256 .f32 ← k0_part110 i B.q B.hq B.k0 B.hk0 B.k1 B.hk1 B.v B.hv B.lam B.hlam B.o B.ho B.aug B.haug B.s0 B.hs0 B.s1 B.hs1 B.acc B.hacc x109.1 x109.2
      let x111 ← k0_part111 i B.q B.hq B.k0 B.hk0 B.k1 B.hk1 B.v B.hv B.lam B.hlam B.o B.ho B.aug B.haug B.s0 B.hs0 B.s1 B.hs1 B.acc B.hacc v2071
      let v2137 : FVec F S144x256 .f32 ← k0_part112 i B.q B.hq B.k0 B.hk0 B.k1 B.hk1 B.v B.hv B.lam B.hlam B.o B.ho B.aug B.haug B.s0 B.hs0 B.s1 B.hs1 B.acc B.hacc x111.1 x111.2
      let x113 ← k0_part113 i B.q B.hq B.k0 B.hk0 B.k1 B.hk1 B.v B.hv B.lam B.hlam B.o B.ho B.aug B.haug B.s0 B.hs0 B.s1 B.hs1 B.acc B.hacc x107.1 x107.2.1 v2137
      let x114 ← k0_part114 i B.q B.hq B.k0 B.hk0 B.k1 B.hk1 B.v B.hv B.lam B.hlam B.o B.ho B.aug B.haug B.s0 B.hs0 B.s1 B.hs1 B.acc B.hacc x113.1 x113.2.1 x113.2.2.1 x113.2.2.2
      let c6656_i32_1434 : BitVec 32 ← k0_part115 i B.q B.hq B.k0 B.hk0 B.k1 B.hk1 B.v B.hv B.lam B.hlam B.o B.ho B.aug B.haug B.s0 B.hs0 B.s1 B.hs1 B.acc B.hacc x113.1 x114.1 x114.2
      k0_part116 i B.q B.hq B.k0 B.hk0 B.k1 B.hk1 B.v B.hv B.lam B.hlam B.o B.ho B.aug B.haug B.s0 B.hs0 B.s1 B.hs1 B.acc B.hacc x113.1 c6656_i32_1434
      let x117 ← k0_part117 i B.q B.hq B.k0 B.hk0 B.k1 B.hk1 B.v B.hv B.lam B.hlam B.o B.ho B.aug B.haug B.s0 B.hs0 B.s1 B.hs1 B.acc B.hacc x113.1
      let x118 ← k0_part118 i B.q B.hq B.k0 B.hk0 B.k1 B.hk1 B.v B.hv B.lam B.hlam B.o B.ho B.aug B.haug B.s0 B.hs0 B.s1 B.hs1 B.acc B.hacc x113.1 x117.1 x117.2.1 x117.2.2
      let x119 ← k0_part119 i B.q B.hq B.k0 B.hk0 B.k1 B.hk1 B.v B.hv B.lam B.hlam B.o B.ho B.aug B.haug B.s0 B.hs0 B.s1 B.hs1 B.acc B.hacc x118.1 x118.2
      let x120 ← k0_part120 i B.q B.hq B.k0 B.hk0 B.k1 B.hk1 B.v B.hv B.lam B.hlam B.o B.ho B.aug B.haug B.s0 B.hs0 B.s1 B.hs1 B.acc B.hacc x119.1 x119.2.1 x119.2.2
      let x121 ← k0_part121 i B.q B.hq B.k0 B.hk0 B.k1 B.hk1 B.v B.hv B.lam B.hlam B.o B.ho B.aug B.haug B.s0 B.hs0 B.s1 B.hs1 B.acc B.hacc x120.1 x120.2
      let x122 ← k0_part122 i B.q B.hq B.k0 B.hk0 B.k1 B.hk1 B.v B.hv B.lam B.hlam B.o B.ho B.aug B.haug B.s0 B.hs0 B.s1 B.hs1 B.acc B.hacc x121.1 x121.2.1 x121.2.2
      let x123 ← k0_part123 i B.q B.hq B.k0 B.hk0 B.k1 B.hk1 B.v B.hv B.lam B.hlam B.o B.ho B.aug B.haug B.s0 B.hs0 B.s1 B.hs1 B.acc B.hacc x122.1 x122.2
      let x124 ← k0_part124 i B.q B.hq B.k0 B.hk0 B.k1 B.hk1 B.v B.hv B.lam B.hlam B.o B.ho B.aug B.haug B.s0 B.hs0 B.s1 B.hs1 B.acc B.hacc x123.1 x123.2.1 x123.2.2
      let x125 ← k0_part125 i B.q B.hq B.k0 B.hk0 B.k1 B.hk1 B.v B.hv B.lam B.hlam B.o B.ho B.aug B.haug B.s0 B.hs0 B.s1 B.hs1 B.acc B.hacc x124.1 x124.2
      let x126 ← k0_part126 i B.q B.hq B.k0 B.hk0 B.k1 B.hk1 B.v B.hv B.lam B.hlam B.o B.ho B.aug B.haug B.s0 B.hs0 B.s1 B.hs1 B.acc B.hacc x125.1 x125.2.1 x125.2.2
      let x127 ← k0_part127 i B.q B.hq B.k0 B.hk0 B.k1 B.hk1 B.v B.hv B.lam B.hlam B.o B.ho B.aug B.haug B.s0 B.hs0 B.s1 B.hs1 B.acc B.hacc x126.1 x126.2
      let x128 ← k0_part128 i B.q B.hq B.k0 B.hk0 B.k1 B.hk1 B.v B.hv B.lam B.hlam B.o B.ho B.aug B.haug B.s0 B.hs0 B.s1 B.hs1 B.acc B.hacc x127.1 x127.2.1 x127.2.2
      let x129 ← k0_part129 i B.q B.hq B.k0 B.hk0 B.k1 B.hk1 B.v B.hv B.lam B.hlam B.o B.ho B.aug B.haug B.s0 B.hs0 B.s1 B.hs1 B.acc B.hacc x128.1 x128.2
      let x130 ← k0_part130 i B.q B.hq B.k0 B.hk0 B.k1 B.hk1 B.v B.hv B.lam B.hlam B.o B.ho B.aug B.haug B.s0 B.hs0 B.s1 B.hs1 B.acc B.hacc x129.1 x129.2.1 x129.2.2
      let x131 ← k0_part131 i B.q B.hq B.k0 B.hk0 B.k1 B.hk1 B.v B.hv B.lam B.hlam B.o B.ho B.aug B.haug B.s0 B.hs0 B.s1 B.hs1 B.acc B.hacc x130.1 x130.2
      let x132 ← k0_part132 i B.q B.hq B.k0 B.hk0 B.k1 B.hk1 B.v B.hv B.lam B.hlam B.o B.ho B.aug B.haug B.s0 B.hs0 B.s1 B.hs1 B.acc B.hacc x131.1 x131.2.1 x131.2.2
      let x133 ← k0_part133 i B.q B.hq B.k0 B.hk0 B.k1 B.hk1 B.v B.hv B.lam B.hlam B.o B.ho B.aug B.haug B.s0 B.hs0 B.s1 B.hs1 B.acc B.hacc x132.1 x132.2
      let x134 ← k0_part134 i B.q B.hq B.k0 B.hk0 B.k1 B.hk1 B.v B.hv B.lam B.hlam B.o B.ho B.aug B.haug B.s0 B.hs0 B.s1 B.hs1 B.acc B.hacc x133.1 x133.2.1 x133.2.2
      let x135 ← k0_part135 i B.q B.hq B.k0 B.hk0 B.k1 B.hk1 B.v B.hv B.lam B.hlam B.o B.ho B.aug B.haug B.s0 B.hs0 B.s1 B.hs1 B.acc B.hacc x134.1 x134.2
      let x136 ← k0_part136 i B.q B.hq B.k0 B.hk0 B.k1 B.hk1 B.v B.hv B.lam B.hlam B.o B.ho B.aug B.haug B.s0 B.hs0 B.s1 B.hs1 B.acc B.hacc x135.1 x135.2.1 x135.2.2
      let x137 ← k0_part137 i B.q B.hq B.k0 B.hk0 B.k1 B.hk1 B.v B.hv B.lam B.hlam B.o B.ho B.aug B.haug B.s0 B.hs0 B.s1 B.hs1 B.acc B.hacc x136.1 x136.2
      let x138 ← k0_part138 i B.q B.hq B.k0 B.hk0 B.k1 B.hk1 B.v B.hv B.lam B.hlam B.o B.ho B.aug B.haug B.s0 B.hs0 B.s1 B.hs1 B.acc B.hacc x137.1 x137.2.1 x137.2.2
      let x139 ← k0_part139 i B.q B.hq B.k0 B.hk0 B.k1 B.hk1 B.v B.hv B.lam B.hlam B.o B.ho B.aug B.haug B.s0 B.hs0 B.s1 B.hs1 B.acc B.hacc x138.1 x138.2
      let x140 ← k0_part140 i B.q B.hq B.k0 B.hk0 B.k1 B.hk1 B.v B.hv B.lam B.hlam B.o B.ho B.aug B.haug B.s0 B.hs0 B.s1 B.hs1 B.acc B.hacc x139.1 x139.2.1 x139.2.2
      let x141 ← k0_part141 i B.q B.hq B.k0 B.hk0 B.k1 B.hk1 B.v B.hv B.lam B.hlam B.o B.ho B.aug B.haug B.s0 B.hs0 B.s1 B.hs1 B.acc B.hacc x140.1 x140.2
      let x142 ← k0_part142 i B.q B.hq B.k0 B.hk0 B.k1 B.hk1 B.v B.hv B.lam B.hlam B.o B.ho B.aug B.haug B.s0 B.hs0 B.s1 B.hs1 B.acc B.hacc x141.1 x141.2.1 x141.2.2
      let x143 ← k0_part143 i B.q B.hq B.k0 B.hk0 B.k1 B.hk1 B.v B.hv B.lam B.hlam B.o B.ho B.aug B.haug B.s0 B.hs0 B.s1 B.hs1 B.acc B.hacc x142.1 x142.2
      let x144 ← k0_part144 i B.q B.hq B.k0 B.hk0 B.k1 B.hk1 B.v B.hv B.lam B.hlam B.o B.ho B.aug B.haug B.s0 B.hs0 B.s1 B.hs1 B.acc B.hacc x143.1 x143.2.1 x143.2.2
      let x145 ← k0_part145 i B.q B.hq B.k0 B.hk0 B.k1 B.hk1 B.v B.hv B.lam B.hlam B.o B.ho B.aug B.haug B.s0 B.hs0 B.s1 B.hs1 B.acc B.hacc x144.1 x144.2
      let c7936_i32_2174 : BitVec 32 ← k0_part146 i B.q B.hq B.k0 B.hk0 B.k1 B.hk1 B.v B.hv B.lam B.hlam B.o B.ho B.aug B.haug B.s0 B.hs0 B.s1 B.hs1 B.acc B.hacc x145.1 x145.2
      let v3303 : FVec F S144x256 .f32 ← k0_part147 i B.q B.hq B.k0 B.hk0 B.k1 B.hk1 B.v B.hv B.lam B.hlam B.o B.ho B.aug B.haug B.s0 B.hs0 B.s1 B.hs1 B.acc B.hacc c7936_i32_2174
      let v3304 : Vec F S144x256 .f32 ← Prog.lift (.load B.acc (Rect.unit (s := S144x2048) ![0, 1536] S144x256.size inb_S144x2048_S144x256_0_1536).toLoadRect (View.loadsAt_vmem h_S144x256))
      have v3306 : FVec F S144x256 .f32 := shapeCast S144x256 v3303 shapeCasts_S144x256_S144x256
      Prog.lift (.store B.acc (Rect.unit (s := S144x2048) ![0, 1536] S144x256.size inb_S144x2048_S144x256_0_1536) v3306 Finset.univ (View.stores_vmem_bits_univ h_S144x256 rfl) (.inl rfl))
      let v3308 : Vec F S256x256 .bf16 ← Prog.lift (.load B.s1 (Rect.unit (s := S256x2048) ![0, 1792] S256x256.size inb_S256x2048_S256x256_0_1792).toLoadRect (View.loadsAt_vmem h_S256x256))
      have v3309 : FVec F S256x256 .bf16 := exp2 v3308
      let v3311 : Vec F S144x256 .bf16 ← Prog.lift (.load B.v (Rect.unit (s := S144x8192) ![0, 7936] S144x256.size inb_S144x8192_S144x256_0_7936).toLoadRect (View.loadsAt_vmem h_S144x256))
      have v3312 : FVec F S144x256 .bf16 := shapeCast S144x256 v3311 shapeCasts_S144x256_S144x256
      have cst_2205 : FVec F S144x256 .f32 := constant S144x256 .f32 0x00000000#32
      pure ⟨v3309, v3312, cst_2205⟩ : Prog (TpuEff nD τ sig (Elt F) Λ₀ .tc) (Σ' (v3309 : FVec F S256x256 .bf16) (v3312 : FVec F S144x256 .bf16), FVec F S144x256 .f32)) := by
  subst hm; chain_rfl

/-- The part of the body with the condition. -/
theorem shape200 (i : grid0.Coords) (B : Bufs) (v16 : IVec S16x2048 1) (hm : v16 = (cmpi .eq (iota .tc S16x2048 32 [0] iota_S16x2048_d0_w32) (broadcast S16x2048 0#32))) (v218 : FVec F S1x2048 .f32) (v1679 : FVec F S1x2048 .f32) (v1681 : FVec F S1x2048 .f32) (v1682 : FVec F S1x2048 .f32) (v1763 : FVec F S144x256 .f32) :
    k0_part200 i B.q B.hq B.k0 B.hk0 B.k1 B.hk1 B.v B.hv B.lam B.hlam B.o B.ho B.aug B.haug B.s0 B.hs0 B.s1 B.hs1 B.acc B.hacc v16 v218 v1679 v1681 v1682 v1763 = (do
      let v1764 : Vec F S144x256 .f32 ← Prog.lift (.load B.acc (Rect.unit (s := S144x2048) ![0, 1536] S144x256.size inb_S144x2048_S144x256_0_1536).toLoadRect (View.loadsAt_vmem h_S144x256))
      have v1766 : FVec F S144x256 .f32 := shapeCast S144x256 v1763 shapeCasts_S144x256_S144x256
      Prog.lift (.store B.acc (Rect.unit (s := S144x2048) ![0, 1536] S144x256.size inb_S144x2048_S144x256_0_1536) v1766 Finset.univ (View.stores_vmem_bits_univ h_S144x256 rfl) (.inl rfl))
      let v1768 : Vec F S256x256 .bf16 ← Prog.lift (.load B.s1 (Rect.unit (s := S256x2048) ![0, 1792] S256x256.size inb_S256x2048_S256x256_0_1792).toLoadRect (View.loadsAt_vmem h_S256x256))
      have v1769 : FVec F S256x256 .bf16 := exp2 v1768
      let v1771 : Vec F S144x256 .bf16 ← Prog.lift (.load B.v (Rect.unit (s := S144x8192) ![0, 7936] S144x256.size inb_S144x8192_S144x256_0_7936).toLoadRect (View.loadsAt_vmem h_S144x256))
      have v1772 : FVec F S144x256 .bf16 := shapeCast S144x256 v1771 shapeCasts_S144x256_S144x256
      have cst_1142 : FVec F S144x256 .f32 := constant S144x256 .f32 0x00000000#32
      have v1773 : FVec F S144x256 .f32 := matmul dot_S144x256_S256x256_S144x256_1_0_0_1_n_n none v1772 v1769 cst_1142
      let v1774 : Vec F S144x256 .f32 ← Prog.lift (.load B.acc (Rect.unit (s := S144x2048) ![0, 1792] S144x256.size inb_S144x2048_S144x256_0_1792).toLoadRect (View.loadsAt_vmem h_S144x256))
      have v1775 : FVec F S144x256 .f32 := addf v1774 v1773
      let v1776 : Vec F S144x256 .f32 ← Prog.lift (.load B.acc (Rect.unit (s := S144x2048) ![0, 1792] S144x256.size inb_S144x2048_S144x256_0_1792).toLoadRect (View.loadsAt_vmem h_S144x256))
      have v1778 : FVec F S144x256 .f32 := shapeCast S144x256 v1775 shapeCasts_S144x256_S144x256
      Prog.lift (.store B.acc (Rect.unit (s := S144x2048) ![0, 1792] S144x256.size inb_S144x2048_S144x256_0_1792) v1778 Finset.univ (View.stores_vmem_bits_univ h_S144x256 rfl) (.inl rfl))
      have v1779 : FVec F S1x2048 .f32 := addf v218 v1679
      have v1780 : FVec F S1x2048 .f32 := maximumf v1681 v1779
      have v1781 : FVec F S1x2048 .f32 := maximumf v1682 v1679
      have v1782 : FVec F S1x1x2048 .f32 := shapeCast S1x1x2048 v1781 shapeCasts_S1x2048_S1x1x2048
      have v1783 : FVec F S1 .f32 := multiReduction .maximumf [1, 2] S1 v1782 0xFF800000#32 reduces_S1x1x2048_S1 (.inl rfl) rfl
      have v1784 : FVec F S1x1x1 .f32 := shapeCast S1x1x1 v1783 shapeCasts_S1_S1x1x1
      have v1785 : F .f32 := extractAt ![0, 0, 0] v1784 inpos_S1x1x1_p0_0_0
      have cst_1148 : F .f32 := Scalar.ofBits .f32 0x42C80000#32
      let v1786 : BitVec 1 := Scalar.cmpf .ogt v1785 cst_1148
      let v1787 : BitVec 32 := Scalar.extui v1786
      let c0_i32_1149 : BitVec 32 := 0#32
      let v1788 : BitVec 1 := Scalar.cmpi .ne v1787 c0_i32_1149
      if v1788 = 1#1 then do
        let x148 ← k0_part148 i B.q B.hq B.k0 B.hk0 B.k1 B.hk1 B.v B.hv B.lam B.hlam B.o B.ho B.aug B.haug B.s0 B.hs0 B.s1 B.hs1 B.acc B.hacc (cmpi .eq (iota .tc S16x2048 32 [0] iota_S16x2048_d0_w32) (broadcast S16x2048 0#32)) v1780
        have v3313 : FVec F S144x256 .f32 := matmul dot_S144x256_S256x256_S144x256_1_0_0_1_n_n none x148.2.1 x148.1 x148.2.2
        let v3314 : Vec F S144x256 .f32 ← Prog.lift (.load B.acc (Rect.unit (s := S144x2048) ![0, 1792] S144x256.size inb_S144x2048_S144x256_0_1792).toLoadRect (View.loadsAt_vmem h_S144x256))
        have v3315 : FVec F S144x256 .f32 := addf v3314 v3313
        let v3316 : Vec F S144x256 .f32 ← Prog.lift (.load B.acc (Rect.unit (s := S144x2048) ![0, 1792] S144x256.size inb_S144x2048_S144x256_0_1792).toLoadRect (View.loadsAt_vmem h_S144x256))
        have v3318 : FVec F S144x256 .f32 := shapeCast S144x256 v3315 shapeCasts_S144x256_S144x256
        Prog.lift (.store B.acc (Rect.unit (s := S144x2048) ![0, 1792] S144x256.size inb_S144x2048_S144x256_0_1792) v3318 Finset.univ (View.stores_vmem_bits_univ h_S144x256 rfl) (.inl rfl))
        pure ⟨⟩
      else do
        pure ⟨⟩
      let v1789 : Vec F S4x64 .f32 ← Prog.lift (.load B.lam (Rect.unit (s := S4x64) ![0, 0] S4x64.size inb_S4x64_S4x64_0_0).toLoadRect (View.loadsAt_vmem h_S4x64))
      have v1790 : FVec F S1x64 .f32 := extractStridedSlice S1x64 ![0, 0] v1789 slices_S4x64_o0_0_S1x64
      have v1791 : FVec F S1x64 .f32 := extractStridedSlice S1x64 ![1, 0] v1789 slices_S4x64_o1_0_S1x64
      have v1792 : FVec F S1x64 .f32 := mulf v1790 v1791
      have v1793 : FVec F S1 .f32 := multiReduction .add [1] S1 v1792 0x00000000#32 reduces_S1x64_S1 (.inl rfl) rfl
      have v1794 : FVec F S1x1 .f32 := shapeCast S1x1 v1793 shapeCasts_S1_S1x1
      have v1795 : FVec F S1x1 .f32 := exp v1794
      have v1796 : FVec F S1x64 .f32 := extractStridedSlice S1x64 ![2, 0] v1789 slices_S4x64_o2_0_S1x64
      have v1797 : FVec F S1x64 .f32 := extractStridedSlice S1x64 ![3, 0] v1789 slices_S4x64_o3_0_S1x64
      have v1798 : FVec F S1x64 .f32 := mulf v1796 v1797
      have v1799 : FVec F S1 .f32 := multiReduction .add [1] S1 v1798 0x00000000#32 reduces_S1x64_S1 (.inl rfl) rfl
      have v1800 : FVec F S1x1 .f32 := shapeCast S1x1 v1799 shapeCasts_S1_S1x1
      have v1801 : FVec F S1x1 .f32 := exp v1800
      have v1802 : FVec F S1x1 .f32 := subf v1795 v1801
      have cst_1154 : F .f32 := Scalar.ofBits .f32 0x3E4CCCCD#32
      have v1803 : FVec F S1x1 .f32 := broadcast S1x1 cst_1154
      pure ⟨v1802, v1803⟩ : Prog (TpuEff nD τ sig (Elt F) Λ₀ .tc) (Σ' (v1802 : FVec F S1x1 .f32), FVec F S1x1 .f32)) := by
  subst hm; chain_rfl

/-- The body, part by part. -/
theorem shape201 (i : grid0.Coords) (B : Bufs)  :
    k0_part201 i B.q B.hq B.k0 B.hk0 B.k1 B.hk1 B.v B.hv B.lam B.hlam B.o B.ho B.aug B.haug B.s0 B.hs0 B.s1 B.hs1 B.acc B.hacc  = (do
      let x149 ← k0_part149 i B.q B.hq B.k0 B.hk0 B.k1 B.hk1 B.v B.hv B.lam B.hlam B.o B.ho B.aug B.haug B.s0 B.hs0 B.s1 B.hs1 B.acc B.hacc
      let x150 ← k0_part150 i B.q B.hq B.k0 B.hk0 B.k1 B.hk1 B.v B.hv B.lam B.hlam B.o B.ho B.aug B.haug B.s0 B.hs0 B.s1 B.hs1 B.acc B.hacc x149.2.1 x149.2.2.1 x149.2.2.2
      let x151 ← k0_part151 i B.q B.hq B.k0 B.hk0 B.k1 B.hk1 B.v B.hv B.lam B.hlam B.o B.ho B.aug B.haug B.s0 B.hs0 B.s1 B.hs1 B.acc B.hacc x150.1 x150.2.1 x150.2.2.1 x150.2.2.2.1 x150.2.2.2.2
      let x152 ← k0_part152 i B.q B.hq B.k0 B.hk0 B.k1 B.hk1 B.v B.hv B.lam B.hlam B.o B.ho B.aug B.haug B.s0 B.hs0 B.s1 B.hs1 B.acc B.hacc x149.1 x151.2.2.1 x151.2.2.2
      let x153 ← k0_part153 i B.q B.hq B.k0 B.hk0 B.k1 B.hk1 B.v B.hv B.lam B.hlam B.o B.ho B.aug B.haug B.s0 B.hs0 B.s1 B.hs1 B.acc B.hacc x152.2.2
      let x154 ← k0_part154 i B.q B.hq B.k0 B.hk0 B.k1 B.hk1 B.v B.hv B.lam B.hlam B.o B.ho B.aug B.haug B.s0 B.hs0 B.s1 B.hs1 B.acc B.hacc
      let x155 ← k0_part155 i B.q B.hq B.k0 B.hk0 B.k1 B.hk1 B.v B.hv B.lam B.hlam B.o B.ho B.aug B.haug B.s0 B.hs0 B.s1 B.hs1 B.acc B.hacc x149.1 x151.1 x151.2.1 x152.1 x152.2.1 x153.1 x153.2.1 x153.2.2 x154.1 x154.2.1 x154.2.2
      let v266 : FVec F S1x256 .f32 ← k0_part156 i B.q B.hq B.k0 B.hk0 B.k1 B.hk1 B.v B.hv B.lam B.hlam B.o B.ho B.aug B.haug B.s0 B.hs0 B.s1 B.hs1 B.acc B.hacc x155.2.2.2.2.2.2.1 x155.2.2.2.2.2.2.2
      let x157 ← k0_part157 i B.q B.hq B.k0 B.hk0 B.k1 B.hk1 B.v B.hv B.lam B.hlam B.o B.ho B.aug B.haug B.s0 B.hs0 B.s1 B.hs1 B.acc B.hacc
      let x158 ← k0_part158 i B.q B.hq B.k0 B.hk0 B.k1 B.hk1 B.v B.hv B.lam B.hlam B.o B.ho B.aug B.haug B.s0 B.hs0 B.s1 B.hs1 B.acc B.hacc x157.2
      let v366 : FVec F S1x256 .f32 ← k0_part159 i B.q B.hq B.k0 B.hk0 B.k1 B.hk1 B.v B.hv B.lam B.hlam B.o B.ho B.aug B.haug B.s0 B.hs0 B.s1 B.hs1 B.acc B.hacc x158.2.2.1 x158.2.2.2
      let x160 ← k0_part160 i B.q B.hq B.k0 B.hk0 B.k1 B.hk1 B.v B.hv B.lam B.hlam B.o B.ho B.aug B.haug B.s0 B.hs0 B.s1 B.hs1 B.acc B.hacc
      let x161 ← k0_part161 i B.q B.hq B.k0 B.hk0 B.k1 B.hk1 B.v B.hv B.lam B.hlam B.o B.ho B.aug B.haug B.s0 B.hs0 B.s1 B.hs1 B.acc B.hacc x155.1 x155.2.1 x155.2.2.1 x155.2.2.2.1 x155.2.2.2.2.1 x155.2.2.2.2.2.1 v266 x157.1 x158.1 x158.2.1 v366 x160.1 x160.2
      let x162 ← k0_part162 i B.q B.hq B.k0 B.hk0 B.k1 B.hk1 B.v B.hv B.lam B.hlam B.o B.ho B.aug B.haug B.s0 B.hs0 B.s1 B.hs1 B.acc B.hacc x161.2.2.2.1 x161.2.2.2.2.2
      let x163 ← k0_part163 i B.q B.hq B.k0 B.hk0 B.k1 B.hk1 B.v B.hv B.lam B.hlam B.o B.ho B.aug B.haug B.s0 B.hs0 B.s1 B.hs1 B.acc B.hacc x161.2.2.2.1 x162.2
      let x164 ← k0_part164 i B.q B.hq B.k0 B.hk0 B.k1 B.hk1 B.v B.hv B.lam B.hlam B.o B.ho B.aug B.haug B.s0 B.hs0 B.s1 B.hs1 B.acc B.hacc x161.2.2.2.1 x163.2.1 x163.2.2
      let x165 ← k0_part165 i B.q B.hq B.k0 B.hk0 B.k1 B.hk1 B.v B.hv B.lam B.hlam B.o B.ho B.aug B.haug B.s0 B.hs0 B.s1 B.hs1 B.acc B.hacc x161.2.2.2.1
      let x166 ← k0_part166 i B.q B.hq B.k0 B.hk0 B.k1 B.hk1 B.v B.hv B.lam B.hlam B.o B.ho B.aug B.haug B.s0 B.hs0 B.s1 B.hs1 B.acc B.hacc x161.2.2.2.1 x165.2
      let x167 ← k0_part167 i B.q B.hq B.k0 B.hk0 B.k1 B.hk1 B.v B.hv B.lam B.hlam B.o B.ho B.aug B.haug B.s0 B.hs0 B.s1 B.hs1 B.acc B.hacc x155.2.2.2.2.1 x161.1 x161.2.1 x161.2.2.1 x161.2.2.2.1 x161.2.2.2.2.1 x162.1 x163.1 x164.1 x164.2 x165.1 x166.1 x166.2
      let x168 ← k0_part168 i B.q B.hq B.k0 B.hk0 B.k1 B.hk1 B.v B.hv B.lam B.hlam B.o B.ho B.aug B.haug B.s0 B.hs0 B.s1 B.hs1 B.acc B.hacc x167.2.2.2.1 x167.2.2.2.2.1 x167.2.2.2.2.2
      let x169 ← k0_part169 i B.q B.hq B.k0 B.hk0 B.k1 B.hk1 B.v B.hv B.lam B.hlam B.o B.ho B.aug B.haug B.s0 B.hs0 B.s1 B.hs1 B.acc B.hacc x168.2.2
      let x170 ← k0_part170 i B.q B.hq B.k0 B.hk0 B.k1 B.hk1 B.v B.hv B.lam B.hlam B.o B.ho B.aug B.haug B.s0 B.hs0 B.s1 B.hs1 B.acc B.hacc x169.2
      let x171 ← k0_part171 i B.q B.hq B.k0 B.hk0 B.k1 B.hk1 B.v B.hv B.lam B.hlam B.o B.ho B.aug B.haug B.s0 B.hs0 B.s1 B.hs1 B.acc B.hacc x170.2
      let x172 ← k0_part172 i B.q B.hq B.k0 B.hk0 B.k1 B.hk1 B.v B.hv B.lam B.hlam B.o B.ho B.aug B.haug B.s0 B.hs0 B.s1 B.hs1 B.acc B.hacc x171.2.2
      let x173 ← k0_part173 i B.q B.hq B.k0 B.hk0 B.k1 B.hk1 B.v B.hv B.lam B.hlam B.o B.ho B.aug B.haug B.s0 B.hs0 B.s1 B.hs1 B.acc B.hacc x155.2.2.2.2.1 x167.1 x167.2.1 x167.2.2.1 x168.1 x168.2.1 x169.1 x170.1 x171.1 x171.2.1 x172.1 x172.2
      let x174 ← k0_part174 i B.q B.hq B.k0 B.hk0 B.k1 B.hk1 B.v B.hv B.lam B.hlam B.o B.ho B.aug B.haug B.s0 B.hs0 B.s1 B.hs1 B.acc B.hacc x173.2.2.2
      let x175 ← k0_part175 i B.q B.hq B.k0 B.hk0 B.k1 B.hk1 B.v B.hv B.lam B.hlam B.o B.ho B.aug B.haug B.s0 B.hs0 B.s1 B.hs1 B.acc B.hacc x174.2.2
      let x176 ← k0_part176 i B.q B.hq B.k0 B.hk0 B.k1 B.hk1 B.v B.hv B.lam B.hlam B.o B.ho B.aug B.haug B.s0 B.hs0 B.s1 B.hs1 B.acc B.hacc x175.2
      let x177 ← k0_part177 i B.q B.hq B.k0 B.hk0 B.k1 B.hk1 B.v B.hv B.lam B.hlam B.o B.ho B.aug B.haug B.s0 B.hs0 B.s1 B.hs1 B.acc B.hacc x176.2
      let x178 ← k0_part178 i B.q B.hq B.k0 B.hk0 B.k1 B.hk1 B.v B.hv B.lam B.hlam B.o B.ho B.aug B.haug B.s0 B.hs0 B.s1 B.hs1 B.acc B.hacc x177.2.2
      let x179 ← k0_part179 i B.q B.hq B.k0 B.hk0 B.k1 B.hk1 B.v B.hv B.lam B.hlam B.o B.ho B.aug B.haug B.s0 B.hs0 B.s1 B.hs1 B.acc B.hacc x155.2.2.2.2.1 x173.1 x173.2.1 x173.2.2.1 x174.1 x174.2.1 x175.1 x176.1 x177.1 x177.2.1 x178.1 x178.2
      let x180 ← k0_part180 i B.q B.hq B.k0 B.hk0 B.k1 B.hk1 B.v B.hv B.lam B.hlam B.o B.ho B.aug B.haug B.s0 B.hs0 B.s1 B.hs1 B.acc B.hacc x179.2.2.2
      let x181 ← k0_part181 i B.q B.hq B.k0 B.hk0 B.k1 B.hk1 B.v B.hv B.lam B.hlam B.o B.ho B.aug B.haug B.s0 B.hs0 B.s1 B.hs1 B.acc B.hacc x180.2.2
      let x182 ← k0_part182 i B.q B.hq B.k0 B.hk0 B.k1 B.hk1 B.v B.hv B.lam B.hlam B.o B.ho B.aug B.haug B.s0 B.hs0 B.s1 B.hs1 B.acc B.hacc x181.2
      let x183 ← k0_part183 i B.q B.hq B.k0 B.hk0 B.k1 B.hk1 B.v B.hv B.lam B.hlam B.o B.ho B.aug B.haug B.s0 B.hs0 B.s1 B.hs1 B.acc B.hacc
      let x184 ← k0_part184 i B.q B.hq B.k0 B.hk0 B.k1 B.hk1 B.v B.hv B.lam B.hlam B.o B.ho B.aug B.haug B.s0 B.hs0 B.s1 B.hs1 B.acc B.hacc x183.2
      let x185 ← k0_part185 i B.q B.hq B.k0 B.hk0 B.k1 B.hk1 B.v B.hv B.lam B.hlam B.o B.ho B.aug B.haug B.s0 B.hs0 B.s1 B.hs1 B.acc B.hacc x155.2.2.2.2.1 x179.1 x179.2.1 x179.2.2.1 x180.1 x180.2.1 x181.1 x182.1 x182.2 x183.1 x184.1 x184.2.1 x184.2.2.1 x184.2.2.2
      let x186 ← k0_part186 i B.q B.hq B.k0 B.hk0 B.k1 B.hk1 B.v B.hv B.lam B.hlam B.o B.ho B.aug B.haug B.s0 B.hs0 B.s1 B.hs1 B.acc B.hacc
      let x187 ← k0_part187 i B.q B.hq B.k0 B.hk0 B.k1 B.hk1 B.v B.hv B.lam B.hlam B.o B.ho B.aug B.haug B.s0 B.hs0 B.s1 B.hs1 B.acc B.hacc x186.2
      let x188 ← k0_part188 i B.q B.hq B.k0 B.hk0 B.k1 B.hk1 B.v B.hv B.lam B.hlam B.o B.ho B.aug B.haug B.s0 B.hs0 B.s1 B.hs1 B.acc B.hacc x187.2.1 x187.2.2.1 x187.2.2.2
      let x189 ← k0_part189 i B.q B.hq B.k0 B.hk0 B.k1 B.hk1 B.v B.hv B.lam B.hlam B.o B.ho B.aug B.haug B.s0 B.hs0 B.s1 B.hs1 B.acc B.hacc x188.2.2
      let x190 ← k0_part190 i B.q B.hq B.k0 B.hk0 B.k1 B.hk1 B.v B.hv B.lam B.hlam B.o B.ho B.aug B.haug B.s0 B.hs0 B.s1 B.hs1 B.acc B.hacc x189.2
      let x191 ← k0_part191 i B.q B.hq B.k0 B.hk0 B.k1 B.hk1 B.v B.hv B.lam B.hlam B.o B.ho B.aug B.haug B.s0 B.hs0 B.s1 B.hs1 B.acc B.hacc x155.2.2.2.2.1 x185.1 x185.2.1 x185.2.2.1 x185.2.2.2 x186.1 x187.1 x188.1 x188.2.1 x189.1 x190.1 x190.2
      let x192 ← k0_part192 i B.q B.hq B.k0 B.hk0 B.k1 B.hk1 B.v B.hv B.lam B.hlam B.o B.ho B.aug B.haug B.s0 B.hs0 B.s1 B.hs1 B.acc B.hacc x191.2.2.2.2
      let x193 ← k0_part193 i B.q B.hq B.k0 B.hk0 B.k1 B.hk1 B.v B.hv B.lam B.hlam B.o B.ho B.aug B.haug B.s0 B.hs0 B.s1 B.hs1 B.acc B.hacc x192.2
      let x194 ← k0_part194 i B.q B.hq B.k0 B.hk0 B.k1 B.hk1 B.v B.hv B.lam B.hlam B.o B.ho B.aug B.haug B.s0 B.hs0 B.s1 B.hs1 B.acc B.hacc x193.2
      let x195 ← k0_part195 i B.q B.hq B.k0 B.hk0 B.k1 B.hk1 B.v B.hv B.lam B.hlam B.o B.ho B.aug B.haug B.s0 B.hs0 B.s1 B.hs1 B.acc B.hacc x194.2.2
      let x196 ← k0_part196 i B.q B.hq B.k0 B.hk0 B.k1 B.hk1 B.v B.hv B.lam B.hlam B.o B.ho B.aug B.haug B.s0 B.hs0 B.s1 B.hs1 B.acc B.hacc x195.2
      let x197 ← k0_part197 i B.q B.hq B.k0 B.hk0 B.k1 B.hk1 B.v B.hv B.lam B.hlam B.o B.ho B.aug B.haug B.s0 B.hs0 B.s1 B.hs1 B.acc B.hacc x155.2.2.2.2.1 x191.1 x191.2.1 x191.2.2.1 x191.2.2.2.1 x192.1 x193.1 x194.1 x194.2.1 x195.1 x196.1 x196.2
      let v1731 : BitVec 32 ← k0_part198 i B.q B.hq B.k0 B.hk0 B.k1 B.hk1 B.v B.hv B.lam B.hlam B.o B.ho B.aug B.haug B.s0 B.hs0 B.s1 B.hs1 B.acc B.hacc x197.2.2.2
      let v1763 : FVec F S144x256 .f32 ← k0_part199 i B.q B.hq B.k0 B.hk0 B.k1 B.hk1 B.v B.hv B.lam B.hlam B.o B.ho B.aug B.haug B.s0 B.hs0 B.s1 B.hs1 B.acc B.hacc v1731
      let x200 ← k0_part200 i B.q B.hq B.k0 B.hk0 B.k1 B.hk1 B.v B.hv B.lam B.hlam B.o B.ho B.aug B.haug B.s0 B.hs0 B.s1 B.hs1 B.acc B.hacc x149.1 x155.2.2.2.2.1 x197.1 x197.2.1 x197.2.2.1 v1763
      have v1804 : FVec F S1x1 .f32 := addf x200.1 x200.2
      let v1805 : Vec F S144x2048 .f32 ← Prog.lift (.load B.acc (Rect.unit (s := S144x2048) ![0, 0] S144x2048.size inb_S144x2048_S144x2048_0_0).toLoadRect (View.loadsAt_vmem h_S144x2048))
      have v1806 : FVec F S128x2048 .f32 := extractStridedSlice S128x2048 ![0, 0] v1805 slices_S144x2048_o0_0_S128x2048
      have v1807 : FVec F S1x2048 .f32 := extractStridedSlice S1x2048 ![128, 0] v1805 slices_S144x2048_o128_0_S1x2048
      have v1808 : FVec F S128x2048 .f32 := broadcastTo S128x2048 v1807 broadcasts_S1x2048_S128x2048
      have v1809 : FVec F S128x2048 .f32 := divf v1806 v1808
      pure ⟨v1804, v1809⟩ : Prog (TpuEff nD τ sig (Elt F) Λ₀ .tc) (Σ' (v1804 : FVec F S1x1 .f32), FVec F S128x2048 .f32)) := by
  chain_rfl

/-- The body. -/
theorem shape (i : grid0.Coords) (B : Bufs)  :
    cc0_attn_diff i B.q B.hq B.k0 B.hk0 B.k1 B.hk1 B.v B.hv B.lam B.hlam B.o B.ho B.aug B.haug B.s0 B.hs0 B.s1 B.hs1 B.acc B.hacc  = (do
      let x201 ← k0_part201 i B.q B.hq B.k0 B.hk0 B.k1 B.hk1 B.v B.hv B.lam B.hlam B.o B.ho B.aug B.haug B.s0 B.hs0 B.s1 B.hs1 B.acc B.hacc
      have v1810 : FVec F S128x1024 .f32 := extractStridedSlice S128x1024 ![0, 0] x201.2 slices_S128x2048_o0_0_S128x1024
      have v1811 : FVec F S128x1024 .f32 := extractStridedSlice S128x1024 ![0, 1024] x201.2 slices_S128x2048_o0_1024_S128x1024
      have v1812 : FVec F S128x1024 .f32 := broadcastTo S128x1024 x201.1 broadcasts_S1x1_S128x1024
      have v1813 : FVec F S128x1024 .f32 := mulf v1812 v1811
      have v1814 : FVec F S128x1024 .f32 := subf v1810 v1813
      have v1815 : FVec F S128x1024 .f32 := mulf v1814 v1814
      have v1816 : FVec F S1024 .f32 := multiReduction .add [0] S1024 v1815 0x00000000#32 reduces_S128x1024_S1024 (.inl rfl) rfl
      have v1817 : FVec F S1x1024 .f32 := shapeCast S1x1024 v1816 shapeCasts_S1024_S1x1024
      have cst_1158 : F .f32 := Scalar.ofBits .f32 0x43000000#32
      have v1818 : FVec F S1x1024 .f32 := broadcast S1x1024 cst_1158
      have v1819 : FVec F S1x1024 .f32 := divf v1817 v1818
      have cst_1159 : F .f32 := Scalar.ofBits .f32 0x358637BD#32
      have v1820 : FVec F S1x1024 .f32 := broadcast S1x1024 cst_1159
      have v1821 : FVec F S1x1024 .f32 := addf v1819 v1820
      have v1822 : FVec F S1x1024 .f32 := rsqrt v1821
      have v1823 : FVec F S128x1024 .f32 := broadcastTo S128x1024 v1822 broadcasts_S1x1024_S128x1024
      have v1824 : FVec F S128x1024 .f32 := mulf v1814 v1823
      have cst_1160 : F .f32 := Scalar.ofBits .f32 0x3F4CCCCD#32
      have v1825 : FVec F S128x1024 .f32 := broadcast S128x1024 cst_1160
      have v1826 : FVec F S128x1024 .f32 := mulf v1824 v1825
      have v1827 : FVec F S1024x128 .f32 := transpose S1024x128 [1, 0] v1826 transposes_S128x1024_p1_0_S1024x128
      have v1828 : FVec F S1024x128 .bf16 := truncf .bf16 v1827 bitsLt_bf16_f32
      let v1829 : Vec F S1024x128 .bf16 ← Prog.lift (.load B.o (Rect.unit (s := S1024x128) ![0, 0] S1024x128.size inb_S1024x128_S1024x128_0_0).toLoadRect (View.loadsAt_vmem h_S1024x128))
      Prog.lift (.store B.o (Rect.unit (s := S1024x128) ![0, 0] S1024x128.size inb_S1024x128_S1024x128_0_0) v1828 Finset.univ (View.stores_vmem h_S1024x128 (B.ho.storeExact_slice rfl _ packedbf16_S1024x128_S1024x128_0_0) (fun _ => rfl)) (.inl rfl))
      pure ⟨⟩ : Prog (TpuEff nD τ sig (Elt F) Λ₀ .tc) PUnit) := by
  chain_rfl

/-- The body as far as its first loop. -/
theorem piece_head (B : Bufs) (i : grid0.Coords)  : (do
      let x149 ← k0_part149 i B.q B.hq B.k0 B.hk0 B.k1 B.hk1 B.v B.hv B.lam B.hlam B.o B.ho B.aug B.haug B.s0 B.hs0 B.s1 B.hs1 B.acc B.hacc
      let x150 ← k0_part150 i B.q B.hq B.k0 B.hk0 B.k1 B.hk1 B.v B.hv B.lam B.hlam B.o B.ho B.aug B.haug B.s0 B.hs0 B.s1 B.hs1 B.acc B.hacc x149.2.1 x149.2.2.1 x149.2.2.2
      let x151 ← k0_part151 i B.q B.hq B.k0 B.hk0 B.k1 B.hk1 B.v B.hv B.lam B.hlam B.o B.ho B.aug B.haug B.s0 B.hs0 B.s1 B.hs1 B.acc B.hacc x150.1 x150.2.1 x150.2.2.1 x150.2.2.2.1 x150.2.2.2.2
      let x152 ← k0_part152 i B.q B.hq B.k0 B.hk0 B.k1 B.hk1 B.v B.hv B.lam B.hlam B.o B.ho B.aug B.haug B.s0 B.hs0 B.s1 B.hs1 B.acc B.hacc x149.1 x151.2.2.1 x151.2.2.2
      let x153 ← k0_part153 i B.q B.hq B.k0 B.hk0 B.k1 B.hk1 B.v B.hv B.lam B.hlam B.o B.ho B.aug B.haug B.s0 B.hs0 B.s1 B.hs1 B.acc B.hacc x152.2.2
      let x154 ← k0_part154 i B.q B.hq B.k0 B.hk0 B.k1 B.hk1 B.v B.hv B.lam B.hlam B.o B.ho B.aug B.haug B.s0 B.hs0 B.s1 B.hs1 B.acc B.hacc
      have v209 : FVec F S256x256 .bf16 := shapeCast S256x256 x154.2.2 shapeCasts_S256x256_S256x256
      Prog.lift (.store B.s0 (Rect.unit (s := S256x2048) ![0, 1792] S256x256.size inb_S256x2048_S256x256_0_1792) v209 Finset.univ (View.stores_vmem h_S256x256 (B.hs0.storeExact_slice rfl _ packedbf16_S256x2048_S256x256_0_1792) (fun _ => rfl)) (.inl rfl))
      have v210 : FVec F S256 .bf16 := multiReduction .maximumf [0] S256 x154.2.2 0xFF80#16 reduces_S256x256_S256 (.inr rfl) rfl
      have v211 : FVec F S1x256 .bf16 := shapeCast S1x256 v210 shapeCasts_S256_S1x256
      have v212 : FVec F S1x256 .f32 := extf .f32 v211 bitsLt_bf16_f32
      have v213 : FVec F S1x2048 .f32 := concatenate S1x2048 1 [⟨S1x256, x152.1⟩, ⟨S1x256, x152.2.1⟩, ⟨S1x256, x153.1⟩, ⟨S1x256, x153.2.1⟩, ⟨S1x256, x153.2.2⟩, ⟨S1x256, x154.1⟩, ⟨S1x256, x154.2.1⟩, ⟨S1x256, v212⟩] concatenates_S1x256_S1x256_S1x256_S1x256_S1x256_S1x256_S1x256_S1x256_S1x2048_d1
      have cst_124 : F .f32 := Scalar.ofBits .f32 0x00000000#32
      have v214 : FVec F S1x2048 .f32 := broadcast S1x2048 cst_124
      loop1 B (x151.2.1, v213, x151.1, v214) : Body F (Carry F)) =
  (before B >>= fun t0 => head B t0 >>= fun m => loop1 B (rnd t0, m, t0, broadcast S1x2048 (Scalar.ofBits .f32 0x00000000#32))) := by
  chain_rfl

/-- The body from its first loop to its condition. -/
theorem piece_tail (B : Bufs) (i : grid0.Coords) (c : Carry F) : (do
      have v217 : FVec F S1x2048 .bf16 := truncf .bf16 c.2.2.1 bitsLt_bf16_f32
      have v218 : FVec F S1x2048 .f32 := extf .f32 v217 bitsLt_bf16_f32
      have cst_127 : F .f32 := Scalar.ofBits .f32 0x00000000#32
      have v219 : FVec F S1x2048 .f32 := broadcast S1x2048 cst_127
      have v220 : FVec F S1x2048 .f32 := subf v219 v218
      have cst_128 : F .f32 := Scalar.ofBits .f32 0x00000000#32
      have v221 : FVec F S1x2048 .f32 := shapeCast S1x2048 v220 shapeCasts_S1x2048_S1x2048
      have v222 : FVec F S16x2048 .f32 := broadcastTo S16x2048 v221 broadcasts_S1x2048_S16x2048
      have v223 : FVec F S16x2048 .f32 := broadcast S16x2048 cst_128
      have v224 : FVec F S16x2048 .f32 := select (cmpi .eq (iota .tc S16x2048 32 [0] iota_S16x2048_d0_w32) (broadcast S16x2048 0#32)) v222 v223
      have v225 : FVec F S16x2048 .bf16 := truncf .bf16 v224 bitsLt_bf16_f32
      let v226 : Vec F S16x2048 .bf16 ← Prog.lift (.load B.aug (Rect.unit (s := S128x2048) ![64, 0] S16x2048.size inb_S128x2048_S16x2048_64_0).toLoadRect (View.loadsAt_vmem h_S16x2048))
      have v228 : FVec F S16x2048 .bf16 := shapeCast S16x2048 v225 shapeCasts_S16x2048_S16x2048
      Prog.lift (.store B.aug (Rect.unit (s := S128x2048) ![64, 0] S16x2048.size inb_S128x2048_S16x2048_64_0) v228 Finset.univ (View.stores_vmem h_S16x2048 (B.haug.storeExact_slice rfl _ packedbf16_S128x2048_S16x2048_64_0) (fun _ => rfl)) (.inl rfl))
      let v231 : Vec F S256x128 .bf16 ← Prog.lift (.load B.k0 (Rect.unit (s := S8192x128) ![6400, 0] S256x128.size inb_S8192x128_S256x128_6400_0).toLoadRect (View.loadsAt_vmem h_S256x128))
      have v232 : FVec F S256x128 .bf16 := shapeCast S256x128 v231 shapeCasts_S256x128_S256x128
      let v233 : Vec F S128x256 .bf16 ← Prog.lift (.load B.aug (Rect.unit (s := S128x2048) ![0, 0] S128x256.size inb_S128x2048_S128x256_0_0).toLoadRect (View.loadsAt_vmem h_S128x256))
      have cst_134 : FVec F S256x256 .f32 := constant S256x256 .f32 0x00000000#32
      have v234 : FVec F S256x256 .f32 := matmul dot_S256x128_S128x256_S256x256_1_0_0_1_n_n none v232 v233 cst_134
      have v235 : FVec F S256x256 .bf16 := truncf .bf16 v234 bitsLt_bf16_f32
      let v236 : Vec F S256x256 .bf16 ← Prog.lift (.load B.s1 (Rect.unit (s := S256x2048) ![0, 0] S256x256.size inb_S256x2048_S256x256_0_0).toLoadRect (View.loadsAt_vmem h_S256x256))
      have v238 : FVec F S256x256 .bf16 := shapeCast S256x256 v235 shapeCasts_S256x256_S256x256
      Prog.lift (.store B.s1 (Rect.unit (s := S256x2048) ![0, 0] S256x256.size inb_S256x2048_S256x256_0_0) v238 Finset.univ (View.stores_vmem h_S256x256 (B.hs1.storeExact_slice rfl _ packedbf16_S256x2048_S256x256_0_0) (fun _ => rfl)) (.inl rfl))
      have v239 : FVec F S256 .bf16 := multiReduction .maximumf [0] S256 v235 0xFF80#16 reduces_S256x256_S256 (.inr rfl) rfl
      have v240 : FVec F S1x256 .bf16 := shapeCast S1x256 v239 shapeCasts_S256_S1x256
      have v241 : FVec F S1x256 .f32 := extf .f32 v240 bitsLt_bf16_f32
      let c6144_i32 : BitVec 32 := 6144#32
      let v242 : BitVec 32 := c6144_i32
      let v243 : Vec F S256x256 .bf16 ← Prog.lift (.load B.s0 (Rect.unit (s := S256x2048) ![0, 0] S256x256.size inb_S256x2048_S256x256_0_0).toLoadRect (View.loadsAt_vmem h_S256x256))
      have v244 : FVec F S256x256 .bf16 := exp2 v243
      let v266 : FVec F S1x256 .f32 ← k0_part156 i B.q B.hq B.k0 B.hk0 B.k1 B.hk1 B.v B.hv B.lam B.hlam B.o B.ho B.aug B.haug B.s0 B.hs0 B.s1 B.hs1 B.acc B.hacc v242 v244
      let x157 ← k0_part157 i B.q B.hq B.k0 B.hk0 B.k1 B.hk1 B.v B.hv B.lam B.hlam B.o B.ho B.aug B.haug B.s0 B.hs0 B.s1 B.hs1 B.acc B.hacc
      let x158 ← k0_part158 i B.q B.hq B.k0 B.hk0 B.k1 B.hk1 B.v B.hv B.lam B.hlam B.o B.ho B.aug B.haug B.s0 B.hs0 B.s1 B.hs1 B.acc B.hacc x157.2
      let v366 : FVec F S1x256 .f32 ← k0_part159 i B.q B.hq B.k0 B.hk0 B.k1 B.hk1 B.v B.hv B.lam B.hlam B.o B.ho B.aug B.haug B.s0 B.hs0 B.s1 B.hs1 B.acc B.hacc x158.2.2.1 x158.2.2.2
      let x160 ← k0_part160 i B.q B.hq B.k0 B.hk0 B.k1 B.hk1 B.v B.hv B.lam B.hlam B.o B.ho B.aug B.haug B.s0 B.hs0 B.s1 B.hs1 B.acc B.hacc
      let x161 ← k0_part161 i B.q B.hq B.k0 B.hk0 B.k1 B.hk1 B.v B.hv B.lam B.hlam B.o B.ho B.aug B.haug B.s0 B.hs0 B.s1 B.hs1 B.acc B.hacc c.1 c.2.1 c.2.2.1 c.2.2.2 v218 v241 v266 x157.1 x158.1 x158.2.1 v366 x160.1 x160.2
      let x162 ← k0_part162 i B.q B.hq B.k0 B.hk0 B.k1 B.hk1 B.v B.hv B.lam B.hlam B.o B.ho B.aug B.haug B.s0 B.hs0 B.s1 B.hs1 B.acc B.hacc x161.2.2.2.1 x161.2.2.2.2.2
      let x163 ← k0_part163 i B.q B.hq B.k0 B.hk0 B.k1 B.hk1 B.v B.hv B.lam B.hlam B.o B.ho B.aug B.haug B.s0 B.hs0 B.s1 B.hs1 B.acc B.hacc x161.2.2.2.1 x162.2
      let x164 ← k0_part164 i B.q B.hq B.k0 B.hk0 B.k1 B.hk1 B.v B.hv B.lam B.hlam B.o B.ho B.aug B.haug B.s0 B.hs0 B.s1 B.hs1 B.acc B.hacc x161.2.2.2.1 x163.2.1 x163.2.2
      let x165 ← k0_part165 i B.q B.hq B.k0 B.hk0 B.k1 B.hk1 B.v B.hv B.lam B.hlam B.o B.ho B.aug B.haug B.s0 B.hs0 B.s1 B.hs1 B.acc B.hacc x161.2.2.2.1
      let x166 ← k0_part166 i B.q B.hq B.k0 B.hk0 B.k1 B.hk1 B.v B.hv B.lam B.hlam B.o B.ho B.aug B.haug B.s0 B.hs0 B.s1 B.hs1 B.acc B.hacc x161.2.2.2.1 x165.2
      let x167 ← k0_part167 i B.q B.hq B.k0 B.hk0 B.k1 B.hk1 B.v B.hv B.lam B.hlam B.o B.ho B.aug B.haug B.s0 B.hs0 B.s1 B.hs1 B.acc B.hacc v218 x161.1 x161.2.1 x161.2.2.1 x161.2.2.2.1 x161.2.2.2.2.1 x162.1 x163.1 x164.1 x164.2 x165.1 x166.1 x166.2
      let x168 ← k0_part168 i B.q B.hq B.k0 B.hk0 B.k1 B.hk1 B.v B.hv B.lam B.hlam B.o B.ho B.aug B.haug B.s0 B.hs0 B.s1 B.hs1 B.acc B.hacc x167.2.2.2.1 x167.2.2.2.2.1 x167.2.2.2.2.2
      let x169 ← k0_part169 i B.q B.hq B.k0 B.hk0 B.k1 B.hk1 B.v B.hv B.lam B.hlam B.o B.ho B.aug B.haug B.s0 B.hs0 B.s1 B.hs1 B.acc B.hacc x168.2.2
      let x170 ← k0_part170 i B.q B.hq B.k0 B.hk0 B.k1 B.hk1 B.v B.hv B.lam B.hlam B.o B.ho B.aug B.haug B.s0 B.hs0 B.s1 B.hs1 B.acc B.hacc x169.2
      let x171 ← k0_part171 i B.q B.hq B.k0 B.hk0 B.k1 B.hk1 B.v B.hv B.lam B.hlam B.o B.ho B.aug B.haug B.s0 B.hs0 B.s1 B.hs1 B.acc B.hacc x170.2
      let x172 ← k0_part172 i B.q B.hq B.k0 B.hk0 B.k1 B.hk1 B.v B.hv B.lam B.hlam B.o B.ho B.aug B.haug B.s0 B.hs0 B.s1 B.hs1 B.acc B.hacc x171.2.2
      let x173 ← k0_part173 i B.q B.hq B.k0 B.hk0 B.k1 B.hk1 B.v B.hv B.lam B.hlam B.o B.ho B.aug B.haug B.s0 B.hs0 B.s1 B.hs1 B.acc B.hacc v218 x167.1 x167.2.1 x167.2.2.1 x168.1 x168.2.1 x169.1 x170.1 x171.1 x171.2.1 x172.1 x172.2
      let x174 ← k0_part174 i B.q B.hq B.k0 B.hk0 B.k1 B.hk1 B.v B.hv B.lam B.hlam B.o B.ho B.aug B.haug B.s0 B.hs0 B.s1 B.hs1 B.acc B.hacc x173.2.2.2
      let x175 ← k0_part175 i B.q B.hq B.k0 B.hk0 B.k1 B.hk1 B.v B.hv B.lam B.hlam B.o B.ho B.aug B.haug B.s0 B.hs0 B.s1 B.hs1 B.acc B.hacc x174.2.2
      let x176 ← k0_part176 i B.q B.hq B.k0 B.hk0 B.k1 B.hk1 B.v B.hv B.lam B.hlam B.o B.ho B.aug B.haug B.s0 B.hs0 B.s1 B.hs1 B.acc B.hacc x175.2
      let x177 ← k0_part177 i B.q B.hq B.k0 B.hk0 B.k1 B.hk1 B.v B.hv B.lam B.hlam B.o B.ho B.aug B.haug B.s0 B.hs0 B.s1 B.hs1 B.acc B.hacc x176.2
      let x178 ← k0_part178 i B.q B.hq B.k0 B.hk0 B.k1 B.hk1 B.v B.hv B.lam B.hlam B.o B.ho B.aug B.haug B.s0 B.hs0 B.s1 B.hs1 B.acc B.hacc x177.2.2
      let x179 ← k0_part179 i B.q B.hq B.k0 B.hk0 B.k1 B.hk1 B.v B.hv B.lam B.hlam B.o B.ho B.aug B.haug B.s0 B.hs0 B.s1 B.hs1 B.acc B.hacc v218 x173.1 x173.2.1 x173.2.2.1 x174.1 x174.2.1 x175.1 x176.1 x177.1 x177.2.1 x178.1 x178.2
      let x180 ← k0_part180 i B.q B.hq B.k0 B.hk0 B.k1 B.hk1 B.v B.hv B.lam B.hlam B.o B.ho B.aug B.haug B.s0 B.hs0 B.s1 B.hs1 B.acc B.hacc x179.2.2.2
      let x181 ← k0_part181 i B.q B.hq B.k0 B.hk0 B.k1 B.hk1 B.v B.hv B.lam B.hlam B.o B.ho B.aug B.haug B.s0 B.hs0 B.s1 B.hs1 B.acc B.hacc x180.2.2
      let x182 ← k0_part182 i B.q B.hq B.k0 B.hk0 B.k1 B.hk1 B.v B.hv B.lam B.hlam B.o B.ho B.aug B.haug B.s0 B.hs0 B.s1 B.hs1 B.acc B.hacc x181.2
      let x183 ← k0_part183 i B.q B.hq B.k0 B.hk0 B.k1 B.hk1 B.v B.hv B.lam B.hlam B.o B.ho B.aug B.haug B.s0 B.hs0 B.s1 B.hs1 B.acc B.hacc
      let x184 ← k0_part184 i B.q B.hq B.k0 B.hk0 B.k1 B.hk1 B.v B.hv B.lam B.hlam B.o B.ho B.aug B.haug B.s0 B.hs0 B.s1 B.hs1 B.acc B.hacc x183.2
      let x185 ← k0_part185 i B.q B.hq B.k0 B.hk0 B.k1 B.hk1 B.v B.hv B.lam B.hlam B.o B.ho B.aug B.haug B.s0 B.hs0 B.s1 B.hs1 B.acc B.hacc v218 x179.1 x179.2.1 x179.2.2.1 x180.1 x180.2.1 x181.1 x182.1 x182.2 x183.1 x184.1 x184.2.1 x184.2.2.1 x184.2.2.2
      let x186 ← k0_part186 i B.q B.hq B.k0 B.hk0 B.k1 B.hk1 B.v B.hv B.lam B.hlam B.o B.ho B.aug B.haug B.s0 B.hs0 B.s1 B.hs1 B.acc B.hacc
      let x187 ← k0_part187 i B.q B.hq B.k0 B.hk0 B.k1 B.hk1 B.v B.hv B.lam B.hlam B.o B.ho B.aug B.haug B.s0 B.hs0 B.s1 B.hs1 B.acc B.hacc x186.2
      let x188 ← k0_part188 i B.q B.hq B.k0 B.hk0 B.k1 B.hk1 B.v B.hv B.lam B.hlam B.o B.ho B.aug B.haug B.s0 B.hs0 B.s1 B.hs1 B.acc B.hacc x187.2.1 x187.2.2.1 x187.2.2.2
      let x189 ← k0_part189 i B.q B.hq B.k0 B.hk0 B.k1 B.hk1 B.v B.hv B.lam B.hlam B.o B.ho B.aug B.haug B.s0 B.hs0 B.s1 B.hs1 B.acc B.hacc x188.2.2
      let x190 ← k0_part190 i B.q B.hq B.k0 B.hk0 B.k1 B.hk1 B.v B.hv B.lam B.hlam B.o B.ho B.aug B.haug B.s0 B.hs0 B.s1 B.hs1 B.acc B.hacc x189.2
      let x191 ← k0_part191 i B.q B.hq B.k0 B.hk0 B.k1 B.hk1 B.v B.hv B.lam B.hlam B.o B.ho B.aug B.haug B.s0 B.hs0 B.s1 B.hs1 B.acc B.hacc v218 x185.1 x185.2.1 x185.2.2.1 x185.2.2.2 x186.1 x187.1 x188.1 x188.2.1 x189.1 x190.1 x190.2
      let x192 ← k0_part192 i B.q B.hq B.k0 B.hk0 B.k1 B.hk1 B.v B.hv B.lam B.hlam B.o B.ho B.aug B.haug B.s0 B.hs0 B.s1 B.hs1 B.acc B.hacc x191.2.2.2.2
      let x193 ← k0_part193 i B.q B.hq B.k0 B.hk0 B.k1 B.hk1 B.v B.hv B.lam B.hlam B.o B.ho B.aug B.haug B.s0 B.hs0 B.s1 B.hs1 B.acc B.hacc x192.2
      let x194 ← k0_part194 i B.q B.hq B.k0 B.hk0 B.k1 B.hk1 B.v B.hv B.lam B.hlam B.o B.ho B.aug B.haug B.s0 B.hs0 B.s1 B.hs1 B.acc B.hacc x193.2
      let x195 ← k0_part195 i B.q B.hq B.k0 B.hk0 B.k1 B.hk1 B.v B.hv B.lam B.hlam B.o B.ho B.aug B.haug B.s0 B.hs0 B.s1 B.hs1 B.acc B.hacc x194.2.2
      let x196 ← k0_part196 i B.q B.hq B.k0 B.hk0 B.k1 B.hk1 B.v B.hv B.lam B.hlam B.o B.ho B.aug B.haug B.s0 B.hs0 B.s1 B.hs1 B.acc B.hacc x195.2
      let x197 ← k0_part197 i B.q B.hq B.k0 B.hk0 B.k1 B.hk1 B.v B.hv B.lam B.hlam B.o B.ho B.aug B.haug B.s0 B.hs0 B.s1 B.hs1 B.acc B.hacc v218 x191.1 x191.2.1 x191.2.2.1 x191.2.2.2.1 x192.1 x193.1 x194.1 x194.2.1 x195.1 x196.1 x196.2
      let v1731 : BitVec 32 ← k0_part198 i B.q B.hq B.k0 B.hk0 B.k1 B.hk1 B.v B.hv B.lam B.hlam B.o B.ho B.aug B.haug B.s0 B.hs0 B.s1 B.hs1 B.acc B.hacc x197.2.2.2
      let v1763 : FVec F S144x256 .f32 ← k0_part199 i B.q B.hq B.k0 B.hk0 B.k1 B.hk1 B.v B.hv B.lam B.hlam B.o B.ho B.aug B.haug B.s0 B.hs0 B.s1 B.hs1 B.acc B.hacc v1731
      let v1764 : Vec F S144x256 .f32 ← Prog.lift (.load B.acc (Rect.unit (s := S144x2048) ![0, 1536] S144x256.size inb_S144x2048_S144x256_0_1536).toLoadRect (View.loadsAt_vmem h_S144x256))
      have v1766 : FVec F S144x256 .f32 := shapeCast S144x256 v1763 shapeCasts_S144x256_S144x256
      Prog.lift (.store B.acc (Rect.unit (s := S144x2048) ![0, 1536] S144x256.size inb_S144x2048_S144x256_0_1536) v1766 Finset.univ (View.stores_vmem_bits_univ h_S144x256 rfl) (.inl rfl))
      let v1768 : Vec F S256x256 .bf16 ← Prog.lift (.load B.s1 (Rect.unit (s := S256x2048) ![0, 1792] S256x256.size inb_S256x2048_S256x256_0_1792).toLoadRect (View.loadsAt_vmem h_S256x256))
      have v1769 : FVec F S256x256 .bf16 := exp2 v1768
      let v1771 : Vec F S144x256 .bf16 ← Prog.lift (.load B.v (Rect.unit (s := S144x8192) ![0, 7936] S144x256.size inb_S144x8192_S144x256_0_7936).toLoadRect (View.loadsAt_vmem h_S144x256))
      have v1772 : FVec F S144x256 .bf16 := shapeCast S144x256 v1771 shapeCasts_S144x256_S144x256
      have cst_1142 : FVec F S144x256 .f32 := constant S144x256 .f32 0x00000000#32
      have v1773 : FVec F S144x256 .f32 := matmul dot_S144x256_S256x256_S144x256_1_0_0_1_n_n none v1772 v1769 cst_1142
      let v1774 : Vec F S144x256 .f32 ← Prog.lift (.load B.acc (Rect.unit (s := S144x2048) ![0, 1792] S144x256.size inb_S144x2048_S144x256_0_1792).toLoadRect (View.loadsAt_vmem h_S144x256))
      have v1775 : FVec F S144x256 .f32 := addf v1774 v1773
      let v1776 : Vec F S144x256 .f32 ← Prog.lift (.load B.acc (Rect.unit (s := S144x2048) ![0, 1792] S144x256.size inb_S144x2048_S144x256_0_1792).toLoadRect (View.loadsAt_vmem h_S144x256))
      have v1778 : FVec F S144x256 .f32 := shapeCast S144x256 v1775 shapeCasts_S144x256_S144x256
      Prog.lift (.store B.acc (Rect.unit (s := S144x2048) ![0, 1792] S144x256.size inb_S144x2048_S144x256_0_1792) v1778 Finset.univ (View.stores_vmem_bits_univ h_S144x256 rfl) (.inl rfl))
      have v1779 : FVec F S1x2048 .f32 := addf v218 x197.1
      have v1780 : FVec F S1x2048 .f32 := maximumf x197.2.1 v1779
      have v1781 : FVec F S1x2048 .f32 := maximumf x197.2.2.1 x197.1
      have v1782 : FVec F S1x1x2048 .f32 := shapeCast S1x1x2048 v1781 shapeCasts_S1x2048_S1x1x2048
      have v1783 : FVec F S1 .f32 := multiReduction .maximumf [1, 2] S1 v1782 0xFF800000#32 reduces_S1x1x2048_S1 (.inl rfl) rfl
      have v1784 : FVec F S1x1x1 .f32 := shapeCast S1x1x1 v1783 shapeCasts_S1_S1x1x1
      have v1785 : F .f32 := extractAt ![0, 0, 0] v1784 inpos_S1x1x1_p0_0_0
      have cst_1148 : F .f32 := Scalar.ofBits .f32 0x42C80000#32
      let v1786 : BitVec 1 := Scalar.cmpf .ogt v1785 cst_1148
      let v1787 : BitVec 32 := Scalar.extui v1786
      let c0_i32_1149 : BitVec 32 := 0#32
      let v1788 : BitVec 1 := Scalar.cmpi .ne v1787 c0_i32_1149
      pure (v1780, v1788) : Body F (FVec F S1x2048 .f32 × BitVec 1)) =
  (tail B c >>= fun r => pure (r.1, tooHigh r.2)) := by
  chain_rfl

/-- The second sweep as far as its loop. -/
theorem piece_again (B : Bufs) (i : grid0.Coords) (v1780 : FVec F S1x2048 .f32) : (do
      let x104 ← k0_part104 i B.q B.hq B.k0 B.hk0 B.k1 B.hk1 B.v B.hv B.lam B.hlam B.o B.ho B.aug B.haug B.s0 B.hs0 B.s1 B.hs1 B.acc B.hacc (cmpi .eq (iota .tc S16x2048 32 [0] iota_S16x2048_d0_w32) (broadcast S16x2048 0#32)) v1780
      let x105 ← k0_part105 i B.q B.hq B.k0 B.hk0 B.k1 B.hk1 B.v B.hv B.lam B.hlam B.o B.ho B.aug B.haug B.s0 B.hs0 B.s1 B.hs1 B.acc B.hacc x104.2.2
      let x106 ← k0_part106 i B.q B.hq B.k0 B.hk0 B.k1 B.hk1 B.v B.hv B.lam B.hlam B.o B.ho B.aug B.haug B.s0 B.hs0 B.s1 B.hs1 B.acc B.hacc x105.2.2.2
      let v1939 : Vec F S256x128 .bf16 ← Prog.lift (.load B.k1 (Rect.unit (s := S8192x128) ![0, 0] S256x128.size inb_S8192x128_S256x128_0_0).toLoadRect (View.loadsAt_vmem h_S256x128))
      have v1940 : FVec F S256x128 .bf16 := shapeCast S256x128 v1939 shapeCasts_S256x128_S256x128
      let v1941 : Vec F S128x256 .bf16 ← Prog.lift (.load B.aug (Rect.unit (s := S128x2048) ![0, 1792] S128x256.size inb_S128x2048_S128x256_0_1792).toLoadRect (View.loadsAt_vmem h_S128x256))
      have cst_1230 : FVec F S256x256 .f32 := constant S256x256 .f32 0x00000000#32
      have v1942 : FVec F S256x256 .f32 := matmul dot_S256x128_S128x256_S256x256_1_0_0_1_n_n none v1940 v1941 cst_1230
      have v1943 : FVec F S256x256 .bf16 := truncf .bf16 v1942 bitsLt_bf16_f32
      let v1944 : Vec F S256x256 .bf16 ← Prog.lift (.load B.s0 (Rect.unit (s := S256x2048) ![0, 1792] S256x256.size inb_S256x2048_S256x256_0_1792).toLoadRect (View.loadsAt_vmem h_S256x256))
      have v1946 : FVec F S256x256 .bf16 := shapeCast S256x256 v1943 shapeCasts_S256x256_S256x256
      Prog.lift (.store B.s0 (Rect.unit (s := S256x2048) ![0, 1792] S256x256.size inb_S256x2048_S256x256_0_1792) v1946 Finset.univ (View.stores_vmem h_S256x256 (B.hs0.storeExact_slice rfl _ packedbf16_S256x2048_S256x256_0_1792) (fun _ => rfl)) (.inl rfl))
      have v1947 : FVec F S256 .bf16 := multiReduction .maximumf [0] S256 v1943 0xFF80#16 reduces_S256x256_S256 (.inr rfl) rfl
      have v1948 : FVec F S1x256 .bf16 := shapeCast S1x256 v1947 shapeCasts_S256_S1x256
      have v1949 : FVec F S1x256 .f32 := extf .f32 v1948 bitsLt_bf16_f32
      have v1950 : FVec F S1x2048 .f32 := concatenate S1x2048 1 [⟨S1x256, x104.2.1⟩, ⟨S1x256, x105.1⟩, ⟨S1x256, x105.2.1⟩, ⟨S1x256, x105.2.2.1⟩, ⟨S1x256, x106.1⟩, ⟨S1x256, x106.2.1⟩, ⟨S1x256, x106.2.2.1⟩, ⟨S1x256, v1949⟩] concatenates_S1x256_S1x256_S1x256_S1x256_S1x256_S1x256_S1x256_S1x256_S1x2048_d1
      loop2 B (x104.1, v1950, v1780) : Body F (FVec F S1x2048 .f32 × FVec F S1x2048 .f32 × FVec F S1x2048 .f32)) =
  (head B v1780 >>= fun m => loop2 B (rnd v1780, m, v1780)) := by
  chain_rfl

/-- The second sweep from its loop on. -/
theorem piece_rest (B : Bufs) (i : grid0.Coords) (r : FVec F S1x2048 .f32 × FVec F S1x2048 .f32 × FVec F S1x2048 .f32) : (do
      have v1953 : FVec F S1x2048 .bf16 := truncf .bf16 r.2.2 bitsLt_bf16_f32
      have v1954 : FVec F S1x2048 .f32 := extf .f32 v1953 bitsLt_bf16_f32
      have cst_1238 : F .f32 := Scalar.ofBits .f32 0x00000000#32
      have v1955 : FVec F S1x2048 .f32 := broadcast S1x2048 cst_1238
      have v1956 : FVec F S1x2048 .f32 := subf v1955 v1954
      have cst_1239 : F .f32 := Scalar.ofBits .f32 0x00000000#32
      have v1957 : FVec F S1x2048 .f32 := shapeCast S1x2048 v1956 shapeCasts_S1x2048_S1x2048
      have v1958 : FVec F S16x2048 .f32 := broadcastTo S16x2048 v1957 broadcasts_S1x2048_S16x2048
      have v1959 : FVec F S16x2048 .f32 := broadcast S16x2048 cst_1239
      have v1960 : FVec F S16x2048 .f32 := select (cmpi .eq (iota .tc S16x2048 32 [0] iota_S16x2048_d0_w32) (broadcast S16x2048 0#32)) v1958 v1959
      have v1961 : FVec F S16x2048 .bf16 := truncf .bf16 v1960 bitsLt_bf16_f32
      let v1962 : Vec F S16x2048 .bf16 ← Prog.lift (.load B.aug (Rect.unit (s := S128x2048) ![64, 0] S16x2048.size inb_S128x2048_S16x2048_64_0).toLoadRect (View.loadsAt_vmem h_S16x2048))
      have v1964 : FVec F S16x2048 .bf16 := shapeCast S16x2048 v1961 shapeCasts_S16x2048_S16x2048
      Prog.lift (.store B.aug (Rect.unit (s := S128x2048) ![64, 0] S16x2048.size inb_S128x2048_S16x2048_64_0) v1964 Finset.univ (View.stores_vmem h_S16x2048 (B.haug.storeExact_slice rfl _ packedbf16_S128x2048_S16x2048_64_0) (fun _ => rfl)) (.inl rfl))
      let v1967 : Vec F S256x128 .bf16 ← Prog.lift (.load B.k0 (Rect.unit (s := S8192x128) ![6400, 0] S256x128.size inb_S8192x128_S256x128_6400_0).toLoadRect (View.loadsAt_vmem h_S256x128))
      have v1968 : FVec F S256x128 .bf16 := shapeCast S256x128 v1967 shapeCasts_S256x128_S256x128
      let v1969 : Vec F S128x256 .bf16 ← Prog.lift (.load B.aug (Rect.unit (s := S128x2048) ![0, 0] S128x256.size inb_S128x2048_S128x256_0_0).toLoadRect (View.loadsAt_vmem h_S128x256))
      have cst_1246 : FVec F S256x256 .f32 := constant S256x256 .f32 0x00000000#32
      have v1970 : FVec F S256x256 .f32 := matmul dot_S256x128_S128x256_S256x256_1_0_0_1_n_n none v1968 v1969 cst_1246
      have v1971 : FVec F S256x256 .bf16 := truncf .bf16 v1970 bitsLt_bf16_f32
      let v1972 : Vec F S256x256 .bf16 ← Prog.lift (.load B.s1 (Rect.unit (s := S256x2048) ![0, 0] S256x256.size inb_S256x2048_S256x256_0_0).toLoadRect (View.loadsAt_vmem h_S256x256))
      let v2005 : FVec F S144x256 .f32 ← k0_part108 i B.q B.hq B.k0 B.hk0 B.k1 B.hk1 B.v B.hv B.lam B.hlam B.o B.ho B.aug B.haug B.s0 B.hs0 B.s1 B.hs1 B.acc B.hacc v1971 v1972
      let x109 ← k0_part109 i B.q B.hq B.k0 B.hk0 B.k1 B.hk1 B.v B.hv B.lam B.hlam B.o B.ho B.aug B.haug B.s0 B.hs0 B.s1 B.hs1 B.acc B.hacc v2005
      let v2071 : FVec F S144x256 .f32 ← k0_part110 i B.q B.hq B.k0 B.hk0 B.k1 B.hk1 B.v B.hv B.lam B.hlam B.o B.ho B.aug B.haug B.s0 B.hs0 B.s1 B.hs1 B.acc B.hacc x109.1 x109.2
      let x111 ← k0_part111 i B.q B.hq B.k0 B.hk0 B.k1 B.hk1 B.v B.hv B.lam B.hlam B.o B.ho B.aug B.haug B.s0 B.hs0 B.s1 B.hs1 B.acc B.hacc v2071
      let v2137 : FVec F S144x256 .f32 ← k0_part112 i B.q B.hq B.k0 B.hk0 B.k1 B.hk1 B.v B.hv B.lam B.hlam B.o B.ho B.aug B.haug B.s0 B.hs0 B.s1 B.hs1 B.acc B.hacc x111.1 x111.2
      let x113 ← k0_part113 i B.q B.hq B.k0 B.hk0 B.k1 B.hk1 B.v B.hv B.lam B.hlam B.o B.ho B.aug B.haug B.s0 B.hs0 B.s1 B.hs1 B.acc B.hacc r.1 v1954 v2137
      let x114 ← k0_part114 i B.q B.hq B.k0 B.hk0 B.k1 B.hk1 B.v B.hv B.lam B.hlam B.o B.ho B.aug B.haug B.s0 B.hs0 B.s1 B.hs1 B.acc B.hacc x113.1 x113.2.1 x113.2.2.1 x113.2.2.2
      let c6656_i32_1434 : BitVec 32 ← k0_part115 i B.q B.hq B.k0 B.hk0 B.k1 B.hk1 B.v B.hv B.lam B.hlam B.o B.ho B.aug B.haug B.s0 B.hs0 B.s1 B.hs1 B.acc B.hacc x113.1 x114.1 x114.2
      k0_part116 i B.q B.hq B.k0 B.hk0 B.k1 B.hk1 B.v B.hv B.lam B.hlam B.o B.ho B.aug B.haug B.s0 B.hs0 B.s1 B.hs1 B.acc B.hacc x113.1 c6656_i32_1434
      let x117 ← k0_part117 i B.q B.hq B.k0 B.hk0 B.k1 B.hk1 B.v B.hv B.lam B.hlam B.o B.ho B.aug B.haug B.s0 B.hs0 B.s1 B.hs1 B.acc B.hacc x113.1
      let x118 ← k0_part118 i B.q B.hq B.k0 B.hk0 B.k1 B.hk1 B.v B.hv B.lam B.hlam B.o B.ho B.aug B.haug B.s0 B.hs0 B.s1 B.hs1 B.acc B.hacc x113.1 x117.1 x117.2.1 x117.2.2
      let x119 ← k0_part119 i B.q B.hq B.k0 B.hk0 B.k1 B.hk1 B.v B.hv B.lam B.hlam B.o B.ho B.aug B.haug B.s0 B.hs0 B.s1 B.hs1 B.acc B.hacc x118.1 x118.2
      let x120 ← k0_part120 i B.q B.hq B.k0 B.hk0 B.k1 B.hk1 B.v B.hv B.lam B.hlam B.o B.ho B.aug B.haug B.s0 B.hs0 B.s1 B.hs1 B.acc B.hacc x119.1 x119.2.1 x119.2.2
      let x121 ← k0_part121 i B.q B.hq B.k0 B.hk0 B.k1 B.hk1 B.v B.hv B.lam B.hlam B.o B.ho B.aug B.haug B.s0 B.hs0 B.s1 B.hs1 B.acc B.hacc x120.1 x120.2
      let x122 ← k0_part122 i B.q B.hq B.k0 B.hk0 B.k1 B.hk1 B.v B.hv B.lam B.hlam B.o B.ho B.aug B.haug B.s0 B.hs0 B.s1 B.hs1 B.acc B.hacc x121.1 x121.2.1 x121.2.2
      let x123 ← k0_part123 i B.q B.hq B.k0 B.hk0 B.k1 B.hk1 B.v B.hv B.lam B.hlam B.o B.ho B.aug B.haug B.s0 B.hs0 B.s1 B.hs1 B.acc B.hacc x122.1 x122.2
      let x124 ← k0_part124 i B.q B.hq B.k0 B.hk0 B.k1 B.hk1 B.v B.hv B.lam B.hlam B.o B.ho B.aug B.haug B.s0 B.hs0 B.s1 B.hs1 B.acc B.hacc x123.1 x123.2.1 x123.2.2
      let x125 ← k0_part125 i B.q B.hq B.k0 B.hk0 B.k1 B.hk1 B.v B.hv B.lam B.hlam B.o B.ho B.aug B.haug B.s0 B.hs0 B.s1 B.hs1 B.acc B.hacc x124.1 x124.2
      let x126 ← k0_part126 i B.q B.hq B.k0 B.hk0 B.k1 B.hk1 B.v B.hv B.lam B.hlam B.o B.ho B.aug B.haug B.s0 B.hs0 B.s1 B.hs1 B.acc B.hacc x125.1 x125.2.1 x125.2.2
      let x127 ← k0_part127 i B.q B.hq B.k0 B.hk0 B.k1 B.hk1 B.v B.hv B.lam B.hlam B.o B.ho B.aug B.haug B.s0 B.hs0 B.s1 B.hs1 B.acc B.hacc x126.1 x126.2
      let x128 ← k0_part128 i B.q B.hq B.k0 B.hk0 B.k1 B.hk1 B.v B.hv B.lam B.hlam B.o B.ho B.aug B.haug B.s0 B.hs0 B.s1 B.hs1 B.acc B.hacc x127.1 x127.2.1 x127.2.2
      let x129 ← k0_part129 i B.q B.hq B.k0 B.hk0 B.k1 B.hk1 B.v B.hv B.lam B.hlam B.o B.ho B.aug B.haug B.s0 B.hs0 B.s1 B.hs1 B.acc B.hacc x128.1 x128.2
      let x130 ← k0_part130 i B.q B.hq B.k0 B.hk0 B.k1 B.hk1 B.v B.hv B.lam B.hlam B.o B.ho B.aug B.haug B.s0 B.hs0 B.s1 B.hs1 B.acc B.hacc x129.1 x129.2.1 x129.2.2
      let x131 ← k0_part131 i B.q B.hq B.k0 B.hk0 B.k1 B.hk1 B.v B.hv B.lam B.hlam B.o B.ho B.aug B.haug B.s0 B.hs0 B.s1 B.hs1 B.acc B.hacc x130.1 x130.2
      let x132 ← k0_part132 i B.q B.hq B.k0 B.hk0 B.k1 B.hk1 B.v B.hv B.lam B.hlam B.o B.ho B.aug B.haug B.s0 B.hs0 B.s1 B.hs1 B.acc B.hacc x131.1 x131.2.1 x131.2.2
      let x133 ← k0_part133 i B.q B.hq B.k0 B.hk0 B.k1 B.hk1 B.v B.hv B.lam B.hlam B.o B.ho B.aug B.haug B.s0 B.hs0 B.s1 B.hs1 B.acc B.hacc x132.1 x132.2
      let x134 ← k0_part134 i B.q B.hq B.k0 B.hk0 B.k1 B.hk1 B.v B.hv B.lam B.hlam B.o B.ho B.aug B.haug B.s0 B.hs0 B.s1 B.hs1 B.acc B.hacc x133.1 x133.2.1 x133.2.2
      let x135 ← k0_part135 i B.q B.hq B.k0 B.hk0 B.k1 B.hk1 B.v B.hv B.lam B.hlam B.o B.ho B.aug B.haug B.s0 B.hs0 B.s1 B.hs1 B.acc B.hacc x134.1 x134.2
      let x136 ← k0_part136 i B.q B.hq B.k0 B.hk0 B.k1 B.hk1 B.v B.hv B.lam B.hlam B.o B.ho B.aug B.haug B.s0 B.hs0 B.s1 B.hs1 B.acc B.hacc x135.1 x135.2.1 x135.2.2
      let x137 ← k0_part137 i B.q B.hq B.k0 B.hk0 B.k1 B.hk1 B.v B.hv B.lam B.hlam B.o B.ho B.aug B.haug B.s0 B.hs0 B.s1 B.hs1 B.acc B.hacc x136.1 x136.2
      let x138 ← k0_part138 i B.q B.hq B.k0 B.hk0 B.k1 B.hk1 B.v B.hv B.lam B.hlam B.o B.ho B.aug B.haug B.s0 B.hs0 B.s1 B.hs1 B.acc B.hacc x137.1 x137.2.1 x137.2.2
      let x139 ← k0_part139 i B.q B.hq B.k0 B.hk0 B.k1 B.hk1 B.v B.hv B.lam B.hlam B.o B.ho B.aug B.haug B.s0 B.hs0 B.s1 B.hs1 B.acc B.hacc x138.1 x138.2
      let x140 ← k0_part140 i B.q B.hq B.k0 B.hk0 B.k1 B.hk1 B.v B.hv B.lam B.hlam B.o B.ho B.aug B.haug B.s0 B.hs0 B.s1 B.hs1 B.acc B.hacc x139.1 x139.2.1 x139.2.2
      let x141 ← k0_part141 i B.q B.hq B.k0 B.hk0 B.k1 B.hk1 B.v B.hv B.lam B.hlam B.o B.ho B.aug B.haug B.s0 B.hs0 B.s1 B.hs1 B.acc B.hacc x140.1 x140.2
      let x142 ← k0_part142 i B.q B.hq B.k0 B.hk0 B.k1 B.hk1 B.v B.hv B.lam B.hlam B.o B.ho B.aug B.haug B.s0 B.hs0 B.s1 B.hs1 B.acc B.hacc x141.1 x141.2.1 x141.2.2
      let x143 ← k0_part143 i B.q B.hq B.k0 B.hk0 B.k1 B.hk1 B.v B.hv B.lam B.hlam B.o B.ho B.aug B.haug B.s0 B.hs0 B.s1 B.hs1 B.acc B.hacc x142.1 x142.2
      let x144 ← k0_part144 i B.q B.hq B.k0 B.hk0 B.k1 B.hk1 B.v B.hv B.lam B.hlam B.o B.ho B.aug B.haug B.s0 B.hs0 B.s1 B.hs1 B.acc B.hacc x143.1 x143.2.1 x143.2.2
      let x145 ← k0_part145 i B.q B.hq B.k0 B.hk0 B.k1 B.hk1 B.v B.hv B.lam B.hlam B.o B.ho B.aug B.haug B.s0 B.hs0 B.s1 B.hs1 B.acc B.hacc x144.1 x144.2
      let c7936_i32_2174 : BitVec 32 ← k0_part146 i B.q B.hq B.k0 B.hk0 B.k1 B.hk1 B.v B.hv B.lam B.hlam B.o B.ho B.aug B.haug B.s0 B.hs0 B.s1 B.hs1 B.acc B.hacc x145.1 x145.2
      let v3303 : FVec F S144x256 .f32 ← k0_part147 i B.q B.hq B.k0 B.hk0 B.k1 B.hk1 B.v B.hv B.lam B.hlam B.o B.ho B.aug B.haug B.s0 B.hs0 B.s1 B.hs1 B.acc B.hacc c7936_i32_2174
      let v3304 : Vec F S144x256 .f32 ← Prog.lift (.load B.acc (Rect.unit (s := S144x2048) ![0, 1536] S144x256.size inb_S144x2048_S144x256_0_1536).toLoadRect (View.loadsAt_vmem h_S144x256))
      have v3306 : FVec F S144x256 .f32 := shapeCast S144x256 v3303 shapeCasts_S144x256_S144x256
      Prog.lift (.store B.acc (Rect.unit (s := S144x2048) ![0, 1536] S144x256.size inb_S144x2048_S144x256_0_1536) v3306 Finset.univ (View.stores_vmem_bits_univ h_S144x256 rfl) (.inl rfl))
      let v3308 : Vec F S256x256 .bf16 ← Prog.lift (.load B.s1 (Rect.unit (s := S256x2048) ![0, 1792] S256x256.size inb_S256x2048_S256x256_0_1792).toLoadRect (View.loadsAt_vmem h_S256x256))
      have v3309 : FVec F S256x256 .bf16 := exp2 v3308
      let v3311 : Vec F S144x256 .bf16 ← Prog.lift (.load B.v (Rect.unit (s := S144x8192) ![0, 7936] S144x256.size inb_S144x8192_S144x256_0_7936).toLoadRect (View.loadsAt_vmem h_S144x256))
      have v3312 : FVec F S144x256 .bf16 := shapeCast S144x256 v3311 shapeCasts_S144x256_S144x256
      have cst_2205 : FVec F S144x256 .f32 := constant S144x256 .f32 0x00000000#32
      have v3313 : FVec F S144x256 .f32 := matmul dot_S144x256_S256x256_S144x256_1_0_0_1_n_n none v3312 v3309 cst_2205
      let v3314 : Vec F S144x256 .f32 ← Prog.lift (.load B.acc (Rect.unit (s := S144x2048) ![0, 1792] S144x256.size inb_S144x2048_S144x256_0_1792).toLoadRect (View.loadsAt_vmem h_S144x256))
      have v3315 : FVec F S144x256 .f32 := addf v3314 v3313
      let v3316 : Vec F S144x256 .f32 ← Prog.lift (.load B.acc (Rect.unit (s := S144x2048) ![0, 1792] S144x256.size inb_S144x2048_S144x256_0_1792).toLoadRect (View.loadsAt_vmem h_S144x256))
      have v3318 : FVec F S144x256 .f32 := shapeCast S144x256 v3315 shapeCasts_S144x256_S144x256
      Prog.lift (.store B.acc (Rect.unit (s := S144x2048) ![0, 1792] S144x256.size inb_S144x2048_S144x256_0_1792) v3318 Finset.univ (View.stores_vmem_bits_univ h_S144x256 rfl) (.inl rfl))
      pure ⟨⟩ : Body F (PUnit)) =
  (tail B (r.1, r.2.1, r.2.2, r.2.2) >>= fun _ => (pure PUnit.unit : Body F PUnit)) := by
  chain_rfl

/-- The body after its sweeps. -/
theorem piece_after (B : Bufs) : (do
      let v1789 : Vec F S4x64 .f32 ← Prog.lift (.load B.lam (Rect.unit (s := S4x64) ![0, 0] S4x64.size inb_S4x64_S4x64_0_0).toLoadRect (View.loadsAt_vmem h_S4x64))
      have v1790 : FVec F S1x64 .f32 := extractStridedSlice S1x64 ![0, 0] v1789 slices_S4x64_o0_0_S1x64
      have v1791 : FVec F S1x64 .f32 := extractStridedSlice S1x64 ![1, 0] v1789 slices_S4x64_o1_0_S1x64
      have v1792 : FVec F S1x64 .f32 := mulf v1790 v1791
      have v1793 : FVec F S1 .f32 := multiReduction .add [1] S1 v1792 0x00000000#32 reduces_S1x64_S1 (.inl rfl) rfl
      have v1794 : FVec F S1x1 .f32 := shapeCast S1x1 v1793 shapeCasts_S1_S1x1
      have v1795 : FVec F S1x1 .f32 := exp v1794
      have v1796 : FVec F S1x64 .f32 := extractStridedSlice S1x64 ![2, 0] v1789 slices_S4x64_o2_0_S1x64
      have v1797 : FVec F S1x64 .f32 := extractStridedSlice S1x64 ![3, 0] v1789 slices_S4x64_o3_0_S1x64
      have v1798 : FVec F S1x64 .f32 := mulf v1796 v1797
      have v1799 : FVec F S1 .f32 := multiReduction .add [1] S1 v1798 0x00000000#32 reduces_S1x64_S1 (.inl rfl) rfl
      have v1800 : FVec F S1x1 .f32 := shapeCast S1x1 v1799 shapeCasts_S1_S1x1
      have v1801 : FVec F S1x1 .f32 := exp v1800
      have v1802 : FVec F S1x1 .f32 := subf v1795 v1801
      have cst_1154 : F .f32 := Scalar.ofBits .f32 0x3E4CCCCD#32
      have v1803 : FVec F S1x1 .f32 := broadcast S1x1 cst_1154
      have v1804 : FVec F S1x1 .f32 := addf v1802 v1803
      let v1805 : Vec F S144x2048 .f32 ← Prog.lift (.load B.acc (Rect.unit (s := S144x2048) ![0, 0] S144x2048.size inb_S144x2048_S144x2048_0_0).toLoadRect (View.loadsAt_vmem h_S144x2048))
      have v1806 : FVec F S128x2048 .f32 := extractStridedSlice S128x2048 ![0, 0] v1805 slices_S144x2048_o0_0_S128x2048
      have v1807 : FVec F S1x2048 .f32 := extractStridedSlice S1x2048 ![128, 0] v1805 slices_S144x2048_o128_0_S1x2048
      have v1808 : FVec F S128x2048 .f32 := broadcastTo S128x2048 v1807 broadcasts_S1x2048_S128x2048
      have v1809 : FVec F S128x2048 .f32 := divf v1806 v1808
      have v1810 : FVec F S128x1024 .f32 := extractStridedSlice S128x1024 ![0, 0] v1809 slices_S128x2048_o0_0_S128x1024
      have v1811 : FVec F S128x1024 .f32 := extractStridedSlice S128x1024 ![0, 1024] v1809 slices_S128x2048_o0_1024_S128x1024
      have v1812 : FVec F S128x1024 .f32 := broadcastTo S128x1024 v1804 broadcasts_S1x1_S128x1024
      have v1813 : FVec F S128x1024 .f32 := mulf v1812 v1811
      have v1814 : FVec F S128x1024 .f32 := subf v1810 v1813
      have v1815 : FVec F S128x1024 .f32 := mulf v1814 v1814
      have v1816 : FVec F S1024 .f32 := multiReduction .add [0] S1024 v1815 0x00000000#32 reduces_S128x1024_S1024 (.inl rfl) rfl
      have v1817 : FVec F S1x1024 .f32 := shapeCast S1x1024 v1816 shapeCasts_S1024_S1x1024
      have cst_1158 : F .f32 := Scalar.ofBits .f32 0x43000000#32
      have v1818 : FVec F S1x1024 .f32 := broadcast S1x1024 cst_1158
      have v1819 : FVec F S1x1024 .f32 := divf v1817 v1818
      have cst_1159 : F .f32 := Scalar.ofBits .f32 0x358637BD#32
      have v1820 : FVec F S1x1024 .f32 := broadcast S1x1024 cst_1159
      have v1821 : FVec F S1x1024 .f32 := addf v1819 v1820
      have v1822 : FVec F S1x1024 .f32 := rsqrt v1821
      have v1823 : FVec F S128x1024 .f32 := broadcastTo S128x1024 v1822 broadcasts_S1x1024_S128x1024
      have v1824 : FVec F S128x1024 .f32 := mulf v1814 v1823
      have cst_1160 : F .f32 := Scalar.ofBits .f32 0x3F4CCCCD#32
      have v1825 : FVec F S128x1024 .f32 := broadcast S128x1024 cst_1160
      have v1826 : FVec F S128x1024 .f32 := mulf v1824 v1825
      have v1827 : FVec F S1024x128 .f32 := transpose S1024x128 [1, 0] v1826 transposes_S128x1024_p1_0_S1024x128
      have v1828 : FVec F S1024x128 .bf16 := truncf .bf16 v1827 bitsLt_bf16_f32
      let v1829 : Vec F S1024x128 .bf16 ← Prog.lift (.load B.o (Rect.unit (s := S1024x128) ![0, 0] S1024x128.size inb_S1024x128_S1024x128_0_0).toLoadRect (View.loadsAt_vmem h_S1024x128))
      Prog.lift (.store B.o (Rect.unit (s := S1024x128) ![0, 0] S1024x128.size inb_S1024x128_S1024x128_0_0) v1828 Finset.univ (View.stores_vmem h_S1024x128 (B.ho.storeExact_slice rfl _ packedbf16_S1024x128_S1024x128_0_0) (fun _ => rfl)) (.inl rfl))
      pure ⟨⟩ : Body F PUnit) = after B := by
  chain_rfl

/-- What follows a condition moves into both of its branches. -/
theorem cond_bind {α β : Type} {p : Prop} [Decidable p] (x y : Body F α) (k : α → Body F β) :
    (if p then x else y) >>= k = if p then x >>= k else y >>= k := by
  split <;> rfl

/-- The structured body with its pieces set apart. -/
theorem body_pieces (B : Bufs) : body (F := F) B =
    ((before B >>= fun t0 => head B t0 >>= fun m => loop1 B (rnd t0, m, t0, broadcast S1x2048 (Scalar.ofBits .f32 0x00000000#32))) >>= fun c =>
      (tail B c >>= fun r => pure (r.1, tooHigh r.2)) >>= fun r =>
      (if r.2 = 1#1 then ((head B r.1 >>= fun m => loop2 B (rnd r.1, m, r.1)) >>= fun r => tail B (r.1, r.2.1, r.2.2, r.2.2) >>= fun _ => (pure PUnit.unit : Body F PUnit))
        else (pure PUnit.unit : Body F PUnit)) >>= fun _ => after B) := by
  unfold body again
  simp only [bind_assoc, pure_bind]

set_option backward.isDefEq.respectTransparency false in
/-- The printed body is the structured one. -/
theorem body_eq (i : grid0.Coords) (B : Bufs) :
    cc0_attn_diff (F := F) i B.q B.hq B.k0 B.hk0 B.k1 B.hk1 B.v B.hv B.lam B.hlam B.o B.ho B.aug B.haug B.s0 B.hs0 B.s1 B.hs1 B.acc B.hacc = body B := by
  rw [body_pieces, ← piece_head B i]
  simp only [← piece_tail B i, ← piece_again B i, ← piece_rest B i]
  rw [← piece_after B]
  rw [shape, shape201]
  simp only [shape149, bind_assoc, pure_bind]
  simp only [shape155, bind_assoc, pure_bind]
  simp only [shape200, shape148, bind_assoc, pure_bind]
  simp only [shape107, bind_assoc, pure_bind]
  simp only [cond_bind, bind_assoc, pure_bind]

end Cert.DiffIdeal.Diff
-- ==== Proof.DiffSweep.lean ====
/-
  The differential attention body's run, step by step: each program of Struct.lean takes the buffers where the functions of Pure.lean say.
-/
module

public import proofs.«01_k».proof.Proof.DiffRuns
public import proofs.«01_k».proof.Proof.DiffShape

@[expose] public section

set_option maxRecDepth 16384

noncomputable section

namespace Cert.DiffIdeal.Diff

open Idealize.ShloMosaic Idealize.ShloMosaic.TcCoe
open Idealize.SL.Sem
open Cert.DiffIdeal Facts₀ Facts

variable {F : FTy → Type} [FloatOps F]
variable [Facts]
variable {B : Bufs} {c : Dev nD}

@[simp] theorem setS_q (σ : St F) (b X) : (σ.setS b X).q = σ.q := by cases b <;> rfl
@[simp] theorem setS_k (σ : St F) (b X) : (σ.setS b X).k = σ.k := by cases b <;> rfl
@[simp] theorem setS_lam (σ : St F) (b X) : (σ.setS b X).lam = σ.lam := by cases b <;> rfl
@[simp] theorem setS_v (σ : St F) (b X) : (σ.setS b X).v = σ.v := by cases b <;> rfl
@[simp] theorem setS_aug (σ : St F) (b X) : (σ.setS b X).aug = σ.aug := by cases b <;> rfl
@[simp] theorem setS_acc (σ : St F) (b X) : (σ.setS b X).acc = σ.acc := by cases b <;> rfl
@[simp] theorem setS_s (σ : St F) (b X) : (σ.setS b X).s b = X := by cases b <;> rfl
@[simp] theorem setS_s_not (σ : St F) (b X) : (σ.setS b X).s (!b) = σ.s (!b) := by cases b <;> rfl

/-! ## The programs that touch one tile -/

/-- A head's queries are stored where they go. -/
theorem fillHead_run (g : Fin 2) (P : St F → Prop) : Hoare B c P (fillHead B g)
    (fun _ σ' => ∃ σ, P σ ∧ σ' = { σ with aug := upd σ.aug (headAug g) (headQs σ.q g) }) := by
  unfold fillHead
  refine Hoare.bind (Hoare.load takes_q fun _ => rfl) fun x => Hoare.bind (Hoare.load takes_aug fun _ => rfl) fun _ => ?_
  refine (Hoare.store takes_aug).conseq (fun _ h => h) ?_
  rintro _ σ' ⟨σ, ⟨⟨hσ, rfl⟩, -⟩, rfl⟩
  exact ⟨σ, hσ, rfl⟩

/-- The padding is stored. -/
theorem fillPad_run (P : St F → Prop) : Hoare B c P (fillPad B)
    (fun _ σ' => ∃ σ, P σ ∧ σ' = { σ with aug := upd σ.aug padRect pads }) := by
  unfold fillPad
  refine Hoare.bind (Hoare.load takes_aug fun _ => rfl) fun _ => ?_
  refine (Hoare.store takes_aug).conseq (fun _ h => h) ?_
  rintro _ σ' ⟨σ, ⟨hσ, -⟩, rfl⟩
  exact ⟨σ, hσ, rfl⟩

/-- The reference's rows are stored. -/
theorem setRef_run (r : FVec F S1x2048 .f32) (P : St F → Prop) : Hoare B c P (setRef B r)
    (fun _ σ' => ∃ σ, P σ ∧ σ' = { σ with aug := upd σ.aug refRect (refs r) }) := by
  unfold setRef
  refine Hoare.bind (Hoare.load takes_aug fun _ => rfl) fun _ => ?_
  refine (Hoare.store takes_aug).conseq (fun _ h => h) ?_
  rintro _ σ' ⟨σ, ⟨hσ, -⟩, rfl⟩
  exact ⟨σ, hσ, rfl⟩

/-- The first look at one lane tile. -/
theorem first_run (t : Fin 8) (P : St F → Prop) : Hoare B c P (first B t) (fun a σ => P σ ∧ a = firstOf σ.k σ.aug t) := by
  unfold first
  refine Hoare.bind (Hoare.load (takes_k t) fun σ => setK_kb σ _) fun x => Hoare.bind (Hoare.load takes_aug fun _ => rfl) fun y => ?_
  refine Hoare.ret ?_
  rintro σ ⟨⟨hσ, rfl⟩, rfl⟩
  exact ⟨hσ, rfl⟩

/-- One lane tile's scores are stored. -/
theorem scores_run (b : Bool) (o : KOff) (t : Fin 8) (P : St F → Prop) : Hoare B c P (scores B b o t)
    (fun a σ' => ∃ σ, P σ ∧ a = maxTile (scoreOf σ.k σ.aug o t)
      ∧ σ' = σ.setS b (upd (σ.s b) (laneS t) (shapeCast S256x256 (scoreOf σ.k σ.aug o t) shapeCasts_S256x256_S256x256 : FVec F S256x256 .bf16))) := by
  unfold scores
  refine Hoare.bind (Hoare.load (takes_k t) fun σ => setK_kb σ _) fun x => Hoare.bind (Hoare.load takes_aug fun _ => rfl) fun y => ?_
  refine Hoare.bind (Hoare.load (takes_s b) fun _ => by cases b <;> rfl) fun _ => Hoare.bind (Hoare.store (takes_s b)) fun _ => ?_
  refine Hoare.ret ?_
  rintro σ' ⟨σ, ⟨⟨⟨hσ, rfl⟩, rfl⟩, -⟩, rfl⟩
  exact ⟨σ, hσ, rfl, rfl⟩

/-- One lane tile's scores are accumulated. -/
theorem accum_run (b : Bool) (o : VOff) (al : Option (FVec F S1x2048 .f32)) (t : Fin 8) (P : St F → Prop) : Hoare B c P (accum B b o al t)
    (fun _ σ' => ∃ σ, P σ ∧ σ' = { σ with acc := upd σ.acc (laneAcc t) (accT σ.v o al (σ.s b) σ.acc t) }) := by
  unfold accum
  refine Hoare.bind (Hoare.load (takes_s b) fun _ => by cases b <;> rfl) fun x => Hoare.bind (Hoare.load takes_v fun _ => rfl) fun y => ?_
  refine Hoare.bind (Hoare.load takes_acc fun _ => rfl) fun z => Hoare.bind (Hoare.load takes_acc fun _ => rfl) fun _ => ?_
  refine (Hoare.store takes_acc).conseq (fun _ h => h) ?_
  rintro _ σ' ⟨σ, ⟨⟨⟨⟨hσ, rfl⟩, rfl⟩, rfl⟩, -⟩, rfl⟩
  exact ⟨σ, hσ, rfl⟩

/-- An array replaced whole. -/
theorem upd_whole {S : Shape} {α : Type} (X : S.Idx → α) (r : Rect S) (w : r.shape.Idx → α) (W : S.Idx → α)
    (h : ∀ y, ∃ x, r.emb x = y ∧ w x = W y) : upd X r w = W := by
  funext y
  obtain ⟨x, rfl, hx⟩ := h y
  rw [upd_emb, hx]

/-- The accumulator is emptied. -/
theorem clear_run (P : St F → Prop) : Hoare B c P (clear B) (fun _ σ' => ∃ σ, P σ ∧ σ' = { σ with acc := acc0 }) := by
  unfold clear
  refine Hoare.bind (Hoare.load takes_acc fun _ => rfl) fun _ => ?_
  refine (Hoare.store takes_acc).conseq (fun _ h => h) ?_
  rintro _ σ' ⟨σ, ⟨hσ, -⟩, rfl⟩
  refine ⟨σ, hσ, ?_⟩
  dsimp only
  rw [upd_whole σ.acc _ _ acc0]
  intro y
  refine ⟨y, ?_, rfl⟩
  funext a
  apply Fin.ext
  refine (emb_val (S := S144x2048) (inb := inb_S144x2048_S144x2048_0_0) y a).trans ?_
  fin_cases a <;> exact Nat.zero_add _

/-- An array read whole. -/
theorem part_whole {S : Shape} {α : Type} (X : S.Idx → α) {off : Fin S.rank → Nat} {inb : ∀ a, off a + S.size a ≤ S.size a} (h : ∀ a, off a = 0) :
    (part X (Rect.unit (s := S) off S.size inb) : S.Idx → α) = X := by
  funext y
  refine congrArg X ?_
  funext a
  apply Fin.ext
  refine (emb_val (S := S) (inb := inb) y a).trans ?_
  rw [h a, Nat.zero_add]

/-- The result is stored. -/
theorem after_run (P : St F → Prop) : Hoare B c P (after B) (fun _ σ' => ∃ σ, P σ ∧ σ' = { σ with o := finish σ.acc σ.lam }) := by
  unfold after
  refine Hoare.bind (Hoare.load takes_lam fun _ => rfl) fun w => Hoare.bind (Hoare.load takes_acc fun _ => rfl) fun x => Hoare.bind (Hoare.load takes_o fun _ => rfl) fun _ => ?_
  refine (Hoare.store takes_o).conseq (fun _ h => h) ?_
  rintro _ σ' ⟨σ, ⟨⟨⟨hσ, rfl⟩, rfl⟩, -⟩, rfl⟩
  refine ⟨σ, hσ, ?_⟩
  have e : (part σ.acc (Rect.unit (s := S144x2048) ![0, 0] S144x2048.size inb_S144x2048_S144x2048_0_0) : FVec F S144x2048 .f32) = σ.acc :=
    part_whole (S := S144x2048) σ.acc (fun a => by fin_cases a <;> rfl)
  have e' : (part σ.lam (Rect.unit (s := S4x64) ![0, 0] S4x64.size inb_S4x64_S4x64_0_0) : FVec F S4x64 .f32) = σ.lam :=
    part_whole (S := S4x64) σ.lam (fun a => by fin_cases a <;> rfl)
  dsimp only
  rw [e, e', upd_whole σ.o _ _ (finish σ.acc σ.lam)]
  intro y
  refine ⟨y, ?_, rfl⟩
  funext a
  apply Fin.ext
  refine (emb_val (S := S1024x128) (inb := inb_S1024x128_S1024x128_0_0) y a).trans ?_
  fin_cases a <;> exact Nat.zero_add _

/-! ## Eight tiles -/

/-- Eight tiles in turn, an invariant kept from each to the next. -/
theorem tiles_run {p : Fin 8 → Body F (FVec F S1x256 .f32)} (I : Nat → St F → Prop) (m : Fin 8 → FVec F S1x256 .f32)
    (h : ∀ t : Fin 8, Hoare B c (I t.val) (p t) (fun a σ => a = m t ∧ I (t.val + 1) σ)) :
    Hoare B c (I 0) (tiles p) (fun a σ => a = cat8' (m 0) (m 1) (m 2) (m 3) (m 4) (m 5) (m 6) (m 7) ∧ I 8 σ) := by
  unfold tiles
  have pull : ∀ {β : Type} {e : FVec F S1x256 .f32} {P : St F → Prop} {k : FVec F S1x256 .f32 → Body F β} {Q : β → St F → Prop},
      Hoare B c P (k e) Q → ∀ a, Hoare B c (fun σ => a = e ∧ P σ) (k a) Q := by
    rintro β e P k Q hk a σ ⟨rfl, hσ⟩
    exact hk σ hσ
  refine Hoare.bind (h 0) (pull ?_)
  refine Hoare.bind (h 1) (pull ?_)
  refine Hoare.bind (h 2) (pull ?_)
  refine Hoare.bind (h 3) (pull ?_)
  refine Hoare.bind (h 4) (pull ?_)
  refine Hoare.bind (h 5) (pull ?_)
  refine Hoare.bind (h 6) (pull ?_)
  refine Hoare.bind (h 7) (pull ?_)
  exact Hoare.ret fun σ hσ => ⟨rfl, hσ⟩

variable (q : Vec F S128x1024 .bf16) (k : Keys F) (v : Vec F S144x8192 .bf16) (l : Vec F S4x64 .f32)

/-- The blocks are `q`, `k`, `v`, and the extended queries hold the queries and the padding. -/
def Filled (σ : St F) : Prop :=
  σ.q = q ∧ σ.k = k ∧ σ.v = v ∧ σ.lam = l ∧ (∀ g, part σ.aug (headAug g) = headQs q g) ∧ part σ.aug padRect = pads

/-- Besides, the extended queries are at reference `r`. -/
def At (r : FVec F S1x2048 .f32) (σ : St F) : Prop := Filled q k v l σ ∧ σ.aug = augOf q r

/-- Besides, score buffer `b` waits to be accumulated into the accumulator. -/
def Ok (b : Bool) (r : FVec F S1x2048 .f32) (cur : Vec F S256x2048 .bf16) (acc : Vec F S144x2048 .f32) (σ : St F) : Prop :=
  At q k v l r σ ∧ σ.s b = cur ∧ σ.acc = acc

variable {q k v l}

theorem At.hk {r : FVec F S1x2048 .f32} {σ : St F} (h : At q k v l r σ) : σ.k = k := h.1.2.1
theorem At.hv {r : FVec F S1x2048 .f32} {σ : St F} (h : At q k v l r σ) : σ.v = v := h.1.2.2.1
theorem At.setS {r : FVec F S1x2048 .f32} {σ : St F} {b X} (h : At q k v l r σ) : At q k v l r (σ.setS b X) := by
  cases b <;> exact h

theorem setAcc_s (σ : St F) (X) (b) : ({ σ with acc := X } : St F).s b = σ.s b := by cases b <;> rfl
theorem setAcc_acc (σ : St F) (X) : ({ σ with acc := X } : St F).acc = X := rfl
theorem setAug_aug (σ : St F) (X) : ({ σ with aug := X } : St F).aug = X := rfl
theorem At.setAcc {r : FVec F S1x2048 .f32} {σ : St F} {X} (h : At q k v l r σ) : At q k v l r { σ with acc := X } := h

/-- Eight tiles of scores. -/
theorem scores8_run (b : Bool) (o : KOff) (r : FVec F S1x2048 .f32) (acc : Vec F S144x2048 .f32) :
    Hoare B c (fun σ => At q k v l r σ ∧ σ.acc = acc) (tiles fun t => scores B b o t)
      (fun a σ => a = maxOf k (augOf q r) o ∧ Ok q k v l b r (scoresOf k (augOf q r) o) acc σ) := by
  refine (tiles_run (fun n σ => (At q k v l r σ ∧ σ.acc = acc) ∧ ∀ t : Fin 8, t.val < n → part (σ.s b) (laneS t)
      = (shapeCast S256x256 (scoreOf k (augOf q r) o t) shapeCasts_S256x256_S256x256 : FVec F S256x256 .bf16))
    (fun t => maxTile (scoreOf k (augOf q r) o t)) fun t => ?_).conseq (fun σ hσ => ⟨hσ, fun t ht => absurd ht (Nat.not_lt_zero _)⟩) ?_
  · refine (scores_run b o t _).conseq (fun _ h => h) ?_
    rintro a σ' ⟨σ, ⟨⟨hA, hacc⟩, hs⟩, rfl, e₁⟩
    have hA' : At q k v l r σ' := by rw [e₁]; exact hA.setS
    have hacc' : σ'.acc = acc := by rw [e₁, setS_acc, hacc]
    have hs' := congrArg (fun σ : St F => σ.s b) e₁
    simp only [setS_s, hA.hk, hA.2] at hs'
    rw [hA.hk, hA.2]
    refine ⟨rfl, ⟨hA', hacc'⟩, fun t' ht' => ?_⟩
    rw [hs']
    by_cases e : t = t'
    · subst e
      exact part_upd _ _ _
    · rw [part_upd_of_apart _ _ _ _ (apart_laneS e)]
      refine hs t' ?_
      have : t.val ≠ t'.val := fun h => e (Fin.ext h)
      omega
  · rintro a σ ⟨rfl, ⟨h, hacc⟩, hs⟩
    exact ⟨rfl, h, eq_glueS fun t => hs t t.isLt, hacc⟩

/-- One step. -/
theorem step_run (b : Bool) (ko : KOff) (vo : VOff) (al : Option (FVec F S1x2048 .f32)) (r : FVec F S1x2048 .f32)
    (cur : Vec F S256x2048 .bf16) (acc : Vec F S144x2048 .f32) :
    Hoare B c (Ok q k v l (!b) r cur acc) (step B b ko vo al)
      (fun a σ => a = maxOf k (augOf q r) ko ∧ Ok q k v l b r (scoresOf k (augOf q r) ko) (accOf v vo al cur acc) σ) := by
  unfold step
  refine (tiles_run (fun n σ => (At q k v l r σ ∧ σ.s (!b) = cur) ∧ (∀ t : Fin 8, t.val < n → part (σ.s b) (laneS t)
        = (shapeCast S256x256 (scoreOf k (augOf q r) ko t) shapeCasts_S256x256_S256x256 : FVec F S256x256 .bf16))
      ∧ (∀ t : Fin 8, t.val < n → part σ.acc (laneAcc t) = accT v vo al cur acc t)
      ∧ (∀ t : Fin 8, n ≤ t.val → part σ.acc (laneAcc t) = part acc (laneAcc t)))
    (fun t => maxTile (scoreOf k (augOf q r) ko t)) fun t => ?_).conseq
      (fun σ hσ => ⟨⟨hσ.1, hσ.2.1⟩, fun t ht => absurd ht (Nat.not_lt_zero _), fun t ht => absurd ht (Nat.not_lt_zero _), fun t _ => by rw [hσ.2.2]⟩) ?_
  · refine Hoare.bind (scores_run b ko t _) fun m => Hoare.bind (accum_run (!b) vo al t _) fun _ => Hoare.ret ?_
    rintro σ' ⟨σ₁, ⟨σ, ⟨⟨hA, hcur⟩, hs, hacc, hrest⟩, rfl, e₁⟩, e₂⟩
    have hA₁ : At q k v l r σ₁ := by rw [e₁]; exact hA.setS
    have hA' : At q k v l r σ' := by rw [e₂]; exact hA₁.setAcc
    have hc₁ : σ₁.s (!b) = cur := by rw [e₁, setS_s_not, hcur]
    have hc' : σ'.s (!b) = cur := by rw [e₂, setAcc_s, hc₁]
    have hs' : σ'.s b = σ₁.s b := by rw [e₂, setAcc_s]
    have hs₁ := congrArg (fun σ : St F => σ.s b) e₁
    simp only [setS_s, hA.hk, hA.2] at hs₁
    have ha₁ : σ₁.acc = σ.acc := by rw [e₁, setS_acc]
    have ha' := congrArg St.acc e₂
    simp only [ha₁, hA₁.hv, hc₁] at ha'
    clear e₁ e₂
    rw [hA.hk, hA.2]
    refine ⟨rfl, ⟨hA', hc'⟩, fun t' ht' => ?_, fun t' ht' => ?_, fun t' ht' => ?_⟩
    · rw [hs', hs₁]
      by_cases e : t = t'
      · subst e
        exact part_upd _ _ _
      · rw [part_upd_of_apart _ _ _ _ (apart_laneS e)]
        refine hs t' ?_
        have : t.val ≠ t'.val := fun h => e (Fin.ext h)
        omega
    · rw [ha']
      by_cases e : t = t'
      · subst e
        rw [part_upd]
        unfold accT
        rw [hrest t le_rfl]
      · rw [part_upd_of_apart _ _ _ _ (apart_laneAcc e)]
        refine hacc t' ?_
        have : t.val ≠ t'.val := fun h => e (Fin.ext h)
        omega
    · have e : t ≠ t' := fun h => by subst h; omega
      rw [ha', part_upd_of_apart _ _ _ _ (apart_laneAcc e)]
      exact hrest t' (by omega)
  · rintro a σ ⟨rfl, ⟨h, hcur⟩, hs, hacc, -⟩
    exact ⟨rfl, h, eq_glueS fun t => hs t t.isLt, eq_glueAcc fun t => hacc t t.isLt⟩

/-- The reference moves. -/
theorem setRef_at (r' : FVec F S1x2048 .f32) (J : St F → Prop) (hJ : ∀ σ X, J σ → J { σ with aug := X }) :
    Hoare B c (fun σ => Filled q k v l σ ∧ J σ) (setRef B r') (fun _ σ => At q k v l r' σ ∧ J σ) := by
  refine (setRef_run r' _).conseq (fun _ h => h) ?_
  rintro _ σ' ⟨σ, ⟨⟨hq, hk, hv, hl, hH, hP⟩, hj⟩, rfl⟩
  have hH' : ∀ g, part (upd σ.aug refRect (refs r')) (headAug g) = headQs q g := fun g => by
    rw [part_upd_of_apart _ _ _ _ (apart_ref_head g), hH]
  have hP' : part (upd σ.aug refRect (refs r')) padRect = pads := by
    rw [part_upd_of_apart _ _ _ _ apart_ref_pad, hP]
  exact ⟨⟨⟨hq, hk, hv, hl, hH', hP'⟩, eq_glueAug hH' (part_upd _ _ _) hP'⟩, hJ _ _ hj⟩

/-! ## Groups and sweeps -/

/-- The sweep stands at `w`, its scores in buffer `b`. -/
def Is (q : Vec F S128x1024 .bf16) (k : Keys F) (v : Vec F S144x8192 .bf16) (l : Vec F S4x64 .f32) (b : Bool) (w : Sw F) : St F → Prop :=
  Ok q k v l b w.c.1 w.cur w.acc

/-- The steps' numbers alternate, the first filling buffer `b`. -/
def Alt : Bool → List (Fin 8) → Prop
  | _, [] => True
  | b, u :: us => (u.val % 2 == 0) = b ∧ Alt (!b) us

/-- The buffer filled last. -/
def lastB : Bool → List (Fin 8) → Bool
  | b, [] => !b
  | b, _ :: us => lastB (!b) us

/-- Steps that keep the reference. -/
theorem plain_run (ko : Fin 8 → KOff) (vo : Fin 8 → VOff) : ∀ (us : List (Fin 8)) (b : Bool) (w : Sw F), Alt b us →
    Hoare B c (Is q k v l (!b) w) (plain B ko vo us w.c)
      (fun a σ => a = (Sw.plain q k v ko vo us w).c ∧ Is q k v l (lastB b us) (Sw.plain q k v ko vo us w) σ)
  | [], b, w, _ => Hoare.ret fun σ hσ => ⟨rfl, hσ⟩
  | u :: us, b, w, h => by
    unfold plain Sw.plain
    rw [h.1]
    refine Hoare.bind (step_run b (ko u) (vo u) none w.c.1 w.cur w.acc) fun m => ?_
    rintro σ ⟨rfl, hσ⟩
    have ih := plain_run ko vo us (!b) (Sw.step q k v w.c.1 (ko u) (vo u) none w) h.2
    rw [Bool.not_not] at ih
    exact ih σ hσ

/-- A group of steps, from scores in the buffer `false`. -/
theorem group_run (ko : Fin 8 → KOff) (vo : Fin 8 → VOff) (us : List (Fin 8)) (hus : Alt true us) (w : Sw F) :
    Hoare B c (Is q k v l false w) (group B ko vo us w.c)
      (fun a σ => a = (Sw.group q k v ko vo us w).c ∧ Is q k v l (lastB true us) (Sw.group q k v ko vo us w) σ) := by
  unfold group Sw.group
  refine Hoare.bind ((setRef_at (q := q) (k := k) (v := v) (l := l) (rnd w.c.2.2.1) (fun σ => σ.s false = w.cur ∧ σ.acc = w.acc)
    (fun _ _ h => h)).conseq (fun σ hσ => ⟨hσ.1.1, hσ.2⟩) (fun _ _ h => h)) fun _ => ?_
  refine Hoare.bind (step_run true (ko 0) (vo 0) none (rnd w.c.2.2.1) w.cur w.acc) fun m => ?_
  rintro σ ⟨rfl, hσ⟩
  revert σ
  refine Hoare.bind (step_run false (ko 1) (vo 1) _ (rnd w.c.2.2.1) _ _) fun m => ?_
  rintro σ ⟨rfl, hσ⟩
  exact plain_run ko vo us true (Sw.step q k v (rnd w.c.2.2.1) (ko 1) (vo 1) (some (exp2 (subf w.c.1 (rnd w.c.2.2.1))))
    (Sw.step q k v (rnd w.c.2.2.1) (ko 0) (vo 0) none w)) hus σ hσ

/-- A sweep's start. -/
theorem head_run (top over : FVec F S1x2048 .f32) :
    Hoare B c (Filled q k v l) (head B top) (fun a σ => a = (Sw.start q k top over).c.2.1 ∧ Is q k v l false (Sw.start q k top over) σ) := by
  unfold head
  refine Hoare.bind ((clear_run (Filled q k v l)).conseq (Q' := fun _ σ => Filled q k v l σ ∧ σ.acc = acc0) (fun _ h => h) ?_) fun _ => ?_
  · rintro _ σ' ⟨σ, hσ, rfl⟩
    exact ⟨hσ, rfl⟩
  refine Hoare.bind (setRef_at (q := q) (k := k) (v := v) (l := l) (rnd top) (fun σ => σ.acc = acc0) (fun _ _ h => h)) fun _ => ?_
  exact scores8_run false (kAt 0) (rnd top) acc0

/-- The last group and the last accumulation. -/
theorem tail_run (w : Sw F) : Hoare B c (Is q k v l false w) (tail B w.c)
    (fun a σ => a = (maximumf (Sw.tail q k v w).c.2.2.1 (addf (Sw.tail q k v w).c.1 (Sw.tail q k v w).c.2.1), maximumf (Sw.tail q k v w).c.2.2.2 (Sw.tail q k v w).c.2.1)
      ∧ Filled q k v l σ ∧ σ.acc = (Sw.tail q k v w).acc) := by
  unfold tail
  refine Hoare.bind (group_run _ _ [2, 3, 4, 5, 6] ⟨rfl, rfl, rfl, rfl, rfl, trivial⟩ w) fun a => ?_
  rintro σ ⟨rfl, hσ⟩
  revert σ
  unfold Sw.tail
  dsimp only
  generalize hw : Sw.group q k v (fun u => kAt ⟨(25 + u.val) % 32, Nat.mod_lt _ (by decide)⟩) (fun u => vAt ⟨(24 + u.val) % 32, Nat.mod_lt _ (by decide)⟩)
    [2, 3, 4, 5, 6] w = w'
  have one : ∀ t : Fin 8, Hoare B c
      (fun σ => (At q k v l w'.c.1 σ ∧ σ.s true = w'.cur) ∧ (∀ t' : Fin 8, t'.val < t.val → part σ.acc (laneAcc t') = accT v (vAt 31) none w'.cur w'.acc t')
        ∧ (∀ t' : Fin 8, t.val ≤ t'.val → part σ.acc (laneAcc t') = part w'.acc (laneAcc t')))
      (accum B true (vAt 31) none t)
      (fun _ σ => (At q k v l w'.c.1 σ ∧ σ.s true = w'.cur) ∧ (∀ t' : Fin 8, t'.val < t.val + 1 → part σ.acc (laneAcc t') = accT v (vAt 31) none w'.cur w'.acc t')
        ∧ (∀ t' : Fin 8, t.val + 1 ≤ t'.val → part σ.acc (laneAcc t') = part w'.acc (laneAcc t'))) := by
    intro t
    refine (accum_run true (vAt 31) none t _).conseq (fun _ h => h) ?_
    rintro _ σ' ⟨σ, ⟨⟨hA, hcur⟩, hacc, hrest⟩, e₁⟩
    have hA' : At q k v l w'.c.1 σ' := by rw [e₁]; exact hA.setAcc
    have hc' : σ'.s true = w'.cur := by rw [e₁, setAcc_s, hcur]
    have ha' := congrArg St.acc e₁
    simp only [hA.hv, hcur] at ha'
    clear e₁
    refine ⟨⟨hA', hc'⟩, fun t' ht' => ?_, fun t' ht' => ?_⟩
    · rw [ha']
      by_cases e : t = t'
      · subst e
        rw [part_upd]
        unfold accT
        rw [hrest t le_rfl]
      · rw [part_upd_of_apart _ _ _ _ (apart_laneAcc e)]
        refine hacc t' ?_
        have : t.val ≠ t'.val := fun h => e (Fin.ext h)
        omega
    · have e : t ≠ t' := fun h => by subst h; omega
      rw [ha', part_upd_of_apart _ _ _ _ (apart_laneAcc e)]
      exact hrest t' (by omega)
  refine Hoare.bind ((one 0).conseq (fun σ hσ => ⟨⟨hσ.1, hσ.2.1⟩, fun t ht => absurd ht (Nat.not_lt_zero _), fun t _ => by rw [hσ.2.2]⟩) (fun _ _ h => h)) fun _ => ?_
  refine Hoare.bind (one 1) fun _ => ?_
  refine Hoare.bind (one 2) fun _ => ?_
  refine Hoare.bind (one 3) fun _ => ?_
  refine Hoare.bind (one 4) fun _ => ?_
  refine Hoare.bind (one 5) fun _ => ?_
  refine Hoare.bind (one 6) fun _ => ?_
  refine Hoare.bind (one 7) fun _ => Hoare.ret ?_
  rintro σ ⟨⟨hA, -⟩, hacc, -⟩
  exact ⟨rfl, hA.1, eq_glueAcc fun t => hacc t t.isLt⟩

/-- A counted loop whose body takes each state to the next. -/
theorem for_run {α β : Type} {n : Nat} (body : Fin n → α → Body F α) (step : Fin n → β → β) (out : β → α) (I : β → St F → Prop)
    (h : ∀ i w, Hoare B c (I w) (body i (out w)) (fun a σ => a = out (step i w) ∧ I (step i w) σ)) :
    ∀ (l : List (Fin n)) (w : β), Hoare B c (I w) (Scf.forFrom body l (out w))
      (fun a σ => a = out (l.foldl (fun w i => step i w) w) ∧ I (l.foldl (fun w i => step i w) w) σ)
  | [], w => Hoare.ret fun σ hσ => ⟨rfl, hσ⟩
  | i :: l, w => by
    rw [Scf.forFrom_cons]
    refine Hoare.bind (h i w) fun a => ?_
    rintro σ ⟨rfl, hσ⟩
    exact for_run body step out I h l (step i w) σ hσ

/-- The first sweep's loop. -/
theorem loop1_run (w : Sw F) : Hoare B c (Is q k v l false w) (loop1 B w.c)
    (fun a σ => a = (Sw.loop1 q k v w).c ∧ Is q k v l false (Sw.loop1 q k v w) σ) := by
  unfold loop1 Scf.Loop.for
  rw [Scf.for_eq]
  exact for_run _ _ Sw.c (Is q k v l false) (fun i w => group_run _ _ [2, 3, 4, 5, 6, 7] ⟨rfl, rfl, rfl, rfl, rfl, rfl, trivial⟩ w) _ w

/-- The second sweep's loop. -/
theorem loop2_run (w : Sw F) : Hoare B c (Is q k v l false w) (loop2 B (w.c.1, w.c.2.1, w.c.2.2.1))
    (fun a σ => a = ((Sw.loop2 q k v w).c.1, (Sw.loop2 q k v w).c.2.1, (Sw.loop2 q k v w).c.2.2.1) ∧ Is q k v l false (Sw.loop2 q k v w) σ) := by
  unfold loop2 Scf.Loop.for
  rw [Scf.for_eq]
  refine for_run _ (fun i w => Sw.group q k v (fun u => ⟨k0_off3 i (BitVec.ofNat 32 u.val), k0_off3_inb i u⟩)
    (fun u => ⟨k0_off4 i (BitVec.ofNat 32 u.val), k0_off4_inb i u⟩) [2, 3, 4, 5, 6, 7] (Sw.reset w)) (fun w => (w.c.1, w.c.2.1, w.c.2.2.1)) (Is q k v l false) (fun i w => ?_) _ w
  refine Hoare.bind (group_run _ _ [2, 3, 4, 5, 6, 7] ⟨rfl, rfl, rfl, rfl, rfl, rfl, trivial⟩ (Sw.reset w)) fun a => Hoare.ret ?_
  rintro σ ⟨rfl, hσ⟩
  exact ⟨rfl, hσ⟩

set_option maxHeartbeats 4000000 in
/-- Before the sweeps. -/
theorem before_run : Hoare B c (fun σ => σ.q = q ∧ σ.k = k ∧ σ.v = v ∧ σ.lam = l) (before B)
    (fun a σ => a = topOf k (augOf q (broadcast S1x2048 (Scalar.ofBits .f32 0x00000000#32))) ∧ Filled q k v l σ) := by
  unfold before
  have fill : ∀ g : Fin 2, Hoare B c
      (fun σ => (σ.q = q ∧ σ.k = k ∧ σ.v = v ∧ σ.lam = l) ∧ ∀ g' : Fin 2, g'.val < g.val → part σ.aug (headAug g') = headQs q g')
      (fillHead B g)
      (fun _ σ => (σ.q = q ∧ σ.k = k ∧ σ.v = v ∧ σ.lam = l) ∧ ∀ g' : Fin 2, g'.val < g.val + 1 → part σ.aug (headAug g') = headQs q g') := by
    intro g
    refine (fillHead_run g _).conseq (fun _ h => h) ?_
    rintro _ σ' ⟨σ, ⟨h, hH⟩, e₁⟩
    have h' : σ'.q = q ∧ σ'.k = k ∧ σ'.v = v ∧ σ'.lam = l := by rw [e₁]; exact h
    have ha' := congrArg St.aug e₁
    simp only [h.1] at ha'
    clear e₁
    refine ⟨h', fun g' hg' => ?_⟩
    rw [ha']
    by_cases e : g = g'
    · subst e
      rw [part_upd]
    · rw [part_upd_of_apart _ _ _ _ (apart_headAug e)]
      refine hH g' ?_
      have : g.val ≠ g'.val := fun h => e (Fin.ext h)
      omega
  refine Hoare.bind ((fill 0).conseq (fun σ hσ => ⟨hσ, fun t ht => absurd ht (Nat.not_lt_zero _)⟩) (fun _ _ h => h)) fun _ => ?_
  refine Hoare.bind (fill 1) fun _ => ?_
  refine Hoare.bind ((fillPad_run _).conseq (Q' := fun _ σ => Filled q k v l σ ∧ True) (fun _ h => h) ?_) fun _ => ?_
  · rintro _ σ' ⟨σ, ⟨h, hH⟩, e₁⟩
    have h' : σ'.q = q ∧ σ'.k = k ∧ σ'.v = v ∧ σ'.lam = l := by rw [e₁]; exact h
    have ha' := congrArg St.aug e₁
    simp only at ha'
    clear e₁
    refine ⟨⟨h'.1, h'.2.1, h'.2.2.1, h'.2.2.2, fun g => ?_, ?_⟩, trivial⟩
    · rw [ha', part_upd_of_apart _ _ _ _ (apart_pad_head g)]
      exact hH g g.isLt
    · rw [ha', part_upd]
  refine Hoare.bind (setRef_at (q := q) (k := k) (v := v) (l := l) (broadcast S1x2048 (Scalar.ofBits .f32 0x00000000#32)) (fun _ => True) (fun _ _ h => h)) fun _ => ?_
  refine (tiles_run (fun _ σ => At q k v l (broadcast S1x2048 (Scalar.ofBits .f32 0x00000000#32)) σ)
    (firstOf k (augOf q (broadcast S1x2048 (Scalar.ofBits .f32 0x00000000#32)))) fun t => ?_).conseq (fun σ hσ => hσ.1) ?_
  · refine (first_run t _).conseq (fun _ h => h) ?_
    rintro a σ ⟨hA, rfl⟩
    rw [hA.hk, hA.2]
    exact ⟨rfl, hA⟩
  · rintro a σ ⟨rfl, hA⟩
    exact ⟨rfl, hA.1⟩

/-- The second sweep's end. -/
theorem tail2_run (w : Sw F) : Hoare B c (Is q k v l false w) (tail B (w.c.1, w.c.2.1, w.c.2.2.1, w.c.2.2.1) >>= fun _ => pure PUnit.unit)
    (fun _ σ => Filled q k v l σ ∧ σ.acc = (Sw.tail q k v (Sw.reset w)).acc) := by
  refine Hoare.bind (R := fun _ σ => Filled q k v l σ ∧ σ.acc = (Sw.tail q k v (Sw.reset w)).acc)
    ((tail_run (B := B) (c := c) (Sw.reset w)).conseq (fun σ h => (h : Ok q k v l false w.c.1 w.cur w.acc σ)) fun a σ h => h.2) fun _ => Hoare.ret fun σ h => h

/-- A known result is put in place. -/
theorem Hoare.pull {α β : Type} {e : α} {P : St F → Prop} {k : α → Body F β} {Q : β → St F → Prop}
    (hk : Hoare B c P (k e) Q) (a : α) : Hoare B c (fun σ => a = e ∧ P σ) (k a) Q := by
  rintro σ ⟨rfl, hσ⟩
  exact hk σ hσ

/-- The second sweep after its start. -/
theorem again2_run (w : Sw F) (w2 : Sw F) (x : FVec F S1x2048 .f32 × FVec F S1x2048 .f32 × FVec F S1x2048 .f32)
    (h1 : Hoare B c (Is q k v l false w) (loop2 B x) (fun a σ => a = (w2.c.1, w2.c.2.1, w2.c.2.2.1) ∧ Is q k v l false w2 σ)) :
    Hoare B c (Is q k v l false w) (loop2 B x >>= fun c => tail B (c.1, c.2.1, c.2.2, c.2.2) >>= fun _ => pure PUnit.unit)
      (fun _ σ => Filled q k v l σ ∧ σ.acc = (Sw.tail q k v (Sw.reset w2)).acc) :=
  Hoare.bind h1 (Hoare.pull (tail2_run w2))

/-- The second sweep. -/
theorem again_run (top : FVec F S1x2048 .f32) : Hoare B c (Filled q k v l) (again B top)
    (fun _ σ => Filled q k v l σ ∧ σ.acc = (Sw.tail q k v (Sw.reset (Sw.loop2 q k v (Sw.start q k top top)))).acc) := by
  unfold again
  exact Hoare.bind (head_run top top) (Hoare.pull (again2_run (Sw.start q k top top) (Sw.loop2 q k v (Sw.start q k top top)) _ (loop2_run (Sw.start q k top top))))

/-- The first sweep, from a top. -/
theorem sweep1_run (t0 o0 : FVec F S1x2048 .f32) (K : FVec F S1x2048 .f32 × FVec F S1x2048 .f32 → Body F PUnit) (Q : PUnit → St F → Prop)
    (hK : ∀ w : Sw F, w = Sw.tail q k v (Sw.loop1 q k v (Sw.start q k t0 o0)) →
      Hoare B c (fun σ => Filled q k v l σ ∧ σ.acc = w.acc) (K (maximumf w.c.2.2.1 (addf w.c.1 w.c.2.1), maximumf w.c.2.2.2 w.c.2.1)) Q) :
    Hoare B c (Filled q k v l) (head B t0 >>= fun m => loop1 B (rnd t0, m, t0, o0) >>= fun w => tail B w >>= K) Q := by
  refine Hoare.bind (head_run t0 o0) fun m => ?_
  rintro σ ⟨rfl, hσ⟩
  revert σ
  refine Hoare.bind (loop1_run (Sw.start q k t0 o0)) fun a => ?_
  rintro σ ⟨ha, hσ⟩
  generalize Sw.loop1 q k v (Sw.start q k t0 o0) = w1 at ha hσ hK
  subst ha
  revert σ
  refine Hoare.bind (tail_run w1) fun a => ?_
  generalize Sw.tail q k v w1 = w at hK
  rintro σ ⟨rfl, hσ⟩
  exact hK _ rfl σ hσ

/-- The whole body: it leaves the five input blocks as they were, and the output block at `outOf q k v l`. -/
theorem body_run : Hoare B c (fun σ => σ.q = q ∧ σ.k = k ∧ σ.v = v ∧ σ.lam = l) (body B)
    (fun _ σ => (σ.q = q ∧ σ.k = k ∧ σ.v = v ∧ σ.lam = l) ∧ σ.o = outOf q k v l) := by
  unfold body
  refine Hoare.bind before_run fun t0 => ?_
  rintro σ ⟨ht, hσ⟩
  revert σ
  have ho : outOf q k v l = outOf q k v l := rfl
  conv_rhs at ho => unfold outOf
  dsimp only at ho
  rw [← ht] at ho
  refine sweep1_run t0 _ _ _ fun w hw => ?_
  rw [← hw] at ho
  refine Hoare.bind (R := fun _ σ => Filled q k v l σ ∧ finish σ.acc l = outOf q k v l) ?_ fun _ => (after_run _).conseq (fun _ h => h) ?_
  · rw [ho]
    clear ho hw
    dsimp only
    split_ifs with h
    · refine (again_run _).conseq (fun σ hσ => hσ.1) ?_
      rintro _ σ ⟨hσ, hacc⟩
      exact ⟨hσ, by rw [hacc]⟩
    · exact Hoare.ret fun σ hσ => ⟨hσ.1, by rw [hσ.2]⟩
  · rintro _ σ' ⟨σ, ⟨hσ, h⟩, rfl⟩
    exact ⟨⟨hσ.1, hσ.2.1, hσ.2.2.1, hσ.2.2.2.1⟩, by rw [← h, hσ.2.2.2.1]⟩

end Cert.DiffIdeal.Diff
-- ==== Proof.DiffRun.lean ====
/-
  The differential attention call's run, over any values: the body's run at each grid point, the pipeline's proof data, the launch.
-/
module

public import Idealize.ShloMosaic.Lib.Claim
public import proofs.«01_k».proof.Proof.DiffSweep
public import proofs.«01_k».proof.Proof.Gen.DiffIdeal.Launch
public import proofs.«01_k».proof.Proof.Gen.DiffIdeal.Points
public import proofs.«01_k».proof.Proof.Gen.DiffIdeal.Frame

@[expose] public section

set_option maxRecDepth 16384

noncomputable section

namespace Cert.DiffIdeal.Diff

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)
open Cert.DiffIdeal Cert.DiffIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The ten buffers at a point. -/
def bufsAt (t : Fin cfg0.N) : Bufs where
  q := st0_0 t
  hq := hstage0_0 ((cfg0.slots t 0).cast nbuf0_0)
  k0 := st0_1 t
  hk0 := hstage0_1 ((cfg0.slots t 1).cast nbuf0_1)
  k1 := st0_2 t
  hk1 := hstage0_2 ((cfg0.slots t 2).cast nbuf0_2)
  v := st0_3 t
  hv := hstage0_3 ((cfg0.slots t 3).cast nbuf0_3)
  lam := st0_4 t
  hlam := hstage0_4 ((cfg0.slots t 4).cast nbuf0_4)
  o := st0_5 t
  ho := hstage0_5 ((cfg0.slots t 5).cast nbuf0_5)
  aug := Memref.whole cc0_scratch0
  haug := Memref.isWhole_whole _
  s0 := Memref.whole cc0_scratch1
  hs0 := Memref.isWhole_whole _
  s1 := Memref.whole cc0_scratch2
  hs1 := Memref.isWhole_whole _
  acc := Memref.whole cc0_scratch3
  hacc := Memref.isWhole_whole _

/-- The key blocks at a point, as each lane tile sees them. -/
def keysAt (k0 k1 : Vec F S8192x128 .bf16) : Keys F := fun t =>
  match Nat.ble 4 t.val with
  | false => k0
  | true => k1

/-- What the body leaves in the output's block at a point. -/
def outAt (c : Dev nD) (t : Fin cfg0.N) : Vec F S1024x128 .bf16 := outOf (iblk m c 0 t) (keysAt (iblk m c 1 t) (iblk m c 2 t)) (iblk m c 3 t) (iblk m c 4 t)

/-- The arrays as the region finds them, the key array shared by its two windows; after the body each input block in place and the output block at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := ΦA spec0 c
  q w := Pipeline.shareOf spec0 w
  owed _ := 0

theorem A_eq (c : Dev nD) (w : Fin cfg0.W) : (dats m 0 c).A w = V m c (Pipeline.arrRef spec0 w) := rfl
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

/-- Each input's buffer holds its block when the body runs. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-- The body at a point, on its staging and scratch buffers. -/
theorem row (t : Fin cfg0.N) : defs₀ (F := F) .tc cfg0.body (cfg0.bodyArgs t (cfg0.slots t)) = body (bufsAt t) := by
  have h : defs₀ (F := F) .tc cfg0.body (cfg0.bodyArgs t (cfg0.slots t)) = bodyAt0 t := by
    unfold defs₀; rw [Defs.onTc_tc]
  rw [h]
  exact body_eq (grid0.coords t) (bufsAt t)

/-- A scratch buffer held at some contents, as a memref. -/
theorem scratch_eq (c : Dev nD) (b : Ref sig .tc) :
    iprop(∃ f : Buf (Elt F) ((c : Thread nD τ).loc b), ((c : Thread nD τ).loc b) ↦{fullShare} f)
      = (iprop(∃ X, owns (c : Thread nD τ) (Memref.whole b) fullShare X) : sProp 𝕄) :=
  congrArg BIBase.exists (funext fun f => (owns_whole (c : Thread nD τ) b fullShare f).symm)

/-- The scratch buffers, each at some contents. -/
def Scratch (c : Dev nD) : sProp 𝕄 :=
  iprop((∃ X : Vec F S128x2048 .bf16, owns (c : Thread nD τ) (Memref.whole cc0_scratch0) fullShare X)
    ∗ (∃ X : Vec F S256x2048 .bf16, owns (c : Thread nD τ) (Memref.whole cc0_scratch1) fullShare X)
    ∗ (∃ X : Vec F S256x2048 .bf16, owns (c : Thread nD τ) (Memref.whole cc0_scratch2) fullShare X)
    ∗ (∃ X : Vec F S144x2048 .f32, owns (c : Thread nD τ) (Memref.whole cc0_scratch3) fullShare X))

theorem scratch_rest (c : Dev nD) :
    Pipeline.scopedRest (Ix := Unit) (Name := ℕ) (U := UR sig nD τ) (Lvl := ℕ) (Val := Elt F) spec0 c = (Scratch c : sProp 𝕄) := by
  rw [scopedRest0_eq, scratch_eq, scratch_eq, scratch_eq, scratch_eq]
  rfl

/-- The key blocks of the ten buffers' contents. -/
theorem keys_eq (σ : St F) : σ.k = keysAt σ.k0 σ.k1 := by
  funext t
  unfold St.k keysAt St.kb
  cases Nat.ble 4 t.val <;> rfl

/-- The body's run at a point: the scratch buffers come and go at some contents. -/
theorem point_run (B : Bufs) (c : Dev nD) (q : Vec F S128x1024 .bf16) (k0 k1 : Vec F S8192x128 .bf16) (v : Vec F S144x8192 .bf16) (l : Vec F S4x64 .f32)
    (K : PUnit → sProp 𝕄) :
    iprop(((∃ X, owns (c : Thread nD τ) B.aug fullShare X) ∗ (∃ X, owns (c : Thread nD τ) B.s0 fullShare X)
          ∗ (∃ X, owns (c : Thread nD τ) B.s1 fullShare X) ∗ (∃ X, owns (c : Thread nD τ) B.acc fullShare X))
        ∗ owns (c : Thread nD τ) B.q fullShare q
        ∗ owns (c : Thread nD τ) B.k0 fullShare k0
        ∗ owns (c : Thread nD τ) B.k1 fullShare k1
        ∗ owns (c : Thread nD τ) B.v fullShare v
        ∗ owns (c : Thread nD τ) B.lam fullShare l ∗ (∃ d, owns (c : Thread nD τ) B.o fullShare d)
        ∗ (iprop(((∃ X, owns (c : Thread nD τ) B.aug fullShare X) ∗ (∃ X, owns (c : Thread nD τ) B.s0 fullShare X)
          ∗ (∃ X, owns (c : Thread nD τ) B.s1 fullShare X) ∗ (∃ X, owns (c : Thread nD τ) B.acc fullShare X))
            ∗ owns (c : Thread nD τ) B.q fullShare q
        ∗ owns (c : Thread nD τ) B.k0 fullShare k0
        ∗ owns (c : Thread nD τ) B.k1 fullShare k1
        ∗ owns (c : Thread nD τ) B.v fullShare v
        ∗ owns (c : Thread nD τ) B.lam fullShare l ∗ owns (c : Thread nD τ) B.o fullShare (outOf q (keysAt k0 k1) v l)) -∗ K ⟨⟩))
      ⊢ wp frame (wpE (defs₀ (F := F)) Variants.none c none) Set.univ (body B) K := by
  iintro ⟨⟨⟨%fa, Ha⟩, ⟨%f0, H0⟩, ⟨%f1, H1⟩, ⟨%fc, Hc⟩⟩, Hq, Hk0, Hk1, Hv, Hl, ⟨%d, Ho⟩, HK⟩
  iapply (wp_wand _ _ _) $$ [Ha H0 H1 Hc Hq Hk0 Hk1 Hv Hl Ho]
  · iapply (body_run (B := B) (c := c) (q := q) (k := keysAt k0 k1) (v := v) (l := l) ⟨q, k0, k1, v, l, d, fa, f0, f1, fc⟩ ⟨rfl, keys_eq _, rfl, rfl⟩)
    unfold Own
    isplitl [Hq]; · iexact Hq
    isplitl [Hk0]; · iexact Hk0
    isplitl [Hk1]; · iexact Hk1
    isplitl [Hv]; · iexact Hv
    isplitl [Hl]; · iexact Hl
    isplitl [Ho]; · iexact Ho
    isplitl [Ha]; · iexact Ha
    isplitl [H0]; · iexact H0
    isplitl [H1]; · iexact H1
    iexact Hc
  iintro %_ ⟨%σ, %hσ, H⟩
  obtain ⟨⟨rfl, hk, rfl, rfl⟩, ho⟩ := hσ
  have h0 : σ.k0 = k0 := congrFun hk 0
  have h1 : σ.k1 = k1 := congrFun hk 4
  clear hk
  unfold Own
  rw [ho, h0, h1]
  icases H with ⟨Hq, Hk0, Hk1, Hv, Hl, Ho, Ha, H0, H1, Hc⟩
  iapply HK
  isplitl [Ha H0 H1 Hc]
  · isplitl [Ha]
    · iexists σ.aug; iexact Ha
    isplitl [H0]
    · iexists σ.s0; iexact H0
    isplitl [H1]
    · iexists σ.s1; iexact H1
    iexists σ.acc; iexact Hc
  isplitl [Hq]; · iexact Hq
  isplitl [Hk0]; · iexact Hk0
  isplitl [Hk1]; · iexact Hk1
  isplitl [Hv]; · iexact Hv
  isplitl [Hl]; · iexact Hl
  iexact Ho

/-- The body at every point. -/
theorem body_obligation (c : Dev nD) : BodyObligation (dats (F := F) m 0 c) (defs₀ (F := F)) Variants.none () Set.univ := fun t => by
  rw [bigSep_W0, bigSep_W0, row]
  simp only [before0, before1, before2, before3, before4]
  rw [show (dats m 0 c).Φ t.succ = (dats m 0 c).Φ t.castSucc from rfl,
    show (dats m 0 c).owesAt () t.succ = (dats m 0 c).owesAt () t.castSucc from rfl, after0, after1, after2, after3, after4, after5,
    show (dats m 0 c).Φ t.castSucc = ΦA spec0 c from rfl]
  unfold outAt ΦA
  rw [scratch_rest]
  unfold Scratch
  iintro ⟨⟨Hs, Hr⟩, Ho, ⟨%d0, H0⟩, ⟨%d1, H1⟩, ⟨%d2, H2⟩, ⟨%d3, H3⟩, ⟨%d4, H4⟩, ⟨%d5, H5⟩⟩
  iapply (point_run (bufsAt t) c (iblk m c 0 t) (iblk m c 1 t) (iblk m c 2 t) (iblk m c 3 t) (iblk m c 4 t))
  isplitl [Hs]; · iexact Hs
  isplitl [H0]; · iexact H0
  isplitl [H1]; · iexact H1
  isplitl [H2]; · iexact H2
  isplitl [H3]; · iexact H3
  isplitl [H4]; · iexact H4
  isplitl [H5]; · iexists _; iexact H5
  iintro ⟨Hs, H0, H1, H2, H3, H4, H5⟩
  isplitl [Hs Hr]
  · isplitl [Hs]; · iexact Hs
    iexact Hr
  isplitl [Ho]; · iexact Ho
  isplitl [H0]; · iexact H0
  isplitl [H1]; · iexact H1
  isplitl [H2]; · iexact H2
  isplitl [H3]; · iexact H3
  isplitl [H4]; · iexact H4
  iexact H5

/-! ## The launch -/

set_option backward.isDefEq.respectTransparency.types false in
set_option maxHeartbeats 800000 in
/-- From any memory with zero counters every weakly fair execution terminates; every final state has the pipeline's
    arrays at what the proof data give, and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := fun _ _ => rfl) (hΦ := fun _ _ => rfl)

/-- The argument arrays end as launched, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.DiffIdeal.Diff
-- ==== Proof.DiffSame.lean ====
/-
  The printed differential attention kernel and its idealization have the same text, so at the bit patterns they are the same program.
-/
module

public import proofs.«01_k».proof.Defs
public import proofs.«01_k».proof.Proof.DiffRun
public import proofs.«01_k».proof.Proof.Gen.Diff

@[expose] public section

set_option maxRecDepth 16384

namespace Cert.DiffSame

open Idealize.ShloMosaic Idealize.SL.Sem

/-- The two programs' body tables agree. -/
theorem bodies_eq : @Cert.Diff.defs₀ Bits _ Cert.Diff.Gen.facts = @Cert.DiffIdeal.defs₀ Bits _ Cert.DiffIdeal.Gen.facts := by
  unfold Cert.Diff.defs₀ Cert.DiffIdeal.defs₀
  refine congrArg (Defs.onTc (nD := Cert.DiffIdeal.nD) (τ := Cert.DiffIdeal.τ) (sig := Cert.DiffIdeal.sig) (Λ := Cert.DiffIdeal.Λ₀)) ?_
  funext l x
  match l, x with
  | 0, (t, s) => rfl

/-- So do the tables with the pipelined call. -/
theorem defs_eq : @Cert.Diff.defs Bits _ Cert.Diff.Gen.facts = @Cert.DiffIdeal.defs Bits _ Cert.DiffIdeal.Gen.facts :=
  congrArg (Pipeline.defs (Cert.DiffIdeal.pcfgs (F := Bits))) bodies_eq

/-- The printed differential attention kernel runs, leaves its arguments unchanged and every counter at zero: its idealization's run at
    the bit patterns. -/
theorem frame_kernel : Cert.quiescent_Diff := by
  intro m ρ _
  rw [defs_eq]
  exact Cert.DiffIdeal.Diff.frame (F := Bits) m ρ

end Cert.DiffSame
-- ==== Proof.DiffTiles.lean ====
/-
  The differential attention's tiles read at an index over the extended reals: the extended queries, a chunk's scores and their
  maxima, a chunk's accumulation, and the normalized difference of the quotients.
-/
module

public import proofs.«01_k».proof.Proof.DiffPure
public import proofs.«01_k».proof.Proof.AxMath
public import Idealize.ShloMosaic.Lib.Pipeline.Value
public import Idealize.ShloMosaic.Lib.Pointwise

@[expose] public section

set_option maxRecDepth 16384

noncomputable section

namespace Cert.DiffIdeal.Diff

open Idealize.ShloMosaic Idealize.SL.Sem
open Cert.DiffIdeal Facts₀ Facts Cert.AxMath

variable [Facts]

/-- A chunk's scores on a lane tile are the products of its keys with the tile's extended queries. -/
theorem scoreTile_apply (k : FVec Ideal S256x128 .bf16) (q : FVec Ideal S128x256 .bf16) (i j : Fin 256) :
    scoreTile k q (ix2 i j) = ∑ d, k (ix2 i d) * q (ix2 d j) := by
  pointwise [scoreTile]

/-- A chunk accumulated on a lane tile, the reference unmoved, -/
theorem accTile_none (t : Fin 8) (s : FVec Ideal S256x256 .bf16) (v : FVec Ideal S144x256 .bf16) (a : FVec Ideal S144x256 .f32) (d : Fin 144) (j : Fin 256) :
    accTile t none s v a (ix2 d j) = a (ix2 d j) + ∑ i, v (ix2 d i) * Ideal.exp2 (s (ix2 i j)) := by
  unfold accTile rescale
  pointwise
  rfl

/-- and the reference moved. -/
theorem accTile_some (t : Fin 8) (w : FVec Ideal S1x2048 .f32) (s : FVec Ideal S256x256 .bf16) (v : FVec Ideal S144x256 .bf16) (a : FVec Ideal S144x256 .f32) (d : Fin 144) (j : Fin 256) :
    accTile t (some w) s v a (ix2 d j) = w (ix2 0 ⟨256 * t.val + j.val, by omega⟩) * a (ix2 d j) + ∑ i, v (ix2 d i) * Ideal.exp2 (s (ix2 i j)) := by
  unfold accTile rescale
  pointwise
  rfl

/-- A largest value starts from −∞. -/
theorem maxStart : Ideal.ofBits .bf16 0xFF80#16 = ⊥ := by
  simp [Ideal.ofBits, Ideal.ieee]

/-- The largest of finite scores is finite. -/
theorem maxTile_real (s : FVec Ideal S256x256 .bf16) (j : Fin 256) (h : ∀ i, IsR (s (ix2 i j))) : IsR (maxTile s (ix2 0 j)) := by
  have e : maxTile s (ix2 0 j) = Finset.univ.fold max (Ideal.ofBits .bf16 0xFF80#16) (fun i : Fin 256 => s (ix2 i j)) := by
    pointwise [maxTile]
  rw [e, maxStart]
  exact isR_fold_max _ ⟨0, Finset.mem_univ _⟩ _ h

/-- So is the largest of the first look's. -/
theorem firstTile_real (k : FVec Ideal S128x128 .bf16) (q : FVec Ideal S128x256 .bf16) (j : Fin 256)
    (h : ∀ i : Fin 128, IsR (∑ d, k (ix2 i d) * q (ix2 d j))) : IsR (firstTile k q (ix2 0 j)) := by
  have e : firstTile k q (ix2 0 j) = Finset.univ.fold max (Ideal.ofBits .bf16 0xFF80#16) (fun i : Fin 128 => ∑ d, k (ix2 i d) * q (ix2 d j)) := by
    pointwise [firstTile]
  rw [e, maxStart]
  exact isR_fold_max _ ⟨0, Finset.mem_univ _⟩ _ h

/-- A row of eight tiles of finite values is one of finite values. -/
theorem cat8'_real (m0 m1 m2 m3 m4 m5 m6 m7 : FVec Ideal S1x256 .f32) (h0 : ∀ j, IsR (m0 (ix2 0 j))) (h1 : ∀ j, IsR (m1 (ix2 0 j)))
    (h2 : ∀ j, IsR (m2 (ix2 0 j))) (h3 : ∀ j, IsR (m3 (ix2 0 j))) (h4 : ∀ j, IsR (m4 (ix2 0 j))) (h5 : ∀ j, IsR (m5 (ix2 0 j)))
    (h6 : ∀ j, IsR (m6 (ix2 0 j))) (h7 : ∀ j, IsR (m7 (ix2 0 j))) (y : Fin 2048) : IsR (cat8' m0 m1 m2 m3 m4 m5 m6 m7 (ix2 0 y)) := by
  pointwise [cat8']
  split_ifs <;> first | exact h0 _ | exact h1 _ | exact h2 _ | exact h3 _ | exact h4 _ | exact h5 _ | exact h6 _ | exact h7 _

/-- The quotient of the accumulated values by the accumulated weights. -/
theorem quot_apply (a : FVec Ideal S144x2048 .f32) (d : Fin 128) (y : Fin 2048) :
    quot a (ix2 d y) = Ideal.div (a (ix2 ⟨d.val, by omega⟩ y)) (a (ix2 128 y)) := by
  have f : ∀ x z : Fin 144, x.val = z.val → a (ix2 x y) = a (ix2 z y) := fun x z h => by rw [Fin.ext h]
  pointwise [quot]

/-- The weight of the second half head. -/
theorem lamOf_apply (l : FVec Ideal S4x64 .f32) :
    lamOf l (ix2 0 0) = Ideal.exp (∑ e, l (ix2 0 e) * l (ix2 1 e)) - Ideal.exp (∑ e, l (ix2 2 e) * l (ix2 3 e)) + Ideal.ofBits .f32 0x3E4CCCCD#32 := by
  pointwise [lamOf]

/-- The first half head's quotient less the weighted second's. -/
theorem diffs_apply (a : FVec Ideal S144x2048 .f32) (l : FVec Ideal S4x64 .f32) (d : Fin 128) (n : Fin 1024) :
    diffs a l (ix2 d n) = quot a (ix2 d ⟨n.val, by omega⟩) - lamOf l (ix2 0 0) * quot a (ix2 d ⟨1024 + n.val, by omega⟩) := by
  unfold diffs
  generalize quot a = z
  generalize lamOf l = w
  pointwise

/-- A column's inverse root mean square. -/
theorem invRms_apply (z : FVec Ideal S128x1024 .f32) (n : Fin 1024) :
    invRms z (ix2 0 n) = Ideal.rsqrt (Ideal.div (∑ d, z (ix2 d n) * z (ix2 d n)) (Ideal.ofBits .f32 0x43000000#32) + Ideal.ofBits .f32 0x358637BD#32) := by
  pointwise [invRms]

/-- The output block at a token and a feature. -/
theorem finish_apply (a : FVec Ideal S144x2048 .f32) (l : FVec Ideal S4x64 .f32) (n : Fin 1024) (d : Fin 128) :
    finish a l (ix2 n d) = diffs a l (ix2 d n) * invRms (diffs a l) (ix2 0 n) * Ideal.ofBits .f32 0x3F4CCCCD#32 := by
  unfold finish
  generalize diffs a l = z
  generalize invRms z = w
  pointwise

/-! ## The glued arrays -/

/-- The lane tile a column is in. -/
abbrev tileOf (y : Fin 2048) : Fin 8 := ⟨y.val / 256, lane_lt y.isLt⟩

theorem tileOf_eq (t : Fin 8) (j : Fin 256) : tileOf ⟨256 * t.val + j.val, by omega⟩ = t :=
  Fin.ext (by show (256 * t.val + j.val) / 256 = t.val; omega)

/-- A score is in the lane tile of its column; -/
theorem glueS_apply {α : Type} (X : (t : Fin 8) → (laneS t).shape.Idx → α) (i : Fin 256) (y : Fin 2048) :
    glueS X (ix2 i y) = X ⟨y.val / 256, lane_lt y.isLt⟩ (ix2 i ⟨y.val % 256, Nat.mod_lt _ (by decide)⟩ : S256x256.Idx) := by
  unfold glueS
  refine congrArg (X ⟨y.val / 256, lane_lt y.isLt⟩) (funext fun a => Fin.ext ?_)
  match a with
  | ⟨0, _⟩ => show i.val - 0 = i.val; omega
  | ⟨1, _⟩ => show y.val - 256 * (y.val / 256) = y.val % 256; omega

/-- so is an accumulated value. -/
theorem glueAcc_apply {α : Type} (X : (t : Fin 8) → (laneAcc t).shape.Idx → α) (d : Fin 144) (y : Fin 2048) :
    glueAcc X (ix2 d y) = X ⟨y.val / 256, lane_lt y.isLt⟩ (ix2 d ⟨y.val % 256, Nat.mod_lt _ (by decide)⟩ : S144x256.Idx) := by
  unfold glueAcc
  refine congrArg (X ⟨y.val / 256, lane_lt y.isLt⟩) (funext fun a => Fin.ext ?_)
  match a with
  | ⟨0, _⟩ => show d.val - 0 = d.val; omega
  | ⟨1, _⟩ => show y.val - 256 * (y.val / 256) = y.val % 256; omega

/-- A lane tile's column in the whole array. -/
theorem lane_col (y : Fin 2048) : (⟨256 * (y.val / 256) + y.val % 256, by omega⟩ : Fin 2048) = y := Fin.ext (by show 256 * (y.val / 256) + y.val % 256 = y.val; omega)

theorem part_laneAug (X : Vec Ideal S128x2048 .bf16) (t : Fin 8) (d : Fin 128) (j : Fin 256) :
    part X (laneAug t) (ix2 d j : S128x256.Idx) = X (ix2 d ⟨256 * t.val + j.val, by omega⟩) := by
  unfold part
  refine congrArg X (funext fun a => Fin.ext ?_)
  match a with
  | ⟨0, _⟩ => show 0 + 1 * d.val = d.val; omega
  | ⟨1, _⟩ => show 256 * t.val + 1 * j.val = 256 * t.val + j.val; omega

theorem part_laneS (X : Vec Ideal S256x2048 .bf16) (t : Fin 8) (i : Fin 256) (j : Fin 256) :
    part X (laneS t) (ix2 i j : S256x256.Idx) = X (ix2 i ⟨256 * t.val + j.val, by omega⟩) := by
  unfold part
  refine congrArg X (funext fun a => Fin.ext ?_)
  match a with
  | ⟨0, _⟩ => show 0 + 1 * i.val = i.val; omega
  | ⟨1, _⟩ => show 256 * t.val + 1 * j.val = 256 * t.val + j.val; omega

theorem part_laneAcc (X : Vec Ideal S144x2048 .f32) (t : Fin 8) (d : Fin 144) (j : Fin 256) :
    part X (laneAcc t) (ix2 d j : S144x256.Idx) = X (ix2 d ⟨256 * t.val + j.val, by omega⟩) := by
  unfold part
  refine congrArg X (funext fun a => Fin.ext ?_)
  match a with
  | ⟨0, _⟩ => show 0 + 1 * d.val = d.val; omega
  | ⟨1, _⟩ => show 256 * t.val + 1 * j.val = 256 * t.val + j.val; omega

/-- Key `i` of chunk `c`. -/
abbrev keyOf (c : Fin 32) (i : Fin 256) : Fin 8192 := ⟨256 * c.val + i.val, by omega⟩

theorem part_key (k : Vec Ideal S8192x128 .bf16) (o : KOff) (c : Fin 32) (h : o.off = ![256 * c.val, 0]) (i : Fin 256) (d : Fin 128) :
    part k o.rect (ix2 i d : S256x128.Idx) = k (ix2 (keyOf c i) d) := by
  obtain ⟨off, inb⟩ := o
  subst h
  unfold part
  refine congrArg k (funext fun a => Fin.ext ?_)
  match a with
  | ⟨0, _⟩ => show 256 * c.val + 1 * i.val = 256 * c.val + i.val; omega
  | ⟨1, _⟩ => show 0 + 1 * d.val = d.val; omega

theorem part_value (v : Vec Ideal S144x8192 .bf16) (o : VOff) (c : Fin 32) (h : o.off = ![0, 256 * c.val]) (d : Fin 144) (i : Fin 256) :
    part v o.rect (ix2 d i : S144x256.Idx) = v (ix2 d (keyOf c i)) := by
  obtain ⟨off, inb⟩ := o
  subst h
  unfold part
  refine congrArg v (funext fun a => Fin.ext ?_)
  match a with
  | ⟨0, _⟩ => show 0 + 1 * d.val = d.val; omega
  | ⟨1, _⟩ => show 256 * c.val + 1 * i.val = 256 * c.val + i.val; omega

theorem part_headQ (q : Vec Ideal S128x1024 .bf16) (g : Fin 2) (d : Fin 64) (n : Fin 1024) :
    part q (headQ g) (ix2 d n : S64x1024.Idx) = q (ix2 ⟨64 * g.val + d.val, by omega⟩ n) := by
  unfold part
  refine congrArg q (funext fun a => Fin.ext ?_)
  match a with
  | ⟨0, _⟩ => show 64 * g.val + 1 * d.val = 64 * g.val + d.val; omega
  | ⟨1, _⟩ => show 0 + 1 * n.val = n.val; omega

/-! ## The extended queries at an index -/

/-- The reference's rows: minus the reference, then zeros. -/
theorem refs_apply (r : FVec Ideal S1x2048 .f32) (e : Fin 16) (y : Fin 2048) :
    refs r (ix2 e y : S16x2048.Idx) = if e.val = 0 then 0 - r (ix2 0 y) else 0 := by
  have h : ∀ e : Fin 16, IntOp.cmpi .eq (BitVec.ofNat 32 e.val) 0#32 = if e.val = 0 then 1#1 else 0#1 := by decide
  unfold refs refRows
  pointwise
  rw [h]
  by_cases h0 : e.val = 0
  · rw [if_pos h0, if_pos h0]; rfl
  · rw [if_neg h0, if_neg h0]; rfl

/-- A head's stored queries are its rows of the query block. -/
theorem headQs_eq (q : Vec Ideal S128x1024 .bf16) (g : Fin 2) : headQs q g = part q (headQ g) :=
  (shapeCast_self _ _).trans (shapeCast_self _ _)

/-- The padding is zero. -/
theorem pads_apply (x : padRect.shape.Idx) : (pads (F := Ideal) x : EReal) = 0 := by
  unfold pads
  rw [shapeCast_self]
  show Ideal.ofBits .bf16 0x0000#16 = 0
  simp

/-- A head's queries, -/
theorem aug_query (q : Vec Ideal S128x1024 .bf16) (r : FVec Ideal S1x2048 .f32) (d : Fin 64) (y : Fin 2048) :
    augOf q r (ix2 ⟨d.val, by omega⟩ y) = q (ix2 ⟨64 * (y.val / 1024) + d.val, by omega⟩ ⟨y.val % 1024, Nat.mod_lt _ (by decide)⟩) := by
  unfold augOf glueAug
  refine (dif_pos d.isLt).trans ?_
  refine (congrFun (headQs_eq q _) _).trans ?_
  refine Eq.trans ?_ (part_headQ q ⟨y.val / 1024, head_lt y.isLt⟩ d ⟨y.val % 1024, Nat.mod_lt _ (by decide)⟩)
  refine congrArg (part q (headQ ⟨y.val / 1024, head_lt y.isLt⟩)) (funext fun a => Fin.ext ?_)
  match a with
  | ⟨0, _⟩ => show d.val - 0 = d.val; omega
  | ⟨1, _⟩ => show y.val - 1024 * (y.val / 1024) = y.val % 1024; omega

/-- and what is below them: minus the reference, then zeros. -/
theorem aug_rest (q : Vec Ideal S128x1024 .bf16) (r : FVec Ideal S1x2048 .f32) (e : Fin 64) (y : Fin 2048) :
    augOf q r (ix2 ⟨64 + e.val, by omega⟩ y) = if e.val = 0 then 0 - r (ix2 0 y) else 0 := by
  unfold augOf glueAug
  refine (dif_neg (show ¬ 64 + e.val < 64 by omega)).trans ?_
  by_cases h : 64 + e.val < 80
  · refine (dif_pos h).trans ?_
    refine Eq.trans ?_ (refs_apply r ⟨e.val, by omega⟩ y)
    refine congrArg (refs r) (funext fun a => Fin.ext ?_)
    match a with
    | ⟨0, _⟩ => show 64 + e.val - 64 = e.val; omega
    | ⟨1, _⟩ => show y.val - 0 = y.val; omega
  · refine (dif_neg h).trans ?_
    rw [if_neg (by omega)]
    exact pads_apply _

/-! ## A chunk's scores and accumulation at an index -/

/-- The scores of chunk `c` at a column. -/
theorem scoreOf_apply (k : Keys Ideal) (aug : Vec Ideal S128x2048 .bf16) (o : KOff) (c : Fin 32) (h : o.off = ![256 * c.val, 0])
    (t : Fin 8) (i j : Fin 256) :
    scoreOf k aug o t (ix2 i j) = ∑ d, k t (ix2 (keyOf c i) d) * aug (ix2 d ⟨256 * t.val + j.val, by omega⟩) := by
  unfold scoreOf
  rw [scoreTile_apply]
  refine Finset.sum_congr rfl fun d _ => ?_
  rw [part_key (k t) o c h, part_laneAug]

theorem scoresOf_apply (k : Keys Ideal) (aug : Vec Ideal S128x2048 .bf16) (o : KOff) (c : Fin 32) (h : o.off = ![256 * c.val, 0])
    (i : Fin 256) (y : Fin 2048) :
    scoresOf k aug o (ix2 i y) = ∑ d, k (tileOf y) (ix2 (keyOf c i) d) * aug (ix2 d y) := by
  unfold scoresOf
  rw [glueS_apply, shapeCast_self, scoreOf_apply k aug o c h]
  simp only [lane_col]

/-- The maxima are finite when the scores are. -/
theorem maxOf_real (k : Keys Ideal) (aug : Vec Ideal S128x2048 .bf16) (o : KOff) (c : Fin 32) (h : o.off = ![256 * c.val, 0])
    (hs : ∀ x y, IsR (∑ d, k (tileOf y) (ix2 x d) * aug (ix2 d y))) (y : Fin 2048) : IsR (maxOf k aug o (ix2 0 y)) := by
  have H : ∀ t j, IsR (maxTile (scoreOf k aug o t) (ix2 0 j)) := fun t j =>
    maxTile_real _ j fun i => by
      have := hs (keyOf c i) ⟨256 * t.val + j.val, by omega⟩
      rw [tileOf_eq] at this
      rw [scoreOf_apply k aug o c h]
      exact this
  exact cat8'_real _ _ _ _ _ _ _ _ (H 0) (H 1) (H 2) (H 3) (H 4) (H 5) (H 6) (H 7) y

/-- So is the first top. -/
theorem topOf_real (k : Keys Ideal) (aug : Vec Ideal S128x2048 .bf16)
    (hs : ∀ x y, IsR (∑ d, k (tileOf y) (ix2 x d) * aug (ix2 d y))) (y : Fin 2048) : IsR (topOf k aug (ix2 0 y)) := by
  have e : ∀ (t : Fin 8) (i d : Fin 128), part (k t) (Rect.unit (s := S8192x128) ![0, 0] S128x128.size inb_S8192x128_S128x128_0_0) (ix2 i d : S128x128.Idx)
      = k t (ix2 ⟨i.val, by omega⟩ d) := fun t i d => by
    unfold part
    refine congrArg (k t) (funext fun a => Fin.ext ?_)
    match a with
    | ⟨0, _⟩ => show 0 + 1 * i.val = i.val; omega
    | ⟨1, _⟩ => show 0 + 1 * d.val = d.val; omega
  have H : ∀ t j, IsR (firstOf k aug t (ix2 0 j)) := fun t j => by
    unfold firstOf
    refine firstTile_real _ _ j fun i => ?_
    have := hs ⟨i.val, by omega⟩ ⟨256 * t.val + j.val, by omega⟩
    rw [tileOf_eq] at this
    refine (congrArg IsR (Finset.sum_congr rfl fun d _ => ?_)).mpr this
    rw [e, part_laneAug]
  exact cat8'_real _ _ _ _ _ _ _ _ (H 0) (H 1) (H 2) (H 3) (H 4) (H 5) (H 6) (H 7) y

/-- Chunk `c` accumulated, the reference unmoved, -/
theorem accOf_none (v : Vec Ideal S144x8192 .bf16) (o : VOff) (c : Fin 32) (h : o.off = ![0, 256 * c.val]) (cur : Vec Ideal S256x2048 .bf16)
    (acc : Vec Ideal S144x2048 .f32) (d : Fin 144) (y : Fin 2048) :
    accOf v o none cur acc (ix2 d y) = acc (ix2 d y) + ∑ i, v (ix2 d (keyOf c i)) * Ideal.exp2 (cur (ix2 i y)) := by
  unfold accOf
  rw [glueAcc_apply]
  unfold accT
  rw [shapeCast_self, accTile_none, part_laneAcc, lane_col]
  refine congrArg (_ + ·) (Finset.sum_congr rfl fun i _ => ?_)
  exact congrArg₂ (· * ·) (part_value v o c h d i) (congrArg Ideal.exp2 ((part_laneS cur _ i _).trans (by rw [lane_col])))

/-- and the reference moved. -/
theorem accOf_some (v : Vec Ideal S144x8192 .bf16) (o : VOff) (c : Fin 32) (h : o.off = ![0, 256 * c.val]) (w : FVec Ideal S1x2048 .f32)
    (cur : Vec Ideal S256x2048 .bf16) (acc : Vec Ideal S144x2048 .f32) (d : Fin 144) (y : Fin 2048) :
    accOf v o (some w) cur acc (ix2 d y) = w (ix2 0 y) * acc (ix2 d y) + ∑ i, v (ix2 d (keyOf c i)) * Ideal.exp2 (cur (ix2 i y)) := by
  unfold accOf
  rw [glueAcc_apply]
  unfold accT
  rw [shapeCast_self, accTile_some, part_laneAcc, lane_col]
  refine congrArg (_ + ·) (Finset.sum_congr rfl fun i _ => ?_)
  exact congrArg₂ (· * ·) (part_value v o c h d i) (congrArg Ideal.exp2 ((part_laneS cur _ i _).trans (by rw [lane_col])))

end Cert.DiffIdeal.Diff

end
-- ==== Proof.DiffSum.lean ====
/-
  The differential attention's two sweeps over the extended reals: after each step the accumulator holds the sum over the chunks
  done so far, taken against some finite reference.
-/
module

public import proofs.«01_k».proof.Proof.DiffTiles

@[expose] public section

set_option maxRecDepth 16384

noncomputable section

namespace Cert.DiffIdeal.Diff

open Idealize.ShloMosaic Idealize.SL.Sem
open Cert.DiffIdeal Facts₀ Facts Cert.AxMath

variable [Facts]

/-- The blocks' scores are the real numbers `s`, the keys are followed by a one and then zeros. -/
structure Good (q : Vec Ideal S128x1024 .bf16) (k : Keys Ideal) (s : Fin 8192 → Fin 2048 → ℝ) : Prop where
  score : ∀ x y, ∑ d : Fin 64, k (tileOf y) (ix2 x ⟨d.val, by omega⟩) * q (ix2 ⟨64 * (y.val / 1024) + d.val, by omega⟩ ⟨y.val % 1024, Nat.mod_lt _ (by decide)⟩) = (s x y : EReal)
  one : ∀ t x, k t (ix2 x 64) = 1
  zero : ∀ t x (e : Fin 64), e.val ≠ 0 → k t (ix2 x ⟨64 + e.val, by omega⟩) = 0

/-- The product of the extended keys with the extended queries is the score minus the reference. -/
theorem Good.full {q : Vec Ideal S128x1024 .bf16} {k : Keys Ideal} {s : Fin 8192 → Fin 2048 → ℝ} (G : Good q k s)
    (r : FVec Ideal S1x2048 .f32) (ρ : Fin 2048 → ℝ) (hr : ∀ y, r (ix2 0 y) = (ρ y : EReal)) (x : Fin 8192) (y : Fin 2048) :
    ∑ d : Fin 128, k (tileOf y) (ix2 x d) * augOf q r (ix2 d y) = ((s x y - ρ y : ℝ) : EReal) := by
  refine (Fin.sum_univ_add (a := 64) (b := 64) (fun d : Fin (64 + 64) => k (tileOf y) (ix2 x d) * augOf q r (ix2 d y))).trans ?_
  rw [sub_eq_add_neg, EReal.coe_add]
  refine congrArg₂ (· + ·) ?_ ?_
  · refine Eq.trans (Finset.sum_congr rfl fun d _ => ?_) (G.score x y)
    exact congrArg (k (tileOf y) (ix2 x ⟨d.val, by omega⟩) * ·) (aug_query q r d y)
  · rw [Finset.sum_eq_single (0 : Fin 64)]
    · refine (congrArg₂ (· * ·) (G.one _ x) (aug_rest q r 0 y)).trans ?_
      rw [if_pos (show (0 : Fin 64).val = 0 from rfl), hr, one_mul, zero_sub, EReal.coe_neg]
    · intro e _ he
      have h : e.val ≠ 0 := fun h => he (Fin.ext h)
      refine (congrArg₂ (· * ·) (G.zero _ x e h) (aug_rest q r e y)).trans ?_
      rw [zero_mul]
    · intro h; exact absurd (Finset.mem_univ _) h

/-- Key `i` of chunk `c`, the chunk's number taken modulo the number of chunks. -/
def keyN (c : Nat) (i : Fin 256) : Fin 8192 := keyOf ⟨c % 32, Nat.mod_lt _ (by decide)⟩ i

theorem keyN_eq (c : Nat) (h : c < 32) (i : Fin 256) : keyOf ⟨c, h⟩ i = keyN c i :=
  Fin.ext (by show 256 * c + i.val = 256 * (c % 32) + i.val; rw [Nat.mod_eq_of_lt h])

/-- The values of the first `c` chunks, weighted by powers of two of the scores against a reference. -/
def done (v : Vec Ideal S144x8192 .bf16) (s : Fin 8192 → Fin 2048 → ℝ) (ρ : Fin 2048 → ℝ) (c : Nat) (d : Fin 144) (y : Fin 2048) : EReal :=
  ∑ j ∈ Finset.range c, ∑ i : Fin 256, v (ix2 d (keyN j i)) * ((Real.rpow 2 (s (keyN j i) y - ρ y) : ℝ) : EReal)

/-- Where a sweep stands when chunk `c` waits: its reference is `ρ`, the accumulator's is `ρa`. -/
structure Inv (v : Vec Ideal S144x8192 .bf16) (s : Fin 8192 → Fin 2048 → ℝ) (c : Nat) (ρ ρa : Fin 2048 → ℝ) (w : Sw Ideal) : Prop where
  ref : ∀ y, w.c.1 (ix2 0 y) = (ρ y : EReal)
  mx : ∀ y, IsR (w.c.2.1 (ix2 0 y))
  top : ∀ y, IsR (w.c.2.2.1 (ix2 0 y))
  cur : ∀ i y, w.cur (ix2 i y) = ((s (keyN c i) y - ρ y : ℝ) : EReal)
  acc : ∀ d y, w.acc (ix2 d y) = done v s ρa c d y

section Steps
variable {q : Vec Ideal S128x1024 .bf16} {k : Keys Ideal} {v : Vec Ideal S144x8192 .bf16} {s : Fin 8192 → Fin 2048 → ℝ}
  (G : Good q k s)
include G

/-- The part of a step that does not concern the accumulator. -/
theorem step_scores {c : Nat} {ρ ρa γ : Fin 2048 → ℝ} {w : Sw Ideal} (h : Inv v s c ρ ρa w) (hc : c + 1 < 32) (g : FVec Ideal S1x2048 .f32)
    (hg : ∀ y, g (ix2 0 y) = (γ y : EReal)) (ko : KOff) (hk : ko.off = ![256 * (c + 1), 0]) (vo : VOff) (al : Option (FVec Ideal S1x2048 .f32))
    {ρb : Fin 2048 → ℝ} (ha : ∀ d y, accOf v vo al w.cur w.acc (ix2 d y) = done v s ρb (c + 1) d y) :
    Inv v s (c + 1) γ ρb (Sw.step q k v g ko vo al w) where
  ref := hg
  mx := fun y => maxOf_real k (augOf q g) ko ⟨c + 1, hc⟩ hk (fun x y => ⟨_, G.full g γ hg x y⟩) y
  top := fun y => (h.top y).max (IsR.add ⟨_, h.ref y⟩ (h.mx y))
  cur := fun i y => (scoresOf_apply k (augOf q g) ko ⟨c + 1, hc⟩ hk i y).trans (by rw [keyN_eq]; exact G.full g γ hg _ y)
  acc := ha

omit G in
/-- The weighted values of the waiting chunk. -/
theorem chunk_sum {c : Nat} {ρ ρa : Fin 2048 → ℝ} {w : Sw Ideal} (h : Inv v s c ρ ρa w) (hc : c < 32) (d : Fin 144) (y : Fin 2048) :
    ∑ i, v (ix2 d (keyOf ⟨c, hc⟩ i)) * Ideal.exp2 (w.cur (ix2 i y))
      = ∑ i : Fin 256, v (ix2 d (keyN c i)) * ((Real.rpow 2 (s (keyN c i) y - ρ y) : ℝ) : EReal) :=
  Finset.sum_congr rfl fun i _ => by rw [h.cur, keyN_eq, Ideal.exp2_coe]

omit G in
/-- Accumulating the waiting chunk. -/
theorem acc_none {c : Nat} {ρ : Fin 2048 → ℝ} {w : Sw Ideal} (h : Inv v s c ρ ρ w) (hc : c < 32) (vo : VOff) (hv : vo.off = ![0, 256 * c])
    (d : Fin 144) (y : Fin 2048) : accOf v vo none w.cur w.acc (ix2 d y) = done v s ρ (c + 1) d y := by
  rw [accOf_none v vo ⟨c, hc⟩ hv, chunk_sum h hc, h.acc]
  unfold done
  rw [Finset.sum_range_succ]

omit G in
/-- Accumulating it when the reference has moved. -/
theorem acc_some {c : Nat} {γ ρ : Fin 2048 → ℝ} {w : Sw Ideal} (h : Inv v s c γ ρ w) (hc : c < 32) (vo : VOff) (hv : vo.off = ![0, 256 * c])
    (al : FVec Ideal S1x2048 .f32) (hal : ∀ y, al (ix2 0 y) = ((Real.rpow 2 (ρ y - γ y) : ℝ) : EReal))
    (d : Fin 144) (y : Fin 2048) : accOf v vo (some al) w.cur w.acc (ix2 d y) = done v s γ (c + 1) d y := by
  rw [accOf_some v vo ⟨c, hc⟩ hv, chunk_sum h hc, h.acc, hal]
  unfold done
  rw [Finset.sum_range_succ, mul_sum_real _ _ (pow_two_pos _).le]
  refine congrArg (· + _) (Finset.sum_congr rfl fun j _ => ?_)
  rw [mul_sum_real _ _ (pow_two_pos _).le]
  refine Finset.sum_congr rfl fun i _ => ?_
  rw [mul_left_comm, ← EReal.coe_mul, pow_two_move]

theorem step_none {c : Nat} {ρ γ : Fin 2048 → ℝ} {w : Sw Ideal} (h : Inv v s c ρ ρ w) (hc : c + 1 < 32) (g : FVec Ideal S1x2048 .f32)
    (hg : ∀ y, g (ix2 0 y) = (γ y : EReal)) (ko : KOff) (hk : ko.off = ![256 * (c + 1), 0]) (vo : VOff) (hv : vo.off = ![0, 256 * c]) :
    Inv v s (c + 1) γ ρ (Sw.step q k v g ko vo none w) :=
  step_scores G h hc g hg ko hk vo none (acc_none h (by omega) vo hv)

theorem step_some {c : Nat} {ρ γ : Fin 2048 → ℝ} {w : Sw Ideal} (h : Inv v s c γ ρ w) (hc : c + 1 < 32) (g : FVec Ideal S1x2048 .f32)
    (hg : ∀ y, g (ix2 0 y) = (γ y : EReal)) (ko : KOff) (hk : ko.off = ![256 * (c + 1), 0]) (vo : VOff) (hv : vo.off = ![0, 256 * c])
    (al : FVec Ideal S1x2048 .f32) (hal : ∀ y, al (ix2 0 y) = ((Real.rpow 2 (ρ y - γ y) : ℝ) : EReal)) :
    Inv v s (c + 1) γ γ (Sw.step q k v g ko vo (some al) w) :=
  step_scores G h hc g hg ko hk vo (some al) (acc_some h (by omega) vo hv al hal)

omit G in
/-- The steps' numbers follow one another. -/
def Consec (b : Nat) : Nat → List (Fin 8) → Prop
  | _, [] => True
  | c, u :: us => b + u.val = c ∧ Consec b (c + 1) us

/-- Steps that keep the reference. -/
theorem plain_inv (ko : Fin 8 → KOff) (vo : Fin 8 → VOff) (b : Nat) (hk : ∀ u : Fin 8, b + u.val + 1 < 32 → (ko u).off = ![256 * (b + u.val + 1), 0])
    (hv : ∀ u : Fin 8, b + u.val < 32 → (vo u).off = ![0, 256 * (b + u.val)]) {ρ : Fin 2048 → ℝ} :
    ∀ (us : List (Fin 8)) (c : Nat) (w : Sw Ideal), Inv v s c ρ ρ w → Consec b c us → c + us.length < 32 →
      Inv v s (c + us.length) ρ ρ (Sw.plain q k v ko vo us w)
  | [], c, w, h, _, _ => h
  | u :: us, c, w, h, hu, hl => by
    obtain ⟨rfl, hu⟩ := hu
    rw [List.length_cons] at hl ⊢
    have h1 := step_none G h (by omega) w.c.1 h.ref (ko u) (hk u (by omega)) (vo u) (hv u (by omega))
    have h2 := plain_inv ko vo b hk hv us _ _ h1 hu (by omega)
    rw [show b + u.val + (us.length + 1) = b + u.val + 1 + us.length by omega]
    exact h2

/-- A group of steps. -/
theorem group_inv (ko : Fin 8 → KOff) (vo : Fin 8 → VOff) (b : Nat) (hk : ∀ u : Fin 8, b + u.val + 1 < 32 → (ko u).off = ![256 * (b + u.val + 1), 0])
    (hv : ∀ u : Fin 8, b + u.val < 32 → (vo u).off = ![0, 256 * (b + u.val)]) {ρ : Fin 2048 → ℝ}
    (us : List (Fin 8)) (w : Sw Ideal) (h : Inv v s b ρ ρ w) (hu : Consec b (b + 2) us) (hl : b + 2 + us.length < 32) :
    ∃ γ, Inv v s (b + 2 + us.length) γ γ (Sw.group q k v ko vo us w) := by
  choose γ hγ using h.top
  have hg : ∀ y, rnd w.c.2.2.1 (ix2 0 y) = (γ y : EReal) := fun y => hγ y
  have h1 := step_none G h (by omega) (rnd w.c.2.2.1) hg (ko 0) (hk 0 (by show b + 0 + 1 < 32; omega)) (vo 0) (hv 0 (by show b + 0 < 32; omega))
  have h2 := step_some G h1 (by omega) (rnd w.c.2.2.1) hg (ko 1) (hk 1 (by show b + 1 + 1 < 32; omega)) (vo 1) (hv 1 (by show b + 1 < 32; omega))
    (exp2 (subf w.c.1 (rnd w.c.2.2.1))) (fun y => by
      show Ideal.exp2 (w.c.1 (ix2 0 y) - rnd w.c.2.2.1 (ix2 0 y)) = _
      rw [h.ref, hg, ← EReal.coe_sub, Ideal.exp2_coe])
  exact ⟨γ, plain_inv G ko vo b hk hv us _ _ h2 hu hl⟩

/-! ## The loops and the whole sweeps -/

omit G in
/-- A fold over the numbers below `n` keeps what each step passes on. -/
theorem fold_inv {α : Type} (P : Nat → α → Prop) : ∀ {n : Nat} (f : α → Fin n → α), (∀ i a, P i.val a → P (i.val + 1) (f a i)) →
    ∀ a, P 0 a → P n ((List.finRange n).foldl f a)
  | 0, f, _, a, h => h
  | n + 1, f, hf, a, h => by
    rw [List.finRange_succ_last, List.foldl_append, List.foldl_map]
    exact hf (Fin.last n) _ (fold_inv P (n := n) (fun a i => f a i.castSucc) (fun i a h => hf i.castSucc a h) a h)

omit G in
theorem trips1 : k0_t1_loop.trips = 3 := by decide +kernel
omit G in
theorem trips2 : k0_t2_loop.trips = 3 := by decide +kernel

omit G in
/-- The places of the chunks in the first sweep's loop; -/
theorem off1_eq : ∀ (i : Fin k0_t1_loop.trips) (u : Fin 8), k0_off1 i (BitVec.ofNat 32 u.val) = ![256 * (8 * i.val + u.val + 1), 0] := by decide +kernel
omit G in
theorem off2_eq : ∀ (i : Fin k0_t1_loop.trips) (u : Fin 8), k0_off2 i (BitVec.ofNat 32 u.val) = ![0, 256 * (8 * i.val + u.val)] := by decide +kernel
omit G in
/-- in the second's. -/
theorem off3_eq : ∀ (i : Fin k0_t2_loop.trips) (u : Fin 8), k0_off3 i (BitVec.ofNat 32 u.val) = ![256 * (8 * i.val + u.val + 1), 0] := by decide +kernel
omit G in
theorem off4_eq : ∀ (i : Fin k0_t2_loop.trips) (u : Fin 8), k0_off4 i (BitVec.ofNat 32 u.val) = ![0, 256 * (8 * i.val + u.val)] := by decide +kernel

omit G in
/-- The numbers two to seven follow one another. -/
theorem consec7 (b : Nat) : Consec b (b + 2) [2, 3, 4, 5, 6, 7] := ⟨rfl, rfl, rfl, rfl, rfl, rfl, trivial⟩
omit G in
theorem consec6 (b : Nat) : Consec b (b + 2) [2, 3, 4, 5, 6] := ⟨rfl, rfl, rfl, rfl, rfl, trivial⟩

omit G in
/-- What a sweep watches besides does not matter. -/
theorem reset_inv {c : Nat} {ρ ρa : Fin 2048 → ℝ} {w : Sw Ideal} (h : Inv v s c ρ ρa w) : Inv v s c ρ ρa (Sw.reset w) :=
  ⟨h.ref, h.mx, h.top, h.cur, h.acc⟩

/-- The first sweep's loop does 24 chunks, -/
theorem loop1_inv (w : Sw Ideal) (h : ∃ ρ, Inv v s 0 ρ ρ w) : ∃ ρ, Inv v s 24 ρ ρ (Sw.loop1 q k v w) := by
  have key := fold_inv (fun i (w : Sw Ideal) => i ≤ 3 → ∃ ρ, Inv v s (8 * i) ρ ρ w) (n := k0_t1_loop.trips)
    (fun w i => Sw.group q k v (fun u => ⟨k0_off1 i (BitVec.ofNat 32 u.val), k0_off1_inb i u⟩)
      (fun u => ⟨k0_off2 i (BitVec.ofNat 32 u.val), k0_off2_inb i u⟩) [2, 3, 4, 5, 6, 7] w)
    (fun i w hw hi => by
      obtain ⟨ρ, hρ⟩ := hw (by omega)
      exact group_inv G _ _ (8 * i.val) (fun u _ => off1_eq i u) (fun u _ => off2_eq i u) [2, 3, 4, 5, 6, 7] w hρ (consec7 _)
        (by show 8 * i.val + 2 + 6 < 32; omega))
    w (fun _ => h)
  obtain ⟨ρ, hρ⟩ := key trips1.le
  rw [show 8 * k0_t1_loop.trips = 24 by rw [trips1]] at hρ
  exact ⟨ρ, hρ⟩

/-- so does the second's. -/
theorem loop2_inv (w : Sw Ideal) (h : ∃ ρ, Inv v s 0 ρ ρ w) : ∃ ρ, Inv v s 24 ρ ρ (Sw.loop2 q k v w) := by
  have key := fold_inv (fun i (w : Sw Ideal) => i ≤ 3 → ∃ ρ, Inv v s (8 * i) ρ ρ w) (n := k0_t2_loop.trips)
    (fun w i => Sw.group q k v (fun u => ⟨k0_off3 i (BitVec.ofNat 32 u.val), k0_off3_inb i u⟩)
      (fun u => ⟨k0_off4 i (BitVec.ofNat 32 u.val), k0_off4_inb i u⟩) [2, 3, 4, 5, 6, 7] (Sw.reset w))
    (fun i w hw hi => by
      obtain ⟨ρ, hρ⟩ := hw (by omega)
      exact group_inv G _ _ (8 * i.val) (fun u _ => off3_eq i u) (fun u _ => off4_eq i u) [2, 3, 4, 5, 6, 7] (Sw.reset w)
        (reset_inv hρ) (consec7 _) (by show 8 * i.val + 2 + 6 < 32; omega))
    w (fun _ => h)
  obtain ⟨ρ, hρ⟩ := key trips2.le
  rw [show 8 * k0_t2_loop.trips = 24 by rw [trips2]] at hρ
  exact ⟨ρ, hρ⟩

/-- A sweep's start from a finite top. -/
theorem start_inv (top over : FVec Ideal S1x2048 .f32) (h : ∀ y, IsR (top (ix2 0 y))) : ∃ ρ, Inv v s 0 ρ ρ (Sw.start q k top over) := by
  choose ρ hρ using h
  have hg : ∀ y, rnd top (ix2 0 y) = (ρ y : EReal) := fun y => hρ y
  refine ⟨ρ, hg, fun y => maxOf_real k (augOf q (rnd top)) (kAt 0) 0 rfl (fun x y => ⟨_, G.full _ ρ hg x y⟩) y, fun y => ⟨_, hρ y⟩,
    fun i y => (scoresOf_apply k (augOf q (rnd top)) (kAt 0) 0 rfl i y).trans (G.full _ ρ hg _ y), fun d y => ?_⟩
  show (acc0 (F := Ideal) (ix2 d y) : EReal) = _
  unfold acc0 done
  rw [shapeCast_self, Finset.range_zero, Finset.sum_empty]
  show Ideal.ofBits .f32 0x00000000#32 = 0
  simp

/-- The last group and the last chunk: all 32 chunks are in, and reference, maxima and top are finite. -/
theorem tail_inv (w : Sw Ideal) (h : ∃ ρ, Inv v s 24 ρ ρ w) :
    (∃ ρ, ∀ d y, (Sw.tail q k v w).acc (ix2 d y) = done v s ρ 32 d y)
      ∧ ∀ y, IsR (max ((Sw.tail q k v w).c.2.2.1 (ix2 0 y)) ((Sw.tail q k v w).c.1 (ix2 0 y) + (Sw.tail q k v w).c.2.1 (ix2 0 y))) := by
  obtain ⟨ρ, hρ⟩ := h
  obtain ⟨γ, hγ⟩ := group_inv G (fun u => kAt ⟨(25 + u.val) % 32, Nat.mod_lt _ (by decide)⟩) (fun u => vAt ⟨(24 + u.val) % 32, Nat.mod_lt _ (by decide)⟩)
    24 (fun u hu => by unfold kAt; show ![256 * ((25 + u.val) % 32), 0] = _; rw [Nat.mod_eq_of_lt (by omega), show 25 + u.val = 24 + u.val + 1 by omega])
    (fun u hu => by unfold vAt; show ![0, 256 * ((24 + u.val) % 32)] = _; rw [Nat.mod_eq_of_lt (by omega)]) [2, 3, 4, 5, 6] w hρ (consec6 _) (by decide)
  unfold Sw.tail
  exact ⟨⟨γ, fun d y => acc_none hγ (by decide) (vAt 31) rfl d y⟩, fun y => (hγ.top y).max (IsR.add ⟨_, hγ.ref y⟩ (hγ.mx y))⟩

/-- The second sweep's accumulator holds all chunks. -/
theorem second_acc (t : FVec Ideal S1x2048 .f32) (h : ∀ y, IsR (t (ix2 0 y))) :
    ∃ ρ, ∀ d y, (Sw.tail q k v (Sw.reset (Sw.loop2 q k v (Sw.start q k t t)))).acc (ix2 d y) = done v s ρ 32 d y := by
  obtain ⟨γ, hγ⟩ := loop2_inv (v := v) G _ (start_inv G t t h)
  exact (tail_inv G _ ⟨γ, reset_inv hγ⟩).1

/-- Whatever the first sweep finds, the output block is the quotient of an accumulator that holds all chunks. -/
theorem out_acc (l : Vec Ideal S4x64 .f32) : ∃ (ρ : Fin 2048 → ℝ) (a : FVec Ideal S144x2048 .f32), outOf q k v l = finish a l ∧ ∀ d y, a (ix2 d y) = done v s ρ 32 d y := by
  have hz : ∀ y, (broadcast S1x2048 (Scalar.ofBits (F := Ideal) .f32 0x00000000#32) : FVec Ideal S1x2048 .f32) (ix2 0 y) = ((0 : ℝ) : EReal) := fun y => by
    show Ideal.ofBits .f32 0x00000000#32 = _
    simp
  have h0 := topOf_real k (augOf q (broadcast S1x2048 (Scalar.ofBits (F := Ideal) .f32 0x00000000#32))) (fun x y => ⟨_, G.full _ (fun _ => 0) hz x y⟩)
  unfold outOf
  dsimp only
  generalize topOf k (augOf q (broadcast S1x2048 (Scalar.ofBits (F := Ideal) .f32 0x00000000#32))) = t0 at h0 ⊢
  have h1 := tail_inv G _ (loop1_inv (v := v) G _ (start_inv G t0 (broadcast S1x2048 (Scalar.ofBits (F := Ideal) .f32 0x00000000#32)) h0))
  generalize Sw.tail q k v (Sw.loop1 q k v (Sw.start q k t0 (broadcast S1x2048 (Scalar.ofBits (F := Ideal) .f32 0x00000000#32)))) = w at h1 ⊢
  obtain ⟨⟨ρ, hρ⟩, ht⟩ := h1
  by_cases hh : tooHigh (maximumf w.c.2.2.2 w.c.2.1) = 1#1
  · obtain ⟨γ, hγ⟩ := second_acc (v := v) G (maximumf w.c.2.2.1 (addf w.c.1 w.c.2.1)) ht
    rw [if_pos hh]
    exact ⟨γ, _, rfl, hγ⟩
  · rw [if_neg hh]
    exact ⟨ρ, _, rfl, hρ⟩

end Steps

/-- A sum over 32 chunks of 256 keys is a sum over the keys. -/
theorem sum_keys (f : Fin 8192 → EReal) : ∑ j ∈ Finset.range 32, ∑ i : Fin 256, f (keyN j i) = ∑ x, f x := by
  rw [← Fin.sum_univ_eq_sum_range (fun j => ∑ i : Fin 256, f (keyN j i)) 32, ← Fintype.sum_prod_type' (fun (j : Fin 32) (i : Fin 256) => f (keyN j.val i))]
  refine Fintype.sum_equiv (finProdFinEquiv (m := 32) (n := 256)) _ _ fun p => congrArg f (Fin.ext ?_)
  show 256 * (p.1.val % 32) + p.2.val = p.2.val + 256 * p.1.val
  rw [Nat.mod_eq_of_lt p.1.isLt]; omega

/-- All chunks done: a sum over the keys. -/
theorem done_all (v : Vec Ideal S144x8192 .bf16) (s : Fin 8192 → Fin 2048 → ℝ) (ρ : Fin 2048 → ℝ) (d : Fin 144) (y : Fin 2048) :
    done v s ρ 32 d y = ∑ x, v (ix2 d x) * ((Real.rpow 2 (s x y - ρ y) : ℝ) : EReal) :=
  sum_keys (fun x => v (ix2 d x) * ((Real.rpow 2 (s x y - ρ y) : ℝ) : EReal))

/-- Values weighted by the softmax of real scores, taken against `M`. -/
def soft (σ : Fin 8192 → ℝ) (M : ℝ) (v : Fin 8192 → EReal) : EReal :=
  ∑ x, Ideal.div ((Real.exp (σ x - M) : ℝ) : EReal) (∑ x', ((Real.exp (σ x' - M) : ℝ) : EReal)) * v x

/-- The weight of the second half head. -/
def lamW (l : FVec Ideal S4x64 .f32) : EReal :=
  Ideal.exp (∑ e, l (ix2 0 e) * l (ix2 1 e)) - Ideal.exp (∑ e, l (ix2 2 e) * l (ix2 3 e)) + Ideal.ofBits .f32 0x3E4CCCCD#32

/-- A row over its root mean square, times a constant. -/
def rms (D : Fin 128 → EReal) (d : Fin 128) : EReal :=
  D d * Ideal.rsqrt (Ideal.div (∑ e, D e * D e) (Ideal.ofBits .f32 0x43000000#32) + Ideal.ofBits .f32 0x358637BD#32) * Ideal.ofBits .f32 0x3F4CCCCD#32

/-- The output block at a token and a feature: the difference of the two half heads' weighted values, over its root mean
    square. -/
theorem out_apply {q : Vec Ideal S128x1024 .bf16} {k : Keys Ideal} {v : Vec Ideal S144x8192 .bf16} (l : Vec Ideal S4x64 .f32) (σ : Fin 8192 → Fin 2048 → ℝ)
    (G : Good q k fun x y => σ x y * (Real.log 2)⁻¹) (hv : ∀ x, v (ix2 128 x) = 1) (M M' : ℝ) (n : Fin 1024) (d : Fin 128) :
    (outOf q k v l (ix2 n d) : EReal)
      = rms (fun d => soft (fun x => σ x ⟨n.val, by omega⟩) M (fun x => v (ix2 ⟨d.val, by omega⟩ x))
          - lamW l * soft (fun x => σ x ⟨1024 + n.val, by omega⟩) M' (fun x => v (ix2 ⟨d.val, by omega⟩ x))) d := by
  obtain ⟨ρ, a, e, ha⟩ := out_acc (v := v) G l
  have hq : ∀ (d : Fin 128) (y : Fin 2048) (M : ℝ), quot a (ix2 d y) = soft (fun x => σ x y) M (fun x => v (ix2 ⟨d.val, by omega⟩ x)) := fun d y M => by
    rw [quot_apply, ha, ha, done_all, done_all]
    simp only [hv, one_mul]
    exact quotient (by decide) (fun x => σ x y) (fun x => v (ix2 ⟨d.val, by omega⟩ x)) _ M
  have hd : ∀ d : Fin 128, diffs a l (ix2 d n) = soft (fun x => σ x ⟨n.val, by omega⟩) M (fun x => v (ix2 ⟨d.val, by omega⟩ x))
      - lamW l * soft (fun x => σ x ⟨1024 + n.val, by omega⟩) M' (fun x => v (ix2 ⟨d.val, by omega⟩ x)) := fun d => by
    rw [diffs_apply, lamOf_apply, hq d _ M, hq d _ M']
    rfl
  rw [e, finish_apply, invRms_apply]
  simp only [hd]
  rfl

end Cert.DiffIdeal.Diff

end
-- ==== Proof.DiffArrays.lean ====
/-
  The arrays the differential attention's blocks are cut from, read at an index: the scaled queries, the keys with their ones,
  the values with their ones.
-/
module

public import proofs.«01_k».proof.Proof.DiffSum
public import proofs.«01_k».proof.Proof.DiffRun

@[expose] public section

set_option maxRecDepth 16384

noncomputable section

namespace Cert.DiffIdeal.Diff

open Idealize.ShloMosaic Idealize.ShloMosaic.TcCoe Idealize.SL.Sem
open Cert.DiffIdeal Cert.DiffIdeal.Gen Cert.AxMath

variable (m : (ℓ : Loc nD τ sig) → Buf (Elt Ideal) ℓ) (c : Dev nD)

/-- The queries, keys, values and the vectors of the weight. -/
abbrev argQ : FVec Ideal S8x8192x8x64 .f32 := m ((c : Thread nD τ).loc main_arg0)
abbrev argK : FVec Ideal S8x8192x8x64 .f32 := m ((c : Thread nD τ).loc main_arg1)
abbrev argV : FVec Ideal S8x8192x4x128 .f32 := m ((c : Thread nD τ).loc main_arg2)
abbrev argL : FVec Ideal S4x64 .f32 := m ((c : Thread nD τ).loc main_arg3)

/-- The scale of the queries. -/
def qScale : EReal := Ideal.div (Ideal.ofBits .f32 0x3E000000#32) (Ideal.log (Ideal.ofBits .f32 0x40000000#32))

/-- The scaled queries, transposed. -/
def qT (Q : FVec Ideal S8x8192x8x64 .f32) : FVec Ideal S512x65536 .bf16 :=
  transpose S512x65536 [1, 0] (truncf .bf16 (mulf (shapeCast S65536x512 Q shapeCasts_S8x8192x8x64_S65536x512 : FVec Ideal S65536x512 .f32)
    (broadcastInDim S65536x512 ![] bcast_S_S65536x512 (Host.divf (constant S_ .f32 0x3E000000#32) (Host.log (constant S_ .f32 0x40000000#32)) : FVec Ideal S_ .f32))) bitsLt_bf16_f32 : FVec Ideal S65536x512 .bf16) transposes_S65536x512_S512x65536_1_0

/-- The keys, a one and zeros after each. -/
def kT (K : FVec Ideal S8x8192x8x64 .f32) : FVec Ideal S65536x1024 .bf16 :=
  shapeCast S65536x1024 (concatenate S65536x8x128 2
    [⟨S65536x8x64, (shapeCast S65536x8x64 (truncf .bf16 K bitsLt_bf16_f32 : FVec Ideal S8x8192x8x64 .bf16) shapeCasts_S8x8192x8x64_S65536x8x64 : FVec Ideal S65536x8x64 .bf16)⟩,
     ⟨S65536x8x1, (broadcastInDim S65536x8x1 ![] bcast_S_S65536x8x1 (constant S_ .bf16 0x3F80#16) : FVec Ideal S65536x8x1 .bf16)⟩,
     ⟨S65536x8x63, (broadcastInDim S65536x8x63 ![] bcast_S_S65536x8x63 (constant S_ .bf16 0x0000#16) : FVec Ideal S65536x8x63 .bf16)⟩]
    concatenates_S65536x8x64_S65536x8x1_S65536x8x63_S65536x8x128_d2 : FVec Ideal S65536x8x128 .bf16) shapeCasts_S65536x8x128_S65536x1024

/-- The values, transposed, ones and zeros below. -/
def vT (X : FVec Ideal S8x8192x4x128 .f32) : FVec Ideal S576x65536 .bf16 :=
  shapeCast S576x65536 (concatenate S4x144x65536 1
    [⟨S4x128x65536, (transpose S4x128x65536 [1, 2, 0] (shapeCast S65536x4x128 (truncf .bf16 X bitsLt_bf16_f32 : FVec Ideal S8x8192x4x128 .bf16) shapeCasts_S8x8192x4x128_S65536x4x128 : FVec Ideal S65536x4x128 .bf16) transposes_S65536x4x128_S4x128x65536_1_2_0 : FVec Ideal S4x128x65536 .bf16)⟩,
     ⟨S4x1x65536, (broadcastInDim S4x1x65536 ![] bcast_S_S4x1x65536 (constant S_ .bf16 0x3F80#16) : FVec Ideal S4x1x65536 .bf16)⟩,
     ⟨S4x15x65536, (broadcastInDim S4x15x65536 ![] bcast_S_S4x15x65536 (constant S_ .bf16 0x0000#16) : FVec Ideal S4x15x65536 .bf16)⟩]
    concatenates_S4x128x65536_S4x1x65536_S4x15x65536_S4x144x65536_d1 : FVec Ideal S4x144x65536 .bf16) shapeCasts_S4x144x65536_S576x65536

theorem V_main_v6 : V m c main_v6 = qT (argQ m c) := by
  show StableHlo.after hostOps0 _ (Proc.devRef .tc main_v6) = _
  after_results
  rfl

theorem V_main_v12 : V m c main_v12 = kT (argK m c) := by
  show StableHlo.after hostOps0 _ (Proc.devRef .tc main_v12) = _
  after_results
  rfl

theorem V_main_v19 : V m c main_v19 = vT (argV m c) := by
  show StableHlo.after hostOps0 _ (Proc.devRef .tc main_v19) = _
  after_results
  rfl

theorem qT_apply (Q : FVec Ideal S8x8192x8x64 .f32) (b : Fin 8) (x : Fin 8192) (h : Fin 8) (d : Fin 64) :
    qT Q (ix2 ⟨64 * h.val + d.val, by omega⟩ ⟨8192 * b.val + x.val, by omega⟩) = Q (ix4 b x h d) * qScale := by
  pointwise [qT, qScale]

theorem kT_key (K : FVec Ideal S8x8192x8x64 .f32) (b : Fin 8) (x : Fin 8192) (j : Fin 8) (d : Fin 64) :
    kT K (ix2 ⟨8192 * b.val + x.val, by omega⟩ ⟨128 * j.val + d.val, by omega⟩) = K (ix4 b x j d) := by
  pointwise [kT]
  have e : (128 * j.val + d.val) % 128 = d.val := by omega
  refine (dif_pos (by omega)).trans ?_
  exact congrArg (fun y => K (ix4 b x j y)) (Fin.ext e)

theorem kT_one (K : FVec Ideal S8x8192x8x64 .f32) (b : Fin 8) (x : Fin 8192) (j : Fin 8) :
    kT K (ix2 ⟨8192 * b.val + x.val, by omega⟩ ⟨128 * j.val + 64, by omega⟩) = 1 := by
  pointwise [kT]
  rw [dif_neg (by omega), dif_pos (by omega)]

theorem kT_zero (K : FVec Ideal S8x8192x8x64 .f32) (b : Fin 8) (x : Fin 8192) (j : Fin 8) (e : Fin 64) (h : e.val ≠ 0) :
    kT K (ix2 ⟨8192 * b.val + x.val, by omega⟩ ⟨128 * j.val + (64 + e.val), by omega⟩) = 0 := by
  pointwise [kT]
  rw [dif_neg (by omega), dif_neg (by omega)]

theorem vT_value (X : FVec Ideal S8x8192x4x128 .f32) (b : Fin 8) (x : Fin 8192) (j : Fin 4) (d : Fin 128) :
    vT X (ix2 ⟨144 * j.val + d.val, by omega⟩ ⟨8192 * b.val + x.val, by omega⟩) = X (ix4 b x j d) := by
  pointwise [vT]
  have e : (144 * j.val + d.val) % 144 = d.val := by omega
  refine (dif_pos (by omega)).trans ?_
  exact congrArg (fun y => X (ix4 b x j y)) (Fin.ext e)

theorem vT_one (X : FVec Ideal S8x8192x4x128 .f32) (b : Fin 8) (x : Fin 8192) (j : Fin 4) :
    vT X (ix2 ⟨144 * j.val + 128, by omega⟩ ⟨8192 * b.val + x.val, by omega⟩) = 1 := by
  pointwise [vT]
  rw [dif_neg (by omega), dif_pos (by omega)]

/-! ## The blocks -/

/-- A token of a batch among the tokens of all batches. -/
abbrev tok (b : Fin 8) (x : Fin 8192) : Fin 65536 := ⟨8192 * b.val + x.val, by omega⟩
/-- Batch, value head and query tile of a grid point. -/
abbrev bOf (t : Fin cfg0.N) : Fin 8 := ⟨t.val / 32, by have h := t.isLt; have hN : cfg0.N = 256 := N_0; omega⟩
abbrev jOf (t : Fin cfg0.N) : Fin 4 := ⟨t.val / 8 % 4, by omega⟩
abbrev iOf (t : Fin cfg0.N) : Fin 8 := ⟨t.val % 8, by omega⟩
/-- A half head among the eight heads of queries and keys. -/
abbrev hOf (j : Fin 4) (g : Fin 2) : Fin 8 := ⟨2 * j.val + g.val, by omega⟩

theorem idx0 : ∀ t : Fin cfg0.N, win0_0.index t (0 : Fin 2) = t.val / 8 % 4 ∧ win0_0.index t (1 : Fin 2) = 8 * (t.val / 32) + t.val % 8 :=
  (by decide +kernel : ∀ t : Fin grid0.N, win0_0.index t (0 : Fin 2) = t.val / 8 % 4 ∧ win0_0.index t (1 : Fin 2) = 8 * (t.val / 32) + t.val % 8)

theorem idx1 : ∀ t : Fin cfg0.N, win0_1.index t (0 : Fin 2) = t.val / 32 ∧ win0_1.index t (1 : Fin 2) = 2 * (t.val / 8 % 4) :=
  (by decide +kernel : ∀ t : Fin grid0.N, win0_1.index t (0 : Fin 2) = t.val / 32 ∧ win0_1.index t (1 : Fin 2) = 2 * (t.val / 8 % 4))

theorem idx2 : ∀ t : Fin cfg0.N, win0_2.index t (0 : Fin 2) = t.val / 32 ∧ win0_2.index t (1 : Fin 2) = 2 * (t.val / 8 % 4) + 1 :=
  (by decide +kernel : ∀ t : Fin grid0.N, win0_2.index t (0 : Fin 2) = t.val / 32 ∧ win0_2.index t (1 : Fin 2) = 2 * (t.val / 8 % 4) + 1)

theorem idx3 : ∀ t : Fin cfg0.N, win0_3.index t (0 : Fin 2) = t.val / 8 % 4 ∧ win0_3.index t (1 : Fin 2) = t.val / 32 :=
  (by decide +kernel : ∀ t : Fin grid0.N, win0_3.index t (0 : Fin 2) = t.val / 8 % 4 ∧ win0_3.index t (1 : Fin 2) = t.val / 32)

theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem idx5 : ∀ t : Fin cfg0.N, win0_5.index t (0 : Fin 2) = 8 * (t.val / 32) + t.val % 8 ∧ win0_5.index t (1 : Fin 2) = t.val / 8 % 4 :=
  (by decide +kernel : ∀ t : Fin grid0.N, win0_5.index t (0 : Fin 2) = 8 * (t.val / 32) + t.val % 8 ∧ win0_5.index t (1 : Fin 2) = t.val / 8 % 4)

/-- The query, key, value and weight blocks of a point. -/
abbrev qB (t : Fin cfg0.N) : Vec Ideal S128x1024 .bf16 := iblk m c 0 t
abbrev k0B (t : Fin cfg0.N) : Vec Ideal S8192x128 .bf16 := iblk m c 1 t
abbrev k1B (t : Fin cfg0.N) : Vec Ideal S8192x128 .bf16 := iblk m c 2 t
abbrev vB (t : Fin cfg0.N) : Vec Ideal S144x8192 .bf16 := iblk m c 3 t
abbrev lB (t : Fin cfg0.N) : Vec Ideal S4x64 .f32 := iblk m c 4 t

/-- The query block: row `64 g + d`, column `n` is the scaled query of half head `g`, token `1024 i + n`. -/
theorem iblk0_apply (t : Fin cfg0.N) (g : Fin 2) (d : Fin 64) (n : Fin 1024) :
    qB m c t (ix2 ⟨64 * g.val + d.val, by omega⟩ n)
      = argQ m c (ix4 (bOf t) ⟨1024 * (iOf t).val + n.val, by omega⟩ (hOf (jOf t) g) d) * qScale := by
  have e : ((cfg0.win 0).blk t).view.emb (ix2 ⟨64 * g.val + d.val, by omega⟩ n)
      = (ix2 ⟨64 * (hOf (jOf t) g).val + d.val, by dsimp only; omega⟩
          (tok (bOf t) ⟨1024 * (iOf t).val + n.val, by omega⟩) : S512x65536.Idx) := by
    obtain ⟨e0, e1⟩ := idx0 t
    funext a; apply Fin.ext
    match a with
    | ⟨0, _⟩ => show win0_0.index t (0 : Fin 2) * 128 + 1 * (64 * g.val + d.val) = 64 * (2 * (t.val / 8 % 4) + g.val) + d.val; omega
    | ⟨1, _⟩ => show win0_0.index t (1 : Fin 2) * 1024 + 1 * n.val = 8192 * (t.val / 32) + (1024 * (t.val % 8) + n.val); omega
  show V m c main_v6 (((cfg0.win 0).blk t).view.emb (ix2 ⟨64 * g.val + d.val, by omega⟩ n)) = _
  rw [e]
  exact (congrFun (V_main_v6 m c) _).trans (qT_apply (argQ m c) _ _ _ _)

theorem emb1 (t : Fin cfg0.N) (x : Fin 8192) (y : Fin 128) : ((cfg0.win 1).blk t).view.emb (ix2 x y)
    = (ix2 (tok (bOf t) x) ⟨128 * (hOf (jOf t) 0).val + y.val, by dsimp only; omega⟩ : S65536x1024.Idx) := by
  obtain ⟨e0, e1⟩ := idx1 t
  funext a; apply Fin.ext
  match a with
  | ⟨0, _⟩ => show win0_1.index t (0 : Fin 2) * 8192 + 1 * x.val = 8192 * (t.val / 32) + x.val; omega
  | ⟨1, _⟩ => show win0_1.index t (1 : Fin 2) * 128 + 1 * y.val = 128 * (2 * (t.val / 8 % 4) + 0) + y.val; omega

theorem emb2 (t : Fin cfg0.N) (x : Fin 8192) (y : Fin 128) : ((cfg0.win 2).blk t).view.emb (ix2 x y)
    = (ix2 (tok (bOf t) x) ⟨128 * (hOf (jOf t) 1).val + y.val, by dsimp only; omega⟩ : S65536x1024.Idx) := by
  obtain ⟨e0, e1⟩ := idx2 t
  funext a; apply Fin.ext
  match a with
  | ⟨0, _⟩ => show win0_2.index t (0 : Fin 2) * 8192 + 1 * x.val = 8192 * (t.val / 32) + x.val; omega
  | ⟨1, _⟩ => show win0_2.index t (1 : Fin 2) * 128 + 1 * y.val = 128 * (2 * (t.val / 8 % 4) + 1) + y.val; omega

theorem emb3 (t : Fin cfg0.N) (y : Fin 144) (x : Fin 8192) : ((cfg0.win 3).blk t).view.emb (ix2 y x)
    = (ix2 ⟨144 * (jOf t).val + y.val, by omega⟩ (tok (bOf t) x) : S576x65536.Idx) := by
  obtain ⟨e0, e1⟩ := idx3 t
  funext a; apply Fin.ext
  match a with
  | ⟨0, _⟩ => show win0_3.index t (0 : Fin 2) * 144 + 1 * y.val = 144 * (t.val / 8 % 4) + y.val; omega
  | ⟨1, _⟩ => show win0_3.index t (1 : Fin 2) * 8192 + 1 * x.val = 8192 * (t.val / 32) + x.val; omega

theorem emb4 (t : Fin cfg0.N) (y : Fin 4) (x : Fin 64) : ((cfg0.win 4).blk t).view.emb (ix2 y x) = (ix2 y x : S4x64.Idx) := by
  obtain ⟨e0, e1⟩ := idx4 t
  funext a; apply Fin.ext
  match a with
  | ⟨0, _⟩ => show win0_4.index t (0 : Fin 2) * 4 + 1 * y.val = y.val; omega
  | ⟨1, _⟩ => show win0_4.index t (1 : Fin 2) * 64 + 1 * x.val = x.val; omega

/-- The key blocks at any index are the key array at the half head's columns. -/
theorem iblk1_eq (t : Fin cfg0.N) (x : Fin 8192) (y : Fin 128) :
    k0B m c t (ix2 x y) = kT (argK m c) (ix2 (tok (bOf t) x) ⟨128 * (hOf (jOf t) 0).val + y.val, by dsimp only; omega⟩) := by
  show V m c main_v12 (((cfg0.win 1).blk t).view.emb (ix2 x y)) = _
  rw [emb1]
  exact congrFun (V_main_v12 m c) _

theorem iblk2_eq (t : Fin cfg0.N) (x : Fin 8192) (y : Fin 128) :
    k1B m c t (ix2 x y) = kT (argK m c) (ix2 (tok (bOf t) x) ⟨128 * (hOf (jOf t) 1).val + y.val, by dsimp only; omega⟩) := by
  show V m c main_v12 (((cfg0.win 2).blk t).view.emb (ix2 x y)) = _
  rw [emb2]
  exact congrFun (V_main_v12 m c) _

theorem iblk3_eq (t : Fin cfg0.N) (y : Fin 144) (x : Fin 8192) :
    vB m c t (ix2 y x) = vT (argV m c) (ix2 ⟨144 * (jOf t).val + y.val, by omega⟩ (tok (bOf t) x)) := by
  show V m c main_v19 (((cfg0.win 3).blk t).view.emb (ix2 y x)) = _
  rw [emb3]
  exact congrFun (V_main_v19 m c) _

theorem iblk4_eq (t : Fin cfg0.N) (y : Fin 4) (x : Fin 64) : lB m c t (ix2 y x) = argL m c (ix2 y x) := by
  show V m c main_arg3 (((cfg0.win 4).blk t).view.emb (ix2 y x)) = _
  rw [emb4]
  exact congrFun (V_main_arg3 m c) _

/-- A lane tile's half head: the first four tiles are the first's. -/
abbrev halfOf (t : Fin 8) : Fin 2 := ⟨t.val / 4, by omega⟩

/-- The key block a lane tile sees is the key array at its half head's columns. -/
theorem keys_apply (t : Fin cfg0.N) (l : Fin 8) (x : Fin 8192) (y : Fin 128) :
    keysAt (k0B m c t) (k1B m c t) l (ix2 x y)
      = kT (argK m c) (ix2 (tok (bOf t) x) ⟨128 * (hOf (jOf t) (halfOf l)).val + y.val, by dsimp only; omega⟩) := by
  fin_cases l
  · exact iblk1_eq m c t x y
  · exact iblk1_eq m c t x y
  · exact iblk1_eq m c t x y
  · exact iblk1_eq m c t x y
  · exact iblk2_eq m c t x y
  · exact iblk2_eq m c t x y
  · exact iblk2_eq m c t x y
  · exact iblk2_eq m c t x y

/-! ## The result -/

/-- The score of query token `n`, head `h` with key token `x`, of real queries and keys. -/
def scoreR (q k : Fin 8 → Fin 8192 → Fin 8 → Fin 64 → ℝ) (b : Fin 8) (n : Fin 8192) (h : Fin 8) (x : Fin 8192) : ℝ :=
  (∑ d, k b x h d * q b n h d) * (1 / 8)

theorem qScale_eq : qScale = (((1 / 8) * (Real.log 2)⁻¹ : ℝ) : EReal) := by
  unfold qScale
  have h1 : Ideal.ofBits .f32 0x3E000000#32 = ((1 / 8 : ℝ) : EReal) := by
    simp [Ideal.ofBits, Ideal.ieee]
    rw [← EReal.coe_mul]
    norm_num
  have h2 : Ideal.ofBits .f32 0x40000000#32 = ((2 : ℝ) : EReal) := by
    simp [Ideal.ofBits, Ideal.ieee]
    rw [← EReal.coe_mul]
    norm_num
  have h3 : Ideal.log ((2 : ℝ) : EReal) = ((Real.log 2 : ℝ) : EReal) := if_neg (by norm_num)
  rw [h1, h2, h3, div_real _ _ log_two_pos.ne', ← EReal.coe_mul]
  congr 1
  ring

/-- The blocks of a point hold what the sweep's lemma needs. -/
theorem good_at {q k : Fin 8 → Fin 8192 → Fin 8 → Fin 64 → ℝ}
    (hq : ∀ b n h d, argQ m c (ix4 b n h d) = (q b n h d : EReal)) (hk : ∀ b x h d, argK m c (ix4 b x h d) = (k b x h d : EReal))
    (t : Fin cfg0.N) :
    Good (qB m c t) (keysAt (k0B m c t) (k1B m c t)) fun x y =>
      scoreR q k (bOf t) ⟨1024 * (iOf t).val + y.val % 1024, by omega⟩ (hOf (jOf t) ⟨y.val / 1024, by omega⟩) x * (Real.log 2)⁻¹ where
  score x y := by
    have hh : halfOf (tileOf y) = ⟨y.val / 1024, by omega⟩ := Fin.ext (by dsimp only; omega)
    have e : ∀ d : Fin 64, keysAt (k0B m c t) (k1B m c t) (tileOf y) (ix2 x ⟨d.val, by omega⟩)
        * qB m c t (ix2 ⟨64 * (y.val / 1024) + d.val, by omega⟩ ⟨y.val % 1024, Nat.mod_lt _ (by decide)⟩)
        = ((k (bOf t) x (hOf (jOf t) ⟨y.val / 1024, by omega⟩) d * (q (bOf t) ⟨1024 * (iOf t).val + y.val % 1024, by omega⟩ (hOf (jOf t) ⟨y.val / 1024, by omega⟩) d
            * ((1 / 8) * (Real.log 2)⁻¹)) : ℝ) : EReal) := by
      intro d
      have e1 := (keys_apply m c t (tileOf y) x ⟨d.val, by omega⟩).trans ((kT_key (argK m c) (bOf t) x (hOf (jOf t) (halfOf (tileOf y))) d).trans (hk _ _ _ _))
      have e2 := (iblk0_apply m c t ⟨y.val / 1024, by omega⟩ d ⟨y.val % 1024, Nat.mod_lt _ (by decide)⟩)
      rw [hq, qScale_eq] at e2
      rw [hh] at e1
      refine (congrArg₂ (fun a b : EReal => a * b) e1 e2).trans ?_
      dsimp only
      rw [← EReal.coe_mul, ← EReal.coe_mul]
    rw [Finset.sum_congr rfl fun d _ => e d, coe_sum]
    congr 1
    unfold scoreR
    rw [Finset.sum_mul, Finset.sum_mul]
    exact Finset.sum_congr rfl fun d _ => by ring
  one l x := (keys_apply m c t l x 64).trans (kT_one (argK m c) (bOf t) x (hOf (jOf t) (halfOf l)))
  zero l x e h := (keys_apply m c t l x ⟨64 + e.val, by omega⟩).trans (kT_zero (argK m c) (bOf t) x (hOf (jOf t) (halfOf l)) e h)

/-- The differential attention at a batch, token, head and feature, of real queries and keys. -/
def attn (q k : Fin 8 → Fin 8192 → Fin 8 → Fin 64 → ℝ) (v : FVec Ideal S8x8192x4x128 .f32) (l : FVec Ideal S4x64 .f32)
    (M : Fin 8 → Fin 8192 → Fin 8 → ℝ) (b : Fin 8) (n : Fin 8192) (j : Fin 4) (d : Fin 128) : EReal :=
  rms (fun d => soft (scoreR q k b n (hOf j 0)) (M b n (hOf j 0)) (fun x => v (ix4 b x j d))
    - lamW l * soft (scoreR q k b n (hOf j 1)) (M b n (hOf j 1)) (fun x => v (ix4 b x j d))) d

/-- A point's output block at a token of the tile and a feature. -/
theorem outAt_apply {q k : Fin 8 → Fin 8192 → Fin 8 → Fin 64 → ℝ}
    (hq : ∀ b n h d, argQ m c (ix4 b n h d) = (q b n h d : EReal)) (hk : ∀ b x h d, argK m c (ix4 b x h d) = (k b x h d : EReal))
    (M : Fin 8 → Fin 8192 → Fin 8 → ℝ) (t : Fin cfg0.N) (n : Fin 1024) (d : Fin 128) :
    (outAt m c t (ix2 n d) : EReal) = attn q k (argV m c) (argL m c) M (bOf t) ⟨1024 * (iOf t).val + n.val, by omega⟩ (jOf t) d := by
  have hv : ∀ x, vB m c t (ix2 128 x) = 1 :=
    fun x => (iblk3_eq m c t 128 x).trans (vT_one (argV m c) (bOf t) x (jOf t))
  have hl : lamW (lB m c t) = lamW (argL m c) := by
    unfold lamW
    simp only [iblk4_eq]
  refine (out_apply (lB m c t) _ (good_at m c hq hk t) hv (M (bOf t) ⟨1024 * (iOf t).val + n.val, by omega⟩ (hOf (jOf t) 0))
    (M (bOf t) ⟨1024 * (iOf t).val + n.val, by omega⟩ (hOf (jOf t) 1)) n d).trans ?_
  have e1 : (1024 + n.val) % 1024 = n.val := by omega
  have e2 : (1024 + n.val) / 1024 = 1 := by omega
  have e3 : n.val % 1024 = n.val := by omega
  have e4 : n.val / 1024 = 0 := by omega
  have ev : ∀ (d : Fin 128) x, vB m c t (ix2 ⟨d.val, by omega⟩ x) = argV m c (ix4 (bOf t) x (jOf t) d) := fun d x =>
    (iblk3_eq m c t ⟨d.val, by omega⟩ x).trans (vT_value (argV m c) (bOf t) x (jOf t) d)
  simp only [e1, e2, e3, e4, hl, ev]
  rfl

end Cert.DiffIdeal.Diff

end
-- ==== Proof.DiffOut.lean ====
/-
  The result of the differential attention: every point's block is a part of one array, the blocks cover it, and the lines after
  the region reshape it and convert its type.
-/
module

public import proofs.«01_k».proof.Proof.DiffArrays
public import Idealize.ShloMosaic.Lib.Pipeline.ValueKit.Geometry

@[expose] public section

set_option maxRecDepth 16384

noncomputable section

namespace Cert.DiffIdeal.Diff

open Idealize.ShloMosaic Idealize.ShloMosaic.TcCoe Idealize.SL.Sem
open Cert.DiffIdeal Cert.DiffIdeal.Gen Cert.AxMath

variable (m : (ℓ : Loc nD τ sig) → Buf (Elt Ideal) ℓ) (c : Dev nD)

/-- The whole result array: rows are tokens, columns heads and features. -/
def outArr (q k : Fin 8 → Fin 8192 → Fin 8 → Fin 64 → ℝ) (v : FVec Ideal S8x8192x4x128 .f32) (l : FVec Ideal S4x64 .f32)
    (M : Fin 8 → Fin 8192 → Fin 8 → ℝ) : Vec Ideal S65536x512 .bf16 :=
  fun i => attn q k v l M ⟨(i 0 : Nat) / 8192, by have h : (i 0 : Nat) < 65536 := (i 0).isLt; omega⟩ ⟨(i 0 : Nat) % 8192, Nat.mod_lt _ (by decide)⟩
    ⟨(i 1 : Nat) / 128, by have h : (i 1 : Nat) < 512 := (i 1).isLt; omega⟩ ⟨(i 1 : Nat) % 128, Nat.mod_lt _ (by decide)⟩

theorem outArr_apply (q k : Fin 8 → Fin 8192 → Fin 8 → Fin 64 → ℝ) (v : FVec Ideal S8x8192x4x128 .f32) (l : FVec Ideal S4x64 .f32)
    (M : Fin 8 → Fin 8192 → Fin 8 → ℝ) (b : Fin 8) (n : Fin 8192) (j : Fin 4) (d : Fin 128) :
    outArr q k v l M (ix2 (tok b n) ⟨128 * j.val + d.val, by omega⟩) = attn q k v l M b n j d := by
  have e1 : (⟨(8192 * b.val + n.val) / 8192, by omega⟩ : Fin 8) = b := Fin.ext (by dsimp only; omega)
  have e2 : (⟨(8192 * b.val + n.val) % 8192, Nat.mod_lt _ (by decide)⟩ : Fin 8192) = n := Fin.ext (by dsimp only; omega)
  have e3 : (⟨(128 * j.val + d.val) / 128, by omega⟩ : Fin 4) = j := Fin.ext (by dsimp only; omega)
  have e4 : (⟨(128 * j.val + d.val) % 128, Nat.mod_lt _ (by decide)⟩ : Fin 128) = d := Fin.ext (by dsimp only; omega)
  show attn q k v l M ⟨(8192 * b.val + n.val) / 8192, by omega⟩ ⟨(8192 * b.val + n.val) % 8192, _⟩ ⟨(128 * j.val + d.val) / 128, by omega⟩ ⟨(128 * j.val + d.val) % 128, _⟩ = _
  rw [e1, e2, e3, e4]

/-- What a point writes back is its block of the result array. -/
theorem flushed_eq {q k : Fin 8 → Fin 8192 → Fin 8 → Fin 64 → ℝ}
    (hq : ∀ b n h d, argQ m c (ix4 b n h d) = (q b n h d : EReal)) (hk : ∀ b x h d, argK m c (ix4 b x h d) = (k b x h d : EReal))
    (M : Fin 8 → Fin 8192 → Fin 8 → ℝ) (t : Fin cfg0.N) :
    (dats m 0 c).flushed 5 t = ((cfg0.win 5).blk t).view.read (Elt Ideal) (outArr q k (argV m c) (argL m c) M) := by
  show (cfg0.win 5).cut (grid0.coords t) ((dats m 0 c).after 5 t) = _
  rw [after5]
  funext i
  show outAt m c t i = outArr q k (argV m c) (argL m c) M (((cfg0.win 5).blk t).view.emb i)
  obtain ⟨n, d, rfl⟩ : ∃ (n : Fin 1024) (d : Fin 128), i = ix2 n d := ⟨i 0, i 1, eq_ix2 i⟩
  have e : ((cfg0.win 5).blk t).view.emb (ix2 n d)
      = (ix2 (tok (bOf t) ⟨1024 * (iOf t).val + n.val, by omega⟩) ⟨128 * (jOf t).val + d.val, by omega⟩ : S65536x512.Idx) := by
    obtain ⟨e0, e1⟩ := idx5 t
    funext a; apply Fin.ext
    match a with
    | ⟨0, _⟩ => show win0_5.index t (0 : Fin 2) * 1024 + 1 * n.val = 8192 * (t.val / 32) + (1024 * (t.val % 8) + n.val); omega
    | ⟨1, _⟩ => show win0_5.index t (1 : Fin 2) * 128 + 1 * d.val = 128 * (t.val / 8 % 4) + d.val; omega
  rw [e, outArr_apply]
  exact outAt_apply m c hq hk M t n d

/-- An index lies in a point's block when its row and column do. -/
theorem mem_blk (t : Fin cfg0.N) (i : S65536x512.Idx)
    (h0 : 1024 * (8 * (t.val / 32) + t.val % 8) ≤ (i 0 : Nat) ∧ (i 0 : Nat) < 1024 * (8 * (t.val / 32) + t.val % 8) + 1024)
    (h1 : 128 * (t.val / 8 % 4) ≤ (i 1 : Nat) ∧ (i 1 : Nat) < 128 * (t.val / 8 % 4) + 128) :
    i ∈ ((cfg0.win 5).blk t).view.set := by
  show i ∈ ((View.whole main_v20).slice (win0_5.rect t)).set
  rw [View.set_slice_whole, Rect.mem_set_unit]
  obtain ⟨e0, e1⟩ := idx5 t
  intro a
  match a with
  | ⟨0, _⟩ => show win0_5.index t (0 : Fin 2) * 1024 ≤ (i 0 : Nat) ∧ (i 0 : Nat) < win0_5.index t (0 : Fin 2) * 1024 + 1024
              omega
  | ⟨1, _⟩ => show win0_5.index t (1 : Fin 2) * 128 ≤ (i 1 : Nat) ∧ (i 1 : Nat) < win0_5.index t (1 : Fin 2) * 128 + 128
              omega

/-- Every index of the result is in some point's block. -/
theorem cover (i : S65536x512.Idx) : ∃ t : Fin cfg0.N, (cfg0.win 5).flush t = true ∧ i ∈ ((cfg0.win 5).blk t).view.set := by
  have h0 : (i 0 : Nat) < 65536 := (i 0).isLt
  have h1 : (i 1 : Nat) < 512 := (i 1).isLt
  have hN : cfg0.N = 256 := N_0
  refine ⟨⟨32 * ((i 0 : Nat) / 8192) + 8 * ((i 1 : Nat) / 128) + (i 0 : Nat) % 8192 / 1024, by omega⟩, flush0_5 _, mem_blk _ i ?_ ?_⟩
  · dsimp only; omega
  · dsimp only; omega

/-- So the array ends as the attention at every token, head and feature. -/
theorem final {q k : Fin 8 → Fin 8192 → Fin 8 → Fin 64 → ℝ}
    (hq : ∀ b n h d, argQ m c (ix4 b n h d) = (q b n h d : EReal)) (hk : ∀ b x h d, argK m c (ix4 b x h d) = (k b x h d : EReal))
    (M : Fin 8 → Fin 8192 → Fin 8 → ℝ) : (dats m 0 c).arrAt 5 cfg0.N = outArr q k (argV m c) (argL m c) M :=
  (dats m 0 c).arrAt_eq_of_cover 5 (outArr q k (argV m c) (argL m c) M) (fun t _ => flushed_eq m c hq hk M t) cover

/-- The lines after the region: a reshape and a conversion. -/
def tailOf (x : FVec Ideal S65536x512 .bf16) : FVec Ideal S8x8192x4x128 .f32 :=
  extf .f32 (shapeCast S8x8192x4x128 x shapeCasts_S65536x512_S8x8192x4x128 : FVec Ideal S8x8192x4x128 .bf16) bitsLt_bf16_f32

theorem tailOf_apply (x : FVec Ideal S65536x512 .bf16) (b : Fin 8) (n : Fin 8192) (j : Fin 4) (d : Fin 128) :
    tailOf x (ix4 b n j d) = x (ix2 (tok b n) ⟨128 * j.val + d.val, by omega⟩) := by
  pointwise [tailOf]
  exact congrArg x (congrArg₂ ix2 (Fin.ext (by dsimp only; omega)) (Fin.ext (by dsimp only; omega)))

/-- The result buffer after the lines is those lines of the region's array. -/
theorem tail_eq : Pipeline.afterTail₀ cfgs (dats m) 0 (V0 m) [hostOps1] c main_v22 = tailOf ((dats m 0 c).arrAt 5 cfg0.N) := by
  unfold Pipeline.afterTail₀
  have h : Pipeline.withArrays (cfgs 0).spec c (V0 m c) (fun w => (dats m 0 c).arrAt w (cfgs 0).N) (Proc.devRef .tc main_v20)
      = (dats m 0 c).arrAt 5 cfg0.N :=
    Pipeline.Dat.withArrays_arrAt (dats m 0 c) sharedIn0 (V0 m c) (A_eq m c) 5
  generalize Pipeline.withArrays (cfgs 0).spec c (V0 m c) (fun w => (dats m 0 c).arrAt w (cfgs 0).N) = W at h ⊢
  show StableHlo.after hostOps1 W (Proc.devRef .tc main_v22) = _
  rw [← h]
  after_results
  rfl

end Cert.DiffIdeal.Diff

end
-- ==== Proof.DiffRef.lean ====
/-
  The reference of the differential attention read at an index: scaled scores, their largest, the exponentials, their sum, the
  weighted values, and the normalized difference of the two half heads.
-/
module

public import proofs.«01_k».proof.Proof.AxMath
public import proofs.«01_k».proof.Proof.Gen.DiffReferenceIdeal.Run
public import Idealize.ShloMosaic.Lib.Pointwise
public import Idealize.ShloMosaic.Lib.IdealHost

@[expose] public section

set_option maxRecDepth 16384

noncomputable section

namespace Cert.DiffReferenceIdeal.Diff

open Idealize.ShloMosaic Idealize.ShloMosaic.TcCoe Idealize.SL.Sem
open Cert.DiffReferenceIdeal Cert.DiffReferenceIdeal.Gen Cert.AxMath

/-- The scores, scaled. -/
def refS (Q K : FVec Ideal S8x8192x8x64 .f32) : FVec Ideal S8x4x2x8192x8192 .f32 :=
  mulf (Host.dotGeneral dot_S8x8192x4x2x64_S8x8192x4x2x64_S8x4x2x8192x8192_4_4_1_1_023_023 none
      (shapeCast S8x8192x4x2x64 Q shapeCasts_S8x8192x8x64_S8x8192x4x2x64 : FVec Ideal S8x8192x4x2x64 .f32)
      (shapeCast S8x8192x4x2x64 K shapeCasts_S8x8192x8x64_S8x8192x4x2x64 : FVec Ideal S8x8192x4x2x64 .f32) : FVec Ideal S8x4x2x8192x8192 .f32)
    (broadcastInDim S8x4x2x8192x8192 ![] bcast_S_S8x4x2x8192x8192 (constant S_ .f32 0x3E000000#32))

/-- The largest score of each query, from −∞. -/
def rowMax (S : FVec Ideal S8x4x2x8192x8192 .f32) : FVec Ideal S8x4x2x8192 .f32 :=
  Host.reduce FloatOps.maximumf S (constant S_ .f32 0xFF800000#32 : FVec Ideal S_ .f32) reducesTo_S8x4x2x8192x8192_S8x4x2x8192_d4 h_S_

/-- The largest score of each query. -/
def refM (S : FVec Ideal S8x4x2x8192x8192 .f32) : FVec Ideal S8x4x2x8192 .f32 :=
  maximumf (broadcastInDim S8x4x2x8192 ![] bcast_S_S8x4x2x8192 (constant S_ .f32 0xFF800000#32))
    (rowMax S)

/-- The exponentials of the scores less the largest. -/
def refE (S : FVec Ideal S8x4x2x8192x8192 .f32) : FVec Ideal S8x4x2x8192x8192 .f32 :=
  Host.exp (subf S (broadcastInDim S8x4x2x8192x8192 ![0, 1, 2, 3, 4] bcast_S8x4x2x8192x1_S8x4x2x8192x8192_0_1_2_3_4
    (broadcastInDim S8x4x2x8192x1 ![0, 1, 2, 3] bcast_S8x4x2x8192_S8x4x2x8192x1_0_1_2_3 (refM S))))

/-- The exponentials over their sum. -/
def refP (E : FVec Ideal S8x4x2x8192x8192 .f32) : FVec Ideal S8x4x2x8192x8192 .f32 :=
  Host.divf E (broadcastInDim S8x4x2x8192x8192 ![0, 1, 2, 3, 4] bcast_S8x4x2x8192x1_S8x4x2x8192x8192_0_1_2_3_4
    (broadcastInDim S8x4x2x8192x1 ![0, 1, 2, 3] bcast_S8x4x2x8192_S8x4x2x8192x1_0_1_2_3
      (Host.reduceAdd E (constant S_ .f32 0x00000000#32) reducesTo_S8x4x2x8192x8192_S8x4x2x8192_d4 h_S_)))

/-- The weight of the second half head. -/
def refL (L : FVec Ideal S4x64 .f32) : FVec Ideal S_ .f32 :=
  addf (subf
      (Host.exp (Host.reduceAdd (mulf (shapeCast S64 (extractStridedSlice S1x64 ![0, 0] L slices_S4x64_S1x64_0_0) shapeCasts_S1x64_S64 : FVec Ideal S64 .f32)
        (shapeCast S64 (extractStridedSlice S1x64 ![1, 0] L slices_S4x64_S1x64_1_0) shapeCasts_S1x64_S64)) (constant S_ .f32 0x00000000#32) reducesTo_S64_S_d0 h_S_))
      (Host.exp (Host.reduceAdd (mulf (shapeCast S64 (extractStridedSlice S1x64 ![2, 0] L slices_S4x64_S1x64_2_0) shapeCasts_S1x64_S64 : FVec Ideal S64 .f32)
        (shapeCast S64 (extractStridedSlice S1x64 ![3, 0] L slices_S4x64_S1x64_3_0) shapeCasts_S1x64_S64)) (constant S_ .f32 0x00000000#32) reducesTo_S64_S_d0 h_S_)))
    (constant S_ .f32 0x3E4CCCCD#32)

/-- The first half head's weights less the second's times its weight. -/
def refD (P : FVec Ideal S8x4x2x8192x8192 .f32) (w : FVec Ideal S_ .f32) : FVec Ideal S8x4x8192x8192 .f32 :=
  subf (shapeCast S8x4x8192x8192 (extractStridedSlice S8x4x1x8192x8192 ![0, 0, 0, 0, 0] P slices_S8x4x2x8192x8192_S8x4x1x8192x8192_0_0_0_0_0) shapeCasts_S8x4x1x8192x8192_S8x4x8192x8192)
    (mulf (broadcastInDim S8x4x8192x8192 ![] bcast_S_S8x4x8192x8192 w)
      (shapeCast S8x4x8192x8192 (extractStridedSlice S8x4x1x8192x8192 ![0, 0, 1, 0, 0] P slices_S8x4x2x8192x8192_S8x4x1x8192x8192_0_0_1_0_0) shapeCasts_S8x4x1x8192x8192_S8x4x8192x8192))

/-- The weighted values. -/
def refO (X : FVec Ideal S8x8192x4x128 .f32) (D : FVec Ideal S8x4x8192x8192 .f32) : FVec Ideal S8x8192x4x128 .f32 :=
  transpose S8x8192x4x128 [0, 3, 1, 2]
    (Host.dotGeneral dot_S8x8192x4x128_S8x4x8192x8192_S8x4x128x8192_1_3_3_2_02_01 none X D : FVec Ideal S8x4x128x8192 .f32)
    transposes_S8x4x128x8192_S8x8192x4x128_0_3_1_2

/-- A head's row over its root mean square, times a constant. -/
def refN (O : FVec Ideal S8x8192x4x128 .f32) : FVec Ideal S8x8192x4x128 .f32 :=
  mulf (mulf O (broadcastInDim S8x8192x4x128 ![0, 1, 2, 3] bcast_S8x8192x4x1_S8x8192x4x128_0_1_2_3
      (Host.rsqrt (addf (Host.divf (broadcastInDim S8x8192x4x1 ![0, 1, 2] bcast_S8x8192x4_S8x8192x4x1_0_1_2
          (Host.reduceAdd (mulf O O) (constant S_ .f32 0x00000000#32) reducesTo_S8x8192x4x128_S8x8192x4_d3 h_S_))
        (broadcastInDim S8x8192x4x1 ![] bcast_S_S8x8192x4x1 (constant S_ .f32 0x43000000#32)))
        (broadcastInDim S8x8192x4x1 ![] bcast_S_S8x8192x4x1 (constant S_ .f32 0x358637BD#32))) : FVec Ideal S8x8192x4x1 .f32)))
    (broadcastInDim S8x8192x4x128 ![] bcast_S_S8x8192x4x128 (constant S_ .f32 0x3F4CCCCD#32))

/-- The reference's result of its arguments. -/
def refOut (Q K : FVec Ideal S8x8192x8x64 .f32) (X : FVec Ideal S8x8192x4x128 .f32) (L : FVec Ideal S4x64 .f32) : FVec Ideal S8x8192x4x128 .f32 :=
  refN (refO X (refD (refP (refE (refS Q K))) (refL L)))

theorem refS_apply (Q K : FVec Ideal S8x8192x8x64 .f32) (b : Fin 8) (j : Fin 4) (g : Fin 2) (n x : Fin 8192) :
    refS Q K (ix5 b j g n x) = (∑ d : Fin 64, Q (ix4 b n ⟨2 * j.val + g.val, by omega⟩ d) * K (ix4 b x ⟨2 * j.val + g.val, by omega⟩ d)) * Ideal.ofBits .f32 0x3E000000#32 := by
  pointwise [refS]
  have e : (⟨j.val * 2 + g.val, by omega⟩ : Fin 8) = ⟨2 * j.val + g.val, by omega⟩ := Fin.ext (by dsimp only; omega)
  exact congrArg (fun y : EReal => y * Ideal.ofBits .f32 0x3E000000#32)
    (Finset.sum_congr rfl fun d _ => congrArg (fun y : Fin 8 => (Q (ix4 b n y d) * K (ix4 b x y d) : EReal)) e)

/-- A largest value starts from −∞. -/
theorem start : Ideal.ofBits .f32 0xFF800000#32 = ⊥ := by
  simp [Ideal.ofBits, Ideal.ieee]

/-- A reduction by maximum from −∞, of finite values at least one of which reduces into the place, is finite there. -/
theorem reduce_real {s t u : Shape} {axes : List (Fin s.rank)} (x : FVec Ideal s .f32) (init : FVec Ideal u .f32) (h : s.ReducesTo axes t)
    (hu : 0 < u.numel) (j : t.Idx) (hi : init (Shape.Idx.first hu) = (⊥ : EReal)) (hx : ∀ i, IsR (x i)) (i0 : s.Idx) (h0 : h.drop i0 = j) :
    IsR ((Host.reduce FloatOps.maximumf x init h hu : FVec Ideal t .f32) j) := by
  have e : (Host.reduce FloatOps.maximumf x init h hu : FVec Ideal t .f32) j = (Finset.univ.filter fun i => h.drop i = j).fold max (⊥ : EReal) x := by
    rw [← hi]
    exact Host.reduce_eq_fold (max : EReal → EReal → EReal) x init h hu j
  rw [e]
  exact isR_fold_max _ ⟨i0, by simp [h0]⟩ _ hx

/-- A maximum with the array that is −∞ everywhere changes nothing. -/
theorem max_start (R : FVec Ideal S8x4x2x8192 .f32) (i : S8x4x2x8192.Idx) :
    maximumf (broadcastInDim S8x4x2x8192 ![] bcast_S_S8x4x2x8192 (constant S_ .f32 0xFF800000#32)) R i = R i := by
  have e : maximumf (broadcastInDim S8x4x2x8192 ![] bcast_S_S8x4x2x8192 (constant S_ .f32 0xFF800000#32)) R i
      = max (Ideal.ofBits .f32 0xFF800000#32) (R i) := rfl
  rw [e, start, max_bot_left]

/-- The start of the largest score is −∞. -/
theorem const_start (i : S_.Idx) : (constant S_ .f32 0xFF800000#32 : FVec Ideal S_ .f32) i = (⊥ : EReal) := by
  have e : (constant S_ .f32 0xFF800000#32 : FVec Ideal S_ .f32) i = Ideal.ofBits .f32 0xFF800000#32 := rfl
  rw [e, start]

/-- The last coordinate of a score's index is the one reduced. -/
theorem drop_score (h : S8x4x2x8192x8192.ReducesTo [4] S8x4x2x8192) (b : Fin 8) (j : Fin 4) (g : Fin 2) (n x : Fin 8192) :
    h.drop (ix5 b j g n x) = ix4 b j g n :=
  (h.fiber_r5_a4 (ix4 b j g n) (ix5 b j g n x)).2 ⟨x, rfl⟩

/-- The largest of finite scores is finite. -/
theorem rowMax_real (S : FVec Ideal S8x4x2x8192x8192 .f32) (hS : ∀ i, IsR (S i)) (b : Fin 8) (j : Fin 4) (g : Fin 2) (n : Fin 8192) :
    IsR (rowMax S (ix4 b j g n)) := by
  unfold rowMax
  exact reduce_real S _ _ _ _ (const_start _) hS (ix5 b j g n n) (drop_score _ b j g n n)

theorem refM_eq (S : FVec Ideal S8x4x2x8192x8192 .f32) (i : S8x4x2x8192.Idx) : refM S i = rowMax S i := by
  unfold refM
  exact max_start _ i

theorem refM_real (S : FVec Ideal S8x4x2x8192x8192 .f32) (hS : ∀ i, IsR (S i)) (b : Fin 8) (j : Fin 4) (g : Fin 2) (n : Fin 8192) :
    IsR (refM S (ix4 b j g n)) := by
  rw [refM_eq]
  exact rowMax_real S hS b j g n

theorem refE_apply (S : FVec Ideal S8x4x2x8192x8192 .f32) (b : Fin 8) (j : Fin 4) (g : Fin 2) (n x : Fin 8192) :
    refE S (ix5 b j g n x) = Ideal.exp (S (ix5 b j g n x) - refM S (ix4 b j g n)) := by
  pointwise [refE]

theorem refP_apply (E : FVec Ideal S8x4x2x8192x8192 .f32) (b : Fin 8) (j : Fin 4) (g : Fin 2) (n x : Fin 8192) :
    refP E (ix5 b j g n x) = Ideal.div (E (ix5 b j g n x)) (∑ x' : Fin 8192, E (ix5 b j g n x')) := by
  pointwise [refP]

theorem refL_apply (L : FVec Ideal S4x64 .f32) :
    refL L ix0 = Ideal.exp (∑ e, L (ix2 0 e) * L (ix2 1 e)) - Ideal.exp (∑ e, L (ix2 2 e) * L (ix2 3 e)) + Ideal.ofBits .f32 0x3E4CCCCD#32 := by
  pointwise [refL]

theorem refD_apply (P : FVec Ideal S8x4x2x8192x8192 .f32) (w : FVec Ideal S_ .f32) (b : Fin 8) (j : Fin 4) (n x : Fin 8192) :
    refD P w (ix4 b j n x) = P (ix5 b j 0 n x) - w ix0 * P (ix5 b j 1 n x) := by
  pointwise [refD]

theorem refO_apply (X : FVec Ideal S8x8192x4x128 .f32) (D : FVec Ideal S8x4x8192x8192 .f32) (b : Fin 8) (n : Fin 8192) (j : Fin 4) (d : Fin 128) :
    refO X D (ix4 b n j d) = ∑ x : Fin 8192, X (ix4 b x j d) * D (ix4 b j n x) := by
  pointwise [refO]

theorem refN_apply (O : FVec Ideal S8x8192x4x128 .f32) (b : Fin 8) (n : Fin 8192) (j : Fin 4) (d : Fin 128) :
    refN O (ix4 b n j d) = O (ix4 b n j d)
      * Ideal.rsqrt (Ideal.div (∑ e : Fin 128, O (ix4 b n j e) * O (ix4 b n j e)) (Ideal.ofBits .f32 0x43000000#32) + Ideal.ofBits .f32 0x358637BD#32)
      * Ideal.ofBits .f32 0x3F4CCCCD#32 := by
  pointwise [refN]

end Cert.DiffReferenceIdeal.Diff

end
-- ==== Proof.DiffPre.lean ====
/-
  What the precondition says of the differential attention: every entry of all four arguments is a real number.
-/
module

public import proofs.«01_k».proof.Pre_finite_diff
public import proofs.«01_k».proof.Proof.AxMath
public import Idealize.ShloMosaic.Lib.ReduceAll
public import Idealize.ShloMosaic.Lib.Pointwise

@[expose] public section

set_option maxRecDepth 16384

noncomputable section

namespace Cert.Pre_finite_diff.Diff

open Idealize.ShloMosaic Cert.AxMath

/-- The precondition's side conditions. -/
theorem facts : Cert.Pre_finite_diff.Facts where
  bcast_S_S8x8192x8x64 := by decide
  reducesTo_S8x8192x8x64_S_d0_1_2_3 := by decide
  h_S_ := by decide
  bcast_S_S8x8192x4x128 := by decide
  reducesTo_S8x8192x4x128_S_d0_1_2_3 := by decide
  bcast_S_S4x64 := by decide
  reducesTo_S4x64_S_d0_1 := by decide

/-- A value whose absolute value is below +∞ is a real number. -/
theorem isR_of_abs_lt (x : EReal) (h : Ideal.cmp .olt (max x (-x)) (Ideal.ofBits .f32 0x7F800000#32) = 1#1) : IsR x := by
  have htop : Ideal.ofBits .f32 0x7F800000#32 = ⊤ := by simp [Ideal.ofBits, Ideal.ieee]
  rw [htop] at h
  have hlt : max x (-x) < ⊤ := by
    by_contra hn
    simp [Ideal.cmp, hn] at h
  rw [max_lt_iff] at hlt
  induction x using EReal.rec with
  | bot => simp at hlt
  | top => simp at hlt
  | coe r => exact ⟨r, rfl⟩

instance : Subsingleton S_.Idx := ⟨fun a b => funext fun i => i.elim0⟩

/-- So the precondition says that all queries, keys, values and weights are real. -/
theorem real [Facts] (Q K : FVec Ideal S8x8192x8x64 .f32) (X : FVec Ideal S8x8192x4x128 .f32) (L : FVec Ideal S4x64 .f32)
    (h : Cert.Pre_finite_diff.fn (F := Ideal) Q K X L = fun _ => 1#1) : (∀ i, IsR (Q i)) ∧ (∀ i, IsR (K i)) ∧ (∀ i, IsR (X i)) ∧ ∀ i, IsR (L i) := by
  have h0 := congrFun h ix0
  unfold Cert.Pre_finite_diff.fn at h0
  dsimp only at h0
  unfold Cert.Pre_finite_diff.fn_part1 at h0
  dsimp only at h0
  obtain ⟨h0, hl⟩ := IntOp.andi_eq_one.1 h0
  obtain ⟨h0, hx⟩ := IntOp.andi_eq_one.1 h0
  obtain ⟨hq, hk⟩ := IntOp.andi_eq_one.1 h0
  exact ⟨fun i => isR_of_abs_lt _ (Host.reduce_andi_all _ _ _ _ _ hq i), fun i => isR_of_abs_lt _ (Host.reduce_andi_all _ _ _ _ _ hk i),
    fun i => isR_of_abs_lt _ (Host.reduce_andi_all _ _ _ _ _ hx i), fun i => isR_of_abs_lt _ (Host.reduce_andi_all _ _ _ _ _ hl i)⟩

end Cert.Pre_finite_diff.Diff

end
-- ==== Proof.DiffValue.lean ====
/-
  The value claim of the differential attention: of finite queries, keys, values and weights, kernel and reference leave the same result.
-/
module

public import proofs.«01_k».proof.Defs
public import proofs.«01_k».proof.Proof.DiffOut
public import proofs.«01_k».proof.Proof.DiffRef
public import proofs.«01_k».proof.Proof.DiffPre

@[expose] public section

set_option maxRecDepth 16384

noncomputable section

namespace Cert.DiffReferenceIdeal.Diff

open Idealize.ShloMosaic Idealize.ShloMosaic.TcCoe Idealize.SL.Sem
open Cert.DiffReferenceIdeal Cert.DiffReferenceIdeal.Gen Cert.AxMath
open Cert.DiffIdeal.Diff (scoreR soft attn lamW rms hOf)

variable {Q K : FVec Ideal S8x8192x8x64 .f32} {q k : Fin 8 → Fin 8192 → Fin 8 → Fin 64 → ℝ}

/-- Of real queries and keys the reference's scores are the real scores. -/
theorem refS_real (hq : ∀ b n h d, Q (ix4 b n h d) = (q b n h d : EReal)) (hk : ∀ b x h d, K (ix4 b x h d) = (k b x h d : EReal))
    (b : Fin 8) (j : Fin 4) (g : Fin 2) (n x : Fin 8192) :
    refS Q K (ix5 b j g n x) = (scoreR q k b n (hOf j g) x : EReal) := by
  have e8 : Ideal.ofBits .f32 0x3E000000#32 = ((1 / 8 : ℝ) : EReal) := by
    simp [Ideal.ofBits, Ideal.ieee]
    rw [← EReal.coe_mul]
    norm_num
  rw [refS_apply, e8]
  have e : ∀ d : Fin 64, (Q (ix4 b n (hOf j g) d) * K (ix4 b x (hOf j g) d) : EReal)
      = ((k b x (hOf j g) d * q b n (hOf j g) d : ℝ) : EReal) := by
    intro d
    rw [hq, hk, EReal.coe_mul, mul_comm]
  rw [Finset.sum_congr rfl fun d _ => e d, coe_sum, ← EReal.coe_mul]
  rfl

/-- The softmax weight of a key among real scores. -/
def wt (σ : Fin 8192 → ℝ) (M : ℝ) (x : Fin 8192) : ℝ := (∑ x', Real.exp (σ x' - M))⁻¹ * Real.exp (σ x - M)

theorem wt_eq (σ : Fin 8192 → ℝ) (M : ℝ) (x : Fin 8192) :
    Ideal.div ((Real.exp (σ x - M) : ℝ) : EReal) (∑ x', ((Real.exp (σ x' - M) : ℝ) : EReal)) = (wt σ M x : EReal) := by
  have hne : (Finset.univ : Finset (Fin 8192)).Nonempty := ⟨0, Finset.mem_univ _⟩
  have hE : 0 < ∑ x', Real.exp (σ x' - M) := Finset.sum_pos (fun x _ => Real.exp_pos _) hne
  rw [coe_sum, div_real _ _ hE.ne', ← EReal.coe_mul]
  rfl

/-- Real values weighted by a softmax are a real number. -/
theorem soft_real (σ : Fin 8192 → ℝ) (M : ℝ) (v : Fin 8192 → ℝ) :
    soft σ M (fun x => (v x : EReal)) = ((∑ x, wt σ M x * v x : ℝ) : EReal) := by
  unfold soft
  rw [← coe_sum]
  exact Finset.sum_congr rfl fun x _ => by rw [wt_eq, EReal.coe_mul]

/-- The weight of the second half head is a real number, of real vectors. -/
theorem lam_real (L : FVec Ideal S4x64 .f32) (hL : ∀ i, IsR (L i)) : IsR (lamW L) := by
  choose l hl using hL
  have ec : Ideal.ofBits .f32 0x3E4CCCCD#32 = ((13421773 / 67108864 : ℝ) : EReal) := by
    simp [Ideal.ofBits, Ideal.ieee]
    rw [← EReal.coe_mul]
    norm_num
  have e : ∀ a b : Fin 4, Ideal.exp (∑ e, L (ix2 a e) * L (ix2 b e)) = ((Real.exp (∑ e : Fin 64, l (ix2 a e) * l (ix2 b e)) : ℝ) : EReal) := by
    intro a b
    have h : ∀ e : Fin 64, (L (ix2 a e) * L (ix2 b e) : EReal) = ((l (ix2 a e) * l (ix2 b e) : ℝ) : EReal) := fun e => by
      rw [hl, hl, EReal.coe_mul]
    rw [Finset.sum_congr rfl fun e _ => h e, coe_sum]
    rfl
  unfold lamW
  rw [e 0 1, e 2 3, ec, ← EReal.coe_sub, ← EReal.coe_add]
  exact isR_coe _

/-- So the reference is the attention of those real scores, shifted by the largest. -/
theorem refOut_attn (X : FVec Ideal S8x8192x4x128 .f32) (L : FVec Ideal S4x64 .f32)
    (hq : ∀ b n h d, Q (ix4 b n h d) = (q b n h d : EReal)) (hk : ∀ b x h d, K (ix4 b x h d) = (k b x h d : EReal))
    (hX : ∀ i, IsR (X i)) (hL : ∀ i, IsR (L i)) :
    ∃ M : Fin 8 → Fin 8192 → Fin 8 → ℝ, ∀ b n j d, refOut Q K X L (ix4 b n j d) = attn q k X L M b n j d := by
  have hS : ∀ i, IsR (refS Q K i) := by
    intro i
    obtain ⟨b, j, g, n, x, rfl⟩ : ∃ (b : Fin 8) (j : Fin 4) (g : Fin 2) (n x : Fin 8192), i = ix5 b j g n x :=
      ⟨i 0, i 1, i 2, i 3, i 4, eq_ix5 i⟩
    exact ⟨_, refS_real hq hk b j g n x⟩
  have hM : ∀ (b : Fin 8) (n : Fin 8192) (j : Fin 4) (g : Fin 2), ∃ r : ℝ, refM (refS Q K) (ix4 b j g n) = (r : EReal) :=
    fun b n j g => refM_real (refS Q K) hS b j g n
  choose M hM using hM
  have hh : ∀ (b : Fin 8) (n : Fin 8192) (j : Fin 4) (g : Fin 2),
      M b n ⟨(hOf j g).val / 2, by omega⟩ ⟨(hOf j g).val % 2, by omega⟩ = M b n j g := fun b n j g => by
    congr 1
    · congr 1
      first | (unfold hOf; omega) | (unfold hOf; dsimp only; omega) | exact Fin.ext (by unfold hOf; dsimp only; omega)
    · first | (unfold hOf; omega) | (unfold hOf; dsimp only; omega) | exact Fin.ext (by unfold hOf; dsimp only; omega)
  refine ⟨fun b n h => M b n ⟨h.val / 2, by omega⟩ ⟨h.val % 2, by omega⟩, fun b n j d => ?_⟩
  have hP : ∀ (g : Fin 2) (x : Fin 8192), refP (refE (refS Q K)) (ix5 b j g n x) = (wt (scoreR q k b n (hOf j g)) (M b n j g) x : EReal) := by
    intro g x
    have hE : ∀ x, refE (refS Q K) (ix5 b j g n x) = ((Real.exp (scoreR q k b n (hOf j g) x - M b n j g) : ℝ) : EReal) := by
      intro x
      rw [refE_apply, hM, refS_real hq hk, ← EReal.coe_sub]
      rfl
    rw [refP_apply, hE, Finset.sum_congr rfl fun x' _ => hE x']
    exact wt_eq _ _ x
  obtain ⟨w, hw⟩ := lam_real L hL
  have hw' : refL L ix0 = (w : EReal) := (refL_apply L).trans hw
  choose v hv using hX
  have hO : ∀ e : Fin 128, refO X (refD (refP (refE (refS Q K))) (refL L)) (ix4 b n j e)
      = soft (scoreR q k b n (hOf j 0)) (M b n j 0) (fun x => X (ix4 b x j e))
        - lamW L * soft (scoreR q k b n (hOf j 1)) (M b n j 1) (fun x => X (ix4 b x j e)) := by
    intro e
    have ht : ∀ x : Fin 8192, (X (ix4 b x j e) * refD (refP (refE (refS Q K))) (refL L) (ix4 b j n x) : EReal)
        = ((wt (scoreR q k b n (hOf j 0)) (M b n j 0) x * v (ix4 b x j e) - w * (wt (scoreR q k b n (hOf j 1)) (M b n j 1) x * v (ix4 b x j e)) : ℝ) : EReal) := by
      intro x
      rw [refD_apply, hP, hP, hw', hv, ← EReal.coe_mul, ← EReal.coe_sub, ← EReal.coe_mul]
      congr 1
      ring
    have hx : (fun x : Fin 8192 => (X (ix4 b x j e) : EReal)) = fun x => ((v (ix4 b x j e) : ℝ) : EReal) := funext fun x => hv _
    rw [refO_apply, Finset.sum_congr rfl fun x _ => ht x, coe_sum, hx, soft_real, soft_real, hw, ← EReal.coe_mul, ← EReal.coe_sub]
    congr 1
    rw [Finset.sum_sub_distrib, Finset.mul_sum]
  unfold refOut attn
  rw [refN_apply]
  simp only [hO, hh]
  rfl

end Cert.DiffReferenceIdeal.Diff

namespace Cert.DiffProof

open Idealize.ShloMosaic Idealize.ShloMosaic.TcCoe Idealize.SL.Sem
open Cert.AxMath
open Cert.DiffIdeal.Diff (argQ argK argV argL)

/-- The kernel's result is the reference's function of the same arguments, of finite arguments. -/
theorem kernel_eq (m : (ℓ : Loc Cert.DiffIdeal.nD Cert.DiffIdeal.τ Cert.DiffIdeal.sig) → Buf (Elt Ideal) ℓ) (c : Dev Cert.DiffIdeal.nD)
    (hq : ∀ i, IsR (argQ m c i)) (hk : ∀ i, IsR (argK m c i)) (hv : ∀ i, IsR (argV m c i)) (hl : ∀ i, IsR (argL m c i)) :
    Cert.DiffIdeal.Diff.tailOf ((Cert.DiffIdeal.Diff.dats m 0 c).arrAt 5 Cert.DiffIdeal.cfg0.N)
      = Cert.DiffReferenceIdeal.Diff.refOut (argQ m c) (argK m c) (argV m c) (argL m c) := by
  choose q hq using hq
  choose k hk using hk
  have hq' : ∀ b n h d, argQ m c (ix4 b n h d) = (q (ix4 b n h d) : EReal) := fun b n h d => hq _
  have hk' : ∀ b x h d, argK m c (ix4 b x h d) = (k (ix4 b x h d) : EReal) := fun b x h d => hk _
  obtain ⟨M, hM⟩ := Cert.DiffReferenceIdeal.Diff.refOut_attn (q := fun b n h d => q (ix4 b n h d)) (k := fun b x h d => k (ix4 b x h d))
    (argV m c) (argL m c) hq' hk' hv hl
  rw [Cert.DiffIdeal.Diff.final m c (q := fun b n h d => q (ix4 b n h d)) (k := fun b x h d => k (ix4 b x h d)) hq' hk' M]
  funext i
  obtain ⟨b, n, j, d, rfl⟩ : ∃ (b : Fin 8) (n : Fin 8192) (j : Fin 4) (d : Fin 128), i = ix4 b n j d := ⟨i 0, i 1, i 2, i 3, eq_ix4 i⟩
  rw [Cert.DiffIdeal.Diff.tailOf_apply, Cert.DiffIdeal.Diff.outArr_apply]
  exact (hM b n j d).symm

/-- Kernel and reference agree on finite arguments. -/
theorem algebraic [h : Cert.Pre_finite_diff.Facts] : Cert.algebraic_DiffIdeal_DiffReferenceIdeal_pre_finite_diff := by
  intro m g m' g' hpre hm
  refine ⟨fun c => Cert.DiffReferenceIdeal.Diff.refOut (argQ m c) (argK m c) (argV m c) (argL m c), ?_, ?_⟩
  · refine (θ_run _ _ _).mono (fun r h c => ?_) (θ_run_and (Cert.DiffIdeal.Diff.run_main m g) (Cert.DiffIdeal.Diff.frame m g))
    obtain ⟨hq, hk, hv, hl⟩ := Cert.Pre_finite_diff.Diff.real _ _ _ _ (hpre c)
    refine ⟨?_, h.2.1 c⟩
    refine ((h.1.1 c).2 Cert.DiffIdeal.main_v22 (Pipeline.mem_restRefs_of Cert.DiffIdeal.main_v22 (by decide) (by decide))).trans ?_
    exact (Cert.DiffIdeal.Diff.tail_eq m c).trans (kernel_eq m c hq hk hv hl)
  · refine (θ_run _ _ _).mono (fun r h c => ?_) (Cert.DiffReferenceIdeal.Value.run m' g')
    refine ⟨(h c).1.trans ?_, (h c).2⟩
    obtain ⟨h0, h1, h2, h3⟩ := hm c
    unfold Cert.DiffReferenceIdeal.Value.res_main_v52
    rw [h0, h1, h2, h3]
    rfl

end Cert.DiffProof

end
-- ==== Proof.lean ====
/-
  The claims of this certificate, assembled. Three programs are claimed, each with its idealization and a reference: the
  attention with axial positions (`Kernel`), the output projection with the feed-forward network (`Post`) and the
  differential attention (`Diff`).

  Each attention's run is proved once, for its idealization over any float values (`Proof/Run.lean`,
  `Proof/DiffRun.lean`); the printed kernel has the same text, so its frame is that run at the bit patterns. The frames
  of the projection and the feed-forward network are generated. The value claims are in `Proof/AxValue.lean` (the
  attention, of finite queries and keys), `Proof/PostValue.lean` and `Proof/DiffValue.lean` (the differential attention,
  of finite arguments).
-/
module

public import proofs.«01_k».proof.Defs
public import proofs.«01_k».proof.Proof.Run
public import proofs.«01_k».proof.Proof.Same
public import proofs.«01_k».proof.Proof.PostValue
public import proofs.«01_k».proof.Proof.AxValue
public import proofs.«01_k».proof.Proof.DiffRun
public import proofs.«01_k».proof.Proof.DiffSame
public import proofs.«01_k».proof.Proof.DiffValue
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Post
public import proofs.«01_k».proof.Proof.Gen.Post.Frame
public import proofs.«01_k».proof.Proof.Gen.PostIdeal
public import proofs.«01_k».proof.Proof.Gen.PostIdeal.Frame
public import proofs.«01_k».proof.Proof.Gen.PostReferenceIdeal
public import proofs.«01_k».proof.Proof.Gen.PostReferenceIdeal.Run
public import proofs.«01_k».proof.Proof.Gen.Diff
public import proofs.«01_k».proof.Proof.Gen.DiffIdeal
public import proofs.«01_k».proof.Proof.Gen.DiffReferenceIdeal
public import proofs.«01_k».proof.Proof.Gen.DiffReferenceIdeal.Run
public import Idealize.ShloMosaic.Lib.Quiescent

@[expose] public section

set_option maxRecDepth 16384

noncomputable section

namespace Cert.Proof

open Idealize.ShloMosaic Idealize.SL.Sem

/-- The idealized attention kernel runs, leaves its arguments unchanged and every counter at zero. -/
theorem frame_kernelIdeal : Cert.quiescent_KernelIdeal := fun m ρ _ => Cert.KernelIdeal.Axial.frame (F := Ideal) m ρ

/-- The attention's reference runs likewise: it declares no counter. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both likewise where the precondition is stated, which the runs do not need. -/
theorem frame_kernelIdeal_pre [h : Cert.Pre_finite.Facts] : Cert.quiescent_KernelIdeal_pre_finite := fun m ρ _ => Cert.KernelIdeal.Axial.frame (F := Ideal) m ρ
theorem frame_referenceIdeal_pre [h : Cert.Pre_finite.Facts] : Cert.quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference of the projection and the feed-forward network runs likewise. -/
theorem frame_postReferenceIdeal : Cert.quiescent_PostReferenceIdeal := fun m ρ _ =>
  (θ_run Cert.PostReferenceIdeal.defs _ _).mono (fun r h => ⟨fun c => (h c).2, sem_eq_zero_of_no_sems (by decide) r.2⟩)
    (Cert.PostReferenceIdeal.Value.run (F := Ideal) m ρ)

/-- The idealized differential attention runs, leaves its arguments unchanged and every counter at zero. -/
theorem frame_diffIdeal : Cert.quiescent_DiffIdeal := fun m ρ _ => Cert.DiffIdeal.Diff.frame (F := Ideal) m ρ

/-- The differential attention's reference runs likewise. -/
theorem frame_diffReferenceIdeal : Cert.quiescent_DiffReferenceIdeal := fun m ρ _ =>
  (θ_run Cert.DiffReferenceIdeal.defs _ _).mono (fun r h => ⟨fun c => (h c).2, sem_eq_zero_of_no_sems (by decide) r.2⟩)
    (Cert.DiffReferenceIdeal.Value.run (F := Ideal) m ρ)

/-- Both likewise where the precondition is stated. -/
theorem frame_diffIdeal_pre [h : Cert.Pre_finite_diff.Facts] : Cert.quiescent_DiffIdeal_pre_finite_diff := fun m ρ _ => Cert.DiffIdeal.Diff.frame (F := Ideal) m ρ
theorem frame_diffReferenceIdeal_pre [h : Cert.Pre_finite_diff.Facts] : Cert.quiescent_DiffReferenceIdeal_pre_finite_diff := fun m ρ _ =>
  (θ_run Cert.DiffReferenceIdeal.defs _ _).mono (fun r h => ⟨fun c => (h c).2, sem_eq_zero_of_no_sems (by decide) r.2⟩)
    (Cert.DiffReferenceIdeal.Value.run (F := Ideal) m ρ)

/-- Every claim of the certificate. -/
theorem claim : Cert.Claim :=
  ⟨Cert.Kernel.Gen.facts, Cert.KernelIdeal.Gen.facts, Cert.ReferenceIdeal.Gen.facts, Cert.Post.Gen.facts, Cert.PostIdeal.Gen.facts,
    Cert.PostReferenceIdeal.Gen.facts, Cert.Diff.Gen.facts, Cert.DiffIdeal.Gen.facts, Cert.DiffReferenceIdeal.Gen.facts,
    Cert.Pre_finite.Axial.facts, Cert.Pre_finite_diff.Diff.facts,
    Cert.Same.frame_kernel, frame_kernelIdeal, frame_kernelIdeal_pre (h := Cert.Pre_finite.Axial.facts), frame_referenceIdeal,
    frame_referenceIdeal_pre (h := Cert.Pre_finite.Axial.facts),
    fun m ρ _ => Cert.Post.Gen.frame m ρ, fun m ρ _ => Cert.PostIdeal.Gen.frame m ρ, frame_postReferenceIdeal,
    Cert.DiffSame.frame_kernel, frame_diffIdeal, frame_diffIdeal_pre (h := Cert.Pre_finite_diff.Diff.facts), frame_diffReferenceIdeal,
    frame_diffReferenceIdeal_pre (h := Cert.Pre_finite_diff.Diff.facts),
    trivial, Cert.AxProof.algebraic (h := Cert.Pre_finite.Axial.facts), trivial, Cert.PostProof.algebraic,
    trivial, Cert.DiffProof.algebraic (h := Cert.Pre_finite_diff.Diff.facts)⟩

end Cert.Proof

end
